-- ==== Defs.lean ====
def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Ulru (m : (ℓ : Loc Cert.Ulru.nD Cert.Ulru.τ Cert.Ulru.sig) → Buf (Elt Bits) ℓ) : Prop :=
  True

def Pre_UlruIdeal (m : (ℓ : Loc Cert.UlruIdeal.nD Cert.UlruIdeal.τ Cert.UlruIdeal.sig) → Buf (Elt Ideal) ℓ) : Prop :=
  True

def Pre_UlruRefIdeal (m : (ℓ : Loc Cert.UlruRefIdeal.nD Cert.UlruRefIdeal.τ Cert.UlruRefIdeal.sig) → Buf (Elt Ideal) ℓ) : Prop :=
  True

def Pre_Gconv (m : (ℓ : Loc Cert.Gconv.nD Cert.Gconv.τ Cert.Gconv.sig) → Buf (Elt Bits) ℓ) : Prop :=
  True

def Pre_GconvIdeal (m : (ℓ : Loc Cert.GconvIdeal.nD Cert.GconvIdeal.τ Cert.GconvIdeal.sig) → Buf (Elt Ideal) ℓ) : Prop :=
  True

def Pre_GconvRefIdeal (m : (ℓ : Loc Cert.GconvRefIdeal.nD Cert.GconvRefIdeal.τ Cert.GconvRefIdeal.sig) → Buf (Elt Ideal) ℓ) : Prop :=
  True

def Pre_Gmla (m : (ℓ : Loc Cert.Gmla.nD Cert.Gmla.τ Cert.Gmla.sig) → Buf (Elt Bits) ℓ) : Prop :=
  True

def Pre_GmlaIdeal (m : (ℓ : Loc Cert.GmlaIdeal.nD Cert.GmlaIdeal.τ Cert.GmlaIdeal.sig) → Buf (Elt Ideal) ℓ) : Prop :=
  True

def Pre_GmlaRefIdeal (m : (ℓ : Loc Cert.GmlaRefIdeal.nD Cert.GmlaRefIdeal.τ Cert.GmlaRefIdeal.sig) → Buf (Elt Ideal) ℓ) : Prop :=
  True

def Pre_Glru (m : (ℓ : Loc Cert.Glru.nD Cert.Glru.τ Cert.Glru.sig) → Buf (Elt Bits) ℓ) : Prop :=
  True

def Pre_GlruIdeal (m : (ℓ : Loc Cert.GlruIdeal.nD Cert.GlruIdeal.τ Cert.GlruIdeal.sig) → Buf (Elt Ideal) ℓ) : Prop :=
  True

def Pre_GlruRefIdeal (m : (ℓ : Loc Cert.GlruRefIdeal.nD Cert.GlruRefIdeal.τ Cert.GlruRefIdeal.sig) → Buf (Elt Ideal) ℓ) : Prop :=
  True

def Pre_Gm (m : (ℓ : Loc Cert.Gm.nD Cert.Gm.τ Cert.Gm.sig) → Buf (Elt Bits) ℓ) : Prop :=
  True

def Pre_GmIdeal (m : (ℓ : Loc Cert.GmIdeal.nD Cert.GmIdeal.τ Cert.GmIdeal.sig) → Buf (Elt Ideal) ℓ) : Prop :=
  True

def Pre_GmRefIdeal (m : (ℓ : Loc Cert.GmRefIdeal.nD Cert.GmRefIdeal.τ Cert.GmRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_Prenorm (m : (ℓ : Loc Cert.Prenorm.nD Cert.Prenorm.τ Cert.Prenorm.sig) → Buf (Elt Bits) ℓ) : Prop :=
  True

def Pre_PrenormIdeal (m : (ℓ : Loc Cert.PrenormIdeal.nD Cert.PrenormIdeal.τ Cert.PrenormIdeal.sig) → Buf (Elt Ideal) ℓ) : Prop :=
  True

def Pre_PrenormRefIdeal (m : (ℓ : Loc Cert.PrenormRefIdeal.nD Cert.PrenormRefIdeal.τ Cert.PrenormRefIdeal.sig) → Buf (Elt Ideal) ℓ) : Prop :=
  True

def Pre_Cq (m : (ℓ : Loc Cert.Cq.nD Cert.Cq.τ Cert.Cq.sig) → Buf (Elt Bits) ℓ) : Prop :=
  True

def Pre_CqIdeal (m : (ℓ : Loc Cert.CqIdeal.nD Cert.CqIdeal.τ Cert.CqIdeal.sig) → Buf (Elt Ideal) ℓ) : Prop :=
  True

def Pre_CqRefIdeal (m : (ℓ : Loc Cert.CqRefIdeal.nD Cert.CqRefIdeal.τ Cert.CqRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Q (m : (ℓ : Loc Cert.Q.nD Cert.Q.τ Cert.Q.sig) → Buf (Elt Bits) ℓ) : Prop :=
  True

def Pre_QIdeal (m : (ℓ : Loc Cert.QIdeal.nD Cert.QIdeal.τ Cert.QIdeal.sig) → Buf (Elt Ideal) ℓ) : Prop :=
  True

def Pre_QRefIdeal (m : (ℓ : Loc Cert.QRefIdeal.nD Cert.QRefIdeal.τ Cert.QRefIdeal.sig) → Buf (Elt Ideal) ℓ) : Prop :=
  True

def Pre_Ckvr (m : (ℓ : Loc Cert.Ckvr.nD Cert.Ckvr.τ Cert.Ckvr.sig) → Buf (Elt Bits) ℓ) : Prop :=
  True

def Pre_CkvrIdeal (m : (ℓ : Loc Cert.CkvrIdeal.nD Cert.CkvrIdeal.τ Cert.CkvrIdeal.sig) → Buf (Elt Ideal) ℓ) : Prop :=
  True

def Pre_CkvrRefIdeal (m : (ℓ : Loc Cert.CkvrRefIdeal.nD Cert.CkvrRefIdeal.τ Cert.CkvrRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Flash (m : (ℓ : Loc Cert.Flash.nD Cert.Flash.τ Cert.Flash.sig) → Buf (Elt Bits) ℓ) : Prop :=
  True

def Pre_FlashIdeal (m : (ℓ : Loc Cert.FlashIdeal.nD Cert.FlashIdeal.τ Cert.FlashIdeal.sig) → Buf (Elt Ideal) ℓ) : Prop :=
  True

def Pre_FlashIdeal_finite_query_and_key [hPre_finite_query_and_key : Cert.Pre_finite_query_and_key.Facts] (m : (ℓ : Loc Cert.FlashIdeal.nD Cert.FlashIdeal.τ Cert.FlashIdeal.sig) → Buf (Elt Ideal) ℓ) : Prop :=
  ∀ c : Dev Cert.FlashIdeal.nD,
    (Cert.Pre_finite_query_and_key.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3))) = (fun _ => 1#1)

def Pre_FlashRefIdeal (m : (ℓ : Loc Cert.FlashRefIdeal.nD Cert.FlashRefIdeal.τ Cert.FlashRefIdeal.sig) → Buf (Elt Ideal) ℓ) : Prop :=
  True

def Pre_FlashRefIdeal_finite_query_and_key [hPre_finite_query_and_key : Cert.Pre_finite_query_and_key.Facts] (m : (ℓ : Loc Cert.FlashRefIdeal.nD Cert.FlashRefIdeal.τ Cert.FlashRefIdeal.sig) → Buf (Elt Ideal) ℓ) : Prop :=
  ∀ c : Dev Cert.FlashRefIdeal.nD,
    (Cert.Pre_finite_query_and_key.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2)) (m ((c.tc : Thread Cert.FlashRefIdeal.nD Cert.FlashRefIdeal.τ).loc Cert.FlashRefIdeal.main_arg3))) = (fun _ => 1#1)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1))
      ∧ r.2.sem = fun _ => 0)

def quiescent_Ulru [hUlru : Cert.Ulru.Facts] : Prop :=
  ∀ (m : (ℓ : Loc Cert.Ulru.nD Cert.Ulru.τ Cert.Ulru.sig) → Buf (Elt Bits) ℓ) (g : Dev Cert.Ulru.nD → PrngReg), Pre_Ulru m →
    θ_run (Cert.Ulru.defs (F := Bits)) (onTc (τ := Cert.Ulru.τ) (Cert.Ulru.main (F := Bits))) ⟨m, fun _ => 0, g⟩ (fun r => (∀ c : Dev Cert.Ulru.nD,
      r.2.mem ((c.tc : Thread Cert.Ulru.nD Cert.Ulru.τ).loc Cert.Ulru.main_arg0) = m ((c.tc : Thread Cert.Ulru.nD Cert.Ulru.τ).loc Cert.Ulru.main_arg0)
      ∧ r.2.mem ((c.tc : Thread Cert.Ulru.nD Cert.Ulru.τ).loc Cert.Ulru.main_arg1) = m ((c.tc : Thread Cert.Ulru.nD Cert.Ulru.τ).loc Cert.Ulru.main_arg1))
      ∧ r.2.sem = fun _ => 0)

def quiescent_UlruIdeal [hUlruIdeal : Cert.UlruIdeal.Facts] : Prop :=
  ∀ (m : (ℓ : Loc Cert.UlruIdeal.nD Cert.UlruIdeal.τ Cert.UlruIdeal.sig) → Buf (Elt Ideal) ℓ) (g : Dev Cert.UlruIdeal.nD → PrngReg), Pre_UlruIdeal m →
    θ_run (Cert.UlruIdeal.defs (F := Ideal)) (onTc (τ := Cert.UlruIdeal.τ) (Cert.UlruIdeal.main (F := Ideal))) ⟨m, fun _ => 0, g⟩ (fun r => (∀ c : Dev Cert.UlruIdeal.nD,
      r.2.mem ((c.tc : Thread Cert.UlruIdeal.nD Cert.UlruIdeal.τ).loc Cert.UlruIdeal.main_arg0) = m ((c.tc : Thread Cert.UlruIdeal.nD Cert.UlruIdeal.τ).loc Cert.UlruIdeal.main_arg0)
      ∧ r.2.mem ((c.tc : Thread Cert.UlruIdeal.nD Cert.UlruIdeal.τ).loc Cert.UlruIdeal.main_arg1) = m ((c.tc : Thread Cert.UlruIdeal.nD Cert.UlruIdeal.τ).loc Cert.UlruIdeal.main_arg1))
      ∧ r.2.sem = fun _ => 0)

def quiescent_UlruRefIdeal [hUlruRefIdeal : Cert.UlruRefIdeal.Facts] : Prop :=
  ∀ (m : (ℓ : Loc Cert.UlruRefIdeal.nD Cert.UlruRefIdeal.τ Cert.UlruRefIdeal.sig) → Buf (Elt Ideal) ℓ) (g : Dev Cert.UlruRefIdeal.nD → PrngReg), Pre_UlruRefIdeal m →
    θ_run (Cert.UlruRefIdeal.defs (F := Ideal)) (onTc (τ := Cert.UlruRefIdeal.τ) (Cert.UlruRefIdeal.main (F := Ideal))) ⟨m, fun _ => 0, g⟩ (fun r => (∀ c : Dev Cert.UlruRefIdeal.nD,
      r.2.mem ((c.tc : Thread Cert.UlruRefIdeal.nD Cert.UlruRefIdeal.τ).loc Cert.UlruRefIdeal.main_arg0) = m ((c.tc : Thread Cert.UlruRefIdeal.nD Cert.UlruRefIdeal.τ).loc Cert.UlruRefIdeal.main_arg0)
      ∧ r.2.mem ((c.tc : Thread Cert.UlruRefIdeal.nD Cert.UlruRefIdeal.τ).loc Cert.UlruRefIdeal.main_arg1) = m ((c.tc : Thread Cert.UlruRefIdeal.nD Cert.UlruRefIdeal.τ).loc Cert.UlruRefIdeal.main_arg1))
      ∧ r.2.sem = fun _ => 0)

def quiescent_Gconv [hGconv : Cert.Gconv.Facts] : Prop :=
  ∀ (m : (ℓ : Loc Cert.Gconv.nD Cert.Gconv.τ Cert.Gconv.sig) → Buf (Elt Bits) ℓ) (g : Dev Cert.Gconv.nD → PrngReg), Pre_Gconv m →
    θ_run (Cert.Gconv.defs (F := Bits)) (onTc (τ := Cert.Gconv.τ) (Cert.Gconv.main (F := Bits))) ⟨m, fun _ => 0, g⟩ (fun r => (∀ c : Dev Cert.Gconv.nD,
      r.2.mem ((c.tc : Thread Cert.Gconv.nD Cert.Gconv.τ).loc Cert.Gconv.main_arg0) = m ((c.tc : Thread Cert.Gconv.nD Cert.Gconv.τ).loc Cert.Gconv.main_arg0)
      ∧ r.2.mem ((c.tc : Thread Cert.Gconv.nD Cert.Gconv.τ).loc Cert.Gconv.main_arg1) = m ((c.tc : Thread Cert.Gconv.nD Cert.Gconv.τ).loc Cert.Gconv.main_arg1))
      ∧ r.2.sem = fun _ => 0)

def quiescent_GconvIdeal [hGconvIdeal : Cert.GconvIdeal.Facts] : Prop :=
  ∀ (m : (ℓ : Loc Cert.GconvIdeal.nD Cert.GconvIdeal.τ Cert.GconvIdeal.sig) → Buf (Elt Ideal) ℓ) (g : Dev Cert.GconvIdeal.nD → PrngReg), Pre_GconvIdeal m →
    θ_run (Cert.GconvIdeal.defs (F := Ideal)) (onTc (τ := Cert.GconvIdeal.τ) (Cert.GconvIdeal.main (F := Ideal))) ⟨m, fun _ => 0, g⟩ (fun r => (∀ c : Dev Cert.GconvIdeal.nD,
      r.2.mem ((c.tc : Thread Cert.GconvIdeal.nD Cert.GconvIdeal.τ).loc Cert.GconvIdeal.main_arg0) = m ((c.tc : Thread Cert.GconvIdeal.nD Cert.GconvIdeal.τ).loc Cert.GconvIdeal.main_arg0)
      ∧ r.2.mem ((c.tc : Thread Cert.GconvIdeal.nD Cert.GconvIdeal.τ).loc Cert.GconvIdeal.main_arg1) = m ((c.tc : Thread Cert.GconvIdeal.nD Cert.GconvIdeal.τ).loc Cert.GconvIdeal.main_arg1))
      ∧ r.2.sem = fun _ => 0)

def quiescent_GconvRefIdeal [hGconvRefIdeal : Cert.GconvRefIdeal.Facts] : Prop :=
  ∀ (m : (ℓ : Loc Cert.GconvRefIdeal.nD Cert.GconvRefIdeal.τ Cert.GconvRefIdeal.sig) → Buf (Elt Ideal) ℓ) (g : Dev Cert.GconvRefIdeal.nD → PrngReg), Pre_GconvRefIdeal m →
    θ_run (Cert.GconvRefIdeal.defs (F := Ideal)) (onTc (τ := Cert.GconvRefIdeal.τ) (Cert.GconvRefIdeal.main (F := Ideal))) ⟨m, fun _ => 0, g⟩ (fun r => (∀ c : Dev Cert.GconvRefIdeal.nD,
      r.2.mem ((c.tc : Thread Cert.GconvRefIdeal.nD Cert.GconvRefIdeal.τ).loc Cert.GconvRefIdeal.main_arg0) = m ((c.tc : Thread Cert.GconvRefIdeal.nD Cert.GconvRefIdeal.τ).loc Cert.GconvRefIdeal.main_arg0)
      ∧ r.2.mem ((c.tc : Thread Cert.GconvRefIdeal.nD Cert.GconvRefIdeal.τ).loc Cert.GconvRefIdeal.main_arg1) = m ((c.tc : Thread Cert.GconvRefIdeal.nD Cert.GconvRefIdeal.τ).loc Cert.GconvRefIdeal.main_arg1))
      ∧ r.2.sem = fun _ => 0)

def quiescent_Gmla [hGmla : Cert.Gmla.Facts] : Prop :=
  ∀ (m : (ℓ : Loc Cert.Gmla.nD Cert.Gmla.τ Cert.Gmla.sig) → Buf (Elt Bits) ℓ) (g : Dev Cert.Gmla.nD → PrngReg), Pre_Gmla m →
    θ_run (Cert.Gmla.defs (F := Bits)) (onTc (τ := Cert.Gmla.τ) (Cert.Gmla.main (F := Bits))) ⟨m, fun _ => 0, g⟩ (fun r => (∀ c : Dev Cert.Gmla.nD,
      r.2.mem ((c.tc : Thread Cert.Gmla.nD Cert.Gmla.τ).loc Cert.Gmla.main_arg0) = m ((c.tc : Thread Cert.Gmla.nD Cert.Gmla.τ).loc Cert.Gmla.main_arg0)
      ∧ r.2.mem ((c.tc : Thread Cert.Gmla.nD Cert.Gmla.τ).loc Cert.Gmla.main_arg1) = m ((c.tc : Thread Cert.Gmla.nD Cert.Gmla.τ).loc Cert.Gmla.main_arg1))
      ∧ r.2.sem = fun _ => 0)

def quiescent_GmlaIdeal [hGmlaIdeal : Cert.GmlaIdeal.Facts] : Prop :=
  ∀ (m : (ℓ : Loc Cert.GmlaIdeal.nD Cert.GmlaIdeal.τ Cert.GmlaIdeal.sig) → Buf (Elt Ideal) ℓ) (g : Dev Cert.GmlaIdeal.nD → PrngReg), Pre_GmlaIdeal m →
    θ_run (Cert.GmlaIdeal.defs (F := Ideal)) (onTc (τ := Cert.GmlaIdeal.τ) (Cert.GmlaIdeal.main (F := Ideal))) ⟨m, fun _ => 0, g⟩ (fun r => (∀ c : Dev Cert.GmlaIdeal.nD,
      r.2.mem ((c.tc : Thread Cert.GmlaIdeal.nD Cert.GmlaIdeal.τ).loc Cert.GmlaIdeal.main_arg0) = m ((c.tc : Thread Cert.GmlaIdeal.nD Cert.GmlaIdeal.τ).loc Cert.GmlaIdeal.main_arg0)
      ∧ r.2.mem ((c.tc : Thread Cert.GmlaIdeal.nD Cert.GmlaIdeal.τ).loc Cert.GmlaIdeal.main_arg1) = m ((c.tc : Thread Cert.GmlaIdeal.nD Cert.GmlaIdeal.τ).loc Cert.GmlaIdeal.main_arg1))
      ∧ r.2.sem = fun _ => 0)

def quiescent_GmlaRefIdeal [hGmlaRefIdeal : Cert.GmlaRefIdeal.Facts] : Prop :=
  ∀ (m : (ℓ : Loc Cert.GmlaRefIdeal.nD Cert.GmlaRefIdeal.τ Cert.GmlaRefIdeal.sig) → Buf (Elt Ideal) ℓ) (g : Dev Cert.GmlaRefIdeal.nD → PrngReg), Pre_GmlaRefIdeal m →
    θ_run (Cert.GmlaRefIdeal.defs (F := Ideal)) (onTc (τ := Cert.GmlaRefIdeal.τ) (Cert.GmlaRefIdeal.main (F := Ideal))) ⟨m, fun _ => 0, g⟩ (fun r => (∀ c : Dev Cert.GmlaRefIdeal.nD,
      r.2.mem ((c.tc : Thread Cert.GmlaRefIdeal.nD Cert.GmlaRefIdeal.τ).loc Cert.GmlaRefIdeal.main_arg0) = m ((c.tc : Thread Cert.GmlaRefIdeal.nD Cert.GmlaRefIdeal.τ).loc Cert.GmlaRefIdeal.main_arg0)
      ∧ r.2.mem ((c.tc : Thread Cert.GmlaRefIdeal.nD Cert.GmlaRefIdeal.τ).loc Cert.GmlaRefIdeal.main_arg1) = m ((c.tc : Thread Cert.GmlaRefIdeal.nD Cert.GmlaRefIdeal.τ).loc Cert.GmlaRefIdeal.main_arg1))
      ∧ r.2.sem = fun _ => 0)

def quiescent_Glru [hGlru : Cert.Glru.Facts] : Prop :=
  ∀ (m : (ℓ : Loc Cert.Glru.nD Cert.Glru.τ Cert.Glru.sig) → Buf (Elt Bits) ℓ) (g : Dev Cert.Glru.nD → PrngReg), Pre_Glru m →
    θ_run (Cert.Glru.defs (F := Bits)) (onTc (τ := Cert.Glru.τ) (Cert.Glru.main (F := Bits))) ⟨m, fun _ => 0, g⟩ (fun r => (∀ c : Dev Cert.Glru.nD,
      r.2.mem ((c.tc : Thread Cert.Glru.nD Cert.Glru.τ).loc Cert.Glru.main_arg0) = m ((c.tc : Thread Cert.Glru.nD Cert.Glru.τ).loc Cert.Glru.main_arg0)
      ∧ r.2.mem ((c.tc : Thread Cert.Glru.nD Cert.Glru.τ).loc Cert.Glru.main_arg1) = m ((c.tc : Thread Cert.Glru.nD Cert.Glru.τ).loc Cert.Glru.main_arg1))
      ∧ r.2.sem = fun _ => 0)

def quiescent_GlruIdeal [hGlruIdeal : Cert.GlruIdeal.Facts] : Prop :=
  ∀ (m : (ℓ : Loc Cert.GlruIdeal.nD Cert.GlruIdeal.τ Cert.GlruIdeal.sig) → Buf (Elt Ideal) ℓ) (g : Dev Cert.GlruIdeal.nD → PrngReg), Pre_GlruIdeal m →
    θ_run (Cert.GlruIdeal.defs (F := Ideal)) (onTc (τ := Cert.GlruIdeal.τ) (Cert.GlruIdeal.main (F := Ideal))) ⟨m, fun _ => 0, g⟩ (fun r => (∀ c : Dev Cert.GlruIdeal.nD,
      r.2.mem ((c.tc : Thread Cert.GlruIdeal.nD Cert.GlruIdeal.τ).loc Cert.GlruIdeal.main_arg0) = m ((c.tc : Thread Cert.GlruIdeal.nD Cert.GlruIdeal.τ).loc Cert.GlruIdeal.main_arg0)
      ∧ r.2.mem ((c.tc : Thread Cert.GlruIdeal.nD Cert.GlruIdeal.τ).loc Cert.GlruIdeal.main_arg1) = m ((c.tc : Thread Cert.GlruIdeal.nD Cert.GlruIdeal.τ).loc Cert.GlruIdeal.main_arg1))
      ∧ r.2.sem = fun _ => 0)

def quiescent_GlruRefIdeal [hGlruRefIdeal : Cert.GlruRefIdeal.Facts] : Prop :=
  ∀ (m : (ℓ : Loc Cert.GlruRefIdeal.nD Cert.GlruRefIdeal.τ Cert.GlruRefIdeal.sig) → Buf (Elt Ideal) ℓ) (g : Dev Cert.GlruRefIdeal.nD → PrngReg), Pre_GlruRefIdeal m →
    θ_run (Cert.GlruRefIdeal.defs (F := Ideal)) (onTc (τ := Cert.GlruRefIdeal.τ) (Cert.GlruRefIdeal.main (F := Ideal))) ⟨m, fun _ => 0, g⟩ (fun r => (∀ c : Dev Cert.GlruRefIdeal.nD,
      r.2.mem ((c.tc : Thread Cert.GlruRefIdeal.nD Cert.GlruRefIdeal.τ).loc Cert.GlruRefIdeal.main_arg0) = m ((c.tc : Thread Cert.GlruRefIdeal.nD Cert.GlruRefIdeal.τ).loc Cert.GlruRefIdeal.main_arg0)
      ∧ r.2.mem ((c.tc : Thread Cert.GlruRefIdeal.nD Cert.GlruRefIdeal.τ).loc Cert.GlruRefIdeal.main_arg1) = m ((c.tc : Thread Cert.GlruRefIdeal.nD Cert.GlruRefIdeal.τ).loc Cert.GlruRefIdeal.main_arg1))
      ∧ r.2.sem = fun _ => 0)

def quiescent_Gm [hGm : Cert.Gm.Facts] : Prop :=
  ∀ (m : (ℓ : Loc Cert.Gm.nD Cert.Gm.τ Cert.Gm.sig) → Buf (Elt Bits) ℓ) (g : Dev Cert.Gm.nD → PrngReg), Pre_Gm m →
    θ_run (Cert.Gm.defs (F := Bits)) (onTc (τ := Cert.Gm.τ) (Cert.Gm.main (F := Bits))) ⟨m, fun _ => 0, g⟩ (fun r => (∀ c : Dev Cert.Gm.nD,
      r.2.mem ((c.tc : Thread Cert.Gm.nD Cert.Gm.τ).loc Cert.Gm.main_arg0) = m ((c.tc : Thread Cert.Gm.nD Cert.Gm.τ).loc Cert.Gm.main_arg0)
      ∧ r.2.mem ((c.tc : Thread Cert.Gm.nD Cert.Gm.τ).loc Cert.Gm.main_arg1) = m ((c.tc : Thread Cert.Gm.nD Cert.Gm.τ).loc Cert.Gm.main_arg1))
      ∧ r.2.sem = fun _ => 0)

def quiescent_GmIdeal [hGmIdeal : Cert.GmIdeal.Facts] : Prop :=
  ∀ (m : (ℓ : Loc Cert.GmIdeal.nD Cert.GmIdeal.τ Cert.GmIdeal.sig) → Buf (Elt Ideal) ℓ) (g : Dev Cert.GmIdeal.nD → PrngReg), Pre_GmIdeal m →
    θ_run (Cert.GmIdeal.defs (F := Ideal)) (onTc (τ := Cert.GmIdeal.τ) (Cert.GmIdeal.main (F := Ideal))) ⟨m, fun _ => 0, g⟩ (fun r => (∀ c : Dev Cert.GmIdeal.nD,
      r.2.mem ((c.tc : Thread Cert.GmIdeal.nD Cert.GmIdeal.τ).loc Cert.GmIdeal.main_arg0) = m ((c.tc : Thread Cert.GmIdeal.nD Cert.GmIdeal.τ).loc Cert.GmIdeal.main_arg0)
      ∧ r.2.mem ((c.tc : Thread Cert.GmIdeal.nD Cert.GmIdeal.τ).loc Cert.GmIdeal.main_arg1) = m ((c.tc : Thread Cert.GmIdeal.nD Cert.GmIdeal.τ).loc Cert.GmIdeal.main_arg1))
      ∧ r.2.sem = fun _ => 0)

def quiescent_GmRefIdeal [hGmRefIdeal : Cert.GmRefIdeal.Facts] : Prop :=
  ∀ (m : (ℓ : Loc Cert.GmRefIdeal.nD Cert.GmRefIdeal.τ Cert.GmRefIdeal.sig) → Buf (Elt Ideal) ℓ) (g : Dev Cert.GmRefIdeal.nD → PrngReg), Pre_GmRefIdeal m →
    θ_run (Cert.GmRefIdeal.defs (F := Ideal)) (onTc (τ := Cert.GmRefIdeal.τ) (Cert.GmRefIdeal.main (F := Ideal))) ⟨m, fun _ => 0, g⟩ (fun r => (∀ c : Dev Cert.GmRefIdeal.nD,
      r.2.mem ((c.tc : Thread Cert.GmRefIdeal.nD Cert.GmRefIdeal.τ).loc Cert.GmRefIdeal.main_arg0) = m ((c.tc : Thread Cert.GmRefIdeal.nD Cert.GmRefIdeal.τ).loc Cert.GmRefIdeal.main_arg0)
      ∧ r.2.mem ((c.tc : Thread Cert.GmRefIdeal.nD Cert.GmRefIdeal.τ).loc Cert.GmRefIdeal.main_arg1) = m ((c.tc : Thread Cert.GmRefIdeal.nD Cert.GmRefIdeal.τ).loc Cert.GmRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3))
      ∧ r.2.sem = fun _ => 0)

def quiescent_Prenorm [hPrenorm : Cert.Prenorm.Facts] : Prop :=
  ∀ (m : (ℓ : Loc Cert.Prenorm.nD Cert.Prenorm.τ Cert.Prenorm.sig) → Buf (Elt Bits) ℓ) (g : Dev Cert.Prenorm.nD → PrngReg), Pre_Prenorm m →
    θ_run (Cert.Prenorm.defs (F := Bits)) (onTc (τ := Cert.Prenorm.τ) (Cert.Prenorm.main (F := Bits))) ⟨m, fun _ => 0, g⟩ (fun r => (∀ c : Dev Cert.Prenorm.nD,
      r.2.mem ((c.tc : Thread Cert.Prenorm.nD Cert.Prenorm.τ).loc Cert.Prenorm.main_arg0) = m ((c.tc : Thread Cert.Prenorm.nD Cert.Prenorm.τ).loc Cert.Prenorm.main_arg0)
      ∧ r.2.mem ((c.tc : Thread Cert.Prenorm.nD Cert.Prenorm.τ).loc Cert.Prenorm.main_arg1) = m ((c.tc : Thread Cert.Prenorm.nD Cert.Prenorm.τ).loc Cert.Prenorm.main_arg1))
      ∧ r.2.sem = fun _ => 0)

def quiescent_PrenormIdeal [hPrenormIdeal : Cert.PrenormIdeal.Facts] : Prop :=
  ∀ (m : (ℓ : Loc Cert.PrenormIdeal.nD Cert.PrenormIdeal.τ Cert.PrenormIdeal.sig) → Buf (Elt Ideal) ℓ) (g : Dev Cert.PrenormIdeal.nD → PrngReg), Pre_PrenormIdeal m →
    θ_run (Cert.PrenormIdeal.defs (F := Ideal)) (onTc (τ := Cert.PrenormIdeal.τ) (Cert.PrenormIdeal.main (F := Ideal))) ⟨m, fun _ => 0, g⟩ (fun r => (∀ c : Dev Cert.PrenormIdeal.nD,
      r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
      ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1))
      ∧ r.2.sem = fun _ => 0)

def quiescent_PrenormRefIdeal [hPrenormRefIdeal : Cert.PrenormRefIdeal.Facts] : Prop :=
  ∀ (m : (ℓ : Loc Cert.PrenormRefIdeal.nD Cert.PrenormRefIdeal.τ Cert.PrenormRefIdeal.sig) → Buf (Elt Ideal) ℓ) (g : Dev Cert.PrenormRefIdeal.nD → PrngReg), Pre_PrenormRefIdeal m →
    θ_run (Cert.PrenormRefIdeal.defs (F := Ideal)) (onTc (τ := Cert.PrenormRefIdeal.τ) (Cert.PrenormRefIdeal.main (F := Ideal))) ⟨m, fun _ => 0, g⟩ (fun r => (∀ c : Dev Cert.PrenormRefIdeal.nD,
      r.2.mem ((c.tc : Thread Cert.PrenormRefIdeal.nD Cert.PrenormRefIdeal.τ).loc Cert.PrenormRefIdeal.main_arg0) = m ((c.tc : Thread Cert.PrenormRefIdeal.nD Cert.PrenormRefIdeal.τ).loc Cert.PrenormRefIdeal.main_arg0)
      ∧ r.2.mem ((c.tc : Thread Cert.PrenormRefIdeal.nD Cert.PrenormRefIdeal.τ).loc Cert.PrenormRefIdeal.main_arg1) = m ((c.tc : Thread Cert.PrenormRefIdeal.nD Cert.PrenormRefIdeal.τ).loc Cert.PrenormRefIdeal.main_arg1))
      ∧ r.2.sem = fun _ => 0)

def quiescent_Cq [hCq : Cert.Cq.Facts] : Prop :=
  ∀ (m : (ℓ : Loc Cert.Cq.nD Cert.Cq.τ Cert.Cq.sig) → Buf (Elt Bits) ℓ) (g : Dev Cert.Cq.nD → PrngReg), Pre_Cq m →
    θ_run (Cert.Cq.defs (F := Bits)) (onTc (τ := Cert.Cq.τ) (Cert.Cq.main (F := Bits))) ⟨m, fun _ => 0, g⟩ (fun r => (∀ c : Dev Cert.Cq.nD,
      r.2.mem ((c.tc : Thread Cert.Cq.nD Cert.Cq.τ).loc Cert.Cq.main_arg0) = m ((c.tc : Thread Cert.Cq.nD Cert.Cq.τ).loc Cert.Cq.main_arg0)
      ∧ r.2.mem ((c.tc : Thread Cert.Cq.nD Cert.Cq.τ).loc Cert.Cq.main_arg1) = m ((c.tc : Thread Cert.Cq.nD Cert.Cq.τ).loc Cert.Cq.main_arg1)
      ∧ r.2.mem ((c.tc : Thread Cert.Cq.nD Cert.Cq.τ).loc Cert.Cq.main_arg2) = m ((c.tc : Thread Cert.Cq.nD Cert.Cq.τ).loc Cert.Cq.main_arg2))
      ∧ r.2.sem = fun _ => 0)

def quiescent_CqIdeal [hCqIdeal : Cert.CqIdeal.Facts] : Prop :=
  ∀ (m : (ℓ : Loc Cert.CqIdeal.nD Cert.CqIdeal.τ Cert.CqIdeal.sig) → Buf (Elt Ideal) ℓ) (g : Dev Cert.CqIdeal.nD → PrngReg), Pre_CqIdeal m →
    θ_run (Cert.CqIdeal.defs (F := Ideal)) (onTc (τ := Cert.CqIdeal.τ) (Cert.CqIdeal.main (F := Ideal))) ⟨m, fun _ => 0, g⟩ (fun r => (∀ c : Dev Cert.CqIdeal.nD,
      r.2.mem ((c.tc : Thread Cert.CqIdeal.nD Cert.CqIdeal.τ).loc Cert.CqIdeal.main_arg0) = m ((c.tc : Thread Cert.CqIdeal.nD Cert.CqIdeal.τ).loc Cert.CqIdeal.main_arg0)
      ∧ r.2.mem ((c.tc : Thread Cert.CqIdeal.nD Cert.CqIdeal.τ).loc Cert.CqIdeal.main_arg1) = m ((c.tc : Thread Cert.CqIdeal.nD Cert.CqIdeal.τ).loc Cert.CqIdeal.main_arg1)
      ∧ r.2.mem ((c.tc : Thread Cert.CqIdeal.nD Cert.CqIdeal.τ).loc Cert.CqIdeal.main_arg2) = m ((c.tc : Thread Cert.CqIdeal.nD Cert.CqIdeal.τ).loc Cert.CqIdeal.main_arg2))
      ∧ r.2.sem = fun _ => 0)

def quiescent_CqRefIdeal [hCqRefIdeal : Cert.CqRefIdeal.Facts] : Prop :=
  ∀ (m : (ℓ : Loc Cert.CqRefIdeal.nD Cert.CqRefIdeal.τ Cert.CqRefIdeal.sig) → Buf (Elt Ideal) ℓ) (g : Dev Cert.CqRefIdeal.nD → PrngReg), Pre_CqRefIdeal m →
    θ_run (Cert.CqRefIdeal.defs (F := Ideal)) (onTc (τ := Cert.CqRefIdeal.τ) (Cert.CqRefIdeal.main (F := Ideal))) ⟨m, fun _ => 0, g⟩ (fun r => (∀ c : Dev Cert.CqRefIdeal.nD,
      r.2.mem ((c.tc : Thread Cert.CqRefIdeal.nD Cert.CqRefIdeal.τ).loc Cert.CqRefIdeal.main_arg0) = m ((c.tc : Thread Cert.CqRefIdeal.nD Cert.CqRefIdeal.τ).loc Cert.CqRefIdeal.main_arg0)
      ∧ r.2.mem ((c.tc : Thread Cert.CqRefIdeal.nD Cert.CqRefIdeal.τ).loc Cert.CqRefIdeal.main_arg1) = m ((c.tc : Thread Cert.CqRefIdeal.nD Cert.CqRefIdeal.τ).loc Cert.CqRefIdeal.main_arg1)
      ∧ r.2.mem ((c.tc : Thread Cert.CqRefIdeal.nD Cert.CqRefIdeal.τ).loc Cert.CqRefIdeal.main_arg2) = m ((c.tc : Thread Cert.CqRefIdeal.nD Cert.CqRefIdeal.τ).loc Cert.CqRefIdeal.main_arg2))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2))
      ∧ r.2.sem = fun _ => 0)

def quiescent_Q [hQ : Cert.Q.Facts] : Prop :=
  ∀ (m : (ℓ : Loc Cert.Q.nD Cert.Q.τ Cert.Q.sig) → Buf (Elt Bits) ℓ) (g : Dev Cert.Q.nD → PrngReg), Pre_Q m →
    θ_run (Cert.Q.defs (F := Bits)) (onTc (τ := Cert.Q.τ) (Cert.Q.main (F := Bits))) ⟨m, fun _ => 0, g⟩ (fun r => (∀ c : Dev Cert.Q.nD,
      r.2.mem ((c.tc : Thread Cert.Q.nD Cert.Q.τ).loc Cert.Q.main_arg0) = m ((c.tc : Thread Cert.Q.nD Cert.Q.τ).loc Cert.Q.main_arg0)
      ∧ r.2.mem ((c.tc : Thread Cert.Q.nD Cert.Q.τ).loc Cert.Q.main_arg1) = m ((c.tc : Thread Cert.Q.nD Cert.Q.τ).loc Cert.Q.main_arg1)
      ∧ r.2.mem ((c.tc : Thread Cert.Q.nD Cert.Q.τ).loc Cert.Q.main_arg2) = m ((c.tc : Thread Cert.Q.nD Cert.Q.τ).loc Cert.Q.main_arg2))
      ∧ r.2.sem = fun _ => 0)

def quiescent_QIdeal [hQIdeal : Cert.QIdeal.Facts] : Prop :=
  ∀ (m : (ℓ : Loc Cert.QIdeal.nD Cert.QIdeal.τ Cert.QIdeal.sig) → Buf (Elt Ideal) ℓ) (g : Dev Cert.QIdeal.nD → PrngReg), Pre_QIdeal m →
    θ_run (Cert.QIdeal.defs (F := Ideal)) (onTc (τ := Cert.QIdeal.τ) (Cert.QIdeal.main (F := Ideal))) ⟨m, fun _ => 0, g⟩ (fun r => (∀ c : Dev Cert.QIdeal.nD,
      r.2.mem ((c.tc : Thread Cert.QIdeal.nD Cert.QIdeal.τ).loc Cert.QIdeal.main_arg0) = m ((c.tc : Thread Cert.QIdeal.nD Cert.QIdeal.τ).loc Cert.QIdeal.main_arg0)
      ∧ r.2.mem ((c.tc : Thread Cert.QIdeal.nD Cert.QIdeal.τ).loc Cert.QIdeal.main_arg1) = m ((c.tc : Thread Cert.QIdeal.nD Cert.QIdeal.τ).loc Cert.QIdeal.main_arg1)
      ∧ r.2.mem ((c.tc : Thread Cert.QIdeal.nD Cert.QIdeal.τ).loc Cert.QIdeal.main_arg2) = m ((c.tc : Thread Cert.QIdeal.nD Cert.QIdeal.τ).loc Cert.QIdeal.main_arg2))
      ∧ r.2.sem = fun _ => 0)

def quiescent_QRefIdeal [hQRefIdeal : Cert.QRefIdeal.Facts] : Prop :=
  ∀ (m : (ℓ : Loc Cert.QRefIdeal.nD Cert.QRefIdeal.τ Cert.QRefIdeal.sig) → Buf (Elt Ideal) ℓ) (g : Dev Cert.QRefIdeal.nD → PrngReg), Pre_QRefIdeal m →
    θ_run (Cert.QRefIdeal.defs (F := Ideal)) (onTc (τ := Cert.QRefIdeal.τ) (Cert.QRefIdeal.main (F := Ideal))) ⟨m, fun _ => 0, g⟩ (fun r => (∀ c : Dev Cert.QRefIdeal.nD,
      r.2.mem ((c.tc : Thread Cert.QRefIdeal.nD Cert.QRefIdeal.τ).loc Cert.QRefIdeal.main_arg0) = m ((c.tc : Thread Cert.QRefIdeal.nD Cert.QRefIdeal.τ).loc Cert.QRefIdeal.main_arg0)
      ∧ r.2.mem ((c.tc : Thread Cert.QRefIdeal.nD Cert.QRefIdeal.τ).loc Cert.QRefIdeal.main_arg1) = m ((c.tc : Thread Cert.QRefIdeal.nD Cert.QRefIdeal.τ).loc Cert.QRefIdeal.main_arg1)
      ∧ r.2.mem ((c.tc : Thread Cert.QRefIdeal.nD Cert.QRefIdeal.τ).loc Cert.QRefIdeal.main_arg2) = m ((c.tc : Thread Cert.QRefIdeal.nD Cert.QRefIdeal.τ).loc Cert.QRefIdeal.main_arg2))
      ∧ r.2.sem = fun _ => 0)

def quiescent_Ckvr [hCkvr : Cert.Ckvr.Facts] : Prop :=
  ∀ (m : (ℓ : Loc Cert.Ckvr.nD Cert.Ckvr.τ Cert.Ckvr.sig) → Buf (Elt Bits) ℓ) (g : Dev Cert.Ckvr.nD → PrngReg), Pre_Ckvr m →
    θ_run (Cert.Ckvr.defs (F := Bits)) (onTc (τ := Cert.Ckvr.τ) (Cert.Ckvr.main (F := Bits))) ⟨m, fun _ => 0, g⟩ (fun r => (∀ c : Dev Cert.Ckvr.nD,
      r.2.mem ((c.tc : Thread Cert.Ckvr.nD Cert.Ckvr.τ).loc Cert.Ckvr.main_arg0) = m ((c.tc : Thread Cert.Ckvr.nD Cert.Ckvr.τ).loc Cert.Ckvr.main_arg0)
      ∧ r.2.mem ((c.tc : Thread Cert.Ckvr.nD Cert.Ckvr.τ).loc Cert.Ckvr.main_arg1) = m ((c.tc : Thread Cert.Ckvr.nD Cert.Ckvr.τ).loc Cert.Ckvr.main_arg1)
      ∧ r.2.mem ((c.tc : Thread Cert.Ckvr.nD Cert.Ckvr.τ).loc Cert.Ckvr.main_arg2) = m ((c.tc : Thread Cert.Ckvr.nD Cert.Ckvr.τ).loc Cert.Ckvr.main_arg2)
      ∧ r.2.mem ((c.tc : Thread Cert.Ckvr.nD Cert.Ckvr.τ).loc Cert.Ckvr.main_arg3) = m ((c.tc : Thread Cert.Ckvr.nD Cert.Ckvr.τ).loc Cert.Ckvr.main_arg3))
      ∧ r.2.sem = fun _ => 0)

def quiescent_CkvrIdeal [hCkvrIdeal : Cert.CkvrIdeal.Facts] : Prop :=
  ∀ (m : (ℓ : Loc Cert.CkvrIdeal.nD Cert.CkvrIdeal.τ Cert.CkvrIdeal.sig) → Buf (Elt Ideal) ℓ) (g : Dev Cert.CkvrIdeal.nD → PrngReg), Pre_CkvrIdeal m →
    θ_run (Cert.CkvrIdeal.defs (F := Ideal)) (onTc (τ := Cert.CkvrIdeal.τ) (Cert.CkvrIdeal.main (F := Ideal))) ⟨m, fun _ => 0, g⟩ (fun r => (∀ c : Dev Cert.CkvrIdeal.nD,
      r.2.mem ((c.tc : Thread Cert.CkvrIdeal.nD Cert.CkvrIdeal.τ).loc Cert.CkvrIdeal.main_arg0) = m ((c.tc : Thread Cert.CkvrIdeal.nD Cert.CkvrIdeal.τ).loc Cert.CkvrIdeal.main_arg0)
      ∧ r.2.mem ((c.tc : Thread Cert.CkvrIdeal.nD Cert.CkvrIdeal.τ).loc Cert.CkvrIdeal.main_arg1) = m ((c.tc : Thread Cert.CkvrIdeal.nD Cert.CkvrIdeal.τ).loc Cert.CkvrIdeal.main_arg1)
      ∧ r.2.mem ((c.tc : Thread Cert.CkvrIdeal.nD Cert.CkvrIdeal.τ).loc Cert.CkvrIdeal.main_arg2) = m ((c.tc : Thread Cert.CkvrIdeal.nD Cert.CkvrIdeal.τ).loc Cert.CkvrIdeal.main_arg2)
      ∧ r.2.mem ((c.tc : Thread Cert.CkvrIdeal.nD Cert.CkvrIdeal.τ).loc Cert.CkvrIdeal.main_arg3) = m ((c.tc : Thread Cert.CkvrIdeal.nD Cert.CkvrIdeal.τ).loc Cert.CkvrIdeal.main_arg3))
      ∧ r.2.sem = fun _ => 0)

def quiescent_CkvrRefIdeal [hCkvrRefIdeal : Cert.CkvrRefIdeal.Facts] : Prop :=
  ∀ (m : (ℓ : Loc Cert.CkvrRefIdeal.nD Cert.CkvrRefIdeal.τ Cert.CkvrRefIdeal.sig) → Buf (Elt Ideal) ℓ) (g : Dev Cert.CkvrRefIdeal.nD → PrngReg), Pre_CkvrRefIdeal m →
    θ_run (Cert.CkvrRefIdeal.defs (F := Ideal)) (onTc (τ := Cert.CkvrRefIdeal.τ) (Cert.CkvrRefIdeal.main (F := Ideal))) ⟨m, fun _ => 0, g⟩ (fun r => (∀ c : Dev Cert.CkvrRefIdeal.nD,
      r.2.mem ((c.tc : Thread Cert.CkvrRefIdeal.nD Cert.CkvrRefIdeal.τ).loc Cert.CkvrRefIdeal.main_arg0) = m ((c.tc : Thread Cert.CkvrRefIdeal.nD Cert.CkvrRefIdeal.τ).loc Cert.CkvrRefIdeal.main_arg0)
      ∧ r.2.mem ((c.tc : Thread Cert.CkvrRefIdeal.nD Cert.CkvrRefIdeal.τ).loc Cert.CkvrRefIdeal.main_arg1) = m ((c.tc : Thread Cert.CkvrRefIdeal.nD Cert.CkvrRefIdeal.τ).loc Cert.CkvrRefIdeal.main_arg1)
      ∧ r.2.mem ((c.tc : Thread Cert.CkvrRefIdeal.nD Cert.CkvrRefIdeal.τ).loc Cert.CkvrRefIdeal.main_arg2) = m ((c.tc : Thread Cert.CkvrRefIdeal.nD Cert.CkvrRefIdeal.τ).loc Cert.CkvrRefIdeal.main_arg2)
      ∧ r.2.mem ((c.tc : Thread Cert.CkvrRefIdeal.nD Cert.CkvrRefIdeal.τ).loc Cert.CkvrRefIdeal.main_arg3) = m ((c.tc : Thread Cert.CkvrRefIdeal.nD Cert.CkvrRefIdeal.τ).loc Cert.CkvrRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5))
      ∧ r.2.sem = fun _ => 0)

def quiescent_Flash [hFlash : Cert.Flash.Facts] : Prop :=
  ∀ (m : (ℓ : Loc Cert.Flash.nD Cert.Flash.τ Cert.Flash.sig) → Buf (Elt Bits) ℓ) (g : Dev Cert.Flash.nD → PrngReg), Pre_Flash m →
    θ_run (Cert.Flash.defs (F := Bits)) (onTc (τ := Cert.Flash.τ) (Cert.Flash.main (F := Bits))) ⟨m, fun _ => 0, g⟩ (fun r => (∀ c : Dev Cert.Flash.nD,
      r.2.mem ((c.tc : Thread Cert.Flash.nD Cert.Flash.τ).loc Cert.Flash.main_arg0) = m ((c.tc : Thread Cert.Flash.nD Cert.Flash.τ).loc Cert.Flash.main_arg0)
      ∧ r.2.mem ((c.tc : Thread Cert.Flash.nD Cert.Flash.τ).loc Cert.Flash.main_arg1) = m ((c.tc : Thread Cert.Flash.nD Cert.Flash.τ).loc Cert.Flash.main_arg1)
      ∧ r.2.mem ((c.tc : Thread Cert.Flash.nD Cert.Flash.τ).loc Cert.Flash.main_arg2) = m ((c.tc : Thread Cert.Flash.nD Cert.Flash.τ).loc Cert.Flash.main_arg2)
      ∧ r.2.mem ((c.tc : Thread Cert.Flash.nD Cert.Flash.τ).loc Cert.Flash.main_arg3) = m ((c.tc : Thread Cert.Flash.nD Cert.Flash.τ).loc Cert.Flash.main_arg3))
      ∧ r.2.sem = fun _ => 0)

def quiescent_FlashIdeal [hFlashIdeal : Cert.FlashIdeal.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
      ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ r.2.sem = fun _ => 0)

def quiescent_FlashIdeal_pre_finite_query_and_key [hFlashIdeal : Cert.FlashIdeal.Facts] [hPre_finite_query_and_key : Cert.Pre_finite_query_and_key.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal_finite_query_and_key m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
      ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ r.2.sem = fun _ => 0)

def quiescent_FlashRefIdeal [hFlashRefIdeal : Cert.FlashRefIdeal.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2)
      ∧ r.2.mem ((c.tc : Thread Cert.FlashRefIdeal.nD Cert.FlashRefIdeal.τ).loc Cert.FlashRefIdeal.main_arg3) = m ((c.tc : Thread Cert.FlashRefIdeal.nD Cert.FlashRefIdeal.τ).loc Cert.FlashRefIdeal.main_arg3))
      ∧ r.2.sem = fun _ => 0)

def quiescent_FlashRefIdeal_pre_finite_query_and_key [hFlashRefIdeal : Cert.FlashRefIdeal.Facts] [hPre_finite_query_and_key : Cert.Pre_finite_query_and_key.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal_finite_query_and_key m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2)
      ∧ r.2.mem ((c.tc : Thread Cert.FlashRefIdeal.nD Cert.FlashRefIdeal.τ).loc Cert.FlashRefIdeal.main_arg3) = m ((c.tc : Thread Cert.FlashRefIdeal.nD Cert.FlashRefIdeal.τ).loc Cert.FlashRefIdeal.main_arg3))
      ∧ r.2.sem = fun _ => 0)

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)) →
    ∃ (v0 : (c : Dev Cert.GluIdeal.nD) → Buf (Elt Ideal) ((c.tc : Thread Cert.GluIdeal.nD Cert.GluIdeal.τ).loc Cert.GluIdeal.main_v1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v1) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v21) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1))

def preserves_Ulru_UlruIdeal : Prop :=
  True

def algebraic_UlruIdeal_UlruRefIdeal [hUlruIdeal : Cert.UlruIdeal.Facts] [hUlruRefIdeal : Cert.UlruRefIdeal.Facts] : Prop :=
  ∀ (m : (ℓ : Loc Cert.UlruIdeal.nD Cert.UlruIdeal.τ Cert.UlruIdeal.sig) → Buf (Elt Ideal) ℓ) (g : Dev Cert.UlruIdeal.nD → PrngReg)
    (m' : (ℓ : Loc Cert.UlruRefIdeal.nD Cert.UlruRefIdeal.τ Cert.UlruRefIdeal.sig) → Buf (Elt Ideal) ℓ) (g' : Dev Cert.UlruRefIdeal.nD → PrngReg), Pre_UlruIdeal m →
    (∀ c : Dev Cert.UlruIdeal.nD,
      m' ((c.tc : Thread Cert.UlruRefIdeal.nD Cert.UlruRefIdeal.τ).loc Cert.UlruRefIdeal.main_arg0) = m ((c.tc : Thread Cert.UlruIdeal.nD Cert.UlruIdeal.τ).loc Cert.UlruIdeal.main_arg0)
      ∧ m' ((c.tc : Thread Cert.UlruRefIdeal.nD Cert.UlruRefIdeal.τ).loc Cert.UlruRefIdeal.main_arg1) = m ((c.tc : Thread Cert.UlruIdeal.nD Cert.UlruIdeal.τ).loc Cert.UlruIdeal.main_arg1)) →
    ∃ (v0 : (c : Dev Cert.UlruIdeal.nD) → Buf (Elt Ideal) ((c.tc : Thread Cert.UlruIdeal.nD Cert.UlruIdeal.τ).loc Cert.UlruIdeal.main_v1)),
      θ_run (Cert.UlruIdeal.defs (F := Ideal)) (onTc (τ := Cert.UlruIdeal.τ) (Cert.UlruIdeal.main (F := Ideal))) ⟨m, fun _ => 0, g⟩ (fun r => ∀ c : Dev Cert.UlruIdeal.nD,
          r.2.mem ((c.tc : Thread Cert.UlruIdeal.nD Cert.UlruIdeal.τ).loc Cert.UlruIdeal.main_v1) = v0 c
          ∧ r.2.mem ((c.tc : Thread Cert.UlruIdeal.nD Cert.UlruIdeal.τ).loc Cert.UlruIdeal.main_arg0) = m ((c.tc : Thread Cert.UlruIdeal.nD Cert.UlruIdeal.τ).loc Cert.UlruIdeal.main_arg0)
          ∧ r.2.mem ((c.tc : Thread Cert.UlruIdeal.nD Cert.UlruIdeal.τ).loc Cert.UlruIdeal.main_arg1) = m ((c.tc : Thread Cert.UlruIdeal.nD Cert.UlruIdeal.τ).loc Cert.UlruIdeal.main_arg1))
      ∧ θ_run (Cert.UlruRefIdeal.defs (F := Ideal)) (onTc (τ := Cert.UlruRefIdeal.τ) (Cert.UlruRefIdeal.main (F := Ideal))) ⟨m', fun _ => 0, g'⟩ (fun r => ∀ c : Dev Cert.UlruRefIdeal.nD,
          r.2.mem ((c.tc : Thread Cert.UlruRefIdeal.nD Cert.UlruRefIdeal.τ).loc Cert.UlruRefIdeal.main_v10) = v0 c
          ∧ r.2.mem ((c.tc : Thread Cert.UlruRefIdeal.nD Cert.UlruRefIdeal.τ).loc Cert.UlruRefIdeal.main_arg0) = m' ((c.tc : Thread Cert.UlruRefIdeal.nD Cert.UlruRefIdeal.τ).loc Cert.UlruRefIdeal.main_arg0)
          ∧ r.2.mem ((c.tc : Thread Cert.UlruRefIdeal.nD Cert.UlruRefIdeal.τ).loc Cert.UlruRefIdeal.main_arg1) = m' ((c.tc : Thread Cert.UlruRefIdeal.nD Cert.UlruRefIdeal.τ).loc Cert.UlruRefIdeal.main_arg1))

def preserves_Gconv_GconvIdeal : Prop :=
  True

def algebraic_GconvIdeal_GconvRefIdeal [hGconvIdeal : Cert.GconvIdeal.Facts] [hGconvRefIdeal : Cert.GconvRefIdeal.Facts] : Prop :=
  ∀ (m : (ℓ : Loc Cert.GconvIdeal.nD Cert.GconvIdeal.τ Cert.GconvIdeal.sig) → Buf (Elt Ideal) ℓ) (g : Dev Cert.GconvIdeal.nD → PrngReg)
    (m' : (ℓ : Loc Cert.GconvRefIdeal.nD Cert.GconvRefIdeal.τ Cert.GconvRefIdeal.sig) → Buf (Elt Ideal) ℓ) (g' : Dev Cert.GconvRefIdeal.nD → PrngReg), Pre_GconvIdeal m →
    (∀ c : Dev Cert.GconvIdeal.nD,
      m' ((c.tc : Thread Cert.GconvRefIdeal.nD Cert.GconvRefIdeal.τ).loc Cert.GconvRefIdeal.main_arg0) = m ((c.tc : Thread Cert.GconvIdeal.nD Cert.GconvIdeal.τ).loc Cert.GconvIdeal.main_arg0)
      ∧ m' ((c.tc : Thread Cert.GconvRefIdeal.nD Cert.GconvRefIdeal.τ).loc Cert.GconvRefIdeal.main_arg1) = m ((c.tc : Thread Cert.GconvIdeal.nD Cert.GconvIdeal.τ).loc Cert.GconvIdeal.main_arg1)) →
    ∃ (v0 : (c : Dev Cert.GconvIdeal.nD) → Buf (Elt Ideal) ((c.tc : Thread Cert.GconvIdeal.nD Cert.GconvIdeal.τ).loc Cert.GconvIdeal.main_v1)),
      θ_run (Cert.GconvIdeal.defs (F := Ideal)) (onTc (τ := Cert.GconvIdeal.τ) (Cert.GconvIdeal.main (F := Ideal))) ⟨m, fun _ => 0, g⟩ (fun r => ∀ c : Dev Cert.GconvIdeal.nD,
          r.2.mem ((c.tc : Thread Cert.GconvIdeal.nD Cert.GconvIdeal.τ).loc Cert.GconvIdeal.main_v1) = v0 c
          ∧ r.2.mem ((c.tc : Thread Cert.GconvIdeal.nD Cert.GconvIdeal.τ).loc Cert.GconvIdeal.main_arg0) = m ((c.tc : Thread Cert.GconvIdeal.nD Cert.GconvIdeal.τ).loc Cert.GconvIdeal.main_arg0)
          ∧ r.2.mem ((c.tc : Thread Cert.GconvIdeal.nD Cert.GconvIdeal.τ).loc Cert.GconvIdeal.main_arg1) = m ((c.tc : Thread Cert.GconvIdeal.nD Cert.GconvIdeal.τ).loc Cert.GconvIdeal.main_arg1))
      ∧ θ_run (Cert.GconvRefIdeal.defs (F := Ideal)) (onTc (τ := Cert.GconvRefIdeal.τ) (Cert.GconvRefIdeal.main (F := Ideal))) ⟨m', fun _ => 0, g'⟩ (fun r => ∀ c : Dev Cert.GconvRefIdeal.nD,
          r.2.mem ((c.tc : Thread Cert.GconvRefIdeal.nD Cert.GconvRefIdeal.τ).loc Cert.GconvRefIdeal.main_v14) = v0 c
          ∧ r.2.mem ((c.tc : Thread Cert.GconvRefIdeal.nD Cert.GconvRefIdeal.τ).loc Cert.GconvRefIdeal.main_arg0) = m' ((c.tc : Thread Cert.GconvRefIdeal.nD Cert.GconvRefIdeal.τ).loc Cert.GconvRefIdeal.main_arg0)
          ∧ r.2.mem ((c.tc : Thread Cert.GconvRefIdeal.nD Cert.GconvRefIdeal.τ).loc Cert.GconvRefIdeal.main_arg1) = m' ((c.tc : Thread Cert.GconvRefIdeal.nD Cert.GconvRefIdeal.τ).loc Cert.GconvRefIdeal.main_arg1))

def preserves_Gmla_GmlaIdeal : Prop :=
  True

def algebraic_GmlaIdeal_GmlaRefIdeal [hGmlaIdeal : Cert.GmlaIdeal.Facts] [hGmlaRefIdeal : Cert.GmlaRefIdeal.Facts] : Prop :=
  ∀ (m : (ℓ : Loc Cert.GmlaIdeal.nD Cert.GmlaIdeal.τ Cert.GmlaIdeal.sig) → Buf (Elt Ideal) ℓ) (g : Dev Cert.GmlaIdeal.nD → PrngReg)
    (m' : (ℓ : Loc Cert.GmlaRefIdeal.nD Cert.GmlaRefIdeal.τ Cert.GmlaRefIdeal.sig) → Buf (Elt Ideal) ℓ) (g' : Dev Cert.GmlaRefIdeal.nD → PrngReg), Pre_GmlaIdeal m →
    (∀ c : Dev Cert.GmlaIdeal.nD,
      m' ((c.tc : Thread Cert.GmlaRefIdeal.nD Cert.GmlaRefIdeal.τ).loc Cert.GmlaRefIdeal.main_arg0) = m ((c.tc : Thread Cert.GmlaIdeal.nD Cert.GmlaIdeal.τ).loc Cert.GmlaIdeal.main_arg0)
      ∧ m' ((c.tc : Thread Cert.GmlaRefIdeal.nD Cert.GmlaRefIdeal.τ).loc Cert.GmlaRefIdeal.main_arg1) = m ((c.tc : Thread Cert.GmlaIdeal.nD Cert.GmlaIdeal.τ).loc Cert.GmlaIdeal.main_arg1)) →
    ∃ (v0 : (c : Dev Cert.GmlaIdeal.nD) → Buf (Elt Ideal) ((c.tc : Thread Cert.GmlaIdeal.nD Cert.GmlaIdeal.τ).loc Cert.GmlaIdeal.main_v1)),
      θ_run (Cert.GmlaIdeal.defs (F := Ideal)) (onTc (τ := Cert.GmlaIdeal.τ) (Cert.GmlaIdeal.main (F := Ideal))) ⟨m, fun _ => 0, g⟩ (fun r => ∀ c : Dev Cert.GmlaIdeal.nD,
          r.2.mem ((c.tc : Thread Cert.GmlaIdeal.nD Cert.GmlaIdeal.τ).loc Cert.GmlaIdeal.main_v1) = v0 c
          ∧ r.2.mem ((c.tc : Thread Cert.GmlaIdeal.nD Cert.GmlaIdeal.τ).loc Cert.GmlaIdeal.main_arg0) = m ((c.tc : Thread Cert.GmlaIdeal.nD Cert.GmlaIdeal.τ).loc Cert.GmlaIdeal.main_arg0)
          ∧ r.2.mem ((c.tc : Thread Cert.GmlaIdeal.nD Cert.GmlaIdeal.τ).loc Cert.GmlaIdeal.main_arg1) = m ((c.tc : Thread Cert.GmlaIdeal.nD Cert.GmlaIdeal.τ).loc Cert.GmlaIdeal.main_arg1))
      ∧ θ_run (Cert.GmlaRefIdeal.defs (F := Ideal)) (onTc (τ := Cert.GmlaRefIdeal.τ) (Cert.GmlaRefIdeal.main (F := Ideal))) ⟨m', fun _ => 0, g'⟩ (fun r => ∀ c : Dev Cert.GmlaRefIdeal.nD,
          r.2.mem ((c.tc : Thread Cert.GmlaRefIdeal.nD Cert.GmlaRefIdeal.τ).loc Cert.GmlaRefIdeal.main_v14) = v0 c
          ∧ r.2.mem ((c.tc : Thread Cert.GmlaRefIdeal.nD Cert.GmlaRefIdeal.τ).loc Cert.GmlaRefIdeal.main_arg0) = m' ((c.tc : Thread Cert.GmlaRefIdeal.nD Cert.GmlaRefIdeal.τ).loc Cert.GmlaRefIdeal.main_arg0)
          ∧ r.2.mem ((c.tc : Thread Cert.GmlaRefIdeal.nD Cert.GmlaRefIdeal.τ).loc Cert.GmlaRefIdeal.main_arg1) = m' ((c.tc : Thread Cert.GmlaRefIdeal.nD Cert.GmlaRefIdeal.τ).loc Cert.GmlaRefIdeal.main_arg1))

def preserves_Glru_GlruIdeal : Prop :=
  True

def algebraic_GlruIdeal_GlruRefIdeal [hGlruIdeal : Cert.GlruIdeal.Facts] [hGlruRefIdeal : Cert.GlruRefIdeal.Facts] : Prop :=
  ∀ (m : (ℓ : Loc Cert.GlruIdeal.nD Cert.GlruIdeal.τ Cert.GlruIdeal.sig) → Buf (Elt Ideal) ℓ) (g : Dev Cert.GlruIdeal.nD → PrngReg)
    (m' : (ℓ : Loc Cert.GlruRefIdeal.nD Cert.GlruRefIdeal.τ Cert.GlruRefIdeal.sig) → Buf (Elt Ideal) ℓ) (g' : Dev Cert.GlruRefIdeal.nD → PrngReg), Pre_GlruIdeal m →
    (∀ c : Dev Cert.GlruIdeal.nD,
      m' ((c.tc : Thread Cert.GlruRefIdeal.nD Cert.GlruRefIdeal.τ).loc Cert.GlruRefIdeal.main_arg0) = m ((c.tc : Thread Cert.GlruIdeal.nD Cert.GlruIdeal.τ).loc Cert.GlruIdeal.main_arg0)
      ∧ m' ((c.tc : Thread Cert.GlruRefIdeal.nD Cert.GlruRefIdeal.τ).loc Cert.GlruRefIdeal.main_arg1) = m ((c.tc : Thread Cert.GlruIdeal.nD Cert.GlruIdeal.τ).loc Cert.GlruIdeal.main_arg1)) →
    ∃ (v0 : (c : Dev Cert.GlruIdeal.nD) → Buf (Elt Ideal) ((c.tc : Thread Cert.GlruIdeal.nD Cert.GlruIdeal.τ).loc Cert.GlruIdeal.main_v1)),
      θ_run (Cert.GlruIdeal.defs (F := Ideal)) (onTc (τ := Cert.GlruIdeal.τ) (Cert.GlruIdeal.main (F := Ideal))) ⟨m, fun _ => 0, g⟩ (fun r => ∀ c : Dev Cert.GlruIdeal.nD,
          r.2.mem ((c.tc : Thread Cert.GlruIdeal.nD Cert.GlruIdeal.τ).loc Cert.GlruIdeal.main_v1) = v0 c
          ∧ r.2.mem ((c.tc : Thread Cert.GlruIdeal.nD Cert.GlruIdeal.τ).loc Cert.GlruIdeal.main_arg0) = m ((c.tc : Thread Cert.GlruIdeal.nD Cert.GlruIdeal.τ).loc Cert.GlruIdeal.main_arg0)
          ∧ r.2.mem ((c.tc : Thread Cert.GlruIdeal.nD Cert.GlruIdeal.τ).loc Cert.GlruIdeal.main_arg1) = m ((c.tc : Thread Cert.GlruIdeal.nD Cert.GlruIdeal.τ).loc Cert.GlruIdeal.main_arg1))
      ∧ θ_run (Cert.GlruRefIdeal.defs (F := Ideal)) (onTc (τ := Cert.GlruRefIdeal.τ) (Cert.GlruRefIdeal.main (F := Ideal))) ⟨m', fun _ => 0, g'⟩ (fun r => ∀ c : Dev Cert.GlruRefIdeal.nD,
          r.2.mem ((c.tc : Thread Cert.GlruRefIdeal.nD Cert.GlruRefIdeal.τ).loc Cert.GlruRefIdeal.main_v14) = v0 c
          ∧ r.2.mem ((c.tc : Thread Cert.GlruRefIdeal.nD Cert.GlruRefIdeal.τ).loc Cert.GlruRefIdeal.main_arg0) = m' ((c.tc : Thread Cert.GlruRefIdeal.nD Cert.GlruRefIdeal.τ).loc Cert.GlruRefIdeal.main_arg0)
          ∧ r.2.mem ((c.tc : Thread Cert.GlruRefIdeal.nD Cert.GlruRefIdeal.τ).loc Cert.GlruRefIdeal.main_arg1) = m' ((c.tc : Thread Cert.GlruRefIdeal.nD Cert.GlruRefIdeal.τ).loc Cert.GlruRefIdeal.main_arg1))

def preserves_Gm_GmIdeal : Prop :=
  True

def algebraic_GmIdeal_GmRefIdeal [hGmIdeal : Cert.GmIdeal.Facts] [hGmRefIdeal : Cert.GmRefIdeal.Facts] : Prop :=
  ∀ (m : (ℓ : Loc Cert.GmIdeal.nD Cert.GmIdeal.τ Cert.GmIdeal.sig) → Buf (Elt Ideal) ℓ) (g : Dev Cert.GmIdeal.nD → PrngReg)
    (m' : (ℓ : Loc Cert.GmRefIdeal.nD Cert.GmRefIdeal.τ Cert.GmRefIdeal.sig) → Buf (Elt Ideal) ℓ) (g' : Dev Cert.GmRefIdeal.nD → PrngReg), Pre_GmIdeal m →
    (∀ c : Dev Cert.GmIdeal.nD,
      m' ((c.tc : Thread Cert.GmRefIdeal.nD Cert.GmRefIdeal.τ).loc Cert.GmRefIdeal.main_arg0) = m ((c.tc : Thread Cert.GmIdeal.nD Cert.GmIdeal.τ).loc Cert.GmIdeal.main_arg0)
      ∧ m' ((c.tc : Thread Cert.GmRefIdeal.nD Cert.GmRefIdeal.τ).loc Cert.GmRefIdeal.main_arg1) = m ((c.tc : Thread Cert.GmIdeal.nD Cert.GmIdeal.τ).loc Cert.GmIdeal.main_arg1)) →
    ∃ (v0 : (c : Dev Cert.GmIdeal.nD) → Buf (Elt Ideal) ((c.tc : Thread Cert.GmIdeal.nD Cert.GmIdeal.τ).loc Cert.GmIdeal.main_v1)),
      θ_run (Cert.GmIdeal.defs (F := Ideal)) (onTc (τ := Cert.GmIdeal.τ) (Cert.GmIdeal.main (F := Ideal))) ⟨m, fun _ => 0, g⟩ (fun r => ∀ c : Dev Cert.GmIdeal.nD,
          r.2.mem ((c.tc : Thread Cert.GmIdeal.nD Cert.GmIdeal.τ).loc Cert.GmIdeal.main_v1) = v0 c
          ∧ r.2.mem ((c.tc : Thread Cert.GmIdeal.nD Cert.GmIdeal.τ).loc Cert.GmIdeal.main_arg0) = m ((c.tc : Thread Cert.GmIdeal.nD Cert.GmIdeal.τ).loc Cert.GmIdeal.main_arg0)
          ∧ r.2.mem ((c.tc : Thread Cert.GmIdeal.nD Cert.GmIdeal.τ).loc Cert.GmIdeal.main_arg1) = m ((c.tc : Thread Cert.GmIdeal.nD Cert.GmIdeal.τ).loc Cert.GmIdeal.main_arg1))
      ∧ θ_run (Cert.GmRefIdeal.defs (F := Ideal)) (onTc (τ := Cert.GmRefIdeal.τ) (Cert.GmRefIdeal.main (F := Ideal))) ⟨m', fun _ => 0, g'⟩ (fun r => ∀ c : Dev Cert.GmRefIdeal.nD,
          r.2.mem ((c.tc : Thread Cert.GmRefIdeal.nD Cert.GmRefIdeal.τ).loc Cert.GmRefIdeal.main_v19) = v0 c
          ∧ r.2.mem ((c.tc : Thread Cert.GmRefIdeal.nD Cert.GmRefIdeal.τ).loc Cert.GmRefIdeal.main_arg0) = m' ((c.tc : Thread Cert.GmRefIdeal.nD Cert.GmRefIdeal.τ).loc Cert.GmRefIdeal.main_arg0)
          ∧ r.2.mem ((c.tc : Thread Cert.GmRefIdeal.nD Cert.GmRefIdeal.τ).loc Cert.GmRefIdeal.main_arg1) = m' ((c.tc : Thread Cert.GmRefIdeal.nD Cert.GmRefIdeal.τ).loc Cert.GmRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v9)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v9) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v25) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)) →
    ∃ (v0 : (c : Dev Cert.PostIdeal.nD) → Buf (Elt Ideal) ((c.tc : Thread Cert.PostIdeal.nD Cert.PostIdeal.τ).loc Cert.PostIdeal.main_v6_0)) (v1 : (c : Dev Cert.PostIdeal.nD) → Buf (Elt Ideal) ((c.tc : Thread Cert.PostIdeal.nD Cert.PostIdeal.τ).loc Cert.PostIdeal.main_v6_1)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v6_0) = v0 c
          ∧ r.2.mem ((c.tc : Thread Cert.PostIdeal.nD Cert.PostIdeal.τ).loc Cert.PostIdeal.main_v6_1) = v1 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v15) = v0 c
          ∧ r.2.mem ((c.tc : Thread Cert.PostRefIdeal.nD Cert.PostRefIdeal.τ).loc Cert.PostRefIdeal.main_v31) = v1 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)) →
    ∃ (v0 : (c : Dev Cert.LastIdeal.nD) → Buf (Elt Ideal) ((c.tc : Thread Cert.LastIdeal.nD Cert.LastIdeal.τ).loc Cert.LastIdeal.main_v6_0)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v6_0) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v15) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3))

def preserves_Prenorm_PrenormIdeal : Prop :=
  True

def algebraic_PrenormIdeal_PrenormRefIdeal [hPrenormIdeal : Cert.PrenormIdeal.Facts] [hPrenormRefIdeal : Cert.PrenormRefIdeal.Facts] : Prop :=
  ∀ (m : (ℓ : Loc Cert.PrenormIdeal.nD Cert.PrenormIdeal.τ Cert.PrenormIdeal.sig) → Buf (Elt Ideal) ℓ) (g : Dev Cert.PrenormIdeal.nD → PrngReg)
    (m' : (ℓ : Loc Cert.PrenormRefIdeal.nD Cert.PrenormRefIdeal.τ Cert.PrenormRefIdeal.sig) → Buf (Elt Ideal) ℓ) (g' : Dev Cert.PrenormRefIdeal.nD → PrngReg), Pre_PrenormIdeal m →
    (∀ c : Dev Cert.PrenormIdeal.nD,
      m' ((c.tc : Thread Cert.PrenormRefIdeal.nD Cert.PrenormRefIdeal.τ).loc Cert.PrenormRefIdeal.main_arg0) = m ((c.tc : Thread Cert.PrenormIdeal.nD Cert.PrenormIdeal.τ).loc Cert.PrenormIdeal.main_arg0)
      ∧ m' ((c.tc : Thread Cert.PrenormRefIdeal.nD Cert.PrenormRefIdeal.τ).loc Cert.PrenormRefIdeal.main_arg1) = m ((c.tc : Thread Cert.PrenormIdeal.nD Cert.PrenormIdeal.τ).loc Cert.PrenormIdeal.main_arg1)) →
    ∃ (v0 : (c : Dev Cert.PrenormIdeal.nD) → Buf (Elt Ideal) ((c.tc : Thread Cert.PrenormIdeal.nD Cert.PrenormIdeal.τ).loc Cert.PrenormIdeal.main_v4)),
      θ_run (Cert.PrenormIdeal.defs (F := Ideal)) (onTc (τ := Cert.PrenormIdeal.τ) (Cert.PrenormIdeal.main (F := Ideal))) ⟨m, fun _ => 0, g⟩ (fun r => ∀ c : Dev Cert.PrenormIdeal.nD,
          r.2.mem ((c.tc : Thread Cert.PrenormIdeal.nD Cert.PrenormIdeal.τ).loc Cert.PrenormIdeal.main_v4) = v0 c
          ∧ r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
          ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1))
      ∧ θ_run (Cert.PrenormRefIdeal.defs (F := Ideal)) (onTc (τ := Cert.PrenormRefIdeal.τ) (Cert.PrenormRefIdeal.main (F := Ideal))) ⟨m', fun _ => 0, g'⟩ (fun r => ∀ c : Dev Cert.PrenormRefIdeal.nD,
          r.2.mem ((c.tc : Thread Cert.PrenormRefIdeal.nD Cert.PrenormRefIdeal.τ).loc Cert.PrenormRefIdeal.main_v16) = v0 c
          ∧ r.2.mem ((c.tc : Thread Cert.PrenormRefIdeal.nD Cert.PrenormRefIdeal.τ).loc Cert.PrenormRefIdeal.main_arg0) = m' ((c.tc : Thread Cert.PrenormRefIdeal.nD Cert.PrenormRefIdeal.τ).loc Cert.PrenormRefIdeal.main_arg0)
          ∧ r.2.mem ((c.tc : Thread Cert.PrenormRefIdeal.nD Cert.PrenormRefIdeal.τ).loc Cert.PrenormRefIdeal.main_arg1) = m' ((c.tc : Thread Cert.PrenormRefIdeal.nD Cert.PrenormRefIdeal.τ).loc Cert.PrenormRefIdeal.main_arg1))

def preserves_Cq_CqIdeal : Prop :=
  True

def algebraic_CqIdeal_CqRefIdeal [hCqIdeal : Cert.CqIdeal.Facts] [hCqRefIdeal : Cert.CqRefIdeal.Facts] : Prop :=
  ∀ (m : (ℓ : Loc Cert.CqIdeal.nD Cert.CqIdeal.τ Cert.CqIdeal.sig) → Buf (Elt Ideal) ℓ) (g : Dev Cert.CqIdeal.nD → PrngReg)
    (m' : (ℓ : Loc Cert.CqRefIdeal.nD Cert.CqRefIdeal.τ Cert.CqRefIdeal.sig) → Buf (Elt Ideal) ℓ) (g' : Dev Cert.CqRefIdeal.nD → PrngReg), Pre_CqIdeal m →
    (∀ c : Dev Cert.CqIdeal.nD,
      m' ((c.tc : Thread Cert.CqRefIdeal.nD Cert.CqRefIdeal.τ).loc Cert.CqRefIdeal.main_arg0) = m ((c.tc : Thread Cert.CqIdeal.nD Cert.CqIdeal.τ).loc Cert.CqIdeal.main_arg0)
      ∧ m' ((c.tc : Thread Cert.CqRefIdeal.nD Cert.CqRefIdeal.τ).loc Cert.CqRefIdeal.main_arg1) = m ((c.tc : Thread Cert.CqIdeal.nD Cert.CqIdeal.τ).loc Cert.CqIdeal.main_arg1)
      ∧ m' ((c.tc : Thread Cert.CqRefIdeal.nD Cert.CqRefIdeal.τ).loc Cert.CqRefIdeal.main_arg2) = m ((c.tc : Thread Cert.CqIdeal.nD Cert.CqIdeal.τ).loc Cert.CqIdeal.main_arg2)) →
    ∃ (v0 : (c : Dev Cert.CqIdeal.nD) → Buf (Elt Ideal) ((c.tc : Thread Cert.CqIdeal.nD Cert.CqIdeal.τ).loc Cert.CqIdeal.main_v9)),
      θ_run (Cert.CqIdeal.defs (F := Ideal)) (onTc (τ := Cert.CqIdeal.τ) (Cert.CqIdeal.main (F := Ideal))) ⟨m, fun _ => 0, g⟩ (fun r => ∀ c : Dev Cert.CqIdeal.nD,
          r.2.mem ((c.tc : Thread Cert.CqIdeal.nD Cert.CqIdeal.τ).loc Cert.CqIdeal.main_v9) = v0 c
          ∧ r.2.mem ((c.tc : Thread Cert.CqIdeal.nD Cert.CqIdeal.τ).loc Cert.CqIdeal.main_arg0) = m ((c.tc : Thread Cert.CqIdeal.nD Cert.CqIdeal.τ).loc Cert.CqIdeal.main_arg0)
          ∧ r.2.mem ((c.tc : Thread Cert.CqIdeal.nD Cert.CqIdeal.τ).loc Cert.CqIdeal.main_arg1) = m ((c.tc : Thread Cert.CqIdeal.nD Cert.CqIdeal.τ).loc Cert.CqIdeal.main_arg1)
          ∧ r.2.mem ((c.tc : Thread Cert.CqIdeal.nD Cert.CqIdeal.τ).loc Cert.CqIdeal.main_arg2) = m ((c.tc : Thread Cert.CqIdeal.nD Cert.CqIdeal.τ).loc Cert.CqIdeal.main_arg2))
      ∧ θ_run (Cert.CqRefIdeal.defs (F := Ideal)) (onTc (τ := Cert.CqRefIdeal.τ) (Cert.CqRefIdeal.main (F := Ideal))) ⟨m', fun _ => 0, g'⟩ (fun r => ∀ c : Dev Cert.CqRefIdeal.nD,
          r.2.mem ((c.tc : Thread Cert.CqRefIdeal.nD Cert.CqRefIdeal.τ).loc Cert.CqRefIdeal.main_v28) = v0 c
          ∧ r.2.mem ((c.tc : Thread Cert.CqRefIdeal.nD Cert.CqRefIdeal.τ).loc Cert.CqRefIdeal.main_arg0) = m' ((c.tc : Thread Cert.CqRefIdeal.nD Cert.CqRefIdeal.τ).loc Cert.CqRefIdeal.main_arg0)
          ∧ r.2.mem ((c.tc : Thread Cert.CqRefIdeal.nD Cert.CqRefIdeal.τ).loc Cert.CqRefIdeal.main_arg1) = m' ((c.tc : Thread Cert.CqRefIdeal.nD Cert.CqRefIdeal.τ).loc Cert.CqRefIdeal.main_arg1)
          ∧ r.2.mem ((c.tc : Thread Cert.CqRefIdeal.nD Cert.CqRefIdeal.τ).loc Cert.CqRefIdeal.main_arg2) = m' ((c.tc : Thread Cert.CqRefIdeal.nD Cert.CqRefIdeal.τ).loc Cert.CqRefIdeal.main_arg2))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)) →
    ∃ (v0 : (c : Dev Cert.KvIdeal.nD) → Buf (Elt Ideal) ((c.tc : Thread Cert.KvIdeal.nD Cert.KvIdeal.τ).loc Cert.KvIdeal.main_v9_0)) (v1 : (c : Dev Cert.KvIdeal.nD) → Buf (Elt Ideal) ((c.tc : Thread Cert.KvIdeal.nD Cert.KvIdeal.τ).loc Cert.KvIdeal.main_v9_1)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v9_0) = v0 c
          ∧ r.2.mem ((c.tc : Thread Cert.KvIdeal.nD Cert.KvIdeal.τ).loc Cert.KvIdeal.main_v9_1) = v1 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v11) = v0 c
          ∧ r.2.mem ((c.tc : Thread Cert.KvRefIdeal.nD Cert.KvRefIdeal.τ).loc Cert.KvRefIdeal.main_v13) = v1 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2))

def preserves_Q_QIdeal : Prop :=
  True

def algebraic_QIdeal_QRefIdeal [hQIdeal : Cert.QIdeal.Facts] [hQRefIdeal : Cert.QRefIdeal.Facts] : Prop :=
  ∀ (m : (ℓ : Loc Cert.QIdeal.nD Cert.QIdeal.τ Cert.QIdeal.sig) → Buf (Elt Ideal) ℓ) (g : Dev Cert.QIdeal.nD → PrngReg)
    (m' : (ℓ : Loc Cert.QRefIdeal.nD Cert.QRefIdeal.τ Cert.QRefIdeal.sig) → Buf (Elt Ideal) ℓ) (g' : Dev Cert.QRefIdeal.nD → PrngReg), Pre_QIdeal m →
    (∀ c : Dev Cert.QIdeal.nD,
      m' ((c.tc : Thread Cert.QRefIdeal.nD Cert.QRefIdeal.τ).loc Cert.QRefIdeal.main_arg0) = m ((c.tc : Thread Cert.QIdeal.nD Cert.QIdeal.τ).loc Cert.QIdeal.main_arg0)
      ∧ m' ((c.tc : Thread Cert.QRefIdeal.nD Cert.QRefIdeal.τ).loc Cert.QRefIdeal.main_arg1) = m ((c.tc : Thread Cert.QIdeal.nD Cert.QIdeal.τ).loc Cert.QIdeal.main_arg1)
      ∧ m' ((c.tc : Thread Cert.QRefIdeal.nD Cert.QRefIdeal.τ).loc Cert.QRefIdeal.main_arg2) = m ((c.tc : Thread Cert.QIdeal.nD Cert.QIdeal.τ).loc Cert.QIdeal.main_arg2)) →
    ∃ (v0 : (c : Dev Cert.QIdeal.nD) → Buf (Elt Ideal) ((c.tc : Thread Cert.QIdeal.nD Cert.QIdeal.τ).loc Cert.QIdeal.main_v34)),
      θ_run (Cert.QIdeal.defs (F := Ideal)) (onTc (τ := Cert.QIdeal.τ) (Cert.QIdeal.main (F := Ideal))) ⟨m, fun _ => 0, g⟩ (fun r => ∀ c : Dev Cert.QIdeal.nD,
          r.2.mem ((c.tc : Thread Cert.QIdeal.nD Cert.QIdeal.τ).loc Cert.QIdeal.main_v34) = v0 c
          ∧ r.2.mem ((c.tc : Thread Cert.QIdeal.nD Cert.QIdeal.τ).loc Cert.QIdeal.main_arg0) = m ((c.tc : Thread Cert.QIdeal.nD Cert.QIdeal.τ).loc Cert.QIdeal.main_arg0)
          ∧ r.2.mem ((c.tc : Thread Cert.QIdeal.nD Cert.QIdeal.τ).loc Cert.QIdeal.main_arg1) = m ((c.tc : Thread Cert.QIdeal.nD Cert.QIdeal.τ).loc Cert.QIdeal.main_arg1)
          ∧ r.2.mem ((c.tc : Thread Cert.QIdeal.nD Cert.QIdeal.τ).loc Cert.QIdeal.main_arg2) = m ((c.tc : Thread Cert.QIdeal.nD Cert.QIdeal.τ).loc Cert.QIdeal.main_arg2))
      ∧ θ_run (Cert.QRefIdeal.defs (F := Ideal)) (onTc (τ := Cert.QRefIdeal.τ) (Cert.QRefIdeal.main (F := Ideal))) ⟨m', fun _ => 0, g'⟩ (fun r => ∀ c : Dev Cert.QRefIdeal.nD,
          r.2.mem ((c.tc : Thread Cert.QRefIdeal.nD Cert.QRefIdeal.τ).loc Cert.QRefIdeal.main_v50) = v0 c
          ∧ r.2.mem ((c.tc : Thread Cert.QRefIdeal.nD Cert.QRefIdeal.τ).loc Cert.QRefIdeal.main_arg0) = m' ((c.tc : Thread Cert.QRefIdeal.nD Cert.QRefIdeal.τ).loc Cert.QRefIdeal.main_arg0)
          ∧ r.2.mem ((c.tc : Thread Cert.QRefIdeal.nD Cert.QRefIdeal.τ).loc Cert.QRefIdeal.main_arg1) = m' ((c.tc : Thread Cert.QRefIdeal.nD Cert.QRefIdeal.τ).loc Cert.QRefIdeal.main_arg1)
          ∧ r.2.mem ((c.tc : Thread Cert.QRefIdeal.nD Cert.QRefIdeal.τ).loc Cert.QRefIdeal.main_arg2) = m' ((c.tc : Thread Cert.QRefIdeal.nD Cert.QRefIdeal.τ).loc Cert.QRefIdeal.main_arg2))

def preserves_Ckvr_CkvrIdeal : Prop :=
  True

def algebraic_CkvrIdeal_CkvrRefIdeal [hCkvrIdeal : Cert.CkvrIdeal.Facts] [hCkvrRefIdeal : Cert.CkvrRefIdeal.Facts] : Prop :=
  ∀ (m : (ℓ : Loc Cert.CkvrIdeal.nD Cert.CkvrIdeal.τ Cert.CkvrIdeal.sig) → Buf (Elt Ideal) ℓ) (g : Dev Cert.CkvrIdeal.nD → PrngReg)
    (m' : (ℓ : Loc Cert.CkvrRefIdeal.nD Cert.CkvrRefIdeal.τ Cert.CkvrRefIdeal.sig) → Buf (Elt Ideal) ℓ) (g' : Dev Cert.CkvrRefIdeal.nD → PrngReg), Pre_CkvrIdeal m →
    (∀ c : Dev Cert.CkvrIdeal.nD,
      m' ((c.tc : Thread Cert.CkvrRefIdeal.nD Cert.CkvrRefIdeal.τ).loc Cert.CkvrRefIdeal.main_arg0) = m ((c.tc : Thread Cert.CkvrIdeal.nD Cert.CkvrIdeal.τ).loc Cert.CkvrIdeal.main_arg0)
      ∧ m' ((c.tc : Thread Cert.CkvrRefIdeal.nD Cert.CkvrRefIdeal.τ).loc Cert.CkvrRefIdeal.main_arg1) = m ((c.tc : Thread Cert.CkvrIdeal.nD Cert.CkvrIdeal.τ).loc Cert.CkvrIdeal.main_arg1)
      ∧ m' ((c.tc : Thread Cert.CkvrRefIdeal.nD Cert.CkvrRefIdeal.τ).loc Cert.CkvrRefIdeal.main_arg2) = m ((c.tc : Thread Cert.CkvrIdeal.nD Cert.CkvrIdeal.τ).loc Cert.CkvrIdeal.main_arg2)
      ∧ m' ((c.tc : Thread Cert.CkvrRefIdeal.nD Cert.CkvrRefIdeal.τ).loc Cert.CkvrRefIdeal.main_arg3) = m ((c.tc : Thread Cert.CkvrIdeal.nD Cert.CkvrIdeal.τ).loc Cert.CkvrIdeal.main_arg3)) →
    ∃ (v0 : (c : Dev Cert.CkvrIdeal.nD) → Buf (Elt Ideal) ((c.tc : Thread Cert.CkvrIdeal.nD Cert.CkvrIdeal.τ).loc Cert.CkvrIdeal.main_v36_0)) (v1 : (c : Dev Cert.CkvrIdeal.nD) → Buf (Elt Ideal) ((c.tc : Thread Cert.CkvrIdeal.nD Cert.CkvrIdeal.τ).loc Cert.CkvrIdeal.main_v36_1)),
      θ_run (Cert.CkvrIdeal.defs (F := Ideal)) (onTc (τ := Cert.CkvrIdeal.τ) (Cert.CkvrIdeal.main (F := Ideal))) ⟨m, fun _ => 0, g⟩ (fun r => ∀ c : Dev Cert.CkvrIdeal.nD,
          r.2.mem ((c.tc : Thread Cert.CkvrIdeal.nD Cert.CkvrIdeal.τ).loc Cert.CkvrIdeal.main_v36_0) = v0 c
          ∧ r.2.mem ((c.tc : Thread Cert.CkvrIdeal.nD Cert.CkvrIdeal.τ).loc Cert.CkvrIdeal.main_v36_1) = v1 c
          ∧ r.2.mem ((c.tc : Thread Cert.CkvrIdeal.nD Cert.CkvrIdeal.τ).loc Cert.CkvrIdeal.main_arg0) = m ((c.tc : Thread Cert.CkvrIdeal.nD Cert.CkvrIdeal.τ).loc Cert.CkvrIdeal.main_arg0)
          ∧ r.2.mem ((c.tc : Thread Cert.CkvrIdeal.nD Cert.CkvrIdeal.τ).loc Cert.CkvrIdeal.main_arg1) = m ((c.tc : Thread Cert.CkvrIdeal.nD Cert.CkvrIdeal.τ).loc Cert.CkvrIdeal.main_arg1)
          ∧ r.2.mem ((c.tc : Thread Cert.CkvrIdeal.nD Cert.CkvrIdeal.τ).loc Cert.CkvrIdeal.main_arg2) = m ((c.tc : Thread Cert.CkvrIdeal.nD Cert.CkvrIdeal.τ).loc Cert.CkvrIdeal.main_arg2)
          ∧ r.2.mem ((c.tc : Thread Cert.CkvrIdeal.nD Cert.CkvrIdeal.τ).loc Cert.CkvrIdeal.main_arg3) = m ((c.tc : Thread Cert.CkvrIdeal.nD Cert.CkvrIdeal.τ).loc Cert.CkvrIdeal.main_arg3))
      ∧ θ_run (Cert.CkvrRefIdeal.defs (F := Ideal)) (onTc (τ := Cert.CkvrRefIdeal.τ) (Cert.CkvrRefIdeal.main (F := Ideal))) ⟨m', fun _ => 0, g'⟩ (fun r => ∀ c : Dev Cert.CkvrRefIdeal.nD,
          r.2.mem ((c.tc : Thread Cert.CkvrRefIdeal.nD Cert.CkvrRefIdeal.τ).loc Cert.CkvrRefIdeal.main_v49) = v0 c
          ∧ r.2.mem ((c.tc : Thread Cert.CkvrRefIdeal.nD Cert.CkvrRefIdeal.τ).loc Cert.CkvrRefIdeal.main_v50) = v1 c
          ∧ r.2.mem ((c.tc : Thread Cert.CkvrRefIdeal.nD Cert.CkvrRefIdeal.τ).loc Cert.CkvrRefIdeal.main_arg0) = m' ((c.tc : Thread Cert.CkvrRefIdeal.nD Cert.CkvrRefIdeal.τ).loc Cert.CkvrRefIdeal.main_arg0)
          ∧ r.2.mem ((c.tc : Thread Cert.CkvrRefIdeal.nD Cert.CkvrRefIdeal.τ).loc Cert.CkvrRefIdeal.main_arg1) = m' ((c.tc : Thread Cert.CkvrRefIdeal.nD Cert.CkvrRefIdeal.τ).loc Cert.CkvrRefIdeal.main_arg1)
          ∧ r.2.mem ((c.tc : Thread Cert.CkvrRefIdeal.nD Cert.CkvrRefIdeal.τ).loc Cert.CkvrRefIdeal.main_arg2) = m' ((c.tc : Thread Cert.CkvrRefIdeal.nD Cert.CkvrRefIdeal.τ).loc Cert.CkvrRefIdeal.main_arg2)
          ∧ r.2.mem ((c.tc : Thread Cert.CkvrRefIdeal.nD Cert.CkvrRefIdeal.τ).loc Cert.CkvrRefIdeal.main_arg3) = m' ((c.tc : Thread Cert.CkvrRefIdeal.nD Cert.CkvrRefIdeal.τ).loc Cert.CkvrRefIdeal.main_arg3))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)) →
    ∃ (v0 : (c : Dev Cert.ConvIdeal.nD) → Buf (Elt Ideal) ((c.tc : Thread Cert.ConvIdeal.nD Cert.ConvIdeal.τ).loc Cert.ConvIdeal.main_v12)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v12) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v255) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5))

def preserves_Flash_FlashIdeal : Prop :=
  True

def algebraic_FlashIdeal_FlashRefIdeal_pre_finite_query_and_key [hFlashIdeal : Cert.FlashIdeal.Facts] [hFlashRefIdeal : Cert.FlashRefIdeal.Facts] [hPre_finite_query_and_key : Cert.Pre_finite_query_and_key.Facts] : Prop :=
  ∀ (m : (ℓ : Loc Cert.FlashIdeal.nD Cert.FlashIdeal.τ Cert.FlashIdeal.sig) → Buf (Elt Ideal) ℓ) (g : Dev Cert.FlashIdeal.nD → PrngReg)
    (m' : (ℓ : Loc Cert.FlashRefIdeal.nD Cert.FlashRefIdeal.τ Cert.FlashRefIdeal.sig) → Buf (Elt Ideal) ℓ) (g' : Dev Cert.FlashRefIdeal.nD → PrngReg), Pre_FlashIdeal_finite_query_and_key m →
    (∀ c : Dev Cert.FlashIdeal.nD,
      m' ((c.tc : Thread Cert.FlashRefIdeal.nD Cert.FlashRefIdeal.τ).loc Cert.FlashRefIdeal.main_arg0) = m ((c.tc : Thread Cert.FlashIdeal.nD Cert.FlashIdeal.τ).loc Cert.FlashIdeal.main_arg0)
      ∧ m' ((c.tc : Thread Cert.FlashRefIdeal.nD Cert.FlashRefIdeal.τ).loc Cert.FlashRefIdeal.main_arg1) = m ((c.tc : Thread Cert.FlashIdeal.nD Cert.FlashIdeal.τ).loc Cert.FlashIdeal.main_arg1)
      ∧ m' ((c.tc : Thread Cert.FlashRefIdeal.nD Cert.FlashRefIdeal.τ).loc Cert.FlashRefIdeal.main_arg2) = m ((c.tc : Thread Cert.FlashIdeal.nD Cert.FlashIdeal.τ).loc Cert.FlashIdeal.main_arg2)
      ∧ m' ((c.tc : Thread Cert.FlashRefIdeal.nD Cert.FlashRefIdeal.τ).loc Cert.FlashRefIdeal.main_arg3) = m ((c.tc : Thread Cert.FlashIdeal.nD Cert.FlashIdeal.τ).loc Cert.FlashIdeal.main_arg3)) →
    ∃ (v0 : (c : Dev Cert.FlashIdeal.nD) → Buf (Elt Ideal) ((c.tc : Thread Cert.FlashIdeal.nD Cert.FlashIdeal.τ).loc Cert.FlashIdeal.main_v0)),
      θ_run (Cert.FlashIdeal.defs (F := Ideal)) (onTc (τ := Cert.FlashIdeal.τ) (Cert.FlashIdeal.main (F := Ideal))) ⟨m, fun _ => 0, g⟩ (fun r => ∀ c : Dev Cert.FlashIdeal.nD,
          r.2.mem ((c.tc : Thread Cert.FlashIdeal.nD Cert.FlashIdeal.τ).loc Cert.FlashIdeal.main_v0) = v0 c
          ∧ r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
          ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
          ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
          ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ θ_run (Cert.FlashRefIdeal.defs (F := Ideal)) (onTc (τ := Cert.FlashRefIdeal.τ) (Cert.FlashRefIdeal.main (F := Ideal))) ⟨m', fun _ => 0, g'⟩ (fun r => ∀ c : Dev Cert.FlashRefIdeal.nD,
          r.2.mem ((c.tc : Thread Cert.FlashRefIdeal.nD Cert.FlashRefIdeal.τ).loc Cert.FlashRefIdeal.main_v29) = v0 c
          ∧ r.2.mem ((c.tc : Thread Cert.FlashRefIdeal.nD Cert.FlashRefIdeal.τ).loc Cert.FlashRefIdeal.main_arg0) = m' ((c.tc : Thread Cert.FlashRefIdeal.nD Cert.FlashRefIdeal.τ).loc Cert.FlashRefIdeal.main_arg0)
          ∧ r.2.mem ((c.tc : Thread Cert.FlashRefIdeal.nD Cert.FlashRefIdeal.τ).loc Cert.FlashRefIdeal.main_arg1) = m' ((c.tc : Thread Cert.FlashRefIdeal.nD Cert.FlashRefIdeal.τ).loc Cert.FlashRefIdeal.main_arg1)
          ∧ r.2.mem ((c.tc : Thread Cert.FlashRefIdeal.nD Cert.FlashRefIdeal.τ).loc Cert.FlashRefIdeal.main_arg2) = m' ((c.tc : Thread Cert.FlashRefIdeal.nD Cert.FlashRefIdeal.τ).loc Cert.FlashRefIdeal.main_arg2)
          ∧ r.2.mem ((c.tc : Thread Cert.FlashRefIdeal.nD Cert.FlashRefIdeal.τ).loc Cert.FlashRefIdeal.main_arg3) = m' ((c.tc : Thread Cert.FlashRefIdeal.nD Cert.FlashRefIdeal.τ).loc Cert.FlashRefIdeal.main_arg3))

def Claim : Prop :=
  ∃ (hGlu : Cert.Glu.Facts) (hGluIdeal : Cert.GluIdeal.Facts) (hGluRefIdeal : Cert.GluRefIdeal.Facts) (hUlru : Cert.Ulru.Facts) (hUlruIdeal : Cert.UlruIdeal.Facts) (hUlruRefIdeal : Cert.UlruRefIdeal.Facts) (hGconv : Cert.Gconv.Facts) (hGconvIdeal : Cert.GconvIdeal.Facts) (hGconvRefIdeal : Cert.GconvRefIdeal.Facts) (hGmla : Cert.Gmla.Facts) (hGmlaIdeal : Cert.GmlaIdeal.Facts) (hGmlaRefIdeal : Cert.GmlaRefIdeal.Facts) (hGlru : Cert.Glru.Facts) (hGlruIdeal : Cert.GlruIdeal.Facts) (hGlruRefIdeal : Cert.GlruRefIdeal.Facts) (hGm : Cert.Gm.Facts) (hGmIdeal : Cert.GmIdeal.Facts) (hGmRefIdeal : Cert.GmRefIdeal.Facts) (hMerge : Cert.Merge.Facts) (hMergeIdeal : Cert.MergeIdeal.Facts) (hMergeRefIdeal : Cert.MergeRefIdeal.Facts) (hOut : Cert.Out.Facts) (hOutIdeal : Cert.OutIdeal.Facts) (hOutRefIdeal : Cert.OutRefIdeal.Facts) (hPost : Cert.Post.Facts) (hPostIdeal : Cert.PostIdeal.Facts) (hPostRefIdeal : Cert.PostRefIdeal.Facts) (hLast : Cert.Last.Facts) (hLastIdeal : Cert.LastIdeal.Facts) (hLastRefIdeal : Cert.LastRefIdeal.Facts) (hPrenorm : Cert.Prenorm.Facts) (hPrenormIdeal : Cert.PrenormIdeal.Facts) (hPrenormRefIdeal : Cert.PrenormRefIdeal.Facts) (hCq : Cert.Cq.Facts) (hCqIdeal : Cert.CqIdeal.Facts) (hCqRefIdeal : Cert.CqRefIdeal.Facts) (hKv : Cert.Kv.Facts) (hKvIdeal : Cert.KvIdeal.Facts) (hKvRefIdeal : Cert.KvRefIdeal.Facts) (hQ : Cert.Q.Facts) (hQIdeal : Cert.QIdeal.Facts) (hQRefIdeal : Cert.QRefIdeal.Facts) (hCkvr : Cert.Ckvr.Facts) (hCkvrIdeal : Cert.CkvrIdeal.Facts) (hCkvrRefIdeal : Cert.CkvrRefIdeal.Facts) (hConv : Cert.Conv.Facts) (hConvIdeal : Cert.ConvIdeal.Facts) (hConvRefIdeal : Cert.ConvRefIdeal.Facts) (hFlash : Cert.Flash.Facts) (hFlashIdeal : Cert.FlashIdeal.Facts) (hFlashRefIdeal : Cert.FlashRefIdeal.Facts) (hPre_finite_query_and_key : Cert.Pre_finite_query_and_key.Facts),
    quiescent_Glu (hGlu := hGlu)
    ∧ quiescent_GluIdeal (hGluIdeal := hGluIdeal)
    ∧ quiescent_GluRefIdeal (hGluRefIdeal := hGluRefIdeal)
    ∧ quiescent_Ulru (hUlru := hUlru)
    ∧ quiescent_UlruIdeal (hUlruIdeal := hUlruIdeal)
    ∧ quiescent_UlruRefIdeal (hUlruRefIdeal := hUlruRefIdeal)
    ∧ quiescent_Gconv (hGconv := hGconv)
    ∧ quiescent_GconvIdeal (hGconvIdeal := hGconvIdeal)
    ∧ quiescent_GconvRefIdeal (hGconvRefIdeal := hGconvRefIdeal)
    ∧ quiescent_Gmla (hGmla := hGmla)
    ∧ quiescent_GmlaIdeal (hGmlaIdeal := hGmlaIdeal)
    ∧ quiescent_GmlaRefIdeal (hGmlaRefIdeal := hGmlaRefIdeal)
    ∧ quiescent_Glru (hGlru := hGlru)
    ∧ quiescent_GlruIdeal (hGlruIdeal := hGlruIdeal)
    ∧ quiescent_GlruRefIdeal (hGlruRefIdeal := hGlruRefIdeal)
    ∧ quiescent_Gm (hGm := hGm)
    ∧ quiescent_GmIdeal (hGmIdeal := hGmIdeal)
    ∧ quiescent_GmRefIdeal (hGmRefIdeal := hGmRefIdeal)
    ∧ quiescent_Merge (hMerge := hMerge)
    ∧ quiescent_MergeIdeal (hMergeIdeal := hMergeIdeal)
    ∧ quiescent_MergeRefIdeal (hMergeRefIdeal := hMergeRefIdeal)
    ∧ quiescent_Out (hOut := hOut)
    ∧ quiescent_OutIdeal (hOutIdeal := hOutIdeal)
    ∧ quiescent_OutRefIdeal (hOutRefIdeal := hOutRefIdeal)
    ∧ quiescent_Post (hPost := hPost)
    ∧ quiescent_PostIdeal (hPostIdeal := hPostIdeal)
    ∧ quiescent_PostRefIdeal (hPostRefIdeal := hPostRefIdeal)
    ∧ quiescent_Last (hLast := hLast)
    ∧ quiescent_LastIdeal (hLastIdeal := hLastIdeal)
    ∧ quiescent_LastRefIdeal (hLastRefIdeal := hLastRefIdeal)
    ∧ quiescent_Prenorm (hPrenorm := hPrenorm)
    ∧ quiescent_PrenormIdeal (hPrenormIdeal := hPrenormIdeal)
    ∧ quiescent_PrenormRefIdeal (hPrenormRefIdeal := hPrenormRefIdeal)
    ∧ quiescent_Cq (hCq := hCq)
    ∧ quiescent_CqIdeal (hCqIdeal := hCqIdeal)
    ∧ quiescent_CqRefIdeal (hCqRefIdeal := hCqRefIdeal)
    ∧ quiescent_Kv (hKv := hKv)
    ∧ quiescent_KvIdeal (hKvIdeal := hKvIdeal)
    ∧ quiescent_KvRefIdeal (hKvRefIdeal := hKvRefIdeal)
    ∧ quiescent_Q (hQ := hQ)
    ∧ quiescent_QIdeal (hQIdeal := hQIdeal)
    ∧ quiescent_QRefIdeal (hQRefIdeal := hQRefIdeal)
    ∧ quiescent_Ckvr (hCkvr := hCkvr)
    ∧ quiescent_CkvrIdeal (hCkvrIdeal := hCkvrIdeal)
    ∧ quiescent_CkvrRefIdeal (hCkvrRefIdeal := hCkvrRefIdeal)
    ∧ quiescent_Conv (hConv := hConv)
    ∧ quiescent_ConvIdeal (hConvIdeal := hConvIdeal)
    ∧ quiescent_ConvRefIdeal (hConvRefIdeal := hConvRefIdeal)
    ∧ quiescent_Flash (hFlash := hFlash)
    ∧ quiescent_FlashIdeal (hFlashIdeal := hFlashIdeal)
    ∧ quiescent_FlashIdeal_pre_finite_query_and_key (hFlashIdeal := hFlashIdeal) (hPre_finite_query_and_key := hPre_finite_query_and_key)
    ∧ quiescent_FlashRefIdeal (hFlashRefIdeal := hFlashRefIdeal)
    ∧ quiescent_FlashRefIdeal_pre_finite_query_and_key (hFlashRefIdeal := hFlashRefIdeal) (hPre_finite_query_and_key := hPre_finite_query_and_key)
    ∧ preserves_Glu_GluIdeal
    ∧ algebraic_GluIdeal_GluRefIdeal (hGluIdeal := hGluIdeal) (hGluRefIdeal := hGluRefIdeal)
    ∧ preserves_Ulru_UlruIdeal
    ∧ algebraic_UlruIdeal_UlruRefIdeal (hUlruIdeal := hUlruIdeal) (hUlruRefIdeal := hUlruRefIdeal)
    ∧ preserves_Gconv_GconvIdeal
    ∧ algebraic_GconvIdeal_GconvRefIdeal (hGconvIdeal := hGconvIdeal) (hGconvRefIdeal := hGconvRefIdeal)
    ∧ preserves_Gmla_GmlaIdeal
    ∧ algebraic_GmlaIdeal_GmlaRefIdeal (hGmlaIdeal := hGmlaIdeal) (hGmlaRefIdeal := hGmlaRefIdeal)
    ∧ preserves_Glru_GlruIdeal
    ∧ algebraic_GlruIdeal_GlruRefIdeal (hGlruIdeal := hGlruIdeal) (hGlruRefIdeal := hGlruRefIdeal)
    ∧ preserves_Gm_GmIdeal
    ∧ algebraic_GmIdeal_GmRefIdeal (hGmIdeal := hGmIdeal) (hGmRefIdeal := hGmRefIdeal)
    ∧ preserves_Merge_MergeIdeal
    ∧ algebraic_MergeIdeal_MergeRefIdeal (hMergeIdeal := hMergeIdeal) (hMergeRefIdeal := hMergeRefIdeal)
    ∧ preserves_Out_OutIdeal
    ∧ algebraic_OutIdeal_OutRefIdeal (hOutIdeal := hOutIdeal) (hOutRefIdeal := hOutRefIdeal)
    ∧ preserves_Post_PostIdeal
    ∧ algebraic_PostIdeal_PostRefIdeal (hPostIdeal := hPostIdeal) (hPostRefIdeal := hPostRefIdeal)
    ∧ preserves_Last_LastIdeal
    ∧ algebraic_LastIdeal_LastRefIdeal (hLastIdeal := hLastIdeal) (hLastRefIdeal := hLastRefIdeal)
    ∧ preserves_Prenorm_PrenormIdeal
    ∧ algebraic_PrenormIdeal_PrenormRefIdeal (hPrenormIdeal := hPrenormIdeal) (hPrenormRefIdeal := hPrenormRefIdeal)
    ∧ preserves_Cq_CqIdeal
    ∧ algebraic_CqIdeal_CqRefIdeal (hCqIdeal := hCqIdeal) (hCqRefIdeal := hCqRefIdeal)
    ∧ preserves_Kv_KvIdeal
    ∧ algebraic_KvIdeal_KvRefIdeal (hKvIdeal := hKvIdeal) (hKvRefIdeal := hKvRefIdeal)
    ∧ preserves_Q_QIdeal
    ∧ algebraic_QIdeal_QRefIdeal (hQIdeal := hQIdeal) (hQRefIdeal := hQRefIdeal)
    ∧ preserves_Ckvr_CkvrIdeal
    ∧ algebraic_CkvrIdeal_CkvrRefIdeal (hCkvrIdeal := hCkvrIdeal) (hCkvrRefIdeal := hCkvrRefIdeal)
    ∧ preserves_Conv_ConvIdeal
    ∧ algebraic_ConvIdeal_ConvRefIdeal (hConvIdeal := hConvIdeal) (hConvRefIdeal := hConvRefIdeal)
    ∧ preserves_Flash_FlashIdeal
    ∧ algebraic_FlashIdeal_FlashRefIdeal_pre_finite_query_and_key (hFlashIdeal := hFlashIdeal) (hFlashRefIdeal := hFlashRefIdeal) (hPre_finite_query_and_key := hPre_finite_query_and_key)
-- ==== Pre_finite_query_and_key.lean ====
abbrev S32x8192x256 : Shape := ⟨3, ![32, 8192, 256]⟩
abbrev S32x8192x128 : Shape := ⟨3, ![32, 8192, 128]⟩
abbrev S8192x4096 : Shape := ⟨2, ![8192, 4096]⟩
abbrev S_ : Shape := ⟨0, ![]⟩

class Facts : Prop where
  bcast_S_S32x8192x256 : S_.BroadcastsInDim S32x8192x256 (![] : Fin 0 → Fin S32x8192x256.rank)
  reducesTo_S32x8192x256_S_d0_1_2 : S32x8192x256.ReducesTo [0, 1, 2] S_
  h_S_ : 0 < S_.numel

variable [Facts]

def fn {F : FTy → Type} [FloatOps F] (main_arg0 : FVec F S32x8192x256 .bf16) (main_arg1 : FVec F S32x8192x256 .bf16) (main_arg2 : FVec F S32x8192x128 .bf16) (main_arg3 : FVec F S8192x4096 .bf16) : IVec S_ 1 :=
  let main_v0 : FVec F S32x8192x256 .bf16 := Host.absf main_arg0
  let main_cst : FVec F S_ .bf16 := constant S_ .bf16 0x7F80#16
  let main_v1 : FVec F S32x8192x256 .bf16 := broadcastInDim S32x8192x256 ![] bcast_S_S32x8192x256 main_cst
  let main_v2 : IVec S32x8192x256 1 := cmpf .olt main_v0 main_v1
  let main_c : IVec S_ 1 := constantI S_ 1 1#1
  let main_v3 : IVec S_ 1 := (fun x v => Host.reduce IntOp.andi x v reducesTo_S32x8192x256_S_d0_1_2 h_S_) main_v2 main_c
  let main_v4 : FVec F S32x8192x256 .bf16 := Host.absf main_arg1
  let main_cst_0 : FVec F S_ .bf16 := constant S_ .bf16 0x7F80#16
  let main_v5 : FVec F S32x8192x256 .bf16 := broadcastInDim S32x8192x256 ![] bcast_S_S32x8192x256 main_cst_0
  let main_v6 : IVec S32x8192x256 1 := cmpf .olt main_v4 main_v5
  let main_c_1 : IVec S_ 1 := constantI S_ 1 1#1
  let main_v7 : IVec S_ 1 := (fun x v => Host.reduce IntOp.andi x v reducesTo_S32x8192x256_S_d0_1_2 h_S_) main_v6 main_c_1
  let main_v8 : IVec S_ 1 := andi main_v3 main_v7
  main_v8
-- ==== Glu.lean ====
abbrev S8192x4096 : Shape := ⟨2, ![8192, 4096]⟩
abbrev S4x4096x28736 : Shape := ⟨3, ![4, 4096, 28736]⟩
abbrev S4x28736x4096 : Shape := ⟨3, ![4, 28736, 4096]⟩
abbrev S8192x2048 : Shape := ⟨2, ![8192, 2048]⟩
abbrev S1024x4096 : Shape := ⟨2, ![1024, 4096]⟩
abbrev S1x256x4096 : Shape := ⟨3, ![1, 256, 4096]⟩
abbrev S1024x256 : Shape := ⟨2, ![1024, 256]⟩
abbrev S256x4096 : Shape := ⟨2, ![256, 4096]⟩

abbrev nBuf : Space → Nat
  | .hbm => 4
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S4x4096x28736, .f32⟩
  | .hbm, ⟨2, _⟩ => ⟨S4x28736x4096, .f32⟩
  | .hbm, ⟨3, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S1x256x4096, .f32⟩
  | .local _ .vmem, ⟨3, _⟩ => ⟨S1x256x4096, .f32⟩
  | .local _ .vmem, ⟨4, _⟩ => ⟨S1x256x4096, .f32⟩
  | .local _ .vmem, ⟨5, _⟩ => ⟨S1x256x4096, .f32⟩
  | .local _ .vmem, ⟨6, _⟩ => ⟨S1024x256, .f32⟩
  | .local _ .vmem, ⟨7, _⟩ => ⟨S1024x256, .f32⟩
  | .local _ .vmem, ⟨8, _⟩ => ⟨S256x4096, .bf16⟩
  | .local _ .vmem, ⟨9, _⟩ => ⟨S256x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let c0_i32 : BitVec 32 := 0#32
  let arg0 : BitVec 32 := BitVec.ofNat 32 (i 0).val
  let c256_i32 : BitVec 32 := 256#32
  let v0 : BitVec 32 := Scalar.muli arg0 c256_i32
  let v1 : BitVec 32 := Scalar.addi c0_i32 v0
  v1
def k0_mult2 (i : grid0.Coords) : BitVec 32 :=
  let c2048_i32 : BitVec 32 := 2048#32
  let arg0 : BitVec 32 := BitVec.ofNat 32 (i 0).val
  let c256_i32 : BitVec 32 := 256#32
  let v0 : BitVec 32 := Scalar.muli arg0 c256_i32
  let v1 : BitVec 32 := Scalar.addi c2048_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let c0_i32 : BitVec 32 := 0#32
  let v1 : BitVec 32 := Scalar.addi c0_i32 v0
  let v2 : BitVec 32 := v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let c2048_i32 : BitVec 32 := 2048#32
  let v1 : BitVec 32 := Scalar.addi c2048_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GluRefIdeal.lean ====
abbrev S8192x4096 : Shape := ⟨2, ![8192, 4096]⟩
abbrev S4x4096x28736 : Shape := ⟨3, ![4, 4096, 28736]⟩
abbrev S1x4096x28736 : Shape := ⟨3, ![1, 4096, 28736]⟩
abbrev S4096x28736 : Shape := ⟨2, ![4096, 28736]⟩
abbrev S8192x28736 : Shape := ⟨2, ![8192, 28736]⟩
abbrev S8192x2048 : Shape := ⟨2, ![8192, 2048]⟩
abbrev S8192x1536 : Shape := ⟨2, ![8192, 1536]⟩
abbrev S8192x512 : Shape := ⟨2, ![8192, 512]⟩
abbrev S8192x64 : Shape := ⟨2, ![8192, 64]⟩
abbrev S8192x12288 : Shape := ⟨2, ![8192, 12288]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x28736, .f32⟩
  | .hbm, ⟨2, _⟩ => ⟨S8192x4096, .f32⟩
  | .hbm, ⟨3, _⟩ => ⟨S1x4096x28736, .f32⟩
  | .hbm, ⟨4, _⟩ => ⟨S4096x28736, .f32⟩
  | .hbm, ⟨5, _⟩ => ⟨S8192x28736, .f32⟩
  | .hbm, ⟨6, _⟩ => ⟨S8192x4096, .f32⟩
  | .hbm, ⟨7, _⟩ => ⟨S8192x2048, .f32⟩
  | .hbm, ⟨8, _⟩ => ⟨S8192x1536, .f32⟩
  | .hbm, ⟨9, _⟩ => ⟨S8192x512, .f32⟩
  | .hbm, ⟨10, _⟩ => ⟨S8192x64, .f32⟩
  | .hbm, ⟨11, _⟩ => ⟨S8192x4096, .f32⟩
  | .hbm, ⟨12, _⟩ => ⟨S8192x2048, .f32⟩
  | .hbm, ⟨13, _⟩ => ⟨S8192x2048, .f32⟩
  | .hbm, ⟨14, _⟩ => ⟨S8192x12288, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst : Ref sig .tc := ⟨.hbm, 19, rfl⟩
abbrev main_v17 : Ref sig .tc := ⟨.hbm, 20, rfl⟩
abbrev main_v18 : Ref sig .tc := ⟨.hbm, 21, rfl⟩
abbrev main_cst_0 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩

abbrev nD : Nat := 1
abbrev τ : Topo := Topo.v7x

variable {F : FTy → Type} [FloatOps F]
-- ==== Ulru.lean ====
abbrev S8192x4096 : Shape := ⟨2, ![8192, 4096]⟩
abbrev S4x4096x28736 : Shape := ⟨3, ![4, 4096, 28736]⟩
abbrev S4x28736x4096 : Shape := ⟨3, ![4, 28736, 4096]⟩
abbrev S8192x2048 : Shape := ⟨2, ![8192, 2048]⟩
abbrev S1024x4096 : Shape := ⟨2, ![1024, 4096]⟩
abbrev S1x512x4096 : Shape := ⟨3, ![1, 512, 4096]⟩
abbrev S1024x512 : Shape := ⟨2, ![1024, 512]⟩
abbrev S512x4096 : Shape := ⟨2, ![512, 4096]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4x4096x28736, .f32⟩
  | .hbm, ⟨2, _⟩ => ⟨S4x28736x4096, .f32⟩
  | .hbm, ⟨3, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1024x512, .f32⟩
  | .local _ .vmem, ⟨5, _⟩ => ⟨S1024x512, .f32⟩
  | .local _ .vmem, ⟨6, _⟩ => ⟨S512x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let c12352_i32 : BitVec 32 := 12352#32
  let arg0 : BitVec 32 := BitVec.ofNat 32 (i 0).val
  let c512_i32 : BitVec 32 := 512#32
  let v0 : BitVec 32 := Scalar.muli arg0 c512_i32
  let v1 : BitVec 32 := Scalar.addi c12352_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c12352_i32 : BitVec 32 := 12352#32
  let v1 : BitVec 32 := Scalar.addi c12352_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UlruRefIdeal.lean ====
abbrev S8192x4096 : Shape := ⟨2, ![8192, 4096]⟩
abbrev S4x4096x28736 : Shape := ⟨3, ![4, 4096, 28736]⟩
abbrev S1x4096x28736 : Shape := ⟨3, ![1, 4096, 28736]⟩
abbrev S4096x28736 : Shape := ⟨2, ![4096, 28736]⟩
abbrev S8192x28736 : Shape := ⟨2, ![8192, 28736]⟩
abbrev S8192x2048 : Shape := ⟨2, ![8192, 2048]⟩
abbrev S8192x1536 : Shape := ⟨2, ![8192, 1536]⟩
abbrev S8192x512 : Shape := ⟨2, ![8192, 512]⟩
abbrev S8192x64 : Shape := ⟨2, ![8192, 64]⟩
abbrev S8192x12288 : Shape := ⟨2, ![8192, 12288]⟩

abbrev nBuf : Space → Nat
  | .hbm => 15
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x28736, .f32⟩
  | .hbm, ⟨2, _⟩ => ⟨S8192x4096, .f32⟩
  | .hbm, ⟨3, _⟩ => ⟨S1x4096x28736, .f32⟩
  | .hbm, ⟨4, _⟩ => ⟨S4096x28736, .f32⟩
  | .hbm, ⟨5, _⟩ => ⟨S8192x28736, .f32⟩
  | .hbm, ⟨6, _⟩ => ⟨S8192x4096, .f32⟩
  | .hbm, ⟨7, _⟩ => ⟨S8192x2048, .f32⟩
  | .hbm, ⟨8, _⟩ => ⟨S8192x1536, .f32⟩
  | .hbm, ⟨9, _⟩ => ⟨S8192x512, .f32⟩
  | .hbm, ⟨10, _⟩ => ⟨S8192x64, .f32⟩
  | .hbm, ⟨11, _⟩ => ⟨S8192x4096, .f32⟩
  | .hbm, ⟨12, _⟩ => ⟨S8192x2048, .f32⟩
  | .hbm, ⟨13, _⟩ => ⟨S8192x2048, .f32⟩
  | .hbm, ⟨14, _⟩ => ⟨S8192x12288, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== Gconv.lean ====
abbrev S8192x4096 : Shape := ⟨2, ![8192, 4096]⟩
abbrev S4x4096x28736 : Shape := ⟨3, ![4, 4096, 28736]⟩
abbrev S4x28736x4096 : Shape := ⟨3, ![4, 28736, 4096]⟩
abbrev S8192x2048 : Shape := ⟨2, ![8192, 2048]⟩
abbrev S1024x4096 : Shape := ⟨2, ![1024, 4096]⟩
abbrev S1x512x4096 : Shape := ⟨3, ![1, 512, 4096]⟩
abbrev S1024x512 : Shape := ⟨2, ![1024, 512]⟩
abbrev S512x4096 : Shape := ⟨2, ![512, 4096]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4x4096x28736, .f32⟩
  | .hbm, ⟨2, _⟩ => ⟨S4x28736x4096, .f32⟩
  | .hbm, ⟨3, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1024x512, .bf16⟩
  | .local _ .vmem, ⟨5, _⟩ => ⟨S1024x512, .bf16⟩
  | .local _ .vmem, ⟨6, _⟩ => ⟨S512x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let c4096_i32 : BitVec 32 := 4096#32
  let arg0 : BitVec 32 := BitVec.ofNat 32 (i 0).val
  let c512_i32 : BitVec 32 := 512#32
  let v0 : BitVec 32 := Scalar.muli arg0 c512_i32
  let v1 : BitVec 32 := Scalar.addi c4096_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.addi c4096_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GconvRefIdeal.lean ====
abbrev S8192x4096 : Shape := ⟨2, ![8192, 4096]⟩
abbrev S4x4096x28736 : Shape := ⟨3, ![4, 4096, 28736]⟩
abbrev S1x4096x28736 : Shape := ⟨3, ![1, 4096, 28736]⟩
abbrev S4096x28736 : Shape := ⟨2, ![4096, 28736]⟩
abbrev S8192x28736 : Shape := ⟨2, ![8192, 28736]⟩
abbrev S8192x2048 : Shape := ⟨2, ![8192, 2048]⟩
abbrev S8192x1536 : Shape := ⟨2, ![8192, 1536]⟩
abbrev S8192x512 : Shape := ⟨2, ![8192, 512]⟩
abbrev S8192x64 : Shape := ⟨2, ![8192, 64]⟩
abbrev S8192x12288 : Shape := ⟨2, ![8192, 12288]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x28736, .f32⟩
  | .hbm, ⟨2, _⟩ => ⟨S8192x4096, .f32⟩
  | .hbm, ⟨3, _⟩ => ⟨S1x4096x28736, .f32⟩
  | .hbm, ⟨4, _⟩ => ⟨S4096x28736, .f32⟩
  | .hbm, ⟨5, _⟩ => ⟨S8192x28736, .f32⟩
  | .hbm, ⟨6, _⟩ => ⟨S8192x4096, .f32⟩
  | .hbm, ⟨7, _⟩ => ⟨S8192x2048, .f32⟩
  | .hbm, ⟨8, _⟩ => ⟨S8192x1536, .f32⟩
  | .hbm, ⟨9, _⟩ => ⟨S8192x512, .f32⟩
  | .hbm, ⟨10, _⟩ => ⟨S8192x64, .f32⟩
  | .hbm, ⟨11, _⟩ => ⟨S8192x4096, .f32⟩
  | .hbm, ⟨12, _⟩ => ⟨S8192x2048, .f32⟩
  | .hbm, ⟨13, _⟩ => ⟨S8192x2048, .f32⟩
  | .hbm, ⟨14, _⟩ => ⟨S8192x12288, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== Gmla.lean ====
abbrev S8192x4096 : Shape := ⟨2, ![8192, 4096]⟩
abbrev S4x4096x28736 : Shape := ⟨3, ![4, 4096, 28736]⟩
abbrev S4x28736x4096 : Shape := ⟨3, ![4, 28736, 4096]⟩
abbrev S1024x4096 : Shape := ⟨2, ![1024, 4096]⟩
abbrev S1x512x4096 : Shape := ⟨3, ![1, 512, 4096]⟩
abbrev S1024x512 : Shape := ⟨2, ![1024, 512]⟩
abbrev S512x4096 : Shape := ⟨2, ![512, 4096]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4x4096x28736, .f32⟩
  | .hbm, ⟨2, _⟩ => ⟨S4x28736x4096, .f32⟩
  | .hbm, ⟨3, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1024x512, .bf16⟩
  | .local _ .vmem, ⟨5, _⟩ => ⟨S1024x512, .bf16⟩
  | .local _ .vmem, ⟨6, _⟩ => ⟨S512x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let c8256_i32 : BitVec 32 := 8256#32
  let arg0 : BitVec 32 := BitVec.ofNat 32 (i 0).val
  let c512_i32 : BitVec 32 := 512#32
  let v0 : BitVec 32 := Scalar.muli arg0 c512_i32
  let v1 : BitVec 32 := Scalar.addi c8256_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8256_i32 : BitVec 32 := 8256#32
  let v1 : BitVec 32 := Scalar.addi c8256_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GmlaRefIdeal.lean ====
abbrev S8192x4096 : Shape := ⟨2, ![8192, 4096]⟩
abbrev S4x4096x28736 : Shape := ⟨3, ![4, 4096, 28736]⟩
abbrev S1x4096x28736 : Shape := ⟨3, ![1, 4096, 28736]⟩
abbrev S4096x28736 : Shape := ⟨2, ![4096, 28736]⟩
abbrev S8192x28736 : Shape := ⟨2, ![8192, 28736]⟩
abbrev S8192x2048 : Shape := ⟨2, ![8192, 2048]⟩
abbrev S8192x1536 : Shape := ⟨2, ![8192, 1536]⟩
abbrev S8192x512 : Shape := ⟨2, ![8192, 512]⟩
abbrev S8192x64 : Shape := ⟨2, ![8192, 64]⟩
abbrev S8192x12288 : Shape := ⟨2, ![8192, 12288]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x28736, .f32⟩
  | .hbm, ⟨2, _⟩ => ⟨S8192x4096, .f32⟩
  | .hbm, ⟨3, _⟩ => ⟨S1x4096x28736, .f32⟩
  | .hbm, ⟨4, _⟩ => ⟨S4096x28736, .f32⟩
  | .hbm, ⟨5, _⟩ => ⟨S8192x28736, .f32⟩
  | .hbm, ⟨6, _⟩ => ⟨S8192x4096, .f32⟩
  | .hbm, ⟨7, _⟩ => ⟨S8192x2048, .f32⟩
  | .hbm, ⟨8, _⟩ => ⟨S8192x1536, .f32⟩
  | .hbm, ⟨9, _⟩ => ⟨S8192x512, .f32⟩
  | .hbm, ⟨10, _⟩ => ⟨S8192x64, .f32⟩
  | .hbm, ⟨11, _⟩ => ⟨S8192x4096, .f32⟩
  | .hbm, ⟨12, _⟩ => ⟨S8192x2048, .f32⟩
  | .hbm, ⟨13, _⟩ => ⟨S8192x2048, .f32⟩
  | .hbm, ⟨14, _⟩ => ⟨S8192x12288, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== Glru.lean ====
abbrev S8192x4096 : Shape := ⟨2, ![8192, 4096]⟩
abbrev S4x4096x28736 : Shape := ⟨3, ![4, 4096, 28736]⟩
abbrev S4x28736x4096 : Shape := ⟨3, ![4, 28736, 4096]⟩
abbrev S8192x2048 : Shape := ⟨2, ![8192, 2048]⟩
abbrev S1024x4096 : Shape := ⟨2, ![1024, 4096]⟩
abbrev S1x512x4096 : Shape := ⟨3, ![1, 512, 4096]⟩
abbrev S1024x512 : Shape := ⟨2, ![1024, 512]⟩
abbrev S512x4096 : Shape := ⟨2, ![512, 4096]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4x4096x28736, .f32⟩
  | .hbm, ⟨2, _⟩ => ⟨S4x28736x4096, .f32⟩
  | .hbm, ⟨3, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1024x512, .bf16⟩
  | .local _ .vmem, ⟨5, _⟩ => ⟨S1024x512, .bf16⟩
  | .local _ .vmem, ⟨6, _⟩ => ⟨S512x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let c14400_i32 : BitVec 32 := 14400#32
  let arg0 : BitVec 32 := BitVec.ofNat 32 (i 0).val
  let c512_i32 : BitVec 32 := 512#32
  let v0 : BitVec 32 := Scalar.muli arg0 c512_i32
  let v1 : BitVec 32 := Scalar.addi c14400_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c14400_i32 : BitVec 32 := 14400#32
  let v1 : BitVec 32 := Scalar.addi c14400_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GlruRefIdeal.lean ====
abbrev S8192x4096 : Shape := ⟨2, ![8192, 4096]⟩
abbrev S4x4096x28736 : Shape := ⟨3, ![4, 4096, 28736]⟩
abbrev S1x4096x28736 : Shape := ⟨3, ![1, 4096, 28736]⟩
abbrev S4096x28736 : Shape := ⟨2, ![4096, 28736]⟩
abbrev S8192x28736 : Shape := ⟨2, ![8192, 28736]⟩
abbrev S8192x2048 : Shape := ⟨2, ![8192, 2048]⟩
abbrev S8192x1536 : Shape := ⟨2, ![8192, 1536]⟩
abbrev S8192x512 : Shape := ⟨2, ![8192, 512]⟩
abbrev S8192x64 : Shape := ⟨2, ![8192, 64]⟩
abbrev S8192x12288 : Shape := ⟨2, ![8192, 12288]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x28736, .f32⟩
  | .hbm, ⟨2, _⟩ => ⟨S8192x4096, .f32⟩
  | .hbm, ⟨3, _⟩ => ⟨S1x4096x28736, .f32⟩
  | .hbm, ⟨4, _⟩ => ⟨S4096x28736, .f32⟩
  | .hbm, ⟨5, _⟩ => ⟨S8192x28736, .f32⟩
  | .hbm, ⟨6, _⟩ => ⟨S8192x4096, .f32⟩
  | .hbm, ⟨7, _⟩ => ⟨S8192x2048, .f32⟩
  | .hbm, ⟨8, _⟩ => ⟨S8192x1536, .f32⟩
  | .hbm, ⟨9, _⟩ => ⟨S8192x512, .f32⟩
  | .hbm, ⟨10, _⟩ => ⟨S8192x64, .f32⟩
  | .hbm, ⟨11, _⟩ => ⟨S8192x4096, .f32⟩
  | .hbm, ⟨12, _⟩ => ⟨S8192x2048, .f32⟩
  | .hbm, ⟨13, _⟩ => ⟨S8192x2048, .f32⟩
  | .hbm, ⟨14, _⟩ => ⟨S8192x12288, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== Gm.lean ====
abbrev S8192x4096 : Shape := ⟨2, ![8192, 4096]⟩
abbrev S4x4096x28736 : Shape := ⟨3, ![4, 4096, 28736]⟩
abbrev S4x28736x4096 : Shape := ⟨3, ![4, 28736, 4096]⟩
abbrev S8192x12288 : Shape := ⟨2, ![8192, 12288]⟩
abbrev S1024x4096 : Shape := ⟨2, ![1024, 4096]⟩
abbrev S1x512x4096 : Shape := ⟨3, ![1, 512, 4096]⟩
abbrev S1024x512 : Shape := ⟨2, ![1024, 512]⟩
abbrev S512x4096 : Shape := ⟨2, ![512, 4096]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4x4096x28736, .f32⟩
  | .hbm, ⟨2, _⟩ => ⟨S4x28736x4096, .f32⟩
  | .hbm, ⟨3, _⟩ => ⟨S8192x12288, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1024x512, .bf16⟩
  | .local _ .vmem, ⟨5, _⟩ => ⟨S1024x512, .bf16⟩
  | .local _ .vmem, ⟨6, _⟩ => ⟨S512x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![24, 8], ![false, false]⟩

def k0_mult1 (i : grid0.Coords) : BitVec 32 :=
  let c16448_i32 : BitVec 32 := 16448#32
  let arg0 : BitVec 32 := BitVec.ofNat 32 (i 0).val
  let c512_i32 : BitVec 32 := 512#32
  let v0 : BitVec 32 := Scalar.muli arg0 c512_i32
  let v1 : BitVec 32 := Scalar.addi c16448_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c16448_i32 : BitVec 32 := 16448#32
  let v1 : BitVec 32 := Scalar.addi c16448_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GmRefIdeal.lean ====
abbrev S8192x4096 : Shape := ⟨2, ![8192, 4096]⟩
abbrev S4x4096x28736 : Shape := ⟨3, ![4, 4096, 28736]⟩
abbrev S1x4096x28736 : Shape := ⟨3, ![1, 4096, 28736]⟩
abbrev S4096x28736 : Shape := ⟨2, ![4096, 28736]⟩
abbrev S8192x28736 : Shape := ⟨2, ![8192, 28736]⟩
abbrev S8192x2048 : Shape := ⟨2, ![8192, 2048]⟩
abbrev S8192x1536 : Shape := ⟨2, ![8192, 1536]⟩
abbrev S8192x512 : Shape := ⟨2, ![8192, 512]⟩
abbrev S8192x64 : Shape := ⟨2, ![8192, 64]⟩
abbrev S8192x12288 : Shape := ⟨2, ![8192, 12288]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x28736, .f32⟩
  | .hbm, ⟨2, _⟩ => ⟨S8192x4096, .f32⟩
  | .hbm, ⟨3, _⟩ => ⟨S1x4096x28736, .f32⟩
  | .hbm, ⟨4, _⟩ => ⟨S4096x28736, .f32⟩
  | .hbm, ⟨5, _⟩ => ⟨S8192x28736, .f32⟩
  | .hbm, ⟨6, _⟩ => ⟨S8192x4096, .f32⟩
  | .hbm, ⟨7, _⟩ => ⟨S8192x2048, .f32⟩
  | .hbm, ⟨8, _⟩ => ⟨S8192x1536, .f32⟩
  | .hbm, ⟨9, _⟩ => ⟨S8192x512, .f32⟩
  | .hbm, ⟨10, _⟩ => ⟨S8192x64, .f32⟩
  | .hbm, ⟨11, _⟩ => ⟨S8192x4096, .f32⟩
  | .hbm, ⟨12, _⟩ => ⟨S8192x2048, .f32⟩
  | .hbm, ⟨13, _⟩ => ⟨S8192x2048, .f32⟩
  | .hbm, ⟨14, _⟩ => ⟨S8192x12288, .f32⟩
  | .hbm, ⟨15, _⟩ => ⟨S8192x12288, .f32⟩
  | .hbm, ⟨16, _⟩ => ⟨S8192x12288, .f32⟩
  | .hbm, ⟨17, _⟩ => ⟨S_, .f32⟩
  | .hbm, ⟨18, _⟩ => ⟨S8192x12288, .f32⟩
  | .hbm, ⟨19, _⟩ => ⟨S8192x12288, .f32⟩
  | .hbm, ⟨20, _⟩ => ⟨S_, .f32⟩
  | .hbm, ⟨21, _⟩ => ⟨S8192x12288, .f32⟩
  | .hbm, ⟨22, _⟩ => ⟨S8192x12288, .f32⟩
  | .hbm, ⟨23, _⟩ => ⟨S8192x12288, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩

abbrev nD : Nat := 1
abbrev τ : Topo := Topo.v7x

variable {F : FTy → Type} [FloatOps F]
-- ==== Merge.lean ====
abbrev S8192x2048 : Shape := ⟨2, ![8192, 2048]⟩
abbrev S8192x4096 : Shape := ⟨2, ![8192, 4096]⟩
abbrev S8192x12288 : Shape := ⟨2, ![8192, 12288]⟩
abbrev S4x2048x4096 : Shape := ⟨3, ![4, 2048, 4096]⟩
abbrev S4x4096x4096 : Shape := ⟨3, ![4, 4096, 4096]⟩
abbrev S1x2048x4096 : Shape := ⟨3, ![1, 2048, 4096]⟩
abbrev S2048x4096 : Shape := ⟨2, ![2048, 4096]⟩
abbrev S1x4096x4096 : Shape := ⟨3, ![1, 4096, 4096]⟩
abbrev S4096x4096 : Shape := ⟨2, ![4096, 4096]⟩
abbrev S512x2048 : Shape := ⟨2, ![512, 2048]⟩
abbrev S512x4096 : Shape := ⟨2, ![512, 4096]⟩
abbrev S2048x512 : Shape := ⟨2, ![2048, 512]⟩
abbrev S4096x512 : Shape := ⟨2, ![4096, 512]⟩
abbrev S512x512 : Shape := ⟨2, ![512, 512]⟩

abbrev nBuf : Space → Nat
  | .hbm => 17
  | .vmem => 20
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S8192x2048, .bf16⟩
  | .hbm, ⟨3, _⟩ => ⟨S8192x12288, .bf16⟩
  | .hbm, ⟨4, _⟩ => ⟨S4x2048x4096, .f32⟩
  | .hbm, ⟨5, _⟩ => ⟨S4x4096x4096, .f32⟩
  | .hbm, ⟨6, _⟩ => ⟨S4x2048x4096, .f32⟩
  | .hbm, ⟨7, _⟩ => ⟨S1x2048x4096, .f32⟩
  | .hbm, ⟨8, _⟩ => ⟨S2048x4096, .f32⟩
  | .hbm, ⟨9, _⟩ => ⟨S2048x4096, .bf16⟩
  | .hbm, ⟨10, _⟩ => ⟨S1x4096x4096, .f32⟩
  | .hbm, ⟨11, _⟩ => ⟨S4096x4096, .f32⟩
  | .hbm, ⟨12, _⟩ => ⟨S4096x4096, .bf16⟩
  | .hbm, ⟨13, _⟩ => ⟨S1x2048x4096, .f32⟩
  | .hbm, ⟨14, _⟩ => ⟨S2048x4096, .f32⟩
  | .hbm, ⟨15, _⟩ => ⟨S2048x4096, .bf16⟩
  | .hbm, ⟨16, _⟩ => ⟨S8192x4096, .bf16⟩
  | .local _ .vmem, ⟨0, _⟩ => ⟨S512x2048, .bf16⟩
  | .local _ .vmem, ⟨1, _⟩ => ⟨S512x2048, .bf16⟩
  | .local _ .vmem, ⟨2, _⟩ => ⟨S512x4096, .bf16⟩
  | .local _ .vmem, ⟨3, _⟩ => ⟨S512x4096, .bf16⟩
  | .local _ .vmem, ⟨4, _⟩ => ⟨S512x2048, .bf16⟩
  | .local _ .vmem, ⟨5, _⟩ => ⟨S512x2048, .bf16⟩
  | .local _ .vmem, ⟨6, _⟩ => ⟨S2048x512, .bf16⟩
  | .local _ .vmem, ⟨7, _⟩ => ⟨S2048x512, .bf16⟩
  | .local _ .vmem, ⟨8, _⟩ => ⟨S4096x512, .bf16⟩
  | .local _ .vmem, ⟨9, _⟩ => ⟨S4096x512, .bf16⟩
  | .local _ .vmem, ⟨10, _⟩ => ⟨S2048x512, .bf16⟩
  | .local _ .vmem, ⟨11, _⟩ => ⟨S2048x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeRefIdeal.lean ====
abbrev S8192x2048 : Shape := ⟨2, ![8192, 2048]⟩
abbrev S8192x4096 : Shape := ⟨2, ![8192, 4096]⟩
abbrev S8192x12288 : Shape := ⟨2, ![8192, 12288]⟩
abbrev S4x2048x4096 : Shape := ⟨3, ![4, 2048, 4096]⟩
abbrev S4x4096x4096 : Shape := ⟨3, ![4, 4096, 4096]⟩
abbrev S1x2048x4096 : Shape := ⟨3, ![1, 2048, 4096]⟩
abbrev S2048x4096 : Shape := ⟨2, ![2048, 4096]⟩
abbrev S1x4096x4096 : Shape := ⟨3, ![1, 4096, 4096]⟩
abbrev S4096x4096 : Shape := ⟨2, ![4096, 4096]⟩
abbrev S8192x3x4096 : Shape := ⟨3, ![8192, 3, 4096]⟩
abbrev S8192x1x4096 : Shape := ⟨3, ![8192, 1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S8192x2048, .bf16⟩
  | .hbm, ⟨3, _⟩ => ⟨S8192x12288, .bf16⟩
  | .hbm, ⟨4, _⟩ => ⟨S4x2048x4096, .f32⟩
  | .hbm, ⟨5, _⟩ => ⟨S4x4096x4096, .f32⟩
  | .hbm, ⟨6, _⟩ => ⟨S4x2048x4096, .f32⟩
  | .hbm, ⟨7, _⟩ => ⟨S8192x2048, .f32⟩
  | .hbm, ⟨8, _⟩ => ⟨S1x2048x4096, .f32⟩
  | .hbm, ⟨9, _⟩ => ⟨S2048x4096, .f32⟩
  | .hbm, ⟨10, _⟩ => ⟨S8192x4096, .f32⟩
  | .hbm, ⟨11, _⟩ => ⟨S8192x4096, .f32⟩
  | .hbm, ⟨12, _⟩ => ⟨S1x4096x4096, .f32⟩
  | .hbm, ⟨13, _⟩ => ⟨S4096x4096, .f32⟩
  | .hbm, ⟨14, _⟩ => ⟨S8192x4096, .f32⟩
  | .hbm, ⟨15, _⟩ => ⟨S8192x2048, .f32⟩
  | .hbm, ⟨16, _⟩ => ⟨S1x2048x4096, .f32⟩
  | .hbm, ⟨17, _⟩ => ⟨S2048x4096, .f32⟩
  | .hbm, ⟨18, _⟩ => ⟨S8192x4096, .f32⟩
  | .hbm, ⟨19, _⟩ => ⟨S8192x12288, .f32⟩
  | .hbm, ⟨20, _⟩ => ⟨S8192x3x4096, .f32⟩
  | .hbm, ⟨21, _⟩ => ⟨S8192x1x4096, .f32⟩
  | .hbm, ⟨22, _⟩ => ⟨S8192x4096, .f32⟩
  | .hbm, ⟨23, _⟩ => ⟨S8192x4096, .f32⟩
  | .hbm, ⟨24, _⟩ => ⟨S8192x1x4096, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S8192x1x4096, .f32⟩
  | .hbm, ⟨29, _⟩ => ⟨S8192x4096, .f32⟩
  | .hbm, ⟨30, _⟩ => ⟨S8192x4096, .f32⟩
  | .hbm, ⟨31, _⟩ => ⟨S8192x4096, .f32⟩
  | .hbm, ⟨32, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Out.lean ====
abbrev S8192x4096 : Shape := ⟨2, ![8192, 4096]⟩
abbrev S4x4096x4096 : Shape := ⟨3, ![4, 4096, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4x4096x4096, .f32⟩
  | .hbm, ⟨2, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutRefIdeal.lean ====
abbrev S8192x4096 : Shape := ⟨2, ![8192, 4096]⟩
abbrev S4x4096x4096 : Shape := ⟨3, ![4, 4096, 4096]⟩
abbrev S1x4096x4096 : Shape := ⟨3, ![1, 4096, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x4096, .f32⟩
  | .hbm, ⟨2, _⟩ => ⟨S8192x4096, .f32⟩
  | .hbm, ⟨3, _⟩ => ⟨S1x4096x4096, .f32⟩
  | .hbm, ⟨4, _⟩ => ⟨S4096x4096, .f32⟩
  | .hbm, ⟨5, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Post.lean ====
abbrev S8192x4096 : Shape := ⟨2, ![8192, 4096]⟩
abbrev S4x4096 : Shape := ⟨2, ![4, 4096]⟩
abbrev S1x4096 : Shape := ⟨2, ![1, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩

abbrev nBuf : Space → Nat
  | .hbm => 12
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4x4096, .f32⟩
  | .hbm, ⟨3, _⟩ => ⟨S4x4096, .f32⟩
  | .hbm, ⟨4, _⟩ => ⟨S1x4096, .f32⟩
  | .hbm, ⟨5, _⟩ => ⟨S4096, .f32⟩
  | .hbm, ⟨6, _⟩ => ⟨S1x4096, .f32⟩
  | .hbm, ⟨7, _⟩ => ⟨S4096, .f32⟩
  | .hbm, ⟨8, _⟩ => ⟨S1x4096, .f32⟩
  | .hbm, ⟨9, _⟩ => ⟨S1x4096, .f32⟩
  | .hbm, ⟨10, _⟩ => ⟨S8192x4096, .f32⟩
  | .hbm, ⟨11, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PostRefIdeal.lean ====
abbrev S8192x4096 : Shape := ⟨2, ![8192, 4096]⟩
abbrev S4x4096 : Shape := ⟨2, ![4, 4096]⟩
abbrev S1x4096 : Shape := ⟨2, ![1, 4096]⟩
abbrev S4096 : Shape := ⟨1, ![4096]⟩
abbrev S_ : Shape := ⟨0, ![]⟩
abbrev S8192 : Shape := ⟨1, ![8192]⟩
abbrev S8192x1 : Shape := ⟨2, ![8192, 1]⟩

abbrev nBuf : Space → Nat
  | .hbm => 42
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4x4096, .f32⟩
  | .hbm, ⟨3, _⟩ => ⟨S4x4096, .f32⟩
  | .hbm, ⟨4, _⟩ => ⟨S1x4096, .f32⟩
  | .hbm, ⟨5, _⟩ => ⟨S4096, .f32⟩
  | .hbm, ⟨6, _⟩ => ⟨S8192x4096, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x4096, .f32⟩
  | .hbm, ⟨18, _⟩ => ⟨S8192x4096, .f32⟩
  | .hbm, ⟨19, _⟩ => ⟨S1x4096, .f32⟩
  | .hbm, ⟨20, _⟩ => ⟨S8192x4096, .f32⟩
  | .hbm, ⟨21, _⟩ => ⟨S8192x4096, .f32⟩
  | .hbm, ⟨22, _⟩ => ⟨S8192x4096, .f32⟩
  | .hbm, ⟨23, _⟩ => ⟨S1x4096, .f32⟩
  | .hbm, ⟨24, _⟩ => ⟨S4096, .f32⟩
  | .hbm, ⟨25, _⟩ => ⟨S8192x4096, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x4096, .f32⟩
  | .hbm, ⟨37, _⟩ => ⟨S8192x4096, .f32⟩
  | .hbm, ⟨38, _⟩ => ⟨S1x4096, .f32⟩
  | .hbm, ⟨39, _⟩ => ⟨S8192x4096, .f32⟩
  | .hbm, ⟨40, _⟩ => ⟨S8192x4096, .f32⟩
  | .hbm, ⟨41, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Last.lean ====
abbrev S8192x4096 : Shape := ⟨2, ![8192, 4096]⟩
abbrev S4x4096 : Shape := ⟨2, ![4, 4096]⟩
abbrev S1x4096 : Shape := ⟨2, ![1, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩

abbrev nBuf : Space → Nat
  | .hbm => 12
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4x4096, .f32⟩
  | .hbm, ⟨3, _⟩ => ⟨S4x4096, .f32⟩
  | .hbm, ⟨4, _⟩ => ⟨S1x4096, .f32⟩
  | .hbm, ⟨5, _⟩ => ⟨S4096, .f32⟩
  | .hbm, ⟨6, _⟩ => ⟨S1x4096, .f32⟩
  | .hbm, ⟨7, _⟩ => ⟨S4096, .f32⟩
  | .hbm, ⟨8, _⟩ => ⟨S1x4096, .f32⟩
  | .hbm, ⟨9, _⟩ => ⟨S1x4096, .f32⟩
  | .hbm, ⟨10, _⟩ => ⟨S8192x4096, .f32⟩
  | .hbm, ⟨11, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LastRefIdeal.lean ====
abbrev S8192x4096 : Shape := ⟨2, ![8192, 4096]⟩
abbrev S4x4096 : Shape := ⟨2, ![4, 4096]⟩
abbrev S1x4096 : Shape := ⟨2, ![1, 4096]⟩
abbrev S4096 : Shape := ⟨1, ![4096]⟩
abbrev S_ : Shape := ⟨0, ![]⟩
abbrev S8192 : Shape := ⟨1, ![8192]⟩
abbrev S8192x1 : Shape := ⟨2, ![8192, 1]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4x4096, .f32⟩
  | .hbm, ⟨3, _⟩ => ⟨S4x4096, .f32⟩
  | .hbm, ⟨4, _⟩ => ⟨S1x4096, .f32⟩
  | .hbm, ⟨5, _⟩ => ⟨S4096, .f32⟩
  | .hbm, ⟨6, _⟩ => ⟨S8192x4096, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x4096, .f32⟩
  | .hbm, ⟨18, _⟩ => ⟨S8192x4096, .f32⟩
  | .hbm, ⟨19, _⟩ => ⟨S1x4096, .f32⟩
  | .hbm, ⟨20, _⟩ => ⟨S8192x4096, .f32⟩
  | .hbm, ⟨21, _⟩ => ⟨S8192x4096, .f32⟩
  | .hbm, ⟨22, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Prenorm.lean ====
abbrev S1x8192x4096 : Shape := ⟨3, ![1, 8192, 4096]⟩
abbrev S4x4096 : Shape := ⟨2, ![4, 4096]⟩
abbrev S8192x4096 : Shape := ⟨2, ![8192, 4096]⟩
abbrev S1x4096 : Shape := ⟨2, ![1, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩

abbrev nBuf : Space → Nat
  | .hbm => 7
  | .vmem => 5
  | .smem => 0
  | _ => 0

abbrev bufTy : (tb : Table) → Fin (tcTables nBuf tb) → BufTy
  | .hbm, ⟨0, _⟩ => ⟨S1x8192x4096, .f32⟩
  | .hbm, ⟨1, _⟩ => ⟨S4x4096, .f32⟩
  | .hbm, ⟨2, _⟩ => ⟨S8192x4096, .f32⟩
  | .hbm, ⟨3, _⟩ => ⟨S1x4096, .f32⟩
  | .hbm, ⟨4, _⟩ => ⟨S4096, .f32⟩
  | .hbm, ⟨5, _⟩ => ⟨S1x4096, .f32⟩
  | .hbm, ⟨6, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PrenormRefIdeal.lean ====
abbrev S1x8192x4096 : Shape := ⟨3, ![1, 8192, 4096]⟩
abbrev S4x4096 : Shape := ⟨2, ![4, 4096]⟩
abbrev S1x4096 : Shape := ⟨2, ![1, 4096]⟩
abbrev S4096 : Shape := ⟨1, ![4096]⟩
abbrev S_ : Shape := ⟨0, ![]⟩
abbrev S1x8192 : Shape := ⟨2, ![1, 8192]⟩
abbrev S1x8192x1 : Shape := ⟨3, ![1, 8192, 1]⟩
abbrev S1x1x4096 : Shape := ⟨3, ![1, 1, 4096]⟩
abbrev S8192x4096 : Shape := ⟨2, ![8192, 4096]⟩

abbrev nBuf : Space → Nat
  | .hbm => 22
  | .vmem => 0
  | .smem => 0
  | _ => 0

abbrev bufTy : (tb : Table) → Fin (tcTables nBuf tb) → BufTy
  | .hbm, ⟨0, _⟩ => ⟨S1x8192x4096, .f32⟩
  | .hbm, ⟨1, _⟩ => ⟨S4x4096, .f32⟩
  | .hbm, ⟨2, _⟩ => ⟨S1x4096, .f32⟩
  | .hbm, ⟨3, _⟩ => ⟨S4096, .f32⟩
  | .hbm, ⟨4, _⟩ => ⟨S1x8192x4096, .f32⟩
  | .hbm, ⟨5, _⟩ => ⟨S_, .f32⟩
  | .hbm, ⟨6, _⟩ => ⟨S1x8192, .f32⟩
  | .hbm, ⟨7, _⟩ => ⟨S1x8192x1, .f32⟩
  | .hbm, ⟨8, _⟩ => ⟨S_, .f32⟩
  | .hbm, ⟨9, _⟩ => ⟨S1x8192x1, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S1x8192x1, .f32⟩
  | .hbm, ⟨15, _⟩ => ⟨S1x8192x4096, .f32⟩
  | .hbm, ⟨16, _⟩ => ⟨S1x8192x4096, .f32⟩
  | .hbm, ⟨17, _⟩ => ⟨S1x1x4096, .f32⟩
  | .hbm, ⟨18, _⟩ => ⟨S1x8192x4096, .f32⟩
  | .hbm, ⟨19, _⟩ => ⟨S1x8192x4096, .f32⟩
  | .hbm, ⟨20, _⟩ => ⟨S8192x4096, .f32⟩
  | .hbm, ⟨21, _⟩ => ⟨S8192x4096, .bf16⟩
  | _, _ => ⟨S1x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Cq.lean ====
abbrev S8192x4096 : Shape := ⟨2, ![8192, 4096]⟩
abbrev S4x4096x28736 : Shape := ⟨3, ![4, 4096, 28736]⟩
abbrev S4x1536 : Shape := ⟨2, ![4, 1536]⟩
abbrev S4x28736x4096 : Shape := ⟨3, ![4, 28736, 4096]⟩
abbrev S1x2112x4096 : Shape := ⟨3, ![1, 2112, 4096]⟩
abbrev S2112x4096 : Shape := ⟨2, ![2112, 4096]⟩
abbrev S1536x4096 : Shape := ⟨2, ![1536, 4096]⟩
abbrev S1x1536 : Shape := ⟨2, ![1, 1536]⟩
abbrev S1536 : Shape := ⟨1, ![1536]⟩
abbrev S8192x1536 : Shape := ⟨2, ![8192, 1536]⟩
abbrev S512x4096 : Shape := ⟨2, ![512, 4096]⟩
abbrev S512x1536 : Shape := ⟨2, ![512, 1536]⟩
abbrev S512 : Shape := ⟨1, ![512]⟩
abbrev S512x1 : Shape := ⟨2, ![512, 1]⟩

abbrev nBuf : Space → Nat
  | .hbm => 13
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4x4096x28736, .f32⟩
  | .hbm, ⟨2, _⟩ => ⟨S4x1536, .f32⟩
  | .hbm, ⟨3, _⟩ => ⟨S4x28736x4096, .f32⟩
  | .hbm, ⟨4, _⟩ => ⟨S1x2112x4096, .f32⟩
  | .hbm, ⟨5, _⟩ => ⟨S2112x4096, .f32⟩
  | .hbm, ⟨6, _⟩ => ⟨S2112x4096, .f32⟩
  | .hbm, ⟨7, _⟩ => ⟨S1536x4096, .f32⟩
  | .hbm, ⟨8, _⟩ => ⟨S1536x4096, .bf16⟩
  | .hbm, ⟨9, _⟩ => ⟨S1x1536, .f32⟩
  | .hbm, ⟨10, _⟩ => ⟨S1536, .f32⟩
  | .hbm, ⟨11, _⟩ => ⟨S1x1536, .f32⟩
  | .hbm, ⟨12, _⟩ => ⟨S8192x1536, .bf16⟩
  | .local _ .vmem, ⟨0, _⟩ => ⟨S512x4096, .bf16⟩
  | .local _ .vmem, ⟨1, _⟩ => ⟨S512x4096, .bf16⟩
  | .local _ .vmem, ⟨2, _⟩ => ⟨S1536x4096, .bf16⟩
  | .local _ .vmem, ⟨3, _⟩ => ⟨S1x1536, .f32⟩
  | .local _ .vmem, ⟨4, _⟩ => ⟨S512x1536, .bf16⟩
  | .local _ .vmem, ⟨5, _⟩ => ⟨S512x1536, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CqRefIdeal.lean ====
abbrev S8192x4096 : Shape := ⟨2, ![8192, 4096]⟩
abbrev S4x4096x28736 : Shape := ⟨3, ![4, 4096, 28736]⟩
abbrev S4x1536 : Shape := ⟨2, ![4, 1536]⟩
abbrev S1x4096x28736 : Shape := ⟨3, ![1, 4096, 28736]⟩
abbrev S4096x28736 : Shape := ⟨2, ![4096, 28736]⟩
abbrev S8192x28736 : Shape := ⟨2, ![8192, 28736]⟩
abbrev S8192x2048 : Shape := ⟨2, ![8192, 2048]⟩
abbrev S8192x1536 : Shape := ⟨2, ![8192, 1536]⟩
abbrev S8192x512 : Shape := ⟨2, ![8192, 512]⟩
abbrev S8192x64 : Shape := ⟨2, ![8192, 64]⟩
abbrev S8192x12288 : Shape := ⟨2, ![8192, 12288]⟩
abbrev S1x1536 : Shape := ⟨2, ![1, 1536]⟩
abbrev S1536 : Shape := ⟨1, ![1536]⟩
abbrev S_ : Shape := ⟨0, ![]⟩
abbrev S8192 : Shape := ⟨1, ![8192]⟩
abbrev S8192x1 : Shape := ⟨2, ![8192, 1]⟩

abbrev nBuf : Space → Nat
  | .hbm => 35
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x28736, .f32⟩
  | .hbm, ⟨2, _⟩ => ⟨S4x1536, .f32⟩
  | .hbm, ⟨3, _⟩ => ⟨S8192x4096, .f32⟩
  | .hbm, ⟨4, _⟩ => ⟨S1x4096x28736, .f32⟩
  | .hbm, ⟨5, _⟩ => ⟨S4096x28736, .f32⟩
  | .hbm, ⟨6, _⟩ => ⟨S8192x28736, .f32⟩
  | .hbm, ⟨7, _⟩ => ⟨S8192x4096, .f32⟩
  | .hbm, ⟨8, _⟩ => ⟨S8192x2048, .f32⟩
  | .hbm, ⟨9, _⟩ => ⟨S8192x1536, .f32⟩
  | .hbm, ⟨10, _⟩ => ⟨S8192x512, .f32⟩
  | .hbm, ⟨11, _⟩ => ⟨S8192x64, .f32⟩
  | .hbm, ⟨12, _⟩ => ⟨S8192x4096, .f32⟩
  | .hbm, ⟨13, _⟩ => ⟨S8192x2048, .f32⟩
  | .hbm, ⟨14, _⟩ => ⟨S8192x2048, .f32⟩
  | .hbm, ⟨15, _⟩ => ⟨S8192x12288, .f32⟩
  | .hbm, ⟨16, _⟩ => ⟨S1x1536, .f32⟩
  | .hbm, ⟨17, _⟩ => ⟨S1536, .f32⟩
  | .hbm, ⟨18, _⟩ => ⟨S8192x1536, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1536, .f32⟩
  | .hbm, ⟨30, _⟩ => ⟨S8192x1536, .f32⟩
  | .hbm, ⟨31, _⟩ => ⟨S1x1536, .f32⟩
  | .hbm, ⟨32, _⟩ => ⟨S8192x1536, .f32⟩
  | .hbm, ⟨33, _⟩ => ⟨S8192x1536, .f32⟩
  | .hbm, ⟨34, _⟩ => ⟨S8192x1536, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩

abbrev nD : Nat := 1
abbrev τ : Topo := Topo.v7x

variable {F : FTy → Type} [FloatOps F]
-- ==== Kv.lean ====
abbrev S8192x512 : Shape := ⟨2, ![8192, 512]⟩
abbrev S4x512x8192 : Shape := ⟨3, ![4, 512, 8192]⟩
abbrev S8192x128 : Shape := ⟨2, ![8192, 128]⟩
abbrev S1x512x8192 : Shape := ⟨3, ![1, 512, 8192]⟩
abbrev S512x8192 : Shape := ⟨2, ![512, 8192]⟩
abbrev S512x32x256 : Shape := ⟨3, ![512, 32, 256]⟩
abbrev S512x32x128 : Shape := ⟨3, ![512, 32, 128]⟩
abbrev S512x4096 : Shape := ⟨2, ![512, 4096]⟩
abbrev S32x8192x256 : Shape := ⟨3, ![32, 8192, 256]⟩
abbrev S32x8192x128 : Shape := ⟨3, ![32, 8192, 128]⟩
abbrev S1024x512 : Shape := ⟨2, ![1024, 512]⟩
abbrev S512x1024 : Shape := ⟨2, ![512, 1024]⟩
abbrev S1024x128 : Shape := ⟨2, ![1024, 128]⟩
abbrev S8x1024x256 : Shape := ⟨3, ![8, 1024, 256]⟩
abbrev S8x1024x128 : Shape := ⟨3, ![8, 1024, 128]⟩
abbrev S1024x1024 : Shape := ⟨2, ![1024, 1024]⟩
abbrev S1x1024x128 : Shape := ⟨3, ![1, 1024, 128]⟩

abbrev nBuf : Space → Nat
  | .hbm => 14
  | .vmem => 12
  | .smem => 0
  | _ => 0

abbrev bufTy : (tb : Table) → Fin (tcTables nBuf tb) → BufTy
  | .hbm, ⟨0, _⟩ => ⟨S8192x512, .bf16⟩
  | .hbm, ⟨1, _⟩ => ⟨S4x512x8192, .f32⟩
  | .hbm, ⟨2, _⟩ => ⟨S8192x128, .bf16⟩
  | .hbm, ⟨3, _⟩ => ⟨S1x512x8192, .f32⟩
  | .hbm, ⟨4, _⟩ => ⟨S512x8192, .f32⟩
  | .hbm, ⟨5, _⟩ => ⟨S512x32x256, .f32⟩
  | .hbm, ⟨6, _⟩ => ⟨S512x32x128, .f32⟩
  | .hbm, ⟨7, _⟩ => ⟨S512x4096, .f32⟩
  | .hbm, ⟨8, _⟩ => ⟨S512x4096, .bf16⟩
  | .hbm, ⟨9, _⟩ => ⟨S512x32x128, .f32⟩
  | .hbm, ⟨10, _⟩ => ⟨S512x4096, .f32⟩
  | .hbm, ⟨11, _⟩ => ⟨S512x4096, .bf16⟩
  | .hbm, ⟨12, _⟩ => ⟨S32x8192x256, .bf16⟩
  | .hbm, ⟨13, _⟩ => ⟨S32x8192x128, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x128, .bf16⟩
  | .local _ .vmem, ⟨7, _⟩ => ⟨S1024x128, .bf16⟩
  | .local _ .vmem, ⟨8, _⟩ => ⟨S8x1024x256, .bf16⟩
  | .local _ .vmem, ⟨9, _⟩ => ⟨S8x1024x256, .bf16⟩
  | .local _ .vmem, ⟨10, _⟩ => ⟨S8x1024x128, .bf16⟩
  | .local _ .vmem, ⟨11, _⟩ => ⟨S8x1024x128, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KvRefIdeal.lean ====
abbrev S8192x512 : Shape := ⟨2, ![8192, 512]⟩
abbrev S4x512x8192 : Shape := ⟨3, ![4, 512, 8192]⟩
abbrev S8192x128 : Shape := ⟨2, ![8192, 128]⟩
abbrev S1x512x8192 : Shape := ⟨3, ![1, 512, 8192]⟩
abbrev S512x8192 : Shape := ⟨2, ![512, 8192]⟩
abbrev S8192x8192 : Shape := ⟨2, ![8192, 8192]⟩
abbrev S8192x32x256 : Shape := ⟨3, ![8192, 32, 256]⟩
abbrev S8192x32x128 : Shape := ⟨3, ![8192, 32, 128]⟩
abbrev S8192x1x128 : Shape := ⟨3, ![8192, 1, 128]⟩
abbrev S32x8192x256 : Shape := ⟨3, ![32, 8192, 256]⟩
abbrev S32x8192x128 : Shape := ⟨3, ![32, 8192, 128]⟩

abbrev nBuf : Space → Nat
  | .hbm => 17
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S4x512x8192, .f32⟩
  | .hbm, ⟨2, _⟩ => ⟨S8192x128, .bf16⟩
  | .hbm, ⟨3, _⟩ => ⟨S8192x512, .f32⟩
  | .hbm, ⟨4, _⟩ => ⟨S1x512x8192, .f32⟩
  | .hbm, ⟨5, _⟩ => ⟨S512x8192, .f32⟩
  | .hbm, ⟨6, _⟩ => ⟨S8192x8192, .f32⟩
  | .hbm, ⟨7, _⟩ => ⟨S8192x32x256, .f32⟩
  | .hbm, ⟨8, _⟩ => ⟨S8192x32x128, .f32⟩
  | .hbm, ⟨9, _⟩ => ⟨S8192x32x128, .f32⟩
  | .hbm, ⟨10, _⟩ => ⟨S8192x32x128, .bf16⟩
  | .hbm, ⟨11, _⟩ => ⟨S8192x1x128, .bf16⟩
  | .hbm, ⟨12, _⟩ => ⟨S8192x32x128, .bf16⟩
  | .hbm, ⟨13, _⟩ => ⟨S8192x32x256, .bf16⟩
  | .hbm, ⟨14, _⟩ => ⟨S32x8192x256, .bf16⟩
  | .hbm, ⟨15, _⟩ => ⟨S8192x32x128, .bf16⟩
  | .hbm, ⟨16, _⟩ => ⟨S32x8192x128, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Q.lean ====
abbrev S8192x1536 : Shape := ⟨2, ![8192, 1536]⟩
abbrev S4x1536x6144 : Shape := ⟨3, ![4, 1536, 6144]⟩
abbrev S1x8192 : Shape := ⟨2, ![1, 8192]⟩
abbrev S8192 : Shape := ⟨1, ![8192]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S64 : Shape := ⟨1, ![64]⟩
abbrev S1x64 : Shape := ⟨2, ![1, 64]⟩
abbrev S2x64 : Shape := ⟨2, ![2, 64]⟩
abbrev S8192x1 : Shape := ⟨2, ![8192, 1]⟩
abbrev S8192x128 : Shape := ⟨2, ![8192, 128]⟩
abbrev S512x1 : Shape := ⟨2, ![512, 1]⟩
abbrev S512x128 : Shape := ⟨2, ![512, 128]⟩
abbrev S1x1536x6144 : Shape := ⟨3, ![1, 1536, 6144]⟩
abbrev S1536x6144 : Shape := ⟨2, ![1536, 6144]⟩
abbrev S1536x32x192 : Shape := ⟨3, ![1536, 32, 192]⟩
abbrev S1536x32x128 : Shape := ⟨3, ![1536, 32, 128]⟩
abbrev S1536x4096 : Shape := ⟨2, ![1536, 4096]⟩
abbrev S1536x32x64 : Shape := ⟨3, ![1536, 32, 64]⟩
abbrev S1536x2048 : Shape := ⟨2, ![1536, 2048]⟩
abbrev S32x8192x256 : Shape := ⟨3, ![32, 8192, 256]⟩
abbrev S1024x1536 : Shape := ⟨2, ![1024, 1536]⟩
abbrev S1536x1024 : Shape := ⟨2, ![1536, 1024]⟩
abbrev S1536x512 : Shape := ⟨2, ![1536, 512]⟩
abbrev S1024x128 : Shape := ⟨2, ![1024, 128]⟩
abbrev S8x1024x256 : Shape := ⟨3, ![8, 1024, 256]⟩
abbrev S1024x1024 : Shape := ⟨2, ![1024, 1024]⟩
abbrev S1024x512 : Shape := ⟨2, ![1024, 512]⟩
abbrev S1x1024x128 : Shape := ⟨3, ![1, 1024, 128]⟩

abbrev nBuf : Space → Nat
  | .hbm => 45
  | .vmem => 20
  | .smem => 0
  | _ => 0

abbrev bufTy : (tb : Table) → Fin (tcTables nBuf tb) → BufTy
  | .hbm, ⟨0, _⟩ => ⟨S8192x1536, .bf16⟩
  | .hbm, ⟨1, _⟩ => ⟨S4x1536x6144, .f32⟩
  | .hbm, ⟨2, _⟩ => ⟨S1x8192, .i32⟩
  | .hbm, ⟨3, _⟩ => ⟨S8192, .i32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S1x32, .f32⟩
  | .hbm, ⟨19, _⟩ => ⟨S4x32, .f32⟩
  | .hbm, ⟨20, _⟩ => ⟨S128, .f32⟩
  | .hbm, ⟨21, _⟩ => ⟨S1x128, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S64, .f32⟩
  | .hbm, ⟨28, _⟩ => ⟨S1x64, .f32⟩
  | .hbm, ⟨29, _⟩ => ⟨S2x64, .f32⟩
  | .hbm, ⟨30, _⟩ => ⟨S128, .f32⟩
  | .hbm, ⟨31, _⟩ => ⟨S1x128, .f32⟩
  | .hbm, ⟨32, _⟩ => ⟨S8192x1, .i32⟩
  | .hbm, ⟨33, _⟩ => ⟨S8192x128, .f32⟩
  | .hbm, ⟨34, _⟩ => ⟨S8192x128, .f32⟩
  | .hbm, ⟨35, _⟩ => ⟨S1x1536x6144, .f32⟩
  | .hbm, ⟨36, _⟩ => ⟨S1536x6144, .f32⟩
  | .hbm, ⟨37, _⟩ => ⟨S1536x32x192, .f32⟩
  | .hbm, ⟨38, _⟩ => ⟨S1536x32x128, .f32⟩
  | .hbm, ⟨39, _⟩ => ⟨S1536x4096, .f32⟩
  | .hbm, ⟨40, _⟩ => ⟨S1536x4096, .bf16⟩
  | .hbm, ⟨41, _⟩ => ⟨S1536x32x64, .f32⟩
  | .hbm, ⟨42, _⟩ => ⟨S1536x2048, .f32⟩
  | .hbm, ⟨43, _⟩ => ⟨S1536x2048, .bf16⟩
  | .hbm, ⟨44, _⟩ => ⟨S32x8192x256, .bf16⟩
  | .local _ .vmem, ⟨0, _⟩ => ⟨S512x1, .i32⟩
  | .local _ .vmem, ⟨1, _⟩ => ⟨S512x1, .i32⟩
  | .local _ .vmem, ⟨2, _⟩ => ⟨S1x128, .f32⟩
  | .local _ .vmem, ⟨3, _⟩ => ⟨S1x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1024x1536, .bf16⟩
  | .local _ .vmem, ⟨9, _⟩ => ⟨S1024x1536, .bf16⟩
  | .local _ .vmem, ⟨10, _⟩ => ⟨S1536x1024, .bf16⟩
  | .local _ .vmem, ⟨11, _⟩ => ⟨S1536x1024, .bf16⟩
  | .local _ .vmem, ⟨12, _⟩ => ⟨S1536x512, .bf16⟩
  | .local _ .vmem, ⟨13, _⟩ => ⟨S1536x512, .bf16⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S8x1024x256, .bf16⟩
  | .local _ .vmem, ⟨19, _⟩ => ⟨S8x1024x256, .bf16⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24_0 : Ref sig .tc := ⟨.hbm, 33, rfl⟩
abbrev main_v24_1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S1024x1536 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1536x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1536x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S8x1024x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== QRefIdeal.lean ====
abbrev S8192x1536 : Shape := ⟨2, ![8192, 1536]⟩
abbrev S4x1536x6144 : Shape := ⟨3, ![4, 1536, 6144]⟩
abbrev S1x8192 : Shape := ⟨2, ![1, 8192]⟩
abbrev S8192x1x1 : Shape := ⟨3, ![8192, 1, 1]⟩
abbrev S32 : Shape := ⟨1, ![32]⟩
abbrev S_ : Shape := ⟨0, ![]⟩
abbrev S1x1x32 : Shape := ⟨3, ![1, 1, 32]⟩
abbrev S8192x1x32 : Shape := ⟨3, ![8192, 1, 32]⟩
abbrev S1x1536x6144 : Shape := ⟨3, ![1, 1536, 6144]⟩
abbrev S1536x6144 : Shape := ⟨2, ![1536, 6144]⟩
abbrev S8192x6144 : Shape := ⟨2, ![8192, 6144]⟩
abbrev S8192x32x192 : Shape := ⟨3, ![8192, 32, 192]⟩
abbrev S8192x32x128 : Shape := ⟨3, ![8192, 32, 128]⟩
abbrev S8192x32x64 : Shape := ⟨3, ![8192, 32, 64]⟩
abbrev S8192x32x32 : Shape := ⟨3, ![8192, 32, 32]⟩
abbrev S8192x32x256 : Shape := ⟨3, ![8192, 32, 256]⟩
abbrev S32x8192x256 : Shape := ⟨3, ![32, 8192, 256]⟩

abbrev nBuf : Space → Nat
  | .hbm => 62
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S4x1536x6144, .f32⟩
  | .hbm, ⟨2, _⟩ => ⟨S1x8192, .i32⟩
  | .hbm, ⟨3, _⟩ => ⟨S8192x1x1, .i32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S8192x1x1, .f32⟩
  | .hbm, ⟨19, _⟩ => ⟨S1x1x32, .f32⟩
  | .hbm, ⟨20, _⟩ => ⟨S8192x1x32, .f32⟩
  | .hbm, ⟨21, _⟩ => ⟨S8192x1x32, .f32⟩
  | .hbm, ⟨22, _⟩ => ⟨S8192x1x32, .f32⟩
  | .hbm, ⟨23, _⟩ => ⟨S8192x1536, .f32⟩
  | .hbm, ⟨24, _⟩ => ⟨S1x1536x6144, .f32⟩
  | .hbm, ⟨25, _⟩ => ⟨S1536x6144, .f32⟩
  | .hbm, ⟨26, _⟩ => ⟨S8192x6144, .f32⟩
  | .hbm, ⟨27, _⟩ => ⟨S8192x32x192, .f32⟩
  | .hbm, ⟨28, _⟩ => ⟨S8192x32x128, .f32⟩
  | .hbm, ⟨29, _⟩ => ⟨S8192x32x64, .f32⟩
  | .hbm, ⟨30, _⟩ => ⟨S8192x1x32, .f32⟩
  | .hbm, ⟨31, _⟩ => ⟨S8192x1x32, .f32⟩
  | .hbm, ⟨32, _⟩ => ⟨S8192x32x32, .f32⟩
  | .hbm, ⟨33, _⟩ => ⟨S8192x32x32, .f32⟩
  | .hbm, ⟨34, _⟩ => ⟨S8192x32x32, .f32⟩
  | .hbm, ⟨35, _⟩ => ⟨S8192x32x32, .f32⟩
  | .hbm, ⟨36, _⟩ => ⟨S8192x32x32, .f32⟩
  | .hbm, ⟨37, _⟩ => ⟨S8192x32x32, .f32⟩
  | .hbm, ⟨38, _⟩ => ⟨S8192x32x32, .f32⟩
  | .hbm, ⟨39, _⟩ => ⟨S8192x32x32, .f32⟩
  | .hbm, ⟨40, _⟩ => ⟨S8192x32x32, .f32⟩
  | .hbm, ⟨41, _⟩ => ⟨S8192x32x32, .f32⟩
  | .hbm, ⟨42, _⟩ => ⟨S8192x32x32, .f32⟩
  | .hbm, ⟨43, _⟩ => ⟨S8192x32x32, .f32⟩
  | .hbm, ⟨44, _⟩ => ⟨S8192x32x64, .f32⟩
  | .hbm, ⟨45, _⟩ => ⟨S8192x32x64, .i32⟩
  | .hbm, ⟨46, _⟩ => ⟨S_, .i32⟩
  | .hbm, ⟨47, _⟩ => ⟨S8192x32x64, .i32⟩
  | .hbm, ⟨48, _⟩ => ⟨S8192x32x64, .i32⟩
  | .hbm, ⟨49, _⟩ => ⟨S_, .i32⟩
  | .hbm, ⟨50, _⟩ => ⟨S8192x32x64, .i32⟩
  | .hbm, ⟨51, _⟩ => ⟨S8192x32x64, .i1⟩
  | .hbm, ⟨52, _⟩ => ⟨S_, .f32⟩
  | .hbm, ⟨53, _⟩ => ⟨S8192x32x64, .f32⟩
  | .hbm, ⟨54, _⟩ => ⟨S8192x32x64, .f32⟩
  | .hbm, ⟨55, _⟩ => ⟨S8192x32x64, .f32⟩
  | .hbm, ⟨56, _⟩ => ⟨S8192x32x256, .f32⟩
  | .hbm, ⟨57, _⟩ => ⟨S_, .f32⟩
  | .hbm, ⟨58, _⟩ => ⟨S8192x32x256, .f32⟩
  | .hbm, ⟨59, _⟩ => ⟨S8192x32x256, .f32⟩
  | .hbm, ⟨60, _⟩ => ⟨S8192x32x256, .bf16⟩
  | .hbm, ⟨61, _⟩ => ⟨S32x8192x256, .bf16⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_c : Ref sig .tc := ⟨.hbm, 46, rfl⟩
abbrev main_v39 : Ref sig .tc := ⟨.hbm, 47, rfl⟩
abbrev main_v40 : Ref sig .tc := ⟨.hbm, 48, rfl⟩
abbrev main_c_3 : Ref sig .tc := ⟨.hbm, 49, rfl⟩
abbrev main_v41 : Ref sig .tc := ⟨.hbm, 50, rfl⟩
abbrev main_v42 : Ref sig .tc := ⟨.hbm, 51, rfl⟩
abbrev main_cst_4 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_5 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩

abbrev nD : Nat := 1
abbrev τ : Topo := Topo.v7x

variable {F : FTy → Type} [FloatOps F]
-- ==== Ckvr.lean ====
abbrev S8192x4096 : Shape := ⟨2, ![8192, 4096]⟩
abbrev S4x4096x28736 : Shape := ⟨3, ![4, 4096, 28736]⟩
abbrev S4x512 : Shape := ⟨2, ![4, 512]⟩
abbrev S1x8192 : Shape := ⟨2, ![1, 8192]⟩
abbrev S8192 : Shape := ⟨1, ![8192]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S64 : Shape := ⟨1, ![64]⟩
abbrev S1x64 : Shape := ⟨2, ![1, 64]⟩
abbrev S2x64 : Shape := ⟨2, ![2, 64]⟩
abbrev S8192x1 : Shape := ⟨2, ![8192, 1]⟩
abbrev S8192x128 : Shape := ⟨2, ![8192, 128]⟩
abbrev S512x1 : Shape := ⟨2, ![512, 1]⟩
abbrev S512x128 : Shape := ⟨2, ![512, 128]⟩
abbrev S4x28736x4096 : Shape := ⟨3, ![4, 28736, 4096]⟩
abbrev S1x2112x4096 : Shape := ⟨3, ![1, 2112, 4096]⟩
abbrev S2112x4096 : Shape := ⟨2, ![2112, 4096]⟩
abbrev S576x4096 : Shape := ⟨2, ![576, 4096]⟩
abbrev S64x4096 : Shape := ⟨2, ![64, 4096]⟩
abbrev S640x4096 : Shape := ⟨2, ![640, 4096]⟩
abbrev S1x512 : Shape := ⟨2, ![1, 512]⟩
abbrev S512 : Shape := ⟨1, ![512]⟩
abbrev S8192x512 : Shape := ⟨2, ![8192, 512]⟩
abbrev S512x4096 : Shape := ⟨2, ![512, 4096]⟩
abbrev S512x512 : Shape := ⟨2, ![512, 512]⟩
abbrev S512x640 : Shape := ⟨2, ![512, 640]⟩

abbrev nBuf : Space → Nat
  | .hbm => 49
  | .vmem => 20
  | .smem => 0
  | _ => 0

abbrev bufTy : (tb : Table) → Fin (tcTables nBuf tb) → BufTy
  | .hbm, ⟨0, _⟩ => ⟨S8192x4096, .bf16⟩
  | .hbm, ⟨1, _⟩ => ⟨S4x4096x28736, .f32⟩
  | .hbm, ⟨2, _⟩ => ⟨S4x512, .f32⟩
  | .hbm, ⟨3, _⟩ => ⟨S1x8192, .i32⟩
  | .hbm, ⟨4, _⟩ => ⟨S8192, .i32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S1x32, .f32⟩
  | .hbm, ⟨20, _⟩ => ⟨S4x32, .f32⟩
  | .hbm, ⟨21, _⟩ => ⟨S128, .f32⟩
  | .hbm, ⟨22, _⟩ => ⟨S1x128, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S64, .f32⟩
  | .hbm, ⟨29, _⟩ => ⟨S1x64, .f32⟩
  | .hbm, ⟨30, _⟩ => ⟨S2x64, .f32⟩
  | .hbm, ⟨31, _⟩ => ⟨S128, .f32⟩
  | .hbm, ⟨32, _⟩ => ⟨S1x128, .f32⟩
  | .hbm, ⟨33, _⟩ => ⟨S8192x1, .i32⟩
  | .hbm, ⟨34, _⟩ => ⟨S8192x128, .f32⟩
  | .hbm, ⟨35, _⟩ => ⟨S8192x128, .f32⟩
  | .hbm, ⟨36, _⟩ => ⟨S4x28736x4096, .f32⟩
  | .hbm, ⟨37, _⟩ => ⟨S1x2112x4096, .f32⟩
  | .hbm, ⟨38, _⟩ => ⟨S2112x4096, .f32⟩
  | .hbm, ⟨39, _⟩ => ⟨S2112x4096, .f32⟩
  | .hbm, ⟨40, _⟩ => ⟨S576x4096, .f32⟩
  | .hbm, ⟨41, _⟩ => ⟨S64x4096, .f32⟩
  | .hbm, ⟨42, _⟩ => ⟨S640x4096, .f32⟩
  | .hbm, ⟨43, _⟩ => ⟨S640x4096, .bf16⟩
  | .hbm, ⟨44, _⟩ => ⟨S1x512, .f32⟩
  | .hbm, ⟨45, _⟩ => ⟨S512, .f32⟩
  | .hbm, ⟨46, _⟩ => ⟨S1x512, .f32⟩
  | .hbm, ⟨47, _⟩ => ⟨S8192x512, .bf16⟩
  | .hbm, ⟨48, _⟩ => ⟨S8192x128, .bf16⟩
  | .local _ .vmem, ⟨0, _⟩ => ⟨S512x1, .i32⟩
  | .local _ .vmem, ⟨1, _⟩ => ⟨S512x1, .i32⟩
  | .local _ .vmem, ⟨2, _⟩ => ⟨S1x128, .f32⟩
  | .local _ .vmem, ⟨3, _⟩ => ⟨S1x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x4096, .bf16⟩
  | .local _ .vmem, ⟨9, _⟩ => ⟨S512x4096, .bf16⟩
  | .local _ .vmem, ⟨10, _⟩ => ⟨S640x4096, .bf16⟩
  | .local _ .vmem, ⟨11, _⟩ => ⟨S1x512, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x512, .bf16⟩
  | .local _ .vmem, ⟨17, _⟩ => ⟨S512x512, .bf16⟩
  | .local _ .vmem, ⟨18, _⟩ => ⟨S512x128, .bf16⟩
  | .local _ .vmem, ⟨19, _⟩ => ⟨S512x128, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24_0 : Ref sig .tc := ⟨.hbm, 34, rfl⟩
abbrev main_v24_1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36_0 : Ref sig .tc := ⟨.hbm, 47, rfl⟩
abbrev main_v36_1 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S640x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== CkvrRefIdeal.lean ====
abbrev S8192x4096 : Shape := ⟨2, ![8192, 4096]⟩
abbrev S4x4096x28736 : Shape := ⟨3, ![4, 4096, 28736]⟩
abbrev S4x512 : Shape := ⟨2, ![4, 512]⟩
abbrev S1x8192 : Shape := ⟨2, ![1, 8192]⟩
abbrev S8192x1 : Shape := ⟨2, ![8192, 1]⟩
abbrev S32 : Shape := ⟨1, ![32]⟩
abbrev S_ : Shape := ⟨0, ![]⟩
abbrev S1x32 : Shape := ⟨2, ![1, 32]⟩
abbrev S8192x32 : Shape := ⟨2, ![8192, 32]⟩
abbrev S1x4096x28736 : Shape := ⟨3, ![1, 4096, 28736]⟩
abbrev S4096x28736 : Shape := ⟨2, ![4096, 28736]⟩
abbrev S8192x28736 : Shape := ⟨2, ![8192, 28736]⟩
abbrev S8192x512 : Shape := ⟨2, ![8192, 512]⟩
abbrev S8192x64 : Shape := ⟨2, ![8192, 64]⟩
abbrev S1x512 : Shape := ⟨2, ![1, 512]⟩
abbrev S512 : Shape := ⟨1, ![512]⟩
abbrev S8192 : Shape := ⟨1, ![8192]⟩
abbrev S8192x128 : Shape := ⟨2, ![8192, 128]⟩

abbrev nBuf : Space → Nat
  | .hbm => 62
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x28736, .f32⟩
  | .hbm, ⟨2, _⟩ => ⟨S4x512, .f32⟩
  | .hbm, ⟨3, _⟩ => ⟨S1x8192, .i32⟩
  | .hbm, ⟨4, _⟩ => ⟨S8192x1, .i32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S8192x1, .f32⟩
  | .hbm, ⟨20, _⟩ => ⟨S1x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x4096, .f32⟩
  | .hbm, ⟨25, _⟩ => ⟨S1x4096x28736, .f32⟩
  | .hbm, ⟨26, _⟩ => ⟨S4096x28736, .f32⟩
  | .hbm, ⟨27, _⟩ => ⟨S8192x28736, .f32⟩
  | .hbm, ⟨28, _⟩ => ⟨S8192x512, .f32⟩
  | .hbm, ⟨29, _⟩ => ⟨S8192x64, .f32⟩
  | .hbm, ⟨30, _⟩ => ⟨S8192x32, .f32⟩
  | .hbm, ⟨31, _⟩ => ⟨S8192x32, .f32⟩
  | .hbm, ⟨32, _⟩ => ⟨S8192x32, .f32⟩
  | .hbm, ⟨33, _⟩ => ⟨S8192x32, .f32⟩
  | .hbm, ⟨34, _⟩ => ⟨S8192x32, .f32⟩
  | .hbm, ⟨35, _⟩ => ⟨S8192x32, .f32⟩
  | .hbm, ⟨36, _⟩ => ⟨S8192x32, .f32⟩
  | .hbm, ⟨37, _⟩ => ⟨S8192x32, .f32⟩
  | .hbm, ⟨38, _⟩ => ⟨S8192x32, .f32⟩
  | .hbm, ⟨39, _⟩ => ⟨S8192x32, .f32⟩
  | .hbm, ⟨40, _⟩ => ⟨S8192x64, .f32⟩
  | .hbm, ⟨41, _⟩ => ⟨S8192x64, .bf16⟩
  | .hbm, ⟨42, _⟩ => ⟨S1x512, .f32⟩
  | .hbm, ⟨43, _⟩ => ⟨S512, .f32⟩
  | .hbm, ⟨44, _⟩ => ⟨S8192x512, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x1, .f32⟩
  | .hbm, ⟨55, _⟩ => ⟨S8192x512, .f32⟩
  | .hbm, ⟨56, _⟩ => ⟨S8192x512, .f32⟩
  | .hbm, ⟨57, _⟩ => ⟨S1x512, .f32⟩
  | .hbm, ⟨58, _⟩ => ⟨S8192x512, .f32⟩
  | .hbm, ⟨59, _⟩ => ⟨S8192x512, .f32⟩
  | .hbm, ⟨60, _⟩ => ⟨S8192x512, .bf16⟩
  | .hbm, ⟨61, _⟩ => ⟨S8192x128, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_v38 : Ref sig .tc := ⟨.hbm, 47, rfl⟩
abbrev main_cst_4 : Ref sig .tc := ⟨.hbm, 48, rfl⟩
abbrev main_v39 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩

abbrev nD : Nat := 1
abbrev τ : Topo := Topo.v7x

variable {F : FTy → Type} [FloatOps F]
-- ==== Conv.lean ====
abbrev S8192x2048 : Shape := ⟨2, ![8192, 2048]⟩
abbrev S4x31x2048 : Shape := ⟨3, ![4, 31, 2048]⟩
abbrev S4x2048 : Shape := ⟨2, ![4, 2048]⟩
abbrev S1x31x2048 : Shape := ⟨3, ![1, 31, 2048]⟩
abbrev S31x2048 : Shape := ⟨2, ![31, 2048]⟩
abbrev S1x2048 : Shape := ⟨2, ![1, 2048]⟩
abbrev S2048 : Shape := ⟨1, ![2048]⟩
abbrev S_ : Shape := ⟨0, ![]⟩
abbrev S32x2048 : Shape := ⟨2, ![32, 2048]⟩
abbrev S128x2048 : Shape := ⟨2, ![128, 2048]⟩
abbrev S160x2048 : Shape := ⟨2, ![160, 2048]⟩
abbrev S128x128 : Shape := ⟨2, ![128, 128]⟩
abbrev S1x128 : Shape := ⟨2, ![1, 128]⟩
abbrev S152x128 : Shape := ⟨2, ![152, 128]⟩
abbrev S128 : Shape := ⟨1, ![128]⟩
abbrev S128x1 : Shape := ⟨2, ![128, 1]⟩

abbrev nBuf : Space → Nat
  | .hbm => 21
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S4x31x2048, .f32⟩
  | .hbm, ⟨3, _⟩ => ⟨S4x2048, .f32⟩
  | .hbm, ⟨4, _⟩ => ⟨S4x2048, .f32⟩
  | .hbm, ⟨5, _⟩ => ⟨S4x2048, .f32⟩
  | .hbm, ⟨6, _⟩ => ⟨S1x31x2048, .f32⟩
  | .hbm, ⟨7, _⟩ => ⟨S31x2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S2048, .f32⟩
  | .hbm, ⟨14, _⟩ => ⟨S_, .i32⟩
  | .hbm, ⟨15, _⟩ => ⟨S_, .f32⟩
  | .hbm, ⟨16, _⟩ => ⟨S32x2048, .f32⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S8192x2048, .bf16⟩
  | .local _ .vmem, ⟨0, _⟩ => ⟨S128x2048, .f32⟩
  | .local _ .vmem, ⟨1, _⟩ => ⟨S128x2048, .f32⟩
  | .local _ .vmem, ⟨2, _⟩ => ⟨S32x2048, .f32⟩
  | .local _ .vmem, ⟨3, _⟩ => ⟨S32x2048, .f32⟩
  | .local _ .vmem, ⟨4, _⟩ => ⟨S128x2048, .bf16⟩
  | .local _ .vmem, ⟨5, _⟩ => ⟨S128x2048, .bf16⟩
  | .local _ .vmem, ⟨6, _⟩ => ⟨S32x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S128x2048, .bf16⟩
  | .local _ .vmem, ⟨11, _⟩ => ⟨S128x2048, .bf16⟩
  | .local _ .vmem, ⟨12, _⟩ => ⟨S160x2048, .f32⟩
  | .local _ .vmem, ⟨13, _⟩ => ⟨S128x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ConvRefIdeal.lean ====
abbrev S8192x2048 : Shape := ⟨2, ![8192, 2048]⟩
abbrev S4x31x2048 : Shape := ⟨3, ![4, 31, 2048]⟩
abbrev S4x2048 : Shape := ⟨2, ![4, 2048]⟩
abbrev S_ : Shape := ⟨0, ![]⟩
abbrev S8222x2048 : Shape := ⟨2, ![8222, 2048]⟩
abbrev S1x1x2048 : Shape := ⟨3, ![1, 1, 2048]⟩
abbrev S2048 : Shape := ⟨1, ![2048]⟩
abbrev S1x2048 : Shape := ⟨2, ![1, 2048]⟩
abbrev S8192 : Shape := ⟨1, ![8192]⟩
abbrev S8192x1 : Shape := ⟨2, ![8192, 1]⟩

abbrev nBuf : Space → Nat
  | .hbm => 278
  | .vmem => 0
  | .smem => 0
  | _ => 0

abbrev hbmTy0_0 (i : Nat) : BufTy := match i % 128 with
  | 0 => ⟨S8192x2048, .f32⟩
  | 1 => ⟨S8192x2048, .bf16⟩
  | 2 => ⟨S4x31x2048, .f32⟩
  | 3 => ⟨S4x2048, .f32⟩
  | 4 => ⟨S4x2048, .f32⟩
  | 5 => ⟨S4x2048, .f32⟩
  | 6 => ⟨S_, .i32⟩
  | 7 => ⟨S_, .f32⟩
  | 8 => ⟨S8222x2048, .f32⟩
  | 9 => ⟨S1x1x2048, .f32⟩
  | 10 => ⟨S2048, .f32⟩
  | 11 => ⟨S8192x2048, .f32⟩
  | 12 => ⟨S1x2048, .f32⟩
  | 13 => ⟨S8192x2048, .f32⟩
  | 14 => ⟨S8192x2048, .f32⟩
  | 15 => ⟨S_, .f32⟩
  | 16 => ⟨S8192x2048, .f32⟩
  | 17 => ⟨S8192x2048, .f32⟩
  | 18 => ⟨S1x1x2048, .f32⟩
  | 19 => ⟨S2048, .f32⟩
  | 20 => ⟨S8192x2048, .f32⟩
  | 21 => ⟨S1x2048, .f32⟩
  | 22 => ⟨S8192x2048, .f32⟩
  | 23 => ⟨S8192x2048, .f32⟩
  | 24 => ⟨S8192x2048, .f32⟩
  | 25 => ⟨S1x1x2048, .f32⟩
  | 26 => ⟨S2048, .f32⟩
  | 27 => ⟨S8192x2048, .f32⟩
  | 28 => ⟨S1x2048, .f32⟩
  | 29 => ⟨S8192x2048, .f32⟩
  | 30 => ⟨S8192x2048, .f32⟩
  | 31 => ⟨S8192x2048, .f32⟩
  | 32 => ⟨S1x1x2048, .f32⟩
  | 33 => ⟨S2048, .f32⟩
  | 34 => ⟨S8192x2048, .f32⟩
  | 35 => ⟨S1x2048, .f32⟩
  | 36 => ⟨S8192x2048, .f32⟩
  | 37 => ⟨S8192x2048, .f32⟩
  | 38 => ⟨S8192x2048, .f32⟩
  | 39 => ⟨S1x1x2048, .f32⟩
  | 40 => ⟨S2048, .f32⟩
  | 41 => ⟨S8192x2048, .f32⟩
  | 42 => ⟨S1x2048, .f32⟩
  | 43 => ⟨S8192x2048, .f32⟩
  | 44 => ⟨S8192x2048, .f32⟩
  | 45 => ⟨S8192x2048, .f32⟩
  | 46 => ⟨S1x1x2048, .f32⟩
  | 47 => ⟨S2048, .f32⟩
  | 48 => ⟨S8192x2048, .f32⟩
  | 49 => ⟨S1x2048, .f32⟩
  | 50 => ⟨S8192x2048, .f32⟩
  | 51 => ⟨S8192x2048, .f32⟩
  | 52 => ⟨S8192x2048, .f32⟩
  | 53 => ⟨S1x1x2048, .f32⟩
  | 54 => ⟨S2048, .f32⟩
  | 55 => ⟨S8192x2048, .f32⟩
  | 56 => ⟨S1x2048, .f32⟩
  | 57 => ⟨S8192x2048, .f32⟩
  | 58 => ⟨S8192x2048, .f32⟩
  | 59 => ⟨S8192x2048, .f32⟩
  | 60 => ⟨S1x1x2048, .f32⟩
  | 61 => ⟨S2048, .f32⟩
  | 62 => ⟨S8192x2048, .f32⟩
  | 63 => ⟨S1x2048, .f32⟩
  | 64 => ⟨S8192x2048, .f32⟩
  | 65 => ⟨S8192x2048, .f32⟩
  | 66 => ⟨S8192x2048, .f32⟩
  | 67 => ⟨S1x1x2048, .f32⟩
  | 68 => ⟨S2048, .f32⟩
  | 69 => ⟨S8192x2048, .f32⟩
  | 70 => ⟨S1x2048, .f32⟩
  | 71 => ⟨S8192x2048, .f32⟩
  | 72 => ⟨S8192x2048, .f32⟩
  | 73 => ⟨S8192x2048, .f32⟩
  | 74 => ⟨S1x1x2048, .f32⟩
  | 75 => ⟨S2048, .f32⟩
  | 76 => ⟨S8192x2048, .f32⟩
  | 77 => ⟨S1x2048, .f32⟩
  | 78 => ⟨S8192x2048, .f32⟩
  | 79 => ⟨S8192x2048, .f32⟩
  | 80 => ⟨S8192x2048, .f32⟩
  | 81 => ⟨S1x1x2048, .f32⟩
  | 82 => ⟨S2048, .f32⟩
  | 83 => ⟨S8192x2048, .f32⟩
  | 84 => ⟨S1x2048, .f32⟩
  | 85 => ⟨S8192x2048, .f32⟩
  | 86 => ⟨S8192x2048, .f32⟩
  | 87 => ⟨S8192x2048, .f32⟩
  | 88 => ⟨S1x1x2048, .f32⟩
  | 89 => ⟨S2048, .f32⟩
  | 90 => ⟨S8192x2048, .f32⟩
  | 91 => ⟨S1x2048, .f32⟩
  | 92 => ⟨S8192x2048, .f32⟩
  | 93 => ⟨S8192x2048, .f32⟩
  | 94 => ⟨S8192x2048, .f32⟩
  | 95 => ⟨S1x1x2048, .f32⟩
  | 96 => ⟨S2048, .f32⟩
  | 97 => ⟨S8192x2048, .f32⟩
  | 98 => ⟨S1x2048, .f32⟩
  | 99 => ⟨S8192x2048, .f32⟩
  | 100 => ⟨S8192x2048, .f32⟩
  | 101 => ⟨S8192x2048, .f32⟩
  | 102 => ⟨S1x1x2048, .f32⟩
  | 103 => ⟨S2048, .f32⟩
  | 104 => ⟨S8192x2048, .f32⟩
  | 105 => ⟨S1x2048, .f32⟩
  | 106 => ⟨S8192x2048, .f32⟩
  | 107 => ⟨S8192x2048, .f32⟩
  | 108 => ⟨S8192x2048, .f32⟩
  | 109 => ⟨S1x1x2048, .f32⟩
  | 110 => ⟨S2048, .f32⟩
  | 111 => ⟨S8192x2048, .f32⟩
  | 112 => ⟨S1x2048, .f32⟩
  | 113 => ⟨S8192x2048, .f32⟩
  | 114 => ⟨S8192x2048, .f32⟩
  | 115 => ⟨S8192x2048, .f32⟩
  | 116 => ⟨S1x1x2048, .f32⟩
  | 117 => ⟨S2048, .f32⟩
  | 118 => ⟨S8192x2048, .f32⟩
  | 119 => ⟨S1x2048, .f32⟩
  | 120 => ⟨S8192x2048, .f32⟩
  | 121 => ⟨S8192x2048, .f32⟩
  | 122 => ⟨S8192x2048, .f32⟩
  | 123 => ⟨S1x1x2048, .f32⟩
  | 124 => ⟨S2048, .f32⟩
  | 125 => ⟨S8192x2048, .f32⟩
  | 126 => ⟨S1x2048, .f32⟩
  | 127 => ⟨S8192x2048, .f32⟩
  | _ => ⟨S8192x2048, .f32⟩

abbrev hbmTy0_1 (i : Nat) : BufTy := match i % 128 with
  | 0 => ⟨S8192x2048, .f32⟩
  | 1 => ⟨S8192x2048, .f32⟩
  | 2 => ⟨S1x1x2048, .f32⟩
  | 3 => ⟨S2048, .f32⟩
  | 4 => ⟨S8192x2048, .f32⟩
  | 5 => ⟨S1x2048, .f32⟩
  | 6 => ⟨S8192x2048, .f32⟩
  | 7 => ⟨S8192x2048, .f32⟩
  | 8 => ⟨S8192x2048, .f32⟩
  | 9 => ⟨S1x1x2048, .f32⟩
  | 10 => ⟨S2048, .f32⟩
  | 11 => ⟨S8192x2048, .f32⟩
  | 12 => ⟨S1x2048, .f32⟩
  | 13 => ⟨S8192x2048, .f32⟩
  | 14 => ⟨S8192x2048, .f32⟩
  | 15 => ⟨S8192x2048, .f32⟩
  | 16 => ⟨S1x1x2048, .f32⟩
  | 17 => ⟨S2048, .f32⟩
  | 18 => ⟨S8192x2048, .f32⟩
  | 19 => ⟨S1x2048, .f32⟩
  | 20 => ⟨S8192x2048, .f32⟩
  | 21 => ⟨S8192x2048, .f32⟩
  | 22 => ⟨S8192x2048, .f32⟩
  | 23 => ⟨S1x1x2048, .f32⟩
  | 24 => ⟨S2048, .f32⟩
  | 25 => ⟨S8192x2048, .f32⟩
  | 26 => ⟨S1x2048, .f32⟩
  | 27 => ⟨S8192x2048, .f32⟩
  | 28 => ⟨S8192x2048, .f32⟩
  | 29 => ⟨S8192x2048, .f32⟩
  | 30 => ⟨S1x1x2048, .f32⟩
  | 31 => ⟨S2048, .f32⟩
  | 32 => ⟨S8192x2048, .f32⟩
  | 33 => ⟨S1x2048, .f32⟩
  | 34 => ⟨S8192x2048, .f32⟩
  | 35 => ⟨S8192x2048, .f32⟩
  | 36 => ⟨S8192x2048, .f32⟩
  | 37 => ⟨S1x1x2048, .f32⟩
  | 38 => ⟨S2048, .f32⟩
  | 39 => ⟨S8192x2048, .f32⟩
  | 40 => ⟨S1x2048, .f32⟩
  | 41 => ⟨S8192x2048, .f32⟩
  | 42 => ⟨S8192x2048, .f32⟩
  | 43 => ⟨S8192x2048, .f32⟩
  | 44 => ⟨S1x1x2048, .f32⟩
  | 45 => ⟨S2048, .f32⟩
  | 46 => ⟨S8192x2048, .f32⟩
  | 47 => ⟨S1x2048, .f32⟩
  | 48 => ⟨S8192x2048, .f32⟩
  | 49 => ⟨S8192x2048, .f32⟩
  | 50 => ⟨S8192x2048, .f32⟩
  | 51 => ⟨S1x1x2048, .f32⟩
  | 52 => ⟨S2048, .f32⟩
  | 53 => ⟨S8192x2048, .f32⟩
  | 54 => ⟨S1x2048, .f32⟩
  | 55 => ⟨S8192x2048, .f32⟩
  | 56 => ⟨S8192x2048, .f32⟩
  | 57 => ⟨S8192x2048, .f32⟩
  | 58 => ⟨S1x1x2048, .f32⟩
  | 59 => ⟨S2048, .f32⟩
  | 60 => ⟨S8192x2048, .f32⟩
  | 61 => ⟨S1x2048, .f32⟩
  | 62 => ⟨S8192x2048, .f32⟩
  | 63 => ⟨S8192x2048, .f32⟩
  | 64 => ⟨S8192x2048, .f32⟩
  | 65 => ⟨S1x1x2048, .f32⟩
  | 66 => ⟨S2048, .f32⟩
  | 67 => ⟨S8192x2048, .f32⟩
  | 68 => ⟨S1x2048, .f32⟩
  | 69 => ⟨S8192x2048, .f32⟩
  | 70 => ⟨S8192x2048, .f32⟩
  | 71 => ⟨S8192x2048, .f32⟩
  | 72 => ⟨S1x1x2048, .f32⟩
  | 73 => ⟨S2048, .f32⟩
  | 74 => ⟨S8192x2048, .f32⟩
  | 75 => ⟨S1x2048, .f32⟩
  | 76 => ⟨S8192x2048, .f32⟩
  | 77 => ⟨S8192x2048, .f32⟩
  | 78 => ⟨S8192x2048, .f32⟩
  | 79 => ⟨S1x1x2048, .f32⟩
  | 80 => ⟨S2048, .f32⟩
  | 81 => ⟨S8192x2048, .f32⟩
  | 82 => ⟨S1x2048, .f32⟩
  | 83 => ⟨S8192x2048, .f32⟩
  | 84 => ⟨S8192x2048, .f32⟩
  | 85 => ⟨S8192x2048, .f32⟩
  | 86 => ⟨S1x1x2048, .f32⟩
  | 87 => ⟨S2048, .f32⟩
  | 88 => ⟨S8192x2048, .f32⟩
  | 89 => ⟨S1x2048, .f32⟩
  | 90 => ⟨S8192x2048, .f32⟩
  | 91 => ⟨S8192x2048, .f32⟩
  | 92 => ⟨S8192x2048, .f32⟩
  | 93 => ⟨S1x1x2048, .f32⟩
  | 94 => ⟨S2048, .f32⟩
  | 95 => ⟨S8192x2048, .f32⟩
  | 96 => ⟨S1x2048, .f32⟩
  | 97 => ⟨S8192x2048, .f32⟩
  | 98 => ⟨S8192x2048, .f32⟩
  | 99 => ⟨S8192x2048, .f32⟩
  | 100 => ⟨S1x2048, .f32⟩
  | 101 => ⟨S2048, .f32⟩
  | 102 => ⟨S1x2048, .f32⟩
  | 103 => ⟨S8192x2048, .f32⟩
  | 104 => ⟨S8192x2048, .f32⟩
  | 105 => ⟨S1x2048, .f32⟩
  | 106 => ⟨S2048, .f32⟩
  | 107 => ⟨S1x2048, .f32⟩
  | 108 => ⟨S2048, .f32⟩
  | 109 => ⟨S_, .f32⟩
  | 110 => ⟨S8192, .f32⟩
  | 111 => ⟨S8192x1, .f32⟩
  | 112 => ⟨S_, .f32⟩
  | 113 => ⟨S8192x1, .f32⟩
  | 114 => ⟨S8192x1, .f32⟩
  | 115 => ⟨S8192x2048, .f32⟩
  | 116 => ⟨S8192x2048, .f32⟩
  | 117 => ⟨S8192x2048, .f32⟩
  | 118 => ⟨S_, .f32⟩
  | 119 => ⟨S8192, .f32⟩
  | 120 => ⟨S8192x1, .f32⟩
  | 121 => ⟨S_, .f32⟩
  | 122 => ⟨S8192x1, .f32⟩
  | 123 => ⟨S8192x1, .f32⟩
  | 124 => ⟨S8192x2048, .f32⟩
  | 125 => ⟨S8192x2048, .f32⟩
  | 126 => ⟨S_, .f32⟩
  | 127 => ⟨S8192x1, .f32⟩
  | _ => ⟨S8192x2048, .f32⟩

abbrev hbmTy0_2 (i : Nat) : BufTy := match i % 128 with
  | 0 => ⟨S8192x1, .f32⟩
  | 1 => ⟨S8192x1, .f32⟩
  | 2 => ⟨S8192x2048, .f32⟩
  | 3 => ⟨S8192x2048, .f32⟩
  | 4 => ⟨S1x2048, .f32⟩
  | 5 => ⟨S8192x2048, .f32⟩
  | 6 => ⟨S8192x2048, .f32⟩
  | 7 => ⟨S1x2048, .f32⟩
  | 8 => ⟨S8192x2048, .f32⟩
  | 9 => ⟨S8192x2048, .f32⟩
  | 10 => ⟨S8192x2048, .f32⟩
  | 11 => ⟨S8192x2048, .f32⟩
  | 12 => ⟨S_, .f32⟩
  | 13 => ⟨S8192x2048, .f32⟩
  | 14 => ⟨S8192x2048, .f32⟩
  | 15 => ⟨S_, .f32⟩
  | 16 => ⟨S8192x2048, .f32⟩
  | 17 => ⟨S8192x2048, .f32⟩
  | 18 => ⟨S8192x2048, .f32⟩
  | 19 => ⟨S8192x2048, .f32⟩
  | 20 => ⟨S8192x2048, .f32⟩
  | 21 => ⟨S8192x2048, .bf16⟩
  | _ => ⟨S8192x2048, .f32⟩

abbrev hbmTy (i : Nat) : BufTy := match i / 128 with
  | 0 => hbmTy0_0 i
  | 1 => hbmTy0_1 i
  | 2 => hbmTy0_2 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_cst_0 : Ref sig .tc := ⟨.hbm, 237, rfl⟩
abbrev main_v228 : Ref sig .tc := ⟨.hbm, 238, rfl⟩
abbrev main_v229 : Ref sig .tc := ⟨.hbm, 239, rfl⟩
abbrev main_cst_1 : Ref sig .tc := ⟨.hbm, 240, rfl⟩
abbrev main_v230 : Ref sig .tc := ⟨.hbm, 241, rfl⟩
abbrev main_v231 : Ref sig .tc := ⟨.hbm, 242, rfl⟩
abbrev main_v232 : Ref sig .tc := ⟨.hbm, 243, rfl⟩
abbrev main_v233 : Ref sig .tc := ⟨.hbm, 244, rfl⟩
abbrev main_v234 : Ref sig .tc := ⟨.hbm, 245, rfl⟩
abbrev main_cst_2 : Ref sig .tc := ⟨.hbm, 246, rfl⟩
abbrev main_v235 : Ref sig .tc := ⟨.hbm, 247, rfl⟩
abbrev main_v236 : Ref sig .tc := ⟨.hbm, 248, rfl⟩
abbrev main_cst_3 : Ref sig .tc := ⟨.hbm, 249, rfl⟩
abbrev main_v237 : Ref sig .tc := ⟨.hbm, 250, rfl⟩
abbrev main_v238 : Ref sig .tc := ⟨.hbm, 251, rfl⟩
abbrev main_v239 : Ref sig .tc := ⟨.hbm, 252, rfl⟩
abbrev main_v240 : Ref sig .tc := ⟨.hbm, 253, rfl⟩
abbrev main_cst_4 : Ref sig .tc := ⟨.hbm, 254, rfl⟩
abbrev main_v241 : Ref sig .tc := ⟨.hbm, 255, rfl⟩
abbrev main_v242 : Ref sig .tc := ⟨.hbm, 256, rfl⟩
abbrev main_v243 : Ref sig .tc := ⟨.hbm, 257, rfl⟩
abbrev main_v244 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_call1_v0 : Ref sig .tc := ⟨.hbm, 266, rfl⟩
abbrev main_call1_v1 : Ref sig .tc := ⟨.hbm, 267, rfl⟩
abbrev main_call1_cst : Ref sig .tc := ⟨.hbm, 268, rfl⟩
abbrev main_call1_v2 : Ref sig .tc := ⟨.hbm, 269, rfl⟩
abbrev main_call1_v3 : Ref sig .tc := ⟨.hbm, 270, rfl⟩
abbrev main_call1_cst_0 : Ref sig .tc := ⟨.hbm, 271, rfl⟩
abbrev main_call1_v4 : Ref sig .tc := ⟨.hbm, 272, rfl⟩
abbrev main_call1_v5 : Ref sig .tc := ⟨.hbm, 273, rfl⟩
abbrev main_v252 : Ref sig .tc := ⟨.hbm, 274, rfl⟩
abbrev main_v253 : Ref sig .tc := ⟨.hbm, 275, rfl⟩
abbrev main_v254 : Ref sig .tc := ⟨.hbm, 276, rfl⟩
abbrev main_v255 : Ref sig .tc := ⟨.hbm, 277, rfl⟩

abbrev nD : Nat := 1
abbrev τ : Topo := Topo.v7x

variable {F : FTy → Type} [FloatOps F]
-- ==== Flash.lean ====
abbrev S32x8192x256 : Shape := ⟨3, ![32, 8192, 256]⟩
abbrev S32x8192x128 : Shape := ⟨3, ![32, 8192, 128]⟩
abbrev S8192x4096 : Shape := ⟨2, ![8192, 4096]⟩
abbrev S2x1024x256 : Shape := ⟨3, ![2, 1024, 256]⟩
abbrev S2x8192x256 : Shape := ⟨3, ![2, 8192, 256]⟩
abbrev S2x8192x128 : Shape := ⟨3, ![2, 8192, 128]⟩
abbrev S1024x256 : Shape := ⟨2, ![1024, 256]⟩
abbrev S2x1024x128 : Shape := ⟨3, ![2, 1024, 128]⟩
abbrev S1x1024x256 : Shape := ⟨3, ![1, 1024, 256]⟩
abbrev S1x1024x128 : Shape := ⟨3, ![1, 1024, 128]⟩
abbrev S1024x128 : Shape := ⟨2, ![1024, 128]⟩
abbrev S1024x1024 : Shape := ⟨2, ![1024, 1024]⟩
abbrev S1024 : Shape := ⟨1, ![1024]⟩
abbrev S1024x1 : Shape := ⟨2, ![1024, 1]⟩
abbrev S1x256x256 : Shape := ⟨3, ![1, 256, 256]⟩
abbrev S256x256 : Shape := ⟨2, ![256, 256]⟩
abbrev S1x256x128 : Shape := ⟨3, ![1, 256, 128]⟩
abbrev S256x128 : Shape := ⟨2, ![256, 128]⟩
abbrev S1x768x256 : Shape := ⟨3, ![1, 768, 256]⟩
abbrev S768x256 : Shape := ⟨2, ![768, 256]⟩
abbrev S1x768x128 : Shape := ⟨3, ![1, 768, 128]⟩
abbrev S768x128 : Shape := ⟨2, ![768, 128]⟩
abbrev S768 : Shape := ⟨1, ![768]⟩
abbrev S768x1 : Shape := ⟨2, ![768, 1]⟩
abbrev S1x512x256 : Shape := ⟨3, ![1, 512, 256]⟩
abbrev S512x256 : Shape := ⟨2, ![512, 256]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S256 : Shape := ⟨1, ![256]⟩
abbrev S256x1 : Shape := ⟨2, ![256, 1]⟩

abbrev nBuf : Space → Nat
  | .hbm => 5
  | .vmem => 13
  | .smem => 0
  | _ => 0

abbrev bufTy : (tb : Table) → Fin (tcTables nBuf tb) → BufTy
  | .hbm, ⟨0, _⟩ => ⟨S32x8192x256, .bf16⟩
  | .hbm, ⟨1, _⟩ => ⟨S32x8192x256, .bf16⟩
  | .hbm, ⟨2, _⟩ => ⟨S32x8192x128, .bf16⟩
  | .hbm, ⟨3, _⟩ => ⟨S8192x4096, .bf16⟩
  | .hbm, ⟨4, _⟩ => ⟨S8192x4096, .bf16⟩
  | .local _ .vmem, ⟨0, _⟩ => ⟨S2x1024x256, .bf16⟩
  | .local _ .vmem, ⟨1, _⟩ => ⟨S2x1024x256, .bf16⟩
  | .local _ .vmem, ⟨2, _⟩ => ⟨S2x8192x256, .bf16⟩
  | .local _ .vmem, ⟨3, _⟩ => ⟨S2x8192x256, .bf16⟩
  | .local _ .vmem, ⟨4, _⟩ => ⟨S2x8192x128, .bf16⟩
  | .local _ .vmem, ⟨5, _⟩ => ⟨S2x8192x128, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S2x1024x128, .f32⟩
  | .local _ .vmem, ⟨11, _⟩ => ⟨S2x1024x128, .f32⟩
  | .local _ .vmem, ⟨12, _⟩ => ⟨S2x1024x128, .f32⟩
  | _, _ => ⟨S32x8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

@[reducible] def k0_t1_loop (i : grid0.Coords) : Scf.Loop 32 :=
  let c0_i32_16 : BitVec 32 := 0#32
  let arg1 : BitVec 32 := BitVec.ofNat 32 (i 1).val
  let c1_i32 : BitVec 32 := 1#32
  let v12 : BitVec 32 := Scalar.muli arg1 c1_i32
  let c0_i32 : BitVec 32 := 0#32
  let v14 : BitVec 1 := Scalar.cmpi .sgt v12 c0_i32
  let v15 : BitVec 32 := Scalar.extui v14
  let c0_i32_10 : BitVec 32 := 0#32
  let v16 : BitVec 1 := Scalar.cmpi .slt v12 c0_i32_10
  let v17 : BitVec 32 := Scalar.extui v16
  let v18 : BitVec 32 := Scalar.subi v15 v17
  let c2_i32 : BitVec 32 := 2#32
  let c0_i32_11 : BitVec 32 := 0#32
  let v19 : BitVec 1 := Scalar.cmpi .sgt c2_i32 c0_i32_11
  let v20 : BitVec 32 := Scalar.extui v19
  let c0_i32_12 : BitVec 32 := 0#32
  let v21 : BitVec 1 := Scalar.cmpi .slt c2_i32 c0_i32_12
  let v22 : BitVec 32 := Scalar.extui v21
  let v23 : BitVec 32 := Scalar.subi v20 v22
  let v24 : BitVec 1 := Scalar.cmpi .ne v18 v23
  let v25 : BitVec 32 := Scalar.remsi v12 c2_i32
  let c0_i32_13 : BitVec 32 := 0#32
  let v26 : BitVec 1 := Scalar.cmpi .ne v25 c0_i32_13
  let v27 : BitVec 1 := Scalar.andi v24 v26
  let v13 : BitVec 32 := Scalar.divsi v12 c2_i32
  let c1_i32_14 : BitVec 32 := 1#32
  let v28 : BitVec 32 := Scalar.subi v13 c1_i32_14
  let v29 : BitVec 32 := Scalar.select v27 v28 v13
  let v30 : BitVec 32 := Scalar.subi v29 c0_i32_16
  let c1_i32_17 : BitVec 32 := 1#32
  let v32 : BitVec 32 := Scalar.divsi v30 c1_i32_17
  let v33 : BitVec 32 := Scalar.muli v32 c1_i32_17
  let v34 : BitVec 32 := Scalar.addi c0_i32_16 v33
  let c1_i32_18 : BitVec 32 := 1#32
  ⟨c0_i32_16, v34, c1_i32_18⟩
def k0_mult1 (i : grid0.Coords) (k0_t1 : Fin (k0_t1_loop i).trips) : BitVec 32 :=
  let c2_i32_280 : BitVec 32 := 2#32
  let c0_i32_16 : BitVec 32 := 0#32
  let c1_i32_18 : BitVec 32 := 1#32
  let arg10 : BitVec 32 := Scf.iv c0_i32_16 c1_i32_18 k0_t1
  let v459 : BitVec 32 := Scalar.muli c2_i32_280 arg10
  let c1024_i32_281 : BitVec 32 := 1024#32
  let v460 : BitVec 32 := Scalar.muli v459 c1024_i32_281
  v460
def k0_off1 (i : grid0.Coords) (k0_t1 : Fin (k0_t1_loop i).trips) : Fin 3 → Nat :=
  let c0_285 : Index := 0#32
  let c2_i32_280 : BitVec 32 := 2#32
  let c0_i32_16 : BitVec 32 := 0#32
  let c1_i32_18 : BitVec 32 := 1#32
  let arg10 : BitVec 32 := Scf.iv c0_i32_16 c1_i32_18 k0_t1
  let v459 : BitVec 32 := Scalar.muli c2_i32_280 arg10
  let c1024_i32_281 : BitVec 32 := 1024#32
  let v460 : BitVec 32 := Scalar.muli v459 c1024_i32_281
  let v461 : BitVec 32 := v460
  let v464 : Index := Scalar.indexCast v461
  let c0_286 : Index := 0#32
  ![0, v464.toNat, 0]
def k0_off2 (i : grid0.Coords) (k0_t1 : Fin (k0_t1_loop i).trips) : Fin 3 → Nat :=
  let c0_287 : Index := 0#32
  let c2_i32_280 : BitVec 32 := 2#32
  let c0_i32_16 : BitVec 32 := 0#32
  let c1_i32_18 : BitVec 32 := 1#32
  let arg10 : BitVec 32 := Scf.iv c0_i32_16 c1_i32_18 k0_t1
  let v459 : BitVec 32 := Scalar.muli c2_i32_280 arg10
  let c1024_i32_281 : BitVec 32 := 1024#32
  let v460 : BitVec 32 := Scalar.muli v459 c1024_i32_281
  let v461 : BitVec 32 := v460
  let v467 : Index := Scalar.indexCast v461
  let c0_288 : Index := 0#32
  ![0, v467.toNat, 0]
def k0_off3 (i : grid0.Coords) (k0_t1 : Fin (k0_t1_loop i).trips) : Fin 3 → Nat :=
  let c1_313 : Index := 1#32
  let c2_i32_280 : BitVec 32 := 2#32
  let c0_i32_16 : BitVec 32 := 0#32
  let c1_i32_18 : BitVec 32 := 1#32
  let arg10 : BitVec 32 := Scf.iv c0_i32_16 c1_i32_18 k0_t1
  let v459 : BitVec 32 := Scalar.muli c2_i32_280 arg10
  let c1024_i32_281 : BitVec 32 := 1024#32
  let v460 : BitVec 32 := Scalar.muli v459 c1024_i32_281
  let v461 : BitVec 32 := v460
  let v518 : Index := Scalar.indexCast v461
  let c0_314 : Index := 0#32
  ![1, v518.toNat, 0]
def k0_off4 (i : grid0.Coords) (k0_t1 : Fin (k0_t1_loop i).trips) : Fin 3 → Nat :=
  let c1_315 : Index := 1#32
  let c2_i32_280 : BitVec 32 := 2#32
  let c0_i32_16 : BitVec 32 := 0#32
  let c1_i32_18 : BitVec 32 := 1#32
  let arg10 : BitVec 32 := Scf.iv c0_i32_16 c1_i32_18 k0_t1
  let v459 : BitVec 32 := Scalar.muli c2_i32_280 arg10
  let c1024_i32_281 : BitVec 32 := 1024#32
  let v460 : BitVec 32 := Scalar.muli v459 c1024_i32_281
  let v461 : BitVec 32 := v460
  let v521 : Index := Scalar.indexCast v461
  let c0_316 : Index := 0#32
  ![1, v521.toNat, 0]
def k0_mult2 (i : grid0.Coords) (k0_t1 : Fin (k0_t1_loop i).trips) : BitVec 32 :=
  let c2_i32_338 : BitVec 32 := 2#32
  let c0_i32_16 : BitVec 32 := 0#32
  let c1_i32_18 : BitVec 32 := 1#32
  let arg10 : BitVec 32 := Scf.iv c0_i32_16 c1_i32_18 k0_t1
  let v570 : BitVec 32 := Scalar.muli c2_i32_338 arg10
  let c1_i32_339 : BitVec 32 := 1#32
  let v571 : BitVec 32 := Scalar.addi v570 c1_i32_339
  let c1024_i32_340 : BitVec 32 := 1024#32
  let v572 : BitVec 32 := Scalar.muli v571 c1024_i32_340
  v572
def k0_off5 (i : grid0.Coords) (k0_t1 : Fin (k0_t1_loop i).trips) : Fin 3 → Nat :=
  let c0_344 : Index := 0#32
  let c2_i32_338 : BitVec 32 := 2#32
  let c0_i32_16 : BitVec 32 := 0#32
  let c1_i32_18 : BitVec 32 := 1#32
  let arg10 : BitVec 32 := Scf.iv c0_i32_16 c1_i32_18 k0_t1
  let v570 : BitVec 32 := Scalar.muli c2_i32_338 arg10
  let c1_i32_339 : BitVec 32 := 1#32
  let v571 : BitVec 32 := Scalar.addi v570 c1_i32_339
  let c1024_i32_340 : BitVec 32 := 1024#32
  let v572 : BitVec 32 := Scalar.muli v571 c1024_i32_340
  let v573 : BitVec 32 := v572
  let v576 : Index := Scalar.indexCast v573
  let c0_345 : Index := 0#32
  ![0, v576.toNat, 0]
def k0_off6 (i : grid0.Coords) (k0_t1 : Fin (k0_t1_loop i).trips) : Fin 3 → Nat :=
  let c0_346 : Index := 0#32
  let c2_i32_338 : BitVec 32 := 2#32
  let c0_i32_16 : BitVec 32 := 0#32
  let c1_i32_18 : BitVec 32 := 1#32
  let arg10 : BitVec 32 := Scf.iv c0_i32_16 c1_i32_18 k0_t1
  let v570 : BitVec 32 := Scalar.muli c2_i32_338 arg10
  let c1_i32_339 : BitVec 32 := 1#32
  let v571 : BitVec 32 := Scalar.addi v570 c1_i32_339
  let c1024_i32_340 : BitVec 32 := 1024#32
  let v572 : BitVec 32 := Scalar.muli v571 c1024_i32_340
  let v573 : BitVec 32 := v572
  let v579 : Index := Scalar.indexCast v573
  let c0_347 : Index := 0#32
  ![0, v579.toNat, 0]
def k0_off7 (i : grid0.Coords) (k0_t1 : Fin (k0_t1_loop i).trips) : Fin 3 → Nat :=
  let c1_372 : Index := 1#32
  let c2_i32_338 : BitVec 32 := 2#32
  let c0_i32_16 : BitVec 32 := 0#32
  let c1_i32_18 : BitVec 32 := 1#32
  let arg10 : BitVec 32 := Scf.iv c0_i32_16 c1_i32_18 k0_t1
  let v570 : BitVec 32 := Scalar.muli c2_i32_338 arg10
  let c1_i32_339 : BitVec 32 := 1#32
  let v571 : BitVec 32 := Scalar.addi v570 c1_i32_339
  let c1024_i32_340 : BitVec 32 := 1024#32
  let v572 : BitVec 32 := Scalar.muli v571 c1024_i32_340
  let v573 : BitVec 32 := v572
  let v630 : Index := Scalar.indexCast v573
  let c0_373 : Index := 0#32
  ![1, v630.toNat, 0]
def k0_off8 (i : grid0.Coords) (k0_t1 : Fin (k0_t1_loop i).trips) : Fin 3 → Nat :=
  let c1_374 : Index := 1#32
  let c2_i32_338 : BitVec 32 := 2#32
  let c0_i32_16 : BitVec 32 := 0#32
  let c1_i32_18 : BitVec 32 := 1#32
  let arg10 : BitVec 32 := Scf.iv c0_i32_16 c1_i32_18 k0_t1
  let v570 : BitVec 32 := Scalar.muli c2_i32_338 arg10
  let c1_i32_339 : BitVec 32 := 1#32
  let v571 : BitVec 32 := Scalar.addi v570 c1_i32_339
  let c1024_i32_340 : BitVec 32 := 1024#32
  let v572 : BitVec 32 := Scalar.muli v571 c1024_i32_340
  let v573 : BitVec 32 := v572
  let v633 : Index := Scalar.indexCast v573
  let c0_375 : Index := 0#32
  ![1, v633.toNat, 0]
@[reducible] def k0_t2_loop (i : grid0.Coords) : Scf.Loop 32 :=
  let c0_i32_16 : BitVec 32 := 0#32
  let arg1 : BitVec 32 := BitVec.ofNat 32 (i 1).val
  let c1_i32 : BitVec 32 := 1#32
  let v12 : BitVec 32 := Scalar.muli arg1 c1_i32
  let c0_i32 : BitVec 32 := 0#32
  let v14 : BitVec 1 := Scalar.cmpi .sgt v12 c0_i32
  let v15 : BitVec 32 := Scalar.extui v14
  let c0_i32_10 : BitVec 32 := 0#32
  let v16 : BitVec 1 := Scalar.cmpi .slt v12 c0_i32_10
  let v17 : BitVec 32 := Scalar.extui v16
  let v18 : BitVec 32 := Scalar.subi v15 v17
  let c2_i32 : BitVec 32 := 2#32
  let c0_i32_11 : BitVec 32 := 0#32
  let v19 : BitVec 1 := Scalar.cmpi .sgt c2_i32 c0_i32_11
  let v20 : BitVec 32 := Scalar.extui v19
  let c0_i32_12 : BitVec 32 := 0#32
  let v21 : BitVec 1 := Scalar.cmpi .slt c2_i32 c0_i32_12
  let v22 : BitVec 32 := Scalar.extui v21
  let v23 : BitVec 32 := Scalar.subi v20 v22
  let v24 : BitVec 1 := Scalar.cmpi .ne v18 v23
  let v25 : BitVec 32 := Scalar.remsi v12 c2_i32
  let c0_i32_13 : BitVec 32 := 0#32
  let v26 : BitVec 1 := Scalar.cmpi .ne v25 c0_i32_13
  let v27 : BitVec 1 := Scalar.andi v24 v26
  let v13 : BitVec 32 := Scalar.divsi v12 c2_i32
  let c1_i32_14 : BitVec 32 := 1#32
  let v28 : BitVec 32 := Scalar.subi v13 c1_i32_14
  let v29 : BitVec 32 := Scalar.select v27 v28 v13
  let v30 : BitVec 32 := Scalar.subi v29 c0_i32_16
  let c1_i32_17 : BitVec 32 := 1#32
  let v32 : BitVec 32 := Scalar.divsi v30 c1_i32_17
  let v33 : BitVec 32 := Scalar.muli v32 c1_i32_17
  let v34 : BitVec 32 := Scalar.addi c0_i32_16 v33
  let v31 : BitVec 32 := Scalar.addi c0_i32_16 v30
  let c1_i32_19 : BitVec 32 := 1#32
  ⟨v34, v31, c1_i32_19⟩
def k0_mult3 (i : grid0.Coords) (k0_t2 : Fin (k0_t2_loop i).trips) : BitVec 32 :=
  let c2_i32_280 : BitVec 32 := 2#32
  let c0_i32_16 : BitVec 32 := 0#32
  let arg1 : BitVec 32 := BitVec.ofNat 32 (i 1).val
  let c1_i32 : BitVec 32 := 1#32
  let v12 : BitVec 32 := Scalar.muli arg1 c1_i32
  let c0_i32 : BitVec 32 := 0#32
  let v14 : BitVec 1 := Scalar.cmpi .sgt v12 c0_i32
  let v15 : BitVec 32 := Scalar.extui v14
  let c0_i32_10 : BitVec 32 := 0#32
  let v16 : BitVec 1 := Scalar.cmpi .slt v12 c0_i32_10
  let v17 : BitVec 32 := Scalar.extui v16
  let v18 : BitVec 32 := Scalar.subi v15 v17
  let c2_i32 : BitVec 32 := 2#32
  let c0_i32_11 : BitVec 32 := 0#32
  let v19 : BitVec 1 := Scalar.cmpi .sgt c2_i32 c0_i32_11
  let v20 : BitVec 32 := Scalar.extui v19
  let c0_i32_12 : BitVec 32 := 0#32
  let v21 : BitVec 1 := Scalar.cmpi .slt c2_i32 c0_i32_12
  let v22 : BitVec 32 := Scalar.extui v21
  let v23 : BitVec 32 := Scalar.subi v20 v22
  let v24 : BitVec 1 := Scalar.cmpi .ne v18 v23
  let v25 : BitVec 32 := Scalar.remsi v12 c2_i32
  let c0_i32_13 : BitVec 32 := 0#32
  let v26 : BitVec 1 := Scalar.cmpi .ne v25 c0_i32_13
  let v27 : BitVec 1 := Scalar.andi v24 v26
  let v13 : BitVec 32 := Scalar.divsi v12 c2_i32
  let c1_i32_14 : BitVec 32 := 1#32
  let v28 : BitVec 32 := Scalar.subi v13 c1_i32_14
  let v29 : BitVec 32 := Scalar.select v27 v28 v13
  let v30 : BitVec 32 := Scalar.subi v29 c0_i32_16
  let c1_i32_17 : BitVec 32 := 1#32
  let v32 : BitVec 32 := Scalar.divsi v30 c1_i32_17
  let v33 : BitVec 32 := Scalar.muli v32 c1_i32_17
  let v34 : BitVec 32 := Scalar.addi c0_i32_16 v33
  let c1_i32_19 : BitVec 32 := 1#32
  let arg10 : BitVec 32 := Scf.iv v34 c1_i32_19 k0_t2
  let v459 : BitVec 32 := Scalar.muli c2_i32_280 arg10
  let c1024_i32_281 : BitVec 32 := 1024#32
  let v460 : BitVec 32 := Scalar.muli v459 c1024_i32_281
  v460
def k0_off9 (i : grid0.Coords) (k0_t2 : Fin (k0_t2_loop i).trips) : Fin 3 → Nat :=
  let c0_285 : Index := 0#32
  let c2_i32_280 : BitVec 32 := 2#32
  let c0_i32_16 : BitVec 32 := 0#32
  let arg1 : BitVec 32 := BitVec.ofNat 32 (i 1).val
  let c1_i32 : BitVec 32 := 1#32
  let v12 : BitVec 32 := Scalar.muli arg1 c1_i32
  let c0_i32 : BitVec 32 := 0#32
  let v14 : BitVec 1 := Scalar.cmpi .sgt v12 c0_i32
  let v15 : BitVec 32 := Scalar.extui v14
  let c0_i32_10 : BitVec 32 := 0#32
  let v16 : BitVec 1 := Scalar.cmpi .slt v12 c0_i32_10
  let v17 : BitVec 32 := Scalar.extui v16
  let v18 : BitVec 32 := Scalar.subi v15 v17
  let c2_i32 : BitVec 32 := 2#32
  let c0_i32_11 : BitVec 32 := 0#32
  let v19 : BitVec 1 := Scalar.cmpi .sgt c2_i32 c0_i32_11
  let v20 : BitVec 32 := Scalar.extui v19
  let c0_i32_12 : BitVec 32 := 0#32
  let v21 : BitVec 1 := Scalar.cmpi .slt c2_i32 c0_i32_12
  let v22 : BitVec 32 := Scalar.extui v21
  let v23 : BitVec 32 := Scalar.subi v20 v22
  let v24 : BitVec 1 := Scalar.cmpi .ne v18 v23
  let v25 : BitVec 32 := Scalar.remsi v12 c2_i32
  let c0_i32_13 : BitVec 32 := 0#32
  let v26 : BitVec 1 := Scalar.cmpi .ne v25 c0_i32_13
  let v27 : BitVec 1 := Scalar.andi v24 v26
  let v13 : BitVec 32 := Scalar.divsi v12 c2_i32
  let c1_i32_14 : BitVec 32 := 1#32
  let v28 : BitVec 32 := Scalar.subi v13 c1_i32_14
  let v29 : BitVec 32 := Scalar.select v27 v28 v13
  let v30 : BitVec 32 := Scalar.subi v29 c0_i32_16
  let c1_i32_17 : BitVec 32 := 1#32
  let v32 : BitVec 32 := Scalar.divsi v30 c1_i32_17
  let v33 : BitVec 32 := Scalar.muli v32 c1_i32_17
  let v34 : BitVec 32 := Scalar.addi c0_i32_16 v33
  let c1_i32_19 : BitVec 32 := 1#32
  let arg10 : BitVec 32 := Scf.iv v34 c1_i32_19 k0_t2
  let v459 : BitVec 32 := Scalar.muli c2_i32_280 arg10
  let c1024_i32_281 : BitVec 32 := 1024#32
  let v460 : BitVec 32 := Scalar.muli v459 c1024_i32_281
  let v461 : BitVec 32 := v460
  let v464 : Index := Scalar.indexCast v461
  let c0_286 : Index := 0#32
  ![0, v464.toNat, 0]
def k0_off10 (i : grid0.Coords) (k0_t2 : Fin (k0_t2_loop i).trips) : Fin 3 → Nat :=
  let c0_287 : Index := 0#32
  let c2_i32_280 : BitVec 32 := 2#32
  let c0_i32_16 : BitVec 32 := 0#32
  let arg1 : BitVec 32 := BitVec.ofNat 32 (i 1).val
  let c1_i32 : BitVec 32 := 1#32
  let v12 : BitVec 32 := Scalar.muli arg1 c1_i32
  let c0_i32 : BitVec 32 := 0#32
  let v14 : BitVec 1 := Scalar.cmpi .sgt v12 c0_i32
  let v15 : BitVec 32 := Scalar.extui v14
  let c0_i32_10 : BitVec 32 := 0#32
  let v16 : BitVec 1 := Scalar.cmpi .slt v12 c0_i32_10
  let v17 : BitVec 32 := Scalar.extui v16
  let v18 : BitVec 32 := Scalar.subi v15 v17
  let c2_i32 : BitVec 32 := 2#32
  let c0_i32_11 : BitVec 32 := 0#32
  let v19 : BitVec 1 := Scalar.cmpi .sgt c2_i32 c0_i32_11
  let v20 : BitVec 32 := Scalar.extui v19
  let c0_i32_12 : BitVec 32 := 0#32
  let v21 : BitVec 1 := Scalar.cmpi .slt c2_i32 c0_i32_12
  let v22 : BitVec 32 := Scalar.extui v21
  let v23 : BitVec 32 := Scalar.subi v20 v22
  let v24 : BitVec 1 := Scalar.cmpi .ne v18 v23
  let v25 : BitVec 32 := Scalar.remsi v12 c2_i32
  let c0_i32_13 : BitVec 32 := 0#32
  let v26 : BitVec 1 := Scalar.cmpi .ne v25 c0_i32_13
  let v27 : BitVec 1 := Scalar.andi v24 v26
  let v13 : BitVec 32 := Scalar.divsi v12 c2_i32
  let c1_i32_14 : BitVec 32 := 1#32
  let v28 : BitVec 32 := Scalar.subi v13 c1_i32_14
  let v29 : BitVec 32 := Scalar.select v27 v28 v13
  let v30 : BitVec 32 := Scalar.subi v29 c0_i32_16
  let c1_i32_17 : BitVec 32 := 1#32
  let v32 : BitVec 32 := Scalar.divsi v30 c1_i32_17
  let v33 : BitVec 32 := Scalar.muli v32 c1_i32_17
  let v34 : BitVec 32 := Scalar.addi c0_i32_16 v33
  let c1_i32_19 : BitVec 32 := 1#32
  let arg10 : BitVec 32 := Scf.iv v34 c1_i32_19 k0_t2
  let v459 : BitVec 32 := Scalar.muli c2_i32_280 arg10
  let c1024_i32_281 : BitVec 32 := 1024#32
  let v460 : BitVec 32 := Scalar.muli v459 c1024_i32_281
  let v461 : BitVec 32 := v460
  let v467 : Index := Scalar.indexCast v461
  let c0_288 : Index := 0#32
  ![0, v467.toNat, 0]
def k0_off11 (i : grid0.Coords) (k0_t2 : Fin (k0_t2_loop i).trips) : Fin 3 → Nat :=
  let c1_313 : Index := 1#32
  let c2_i32_280 : BitVec 32 := 2#32
  let c0_i32_16 : BitVec 32 := 0#32
  let arg1 : BitVec 32 := BitVec.ofNat 32 (i 1).val
  let c1_i32 : BitVec 32 := 1#32
  let v12 : BitVec 32 := Scalar.muli arg1 c1_i32
  let c0_i32 : BitVec 32 := 0#32
  let v14 : BitVec 1 := Scalar.cmpi .sgt v12 c0_i32
  let v15 : BitVec 32 := Scalar.extui v14
  let c0_i32_10 : BitVec 32 := 0#32
  let v16 : BitVec 1 := Scalar.cmpi .slt v12 c0_i32_10
  let v17 : BitVec 32 := Scalar.extui v16
  let v18 : BitVec 32 := Scalar.subi v15 v17
  let c2_i32 : BitVec 32 := 2#32
  let c0_i32_11 : BitVec 32 := 0#32
  let v19 : BitVec 1 := Scalar.cmpi .sgt c2_i32 c0_i32_11
  let v20 : BitVec 32 := Scalar.extui v19
  let c0_i32_12 : BitVec 32 := 0#32
  let v21 : BitVec 1 := Scalar.cmpi .slt c2_i32 c0_i32_12
  let v22 : BitVec 32 := Scalar.extui v21
  let v23 : BitVec 32 := Scalar.subi v20 v22
  let v24 : BitVec 1 := Scalar.cmpi .ne v18 v23
  let v25 : BitVec 32 := Scalar.remsi v12 c2_i32
  let c0_i32_13 : BitVec 32 := 0#32
  let v26 : BitVec 1 := Scalar.cmpi .ne v25 c0_i32_13
  let v27 : BitVec 1 := Scalar.andi v24 v26
  let v13 : BitVec 32 := Scalar.divsi v12 c2_i32
  let c1_i32_14 : BitVec 32 := 1#32
  let v28 : BitVec 32 := Scalar.subi v13 c1_i32_14
  let v29 : BitVec 32 := Scalar.select v27 v28 v13
  let v30 : BitVec 32 := Scalar.subi v29 c0_i32_16
  let c1_i32_17 : BitVec 32 := 1#32
  let v32 : BitVec 32 := Scalar.divsi v30 c1_i32_17
  let v33 : BitVec 32 := Scalar.muli v32 c1_i32_17
  let v34 : BitVec 32 := Scalar.addi c0_i32_16 v33
  let c1_i32_19 : BitVec 32 := 1#32
  let arg10 : BitVec 32 := Scf.iv v34 c1_i32_19 k0_t2
  let v459 : BitVec 32 := Scalar.muli c2_i32_280 arg10
  let c1024_i32_281 : BitVec 32 := 1024#32
  let v460 : BitVec 32 := Scalar.muli v459 c1024_i32_281
  let v461 : BitVec 32 := v460
  let v518 : Index := Scalar.indexCast v461
  let c0_314 : Index := 0#32
  ![1, v518.toNat, 0]
def k0_off12 (i : grid0.Coords) (k0_t2 : Fin (k0_t2_loop i).trips) : Fin 3 → Nat :=
  let c1_315 : Index := 1#32
  let c2_i32_280 : BitVec 32 := 2#32
  let c0_i32_16 : BitVec 32 := 0#32
  let arg1 : BitVec 32 := BitVec.ofNat 32 (i 1).val
  let c1_i32 : BitVec 32 := 1#32
  let v12 : BitVec 32 := Scalar.muli arg1 c1_i32
  let c0_i32 : BitVec 32 := 0#32
  let v14 : BitVec 1 := Scalar.cmpi .sgt v12 c0_i32
  let v15 : BitVec 32 := Scalar.extui v14
  let c0_i32_10 : BitVec 32 := 0#32
  let v16 : BitVec 1 := Scalar.cmpi .slt v12 c0_i32_10
  let v17 : BitVec 32 := Scalar.extui v16
  let v18 : BitVec 32 := Scalar.subi v15 v17
  let c2_i32 : BitVec 32 := 2#32
  let c0_i32_11 : BitVec 32 := 0#32
  let v19 : BitVec 1 := Scalar.cmpi .sgt c2_i32 c0_i32_11
  let v20 : BitVec 32 := Scalar.extui v19
  let c0_i32_12 : BitVec 32 := 0#32
  let v21 : BitVec 1 := Scalar.cmpi .slt c2_i32 c0_i32_12
  let v22 : BitVec 32 := Scalar.extui v21
  let v23 : BitVec 32 := Scalar.subi v20 v22
  let v24 : BitVec 1 := Scalar.cmpi .ne v18 v23
  let v25 : BitVec 32 := Scalar.remsi v12 c2_i32
  let c0_i32_13 : BitVec 32 := 0#32
  let v26 : BitVec 1 := Scalar.cmpi .ne v25 c0_i32_13
  let v27 : BitVec 1 := Scalar.andi v24 v26
  let v13 : BitVec 32 := Scalar.divsi v12 c2_i32
  let c1_i32_14 : BitVec 32 := 1#32
  let v28 : BitVec 32 := Scalar.subi v13 c1_i32_14
  let v29 : BitVec 32 := Scalar.select v27 v28 v13
  let v30 : BitVec 32 := Scalar.subi v29 c0_i32_16
  let c1_i32_17 : BitVec 32 := 1#32
  let v32 : BitVec 32 := Scalar.divsi v30 c1_i32_17
  let v33 : BitVec 32 := Scalar.muli v32 c1_i32_17
  let v34 : BitVec 32 := Scalar.addi c0_i32_16 v33
  let c1_i32_19 : BitVec 32 := 1#32
  let arg10 : BitVec 32 := Scf.iv v34 c1_i32_19 k0_t2
  let v459 : BitVec 32 := Scalar.muli c2_i32_280 arg10
  let c1024_i32_281 : BitVec 32 := 1024#32
  let v460 : BitVec 32 := Scalar.muli v459 c1024_i32_281
  let v461 : BitVec 32 := v460
  let v521 : Index := Scalar.indexCast v461
  let c0_316 : Index := 0#32
  ![1, v521.toNat, 0]
def k0_mult4 (i : grid0.Coords) (k0_t2 : Fin (k0_t2_loop i).trips) : BitVec 32 :=
  let c2_i32_338 : BitVec 32 := 2#32
  let c0_i32_16 : BitVec 32 := 0#32
  let arg1 : BitVec 32 := BitVec.ofNat 32 (i 1).val
  let c1_i32 : BitVec 32 := 1#32
  let v12 : BitVec 32 := Scalar.muli arg1 c1_i32
  let c0_i32 : BitVec 32 := 0#32
  let v14 : BitVec 1 := Scalar.cmpi .sgt v12 c0_i32
  let v15 : BitVec 32 := Scalar.extui v14
  let c0_i32_10 : BitVec 32 := 0#32
  let v16 : BitVec 1 := Scalar.cmpi .slt v12 c0_i32_10
  let v17 : BitVec 32 := Scalar.extui v16
  let v18 : BitVec 32 := Scalar.subi v15 v17
  let c2_i32 : BitVec 32 := 2#32
  let c0_i32_11 : BitVec 32 := 0#32
  let v19 : BitVec 1 := Scalar.cmpi .sgt c2_i32 c0_i32_11
  let v20 : BitVec 32 := Scalar.extui v19
  let c0_i32_12 : BitVec 32 := 0#32
  let v21 : BitVec 1 := Scalar.cmpi .slt c2_i32 c0_i32_12
  let v22 : BitVec 32 := Scalar.extui v21
  let v23 : BitVec 32 := Scalar.subi v20 v22
  let v24 : BitVec 1 := Scalar.cmpi .ne v18 v23
  let v25 : BitVec 32 := Scalar.remsi v12 c2_i32
  let c0_i32_13 : BitVec 32 := 0#32
  let v26 : BitVec 1 := Scalar.cmpi .ne v25 c0_i32_13
  let v27 : BitVec 1 := Scalar.andi v24 v26
  let v13 : BitVec 32 := Scalar.divsi v12 c2_i32
  let c1_i32_14 : BitVec 32 := 1#32
  let v28 : BitVec 32 := Scalar.subi v13 c1_i32_14
  let v29 : BitVec 32 := Scalar.select v27 v28 v13
  let v30 : BitVec 32 := Scalar.subi v29 c0_i32_16
  let c1_i32_17 : BitVec 32 := 1#32
  let v32 : BitVec 32 := Scalar.divsi v30 c1_i32_17
  let v33 : BitVec 32 := Scalar.muli v32 c1_i32_17
  let v34 : BitVec 32 := Scalar.addi c0_i32_16 v33
  let c1_i32_19 : BitVec 32 := 1#32
  let arg10 : BitVec 32 := Scf.iv v34 c1_i32_19 k0_t2
  let v570 : BitVec 32 := Scalar.muli c2_i32_338 arg10
  let c1_i32_339 : BitVec 32 := 1#32
  let v571 : BitVec 32 := Scalar.addi v570 c1_i32_339
  let c1024_i32_340 : BitVec 32 := 1024#32
  let v572 : BitVec 32 := Scalar.muli v571 c1024_i32_340
  v572
def k0_off13 (i : grid0.Coords) (k0_t2 : Fin (k0_t2_loop i).trips) : Fin 3 → Nat :=
  let c0_344 : Index := 0#32
  let c2_i32_338 : BitVec 32 := 2#32
  let c0_i32_16 : BitVec 32 := 0#32
  let arg1 : BitVec 32 := BitVec.ofNat 32 (i 1).val
  let c1_i32 : BitVec 32 := 1#32
  let v12 : BitVec 32 := Scalar.muli arg1 c1_i32
  let c0_i32 : BitVec 32 := 0#32
  let v14 : BitVec 1 := Scalar.cmpi .sgt v12 c0_i32
  let v15 : BitVec 32 := Scalar.extui v14
  let c0_i32_10 : BitVec 32 := 0#32
  let v16 : BitVec 1 := Scalar.cmpi .slt v12 c0_i32_10
  let v17 : BitVec 32 := Scalar.extui v16
  let v18 : BitVec 32 := Scalar.subi v15 v17
  let c2_i32 : BitVec 32 := 2#32
  let c0_i32_11 : BitVec 32 := 0#32
  let v19 : BitVec 1 := Scalar.cmpi .sgt c2_i32 c0_i32_11
  let v20 : BitVec 32 := Scalar.extui v19
  let c0_i32_12 : BitVec 32 := 0#32
  let v21 : BitVec 1 := Scalar.cmpi .slt c2_i32 c0_i32_12
  let v22 : BitVec 32 := Scalar.extui v21
  let v23 : BitVec 32 := Scalar.subi v20 v22
  let v24 : BitVec 1 := Scalar.cmpi .ne v18 v23
  let v25 : BitVec 32 := Scalar.remsi v12 c2_i32
  let c0_i32_13 : BitVec 32 := 0#32
  let v26 : BitVec 1 := Scalar.cmpi .ne v25 c0_i32_13
  let v27 : BitVec 1 := Scalar.andi v24 v26
  let v13 : BitVec 32 := Scalar.divsi v12 c2_i32
  let c1_i32_14 : BitVec 32 := 1#32
  let v28 : BitVec 32 := Scalar.subi v13 c1_i32_14
  let v29 : BitVec 32 := Scalar.select v27 v28 v13
  let v30 : BitVec 32 := Scalar.subi v29 c0_i32_16
  let c1_i32_17 : BitVec 32 := 1#32
  let v32 : BitVec 32 := Scalar.divsi v30 c1_i32_17
  let v33 : BitVec 32 := Scalar.muli v32 c1_i32_17
  let v34 : BitVec 32 := Scalar.addi c0_i32_16 v33
  let c1_i32_19 : BitVec 32 := 1#32
  let arg10 : BitVec 32 := Scf.iv v34 c1_i32_19 k0_t2
  let v570 : BitVec 32 := Scalar.muli c2_i32_338 arg10
  let c1_i32_339 : BitVec 32 := 1#32
  let v571 : BitVec 32 := Scalar.addi v570 c1_i32_339
  let c1024_i32_340 : BitVec 32 := 1024#32
  let v572 : BitVec 32 := Scalar.muli v571 c1024_i32_340
  let v573 : BitVec 32 := v572
  let v576 : Index := Scalar.indexCast v573
  let c0_345 : Index := 0#32
  ![0, v576.toNat, 0]
def k0_off14 (i : grid0.Coords) (k0_t2 : Fin (k0_t2_loop i).trips) : Fin 3 → Nat :=
  let c0_346 : Index := 0#32
  let c2_i32_338 : BitVec 32 := 2#32
  let c0_i32_16 : BitVec 32 := 0#32
  let arg1 : BitVec 32 := BitVec.ofNat 32 (i 1).val
  let c1_i32 : BitVec 32 := 1#32
  let v12 : BitVec 32 := Scalar.muli arg1 c1_i32
  let c0_i32 : BitVec 32 := 0#32
  let v14 : BitVec 1 := Scalar.cmpi .sgt v12 c0_i32
  let v15 : BitVec 32 := Scalar.extui v14
  let c0_i32_10 : BitVec 32 := 0#32
  let v16 : BitVec 1 := Scalar.cmpi .slt v12 c0_i32_10
  let v17 : BitVec 32 := Scalar.extui v16
  let v18 : BitVec 32 := Scalar.subi v15 v17
  let c2_i32 : BitVec 32 := 2#32
  let c0_i32_11 : BitVec 32 := 0#32
  let v19 : BitVec 1 := Scalar.cmpi .sgt c2_i32 c0_i32_11
  let v20 : BitVec 32 := Scalar.extui v19
  let c0_i32_12 : BitVec 32 := 0#32
  let v21 : BitVec 1 := Scalar.cmpi .slt c2_i32 c0_i32_12
  let v22 : BitVec 32 := Scalar.extui v21
  let v23 : BitVec 32 := Scalar.subi v20 v22
  let v24 : BitVec 1 := Scalar.cmpi .ne v18 v23
  let v25 : BitVec 32 := Scalar.remsi v12 c2_i32
  let c0_i32_13 : BitVec 32 := 0#32
  let v26 : BitVec 1 := Scalar.cmpi .ne v25 c0_i32_13
  let v27 : BitVec 1 := Scalar.andi v24 v26
  let v13 : BitVec 32 := Scalar.divsi v12 c2_i32
  let c1_i32_14 : BitVec 32 := 1#32
  let v28 : BitVec 32 := Scalar.subi v13 c1_i32_14
  let v29 : BitVec 32 := Scalar.select v27 v28 v13
  let v30 : BitVec 32 := Scalar.subi v29 c0_i32_16
  let c1_i32_17 : BitVec 32 := 1#32
  let v32 : BitVec 32 := Scalar.divsi v30 c1_i32_17
  let v33 : BitVec 32 := Scalar.muli v32 c1_i32_17
  let v34 : BitVec 32 := Scalar.addi c0_i32_16 v33
  let c1_i32_19 : BitVec 32 := 1#32
  let arg10 : BitVec 32 := Scf.iv v34 c1_i32_19 k0_t2
  let v570 : BitVec 32 := Scalar.muli c2_i32_338 arg10
  let c1_i32_339 : BitVec 32 := 1#32
  let v571 : BitVec 32 := Scalar.addi v570 c1_i32_339
  let c1024_i32_340 : BitVec 32 := 1024#32
  let v572 : BitVec 32 := Scalar.muli v571 c1024_i32_340
  let v573 : BitVec 32 := v572
  let v579 : Index := Scalar.indexCast v573
  let c0_347 : Index := 0#32
  ![0, v579.toNat, 0]
def k0_off15 (i : grid0.Coords) (k0_t2 : Fin (k0_t2_loop i).trips) : Fin 3 → Nat :=
  let c1_372 : Index := 1#32
  let c2_i32_338 : BitVec 32 := 2#32
  let c0_i32_16 : BitVec 32 := 0#32
  let arg1 : BitVec 32 := BitVec.ofNat 32 (i 1).val
  let c1_i32 : BitVec 32 := 1#32
  let v12 : BitVec 32 := Scalar.muli arg1 c1_i32
  let c0_i32 : BitVec 32 := 0#32
  let v14 : BitVec 1 := Scalar.cmpi .sgt v12 c0_i32
  let v15 : BitVec 32 := Scalar.extui v14
  let c0_i32_10 : BitVec 32 := 0#32
  let v16 : BitVec 1 := Scalar.cmpi .slt v12 c0_i32_10
  let v17 : BitVec 32 := Scalar.extui v16
  let v18 : BitVec 32 := Scalar.subi v15 v17
  let c2_i32 : BitVec 32 := 2#32
  let c0_i32_11 : BitVec 32 := 0#32
  let v19 : BitVec 1 := Scalar.cmpi .sgt c2_i32 c0_i32_11
  let v20 : BitVec 32 := Scalar.extui v19
  let c0_i32_12 : BitVec 32 := 0#32
  let v21 : BitVec 1 := Scalar.cmpi .slt c2_i32 c0_i32_12
  let v22 : BitVec 32 := Scalar.extui v21
  let v23 : BitVec 32 := Scalar.subi v20 v22
  let v24 : BitVec 1 := Scalar.cmpi .ne v18 v23
  let v25 : BitVec 32 := Scalar.remsi v12 c2_i32
  let c0_i32_13 : BitVec 32 := 0#32
  let v26 : BitVec 1 := Scalar.cmpi .ne v25 c0_i32_13
  let v27 : BitVec 1 := Scalar.andi v24 v26
  let v13 : BitVec 32 := Scalar.divsi v12 c2_i32
  let c1_i32_14 : BitVec 32 := 1#32
  let v28 : BitVec 32 := Scalar.subi v13 c1_i32_14
  let v29 : BitVec 32 := Scalar.select v27 v28 v13
  let v30 : BitVec 32 := Scalar.subi v29 c0_i32_16
  let c1_i32_17 : BitVec 32 := 1#32
  let v32 : BitVec 32 := Scalar.divsi v30 c1_i32_17
  let v33 : BitVec 32 := Scalar.muli v32 c1_i32_17
  let v34 : BitVec 32 := Scalar.addi c0_i32_16 v33
  let c1_i32_19 : BitVec 32 := 1#32
  let arg10 : BitVec 32 := Scf.iv v34 c1_i32_19 k0_t2
  let v570 : BitVec 32 := Scalar.muli c2_i32_338 arg10
  let c1_i32_339 : BitVec 32 := 1#32
  let v571 : BitVec 32 := Scalar.addi v570 c1_i32_339
  let c1024_i32_340 : BitVec 32 := 1024#32
  let v572 : BitVec 32 := Scalar.muli v571 c1024_i32_340
  let v573 : BitVec 32 := v572
  let v630 : Index := Scalar.indexCast v573
  let c0_373 : Index := 0#32
  ![1, v630.toNat, 0]
def k0_off16 (i : grid0.Coords) (k0_t2 : Fin (k0_t2_loop i).trips) : Fin 3 → Nat :=
  let c1_374 : Index := 1#32
  let c2_i32_338 : BitVec 32 := 2#32
  let c0_i32_16 : BitVec 32 := 0#32
  let arg1 : BitVec 32 := BitVec.ofNat 32 (i 1).val
  let c1_i32 : BitVec 32 := 1#32
  let v12 : BitVec 32 := Scalar.muli arg1 c1_i32
  let c0_i32 : BitVec 32 := 0#32
  let v14 : BitVec 1 := Scalar.cmpi .sgt v12 c0_i32
  let v15 : BitVec 32 := Scalar.extui v14
  let c0_i32_10 : BitVec 32 := 0#32
  let v16 : BitVec 1 := Scalar.cmpi .slt v12 c0_i32_10
  let v17 : BitVec 32 := Scalar.extui v16
  let v18 : BitVec 32 := Scalar.subi v15 v17
  let c2_i32 : BitVec 32 := 2#32
  let c0_i32_11 : BitVec 32 := 0#32
  let v19 : BitVec 1 := Scalar.cmpi .sgt c2_i32 c0_i32_11
  let v20 : BitVec 32 := Scalar.extui v19
  let c0_i32_12 : BitVec 32 := 0#32
  let v21 : BitVec 1 := Scalar.cmpi .slt c2_i32 c0_i32_12
  let v22 : BitVec 32 := Scalar.extui v21
  let v23 : BitVec 32 := Scalar.subi v20 v22
  let v24 : BitVec 1 := Scalar.cmpi .ne v18 v23
  let v25 : BitVec 32 := Scalar.remsi v12 c2_i32
  let c0_i32_13 : BitVec 32 := 0#32
  let v26 : BitVec 1 := Scalar.cmpi .ne v25 c0_i32_13
  let v27 : BitVec 1 := Scalar.andi v24 v26
  let v13 : BitVec 32 := Scalar.divsi v12 c2_i32
  let c1_i32_14 : BitVec 32 := 1#32
  let v28 : BitVec 32 := Scalar.subi v13 c1_i32_14
  let v29 : BitVec 32 := Scalar.select v27 v28 v13
  let v30 : BitVec 32 := Scalar.subi v29 c0_i32_16
  let c1_i32_17 : BitVec 32 := 1#32
  let v32 : BitVec 32 := Scalar.divsi v30 c1_i32_17
  let v33 : BitVec 32 := Scalar.muli v32 c1_i32_17
  let v34 : BitVec 32 := Scalar.addi c0_i32_16 v33
  let c1_i32_19 : BitVec 32 := 1#32
  let arg10 : BitVec 32 := Scf.iv v34 c1_i32_19 k0_t2
  let v570 : BitVec 32 := Scalar.muli c2_i32_338 arg10
  let c1_i32_339 : BitVec 32 := 1#32
  let v571 : BitVec 32 := Scalar.addi v570 c1_i32_339
  let c1024_i32_340 : BitVec 32 := 1024#32
  let v572 : BitVec 32 := Scalar.muli v571 c1024_i32_340
  let v573 : BitVec 32 := v572
  let v633 : Index := Scalar.indexCast v573
  let c0_375 : Index := 0#32
  ![1, v633.toNat, 0]
@[reducible] def k0_t3_loop (i : grid0.Coords) : Scf.Loop 32 :=
  let arg1 : BitVec 32 := BitVec.ofNat 32 (i 1).val
  let c1_i32 : BitVec 32 := 1#32
  let v12 : BitVec 32 := Scalar.muli arg1 c1_i32
  let c2_i32_20 : BitVec 32 := 2#32
  let c0_i32_21 : BitVec 32 := 0#32
  let v35 : BitVec 1 := Scalar.cmpi .eq c2_i32_20 c0_i32_21
  let c1_i32_22 : BitVec 32 := 1#32
  let v36 : BitVec 32 := Scalar.select v35 c1_i32_22 c2_i32_20
  let v37 : BitVec 32 := Scalar.remsi v12 v36
  let c0_i32_24 : BitVec 32 := 0#32
  let v39 : BitVec 1 := Scalar.cmpi .slt v37 c0_i32_24
  let c0_i32_25 : BitVec 32 := 0#32
  let v40 : BitVec 1 := Scalar.cmpi .slt v36 c0_i32_25
  let v41 : BitVec 1 := Scalar.xori v39 v40
  let c0_i32_23 : BitVec 32 := 0#32
  let v38 : BitVec 1 := Scalar.cmpi .ne v37 c0_i32_23
  let v42 : BitVec 1 := Scalar.andi v41 v38
  let v43 : BitVec 32 := Scalar.addi v37 v36
  let v44 : BitVec 32 := Scalar.select v42 v43 v37
  let v45 : BitVec 32 := Scalar.subi v12 v44
  let v46 : BitVec 32 := Scalar.subi v12 v45
  let c1_i32_27 : BitVec 32 := 1#32
  let v48 : BitVec 32 := Scalar.divsi v46 c1_i32_27
  let v49 : BitVec 32 := Scalar.muli v48 c1_i32_27
  let v50 : BitVec 32 := Scalar.addi v45 v49
  let c1_i32_28 : BitVec 32 := 1#32
  ⟨v45, v50, c1_i32_28⟩
def k0_mult5 (i : grid0.Coords) (k0_t3 : Fin (k0_t3_loop i).trips) : BitVec 32 :=
  let arg1 : BitVec 32 := BitVec.ofNat 32 (i 1).val
  let c1_i32 : BitVec 32 := 1#32
  let v12 : BitVec 32 := Scalar.muli arg1 c1_i32
  let c2_i32_20 : BitVec 32 := 2#32
  let c0_i32_21 : BitVec 32 := 0#32
  let v35 : BitVec 1 := Scalar.cmpi .eq c2_i32_20 c0_i32_21
  let c1_i32_22 : BitVec 32 := 1#32
  let v36 : BitVec 32 := Scalar.select v35 c1_i32_22 c2_i32_20
  let v37 : BitVec 32 := Scalar.remsi v12 v36
  let c0_i32_24 : BitVec 32 := 0#32
  let v39 : BitVec 1 := Scalar.cmpi .slt v37 c0_i32_24
  let c0_i32_25 : BitVec 32 := 0#32
  let v40 : BitVec 1 := Scalar.cmpi .slt v36 c0_i32_25
  let v41 : BitVec 1 := Scalar.xori v39 v40
  let c0_i32_23 : BitVec 32 := 0#32
  let v38 : BitVec 1 := Scalar.cmpi .ne v37 c0_i32_23
  let v42 : BitVec 1 := Scalar.andi v41 v38
  let v43 : BitVec 32 := Scalar.addi v37 v36
  let v44 : BitVec 32 := Scalar.select v42 v43 v37
  let v45 : BitVec 32 := Scalar.subi v12 v44
  let c1_i32_28 : BitVec 32 := 1#32
  let arg10 : BitVec 32 := Scf.iv v45 c1_i32_28 k0_t3
  let c1024_i32_280 : BitVec 32 := 1024#32
  let v459 : BitVec 32 := Scalar.muli arg10 c1024_i32_280
  v459
def k0_off17 (i : grid0.Coords) (k0_t3 : Fin (k0_t3_loop i).trips) : Fin 3 → Nat :=
  let c0_284 : Index := 0#32
  let arg1 : BitVec 32 := BitVec.ofNat 32 (i 1).val
  let c1_i32 : BitVec 32 := 1#32
  let v12 : BitVec 32 := Scalar.muli arg1 c1_i32
  let c2_i32_20 : BitVec 32 := 2#32
  let c0_i32_21 : BitVec 32 := 0#32
  let v35 : BitVec 1 := Scalar.cmpi .eq c2_i32_20 c0_i32_21
  let c1_i32_22 : BitVec 32 := 1#32
  let v36 : BitVec 32 := Scalar.select v35 c1_i32_22 c2_i32_20
  let v37 : BitVec 32 := Scalar.remsi v12 v36
  let c0_i32_24 : BitVec 32 := 0#32
  let v39 : BitVec 1 := Scalar.cmpi .slt v37 c0_i32_24
  let c0_i32_25 : BitVec 32 := 0#32
  let v40 : BitVec 1 := Scalar.cmpi .slt v36 c0_i32_25
  let v41 : BitVec 1 := Scalar.xori v39 v40
  let c0_i32_23 : BitVec 32 := 0#32
  let v38 : BitVec 1 := Scalar.cmpi .ne v37 c0_i32_23
  let v42 : BitVec 1 := Scalar.andi v41 v38
  let v43 : BitVec 32 := Scalar.addi v37 v36
  let v44 : BitVec 32 := Scalar.select v42 v43 v37
  let v45 : BitVec 32 := Scalar.subi v12 v44
  let c1_i32_28 : BitVec 32 := 1#32
  let arg10 : BitVec 32 := Scf.iv v45 c1_i32_28 k0_t3
  let c1024_i32_280 : BitVec 32 := 1024#32
  let v459 : BitVec 32 := Scalar.muli arg10 c1024_i32_280
  let v460 : BitVec 32 := v459
  let v463 : Index := Scalar.indexCast v460
  let c0_285 : Index := 0#32
  ![0, v463.toNat, 0]
def k0_off18 (i : grid0.Coords) (k0_t3 : Fin (k0_t3_loop i).trips) : Fin 3 → Nat :=
  let c0_286 : Index := 0#32
  let arg1 : BitVec 32 := BitVec.ofNat 32 (i 1).val
  let c1_i32 : BitVec 32 := 1#32
  let v12 : BitVec 32 := Scalar.muli arg1 c1_i32
  let c2_i32_20 : BitVec 32 := 2#32
  let c0_i32_21 : BitVec 32 := 0#32
  let v35 : BitVec 1 := Scalar.cmpi .eq c2_i32_20 c0_i32_21
  let c1_i32_22 : BitVec 32 := 1#32
  let v36 : BitVec 32 := Scalar.select v35 c1_i32_22 c2_i32_20
  let v37 : BitVec 32 := Scalar.remsi v12 v36
  let c0_i32_24 : BitVec 32 := 0#32
  let v39 : BitVec 1 := Scalar.cmpi .slt v37 c0_i32_24
  let c0_i32_25 : BitVec 32 := 0#32
  let v40 : BitVec 1 := Scalar.cmpi .slt v36 c0_i32_25
  let v41 : BitVec 1 := Scalar.xori v39 v40
  let c0_i32_23 : BitVec 32 := 0#32
  let v38 : BitVec 1 := Scalar.cmpi .ne v37 c0_i32_23
  let v42 : BitVec 1 := Scalar.andi v41 v38
  let v43 : BitVec 32 := Scalar.addi v37 v36
  let v44 : BitVec 32 := Scalar.select v42 v43 v37
  let v45 : BitVec 32 := Scalar.subi v12 v44
  let c1_i32_28 : BitVec 32 := 1#32
  let arg10 : BitVec 32 := Scf.iv v45 c1_i32_28 k0_t3
  let c1024_i32_280 : BitVec 32 := 1024#32
  let v459 : BitVec 32 := Scalar.muli arg10 c1024_i32_280
  let v460 : BitVec 32 := v459
  let v466 : Index := Scalar.indexCast v460
  let c0_287 : Index := 0#32
  ![0, v466.toNat, 0]
def k0_off19 (i : grid0.Coords) (k0_t3 : Fin (k0_t3_loop i).trips) : Fin 3 → Nat :=
  let c1_312 : Index := 1#32
  let arg1 : BitVec 32 := BitVec.ofNat 32 (i 1).val
  let c1_i32 : BitVec 32 := 1#32
  let v12 : BitVec 32 := Scalar.muli arg1 c1_i32
  let c2_i32_20 : BitVec 32 := 2#32
  let c0_i32_21 : BitVec 32 := 0#32
  let v35 : BitVec 1 := Scalar.cmpi .eq c2_i32_20 c0_i32_21
  let c1_i32_22 : BitVec 32 := 1#32
  let v36 : BitVec 32 := Scalar.select v35 c1_i32_22 c2_i32_20
  let v37 : BitVec 32 := Scalar.remsi v12 v36
  let c0_i32_24 : BitVec 32 := 0#32
  let v39 : BitVec 1 := Scalar.cmpi .slt v37 c0_i32_24
  let c0_i32_25 : BitVec 32 := 0#32
  let v40 : BitVec 1 := Scalar.cmpi .slt v36 c0_i32_25
  let v41 : BitVec 1 := Scalar.xori v39 v40
  let c0_i32_23 : BitVec 32 := 0#32
  let v38 : BitVec 1 := Scalar.cmpi .ne v37 c0_i32_23
  let v42 : BitVec 1 := Scalar.andi v41 v38
  let v43 : BitVec 32 := Scalar.addi v37 v36
  let v44 : BitVec 32 := Scalar.select v42 v43 v37
  let v45 : BitVec 32 := Scalar.subi v12 v44
  let c1_i32_28 : BitVec 32 := 1#32
  let arg10 : BitVec 32 := Scf.iv v45 c1_i32_28 k0_t3
  let c1024_i32_280 : BitVec 32 := 1024#32
  let v459 : BitVec 32 := Scalar.muli arg10 c1024_i32_280
  let v460 : BitVec 32 := v459
  let v517 : Index := Scalar.indexCast v460
  let c0_313 : Index := 0#32
  ![1, v517.toNat, 0]
def k0_off20 (i : grid0.Coords) (k0_t3 : Fin (k0_t3_loop i).trips) : Fin 3 → Nat :=
  let c1_314 : Index := 1#32
  let arg1 : BitVec 32 := BitVec.ofNat 32 (i 1).val
  let c1_i32 : BitVec 32 := 1#32
  let v12 : BitVec 32 := Scalar.muli arg1 c1_i32
  let c2_i32_20 : BitVec 32 := 2#32
  let c0_i32_21 : BitVec 32 := 0#32
  let v35 : BitVec 1 := Scalar.cmpi .eq c2_i32_20 c0_i32_21
  let c1_i32_22 : BitVec 32 := 1#32
  let v36 : BitVec 32 := Scalar.select v35 c1_i32_22 c2_i32_20
  let v37 : BitVec 32 := Scalar.remsi v12 v36
  let c0_i32_24 : BitVec 32 := 0#32
  let v39 : BitVec 1 := Scalar.cmpi .slt v37 c0_i32_24
  let c0_i32_25 : BitVec 32 := 0#32
  let v40 : BitVec 1 := Scalar.cmpi .slt v36 c0_i32_25
  let v41 : BitVec 1 := Scalar.xori v39 v40
  let c0_i32_23 : BitVec 32 := 0#32
  let v38 : BitVec 1 := Scalar.cmpi .ne v37 c0_i32_23
  let v42 : BitVec 1 := Scalar.andi v41 v38
  let v43 : BitVec 32 := Scalar.addi v37 v36
  let v44 : BitVec 32 := Scalar.select v42 v43 v37
  let v45 : BitVec 32 := Scalar.subi v12 v44
  let c1_i32_28 : BitVec 32 := 1#32
  let arg10 : BitVec 32 := Scf.iv v45 c1_i32_28 k0_t3
  let c1024_i32_280 : BitVec 32 := 1024#32
  let v459 : BitVec 32 := Scalar.muli arg10 c1024_i32_280
  let v460 : BitVec 32 := v459
  let v520 : Index := Scalar.indexCast v460
  let c0_315 : Index := 0#32
  ![1, v520.toNat, 0]
@[reducible] def k0_t4_loop (i : grid0.Coords) : Scf.Loop 32 :=
  let arg1 : BitVec 32 := BitVec.ofNat 32 (i 1).val
  let c1_i32 : BitVec 32 := 1#32
  let v12 : BitVec 32 := Scalar.muli arg1 c1_i32
  let c2_i32_20 : BitVec 32 := 2#32
  let c0_i32_21 : BitVec 32 := 0#32
  let v35 : BitVec 1 := Scalar.cmpi .eq c2_i32_20 c0_i32_21
  let c1_i32_22 : BitVec 32 := 1#32
  let v36 : BitVec 32 := Scalar.select v35 c1_i32_22 c2_i32_20
  let v37 : BitVec 32 := Scalar.remsi v12 v36
  let c0_i32_24 : BitVec 32 := 0#32
  let v39 : BitVec 1 := Scalar.cmpi .slt v37 c0_i32_24
  let c0_i32_25 : BitVec 32 := 0#32
  let v40 : BitVec 1 := Scalar.cmpi .slt v36 c0_i32_25
  let v41 : BitVec 1 := Scalar.xori v39 v40
  let c0_i32_23 : BitVec 32 := 0#32
  let v38 : BitVec 1 := Scalar.cmpi .ne v37 c0_i32_23
  let v42 : BitVec 1 := Scalar.andi v41 v38
  let v43 : BitVec 32 := Scalar.addi v37 v36
  let v44 : BitVec 32 := Scalar.select v42 v43 v37
  let v45 : BitVec 32 := Scalar.subi v12 v44
  let v46 : BitVec 32 := Scalar.subi v12 v45
  let c1_i32_27 : BitVec 32 := 1#32
  let v48 : BitVec 32 := Scalar.divsi v46 c1_i32_27
  let v49 : BitVec 32 := Scalar.muli v48 c1_i32_27
  let v50 : BitVec 32 := Scalar.addi v45 v49
  let v47 : BitVec 32 := Scalar.addi v45 v46
  let c1_i32_29 : BitVec 32 := 1#32
  ⟨v50, v47, c1_i32_29⟩
def k0_mult6 (i : grid0.Coords) (k0_t4 : Fin (k0_t4_loop i).trips) : BitVec 32 :=
  let arg1 : BitVec 32 := BitVec.ofNat 32 (i 1).val
  let c1_i32 : BitVec 32 := 1#32
  let v12 : BitVec 32 := Scalar.muli arg1 c1_i32
  let c2_i32_20 : BitVec 32 := 2#32
  let c0_i32_21 : BitVec 32 := 0#32
  let v35 : BitVec 1 := Scalar.cmpi .eq c2_i32_20 c0_i32_21
  let c1_i32_22 : BitVec 32 := 1#32
  let v36 : BitVec 32 := Scalar.select v35 c1_i32_22 c2_i32_20
  let v37 : BitVec 32 := Scalar.remsi v12 v36
  let c0_i32_24 : BitVec 32 := 0#32
  let v39 : BitVec 1 := Scalar.cmpi .slt v37 c0_i32_24
  let c0_i32_25 : BitVec 32 := 0#32
  let v40 : BitVec 1 := Scalar.cmpi .slt v36 c0_i32_25
  let v41 : BitVec 1 := Scalar.xori v39 v40
  let c0_i32_23 : BitVec 32 := 0#32
  let v38 : BitVec 1 := Scalar.cmpi .ne v37 c0_i32_23
  let v42 : BitVec 1 := Scalar.andi v41 v38
  let v43 : BitVec 32 := Scalar.addi v37 v36
  let v44 : BitVec 32 := Scalar.select v42 v43 v37
  let v45 : BitVec 32 := Scalar.subi v12 v44
  let v46 : BitVec 32 := Scalar.subi v12 v45
  let c1_i32_27 : BitVec 32 := 1#32
  let v48 : BitVec 32 := Scalar.divsi v46 c1_i32_27
  let v49 : BitVec 32 := Scalar.muli v48 c1_i32_27
  let v50 : BitVec 32 := Scalar.addi v45 v49
  let c1_i32_29 : BitVec 32 := 1#32
  let arg10 : BitVec 32 := Scf.iv v50 c1_i32_29 k0_t4
  let c1024_i32_280 : BitVec 32 := 1024#32
  let v459 : BitVec 32 := Scalar.muli arg10 c1024_i32_280
  v459
def k0_off21 (i : grid0.Coords) (k0_t4 : Fin (k0_t4_loop i).trips) : Fin 3 → Nat :=
  let c0_284 : Index := 0#32
  let arg1 : BitVec 32 := BitVec.ofNat 32 (i 1).val
  let c1_i32 : BitVec 32 := 1#32
  let v12 : BitVec 32 := Scalar.muli arg1 c1_i32
  let c2_i32_20 : BitVec 32 := 2#32
  let c0_i32_21 : BitVec 32 := 0#32
  let v35 : BitVec 1 := Scalar.cmpi .eq c2_i32_20 c0_i32_21
  let c1_i32_22 : BitVec 32 := 1#32
  let v36 : BitVec 32 := Scalar.select v35 c1_i32_22 c2_i32_20
  let v37 : BitVec 32 := Scalar.remsi v12 v36
  let c0_i32_24 : BitVec 32 := 0#32
  let v39 : BitVec 1 := Scalar.cmpi .slt v37 c0_i32_24
  let c0_i32_25 : BitVec 32 := 0#32
  let v40 : BitVec 1 := Scalar.cmpi .slt v36 c0_i32_25
  let v41 : BitVec 1 := Scalar.xori v39 v40
  let c0_i32_23 : BitVec 32 := 0#32
  let v38 : BitVec 1 := Scalar.cmpi .ne v37 c0_i32_23
  let v42 : BitVec 1 := Scalar.andi v41 v38
  let v43 : BitVec 32 := Scalar.addi v37 v36
  let v44 : BitVec 32 := Scalar.select v42 v43 v37
  let v45 : BitVec 32 := Scalar.subi v12 v44
  let v46 : BitVec 32 := Scalar.subi v12 v45
  let c1_i32_27 : BitVec 32 := 1#32
  let v48 : BitVec 32 := Scalar.divsi v46 c1_i32_27
  let v49 : BitVec 32 := Scalar.muli v48 c1_i32_27
  let v50 : BitVec 32 := Scalar.addi v45 v49
  let c1_i32_29 : BitVec 32 := 1#32
  let arg10 : BitVec 32 := Scf.iv v50 c1_i32_29 k0_t4
  let c1024_i32_280 : BitVec 32 := 1024#32
  let v459 : BitVec 32 := Scalar.muli arg10 c1024_i32_280
  let v460 : BitVec 32 := v459
  let v463 : Index := Scalar.indexCast v460
  let c0_285 : Index := 0#32
  ![0, v463.toNat, 0]
def k0_off22 (i : grid0.Coords) (k0_t4 : Fin (k0_t4_loop i).trips) : Fin 3 → Nat :=
  let c0_286 : Index := 0#32
  let arg1 : BitVec 32 := BitVec.ofNat 32 (i 1).val
  let c1_i32 : BitVec 32 := 1#32
  let v12 : BitVec 32 := Scalar.muli arg1 c1_i32
  let c2_i32_20 : BitVec 32 := 2#32
  let c0_i32_21 : BitVec 32 := 0#32
  let v35 : BitVec 1 := Scalar.cmpi .eq c2_i32_20 c0_i32_21
  let c1_i32_22 : BitVec 32 := 1#32
  let v36 : BitVec 32 := Scalar.select v35 c1_i32_22 c2_i32_20
  let v37 : BitVec 32 := Scalar.remsi v12 v36
  let c0_i32_24 : BitVec 32 := 0#32
  let v39 : BitVec 1 := Scalar.cmpi .slt v37 c0_i32_24
  let c0_i32_25 : BitVec 32 := 0#32
  let v40 : BitVec 1 := Scalar.cmpi .slt v36 c0_i32_25
  let v41 : BitVec 1 := Scalar.xori v39 v40
  let c0_i32_23 : BitVec 32 := 0#32
  let v38 : BitVec 1 := Scalar.cmpi .ne v37 c0_i32_23
  let v42 : BitVec 1 := Scalar.andi v41 v38
  let v43 : BitVec 32 := Scalar.addi v37 v36
  let v44 : BitVec 32 := Scalar.select v42 v43 v37
  let v45 : BitVec 32 := Scalar.subi v12 v44
  let v46 : BitVec 32 := Scalar.subi v12 v45
  let c1_i32_27 : BitVec 32 := 1#32
  let v48 : BitVec 32 := Scalar.divsi v46 c1_i32_27
  let v49 : BitVec 32 := Scalar.muli v48 c1_i32_27
  let v50 : BitVec 32 := Scalar.addi v45 v49
  let c1_i32_29 : BitVec 32 := 1#32
  let arg10 : BitVec 32 := Scf.iv v50 c1_i32_29 k0_t4
  let c1024_i32_280 : BitVec 32 := 1024#32
  let v459 : BitVec 32 := Scalar.muli arg10 c1024_i32_280
  let v460 : BitVec 32 := v459
  let v466 : Index := Scalar.indexCast v460
  let c0_287 : Index := 0#32
  ![0, v466.toNat, 0]
def k0_off23 (i : grid0.Coords) (k0_t4 : Fin (k0_t4_loop i).trips) : Fin 3 → Nat :=
  let c1_312 : Index := 1#32
  let arg1 : BitVec 32 := BitVec.ofNat 32 (i 1).val
  let c1_i32 : BitVec 32 := 1#32
  let v12 : BitVec 32 := Scalar.muli arg1 c1_i32
  let c2_i32_20 : BitVec 32 := 2#32
  let c0_i32_21 : BitVec 32 := 0#32
  let v35 : BitVec 1 := Scalar.cmpi .eq c2_i32_20 c0_i32_21
  let c1_i32_22 : BitVec 32 := 1#32
  let v36 : BitVec 32 := Scalar.select v35 c1_i32_22 c2_i32_20
  let v37 : BitVec 32 := Scalar.remsi v12 v36
  let c0_i32_24 : BitVec 32 := 0#32
  let v39 : BitVec 1 := Scalar.cmpi .slt v37 c0_i32_24
  let c0_i32_25 : BitVec 32 := 0#32
  let v40 : BitVec 1 := Scalar.cmpi .slt v36 c0_i32_25
  let v41 : BitVec 1 := Scalar.xori v39 v40
  let c0_i32_23 : BitVec 32 := 0#32
  let v38 : BitVec 1 := Scalar.cmpi .ne v37 c0_i32_23
  let v42 : BitVec 1 := Scalar.andi v41 v38
  let v43 : BitVec 32 := Scalar.addi v37 v36
  let v44 : BitVec 32 := Scalar.select v42 v43 v37
  let v45 : BitVec 32 := Scalar.subi v12 v44
  let v46 : BitVec 32 := Scalar.subi v12 v45
  let c1_i32_27 : BitVec 32 := 1#32
  let v48 : BitVec 32 := Scalar.divsi v46 c1_i32_27
  let v49 : BitVec 32 := Scalar.muli v48 c1_i32_27
  let v50 : BitVec 32 := Scalar.addi v45 v49
  let c1_i32_29 : BitVec 32 := 1#32
  let arg10 : BitVec 32 := Scf.iv v50 c1_i32_29 k0_t4
  let c1024_i32_280 : BitVec 32 := 1024#32
  let v459 : BitVec 32 := Scalar.muli arg10 c1024_i32_280
  let v460 : BitVec 32 := v459
  let v517 : Index := Scalar.indexCast v460
  let c0_313 : Index := 0#32
  ![1, v517.toNat, 0]
def k0_off24 (i : grid0.Coords) (k0_t4 : Fin (k0_t4_loop i).trips) : Fin 3 → Nat :=
  let c1_314 : Index := 1#32
  let arg1 : BitVec 32 := BitVec.ofNat 32 (i 1).val
  let c1_i32 : BitVec 32 := 1#32
  let v12 : BitVec 32 := Scalar.muli arg1 c1_i32
  let c2_i32_20 : BitVec 32 := 2#32
  let c0_i32_21 : BitVec 32 := 0#32
  let v35 : BitVec 1 := Scalar.cmpi .eq c2_i32_20 c0_i32_21
  let c1_i32_22 : BitVec 32 := 1#32
  let v36 : BitVec 32 := Scalar.select v35 c1_i32_22 c2_i32_20
  let v37 : BitVec 32 := Scalar.remsi v12 v36
  let c0_i32_24 : BitVec 32 := 0#32
  let v39 : BitVec 1 := Scalar.cmpi .slt v37 c0_i32_24
  let c0_i32_25 : BitVec 32 := 0#32
  let v40 : BitVec 1 := Scalar.cmpi .slt v36 c0_i32_25
  let v41 : BitVec 1 := Scalar.xori v39 v40
  let c0_i32_23 : BitVec 32 := 0#32
  let v38 : BitVec 1 := Scalar.cmpi .ne v37 c0_i32_23
  let v42 : BitVec 1 := Scalar.andi v41 v38
  let v43 : BitVec 32 := Scalar.addi v37 v36
  let v44 : BitVec 32 := Scalar.select v42 v43 v37
  let v45 : BitVec 32 := Scalar.subi v12 v44
  let v46 : BitVec 32 := Scalar.subi v12 v45
  let c1_i32_27 : BitVec 32 := 1#32
  let v48 : BitVec 32 := Scalar.divsi v46 c1_i32_27
  let v49 : BitVec 32 := Scalar.muli v48 c1_i32_27
  let v50 : BitVec 32 := Scalar.addi v45 v49
  let c1_i32_29 : BitVec 32 := 1#32
  let arg10 : BitVec 32 := Scf.iv v50 c1_i32_29 k0_t4
  let c1024_i32_280 : BitVec 32 := 1024#32
  let v459 : BitVec 32 := Scalar.muli arg10 c1024_i32_280
  let v460 : BitVec 32 := v459
  let v520 : Index := Scalar.indexCast v460
  let c0_315 : Index := 0#32
  ![1, v520.toNat, 0]
def k0_mult7 (i : grid0.Coords) : BitVec 32 :=
  let arg1 : BitVec 32 := BitVec.ofNat 32 (i 1).val
  let c1024_i32 : BitVec 32 := 1024#32
  let v51 : BitVec 32 := Scalar.muli arg1 c1024_i32
  v51
def k0_off25 (i : grid0.Coords) (c0_i32_30 : BitVec 32) : Fin 3 → Nat :=
  let c0_34 : Index := 0#32
  let arg1 : BitVec 32 := BitVec.ofNat 32 (i 1).val
  let c1024_i32 : BitVec 32 := 1024#32
  let v51 : BitVec 32 := Scalar.muli arg1 c1024_i32
  let v52 : BitVec 32 := v51
  let v53 : BitVec 32 := Scalar.addi v52 c0_i32_30
  let v56 : Index := Scalar.indexCast v53
  let c0_35 : Index := 0#32
  ![0, v56.toNat, 0]
def k0_off26 (i : grid0.Coords) (c0_i32_30 : BitVec 32) : Fin 3 → Nat :=
  let c0_36 : Index := 0#32
  let arg1 : BitVec 32 := BitVec.ofNat 32 (i 1).val
  let c1024_i32 : BitVec 32 := 1024#32
  let v51 : BitVec 32 := Scalar.muli arg1 c1024_i32
  let v52 : BitVec 32 := v51
  let v53 : BitVec 32 := Scalar.addi v52 c0_i32_30
  let v59 : Index := Scalar.indexCast v53
  let c0_37 : Index := 0#32
  ![0, v59.toNat, 0]
def k0_off27 (i : grid0.Coords) (c0_i32_30 : BitVec 32) : Fin 3 → Nat :=
  let c1_62 : Index := 1#32
  let arg1 : BitVec 32 := BitVec.ofNat 32 (i 1).val
  let c1024_i32 : BitVec 32 := 1024#32
  let v51 : BitVec 32 := Scalar.muli arg1 c1024_i32
  let v52 : BitVec 32 := v51
  let v53 : BitVec 32 := Scalar.addi v52 c0_i32_30
  let v103 : Index := Scalar.indexCast v53
  let c0_63 : Index := 0#32
  ![1, v103.toNat, 0]
def k0_off28 (i : grid0.Coords) (c0_i32_30 : BitVec 32) : Fin 3 → Nat :=
  let c1_64 : Index := 1#32
  let arg1 : BitVec 32 := BitVec.ofNat 32 (i 1).val
  let c1024_i32 : BitVec 32 := 1024#32
  let v51 : BitVec 32 := Scalar.muli arg1 c1024_i32
  let v52 : BitVec 32 := v51
  let v53 : BitVec 32 := Scalar.addi v52 c0_i32_30
  let v106 : Index := Scalar.indexCast v53
  let c0_65 : Index := 0#32
  ![1, v106.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FlashRefIdeal.lean ====
abbrev S32x8192x256 : Shape := ⟨3, ![32, 8192, 256]⟩
abbrev S32x8192x128 : Shape := ⟨3, ![32, 8192, 128]⟩
abbrev S8192x4096 : Shape := ⟨2, ![8192, 4096]⟩
abbrev S32x8192x8192 : Shape := ⟨3, ![32, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S32x8192 : Shape := ⟨2, ![32, 8192]⟩
abbrev S32x8192x1 : Shape := ⟨3, ![32, 8192, 1]⟩
abbrev S32x128x8192 : Shape := ⟨3, ![32, 128, 8192]⟩
abbrev S8192x32x128 : Shape := ⟨3, ![8192, 32, 128]⟩

abbrev nBuf : Space → Nat
  | .hbm => 39
  | .vmem => 0
  | .smem => 0
  | _ => 0

abbrev bufTy : (tb : Table) → Fin (tcTables nBuf tb) → BufTy
  | .hbm, ⟨0, _⟩ => ⟨S32x8192x256, .bf16⟩
  | .hbm, ⟨1, _⟩ => ⟨S32x8192x256, .bf16⟩
  | .hbm, ⟨2, _⟩ => ⟨S32x8192x128, .bf16⟩
  | .hbm, ⟨3, _⟩ => ⟨S8192x4096, .bf16⟩
  | .hbm, ⟨4, _⟩ => ⟨S32x8192x8192, .f32⟩
  | .hbm, ⟨5, _⟩ => ⟨S_, .f32⟩
  | .hbm, ⟨6, _⟩ => ⟨S_, .f32⟩
  | .hbm, ⟨7, _⟩ => ⟨S32x8192x8192, .f32⟩
  | .hbm, ⟨8, _⟩ => ⟨S32x8192x8192, .f32⟩
  | .hbm, ⟨9, _⟩ => ⟨S8192, .i32⟩
  | .hbm, ⟨10, _⟩ => ⟨S1x8192, .i32⟩
  | .hbm, ⟨11, _⟩ => ⟨S8192x1, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S32x8192x8192, .i1⟩
  | .hbm, ⟨16, _⟩ => ⟨S_, .f32⟩
  | .hbm, ⟨17, _⟩ => ⟨S32x8192x8192, .f32⟩
  | .hbm, ⟨18, _⟩ => ⟨S32x8192x8192, .f32⟩
  | .hbm, ⟨19, _⟩ => ⟨S_, .f32⟩
  | .hbm, ⟨20, _⟩ => ⟨S32x8192, .f32⟩
  | .hbm, ⟨21, _⟩ => ⟨S_, .f32⟩
  | .hbm, ⟨22, _⟩ => ⟨S32x8192, .f32⟩
  | .hbm, ⟨23, _⟩ => ⟨S32x8192, .f32⟩
  | .hbm, ⟨24, _⟩ => ⟨S32x8192x1, .f32⟩
  | .hbm, ⟨25, _⟩ => ⟨S32x8192x8192, .f32⟩
  | .hbm, ⟨26, _⟩ => ⟨S32x8192x8192, .f32⟩
  | .hbm, ⟨27, _⟩ => ⟨S32x8192x8192, .f32⟩
  | .hbm, ⟨28, _⟩ => ⟨S_, .f32⟩
  | .hbm, ⟨29, _⟩ => ⟨S32x8192, .f32⟩
  | .hbm, ⟨30, _⟩ => ⟨S32x8192x1, .f32⟩
  | .hbm, ⟨31, _⟩ => ⟨S32x8192x8192, .f32⟩
  | .hbm, ⟨32, _⟩ => ⟨S32x8192x8192, .f32⟩
  | .hbm, ⟨33, _⟩ => ⟨S32x8192x8192, .bf16⟩
  | .hbm, ⟨34, _⟩ => ⟨S32x128x8192, .f32⟩
  | .hbm, ⟨35, _⟩ => ⟨S8192x32x128, .f32⟩
  | .hbm, ⟨36, _⟩ => ⟨S8192x4096, .f32⟩
  | .hbm, ⟨37, _⟩ => ⟨S8192x4096, .bf16⟩
  | .hbm, ⟨38, _⟩ => ⟨S8192x4096, .bf16⟩
  | _, _ => ⟨S32x8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Proof.GluValue.lean ====
/- The value of `GluIdeal`, the gated linear unit's projection: the products of the activations with the first and the
   second half of columns 0 to 4096 of the combined input weights, the first times the logistic function of the second.
   The two cases' stores are read back as values, the two scratch buffers followed from point to point (a point that
   starts a column block stores the block's weights of both halves, cast, and the points after it keep them), and the
   result array read at an index. -/
module

public import proofs.«01_k».proof.Proof.Gen.GluIdeal.Value
public import Idealize.ShloMosaic.Lib.Tactic.ValueTie

@[expose] public section

noncomputable section

namespace Cert.GluIdeal.Hand

open Cert.GluIdeal Cert.GluIdeal.Gen Cert.GluIdeal.Value Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

section
variable {F : FTy → Type} [FloatOps F]

/-- At a point inside a column block the body leaves the gated product with the weights the scratch holds. -/
theorem outB (c : Dev nD) (i : grid0.Coords) (a2 : Memref sig .tc .vmem S1024x4096 .bf16) (h2 : a2.IsWhole) (a3 : Memref sig .tc .vmem S1x256x4096 .f32) (h3 : a3.IsWhole) (a4 : Memref sig .tc .vmem S1x256x4096 .f32) (h4 : a4.IsWhole) (a5 : Memref sig .tc .vmem S1024x256 .f32) (h5 : a5.IsWhole) (a6 : Memref sig .tc .vmem S256x4096 .bf16) (h6 : a6.IsWhole) (a7 : Memref sig .tc .vmem S256x4096 .bf16) (h7 : a7.IsWhole) (hc : ¬cond0_0 i)
    (x0 : Vec F S1024x4096 .bf16) (x1 : Vec F S1x256x4096 .f32) (x2 : Vec F S1x256x4096 .f32) (xs0 : Vec F S256x4096 .bf16) (xs1 : Vec F S256x4096 .bf16) :
    out0_B_3 c i a2 h2 a3 h3 a4 h4 a5 h5 a6 h6 a7 h7 hc x0 x1 x2 xs0 xs1 = k0_pay3 x0 xs0 xs1 := by
  unfold out0_B_3
  rw [View.read_writes_eq_canon _ _ _ (cover0_B_3 c i a2 h2 a3 h3 a4 h4 a5 h5 a6 h6 a7 h7 hc x0 x1 x2 xs0 xs1)]
  unfold kernelRun0_B
  dsimp only
  rw [View.canon_unit_zero hz2]
  simp only [View.readAt_eq_ld, h2.read_unread, h6.read_unread, h7.read_unread, View.ld_unit_zero (S := S1024x4096) hz2, View.ld_unit_zero (S := S256x4096) hz2]

/-- A point that starts a column block leaves the cast blocks of the two halves in the scratch … -/
theorem soutA0 (c : Dev nD) (i : grid0.Coords) (a2 : Memref sig .tc .vmem S1024x4096 .bf16) (h2 : a2.IsWhole) (a3 : Memref sig .tc .vmem S1x256x4096 .f32) (h3 : a3.IsWhole) (a4 : Memref sig .tc .vmem S1x256x4096 .f32) (h4 : a4.IsWhole) (a5 : Memref sig .tc .vmem S1024x256 .f32) (h5 : a5.IsWhole) (a6 : Memref sig .tc .vmem S256x4096 .bf16) (h6 : a6.IsWhole) (a7 : Memref sig .tc .vmem S256x4096 .bf16) (h7 : a7.IsWhole) (hc : cond0_0 i)
    (x0 : Vec F S1024x4096 .bf16) (x1 : Vec F S1x256x4096 .f32) (x2 : Vec F S1x256x4096 .f32) :
    sout0_A_0 c i a2 h2 a3 h3 a4 h4 a5 h5 a6 h6 a7 h7 hc x0 x1 x2 = k0_pay1 x1 := by
  unfold sout0_A_0
  rw [View.read_writes_eq_canon _ _ _ (scover0_A_0 c i a2 h2 a3 h3 a4 h4 a5 h5 a6 h6 a7 h7 hc x0 x1 x2)]
  unfold kernelRun0_A
  dsimp only
  sl_unfold_words
  rw [View.canon_unit_zero hz2]
  simp only [View.readAt_eq_ld, h3.read_unread, View.ld_unit_zero (S := S1x256x4096) hz3]

theorem soutA1 (c : Dev nD) (i : grid0.Coords) (a2 : Memref sig .tc .vmem S1024x4096 .bf16) (h2 : a2.IsWhole) (a3 : Memref sig .tc .vmem S1x256x4096 .f32) (h3 : a3.IsWhole) (a4 : Memref sig .tc .vmem S1x256x4096 .f32) (h4 : a4.IsWhole) (a5 : Memref sig .tc .vmem S1024x256 .f32) (h5 : a5.IsWhole) (a6 : Memref sig .tc .vmem S256x4096 .bf16) (h6 : a6.IsWhole) (a7 : Memref sig .tc .vmem S256x4096 .bf16) (h7 : a7.IsWhole) (hc : cond0_0 i)
    (x0 : Vec F S1024x4096 .bf16) (x1 : Vec F S1x256x4096 .f32) (x2 : Vec F S1x256x4096 .f32) :
    sout0_A_1 c i a2 h2 a3 h3 a4 h4 a5 h5 a6 h6 a7 h7 hc x0 x1 x2 = k0_pay2 x2 := by
  unfold sout0_A_1
  rw [View.read_writes_eq_canon _ _ _ (scover0_A_1 c i a2 h2 a3 h3 a4 h4 a5 h5 a6 h6 a7 h7 hc x0 x1 x2)]
  unfold kernelRun0_A
  dsimp only
  sl_unfold_words
  rw [View.canon_unit_zero hz2]
  simp only [View.readAt_eq_ld, h4.read_unread, View.ld_unit_zero (S := S1x256x4096) hz3]

/-- … and the gated product with them in the output block. -/
theorem outA (c : Dev nD) (i : grid0.Coords) (a2 : Memref sig .tc .vmem S1024x4096 .bf16) (h2 : a2.IsWhole) (a3 : Memref sig .tc .vmem S1x256x4096 .f32) (h3 : a3.IsWhole) (a4 : Memref sig .tc .vmem S1x256x4096 .f32) (h4 : a4.IsWhole) (a5 : Memref sig .tc .vmem S1024x256 .f32) (h5 : a5.IsWhole) (a6 : Memref sig .tc .vmem S256x4096 .bf16) (h6 : a6.IsWhole) (a7 : Memref sig .tc .vmem S256x4096 .bf16) (h7 : a7.IsWhole) (hc : cond0_0 i)
    (x0 : Vec F S1024x4096 .bf16) (x1 : Vec F S1x256x4096 .f32) (x2 : Vec F S1x256x4096 .f32) :
    out0_A_3 c i a2 h2 a3 h3 a4 h4 a5 h5 a6 h6 a7 h7 hc x0 x1 x2 = k0_pay3 x0 (k0_pay1 x1) (k0_pay2 x2) := by
  unfold out0_A_3
  rw [View.read_writes_eq_canon _ _ _ (cover0_A_3 c i a2 h2 a3 h3 a4 h4 a5 h5 a6 h6 a7 h7 hc x0 x1 x2)]
  unfold kernelRun0_A
  dsimp only
  sl_unfold_words
  rw [View.canon_unit_zero hz2, View.readCov_unit_zero (S := S256x4096) _ hz2, View.readCov_unit_zero (S := S256x4096) _ hz2]
  simp only [View.readAt_eq_ld, h2.read_unread, h3.read_unread, h4.read_unread, View.ld_unit_zero (S := S1024x4096) hz2, View.ld_unit_zero (S := S1x256x4096) hz3]

end

/-! ## The blocks the windows stage -/

section
variable (m : (ℓ : Loc nD τ sig) → Buf (Elt Ideal) ℓ)

/-- The rows of the activations that a point stages. -/
theorem iblk0_apply (c : Dev nD) (t : Fin cfg0.N) (y : S1024x4096.Idx) (r : Fin 8192) (k : Fin 4096)
    (hr : r.val = 1024 * (t.val % 8) + (y 0).val) (hk : k.val = (y 1).val) :
    (iblk m c 0 t : Vec Ideal S1024x4096 .bf16) y = (m ((c : Thread nD τ).loc main_arg0) : FVec Ideal S8192x4096 .bf16) (ix2 r k) := by
  unfold iblk
  rw [View.read_apply]
  show V m c main_arg0 _ = _
  rw [V_main_arg0]
  congr 1
  have hi : win0_0.index t (0 : Fin 2) = t.val % 8 ∧ win0_0.index t (1 : Fin 2) = 0 :=
    (by decide +kernel : ∀ t : Fin grid0.N, win0_0.index t (0 : Fin 2) = t.val % 8 ∧ win0_0.index t (1 : Fin 2) = 0) t
  funext a
  apply Fin.ext
  match a with
  | ⟨0, _⟩ => show win0_0.index t 0 * 1024 + 1 * (y 0).val = r.val; rw [hi.1]; omega
  | ⟨1, _⟩ => show win0_0.index t 1 * 4096 + 1 * (y 1).val = k.val; rw [hi.2]; omega

/-- The transposed weights that the two element windows read. -/
theorem V_main_v0_apply (c : Dev nD) (l : Fin 4) (n : Fin 28736) (k : Fin 4096) :
    (V m c main_v0 : FVec Ideal S4x28736x4096 .f32) (ix3 l n k) = (m ((c : Thread nD τ).loc main_arg1) : FVec Ideal S4x4096x28736 .f32) (ix3 l k n) := by
  show StableHlo.after hostOps0 (fun b => m (c, b)) main_v0 _ = _
  rw [show (hostOps0 : List (HloOp τ sig (Elt Ideal))) = [_] from rfl, StableHlo.after_cons, StableHlo.after_nil, StableHlo.unary_result]
  exact transpose_apply _ _ _ _ _ (fun b => by fin_cases b <;> rfl)

/-- The rows of the transposed weights that a point's first element window holds. -/
theorem iblk1_apply (c : Dev nD) (t : Fin cfg0.N) (y : S1x256x4096.Idx) (n : Fin 28736) (k : Fin 4096)
    (hn : n.val = 256 * (t.val / 8) + (y 1).val) (hk : k.val = (y 2).val) :
    (iblk m c 1 t : Vec Ideal S1x256x4096 .f32) y = (m ((c : Thread nD τ).loc main_arg1) : FVec Ideal S4x4096x28736 .f32) (ix3 (0 : Fin 4) k n) := by
  rw [← V_main_v0_apply m c]
  unfold iblk
  rw [View.read_apply]
  show V m c main_v0 _ = _
  congr 1
  have hi : cc0_transform_1 (grid0.coords t) (0 : Fin 3) = 0 ∧ cc0_transform_1 (grid0.coords t) (1 : Fin 3) = 256 * (t.val / 8) ∧ cc0_transform_1 (grid0.coords t) (2 : Fin 3) = 0 :=
    (by decide +kernel : ∀ t : Fin grid0.N, cc0_transform_1 (grid0.coords t) (0 : Fin 3) = 0 ∧ cc0_transform_1 (grid0.coords t) (1 : Fin 3) = 256 * (t.val / 8) ∧ cc0_transform_1 (grid0.coords t) (2 : Fin 3) = 0) t
  funext a
  apply Fin.ext
  match a with
  | ⟨0, _⟩ => show cc0_transform_1 (grid0.coords t) 0 + 1 * (y 0).val = 0; rw [hi.1]; have : (y 0).val < 1 := (y 0).isLt; omega
  | ⟨1, _⟩ => show cc0_transform_1 (grid0.coords t) 1 + 1 * (y 1).val = n.val; rw [hi.2.1]; omega
  | ⟨2, _⟩ => show cc0_transform_1 (grid0.coords t) 2 + 1 * (y 2).val = k.val; rw [hi.2.2]; omega

/-- The rows of the transposed weights that a point's second element window holds. -/
theorem iblk2_apply (c : Dev nD) (t : Fin cfg0.N) (y : S1x256x4096.Idx) (n : Fin 28736) (k : Fin 4096)
    (hn : n.val = 2048 + 256 * (t.val / 8) + (y 1).val) (hk : k.val = (y 2).val) :
    (iblk m c 2 t : Vec Ideal S1x256x4096 .f32) y = (m ((c : Thread nD τ).loc main_arg1) : FVec Ideal S4x4096x28736 .f32) (ix3 (0 : Fin 4) k n) := by
  rw [← V_main_v0_apply m c]
  unfold iblk
  rw [View.read_apply]
  show V m c main_v0 _ = _
  congr 1
  have hi : cc0_transform_2 (grid0.coords t) (0 : Fin 3) = 0 ∧ cc0_transform_2 (grid0.coords t) (1 : Fin 3) = 2048 + 256 * (t.val / 8) ∧ cc0_transform_2 (grid0.coords t) (2 : Fin 3) = 0 :=
    (by decide +kernel : ∀ t : Fin grid0.N, cc0_transform_2 (grid0.coords t) (0 : Fin 3) = 0 ∧ cc0_transform_2 (grid0.coords t) (1 : Fin 3) = 2048 + 256 * (t.val / 8) ∧ cc0_transform_2 (grid0.coords t) (2 : Fin 3) = 0) t
  funext a
  apply Fin.ext
  match a with
  | ⟨0, _⟩ => show cc0_transform_2 (grid0.coords t) 0 + 1 * (y 0).val = 0; rw [hi.1]; have : (y 0).val < 1 := (y 0).isLt; omega
  | ⟨1, _⟩ => show cc0_transform_2 (grid0.coords t) 1 + 1 * (y 1).val = n.val; rw [hi.2.1]; omega
  | ⟨2, _⟩ => show cc0_transform_2 (grid0.coords t) 2 + 1 * (y 2).val = k.val; rw [hi.2.2]; omega

/-- A block of transposed weights, cast and laid out as a matrix, read at an index. -/
theorem pay1_apply (v : Vec Ideal S1x256x4096 .f32) (r : Fin 256) (k : Fin 4096) :
    (k0_pay1 v : FVec Ideal S256x4096 .bf16) (ix2 r k) = v (ix3 (0 : Fin 1) r k) := by
  unfold k0_pay1
  simp only [pointwise]

theorem pay2_apply (v : Vec Ideal S1x256x4096 .f32) (r : Fin 256) (k : Fin 4096) :
    (k0_pay2 v : FVec Ideal S256x4096 .bf16) (ix2 r k) = v (ix3 (0 : Fin 1) r k) :=
  pay1_apply v r k

/-- The two products and the gate, read at an index. -/
theorem pay3_apply (x : Vec Ideal S1024x4096 .bf16) (w0 w1 : Vec Ideal S256x4096 .bf16) (r : Fin 1024) (n : Fin 256) :
    (k0_pay3 x w0 w1 : FVec Ideal S1024x256 .f32) (ix2 r n)
      = (∑ k : Fin 4096, (x (ix2 r k) * w0 (ix2 n k) : EReal))
        * Ideal.div 1 (1 + Ideal.exp (-(∑ k : Fin 4096, (x (ix2 r k) * w1 (ix2 n k) : EReal)))) := by
  unfold k0_pay3
  simp only [pointwise, zero_add]
  rfl

/-- The first element window does not move within a column block's run. -/
theorem iblk1_eq (c : Dev nD) (t t' : Fin cfg0.N) (h : t'.val / 8 = t.val / 8) :
    (iblk m c 1 t' : Vec Ideal S1x256x4096 .f32) = iblk m c 1 t := by
  funext y
  have hy : (y 1).val < 256 := (y 1).isLt
  have hN : t.val < 64 := lt_of_lt_of_eq t.isLt N_0
  rw [iblk1_apply m c t y ⟨256 * (t.val / 8) + (y 1).val, by omega⟩ (y 2) rfl rfl,
    iblk1_apply m c t' y ⟨256 * (t.val / 8) + (y 1).val, by omega⟩ (y 2) (by rw [h]) rfl]

theorem iblk2_eq (c : Dev nD) (t t' : Fin cfg0.N) (h : t'.val / 8 = t.val / 8) :
    (iblk m c 2 t' : Vec Ideal S1x256x4096 .f32) = iblk m c 2 t := by
  funext y
  have hy : (y 1).val < 256 := (y 1).isLt
  have hN : t.val < 64 := lt_of_lt_of_eq t.isLt N_0
  rw [iblk2_apply m c t y ⟨2048 + 256 * (t.val / 8) + (y 1).val, by omega⟩ (y 2) rfl rfl,
    iblk2_apply m c t' y ⟨2048 + 256 * (t.val / 8) + (y 1).val, by omega⟩ (y 2) (by rw [h]) rfl]

/-- What the two scratch buffers hold after a point that loads them. -/
theorem scratchA (c : Dev nD) (t : Fin cfg0.N) (h0 : t.val % 8 = 0) :
    (outsAt0 m c t.val t.isLt).2.1 = k0_pay1 (iblk m c 1 t) ∧ (outsAt0 m c t.val t.isLt).2.2 = k0_pay2 (iblk m c 2 t) := by
  rw [outsAt0_A m c t h0]
  dsimp only
  rw [soutA0, soutA1]
  exact ⟨rfl, rfl⟩

/-- … and after any other point: what the point before left. -/
theorem scratchB (c : Dev nD) (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  unfold sout0_B_0 sout0_B_1
  rfl

/-- What the two scratch buffers hold after a point: the point's column block of the two halves of the weights. -/
theorem scratch (c : Dev nD) : ∀ (n : ℕ) (h : n < cfg0.N),
    (outsAt0 m c n h).2.1 = k0_pay1 (iblk m c 1 ⟨n, h⟩) ∧ (outsAt0 m c n h).2.2 = k0_pay2 (iblk m c 2 ⟨n, h⟩)
  | 0, h => scratchA m c ⟨0, h⟩ (Nat.zero_mod _)
  | n + 1, h => by
    by_cases h0 : (n + 1) % 8 = 0
    · exact scratchA m c ⟨n + 1, h⟩ h0
    · have e := scratchB m c ⟨n + 1, h⟩ h0
      obtain ⟨e1, e2⟩ := scratch c n (Nat.lt_of_succ_lt h)
      have hd : n / 8 = (n + 1) / 8 := by omega
      rw [iblk1_eq m c ⟨n + 1, h⟩ ⟨n, Nat.lt_of_succ_lt h⟩ hd] at e1
      rw [iblk2_eq m c ⟨n + 1, h⟩ ⟨n, Nat.lt_of_succ_lt h⟩ hd] at e2
      exact ⟨(congrArg Prod.fst e).trans e1, (congrArg Prod.snd e).trans e2⟩

/-- What a point leaves in the output block. -/
theorem outs (c : Dev nD) (t : Fin cfg0.N) :
    (outsAt0 m c t.val t.isLt).1 = k0_pay3 (iblk m c 0 t) (k0_pay1 (iblk m c 1 t)) (k0_pay2 (iblk m c 2 t)) := by
  by_cases h0 : t.val % 8 = 0
  · rw [outsAt0_A m c t h0]
    dsimp only
    rw [outA]
  · obtain ⟨e1, e2⟩ := scratch m c t.val t.isLt
    have e := scratchB m c t h0
    rw [← e1, ← e2, e, outsAt0_B m c t h0]
    dsimp only
    rw [outB]

/-- The activations and the weights that the program is given. -/
abbrev hOf (c : Dev nD) : S8192x4096.Idx → EReal := m ((c : Thread nD τ).loc main_arg0)
abbrev wOf (c : Dev nD) : S4x4096x28736.Idx → EReal := m ((c : Thread nD τ).loc main_arg1)

/-- The result array: at row `r`, column `n` the first half's product times the logistic of the second half's. -/
theorem G3_apply (c : Dev nD) (r : Fin 8192) (n : Fin 2048) (n0 n1 : Fin 28736) (h0 : n0.val = n.val) (h1 : n1.val = 2048 + n.val) :
    (G3 m c : S8192x2048.Idx → EReal) (ix2 r n)
      = (∑ k : Fin 4096, hOf m c (ix2 r k) * wOf m c (ix3 (0 : Fin 4) k n0))
        * Ideal.div 1 (1 + Ideal.exp (-(∑ k : Fin 4096, hOf m c (ix2 r k) * wOf m c (ix3 (0 : Fin 4) k n1)))) := by
  have hr := r.isLt
  have hn := n.isLt
  have hlt : pt3Of (ix2 r n) < cfg0.N := lt_of_lt_of_eq (show _ < 64 by show 1 * (r.val / 1024 - 0) + 8 * (n.val / 256 - 0) < 64; omega) N_0.symm
  have hp : pt3Of (ix2 r n) = r.val / 1024 + 8 * (n.val / 256) := by show 1 * (r.val / 1024 - 0) + 8 * (n.val / 256 - 0) = _; omega
  unfold G3
  rw [dif_pos hlt, ← outsAt0_sweep m c _ hlt, outs m c ⟨_, hlt⟩,
    show loc3Of (ix2 r n) = ix2 (⟨r.val % 1024, Nat.mod_lt _ (by decide)⟩ : Fin 1024) (⟨n.val % 256, Nat.mod_lt _ (by decide)⟩ : Fin 256) from ValueIdx.eq_ix2 _,
    pay3_apply]
  simp only [pay1_apply, pay2_apply]
  have hk (k : Fin 4096) : (iblk m c 0 ⟨_, hlt⟩ : Vec Ideal S1024x4096 .bf16) (ix2 (⟨r.val % 1024, Nat.mod_lt _ (by decide)⟩ : Fin 1024) k)
      = (m ((c : Thread nD τ).loc main_arg0) : FVec Ideal S8192x4096 .bf16) (ix2 r k) :=
    iblk0_apply m c _ _ _ _ (by show r.val = 1024 * (pt3Of (ix2 r n) % 8) + r.val % 1024; rw [hp]; omega) rfl
  have hw1 (k : Fin 4096) : (iblk m c 1 ⟨_, hlt⟩ : Vec Ideal S1x256x4096 .f32) (ix3 (0 : Fin 1) (⟨n.val % 256, Nat.mod_lt _ (by decide)⟩ : Fin 256) k)
      = (m ((c : Thread nD τ).loc main_arg1) : FVec Ideal S4x4096x28736 .f32) (ix3 (0 : Fin 4) k n0) :=
    iblk1_apply m c _ _ _ _ (by show n0.val = 256 * (pt3Of (ix2 r n) / 8) + n.val % 256; rw [hp]; omega) rfl
  have hw2 (k : Fin 4096) : (iblk m c 2 ⟨_, hlt⟩ : Vec Ideal S1x256x4096 .f32) (ix3 (0 : Fin 1) (⟨n.val % 256, Nat.mod_lt _ (by decide)⟩ : Fin 256) k)
      = (m ((c : Thread nD τ).loc main_arg1) : FVec Ideal S4x4096x28736 .f32) (ix3 (0 : Fin 4) k n1) :=
    iblk2_apply m c _ _ _ _ (by show n1.val = 2048 + 256 * (pt3Of (ix2 r n) / 8) + n.val % 256; rw [hp]; omega) rfl
  simp only [hk, hw1, hw2]

/-- The result array as a function of its index. -/
theorem G3_eq (c : Dev nD) : (G3 m c : S8192x2048.Idx → EReal)
    = fun i => (∑ k : Fin 4096, hOf m c (ix2 (i 0 : Fin 8192) k) * wOf m c (ix3 (0 : Fin 4) k ⟨(i 1 : Fin 2048).val, by have h : (i 1 : Fin 2048).val < 2048 := (i 1 : Fin 2048).isLt; omega⟩))
        * Ideal.div 1 (1 + Ideal.exp (-(∑ k : Fin 4096, hOf m c (ix2 (i 0 : Fin 8192) k) * wOf m c (ix3 (0 : Fin 4) k ⟨2048 + (i 1 : Fin 2048).val, by have h : (i 1 : Fin 2048).val < 2048 := (i 1 : Fin 2048).isLt; omega⟩)))) := by
  funext i
  have hi : i = ix2 (i 0 : Fin 8192) (i 1 : Fin 2048) := funext fun a => by match a with | ⟨0, _⟩ => rfl | ⟨1, _⟩ => rfl
  rw [hi]
  exact G3_apply m c _ _ _ _ rfl rfl

end

end Cert.GluIdeal.Hand

end
-- ==== Proof.UlruValue.lean ====
/- The value of `UlruIdeal`, the projection of the activations through columns 12352 to 14400 of the combined
   input weights: the two cases' stores read back as values, the scratch followed from point to point (a point
   that starts a column block stores the block's weights, cast, and the points after it keep them), and the result array
   read at an index. -/
module

public import proofs.«01_k».proof.Proof.Gen.UlruIdeal.Value
public import Idealize.ShloMosaic.Lib.Tactic.ValueTie

@[expose] public section

noncomputable section

namespace Cert.UlruIdeal.Hand

open Cert.UlruIdeal Cert.UlruIdeal.Gen Cert.UlruIdeal.Value Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

section
variable {F : FTy → Type} [FloatOps F]

/-- At a point inside a column block the body leaves the product with the weights the scratch holds. -/
theorem outB (c : Dev nD) (i : grid0.Coords) (a2 : Memref sig .tc .vmem S1024x4096 .bf16) (h2 : a2.IsWhole) (a3 : Memref sig .tc .vmem S1x512x4096 .f32) (h3 : a3.IsWhole)
    (a4 : Memref sig .tc .vmem S1024x512 .f32) (h4 : a4.IsWhole) (a5 : Memref sig .tc .vmem S512x4096 .bf16) (h5 : a5.IsWhole) (hc : ¬cond0_0 i)
    (x0 : Vec F S1024x4096 .bf16) (x1 : Vec F S1x512x4096 .f32) (xs0 : Vec F S512x4096 .bf16) :
    out0_B_2 c i a2 h2 a3 h3 a4 h4 a5 h5 hc x0 x1 xs0 = k0_pay2 x0 xs0 := by
  unfold out0_B_2
  rw [View.read_writes_eq_canon _ _ _ (cover0_B_2 c i a2 h2 a3 h3 a4 h4 a5 h5 hc x0 x1 xs0)]
  unfold kernelRun0_B
  dsimp only
  rw [View.canon_unit_zero hz2]
  simp only [View.readAt_eq_ld, h2.read_unread, h5.read_unread, View.ld_unit_zero (S := S1024x4096) hz2, View.ld_unit_zero (S := S512x4096) hz2]

/-- A point that starts a column block leaves the cast block in the scratch … -/
theorem soutA (c : Dev nD) (i : grid0.Coords) (a2 : Memref sig .tc .vmem S1024x4096 .bf16) (h2 : a2.IsWhole) (a3 : Memref sig .tc .vmem S1x512x4096 .f32) (h3 : a3.IsWhole)
    (a4 : Memref sig .tc .vmem S1024x512 .f32) (h4 : a4.IsWhole) (a5 : Memref sig .tc .vmem S512x4096 .bf16) (h5 : a5.IsWhole) (hc : cond0_0 i)
    (x0 : Vec F S1024x4096 .bf16) (x1 : Vec F S1x512x4096 .f32) :
    sout0_A_0 c i a2 h2 a3 h3 a4 h4 a5 h5 hc x0 x1 = k0_pay1 x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero hz2]
  simp only [View.readAt_eq_ld, h3.read_unread, View.ld_unit_zero (S := S1x512x4096) hz3]

/-- … and the product with it in the output block. -/
theorem outA (c : Dev nD) (i : grid0.Coords) (a2 : Memref sig .tc .vmem S1024x4096 .bf16) (h2 : a2.IsWhole) (a3 : Memref sig .tc .vmem S1x512x4096 .f32) (h3 : a3.IsWhole)
    (a4 : Memref sig .tc .vmem S1024x512 .f32) (h4 : a4.IsWhole) (a5 : Memref sig .tc .vmem S512x4096 .bf16) (h5 : a5.IsWhole) (hc : cond0_0 i)
    (x0 : Vec F S1024x4096 .bf16) (x1 : Vec F S1x512x4096 .f32) :
    out0_A_2 c i a2 h2 a3 h3 a4 h4 a5 h5 hc x0 x1 = k0_pay2 x0 (k0_pay1 x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz2, View.readCov_unit_zero (S := S512x4096) _ hz2]
  simp only [View.readAt_eq_ld, h2.read_unread, h3.read_unread, View.ld_unit_zero (S := S1024x4096) hz2, View.ld_unit_zero (S := S1x512x4096) hz3]

end

section
variable (m : (ℓ : Loc nD τ sig) → Buf (Elt Ideal) ℓ)

/-- The activations and the weights that the program is given. -/
abbrev hOf (c : Dev nD) : S8192x4096.Idx → EReal := m ((c : Thread nD τ).loc main_arg0)
abbrev wOf (c : Dev nD) : S4x4096x28736.Idx → EReal := m ((c : Thread nD τ).loc main_arg1)

/-- The rows of the activations that a point stages. -/
theorem iblk0_apply (c : Dev nD) (t : Fin cfg0.N) (y : S1024x4096.Idx) (r : Fin 8192) (k : Fin 4096)
    (hr : r.val = 1024 * (t.val % 8) + (y 0).val) (hk : k.val = (y 1).val) :
    (iblk m c 0 t : Vec Ideal S1024x4096 .bf16) y = hOf m c (ix2 r k) := by
  unfold iblk
  rw [View.read_apply]
  show V m c main_arg0 _ = _
  rw [V_main_arg0]
  congr 1
  have hi : win0_0.index t (0 : Fin 2) = t.val % 8 ∧ win0_0.index t (1 : Fin 2) = 0 :=
    (by decide +kernel : ∀ t : Fin grid0.N, win0_0.index t (0 : Fin 2) = t.val % 8 ∧ win0_0.index t (1 : Fin 2) = 0) t
  funext a
  apply Fin.ext
  match a with
  | ⟨0, _⟩ => show win0_0.index t 0 * 1024 + 1 * (y 0).val = r.val; rw [hi.1]; omega
  | ⟨1, _⟩ => show win0_0.index t 1 * 4096 + 1 * (y 1).val = k.val; rw [hi.2]; omega

/-- The transposed weights that the element window reads. -/
theorem V_main_v0_apply (c : Dev nD) (l : Fin 4) (n : Fin 28736) (k : Fin 4096) :
    (V m c main_v0 : FVec Ideal S4x28736x4096 .f32) (ix3 l n k) = wOf m c (ix3 l k n) := by
  show StableHlo.after hostOps0 (fun b => m (c, b)) main_v0 _ = _
  rw [show (hostOps0 : List (HloOp τ sig (Elt Ideal))) = [_] from rfl, StableHlo.after_cons, StableHlo.after_nil, StableHlo.unary_result]
  exact transpose_apply _ _ _ _ _ (fun b => by fin_cases b <;> rfl)

/-- The rows of the transposed weights that a point's element window holds. -/
theorem iblk1_apply (c : Dev nD) (t : Fin cfg0.N) (y : S1x512x4096.Idx) (n : Fin 28736) (k : Fin 4096)
    (hn : n.val = 12352 + 512 * (t.val / 8) + (y 1).val) (hk : k.val = (y 2).val) :
    (iblk m c 1 t : Vec Ideal S1x512x4096 .f32) y = wOf m c (ix3 (0 : Fin 4) k n) := by
  rw [← V_main_v0_apply m c]
  unfold iblk
  rw [View.read_apply]
  show V m c main_v0 _ = _
  congr 1
  have hi : cc0_transform_1 (grid0.coords t) (0 : Fin 3) = 0 ∧ cc0_transform_1 (grid0.coords t) (1 : Fin 3) = 12352 + 512 * (t.val / 8) ∧ cc0_transform_1 (grid0.coords t) (2 : Fin 3) = 0 :=
    (by decide +kernel : ∀ t : Fin grid0.N, cc0_transform_1 (grid0.coords t) (0 : Fin 3) = 0 ∧ cc0_transform_1 (grid0.coords t) (1 : Fin 3) = 12352 + 512 * (t.val / 8) ∧ cc0_transform_1 (grid0.coords t) (2 : Fin 3) = 0) t
  funext a
  apply Fin.ext
  match a with
  | ⟨0, _⟩ => show cc0_transform_1 (grid0.coords t) 0 + 1 * (y 0).val = 0; rw [hi.1]; have : (y 0).val < 1 := (y 0).isLt; omega
  | ⟨1, _⟩ => show cc0_transform_1 (grid0.coords t) 1 + 1 * (y 1).val = n.val; rw [hi.2.1]; omega
  | ⟨2, _⟩ => show cc0_transform_1 (grid0.coords t) 2 + 1 * (y 2).val = k.val; rw [hi.2.2]; omega

/-- A block of transposed weights, cast and laid out as a matrix, read at an index. -/
theorem pay1_apply (v : Vec Ideal S1x512x4096 .f32) (r : Fin 512) (k : Fin 4096) :
    (k0_pay1 v : FVec Ideal S512x4096 .bf16) (ix2 r k) = v (ix3 (0 : Fin 1) r k) := by
  unfold k0_pay1
  simp only [pointwise]

/-- Nothing is applied to the product. -/
def act (x : EReal) : EReal := x

/-- The product and what is applied to it, read at an index. -/
theorem pay2_apply (x : Vec Ideal S1024x4096 .bf16) (w : Vec Ideal S512x4096 .bf16) (r : Fin 1024) (n : Fin 512) :
    (k0_pay2 x w : FVec Ideal S1024x512 .f32) (ix2 r n) = act (∑ k : Fin 4096, (x (ix2 r k) * w (ix2 n k) : EReal)) := by
  unfold k0_pay2 act
  simp only [pointwise, zero_add]

/-- The element window does not move within a column block's run. -/
theorem iblk1_eq (c : Dev nD) (t t' : Fin cfg0.N) (h : t'.val / 8 = t.val / 8) :
    (iblk m c 1 t' : Vec Ideal S1x512x4096 .f32) = iblk m c 1 t := by
  funext y
  have hy : (y 1).val < 512 := (y 1).isLt
  have hN : t.val < 32 := lt_of_lt_of_eq t.isLt N_0
  rw [iblk1_apply m c t y ⟨12352 + 512 * (t.val / 8) + (y 1).val, by omega⟩ (y 2) rfl rfl,
    iblk1_apply m c t' y ⟨12352 + 512 * (t.val / 8) + (y 1).val, by omega⟩ (y 2) (by rw [h]) rfl]

/-- What the scratch holds after a point that loads it. -/
theorem scratchA (c : Dev nD) (t : Fin cfg0.N) (h0 : t.val % 8 = 0) : (outsAt0 m c t.val t.isLt).2 = k0_pay1 (iblk m c 1 t) := by
  rw [outsAt0_A m c t h0]
  dsimp only
  rw [soutA]

/-- … and after any other point: what the point before left. -/
theorem scratchB (c : Dev nD) (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  unfold sout0_B_0
  rfl

/-- What the scratch holds after a point: the point's column block of the weights. -/
theorem scratch (c : Dev nD) : ∀ (n : ℕ) (h : n < cfg0.N), (outsAt0 m c n h).2 = k0_pay1 (iblk m c 1 ⟨n, h⟩)
  | 0, h => scratchA m c ⟨0, h⟩ (Nat.zero_mod _)
  | n + 1, h => by
    by_cases h0 : (n + 1) % 8 = 0
    · exact scratchA m c ⟨n + 1, h⟩ h0
    · have e1 := scratch c n (Nat.lt_of_succ_lt h)
      have hd : n / 8 = (n + 1) / 8 := by omega
      rw [iblk1_eq m c ⟨n + 1, h⟩ ⟨n, Nat.lt_of_succ_lt h⟩ hd] at e1
      exact (scratchB m c ⟨n + 1, h⟩ h0).trans e1

/-- What a point leaves in the output block. -/
theorem outs (c : Dev nD) (t : Fin cfg0.N) : (outsAt0 m c t.val t.isLt).1 = k0_pay2 (iblk m c 0 t) (k0_pay1 (iblk m c 1 t)) := by
  by_cases h0 : t.val % 8 = 0
  · rw [outsAt0_A m c t h0]
    dsimp only
    rw [outA]
  · rw [← scratch m c t.val t.isLt, scratchB m c t h0, outsAt0_B m c t h0]
    dsimp only
    rw [outB]

/-- The result array at row `r`, column `n`: the product of the row with the column's weights, and what is applied to it. -/
theorem G2_apply (c : Dev nD) (r : Fin 8192) (n : Fin 2048) (n0 : Fin 28736) (h0 : n0.val = 12352 + n.val) :
    (G2 m c : S8192x2048.Idx → EReal) (ix2 r n) = act (∑ k : Fin 4096, hOf m c (ix2 r k) * wOf m c (ix3 (0 : Fin 4) k n0)) := by
  have hr := r.isLt
  have hn := n.isLt
  have hlt : pt2Of (ix2 r n) < cfg0.N := lt_of_lt_of_eq (show _ < 32 by show 1 * (r.val / 1024 - 0) + 8 * (n.val / 512 - 0) < 32; omega) N_0.symm
  have hp : pt2Of (ix2 r n) = r.val / 1024 + 8 * (n.val / 512) := by show 1 * (r.val / 1024 - 0) + 8 * (n.val / 512 - 0) = _; omega
  unfold G2
  rw [dif_pos hlt, ← outsAt0_sweep m c _ hlt, outs m c ⟨_, hlt⟩,
    show loc2Of (ix2 r n) = ix2 (⟨r.val % 1024, Nat.mod_lt _ (by decide)⟩ : Fin 1024) (⟨n.val % 512, Nat.mod_lt _ (by decide)⟩ : Fin 512) from
      funext fun a => by match a with | ⟨0, _⟩ => rfl | ⟨1, _⟩ => rfl,
    pay2_apply]
  simp only [pay1_apply]
  have hk (k : Fin 4096) : (iblk m c 0 ⟨_, hlt⟩ : Vec Ideal S1024x4096 .bf16) (ix2 (⟨r.val % 1024, Nat.mod_lt _ (by decide)⟩ : Fin 1024) k) = hOf m c (ix2 r k) :=
    iblk0_apply m c _ _ _ _ (by show r.val = 1024 * (pt2Of (ix2 r n) % 8) + r.val % 1024; rw [hp]; omega) rfl
  have hw (k : Fin 4096) : (iblk m c 1 ⟨_, hlt⟩ : Vec Ideal S1x512x4096 .f32) (ix3 (0 : Fin 1) (⟨n.val % 512, Nat.mod_lt _ (by decide)⟩ : Fin 512) k)
      = wOf m c (ix3 (0 : Fin 4) k n0) :=
    iblk1_apply m c _ _ _ _ (by show n0.val = 12352 + 512 * (pt2Of (ix2 r n) / 8) + n.val % 512; rw [hp]; omega) rfl
  simp only [hk, hw]

/-- The result array as a function of its index. -/
theorem G2_eq (c : Dev nD) : (G2 m c : S8192x2048.Idx → EReal)
    = fun i => act (∑ k : Fin 4096, hOf m c (ix2 (i 0 : Fin 8192) k) * wOf m c (ix3 (0 : Fin 4) k ⟨12352 + (i 1 : Fin 2048).val, by have h : (i 1 : Fin 2048).val < 2048 := (i 1 : Fin 2048).isLt; omega⟩)) := by
  funext i
  have hi : i = ix2 (i 0 : Fin 8192) (i 1 : Fin 2048) := funext fun a => by match a with | ⟨0, _⟩ => rfl | ⟨1, _⟩ => rfl
  rw [hi]
  exact G2_apply m c _ _ _ rfl

end

end Cert.UlruIdeal.Hand

end
-- ==== Proof.GconvValue.lean ====
/- The value of `GconvIdeal`, the projection of the activations through columns 4096 to 6144 of the combined
   input weights and `silu` of it: the two cases' stores read back as values, the scratch followed from point to point (a point
   that starts a column block stores the block's weights, cast, and the points after it keep them), and the result array
   read at an index. -/
module

public import proofs.«01_k».proof.Proof.Gen.GconvIdeal.Value
public import Idealize.ShloMosaic.Lib.Tactic.ValueTie

@[expose] public section

noncomputable section

namespace Cert.GconvIdeal.Hand

open Cert.GconvIdeal Cert.GconvIdeal.Gen Cert.GconvIdeal.Value Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

section
variable {F : FTy → Type} [FloatOps F]

/-- At a point inside a column block the body leaves the product with the weights the scratch holds. -/
theorem outB (c : Dev nD) (i : grid0.Coords) (a2 : Memref sig .tc .vmem S1024x4096 .bf16) (h2 : a2.IsWhole) (a3 : Memref sig .tc .vmem S1x512x4096 .f32) (h3 : a3.IsWhole)
    (a4 : Memref sig .tc .vmem S1024x512 .bf16) (h4 : a4.IsWhole) (a5 : Memref sig .tc .vmem S512x4096 .bf16) (h5 : a5.IsWhole) (hc : ¬cond0_0 i)
    (x0 : Vec F S1024x4096 .bf16) (x1 : Vec F S1x512x4096 .f32) (xs0 : Vec F S512x4096 .bf16) :
    out0_B_2 c i a2 h2 a3 h3 a4 h4 a5 h5 hc x0 x1 xs0 = k0_pay2 x0 xs0 := by
  unfold out0_B_2
  rw [View.read_writes_eq_canon _ _ _ (cover0_B_2 c i a2 h2 a3 h3 a4 h4 a5 h5 hc x0 x1 xs0)]
  unfold kernelRun0_B
  dsimp only
  rw [View.canon_unit_zero hz2]
  simp only [View.readAt_eq_ld, h2.read_unread, h5.read_unread, View.ld_unit_zero (S := S1024x4096) hz2, View.ld_unit_zero (S := S512x4096) hz2]

/-- A point that starts a column block leaves the cast block in the scratch … -/
theorem soutA (c : Dev nD) (i : grid0.Coords) (a2 : Memref sig .tc .vmem S1024x4096 .bf16) (h2 : a2.IsWhole) (a3 : Memref sig .tc .vmem S1x512x4096 .f32) (h3 : a3.IsWhole)
    (a4 : Memref sig .tc .vmem S1024x512 .bf16) (h4 : a4.IsWhole) (a5 : Memref sig .tc .vmem S512x4096 .bf16) (h5 : a5.IsWhole) (hc : cond0_0 i)
    (x0 : Vec F S1024x4096 .bf16) (x1 : Vec F S1x512x4096 .f32) :
    sout0_A_0 c i a2 h2 a3 h3 a4 h4 a5 h5 hc x0 x1 = k0_pay1 x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero hz2]
  simp only [View.readAt_eq_ld, h3.read_unread, View.ld_unit_zero (S := S1x512x4096) hz3]

/-- … and the product with it in the output block. -/
theorem outA (c : Dev nD) (i : grid0.Coords) (a2 : Memref sig .tc .vmem S1024x4096 .bf16) (h2 : a2.IsWhole) (a3 : Memref sig .tc .vmem S1x512x4096 .f32) (h3 : a3.IsWhole)
    (a4 : Memref sig .tc .vmem S1024x512 .bf16) (h4 : a4.IsWhole) (a5 : Memref sig .tc .vmem S512x4096 .bf16) (h5 : a5.IsWhole) (hc : cond0_0 i)
    (x0 : Vec F S1024x4096 .bf16) (x1 : Vec F S1x512x4096 .f32) :
    out0_A_2 c i a2 h2 a3 h3 a4 h4 a5 h5 hc x0 x1 = k0_pay2 x0 (k0_pay1 x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz2, View.readCov_unit_zero (S := S512x4096) _ hz2]
  simp only [View.readAt_eq_ld, h2.read_unread, h3.read_unread, View.ld_unit_zero (S := S1024x4096) hz2, View.ld_unit_zero (S := S1x512x4096) hz3]

end

section
variable (m : (ℓ : Loc nD τ sig) → Buf (Elt Ideal) ℓ)

/-- The activations and the weights that the program is given. -/
abbrev hOf (c : Dev nD) : S8192x4096.Idx → EReal := m ((c : Thread nD τ).loc main_arg0)
abbrev wOf (c : Dev nD) : S4x4096x28736.Idx → EReal := m ((c : Thread nD τ).loc main_arg1)

/-- The rows of the activations that a point stages. -/
theorem iblk0_apply (c : Dev nD) (t : Fin cfg0.N) (y : S1024x4096.Idx) (r : Fin 8192) (k : Fin 4096)
    (hr : r.val = 1024 * (t.val % 8) + (y 0).val) (hk : k.val = (y 1).val) :
    (iblk m c 0 t : Vec Ideal S1024x4096 .bf16) y = hOf m c (ix2 r k) := by
  unfold iblk
  rw [View.read_apply]
  show V m c main_arg0 _ = _
  rw [V_main_arg0]
  congr 1
  have hi : win0_0.index t (0 : Fin 2) = t.val % 8 ∧ win0_0.index t (1 : Fin 2) = 0 :=
    (by decide +kernel : ∀ t : Fin grid0.N, win0_0.index t (0 : Fin 2) = t.val % 8 ∧ win0_0.index t (1 : Fin 2) = 0) t
  funext a
  apply Fin.ext
  match a with
  | ⟨0, _⟩ => show win0_0.index t 0 * 1024 + 1 * (y 0).val = r.val; rw [hi.1]; omega
  | ⟨1, _⟩ => show win0_0.index t 1 * 4096 + 1 * (y 1).val = k.val; rw [hi.2]; omega

/-- The transposed weights that the element window reads. -/
theorem V_main_v0_apply (c : Dev nD) (l : Fin 4) (n : Fin 28736) (k : Fin 4096) :
    (V m c main_v0 : FVec Ideal S4x28736x4096 .f32) (ix3 l n k) = wOf m c (ix3 l k n) := by
  show StableHlo.after hostOps0 (fun b => m (c, b)) main_v0 _ = _
  rw [show (hostOps0 : List (HloOp τ sig (Elt Ideal))) = [_] from rfl, StableHlo.after_cons, StableHlo.after_nil, StableHlo.unary_result]
  exact transpose_apply _ _ _ _ _ (fun b => by fin_cases b <;> rfl)

/-- The rows of the transposed weights that a point's element window holds. -/
theorem iblk1_apply (c : Dev nD) (t : Fin cfg0.N) (y : S1x512x4096.Idx) (n : Fin 28736) (k : Fin 4096)
    (hn : n.val = 4096 + 512 * (t.val / 8) + (y 1).val) (hk : k.val = (y 2).val) :
    (iblk m c 1 t : Vec Ideal S1x512x4096 .f32) y = wOf m c (ix3 (0 : Fin 4) k n) := by
  rw [← V_main_v0_apply m c]
  unfold iblk
  rw [View.read_apply]
  show V m c main_v0 _ = _
  congr 1
  have hi : cc0_transform_1 (grid0.coords t) (0 : Fin 3) = 0 ∧ cc0_transform_1 (grid0.coords t) (1 : Fin 3) = 4096 + 512 * (t.val / 8) ∧ cc0_transform_1 (grid0.coords t) (2 : Fin 3) = 0 :=
    (by decide +kernel : ∀ t : Fin grid0.N, cc0_transform_1 (grid0.coords t) (0 : Fin 3) = 0 ∧ cc0_transform_1 (grid0.coords t) (1 : Fin 3) = 4096 + 512 * (t.val / 8) ∧ cc0_transform_1 (grid0.coords t) (2 : Fin 3) = 0) t
  funext a
  apply Fin.ext
  match a with
  | ⟨0, _⟩ => show cc0_transform_1 (grid0.coords t) 0 + 1 * (y 0).val = 0; rw [hi.1]; have : (y 0).val < 1 := (y 0).isLt; omega
  | ⟨1, _⟩ => show cc0_transform_1 (grid0.coords t) 1 + 1 * (y 1).val = n.val; rw [hi.2.1]; omega
  | ⟨2, _⟩ => show cc0_transform_1 (grid0.coords t) 2 + 1 * (y 2).val = k.val; rw [hi.2.2]; omega

/-- A block of transposed weights, cast and laid out as a matrix, read at an index. -/
theorem pay1_apply (v : Vec Ideal S1x512x4096 .f32) (r : Fin 512) (k : Fin 4096) :
    (k0_pay1 v : FVec Ideal S512x4096 .bf16) (ix2 r k) = v (ix3 (0 : Fin 1) r k) := by
  unfold k0_pay1
  simp only [pointwise]

/-- `silu`. -/
def act (x : EReal) : EReal := x * Ideal.div 1 (1 + Ideal.exp (-x))

/-- The product and what is applied to it, read at an index. -/
theorem pay2_apply (x : Vec Ideal S1024x4096 .bf16) (w : Vec Ideal S512x4096 .bf16) (r : Fin 1024) (n : Fin 512) :
    (k0_pay2 x w : FVec Ideal S1024x512 .bf16) (ix2 r n) = act (∑ k : Fin 4096, (x (ix2 r k) * w (ix2 n k) : EReal)) := by
  unfold k0_pay2 act
  simp only [pointwise, zero_add]
  rfl

/-- The element window does not move within a column block's run. -/
theorem iblk1_eq (c : Dev nD) (t t' : Fin cfg0.N) (h : t'.val / 8 = t.val / 8) :
    (iblk m c 1 t' : Vec Ideal S1x512x4096 .f32) = iblk m c 1 t := by
  funext y
  have hy : (y 1).val < 512 := (y 1).isLt
  have hN : t.val < 32 := lt_of_lt_of_eq t.isLt N_0
  rw [iblk1_apply m c t y ⟨4096 + 512 * (t.val / 8) + (y 1).val, by omega⟩ (y 2) rfl rfl,
    iblk1_apply m c t' y ⟨4096 + 512 * (t.val / 8) + (y 1).val, by omega⟩ (y 2) (by rw [h]) rfl]

/-- What the scratch holds after a point that loads it. -/
theorem scratchA (c : Dev nD) (t : Fin cfg0.N) (h0 : t.val % 8 = 0) : (outsAt0 m c t.val t.isLt).2 = k0_pay1 (iblk m c 1 t) := by
  rw [outsAt0_A m c t h0]
  dsimp only
  rw [soutA]

/-- … and after any other point: what the point before left. -/
theorem scratchB (c : Dev nD) (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  unfold sout0_B_0
  rfl

/-- What the scratch holds after a point: the point's column block of the weights. -/
theorem scratch (c : Dev nD) : ∀ (n : ℕ) (h : n < cfg0.N), (outsAt0 m c n h).2 = k0_pay1 (iblk m c 1 ⟨n, h⟩)
  | 0, h => scratchA m c ⟨0, h⟩ (Nat.zero_mod _)
  | n + 1, h => by
    by_cases h0 : (n + 1) % 8 = 0
    · exact scratchA m c ⟨n + 1, h⟩ h0
    · have e1 := scratch c n (Nat.lt_of_succ_lt h)
      have hd : n / 8 = (n + 1) / 8 := by omega
      rw [iblk1_eq m c ⟨n + 1, h⟩ ⟨n, Nat.lt_of_succ_lt h⟩ hd] at e1
      exact (scratchB m c ⟨n + 1, h⟩ h0).trans e1

/-- What a point leaves in the output block. -/
theorem outs (c : Dev nD) (t : Fin cfg0.N) : (outsAt0 m c t.val t.isLt).1 = k0_pay2 (iblk m c 0 t) (k0_pay1 (iblk m c 1 t)) := by
  by_cases h0 : t.val % 8 = 0
  · rw [outsAt0_A m c t h0]
    dsimp only
    rw [outA]
  · rw [← scratch m c t.val t.isLt, scratchB m c t h0, outsAt0_B m c t h0]
    dsimp only
    rw [outB]

/-- The result array at row `r`, column `n`: the product of the row with the column's weights, and what is applied to it. -/
theorem G2_apply (c : Dev nD) (r : Fin 8192) (n : Fin 2048) (n0 : Fin 28736) (h0 : n0.val = 4096 + n.val) :
    (G2 m c : S8192x2048.Idx → EReal) (ix2 r n) = act (∑ k : Fin 4096, hOf m c (ix2 r k) * wOf m c (ix3 (0 : Fin 4) k n0)) := by
  have hr := r.isLt
  have hn := n.isLt
  have hlt : pt2Of (ix2 r n) < cfg0.N := lt_of_lt_of_eq (show _ < 32 by show 1 * (r.val / 1024 - 0) + 8 * (n.val / 512 - 0) < 32; omega) N_0.symm
  have hp : pt2Of (ix2 r n) = r.val / 1024 + 8 * (n.val / 512) := by show 1 * (r.val / 1024 - 0) + 8 * (n.val / 512 - 0) = _; omega
  unfold G2
  rw [dif_pos hlt, ← outsAt0_sweep m c _ hlt, outs m c ⟨_, hlt⟩,
    show loc2Of (ix2 r n) = ix2 (⟨r.val % 1024, Nat.mod_lt _ (by decide)⟩ : Fin 1024) (⟨n.val % 512, Nat.mod_lt _ (by decide)⟩ : Fin 512) from
      funext fun a => by match a with | ⟨0, _⟩ => rfl | ⟨1, _⟩ => rfl,
    pay2_apply]
  simp only [pay1_apply]
  have hk (k : Fin 4096) : (iblk m c 0 ⟨_, hlt⟩ : Vec Ideal S1024x4096 .bf16) (ix2 (⟨r.val % 1024, Nat.mod_lt _ (by decide)⟩ : Fin 1024) k) = hOf m c (ix2 r k) :=
    iblk0_apply m c _ _ _ _ (by show r.val = 1024 * (pt2Of (ix2 r n) % 8) + r.val % 1024; rw [hp]; omega) rfl
  have hw (k : Fin 4096) : (iblk m c 1 ⟨_, hlt⟩ : Vec Ideal S1x512x4096 .f32) (ix3 (0 : Fin 1) (⟨n.val % 512, Nat.mod_lt _ (by decide)⟩ : Fin 512) k)
      = wOf m c (ix3 (0 : Fin 4) k n0) :=
    iblk1_apply m c _ _ _ _ (by show n0.val = 4096 + 512 * (pt2Of (ix2 r n) / 8) + n.val % 512; rw [hp]; omega) rfl
  simp only [hk, hw]

/-- The result array as a function of its index. -/
theorem G2_eq (c : Dev nD) : (G2 m c : S8192x2048.Idx → EReal)
    = fun i => act (∑ k : Fin 4096, hOf m c (ix2 (i 0 : Fin 8192) k) * wOf m c (ix3 (0 : Fin 4) k ⟨4096 + (i 1 : Fin 2048).val, by have h : (i 1 : Fin 2048).val < 2048 := (i 1 : Fin 2048).isLt; omega⟩)) := by
  funext i
  have hi : i = ix2 (i 0 : Fin 8192) (i 1 : Fin 2048) := funext fun a => by match a with | ⟨0, _⟩ => rfl | ⟨1, _⟩ => rfl
  rw [hi]
  exact G2_apply m c _ _ _ rfl

end

end Cert.GconvIdeal.Hand

end
-- ==== Proof.GmlaValue.lean ====
/- The value of `GmlaIdeal`, the projection of the activations through columns 8256 to 12352 of the combined
   input weights and `silu` of it: the two cases' stores read back as values, the scratch followed from point to point (a point
   that starts a column block stores the block's weights, cast, and the points after it keep them), and the result array
   read at an index. -/
module

public import proofs.«01_k».proof.Proof.Gen.GmlaIdeal.Value
public import Idealize.ShloMosaic.Lib.Tactic.ValueTie

@[expose] public section

noncomputable section

namespace Cert.GmlaIdeal.Hand

open Cert.GmlaIdeal Cert.GmlaIdeal.Gen Cert.GmlaIdeal.Value Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

section
variable {F : FTy → Type} [FloatOps F]

/-- At a point inside a column block the body leaves the product with the weights the scratch holds. -/
theorem outB (c : Dev nD) (i : grid0.Coords) (a2 : Memref sig .tc .vmem S1024x4096 .bf16) (h2 : a2.IsWhole) (a3 : Memref sig .tc .vmem S1x512x4096 .f32) (h3 : a3.IsWhole)
    (a4 : Memref sig .tc .vmem S1024x512 .bf16) (h4 : a4.IsWhole) (a5 : Memref sig .tc .vmem S512x4096 .bf16) (h5 : a5.IsWhole) (hc : ¬cond0_0 i)
    (x0 : Vec F S1024x4096 .bf16) (x1 : Vec F S1x512x4096 .f32) (xs0 : Vec F S512x4096 .bf16) :
    out0_B_2 c i a2 h2 a3 h3 a4 h4 a5 h5 hc x0 x1 xs0 = k0_pay2 x0 xs0 := by
  unfold out0_B_2
  rw [View.read_writes_eq_canon _ _ _ (cover0_B_2 c i a2 h2 a3 h3 a4 h4 a5 h5 hc x0 x1 xs0)]
  unfold kernelRun0_B
  dsimp only
  rw [View.canon_unit_zero hz2]
  simp only [View.readAt_eq_ld, h2.read_unread, h5.read_unread, View.ld_unit_zero (S := S1024x4096) hz2, View.ld_unit_zero (S := S512x4096) hz2]

/-- A point that starts a column block leaves the cast block in the scratch … -/
theorem soutA (c : Dev nD) (i : grid0.Coords) (a2 : Memref sig .tc .vmem S1024x4096 .bf16) (h2 : a2.IsWhole) (a3 : Memref sig .tc .vmem S1x512x4096 .f32) (h3 : a3.IsWhole)
    (a4 : Memref sig .tc .vmem S1024x512 .bf16) (h4 : a4.IsWhole) (a5 : Memref sig .tc .vmem S512x4096 .bf16) (h5 : a5.IsWhole) (hc : cond0_0 i)
    (x0 : Vec F S1024x4096 .bf16) (x1 : Vec F S1x512x4096 .f32) :
    sout0_A_0 c i a2 h2 a3 h3 a4 h4 a5 h5 hc x0 x1 = k0_pay1 x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero hz2]
  simp only [View.readAt_eq_ld, h3.read_unread, View.ld_unit_zero (S := S1x512x4096) hz3]

/-- … and the product with it in the output block. -/
theorem outA (c : Dev nD) (i : grid0.Coords) (a2 : Memref sig .tc .vmem S1024x4096 .bf16) (h2 : a2.IsWhole) (a3 : Memref sig .tc .vmem S1x512x4096 .f32) (h3 : a3.IsWhole)
    (a4 : Memref sig .tc .vmem S1024x512 .bf16) (h4 : a4.IsWhole) (a5 : Memref sig .tc .vmem S512x4096 .bf16) (h5 : a5.IsWhole) (hc : cond0_0 i)
    (x0 : Vec F S1024x4096 .bf16) (x1 : Vec F S1x512x4096 .f32) :
    out0_A_2 c i a2 h2 a3 h3 a4 h4 a5 h5 hc x0 x1 = k0_pay2 x0 (k0_pay1 x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz2, View.readCov_unit_zero (S := S512x4096) _ hz2]
  simp only [View.readAt_eq_ld, h2.read_unread, h3.read_unread, View.ld_unit_zero (S := S1024x4096) hz2, View.ld_unit_zero (S := S1x512x4096) hz3]

end

section
variable (m : (ℓ : Loc nD τ sig) → Buf (Elt Ideal) ℓ)

/-- The activations and the weights that the program is given. -/
abbrev hOf (c : Dev nD) : S8192x4096.Idx → EReal := m ((c : Thread nD τ).loc main_arg0)
abbrev wOf (c : Dev nD) : S4x4096x28736.Idx → EReal := m ((c : Thread nD τ).loc main_arg1)

/-- The rows of the activations that a point stages. -/
theorem iblk0_apply (c : Dev nD) (t : Fin cfg0.N) (y : S1024x4096.Idx) (r : Fin 8192) (k : Fin 4096)
    (hr : r.val = 1024 * (t.val % 8) + (y 0).val) (hk : k.val = (y 1).val) :
    (iblk m c 0 t : Vec Ideal S1024x4096 .bf16) y = hOf m c (ix2 r k) := by
  unfold iblk
  rw [View.read_apply]
  show V m c main_arg0 _ = _
  rw [V_main_arg0]
  congr 1
  have hi : win0_0.index t (0 : Fin 2) = t.val % 8 ∧ win0_0.index t (1 : Fin 2) = 0 :=
    (by decide +kernel : ∀ t : Fin grid0.N, win0_0.index t (0 : Fin 2) = t.val % 8 ∧ win0_0.index t (1 : Fin 2) = 0) t
  funext a
  apply Fin.ext
  match a with
  | ⟨0, _⟩ => show win0_0.index t 0 * 1024 + 1 * (y 0).val = r.val; rw [hi.1]; omega
  | ⟨1, _⟩ => show win0_0.index t 1 * 4096 + 1 * (y 1).val = k.val; rw [hi.2]; omega

/-- The transposed weights that the element window reads. -/
theorem V_main_v0_apply (c : Dev nD) (l : Fin 4) (n : Fin 28736) (k : Fin 4096) :
    (V m c main_v0 : FVec Ideal S4x28736x4096 .f32) (ix3 l n k) = wOf m c (ix3 l k n) := by
  show StableHlo.after hostOps0 (fun b => m (c, b)) main_v0 _ = _
  rw [show (hostOps0 : List (HloOp τ sig (Elt Ideal))) = [_] from rfl, StableHlo.after_cons, StableHlo.after_nil, StableHlo.unary_result]
  exact transpose_apply _ _ _ _ _ (fun b => by fin_cases b <;> rfl)

/-- The rows of the transposed weights that a point's element window holds. -/
theorem iblk1_apply (c : Dev nD) (t : Fin cfg0.N) (y : S1x512x4096.Idx) (n : Fin 28736) (k : Fin 4096)
    (hn : n.val = 8256 + 512 * (t.val / 8) + (y 1).val) (hk : k.val = (y 2).val) :
    (iblk m c 1 t : Vec Ideal S1x512x4096 .f32) y = wOf m c (ix3 (0 : Fin 4) k n) := by
  rw [← V_main_v0_apply m c]
  unfold iblk
  rw [View.read_apply]
  show V m c main_v0 _ = _
  congr 1
  have hi : cc0_transform_1 (grid0.coords t) (0 : Fin 3) = 0 ∧ cc0_transform_1 (grid0.coords t) (1 : Fin 3) = 8256 + 512 * (t.val / 8) ∧ cc0_transform_1 (grid0.coords t) (2 : Fin 3) = 0 :=
    (by decide +kernel : ∀ t : Fin grid0.N, cc0_transform_1 (grid0.coords t) (0 : Fin 3) = 0 ∧ cc0_transform_1 (grid0.coords t) (1 : Fin 3) = 8256 + 512 * (t.val / 8) ∧ cc0_transform_1 (grid0.coords t) (2 : Fin 3) = 0) t
  funext a
  apply Fin.ext
  match a with
  | ⟨0, _⟩ => show cc0_transform_1 (grid0.coords t) 0 + 1 * (y 0).val = 0; rw [hi.1]; have : (y 0).val < 1 := (y 0).isLt; omega
  | ⟨1, _⟩ => show cc0_transform_1 (grid0.coords t) 1 + 1 * (y 1).val = n.val; rw [hi.2.1]; omega
  | ⟨2, _⟩ => show cc0_transform_1 (grid0.coords t) 2 + 1 * (y 2).val = k.val; rw [hi.2.2]; omega

/-- A block of transposed weights, cast and laid out as a matrix, read at an index. -/
theorem pay1_apply (v : Vec Ideal S1x512x4096 .f32) (r : Fin 512) (k : Fin 4096) :
    (k0_pay1 v : FVec Ideal S512x4096 .bf16) (ix2 r k) = v (ix3 (0 : Fin 1) r k) := by
  unfold k0_pay1
  simp only [pointwise]

/-- `silu`. -/
def act (x : EReal) : EReal := x * Ideal.div 1 (1 + Ideal.exp (-x))

/-- The product and what is applied to it, read at an index. -/
theorem pay2_apply (x : Vec Ideal S1024x4096 .bf16) (w : Vec Ideal S512x4096 .bf16) (r : Fin 1024) (n : Fin 512) :
    (k0_pay2 x w : FVec Ideal S1024x512 .bf16) (ix2 r n) = act (∑ k : Fin 4096, (x (ix2 r k) * w (ix2 n k) : EReal)) := by
  unfold k0_pay2 act
  simp only [pointwise, zero_add]
  rfl

/-- The element window does not move within a column block's run. -/
theorem iblk1_eq (c : Dev nD) (t t' : Fin cfg0.N) (h : t'.val / 8 = t.val / 8) :
    (iblk m c 1 t' : Vec Ideal S1x512x4096 .f32) = iblk m c 1 t := by
  funext y
  have hy : (y 1).val < 512 := (y 1).isLt
  have hN : t.val < 64 := lt_of_lt_of_eq t.isLt N_0
  rw [iblk1_apply m c t y ⟨8256 + 512 * (t.val / 8) + (y 1).val, by omega⟩ (y 2) rfl rfl,
    iblk1_apply m c t' y ⟨8256 + 512 * (t.val / 8) + (y 1).val, by omega⟩ (y 2) (by rw [h]) rfl]

/-- What the scratch holds after a point that loads it. -/
theorem scratchA (c : Dev nD) (t : Fin cfg0.N) (h0 : t.val % 8 = 0) : (outsAt0 m c t.val t.isLt).2 = k0_pay1 (iblk m c 1 t) := by
  rw [outsAt0_A m c t h0]
  dsimp only
  rw [soutA]

/-- … and after any other point: what the point before left. -/
theorem scratchB (c : Dev nD) (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  unfold sout0_B_0
  rfl

/-- What the scratch holds after a point: the point's column block of the weights. -/
theorem scratch (c : Dev nD) : ∀ (n : ℕ) (h : n < cfg0.N), (outsAt0 m c n h).2 = k0_pay1 (iblk m c 1 ⟨n, h⟩)
  | 0, h => scratchA m c ⟨0, h⟩ (Nat.zero_mod _)
  | n + 1, h => by
    by_cases h0 : (n + 1) % 8 = 0
    · exact scratchA m c ⟨n + 1, h⟩ h0
    · have e1 := scratch c n (Nat.lt_of_succ_lt h)
      have hd : n / 8 = (n + 1) / 8 := by omega
      rw [iblk1_eq m c ⟨n + 1, h⟩ ⟨n, Nat.lt_of_succ_lt h⟩ hd] at e1
      exact (scratchB m c ⟨n + 1, h⟩ h0).trans e1

/-- What a point leaves in the output block. -/
theorem outs (c : Dev nD) (t : Fin cfg0.N) : (outsAt0 m c t.val t.isLt).1 = k0_pay2 (iblk m c 0 t) (k0_pay1 (iblk m c 1 t)) := by
  by_cases h0 : t.val % 8 = 0
  · rw [outsAt0_A m c t h0]
    dsimp only
    rw [outA]
  · rw [← scratch m c t.val t.isLt, scratchB m c t h0, outsAt0_B m c t h0]
    dsimp only
    rw [outB]

/-- The result array at row `r`, column `n`: the product of the row with the column's weights, and what is applied to it. -/
theorem G2_apply (c : Dev nD) (r : Fin 8192) (n : Fin 4096) (n0 : Fin 28736) (h0 : n0.val = 8256 + n.val) :
    (G2 m c : S8192x4096.Idx → EReal) (ix2 r n) = act (∑ k : Fin 4096, hOf m c (ix2 r k) * wOf m c (ix3 (0 : Fin 4) k n0)) := by
  have hr := r.isLt
  have hn := n.isLt
  have hlt : pt2Of (ix2 r n) < cfg0.N := lt_of_lt_of_eq (show _ < 64 by show 1 * (r.val / 1024 - 0) + 8 * (n.val / 512 - 0) < 64; omega) N_0.symm
  have hp : pt2Of (ix2 r n) = r.val / 1024 + 8 * (n.val / 512) := by show 1 * (r.val / 1024 - 0) + 8 * (n.val / 512 - 0) = _; omega
  unfold G2
  rw [dif_pos hlt, ← outsAt0_sweep m c _ hlt, outs m c ⟨_, hlt⟩,
    show loc2Of (ix2 r n) = ix2 (⟨r.val % 1024, Nat.mod_lt _ (by decide)⟩ : Fin 1024) (⟨n.val % 512, Nat.mod_lt _ (by decide)⟩ : Fin 512) from
      funext fun a => by match a with | ⟨0, _⟩ => rfl | ⟨1, _⟩ => rfl,
    pay2_apply]
  simp only [pay1_apply]
  have hk (k : Fin 4096) : (iblk m c 0 ⟨_, hlt⟩ : Vec Ideal S1024x4096 .bf16) (ix2 (⟨r.val % 1024, Nat.mod_lt _ (by decide)⟩ : Fin 1024) k) = hOf m c (ix2 r k) :=
    iblk0_apply m c _ _ _ _ (by show r.val = 1024 * (pt2Of (ix2 r n) % 8) + r.val % 1024; rw [hp]; omega) rfl
  have hw (k : Fin 4096) : (iblk m c 1 ⟨_, hlt⟩ : Vec Ideal S1x512x4096 .f32) (ix3 (0 : Fin 1) (⟨n.val % 512, Nat.mod_lt _ (by decide)⟩ : Fin 512) k)
      = wOf m c (ix3 (0 : Fin 4) k n0) :=
    iblk1_apply m c _ _ _ _ (by show n0.val = 8256 + 512 * (pt2Of (ix2 r n) / 8) + n.val % 512; rw [hp]; omega) rfl
  simp only [hk, hw]

/-- The result array as a function of its index. -/
theorem G2_eq (c : Dev nD) : (G2 m c : S8192x4096.Idx → EReal)
    = fun i => act (∑ k : Fin 4096, hOf m c (ix2 (i 0 : Fin 8192) k) * wOf m c (ix3 (0 : Fin 4) k ⟨8256 + (i 1 : Fin 4096).val, by have h : (i 1 : Fin 4096).val < 4096 := (i 1 : Fin 4096).isLt; omega⟩)) := by
  funext i
  have hi : i = ix2 (i 0 : Fin 8192) (i 1 : Fin 4096) := funext fun a => by match a with | ⟨0, _⟩ => rfl | ⟨1, _⟩ => rfl
  rw [hi]
  exact G2_apply m c _ _ _ rfl

end

end Cert.GmlaIdeal.Hand

end
-- ==== Proof.GlruValue.lean ====
/- The value of `GlruIdeal`, the projection of the activations through columns 14400 to 16448 of the combined
   input weights and `silu` of it: the two cases' stores read back as values, the scratch followed from point to point (a point
   that starts a column block stores the block's weights, cast, and the points after it keep them), and the result array
   read at an index. -/
module

public import proofs.«01_k».proof.Proof.Gen.GlruIdeal.Value
public import Idealize.ShloMosaic.Lib.Tactic.ValueTie

@[expose] public section

noncomputable section

namespace Cert.GlruIdeal.Hand

open Cert.GlruIdeal Cert.GlruIdeal.Gen Cert.GlruIdeal.Value Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

section
variable {F : FTy → Type} [FloatOps F]

/-- At a point inside a column block the body leaves the product with the weights the scratch holds. -/
theorem outB (c : Dev nD) (i : grid0.Coords) (a2 : Memref sig .tc .vmem S1024x4096 .bf16) (h2 : a2.IsWhole) (a3 : Memref sig .tc .vmem S1x512x4096 .f32) (h3 : a3.IsWhole)
    (a4 : Memref sig .tc .vmem S1024x512 .bf16) (h4 : a4.IsWhole) (a5 : Memref sig .tc .vmem S512x4096 .bf16) (h5 : a5.IsWhole) (hc : ¬cond0_0 i)
    (x0 : Vec F S1024x4096 .bf16) (x1 : Vec F S1x512x4096 .f32) (xs0 : Vec F S512x4096 .bf16) :
    out0_B_2 c i a2 h2 a3 h3 a4 h4 a5 h5 hc x0 x1 xs0 = k0_pay2 x0 xs0 := by
  unfold out0_B_2
  rw [View.read_writes_eq_canon _ _ _ (cover0_B_2 c i a2 h2 a3 h3 a4 h4 a5 h5 hc x0 x1 xs0)]
  unfold kernelRun0_B
  dsimp only
  rw [View.canon_unit_zero hz2]
  simp only [View.readAt_eq_ld, h2.read_unread, h5.read_unread, View.ld_unit_zero (S := S1024x4096) hz2, View.ld_unit_zero (S := S512x4096) hz2]

/-- A point that starts a column block leaves the cast block in the scratch … -/
theorem soutA (c : Dev nD) (i : grid0.Coords) (a2 : Memref sig .tc .vmem S1024x4096 .bf16) (h2 : a2.IsWhole) (a3 : Memref sig .tc .vmem S1x512x4096 .f32) (h3 : a3.IsWhole)
    (a4 : Memref sig .tc .vmem S1024x512 .bf16) (h4 : a4.IsWhole) (a5 : Memref sig .tc .vmem S512x4096 .bf16) (h5 : a5.IsWhole) (hc : cond0_0 i)
    (x0 : Vec F S1024x4096 .bf16) (x1 : Vec F S1x512x4096 .f32) :
    sout0_A_0 c i a2 h2 a3 h3 a4 h4 a5 h5 hc x0 x1 = k0_pay1 x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero hz2]
  simp only [View.readAt_eq_ld, h3.read_unread, View.ld_unit_zero (S := S1x512x4096) hz3]

/-- … and the product with it in the output block. -/
theorem outA (c : Dev nD) (i : grid0.Coords) (a2 : Memref sig .tc .vmem S1024x4096 .bf16) (h2 : a2.IsWhole) (a3 : Memref sig .tc .vmem S1x512x4096 .f32) (h3 : a3.IsWhole)
    (a4 : Memref sig .tc .vmem S1024x512 .bf16) (h4 : a4.IsWhole) (a5 : Memref sig .tc .vmem S512x4096 .bf16) (h5 : a5.IsWhole) (hc : cond0_0 i)
    (x0 : Vec F S1024x4096 .bf16) (x1 : Vec F S1x512x4096 .f32) :
    out0_A_2 c i a2 h2 a3 h3 a4 h4 a5 h5 hc x0 x1 = k0_pay2 x0 (k0_pay1 x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz2, View.readCov_unit_zero (S := S512x4096) _ hz2]
  simp only [View.readAt_eq_ld, h2.read_unread, h3.read_unread, View.ld_unit_zero (S := S1024x4096) hz2, View.ld_unit_zero (S := S1x512x4096) hz3]

end

section
variable (m : (ℓ : Loc nD τ sig) → Buf (Elt Ideal) ℓ)

/-- The activations and the weights that the program is given. -/
abbrev hOf (c : Dev nD) : S8192x4096.Idx → EReal := m ((c : Thread nD τ).loc main_arg0)
abbrev wOf (c : Dev nD) : S4x4096x28736.Idx → EReal := m ((c : Thread nD τ).loc main_arg1)

/-- The rows of the activations that a point stages. -/
theorem iblk0_apply (c : Dev nD) (t : Fin cfg0.N) (y : S1024x4096.Idx) (r : Fin 8192) (k : Fin 4096)
    (hr : r.val = 1024 * (t.val % 8) + (y 0).val) (hk : k.val = (y 1).val) :
    (iblk m c 0 t : Vec Ideal S1024x4096 .bf16) y = hOf m c (ix2 r k) := by
  unfold iblk
  rw [View.read_apply]
  show V m c main_arg0 _ = _
  rw [V_main_arg0]
  congr 1
  have hi : win0_0.index t (0 : Fin 2) = t.val % 8 ∧ win0_0.index t (1 : Fin 2) = 0 :=
    (by decide +kernel : ∀ t : Fin grid0.N, win0_0.index t (0 : Fin 2) = t.val % 8 ∧ win0_0.index t (1 : Fin 2) = 0) t
  funext a
  apply Fin.ext
  match a with
  | ⟨0, _⟩ => show win0_0.index t 0 * 1024 + 1 * (y 0).val = r.val; rw [hi.1]; omega
  | ⟨1, _⟩ => show win0_0.index t 1 * 4096 + 1 * (y 1).val = k.val; rw [hi.2]; omega

/-- The transposed weights that the element window reads. -/
theorem V_main_v0_apply (c : Dev nD) (l : Fin 4) (n : Fin 28736) (k : Fin 4096) :
    (V m c main_v0 : FVec Ideal S4x28736x4096 .f32) (ix3 l n k) = wOf m c (ix3 l k n) := by
  show StableHlo.after hostOps0 (fun b => m (c, b)) main_v0 _ = _
  rw [show (hostOps0 : List (HloOp τ sig (Elt Ideal))) = [_] from rfl, StableHlo.after_cons, StableHlo.after_nil, StableHlo.unary_result]
  exact transpose_apply _ _ _ _ _ (fun b => by fin_cases b <;> rfl)

/-- The rows of the transposed weights that a point's element window holds. -/
theorem iblk1_apply (c : Dev nD) (t : Fin cfg0.N) (y : S1x512x4096.Idx) (n : Fin 28736) (k : Fin 4096)
    (hn : n.val = 14400 + 512 * (t.val / 8) + (y 1).val) (hk : k.val = (y 2).val) :
    (iblk m c 1 t : Vec Ideal S1x512x4096 .f32) y = wOf m c (ix3 (0 : Fin 4) k n) := by
  rw [← V_main_v0_apply m c]
  unfold iblk
  rw [View.read_apply]
  show V m c main_v0 _ = _
  congr 1
  have hi : cc0_transform_1 (grid0.coords t) (0 : Fin 3) = 0 ∧ cc0_transform_1 (grid0.coords t) (1 : Fin 3) = 14400 + 512 * (t.val / 8) ∧ cc0_transform_1 (grid0.coords t) (2 : Fin 3) = 0 :=
    (by decide +kernel : ∀ t : Fin grid0.N, cc0_transform_1 (grid0.coords t) (0 : Fin 3) = 0 ∧ cc0_transform_1 (grid0.coords t) (1 : Fin 3) = 14400 + 512 * (t.val / 8) ∧ cc0_transform_1 (grid0.coords t) (2 : Fin 3) = 0) t
  funext a
  apply Fin.ext
  match a with
  | ⟨0, _⟩ => show cc0_transform_1 (grid0.coords t) 0 + 1 * (y 0).val = 0; rw [hi.1]; have : (y 0).val < 1 := (y 0).isLt; omega
  | ⟨1, _⟩ => show cc0_transform_1 (grid0.coords t) 1 + 1 * (y 1).val = n.val; rw [hi.2.1]; omega
  | ⟨2, _⟩ => show cc0_transform_1 (grid0.coords t) 2 + 1 * (y 2).val = k.val; rw [hi.2.2]; omega

/-- A block of transposed weights, cast and laid out as a matrix, read at an index. -/
theorem pay1_apply (v : Vec Ideal S1x512x4096 .f32) (r : Fin 512) (k : Fin 4096) :
    (k0_pay1 v : FVec Ideal S512x4096 .bf16) (ix2 r k) = v (ix3 (0 : Fin 1) r k) := by
  unfold k0_pay1
  simp only [pointwise]

/-- `silu`. -/
def act (x : EReal) : EReal := x * Ideal.div 1 (1 + Ideal.exp (-x))

/-- The product and what is applied to it, read at an index. -/
theorem pay2_apply (x : Vec Ideal S1024x4096 .bf16) (w : Vec Ideal S512x4096 .bf16) (r : Fin 1024) (n : Fin 512) :
    (k0_pay2 x w : FVec Ideal S1024x512 .bf16) (ix2 r n) = act (∑ k : Fin 4096, (x (ix2 r k) * w (ix2 n k) : EReal)) := by
  unfold k0_pay2 act
  simp only [pointwise, zero_add]
  rfl

/-- The element window does not move within a column block's run. -/
theorem iblk1_eq (c : Dev nD) (t t' : Fin cfg0.N) (h : t'.val / 8 = t.val / 8) :
    (iblk m c 1 t' : Vec Ideal S1x512x4096 .f32) = iblk m c 1 t := by
  funext y
  have hy : (y 1).val < 512 := (y 1).isLt
  have hN : t.val < 32 := lt_of_lt_of_eq t.isLt N_0
  rw [iblk1_apply m c t y ⟨14400 + 512 * (t.val / 8) + (y 1).val, by omega⟩ (y 2) rfl rfl,
    iblk1_apply m c t' y ⟨14400 + 512 * (t.val / 8) + (y 1).val, by omega⟩ (y 2) (by rw [h]) rfl]

/-- What the scratch holds after a point that loads it. -/
theorem scratchA (c : Dev nD) (t : Fin cfg0.N) (h0 : t.val % 8 = 0) : (outsAt0 m c t.val t.isLt).2 = k0_pay1 (iblk m c 1 t) := by
  rw [outsAt0_A m c t h0]
  dsimp only
  rw [soutA]

/-- … and after any other point: what the point before left. -/
theorem scratchB (c : Dev nD) (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  unfold sout0_B_0
  rfl

/-- What the scratch holds after a point: the point's column block of the weights. -/
theorem scratch (c : Dev nD) : ∀ (n : ℕ) (h : n < cfg0.N), (outsAt0 m c n h).2 = k0_pay1 (iblk m c 1 ⟨n, h⟩)
  | 0, h => scratchA m c ⟨0, h⟩ (Nat.zero_mod _)
  | n + 1, h => by
    by_cases h0 : (n + 1) % 8 = 0
    · exact scratchA m c ⟨n + 1, h⟩ h0
    · have e1 := scratch c n (Nat.lt_of_succ_lt h)
      have hd : n / 8 = (n + 1) / 8 := by omega
      rw [iblk1_eq m c ⟨n + 1, h⟩ ⟨n, Nat.lt_of_succ_lt h⟩ hd] at e1
      exact (scratchB m c ⟨n + 1, h⟩ h0).trans e1

/-- What a point leaves in the output block. -/
theorem outs (c : Dev nD) (t : Fin cfg0.N) : (outsAt0 m c t.val t.isLt).1 = k0_pay2 (iblk m c 0 t) (k0_pay1 (iblk m c 1 t)) := by
  by_cases h0 : t.val % 8 = 0
  · rw [outsAt0_A m c t h0]
    dsimp only
    rw [outA]
  · rw [← scratch m c t.val t.isLt, scratchB m c t h0, outsAt0_B m c t h0]
    dsimp only
    rw [outB]

/-- The result array at row `r`, column `n`: the product of the row with the column's weights, and what is applied to it. -/
theorem G2_apply (c : Dev nD) (r : Fin 8192) (n : Fin 2048) (n0 : Fin 28736) (h0 : n0.val = 14400 + n.val) :
    (G2 m c : S8192x2048.Idx → EReal) (ix2 r n) = act (∑ k : Fin 4096, hOf m c (ix2 r k) * wOf m c (ix3 (0 : Fin 4) k n0)) := by
  have hr := r.isLt
  have hn := n.isLt
  have hlt : pt2Of (ix2 r n) < cfg0.N := lt_of_lt_of_eq (show _ < 32 by show 1 * (r.val / 1024 - 0) + 8 * (n.val / 512 - 0) < 32; omega) N_0.symm
  have hp : pt2Of (ix2 r n) = r.val / 1024 + 8 * (n.val / 512) := by show 1 * (r.val / 1024 - 0) + 8 * (n.val / 512 - 0) = _; omega
  unfold G2
  rw [dif_pos hlt, ← outsAt0_sweep m c _ hlt, outs m c ⟨_, hlt⟩,
    show loc2Of (ix2 r n) = ix2 (⟨r.val % 1024, Nat.mod_lt _ (by decide)⟩ : Fin 1024) (⟨n.val % 512, Nat.mod_lt _ (by decide)⟩ : Fin 512) from
      funext fun a => by match a with | ⟨0, _⟩ => rfl | ⟨1, _⟩ => rfl,
    pay2_apply]
  simp only [pay1_apply]
  have hk (k : Fin 4096) : (iblk m c 0 ⟨_, hlt⟩ : Vec Ideal S1024x4096 .bf16) (ix2 (⟨r.val % 1024, Nat.mod_lt _ (by decide)⟩ : Fin 1024) k) = hOf m c (ix2 r k) :=
    iblk0_apply m c _ _ _ _ (by show r.val = 1024 * (pt2Of (ix2 r n) % 8) + r.val % 1024; rw [hp]; omega) rfl
  have hw (k : Fin 4096) : (iblk m c 1 ⟨_, hlt⟩ : Vec Ideal S1x512x4096 .f32) (ix3 (0 : Fin 1) (⟨n.val % 512, Nat.mod_lt _ (by decide)⟩ : Fin 512) k)
      = wOf m c (ix3 (0 : Fin 4) k n0) :=
    iblk1_apply m c _ _ _ _ (by show n0.val = 14400 + 512 * (pt2Of (ix2 r n) / 8) + n.val % 512; rw [hp]; omega) rfl
  simp only [hk, hw]

/-- The result array as a function of its index. -/
theorem G2_eq (c : Dev nD) : (G2 m c : S8192x2048.Idx → EReal)
    = fun i => act (∑ k : Fin 4096, hOf m c (ix2 (i 0 : Fin 8192) k) * wOf m c (ix3 (0 : Fin 4) k ⟨14400 + (i 1 : Fin 2048).val, by have h : (i 1 : Fin 2048).val < 2048 := (i 1 : Fin 2048).isLt; omega⟩)) := by
  funext i
  have hi : i = ix2 (i 0 : Fin 8192) (i 1 : Fin 2048) := funext fun a => by match a with | ⟨0, _⟩ => rfl | ⟨1, _⟩ => rfl
  rw [hi]
  exact G2_apply m c _ _ _ rfl

end

end Cert.GlruIdeal.Hand

end
-- ==== Proof.GmValue.lean ====
/- The value of `GmIdeal`, the projection of the activations through columns 16448 to 28736 of the combined
   input weights and the logistic function of it: the two cases' stores read back as values, the scratch followed from point to point (a point
   that starts a column block stores the block's weights, cast, and the points after it keep them), and the result array
   read at an index. -/
module

public import proofs.«01_k».proof.Proof.Gen.GmIdeal.Value
public import Idealize.ShloMosaic.Lib.Tactic.ValueTie

@[expose] public section

noncomputable section

namespace Cert.GmIdeal.Hand

open Cert.GmIdeal Cert.GmIdeal.Gen Cert.GmIdeal.Value Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

section
variable {F : FTy → Type} [FloatOps F]

/-- At a point inside a column block the body leaves the product with the weights the scratch holds. -/
theorem outB (c : Dev nD) (i : grid0.Coords) (a2 : Memref sig .tc .vmem S1024x4096 .bf16) (h2 : a2.IsWhole) (a3 : Memref sig .tc .vmem S1x512x4096 .f32) (h3 : a3.IsWhole)
    (a4 : Memref sig .tc .vmem S1024x512 .bf16) (h4 : a4.IsWhole) (a5 : Memref sig .tc .vmem S512x4096 .bf16) (h5 : a5.IsWhole) (hc : ¬cond0_0 i)
    (x0 : Vec F S1024x4096 .bf16) (x1 : Vec F S1x512x4096 .f32) (xs0 : Vec F S512x4096 .bf16) :
    out0_B_2 c i a2 h2 a3 h3 a4 h4 a5 h5 hc x0 x1 xs0 = k0_pay2 x0 xs0 := by
  unfold out0_B_2
  rw [View.read_writes_eq_canon _ _ _ (cover0_B_2 c i a2 h2 a3 h3 a4 h4 a5 h5 hc x0 x1 xs0)]
  unfold kernelRun0_B
  dsimp only
  rw [View.canon_unit_zero hz2]
  simp only [View.readAt_eq_ld, h2.read_unread, h5.read_unread, View.ld_unit_zero (S := S1024x4096) hz2, View.ld_unit_zero (S := S512x4096) hz2]

/-- A point that starts a column block leaves the cast block in the scratch … -/
theorem soutA (c : Dev nD) (i : grid0.Coords) (a2 : Memref sig .tc .vmem S1024x4096 .bf16) (h2 : a2.IsWhole) (a3 : Memref sig .tc .vmem S1x512x4096 .f32) (h3 : a3.IsWhole)
    (a4 : Memref sig .tc .vmem S1024x512 .bf16) (h4 : a4.IsWhole) (a5 : Memref sig .tc .vmem S512x4096 .bf16) (h5 : a5.IsWhole) (hc : cond0_0 i)
    (x0 : Vec F S1024x4096 .bf16) (x1 : Vec F S1x512x4096 .f32) :
    sout0_A_0 c i a2 h2 a3 h3 a4 h4 a5 h5 hc x0 x1 = k0_pay1 x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero hz2]
  simp only [View.readAt_eq_ld, h3.read_unread, View.ld_unit_zero (S := S1x512x4096) hz3]

/-- … and the product with it in the output block. -/
theorem outA (c : Dev nD) (i : grid0.Coords) (a2 : Memref sig .tc .vmem S1024x4096 .bf16) (h2 : a2.IsWhole) (a3 : Memref sig .tc .vmem S1x512x4096 .f32) (h3 : a3.IsWhole)
    (a4 : Memref sig .tc .vmem S1024x512 .bf16) (h4 : a4.IsWhole) (a5 : Memref sig .tc .vmem S512x4096 .bf16) (h5 : a5.IsWhole) (hc : cond0_0 i)
    (x0 : Vec F S1024x4096 .bf16) (x1 : Vec F S1x512x4096 .f32) :
    out0_A_2 c i a2 h2 a3 h3 a4 h4 a5 h5 hc x0 x1 = k0_pay2 x0 (k0_pay1 x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz2, View.readCov_unit_zero (S := S512x4096) _ hz2]
  simp only [View.readAt_eq_ld, h2.read_unread, h3.read_unread, View.ld_unit_zero (S := S1024x4096) hz2, View.ld_unit_zero (S := S1x512x4096) hz3]

end

section
variable (m : (ℓ : Loc nD τ sig) → Buf (Elt Ideal) ℓ)

/-- The activations and the weights that the program is given. -/
abbrev hOf (c : Dev nD) : S8192x4096.Idx → EReal := m ((c : Thread nD τ).loc main_arg0)
abbrev wOf (c : Dev nD) : S4x4096x28736.Idx → EReal := m ((c : Thread nD τ).loc main_arg1)

/-- The rows of the activations that a point stages. -/
theorem iblk0_apply (c : Dev nD) (t : Fin cfg0.N) (y : S1024x4096.Idx) (r : Fin 8192) (k : Fin 4096)
    (hr : r.val = 1024 * (t.val % 8) + (y 0).val) (hk : k.val = (y 1).val) :
    (iblk m c 0 t : Vec Ideal S1024x4096 .bf16) y = hOf m c (ix2 r k) := by
  unfold iblk
  rw [View.read_apply]
  show V m c main_arg0 _ = _
  rw [V_main_arg0]
  congr 1
  have hi : win0_0.index t (0 : Fin 2) = t.val % 8 ∧ win0_0.index t (1 : Fin 2) = 0 :=
    (by decide +kernel : ∀ t : Fin grid0.N, win0_0.index t (0 : Fin 2) = t.val % 8 ∧ win0_0.index t (1 : Fin 2) = 0) t
  funext a
  apply Fin.ext
  match a with
  | ⟨0, _⟩ => show win0_0.index t 0 * 1024 + 1 * (y 0).val = r.val; rw [hi.1]; omega
  | ⟨1, _⟩ => show win0_0.index t 1 * 4096 + 1 * (y 1).val = k.val; rw [hi.2]; omega

/-- The transposed weights that the element window reads. -/
theorem V_main_v0_apply (c : Dev nD) (l : Fin 4) (n : Fin 28736) (k : Fin 4096) :
    (V m c main_v0 : FVec Ideal S4x28736x4096 .f32) (ix3 l n k) = wOf m c (ix3 l k n) := by
  show StableHlo.after hostOps0 (fun b => m (c, b)) main_v0 _ = _
  rw [show (hostOps0 : List (HloOp τ sig (Elt Ideal))) = [_] from rfl, StableHlo.after_cons, StableHlo.after_nil, StableHlo.unary_result]
  exact transpose_apply _ _ _ _ _ (fun b => by fin_cases b <;> rfl)

/-- The rows of the transposed weights that a point's element window holds. -/
theorem iblk1_apply (c : Dev nD) (t : Fin cfg0.N) (y : S1x512x4096.Idx) (n : Fin 28736) (k : Fin 4096)
    (hn : n.val = 16448 + 512 * (t.val / 8) + (y 1).val) (hk : k.val = (y 2).val) :
    (iblk m c 1 t : Vec Ideal S1x512x4096 .f32) y = wOf m c (ix3 (0 : Fin 4) k n) := by
  rw [← V_main_v0_apply m c]
  unfold iblk
  rw [View.read_apply]
  show V m c main_v0 _ = _
  congr 1
  have hi : cc0_transform_1 (grid0.coords t) (0 : Fin 3) = 0 ∧ cc0_transform_1 (grid0.coords t) (1 : Fin 3) = 16448 + 512 * (t.val / 8) ∧ cc0_transform_1 (grid0.coords t) (2 : Fin 3) = 0 :=
    (by decide +kernel : ∀ t : Fin grid0.N, cc0_transform_1 (grid0.coords t) (0 : Fin 3) = 0 ∧ cc0_transform_1 (grid0.coords t) (1 : Fin 3) = 16448 + 512 * (t.val / 8) ∧ cc0_transform_1 (grid0.coords t) (2 : Fin 3) = 0) t
  funext a
  apply Fin.ext
  match a with
  | ⟨0, _⟩ => show cc0_transform_1 (grid0.coords t) 0 + 1 * (y 0).val = 0; rw [hi.1]; have : (y 0).val < 1 := (y 0).isLt; omega
  | ⟨1, _⟩ => show cc0_transform_1 (grid0.coords t) 1 + 1 * (y 1).val = n.val; rw [hi.2.1]; omega
  | ⟨2, _⟩ => show cc0_transform_1 (grid0.coords t) 2 + 1 * (y 2).val = k.val; rw [hi.2.2]; omega

/-- A block of transposed weights, cast and laid out as a matrix, read at an index. -/
theorem pay1_apply (v : Vec Ideal S1x512x4096 .f32) (r : Fin 512) (k : Fin 4096) :
    (k0_pay1 v : FVec Ideal S512x4096 .bf16) (ix2 r k) = v (ix3 (0 : Fin 1) r k) := by
  unfold k0_pay1
  simp only [pointwise]

/-- The logistic function. -/
def act (x : EReal) : EReal := Ideal.div 1 (1 + Ideal.exp (-x))

/-- The product and what is applied to it, read at an index. -/
theorem pay2_apply (x : Vec Ideal S1024x4096 .bf16) (w : Vec Ideal S512x4096 .bf16) (r : Fin 1024) (n : Fin 512) :
    (k0_pay2 x w : FVec Ideal S1024x512 .bf16) (ix2 r n) = act (∑ k : Fin 4096, (x (ix2 r k) * w (ix2 n k) : EReal)) := by
  unfold k0_pay2 act
  simp only [pointwise, zero_add]
  rfl

/-- The element window does not move within a column block's run. -/
theorem iblk1_eq (c : Dev nD) (t t' : Fin cfg0.N) (h : t'.val / 8 = t.val / 8) :
    (iblk m c 1 t' : Vec Ideal S1x512x4096 .f32) = iblk m c 1 t := by
  funext y
  have hy : (y 1).val < 512 := (y 1).isLt
  have hN : t.val < 192 := lt_of_lt_of_eq t.isLt N_0
  rw [iblk1_apply m c t y ⟨16448 + 512 * (t.val / 8) + (y 1).val, by omega⟩ (y 2) rfl rfl,
    iblk1_apply m c t' y ⟨16448 + 512 * (t.val / 8) + (y 1).val, by omega⟩ (y 2) (by rw [h]) rfl]

/-- What the scratch holds after a point that loads it. -/
theorem scratchA (c : Dev nD) (t : Fin cfg0.N) (h0 : t.val % 8 = 0) : (outsAt0 m c t.val t.isLt).2 = k0_pay1 (iblk m c 1 t) := by
  rw [outsAt0_A m c t h0]
  dsimp only
  rw [soutA]

/-- … and after any other point: what the point before left. -/
theorem scratchB (c : Dev nD) (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  unfold sout0_B_0
  rfl

/-- What the scratch holds after a point: the point's column block of the weights. -/
theorem scratch (c : Dev nD) : ∀ (n : ℕ) (h : n < cfg0.N), (outsAt0 m c n h).2 = k0_pay1 (iblk m c 1 ⟨n, h⟩)
  | 0, h => scratchA m c ⟨0, h⟩ (Nat.zero_mod _)
  | n + 1, h => by
    by_cases h0 : (n + 1) % 8 = 0
    · exact scratchA m c ⟨n + 1, h⟩ h0
    · have e1 := scratch c n (Nat.lt_of_succ_lt h)
      have hd : n / 8 = (n + 1) / 8 := by omega
      rw [iblk1_eq m c ⟨n + 1, h⟩ ⟨n, Nat.lt_of_succ_lt h⟩ hd] at e1
      exact (scratchB m c ⟨n + 1, h⟩ h0).trans e1

/-- What a point leaves in the output block. -/
theorem outs (c : Dev nD) (t : Fin cfg0.N) : (outsAt0 m c t.val t.isLt).1 = k0_pay2 (iblk m c 0 t) (k0_pay1 (iblk m c 1 t)) := by
  by_cases h0 : t.val % 8 = 0
  · rw [outsAt0_A m c t h0]
    dsimp only
    rw [outA]
  · rw [← scratch m c t.val t.isLt, scratchB m c t h0, outsAt0_B m c t h0]
    dsimp only
    rw [outB]

/-- The result array at row `r`, column `n`: the product of the row with the column's weights, and what is applied to it. -/
theorem G2_apply (c : Dev nD) (r : Fin 8192) (n : Fin 12288) (n0 : Fin 28736) (h0 : n0.val = 16448 + n.val) :
    (G2 m c : S8192x12288.Idx → EReal) (ix2 r n) = act (∑ k : Fin 4096, hOf m c (ix2 r k) * wOf m c (ix3 (0 : Fin 4) k n0)) := by
  have hr := r.isLt
  have hn := n.isLt
  have hlt : pt2Of (ix2 r n) < cfg0.N := lt_of_lt_of_eq (show _ < 192 by show 1 * (r.val / 1024 - 0) + 8 * (n.val / 512 - 0) < 192; omega) N_0.symm
  have hp : pt2Of (ix2 r n) = r.val / 1024 + 8 * (n.val / 512) := by show 1 * (r.val / 1024 - 0) + 8 * (n.val / 512 - 0) = _; omega
  unfold G2
  rw [dif_pos hlt, ← outsAt0_sweep m c _ hlt, outs m c ⟨_, hlt⟩,
    show loc2Of (ix2 r n) = ix2 (⟨r.val % 1024, Nat.mod_lt _ (by decide)⟩ : Fin 1024) (⟨n.val % 512, Nat.mod_lt _ (by decide)⟩ : Fin 512) from
      funext fun a => by match a with | ⟨0, _⟩ => rfl | ⟨1, _⟩ => rfl,
    pay2_apply]
  simp only [pay1_apply]
  have hk (k : Fin 4096) : (iblk m c 0 ⟨_, hlt⟩ : Vec Ideal S1024x4096 .bf16) (ix2 (⟨r.val % 1024, Nat.mod_lt _ (by decide)⟩ : Fin 1024) k) = hOf m c (ix2 r k) :=
    iblk0_apply m c _ _ _ _ (by show r.val = 1024 * (pt2Of (ix2 r n) % 8) + r.val % 1024; rw [hp]; omega) rfl
  have hw (k : Fin 4096) : (iblk m c 1 ⟨_, hlt⟩ : Vec Ideal S1x512x4096 .f32) (ix3 (0 : Fin 1) (⟨n.val % 512, Nat.mod_lt _ (by decide)⟩ : Fin 512) k)
      = wOf m c (ix3 (0 : Fin 4) k n0) :=
    iblk1_apply m c _ _ _ _ (by show n0.val = 16448 + 512 * (pt2Of (ix2 r n) / 8) + n.val % 512; rw [hp]; omega) rfl
  simp only [hk, hw]

/-- The result array as a function of its index. -/
theorem G2_eq (c : Dev nD) : (G2 m c : S8192x12288.Idx → EReal)
    = fun i => act (∑ k : Fin 4096, hOf m c (ix2 (i 0 : Fin 8192) k) * wOf m c (ix3 (0 : Fin 4) k ⟨16448 + (i 1 : Fin 12288).val, by have h : (i 1 : Fin 12288).val < 12288 := (i 1 : Fin 12288).isLt; omega⟩)) := by
  funext i
  have hi : i = ix2 (i 0 : Fin 8192) (i 1 : Fin 12288) := funext fun a => by match a with | ⟨0, _⟩ => rfl | ⟨1, _⟩ => rfl
  rw [hi]
  exact G2_apply m c _ _ _ rfl

end

end Cert.GmIdeal.Hand

end
-- ==== Proof.MergeValue.lean ====
/- The value of `MergeIdeal`, the three branches' products summed under their gates: the blocks a point loads, what it stores,
   and the result array read at an index. -/
module

public import proofs.«01_k».proof.Proof.Gen.MergeIdeal.Value
public import Idealize.ShloMosaic.Lib.Tactic.ValueTie

@[expose] public section

noncomputable section

namespace Cert.MergeIdeal.Hand

open Cert.MergeIdeal Cert.MergeIdeal.Gen Cert.MergeIdeal.Value Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

/-- A point's store is the payload of the blocks it loads. -/
theorem out9_eq {F : FTy → Type} [FloatOps F] (x0 : Vec F S512x2048 .bf16) (x1 : Vec F S512x4096 .bf16) (x2 : Vec F S512x2048 .bf16) (x3 : Vec F S2048x512 .bf16) (x4 : Vec F S4096x512 .bf16) (x5 : Vec F S2048x512 .bf16) (x6 : Vec F S512x512 .bf16) (x7 : Vec F S512x512 .bf16) (x8 : Vec F S512x512 .bf16) :
    out0_9 x0 x1 x2 x3 x4 x5 x6 x7 x8 = k0_pay1 x0 x3 x1 x4 x2 x5 x6 x7 x8 := by
  unfold out0_9
  rw [View.canon_unit_zero hz2]
  simp only [View.ld_unit_zero (S := S512x2048) hz2, View.ld_unit_zero (S := S512x4096) hz2, View.ld_unit_zero (S := S2048x512) hz2,
    View.ld_unit_zero (S := S4096x512) hz2, View.ld_unit_zero (S := S512x512) hz2]

section
variable (m : (ℓ : Loc nD τ sig) → Buf (Elt Ideal) ℓ)

/-- The three branches, the gates and the three weights that the program is given. -/
abbrev yaOf (c : Dev nD) : S8192x2048.Idx → EReal := m ((c : Thread nD τ).loc main_arg0)
abbrev ybOf (c : Dev nD) : S8192x4096.Idx → EReal := m ((c : Thread nD τ).loc main_arg1)
abbrev ycOf (c : Dev nD) : S8192x2048.Idx → EReal := m ((c : Thread nD τ).loc main_arg2)
abbrev gOf (c : Dev nD) : S8192x12288.Idx → EReal := m ((c : Thread nD τ).loc main_arg3)
abbrev waOf (c : Dev nD) : S4x2048x4096.Idx → EReal := m ((c : Thread nD τ).loc main_arg4)
abbrev wbOf (c : Dev nD) : S4x4096x4096.Idx → EReal := m ((c : Thread nD τ).loc main_arg5)
abbrev wcOf (c : Dev nD) : S4x2048x4096.Idx → EReal := m ((c : Thread nD τ).loc main_arg6)

/-- The rows of the first branch that a point stages. -/
theorem iblk0_apply (c : Dev nD) (t : Fin cfg0.N) (y : S512x2048.Idx) (i0 : Fin 8192) (i1 : Fin 2048) (h0 : i0.val = 512 * (t.val / 8) + (y 0).val) (h1 : i1.val = 0 + (y 1).val) :
    (iblk m c 0 t : Vec Ideal S512x2048 .bf16) y = yaOf m c (ix2 i0 i1) := by
  unfold iblk
  rw [View.read_apply]
  show V m c main_arg0 _ = _
  rw [V_main_arg0]
  congr 1
  have hi : win0_0.index t (0 : Fin 2) = t.val / 8 ∧ win0_0.index t (1 : Fin 2) = 0 :=
    (by decide +kernel : ∀ t : Fin grid0.N, win0_0.index t (0 : Fin 2) = t.val / 8 ∧ win0_0.index t (1 : Fin 2) = 0) t
  funext a
  apply Fin.ext
  match a with
  | ⟨0, _⟩ => show win0_0.index t 0 * 512 + 1 * (y 0).val = i0.val; rw [hi.1]; omega
  | ⟨1, _⟩ => show win0_0.index t 1 * 2048 + 1 * (y 1).val = i1.val; rw [hi.2]; omega

/-- The rows of the second branch. -/
theorem iblk1_apply (c : Dev nD) (t : Fin cfg0.N) (y : S512x4096.Idx) (i0 : Fin 8192) (i1 : Fin 4096) (h0 : i0.val = 512 * (t.val / 8) + (y 0).val) (h1 : i1.val = 0 + (y 1).val) :
    (iblk m c 1 t : Vec Ideal S512x4096 .bf16) y = ybOf m c (ix2 i0 i1) := by
  unfold iblk
  rw [View.read_apply]
  show V m c main_arg1 _ = _
  rw [V_main_arg1]
  congr 1
  have hi : win0_1.index t (0 : Fin 2) = t.val / 8 ∧ win0_1.index t (1 : Fin 2) = 0 :=
    (by decide +kernel : ∀ t : Fin grid0.N, win0_1.index t (0 : Fin 2) = t.val / 8 ∧ win0_1.index t (1 : Fin 2) = 0) t
  funext a
  apply Fin.ext
  match a with
  | ⟨0, _⟩ => show win0_1.index t 0 * 512 + 1 * (y 0).val = i0.val; rw [hi.1]; omega
  | ⟨1, _⟩ => show win0_1.index t 1 * 4096 + 1 * (y 1).val = i1.val; rw [hi.2]; omega

/-- The rows of the third branch. -/
theorem iblk2_apply (c : Dev nD) (t : Fin cfg0.N) (y : S512x2048.Idx) (i0 : Fin 8192) (i1 : Fin 2048) (h0 : i0.val = 512 * (t.val / 8) + (y 0).val) (h1 : i1.val = 0 + (y 1).val) :
    (iblk m c 2 t : Vec Ideal S512x2048 .bf16) y = ycOf m c (ix2 i0 i1) := by
  unfold iblk
  rw [View.read_apply]
  show V m c main_arg2 _ = _
  rw [V_main_arg2]
  congr 1
  have hi : win0_2.index t (0 : Fin 2) = t.val / 8 ∧ win0_2.index t (1 : Fin 2) = 0 :=
    (by decide +kernel : ∀ t : Fin grid0.N, win0_2.index t (0 : Fin 2) = t.val / 8 ∧ win0_2.index t (1 : Fin 2) = 0) t
  funext a
  apply Fin.ext
  match a with
  | ⟨0, _⟩ => show win0_2.index t 0 * 512 + 1 * (y 0).val = i0.val; rw [hi.1]; omega
  | ⟨1, _⟩ => show win0_2.index t 1 * 2048 + 1 * (y 1).val = i1.val; rw [hi.2]; omega

/-- The columns of the first branch's weights. -/
theorem iblk3_apply (c : Dev nD) (t : Fin cfg0.N) (y : S2048x512.Idx) (i0 : Fin 2048) (i1 : Fin 4096) (h0 : i0.val = 0 + (y 0).val) (h1 : i1.val = 512 * (t.val % 8) + (y 1).val) :
    (iblk m c 3 t : Vec Ideal S2048x512 .bf16) y = (V m c main_v2 : Vec Ideal S2048x4096 .bf16) (ix2 i0 i1) := by
  unfold iblk
  rw [View.read_apply]
  show V m c main_v2 _ = _
  congr 1
  have hi : win0_3.index t (0 : Fin 2) = 0 ∧ win0_3.index t (1 : Fin 2) = t.val % 8 :=
    (by decide +kernel : ∀ t : Fin grid0.N, win0_3.index t (0 : Fin 2) = 0 ∧ win0_3.index t (1 : Fin 2) = t.val % 8) t
  funext a
  apply Fin.ext
  match a with
  | ⟨0, _⟩ => show win0_3.index t 0 * 2048 + 1 * (y 0).val = i0.val; rw [hi.1]; omega
  | ⟨1, _⟩ => show win0_3.index t 1 * 512 + 1 * (y 1).val = i1.val; rw [hi.2]; omega

/-- The columns of the second branch's weights. -/
theorem iblk4_apply (c : Dev nD) (t : Fin cfg0.N) (y : S4096x512.Idx) (i0 : Fin 4096) (i1 : Fin 4096) (h0 : i0.val = 0 + (y 0).val) (h1 : i1.val = 512 * (t.val % 8) + (y 1).val) :
    (iblk m c 4 t : Vec Ideal S4096x512 .bf16) y = (V m c main_v5 : Vec Ideal S4096x4096 .bf16) (ix2 i0 i1) := by
  unfold iblk
  rw [View.read_apply]
  show V m c main_v5 _ = _
  congr 1
  have hi : win0_4.index t (0 : Fin 2) = 0 ∧ win0_4.index t (1 : Fin 2) = t.val % 8 :=
    (by decide +kernel : ∀ t : Fin grid0.N, win0_4.index t (0 : Fin 2) = 0 ∧ win0_4.index t (1 : Fin 2) = t.val % 8) t
  funext a
  apply Fin.ext
  match a with
  | ⟨0, _⟩ => show win0_4.index t 0 * 4096 + 1 * (y 0).val = i0.val; rw [hi.1]; omega
  | ⟨1, _⟩ => show win0_4.index t 1 * 512 + 1 * (y 1).val = i1.val; rw [hi.2]; omega

/-- The columns of the third branch's weights. -/
theorem iblk5_apply (c : Dev nD) (t : Fin cfg0.N) (y : S2048x512.Idx) (i0 : Fin 2048) (i1 : Fin 4096) (h0 : i0.val = 0 + (y 0).val) (h1 : i1.val = 512 * (t.val % 8) + (y 1).val) :
    (iblk m c 5 t : Vec Ideal S2048x512 .bf16) y = (V m c main_v8 : Vec Ideal S2048x4096 .bf16) (ix2 i0 i1) := by
  unfold iblk
  rw [View.read_apply]
  show V m c main_v8 _ = _
  congr 1
  have hi : win0_5.index t (0 : Fin 2) = 0 ∧ win0_5.index t (1 : Fin 2) = t.val % 8 :=
    (by decide +kernel : ∀ t : Fin grid0.N, win0_5.index t (0 : Fin 2) = 0 ∧ win0_5.index t (1 : Fin 2) = t.val % 8) t
  funext a
  apply Fin.ext
  match a with
  | ⟨0, _⟩ => show win0_5.index t 0 * 2048 + 1 * (y 0).val = i0.val; rw [hi.1]; omega
  | ⟨1, _⟩ => show win0_5.index t 1 * 512 + 1 * (y 1).val = i1.val; rw [hi.2]; omega

/-- The first branch's gates. -/
theorem iblk6_apply (c : Dev nD) (t : Fin cfg0.N) (y : S512x512.Idx) (i0 : Fin 8192) (i1 : Fin 12288) (h0 : i0.val = 512 * (t.val / 8) + (y 0).val) (h1 : i1.val = 512 * (t.val % 8) + (y 1).val) :
    (iblk m c 6 t : Vec Ideal S512x512 .bf16) y = gOf m c (ix2 i0 i1) := by
  unfold iblk
  rw [View.read_apply]
  show V m c main_arg3 _ = _
  rw [V_main_arg3]
  congr 1
  have hi : win0_6.index t (0 : Fin 2) = t.val / 8 ∧ win0_6.index t (1 : Fin 2) = t.val % 8 :=
    (by decide +kernel : ∀ t : Fin grid0.N, win0_6.index t (0 : Fin 2) = t.val / 8 ∧ win0_6.index t (1 : Fin 2) = t.val % 8) t
  funext a
  apply Fin.ext
  match a with
  | ⟨0, _⟩ => show win0_6.index t 0 * 512 + 1 * (y 0).val = i0.val; rw [hi.1]; omega
  | ⟨1, _⟩ => show win0_6.index t 1 * 512 + 1 * (y 1).val = i1.val; rw [hi.2]; omega

/-- The second branch's gates. -/
theorem iblk7_apply (c : Dev nD) (t : Fin cfg0.N) (y : S512x512.Idx) (i0 : Fin 8192) (i1 : Fin 12288) (h0 : i0.val = 512 * (t.val / 8) + (y 0).val) (h1 : i1.val = 512 * (t.val % 8 + 8) + (y 1).val) :
    (iblk m c 7 t : Vec Ideal S512x512 .bf16) y = gOf m c (ix2 i0 i1) := by
  unfold iblk
  rw [View.read_apply]
  show V m c main_arg3 _ = _
  rw [V_main_arg3]
  congr 1
  have hi : win0_7.index t (0 : Fin 2) = t.val / 8 ∧ win0_7.index t (1 : Fin 2) = t.val % 8 + 8 :=
    (by decide +kernel : ∀ t : Fin grid0.N, win0_7.index t (0 : Fin 2) = t.val / 8 ∧ win0_7.index t (1 : Fin 2) = t.val % 8 + 8) t
  funext a
  apply Fin.ext
  match a with
  | ⟨0, _⟩ => show win0_7.index t 0 * 512 + 1 * (y 0).val = i0.val; rw [hi.1]; omega
  | ⟨1, _⟩ => show win0_7.index t 1 * 512 + 1 * (y 1).val = i1.val; rw [hi.2]; omega

/-- The third branch's gates. -/
theorem iblk8_apply (c : Dev nD) (t : Fin cfg0.N) (y : S512x512.Idx) (i0 : Fin 8192) (i1 : Fin 12288) (h0 : i0.val = 512 * (t.val / 8) + (y 0).val) (h1 : i1.val = 512 * (t.val % 8 + 16) + (y 1).val) :
    (iblk m c 8 t : Vec Ideal S512x512 .bf16) y = gOf m c (ix2 i0 i1) := by
  unfold iblk
  rw [View.read_apply]
  show V m c main_arg3 _ = _
  rw [V_main_arg3]
  congr 1
  have hi : win0_8.index t (0 : Fin 2) = t.val / 8 ∧ win0_8.index t (1 : Fin 2) = t.val % 8 + 16 :=
    (by decide +kernel : ∀ t : Fin grid0.N, win0_8.index t (0 : Fin 2) = t.val / 8 ∧ win0_8.index t (1 : Fin 2) = t.val % 8 + 16) t
  funext a
  apply Fin.ext
  match a with
  | ⟨0, _⟩ => show win0_8.index t 0 * 512 + 1 * (y 0).val = i0.val; rw [hi.1]; omega
  | ⟨1, _⟩ => show win0_8.index t 1 * 512 + 1 * (y 1).val = i1.val; rw [hi.2]; omega

/-- One layer's weights, sliced out of the stack and cast. -/
theorem V_main_v2_apply (c : Dev nD) (k : Fin 2048) (n : Fin 4096) :
    (V m c main_v2 : Vec Ideal S2048x4096 .bf16) (ix2 k n) = waOf m c (ix3 (0 : Fin 4) k n) := by
  show StableHlo.after hostOps0 (fun b => m (c, b)) main_v2 _ = _
  after_results
  simp only [pointwise, zero_add, Fin.isValue, Matrix.cons_val]

/-- One layer's weights, sliced out of the stack and cast. -/
theorem V_main_v5_apply (c : Dev nD) (k : Fin 4096) (n : Fin 4096) :
    (V m c main_v5 : Vec Ideal S4096x4096 .bf16) (ix2 k n) = wbOf m c (ix3 (0 : Fin 4) k n) := by
  show StableHlo.after hostOps0 (fun b => m (c, b)) main_v5 _ = _
  after_results
  simp only [pointwise, zero_add, Fin.isValue, Matrix.cons_val]

/-- One layer's weights, sliced out of the stack and cast. -/
theorem V_main_v8_apply (c : Dev nD) (k : Fin 2048) (n : Fin 4096) :
    (V m c main_v8 : Vec Ideal S2048x4096 .bf16) (ix2 k n) = wcOf m c (ix3 (0 : Fin 4) k n) := by
  show StableHlo.after hostOps0 (fun b => m (c, b)) main_v8 _ = _
  after_results
  simp only [pointwise, zero_add, Fin.isValue, Matrix.cons_val]

/-- The gated sum of the three products, read at an index. -/
theorem pay_apply (x0 : Vec Ideal S512x2048 .bf16) (x3 : Vec Ideal S2048x512 .bf16) (x1 : Vec Ideal S512x4096 .bf16) (x4 : Vec Ideal S4096x512 .bf16)
    (x2 : Vec Ideal S512x2048 .bf16) (x5 : Vec Ideal S2048x512 .bf16) (x6 x7 x8 : Vec Ideal S512x512 .bf16) (r : Fin 512) (n : Fin 512) :
    (k0_pay1 x0 x3 x1 x4 x2 x5 x6 x7 x8 : FVec Ideal S512x512 .bf16) (ix2 r n)
      = ((x6 (ix2 r n) * ∑ k : Fin 2048, (x0 (ix2 r k) * x3 (ix2 k n) : EReal)) + (x7 (ix2 r n) * ∑ k : Fin 4096, (x1 (ix2 r k) * x4 (ix2 k n) : EReal))
          + (x8 (ix2 r n) * ∑ k : Fin 2048, (x2 (ix2 r k) * x5 (ix2 k n) : EReal)) : EReal) := by
  unfold k0_pay1
  simp only [pointwise, zero_add]
  try rfl

/-- The result array at a row and a column. -/
theorem arr9_apply (c : Dev nD) (i0 : Fin 8192) (i1 : Fin 4096) :
    ((dats m 0 c).arrAt 9 cfg0.N : S8192x4096.Idx → EReal) (ix2 i0 i1) = (gOf m c (ix2 i0 (⟨i1.val, by omega⟩ : Fin 12288)) * ∑ k : Fin 2048, yaOf m c (ix2 i0 k) * waOf m c (ix3 (0 : Fin 4) k i1))
      + (gOf m c (ix2 i0 (⟨4096 + i1.val, by omega⟩ : Fin 12288)) * ∑ k : Fin 4096, ybOf m c (ix2 i0 k) * wbOf m c (ix3 (0 : Fin 4) k i1))
      + (gOf m c (ix2 i0 (⟨8192 + i1.val, by omega⟩ : Fin 12288)) * ∑ k : Fin 2048, ycOf m c (ix2 i0 k) * wcOf m c (ix3 (0 : Fin 4) k i1)) := by
  have l0 := i0.isLt
  have l1 := i1.isLt
  have hlt : 8 * (i0.val / 512) + i1.val / 512 < cfg0.N := lt_of_lt_of_eq (show _ < 128 by omega) N_0.symm
  obtain ⟨t, ht⟩ : ∃ t : Fin cfg0.N, t.val = 8 * (i0.val / 512) + i1.val / 512 := ⟨⟨_, hlt⟩, rfl⟩
  have e := congrFun (blocks9 m c t (flush0_9 t)) (ix2 (⟨i0.val % 512, Nat.mod_lt _ (by decide)⟩ : Fin 512) (⟨i1.val % 512, Nat.mod_lt _ (by decide)⟩ : Fin 512))
  rw [View.read_apply, flushed9] at e
  have hi : win0_9.index t (0 : Fin 2) = t.val / 8 ∧ win0_9.index t (1 : Fin 2) = t.val % 8 :=
    (by decide +kernel : ∀ t : Fin grid0.N, win0_9.index t (0 : Fin 2) = t.val / 8 ∧ win0_9.index t (1 : Fin 2) = t.val % 8) t
  have hemb : ((cfg0.win 9).blk t).view.emb (ix2 (⟨i0.val % 512, Nat.mod_lt _ (by decide)⟩ : Fin 512) (⟨i1.val % 512, Nat.mod_lt _ (by decide)⟩ : Fin 512)) = ix2 i0 i1 := by
    funext a
    apply Fin.ext
    match a with
    | ⟨0, _⟩ => show win0_9.index t 0 * 512 + 1 * (i0.val % 512) = i0.val; rw [hi.1]; omega
    | ⟨1, _⟩ => show win0_9.index t 1 * 512 + 1 * (i1.val % 512) = i1.val; rw [hi.2]; omega
  rw [hemb] at e
  refine e.trans ?_
  show (out0_9 (iblk m c 0 t) (iblk m c 1 t) (iblk m c 2 t) (iblk m c 3 t) (iblk m c 4 t) (iblk m c 5 t) (iblk m c 6 t) (iblk m c 7 t) (iblk m c 8 t) : FVec Ideal S512x512 .bf16) (ix2 (⟨i0.val % 512, Nat.mod_lt _ (by decide)⟩ : Fin 512) (⟨i1.val % 512, Nat.mod_lt _ (by decide)⟩ : Fin 512)) = _
  rw [out9_eq, pay_apply]
  have e0 (k : Fin 2048) := iblk0_apply m c t (ix2 (⟨i0.val % 512, Nat.mod_lt _ (by decide)⟩ : Fin 512) k) i0 k (by show i0.val = 512 * (t.val / 8) + i0.val % 512; omega) (by show k.val = 0 + k.val; omega)
  have e1 (k : Fin 4096) := iblk1_apply m c t (ix2 (⟨i0.val % 512, Nat.mod_lt _ (by decide)⟩ : Fin 512) k) i0 k (by show i0.val = 512 * (t.val / 8) + i0.val % 512; omega) (by show k.val = 0 + k.val; omega)
  have e2 (k : Fin 2048) := iblk2_apply m c t (ix2 (⟨i0.val % 512, Nat.mod_lt _ (by decide)⟩ : Fin 512) k) i0 k (by show i0.val = 512 * (t.val / 8) + i0.val % 512; omega) (by show k.val = 0 + k.val; omega)
  have e3 (k : Fin 2048) := (iblk3_apply m c t (ix2 k (⟨i1.val % 512, Nat.mod_lt _ (by decide)⟩ : Fin 512)) k i1 (by show k.val = 0 + k.val; omega) (by show i1.val = 512 * (t.val % 8) + i1.val % 512; omega)).trans (V_main_v2_apply m c k i1)
  have e4 (k : Fin 4096) := (iblk4_apply m c t (ix2 k (⟨i1.val % 512, Nat.mod_lt _ (by decide)⟩ : Fin 512)) k i1 (by show k.val = 0 + k.val; omega) (by show i1.val = 512 * (t.val % 8) + i1.val % 512; omega)).trans (V_main_v5_apply m c k i1)
  have e5 (k : Fin 2048) := (iblk5_apply m c t (ix2 k (⟨i1.val % 512, Nat.mod_lt _ (by decide)⟩ : Fin 512)) k i1 (by show k.val = 0 + k.val; omega) (by show i1.val = 512 * (t.val % 8) + i1.val % 512; omega)).trans (V_main_v8_apply m c k i1)
  have e6 := iblk6_apply m c t (ix2 (⟨i0.val % 512, Nat.mod_lt _ (by decide)⟩ : Fin 512) (⟨i1.val % 512, Nat.mod_lt _ (by decide)⟩ : Fin 512)) i0 (⟨i1.val, by omega⟩ : Fin 12288) (by show i0.val = 512 * (t.val / 8) + i0.val % 512; omega) (by show i1.val = 512 * (t.val % 8) + i1.val % 512; omega)
  have e7 := iblk7_apply m c t (ix2 (⟨i0.val % 512, Nat.mod_lt _ (by decide)⟩ : Fin 512) (⟨i1.val % 512, Nat.mod_lt _ (by decide)⟩ : Fin 512)) i0 (⟨4096 + i1.val, by omega⟩ : Fin 12288) (by show i0.val = 512 * (t.val / 8) + i0.val % 512; omega) (by show 4096 + i1.val = 512 * (t.val % 8 + 8) + i1.val % 512; omega)
  have e8 := iblk8_apply m c t (ix2 (⟨i0.val % 512, Nat.mod_lt _ (by decide)⟩ : Fin 512) (⟨i1.val % 512, Nat.mod_lt _ (by decide)⟩ : Fin 512)) i0 (⟨8192 + i1.val, by omega⟩ : Fin 12288) (by show i0.val = 512 * (t.val / 8) + i0.val % 512; omega) (by show 8192 + i1.val = 512 * (t.val % 8 + 16) + i1.val % 512; omega)
  simp only [e0, e1, e2, e3, e4, e5, e6, e7, e8]

/-- The result array as a function of its index. -/
theorem arr9_eq (c : Dev nD) : ((dats m 0 c).arrAt 9 cfg0.N : S8192x4096.Idx → EReal)
    = fun i => (gOf m c (ix2 (i 0 : Fin 8192) (⟨(i 1 : Fin 4096).val, by have h : (i 1 : Fin 4096).val < 4096 := (i 1 : Fin 4096).isLt; omega⟩ : Fin 12288)) * ∑ k : Fin 2048, yaOf m c (ix2 (i 0 : Fin 8192) k) * waOf m c (ix3 (0 : Fin 4) k (i 1 : Fin 4096)))
      + (gOf m c (ix2 (i 0 : Fin 8192) (⟨4096 + (i 1 : Fin 4096).val, by have h : (i 1 : Fin 4096).val < 4096 := (i 1 : Fin 4096).isLt; omega⟩ : Fin 12288)) * ∑ k : Fin 4096, ybOf m c (ix2 (i 0 : Fin 8192) k) * wbOf m c (ix3 (0 : Fin 4) k (i 1 : Fin 4096)))
      + (gOf m c (ix2 (i 0 : Fin 8192) (⟨8192 + (i 1 : Fin 4096).val, by have h : (i 1 : Fin 4096).val < 4096 := (i 1 : Fin 4096).isLt; omega⟩ : Fin 12288)) * ∑ k : Fin 2048, ycOf m c (ix2 (i 0 : Fin 8192) k) * wcOf m c (ix3 (0 : Fin 4) k (i 1 : Fin 4096))) := by
  funext i
  have hi : i = ix2 (i 0 : Fin 8192) (i 1 : Fin 4096) := funext fun a => by match a with | ⟨0, _⟩ => rfl | ⟨1, _⟩ => rfl
  rw [hi]
  exact arr9_apply m c _ _

end

end Cert.MergeIdeal.Hand

end
-- ==== Proof.OutValue.lean ====
/- The value of `OutIdeal`, the projection of the merged branches through the output weights: the two cases' stores read back as values, the scratch followed from point to point (a point
   that starts a column block stores the block's weights, cast, and the points after it keep them), and the result array
   read at an index. -/
module

public import proofs.«01_k».proof.Proof.Gen.OutIdeal.Value
public import Idealize.ShloMosaic.Lib.Tactic.ValueTie

@[expose] public section

noncomputable section

namespace Cert.OutIdeal.Hand

open Cert.OutIdeal Cert.OutIdeal.Gen Cert.OutIdeal.Value Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

section
variable {F : FTy → Type} [FloatOps F]

/-- At a point inside a column block the body leaves the product with the weights the scratch holds. -/
theorem outB (c : Dev nD) (i : grid0.Coords) (a2 : Memref sig .tc .vmem S1024x4096 .bf16) (h2 : a2.IsWhole) (a3 : Memref sig .tc .vmem S1x4096x512 .f32) (h3 : a3.IsWhole)
    (a4 : Memref sig .tc .vmem S1024x512 .f32) (h4 : a4.IsWhole) (a5 : Memref sig .tc .vmem S4096x512 .bf16) (h5 : a5.IsWhole) (hc : ¬cond0_0 i)
    (x0 : Vec F S1024x4096 .bf16) (x1 : Vec F S1x4096x512 .f32) (xs0 : Vec F S4096x512 .bf16) :
    out0_B_2 c i a2 h2 a3 h3 a4 h4 a5 h5 hc x0 x1 xs0 = k0_pay2 x0 xs0 := by
  unfold out0_B_2
  rw [View.read_writes_eq_canon _ _ _ (cover0_B_2 c i a2 h2 a3 h3 a4 h4 a5 h5 hc x0 x1 xs0)]
  unfold kernelRun0_B
  dsimp only
  rw [View.canon_unit_zero hz2]
  simp only [View.readAt_eq_ld, h2.read_unread, h5.read_unread, View.ld_unit_zero (S := S1024x4096) hz2, View.ld_unit_zero (S := S4096x512) hz2]

/-- A point that starts a column block leaves the cast block in the scratch … -/
theorem soutA (c : Dev nD) (i : grid0.Coords) (a2 : Memref sig .tc .vmem S1024x4096 .bf16) (h2 : a2.IsWhole) (a3 : Memref sig .tc .vmem S1x4096x512 .f32) (h3 : a3.IsWhole)
    (a4 : Memref sig .tc .vmem S1024x512 .f32) (h4 : a4.IsWhole) (a5 : Memref sig .tc .vmem S4096x512 .bf16) (h5 : a5.IsWhole) (hc : cond0_0 i)
    (x0 : Vec F S1024x4096 .bf16) (x1 : Vec F S1x4096x512 .f32) :
    sout0_A_0 c i a2 h2 a3 h3 a4 h4 a5 h5 hc x0 x1 = k0_pay1 x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero hz2]
  simp only [View.readAt_eq_ld, h3.read_unread, View.ld_unit_zero (S := S1x4096x512) hz3]

/-- … and the product with it in the output block. -/
theorem outA (c : Dev nD) (i : grid0.Coords) (a2 : Memref sig .tc .vmem S1024x4096 .bf16) (h2 : a2.IsWhole) (a3 : Memref sig .tc .vmem S1x4096x512 .f32) (h3 : a3.IsWhole)
    (a4 : Memref sig .tc .vmem S1024x512 .f32) (h4 : a4.IsWhole) (a5 : Memref sig .tc .vmem S4096x512 .bf16) (h5 : a5.IsWhole) (hc : cond0_0 i)
    (x0 : Vec F S1024x4096 .bf16) (x1 : Vec F S1x4096x512 .f32) :
    out0_A_2 c i a2 h2 a3 h3 a4 h4 a5 h5 hc x0 x1 = k0_pay2 x0 (k0_pay1 x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz2, View.readCov_unit_zero (S := S4096x512) _ hz2]
  simp only [View.readAt_eq_ld, h2.read_unread, h3.read_unread, View.ld_unit_zero (S := S1024x4096) hz2, View.ld_unit_zero (S := S1x4096x512) hz3]

end

section
variable (m : (ℓ : Loc nD τ sig) → Buf (Elt Ideal) ℓ)

/-- The merged branches and the weights that the program is given. -/
abbrev hOf (c : Dev nD) : S8192x4096.Idx → EReal := m ((c : Thread nD τ).loc main_arg0)
abbrev wOf (c : Dev nD) : S4x4096x4096.Idx → EReal := m ((c : Thread nD τ).loc main_arg1)

/-- The rows of the merged branches that a point stages. -/
theorem iblk0_apply (c : Dev nD) (t : Fin cfg0.N) (y : S1024x4096.Idx) (r : Fin 8192) (k : Fin 4096)
    (hr : r.val = 1024 * (t.val % 8) + (y 0).val) (hk : k.val = (y 1).val) :
    (iblk m c 0 t : Vec Ideal S1024x4096 .bf16) y = hOf m c (ix2 r k) := by
  unfold iblk
  rw [View.read_apply]
  show V m c main_arg0 _ = _
  rw [V_main_arg0]
  congr 1
  have hi : win0_0.index t (0 : Fin 2) = t.val % 8 ∧ win0_0.index t (1 : Fin 2) = 0 :=
    (by decide +kernel : ∀ t : Fin grid0.N, win0_0.index t (0 : Fin 2) = t.val % 8 ∧ win0_0.index t (1 : Fin 2) = 0) t
  funext a
  apply Fin.ext
  match a with
  | ⟨0, _⟩ => show win0_0.index t 0 * 1024 + 1 * (y 0).val = r.val; rw [hi.1]; omega
  | ⟨1, _⟩ => show win0_0.index t 1 * 4096 + 1 * (y 1).val = k.val; rw [hi.2]; omega

/-- The columns of the weights that a point stages. -/
theorem iblk1_apply (c : Dev nD) (t : Fin cfg0.N) (y : S1x4096x512.Idx) (n : Fin 4096) (k : Fin 4096)
    (hn : n.val = 512 * (t.val / 8) + (y 2).val) (hk : k.val = (y 1).val) :
    (iblk m c 1 t : Vec Ideal S1x4096x512 .f32) y = wOf m c (ix3 (0 : Fin 4) k n) := by
  unfold iblk
  rw [View.read_apply]
  show V m c main_arg1 _ = _
  rw [V_main_arg1]
  congr 1
  have hi : win0_1.index t (0 : Fin 3) = 0 ∧ win0_1.index t (1 : Fin 3) = 0 ∧ win0_1.index t (2 : Fin 3) = t.val / 8 :=
    (by decide +kernel : ∀ t : Fin grid0.N, win0_1.index t (0 : Fin 3) = 0 ∧ win0_1.index t (1 : Fin 3) = 0 ∧ win0_1.index t (2 : Fin 3) = t.val / 8) t
  funext a
  apply Fin.ext
  match a with
  | ⟨0, _⟩ => show win0_1.index t 0 * 1 + 1 * (y 0).val = 0; rw [hi.1]; have : (y 0).val < 1 := (y 0).isLt; omega
  | ⟨1, _⟩ => show win0_1.index t 1 * 4096 + 1 * (y 1).val = k.val; rw [hi.2.1]; omega
  | ⟨2, _⟩ => show win0_1.index t 2 * 512 + 1 * (y 2).val = n.val; rw [hi.2.2]; omega

/-- A block of weights, cast and laid out as a matrix, read at an index. -/
theorem pay1_apply (v : Vec Ideal S1x4096x512 .f32) (k : Fin 4096) (n : Fin 512) :
    (k0_pay1 v : FVec Ideal S4096x512 .bf16) (ix2 k n) = v (ix3 (0 : Fin 1) k n) := by
  unfold k0_pay1
  simp only [pointwise]

/-- The product, read at an index. -/
theorem pay2_apply (x : Vec Ideal S1024x4096 .bf16) (w : Vec Ideal S4096x512 .bf16) (r : Fin 1024) (n : Fin 512) :
    (k0_pay2 x w : FVec Ideal S1024x512 .f32) (ix2 r n) = ∑ k : Fin 4096, (x (ix2 r k) * w (ix2 k n) : EReal) := by
  unfold k0_pay2
  simp only [pointwise, zero_add]

/-- The weights' window does not move within a column block's run. -/
theorem iblk1_eq (c : Dev nD) (t t' : Fin cfg0.N) (h : t'.val / 8 = t.val / 8) :
    (iblk m c 1 t' : Vec Ideal S1x4096x512 .f32) = iblk m c 1 t := by
  funext y
  have hy : (y 2).val < 512 := (y 2).isLt
  have hN : t.val < 64 := lt_of_lt_of_eq t.isLt N_0
  rw [iblk1_apply m c t y ⟨512 * (t.val / 8) + (y 2).val, by omega⟩ (y 1) rfl rfl,
    iblk1_apply m c t' y ⟨512 * (t.val / 8) + (y 2).val, by omega⟩ (y 1) (by rw [h]) rfl]

/-- What the scratch holds after a point that loads it. -/
theorem scratchA (c : Dev nD) (t : Fin cfg0.N) (h0 : t.val % 8 = 0) : (outsAt0 m c t.val t.isLt).2 = k0_pay1 (iblk m c 1 t) := by
  rw [outsAt0_A m c t h0]
  dsimp only
  rw [soutA]

/-- … and after any other point: what the point before left. -/
theorem scratchB (c : Dev nD) (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  unfold sout0_B_0
  rfl

/-- What the scratch holds after a point: the point's column block of the weights. -/
theorem scratch (c : Dev nD) : ∀ (n : ℕ) (h : n < cfg0.N), (outsAt0 m c n h).2 = k0_pay1 (iblk m c 1 ⟨n, h⟩)
  | 0, h => scratchA m c ⟨0, h⟩ (Nat.zero_mod _)
  | n + 1, h => by
    by_cases h0 : (n + 1) % 8 = 0
    · exact scratchA m c ⟨n + 1, h⟩ h0
    · have e1 := scratch c n (Nat.lt_of_succ_lt h)
      have hd : n / 8 = (n + 1) / 8 := by omega
      rw [iblk1_eq m c ⟨n + 1, h⟩ ⟨n, Nat.lt_of_succ_lt h⟩ hd] at e1
      exact (scratchB m c ⟨n + 1, h⟩ h0).trans e1

/-- What a point leaves in the output block. -/
theorem outs (c : Dev nD) (t : Fin cfg0.N) : (outsAt0 m c t.val t.isLt).1 = k0_pay2 (iblk m c 0 t) (k0_pay1 (iblk m c 1 t)) := by
  by_cases h0 : t.val % 8 = 0
  · rw [outsAt0_A m c t h0]
    dsimp only
    rw [outA]
  · rw [← scratch m c t.val t.isLt, scratchB m c t h0, outsAt0_B m c t h0]
    dsimp only
    rw [outB]

/-- The result array at row `r`, column `n`: the product of the row with the column's weights. -/
theorem G2_apply (c : Dev nD) (r : Fin 8192) (n : Fin 4096) :
    (G2 m c : S8192x4096.Idx → EReal) (ix2 r n) = ∑ k : Fin 4096, hOf m c (ix2 r k) * wOf m c (ix3 (0 : Fin 4) k n) := by
  have hr := r.isLt
  have hn := n.isLt
  have hlt : pt2Of (ix2 r n) < cfg0.N := lt_of_lt_of_eq (show _ < 64 by show 1 * (r.val / 1024 - 0) + 8 * (n.val / 512 - 0) < 64; omega) N_0.symm
  have hp : pt2Of (ix2 r n) = r.val / 1024 + 8 * (n.val / 512) := by show 1 * (r.val / 1024 - 0) + 8 * (n.val / 512 - 0) = _; omega
  unfold G2
  rw [dif_pos hlt, ← outsAt0_sweep m c _ hlt, outs m c ⟨_, hlt⟩,
    show loc2Of (ix2 r n) = ix2 (⟨r.val % 1024, Nat.mod_lt _ (by decide)⟩ : Fin 1024) (⟨n.val % 512, Nat.mod_lt _ (by decide)⟩ : Fin 512) from
      funext fun a => by match a with | ⟨0, _⟩ => rfl | ⟨1, _⟩ => rfl,
    pay2_apply]
  simp only [pay1_apply]
  have hk (k : Fin 4096) : (iblk m c 0 ⟨_, hlt⟩ : Vec Ideal S1024x4096 .bf16) (ix2 (⟨r.val % 1024, Nat.mod_lt _ (by decide)⟩ : Fin 1024) k) = hOf m c (ix2 r k) :=
    iblk0_apply m c _ _ _ _ (by show r.val = 1024 * (pt2Of (ix2 r n) % 8) + r.val % 1024; rw [hp]; omega) rfl
  have hw (k : Fin 4096) : (iblk m c 1 ⟨_, hlt⟩ : Vec Ideal S1x4096x512 .f32) (ix3 (0 : Fin 1) k (⟨n.val % 512, Nat.mod_lt _ (by decide)⟩ : Fin 512))
      = wOf m c (ix3 (0 : Fin 4) k n) :=
    iblk1_apply m c _ _ _ _ (by show n.val = 512 * (pt2Of (ix2 r n) / 8) + n.val % 512; rw [hp]; omega) rfl
  simp only [hk, hw]

/-- The result array as a function of its index. -/
theorem G2_eq (c : Dev nD) : (G2 m c : S8192x4096.Idx → EReal)
    = fun i => ∑ k : Fin 4096, hOf m c (ix2 (i 0 : Fin 8192) k) * wOf m c (ix3 (0 : Fin 4) k (i 1 : Fin 4096)) := by
  funext i
  have hi : i = ix2 (i 0 : Fin 8192) (i 1 : Fin 4096) := funext fun a => by match a with | ⟨0, _⟩ => rfl | ⟨1, _⟩ => rfl
  rw [hi]
  exact G2_apply m c _ _

end

end Cert.OutIdeal.Hand

end
-- ==== Proof.PostValue.lean ====
/- The value of `PostIdeal`, the residual sum and the norm after it: the blocks a point loads, what it stores, and the result
   arrays read at an index. -/
module

public import proofs.«01_k».proof.Proof.Gen.PostIdeal.Value
public import Idealize.ShloMosaic.Lib.Tactic.ValueTie

@[expose] public section

noncomputable section

namespace Cert.PostIdeal.Hand

open Cert.PostIdeal Cert.PostIdeal.Gen Cert.PostIdeal.Value Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

/-- A point's stores are the payloads of the blocks it loads. -/
theorem out4_eq {F : FTy → Type} [FloatOps F] (x0 x1 : Vec F S256x4096 .f32) (x2 x3 : Vec F S1x4096 .f32) : out0_4 x0 x1 x2 x3 = k0_pay1 x0 x1 x2 := by
  unfold out0_4
  rw [View.canon_unit_zero hz2]
  simp only [View.ld_unit_zero (S := S256x4096) hz2, View.ld_unit_zero (S := S1x4096) hz2]

theorem out5_eq {F : FTy → Type} [FloatOps F] (x0 x1 : Vec F S256x4096 .f32) (x2 x3 : Vec F S1x4096 .f32) : out0_5 x0 x1 x2 x3 = k0_pay2 x0 x1 x2 x3 := by
  unfold out0_5
  rw [View.canon_unit_zero hz2]
  simp only [View.ld_unit_zero (S := S256x4096) hz2, View.ld_unit_zero (S := S1x4096) hz2]

/-- A row divided by its root mean square and multiplied by a gain, at a column. -/
def rms (x g : Fin 4096 → EReal) (n : Fin 4096) : EReal :=
  x n * Ideal.rsqrt (Ideal.div (∑ k : Fin 4096, x k * x k) (Scalar.ofBits .f32 0x45800000#32 : Ideal .f32) + (Scalar.ofBits .f32 0x358637BD#32 : Ideal .f32)) * g n

/-- The residual sum, read at an index. -/
theorem pay1_apply (x0 x1 : Vec Ideal S256x4096 .f32) (x2 : Vec Ideal S1x4096 .f32) (r : Fin 256) (n : Fin 4096) :
    (k0_pay1 x0 x1 x2 : FVec Ideal S256x4096 .f32) (ix2 r n)
      = (x0 (ix2 r n) + rms (fun k => x1 (ix2 r k)) (fun k => x2 (ix2 (0 : Fin 1) k)) n : EReal) := by
  unfold k0_pay1 rms
  simp only [pointwise, zero_add]
  rfl

/-- The norm of the residual sum, read at an index. -/
theorem pay2_apply (x0 x1 : Vec Ideal S256x4096 .f32) (x2 x3 : Vec Ideal S1x4096 .f32) (r : Fin 256) (n : Fin 4096) :
    (k0_pay2 x0 x1 x2 x3 : FVec Ideal S256x4096 .bf16) (ix2 r n)
      = rms (fun k => (k0_pay1 x0 x1 x2 : FVec Ideal S256x4096 .f32) (ix2 r k)) (fun k => x3 (ix2 (0 : Fin 1) k)) n := by
  unfold k0_pay2 rms
  simp only [pointwise, zero_add]
  rfl

section
variable (m : (ℓ : Loc nD τ sig) → Buf (Elt Ideal) ℓ)

/-- The residual stream, the layer's output and the two stacks of gains that the program is given. -/
abbrev xOf (c : Dev nD) : S8192x4096.Idx → EReal := m ((c : Thread nD τ).loc main_arg0)
abbrev oOf (c : Dev nD) : S8192x4096.Idx → EReal := m ((c : Thread nD τ).loc main_arg1)
abbrev gOf (c : Dev nD) : S4x4096.Idx → EReal := m ((c : Thread nD τ).loc main_arg2)
abbrev hOf (c : Dev nD) : S4x4096.Idx → EReal := m ((c : Thread nD τ).loc main_arg3)

/-- The rows of the residual stream that a point stages. -/
theorem iblk0_apply (c : Dev nD) (t : Fin cfg0.N) (y : S256x4096.Idx) (i0 : Fin 8192) (i1 : Fin 4096) (h0 : i0.val = 256 * (t.val) + (y 0).val) (h1 : i1.val = 0 + (y 1).val) :
    (iblk m c 0 t : Vec Ideal S256x4096 .f32) y = xOf m c (ix2 i0 i1) := by
  unfold iblk
  rw [View.read_apply]
  show V m c main_arg0 _ = _
  rw [V_main_arg0]
  congr 1
  have hi : win0_0.index t (0 : Fin 2) = t.val ∧ win0_0.index t (1 : Fin 2) = 0 :=
    (by decide +kernel : ∀ t : Fin grid0.N, win0_0.index t (0 : Fin 2) = t.val ∧ win0_0.index t (1 : Fin 2) = 0) t
  funext a
  apply Fin.ext
  match a with
  | ⟨0, _⟩ => show win0_0.index t 0 * 256 + 1 * (y 0).val = i0.val; rw [hi.1]; omega
  | ⟨1, _⟩ => show win0_0.index t 1 * 4096 + 1 * (y 1).val = i1.val; rw [hi.2]; omega

/-- The rows of the layer's output. -/
theorem iblk1_apply (c : Dev nD) (t : Fin cfg0.N) (y : S256x4096.Idx) (i0 : Fin 8192) (i1 : Fin 4096) (h0 : i0.val = 256 * (t.val) + (y 0).val) (h1 : i1.val = 0 + (y 1).val) :
    (iblk m c 1 t : Vec Ideal S256x4096 .f32) y = oOf m c (ix2 i0 i1) := by
  unfold iblk
  rw [View.read_apply]
  show V m c main_arg1 _ = _
  rw [V_main_arg1]
  congr 1
  have hi : win0_1.index t (0 : Fin 2) = t.val ∧ win0_1.index t (1 : Fin 2) = 0 :=
    (by decide +kernel : ∀ t : Fin grid0.N, win0_1.index t (0 : Fin 2) = t.val ∧ win0_1.index t (1 : Fin 2) = 0) t
  funext a
  apply Fin.ext
  match a with
  | ⟨0, _⟩ => show win0_1.index t 0 * 256 + 1 * (y 0).val = i0.val; rw [hi.1]; omega
  | ⟨1, _⟩ => show win0_1.index t 1 * 4096 + 1 * (y 1).val = i1.val; rw [hi.2]; omega

/-- The gains after the layer. -/
theorem iblk2_apply (c : Dev nD) (t : Fin cfg0.N) (y : S1x4096.Idx) (i0 : Fin 1) (i1 : Fin 4096) (h0 : i0.val = 0 + (y 0).val) (h1 : i1.val = 0 + (y 1).val) :
    (iblk m c 2 t : Vec Ideal S1x4096 .f32) y = (V m c main_v4 : Vec Ideal S1x4096 .f32) (ix2 i0 i1) := by
  unfold iblk
  rw [View.read_apply]
  show V m c main_v4 _ = _
  congr 1
  have hi : win0_2.index t (0 : Fin 2) = 0 ∧ win0_2.index t (1 : Fin 2) = 0 :=
    (by decide +kernel : ∀ t : Fin grid0.N, win0_2.index t (0 : Fin 2) = 0 ∧ win0_2.index t (1 : Fin 2) = 0) t
  funext a
  apply Fin.ext
  match a with
  | ⟨0, _⟩ => show win0_2.index t 0 * 1 + 1 * (y 0).val = i0.val; rw [hi.1]; omega
  | ⟨1, _⟩ => show win0_2.index t 1 * 4096 + 1 * (y 1).val = i1.val; rw [hi.2]; omega

/-- The gains before the next layer. -/
theorem iblk3_apply (c : Dev nD) (t : Fin cfg0.N) (y : S1x4096.Idx) (i0 : Fin 1) (i1 : Fin 4096) (h0 : i0.val = 0 + (y 0).val) (h1 : i1.val = 0 + (y 1).val) :
    (iblk m c 3 t : Vec Ideal S1x4096 .f32) y = (V m c main_v5 : Vec Ideal S1x4096 .f32) (ix2 i0 i1) := by
  unfold iblk
  rw [View.read_apply]
  show V m c main_v5 _ = _
  congr 1
  have hi : win0_3.index t (0 : Fin 2) = 0 ∧ win0_3.index t (1 : Fin 2) = 0 :=
    (by decide +kernel : ∀ t : Fin grid0.N, win0_3.index t (0 : Fin 2) = 0 ∧ win0_3.index t (1 : Fin 2) = 0) t
  funext a
  apply Fin.ext
  match a with
  | ⟨0, _⟩ => show win0_3.index t 0 * 1 + 1 * (y 0).val = i0.val; rw [hi.1]; omega
  | ⟨1, _⟩ => show win0_3.index t 1 * 4096 + 1 * (y 1).val = i1.val; rw [hi.2]; omega

/-- One layer's gains, sliced out of the stack. -/
theorem V_main_v4_apply (c : Dev nD) (z : Fin 1) (n : Fin 4096) :
    (V m c main_v4 : Vec Ideal S1x4096 .f32) (ix2 z n) = gOf m c (ix2 (0 : Fin 4) n) := by
  show StableHlo.after hostOps0 (fun b => m (c, b)) main_v4 _ = _
  after_results
  simp only [pointwise, zero_add, Fin.isValue, Matrix.cons_val]

/-- One layer's gains, sliced out of the stack. -/
theorem V_main_v5_apply (c : Dev nD) (z : Fin 1) (n : Fin 4096) :
    (V m c main_v5 : Vec Ideal S1x4096 .f32) (ix2 z n) = hOf m c (ix2 (1 : Fin 4) n) := by
  show StableHlo.after hostOps0 (fun b => m (c, b)) main_v5 _ = _
  after_results
  simp only [pointwise, zero_add, Fin.isValue, Matrix.cons_val]

/-- The residual sum at a row and a column. -/
theorem arr4_apply (c : Dev nD) (i0 : Fin 8192) (i1 : Fin 4096) :
    ((dats m 0 c).arrAt 4 cfg0.N : S8192x4096.Idx → EReal) (ix2 i0 i1) = xOf m c (ix2 i0 i1) + rms (fun k => oOf m c (ix2 i0 k)) (fun k => gOf m c (ix2 (0 : Fin 4) k)) i1 := by
  have l0 := i0.isLt
  have l1 := i1.isLt
  have hlt : i0.val / 256 < cfg0.N := lt_of_lt_of_eq (show _ < 32 by omega) N_0.symm
  obtain ⟨t, ht⟩ : ∃ t : Fin cfg0.N, t.val = i0.val / 256 := ⟨⟨_, hlt⟩, rfl⟩
  have e := congrFun (blocks4 m c t (flush0_4 t)) (ix2 (⟨i0.val % 256, Nat.mod_lt _ (by decide)⟩ : Fin 256) i1)
  rw [View.read_apply, flushed4] at e
  have hi : win0_4.index t (0 : Fin 2) = t.val ∧ win0_4.index t (1 : Fin 2) = 0 :=
    (by decide +kernel : ∀ t : Fin grid0.N, win0_4.index t (0 : Fin 2) = t.val ∧ win0_4.index t (1 : Fin 2) = 0) t
  have hemb : ((cfg0.win 4).blk t).view.emb (ix2 (⟨i0.val % 256, Nat.mod_lt _ (by decide)⟩ : Fin 256) i1) = ix2 i0 i1 := by
    funext a
    apply Fin.ext
    match a with
    | ⟨0, _⟩ => show win0_4.index t 0 * 256 + 1 * (i0.val % 256) = i0.val; rw [hi.1]; omega
    | ⟨1, _⟩ => show win0_4.index t 1 * 4096 + 1 * (i1.val) = i1.val; rw [hi.2]; omega
  rw [hemb] at e
  refine e.trans ?_
  show (out0_4 (iblk m c 0 t) (iblk m c 1 t) (iblk m c 2 t) (iblk m c 3 t) : FVec Ideal S256x4096 .f32) (ix2 (⟨i0.val % 256, Nat.mod_lt _ (by decide)⟩ : Fin 256) i1) = _
  rw [out4_eq, pay1_apply]
  have e0 (k : Fin 4096) := iblk0_apply m c t (ix2 (⟨i0.val % 256, Nat.mod_lt _ (by decide)⟩ : Fin 256) k) i0 k (by show i0.val = 256 * (t.val) + i0.val % 256; omega) (by show k.val = 0 + k.val; omega)
  have e1 (k : Fin 4096) := iblk1_apply m c t (ix2 (⟨i0.val % 256, Nat.mod_lt _ (by decide)⟩ : Fin 256) k) i0 k (by show i0.val = 256 * (t.val) + i0.val % 256; omega) (by show k.val = 0 + k.val; omega)
  have e2 (k : Fin 4096) := (iblk2_apply m c t (ix2 (0 : Fin 1) k) (0 : Fin 1) k rfl (by show k.val = 0 + k.val; omega)).trans (V_main_v4_apply m c 0 k)
  simp only [e0, e1, e2]

/-- The residual sum as a function of its index. -/
theorem arr4_eq (c : Dev nD) : ((dats m 0 c).arrAt 4 cfg0.N : S8192x4096.Idx → EReal)
    = fun i => xOf m c (ix2 (i 0 : Fin 8192) (i 1 : Fin 4096)) + rms (fun k => oOf m c (ix2 (i 0 : Fin 8192) k)) (fun k => gOf m c (ix2 (0 : Fin 4) k)) (i 1 : Fin 4096) := by
  funext i
  have hi : i = ix2 (i 0 : Fin 8192) (i 1 : Fin 4096) := funext fun a => by match a with | ⟨0, _⟩ => rfl | ⟨1, _⟩ => rfl
  rw [hi]
  exact arr4_apply m c _ _

/-- The next layer's activations at a row and a column. -/
theorem arr5_apply (c : Dev nD) (i0 : Fin 8192) (i1 : Fin 4096) :
    ((dats m 0 c).arrAt 5 cfg0.N : S8192x4096.Idx → EReal) (ix2 i0 i1) = rms (fun j => xOf m c (ix2 i0 j) + rms (fun k => oOf m c (ix2 i0 k)) (fun k => gOf m c (ix2 (0 : Fin 4) k)) j) (fun k => hOf m c (ix2 (1 : Fin 4) k)) i1 := by
  have l0 := i0.isLt
  have l1 := i1.isLt
  have hlt : i0.val / 256 < cfg0.N := lt_of_lt_of_eq (show _ < 32 by omega) N_0.symm
  obtain ⟨t, ht⟩ : ∃ t : Fin cfg0.N, t.val = i0.val / 256 := ⟨⟨_, hlt⟩, rfl⟩
  have e := congrFun (blocks5 m c t (flush0_5 t)) (ix2 (⟨i0.val % 256, Nat.mod_lt _ (by decide)⟩ : Fin 256) i1)
  rw [View.read_apply, flushed5] at e
  have hi : win0_5.index t (0 : Fin 2) = t.val ∧ win0_5.index t (1 : Fin 2) = 0 :=
    (by decide +kernel : ∀ t : Fin grid0.N, win0_5.index t (0 : Fin 2) = t.val ∧ win0_5.index t (1 : Fin 2) = 0) t
  have hemb : ((cfg0.win 5).blk t).view.emb (ix2 (⟨i0.val % 256, Nat.mod_lt _ (by decide)⟩ : Fin 256) i1) = ix2 i0 i1 := by
    funext a
    apply Fin.ext
    match a with
    | ⟨0, _⟩ => show win0_5.index t 0 * 256 + 1 * (i0.val % 256) = i0.val; rw [hi.1]; omega
    | ⟨1, _⟩ => show win0_5.index t 1 * 4096 + 1 * (i1.val) = i1.val; rw [hi.2]; omega
  rw [hemb] at e
  refine e.trans ?_
  show (out0_5 (iblk m c 0 t) (iblk m c 1 t) (iblk m c 2 t) (iblk m c 3 t) : FVec Ideal S256x4096 .bf16) (ix2 (⟨i0.val % 256, Nat.mod_lt _ (by decide)⟩ : Fin 256) i1) = _
  rw [out5_eq, pay2_apply]
  have e0 (k : Fin 4096) := iblk0_apply m c t (ix2 (⟨i0.val % 256, Nat.mod_lt _ (by decide)⟩ : Fin 256) k) i0 k (by show i0.val = 256 * (t.val) + i0.val % 256; omega) (by show k.val = 0 + k.val; omega)
  have e1 (k : Fin 4096) := iblk1_apply m c t (ix2 (⟨i0.val % 256, Nat.mod_lt _ (by decide)⟩ : Fin 256) k) i0 k (by show i0.val = 256 * (t.val) + i0.val % 256; omega) (by show k.val = 0 + k.val; omega)
  have e2 (k : Fin 4096) := (iblk2_apply m c t (ix2 (0 : Fin 1) k) (0 : Fin 1) k rfl (by show k.val = 0 + k.val; omega)).trans (V_main_v4_apply m c 0 k)
  have e3 (k : Fin 4096) := (iblk3_apply m c t (ix2 (0 : Fin 1) k) (0 : Fin 1) k rfl (by show k.val = 0 + k.val; omega)).trans (V_main_v5_apply m c 0 k)
  simp only [pay1_apply, e0, e1, e2, e3]

/-- The next layer's activations as a function of its index. -/
theorem arr5_eq (c : Dev nD) : ((dats m 0 c).arrAt 5 cfg0.N : S8192x4096.Idx → EReal)
    = fun i => rms (fun j => xOf m c (ix2 (i 0 : Fin 8192) j) + rms (fun k => oOf m c (ix2 (i 0 : Fin 8192) k)) (fun k => gOf m c (ix2 (0 : Fin 4) k)) j) (fun k => hOf m c (ix2 (1 : Fin 4) k)) (i 1 : Fin 4096) := by
  funext i
  have hi : i = ix2 (i 0 : Fin 8192) (i 1 : Fin 4096) := funext fun a => by match a with | ⟨0, _⟩ => rfl | ⟨1, _⟩ => rfl
  rw [hi]
  exact arr5_apply m c _ _

end

end Cert.PostIdeal.Hand

end
-- ==== Proof.LastValue.lean ====
/- The value of `LastIdeal`, the residual sum and the norm after it: the blocks a point loads, what it stores, and the result
   array read at an index. -/
module

public import proofs.«01_k».proof.Proof.Gen.LastIdeal.Value
public import Idealize.ShloMosaic.Lib.Tactic.ValueTie

@[expose] public section

noncomputable section

namespace Cert.LastIdeal.Hand

open Cert.LastIdeal Cert.LastIdeal.Gen Cert.LastIdeal.Value Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

/-- A point's stores are the payloads of the blocks it loads. -/
theorem out4_eq {F : FTy → Type} [FloatOps F] (x0 x1 : Vec F S256x4096 .f32) (x2 x3 : Vec F S1x4096 .f32) : out0_4 x0 x1 x2 x3 = k0_pay1 x0 x1 x2 := by
  unfold out0_4
  rw [View.canon_unit_zero hz2]
  simp only [View.ld_unit_zero (S := S256x4096) hz2, View.ld_unit_zero (S := S1x4096) hz2]

/-- A row divided by its root mean square and multiplied by a gain, at a column. -/
def rms (x g : Fin 4096 → EReal) (n : Fin 4096) : EReal :=
  x n * Ideal.rsqrt (Ideal.div (∑ k : Fin 4096, x k * x k) (Scalar.ofBits .f32 0x45800000#32 : Ideal .f32) + (Scalar.ofBits .f32 0x358637BD#32 : Ideal .f32)) * g n

/-- The residual sum, read at an index. -/
theorem pay1_apply (x0 x1 : Vec Ideal S256x4096 .f32) (x2 : Vec Ideal S1x4096 .f32) (r : Fin 256) (n : Fin 4096) :
    (k0_pay1 x0 x1 x2 : FVec Ideal S256x4096 .f32) (ix2 r n)
      = (x0 (ix2 r n) + rms (fun k => x1 (ix2 r k)) (fun k => x2 (ix2 (0 : Fin 1) k)) n : EReal) := by
  unfold k0_pay1 rms
  simp only [pointwise, zero_add]
  rfl

section
variable (m : (ℓ : Loc nD τ sig) → Buf (Elt Ideal) ℓ)

/-- The residual stream, the layer's output and the two stacks of gains that the program is given. -/
abbrev xOf (c : Dev nD) : S8192x4096.Idx → EReal := m ((c : Thread nD τ).loc main_arg0)
abbrev oOf (c : Dev nD) : S8192x4096.Idx → EReal := m ((c : Thread nD τ).loc main_arg1)
abbrev gOf (c : Dev nD) : S4x4096.Idx → EReal := m ((c : Thread nD τ).loc main_arg2)
abbrev hOf (c : Dev nD) : S4x4096.Idx → EReal := m ((c : Thread nD τ).loc main_arg3)

/-- The rows of the residual stream that a point stages. -/
theorem iblk0_apply (c : Dev nD) (t : Fin cfg0.N) (y : S256x4096.Idx) (i0 : Fin 8192) (i1 : Fin 4096) (h0 : i0.val = 256 * (t.val) + (y 0).val) (h1 : i1.val = 0 + (y 1).val) :
    (iblk m c 0 t : Vec Ideal S256x4096 .f32) y = xOf m c (ix2 i0 i1) := by
  unfold iblk
  rw [View.read_apply]
  show V m c main_arg0 _ = _
  rw [V_main_arg0]
  congr 1
  have hi : win0_0.index t (0 : Fin 2) = t.val ∧ win0_0.index t (1 : Fin 2) = 0 :=
    (by decide +kernel : ∀ t : Fin grid0.N, win0_0.index t (0 : Fin 2) = t.val ∧ win0_0.index t (1 : Fin 2) = 0) t
  funext a
  apply Fin.ext
  match a with
  | ⟨0, _⟩ => show win0_0.index t 0 * 256 + 1 * (y 0).val = i0.val; rw [hi.1]; omega
  | ⟨1, _⟩ => show win0_0.index t 1 * 4096 + 1 * (y 1).val = i1.val; rw [hi.2]; omega

/-- The rows of the layer's output. -/
theorem iblk1_apply (c : Dev nD) (t : Fin cfg0.N) (y : S256x4096.Idx) (i0 : Fin 8192) (i1 : Fin 4096) (h0 : i0.val = 256 * (t.val) + (y 0).val) (h1 : i1.val = 0 + (y 1).val) :
    (iblk m c 1 t : Vec Ideal S256x4096 .f32) y = oOf m c (ix2 i0 i1) := by
  unfold iblk
  rw [View.read_apply]
  show V m c main_arg1 _ = _
  rw [V_main_arg1]
  congr 1
  have hi : win0_1.index t (0 : Fin 2) = t.val ∧ win0_1.index t (1 : Fin 2) = 0 :=
    (by decide +kernel : ∀ t : Fin grid0.N, win0_1.index t (0 : Fin 2) = t.val ∧ win0_1.index t (1 : Fin 2) = 0) t
  funext a
  apply Fin.ext
  match a with
  | ⟨0, _⟩ => show win0_1.index t 0 * 256 + 1 * (y 0).val = i0.val; rw [hi.1]; omega
  | ⟨1, _⟩ => show win0_1.index t 1 * 4096 + 1 * (y 1).val = i1.val; rw [hi.2]; omega

/-- The gains after the layer. -/
theorem iblk2_apply (c : Dev nD) (t : Fin cfg0.N) (y : S1x4096.Idx) (i0 : Fin 1) (i1 : Fin 4096) (h0 : i0.val = 0 + (y 0).val) (h1 : i1.val = 0 + (y 1).val) :
    (iblk m c 2 t : Vec Ideal S1x4096 .f32) y = (V m c main_v4 : Vec Ideal S1x4096 .f32) (ix2 i0 i1) := by
  unfold iblk
  rw [View.read_apply]
  show V m c main_v4 _ = _
  congr 1
  have hi : win0_2.index t (0 : Fin 2) = 0 ∧ win0_2.index t (1 : Fin 2) = 0 :=
    (by decide +kernel : ∀ t : Fin grid0.N, win0_2.index t (0 : Fin 2) = 0 ∧ win0_2.index t (1 : Fin 2) = 0) t
  funext a
  apply Fin.ext
  match a with
  | ⟨0, _⟩ => show win0_2.index t 0 * 1 + 1 * (y 0).val = i0.val; rw [hi.1]; omega
  | ⟨1, _⟩ => show win0_2.index t 1 * 4096 + 1 * (y 1).val = i1.val; rw [hi.2]; omega

/-- One layer's gains, sliced out of the stack. -/
theorem V_main_v4_apply (c : Dev nD) (z : Fin 1) (n : Fin 4096) :
    (V m c main_v4 : Vec Ideal S1x4096 .f32) (ix2 z n) = gOf m c (ix2 (3 : Fin 4) n) := by
  show StableHlo.after hostOps0 (fun b => m (c, b)) main_v4 _ = _
  after_results
  simp only [pointwise, zero_add, Fin.isValue, Matrix.cons_val]

/-- The residual sum at a row and a column. -/
theorem arr4_apply (c : Dev nD) (i0 : Fin 8192) (i1 : Fin 4096) :
    ((dats m 0 c).arrAt 4 cfg0.N : S8192x4096.Idx → EReal) (ix2 i0 i1) = xOf m c (ix2 i0 i1) + rms (fun k => oOf m c (ix2 i0 k)) (fun k => gOf m c (ix2 (3 : Fin 4) k)) i1 := by
  have l0 := i0.isLt
  have l1 := i1.isLt
  have hlt : i0.val / 256 < cfg0.N := lt_of_lt_of_eq (show _ < 32 by omega) N_0.symm
  obtain ⟨t, ht⟩ : ∃ t : Fin cfg0.N, t.val = i0.val / 256 := ⟨⟨_, hlt⟩, rfl⟩
  have e := congrFun (blocks4 m c t (flush0_4 t)) (ix2 (⟨i0.val % 256, Nat.mod_lt _ (by decide)⟩ : Fin 256) i1)
  rw [View.read_apply, flushed4] at e
  have hi : win0_4.index t (0 : Fin 2) = t.val ∧ win0_4.index t (1 : Fin 2) = 0 :=
    (by decide +kernel : ∀ t : Fin grid0.N, win0_4.index t (0 : Fin 2) = t.val ∧ win0_4.index t (1 : Fin 2) = 0) t
  have hemb : ((cfg0.win 4).blk t).view.emb (ix2 (⟨i0.val % 256, Nat.mod_lt _ (by decide)⟩ : Fin 256) i1) = ix2 i0 i1 := by
    funext a
    apply Fin.ext
    match a with
    | ⟨0, _⟩ => show win0_4.index t 0 * 256 + 1 * (i0.val % 256) = i0.val; rw [hi.1]; omega
    | ⟨1, _⟩ => show win0_4.index t 1 * 4096 + 1 * (i1.val) = i1.val; rw [hi.2]; omega
  rw [hemb] at e
  refine e.trans ?_
  show (out0_4 (iblk m c 0 t) (iblk m c 1 t) (iblk m c 2 t) (iblk m c 3 t) : FVec Ideal S256x4096 .f32) (ix2 (⟨i0.val % 256, Nat.mod_lt _ (by decide)⟩ : Fin 256) i1) = _
  rw [out4_eq, pay1_apply]
  have e0 (k : Fin 4096) := iblk0_apply m c t (ix2 (⟨i0.val % 256, Nat.mod_lt _ (by decide)⟩ : Fin 256) k) i0 k (by show i0.val = 256 * (t.val) + i0.val % 256; omega) (by show k.val = 0 + k.val; omega)
  have e1 (k : Fin 4096) := iblk1_apply m c t (ix2 (⟨i0.val % 256, Nat.mod_lt _ (by decide)⟩ : Fin 256) k) i0 k (by show i0.val = 256 * (t.val) + i0.val % 256; omega) (by show k.val = 0 + k.val; omega)
  have e2 (k : Fin 4096) := (iblk2_apply m c t (ix2 (0 : Fin 1) k) (0 : Fin 1) k rfl (by show k.val = 0 + k.val; omega)).trans (V_main_v4_apply m c 0 k)
  simp only [e0, e1, e2]

/-- The residual sum as a function of its index. -/
theorem arr4_eq (c : Dev nD) : ((dats m 0 c).arrAt 4 cfg0.N : S8192x4096.Idx → EReal)
    = fun i => xOf m c (ix2 (i 0 : Fin 8192) (i 1 : Fin 4096)) + rms (fun k => oOf m c (ix2 (i 0 : Fin 8192) k)) (fun k => gOf m c (ix2 (3 : Fin 4) k)) (i 1 : Fin 4096) := by
  funext i
  have hi : i = ix2 (i 0 : Fin 8192) (i 1 : Fin 4096) := funext fun a => by match a with | ⟨0, _⟩ => rfl | ⟨1, _⟩ => rfl
  rw [hi]
  exact arr4_apply m c _ _

end

end Cert.LastIdeal.Hand

end
-- ==== Proof.PrenormValue.lean ====
/- The value of `PrenormIdeal`, the norm before the first layer: the blocks a point loads, what it stores, and the result
   array read at an index. -/
module

public import proofs.«01_k».proof.Proof.Gen.PrenormIdeal.Value
public import Idealize.ShloMosaic.Lib.Tactic.ValueTie

@[expose] public section

noncomputable section

namespace Cert.PrenormIdeal.Hand

open Cert.PrenormIdeal Cert.PrenormIdeal.Gen Cert.PrenormIdeal.Value Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

/-- A point's store is the payload of the blocks it loads. -/
theorem out2_eq {F : FTy → Type} [FloatOps F] (x0 : Vec F S256x4096 .f32) (x1 : Vec F S1x4096 .f32) : out0_2 x0 x1 = k0_pay1 x0 x1 := by
  unfold out0_2
  rw [View.canon_unit_zero hz2]
  simp only [View.ld_unit_zero (S := S256x4096) hz2, View.ld_unit_zero (S := S1x4096) hz2]

/-- A row divided by its root mean square and multiplied by a gain, at a column. -/
def rms (x g : Fin 4096 → EReal) (n : Fin 4096) : EReal :=
  x n * Ideal.rsqrt (Ideal.div (∑ k : Fin 4096, x k * x k) (Scalar.ofBits .f32 0x45800000#32 : Ideal .f32) + (Scalar.ofBits .f32 0x358637BD#32 : Ideal .f32)) * g n

/-- The norm of a row, read at an index. -/
theorem pay1_apply (x0 : Vec Ideal S256x4096 .f32) (x1 : Vec Ideal S1x4096 .f32) (r : Fin 256) (n : Fin 4096) :
    (k0_pay1 x0 x1 : FVec Ideal S256x4096 .bf16) (ix2 r n) = rms (fun k => x0 (ix2 r k)) (fun k => x1 (ix2 (0 : Fin 1) k)) n := by
  unfold k0_pay1 rms
  simp only [pointwise, zero_add]
  rfl

section
variable (m : (ℓ : Loc nD τ sig) → Buf (Elt Ideal) ℓ)

/-- The activations and the stack of gains that the program is given. -/
abbrev xOf (c : Dev nD) : S1x8192x4096.Idx → EReal := m ((c : Thread nD τ).loc main_arg0)
abbrev gOf (c : Dev nD) : S4x4096.Idx → EReal := m ((c : Thread nD τ).loc main_arg1)

/-- The rows that a point stages. -/
theorem iblk0_apply (c : Dev nD) (t : Fin cfg0.N) (y : S256x4096.Idx) (i0 : Fin 8192) (i1 : Fin 4096) (h0 : i0.val = 256 * (t.val) + (y 0).val) (h1 : i1.val = 0 + (y 1).val) :
    (iblk m c 0 t : Vec Ideal S256x4096 .f32) y = (V m c main_v0 : Vec Ideal S8192x4096 .f32) (ix2 i0 i1) := by
  unfold iblk
  rw [View.read_apply]
  show V m c main_v0 _ = _
  congr 1
  have hi : win0_0.index t (0 : Fin 2) = t.val ∧ win0_0.index t (1 : Fin 2) = 0 :=
    (by decide +kernel : ∀ t : Fin grid0.N, win0_0.index t (0 : Fin 2) = t.val ∧ win0_0.index t (1 : Fin 2) = 0) t
  funext a
  apply Fin.ext
  match a with
  | ⟨0, _⟩ => show win0_0.index t 0 * 256 + 1 * (y 0).val = i0.val; rw [hi.1]; omega
  | ⟨1, _⟩ => show win0_0.index t 1 * 4096 + 1 * (y 1).val = i1.val; rw [hi.2]; omega

/-- The gains. -/
theorem iblk1_apply (c : Dev nD) (t : Fin cfg0.N) (y : S1x4096.Idx) (i0 : Fin 1) (i1 : Fin 4096) (h0 : i0.val = 0 + (y 0).val) (h1 : i1.val = 0 + (y 1).val) :
    (iblk m c 1 t : Vec Ideal S1x4096 .f32) y = (V m c main_v3 : Vec Ideal S1x4096 .f32) (ix2 i0 i1) := by
  unfold iblk
  rw [View.read_apply]
  show V m c main_v3 _ = _
  congr 1
  have hi : win0_1.index t (0 : Fin 2) = 0 ∧ win0_1.index t (1 : Fin 2) = 0 :=
    (by decide +kernel : ∀ t : Fin grid0.N, win0_1.index t (0 : Fin 2) = 0 ∧ win0_1.index t (1 : Fin 2) = 0) t
  funext a
  apply Fin.ext
  match a with
  | ⟨0, _⟩ => show win0_1.index t 0 * 1 + 1 * (y 0).val = i0.val; rw [hi.1]; omega
  | ⟨1, _⟩ => show win0_1.index t 1 * 4096 + 1 * (y 1).val = i1.val; rw [hi.2]; omega

/-- The activations without their batch axis. -/
theorem V_main_v0_apply (c : Dev nD) (r : Fin 8192) (k : Fin 4096) :
    (V m c main_v0 : Vec Ideal S8192x4096 .f32) (ix2 r k) = xOf m c (ix3 (0 : Fin 1) r k) := by
  show StableHlo.after hostOps0 (fun b => m (c, b)) main_v0 _ = _
  after_results
  simp only [pointwise, zero_add, Fin.isValue, Matrix.cons_val]

/-- One layer's gains, sliced out of the stack. -/
theorem V_main_v3_apply (c : Dev nD) (z : Fin 1) (n : Fin 4096) :
    (V m c main_v3 : Vec Ideal S1x4096 .f32) (ix2 z n) = gOf m c (ix2 (0 : Fin 4) n) := by
  show StableHlo.after hostOps0 (fun b => m (c, b)) main_v3 _ = _
  after_results
  simp only [pointwise, zero_add, Fin.isValue, Matrix.cons_val]

/-- The result at a row and a column. -/
theorem arr2_apply (c : Dev nD) (i0 : Fin 8192) (i1 : Fin 4096) :
    ((dats m 0 c).arrAt 2 cfg0.N : S8192x4096.Idx → EReal) (ix2 i0 i1) = rms (fun k => xOf m c (ix3 (0 : Fin 1) i0 k)) (fun k => gOf m c (ix2 (0 : Fin 4) k)) i1 := by
  have l0 := i0.isLt
  have l1 := i1.isLt
  have hlt : i0.val / 256 < cfg0.N := lt_of_lt_of_eq (show _ < 32 by omega) N_0.symm
  obtain ⟨t, ht⟩ : ∃ t : Fin cfg0.N, t.val = i0.val / 256 := ⟨⟨_, hlt⟩, rfl⟩
  have e := congrFun (blocks2 m c t (flush0_2 t)) (ix2 (⟨i0.val % 256, Nat.mod_lt _ (by decide)⟩ : Fin 256) i1)
  rw [View.read_apply, flushed2] at e
  have hi : win0_2.index t (0 : Fin 2) = t.val ∧ win0_2.index t (1 : Fin 2) = 0 :=
    (by decide +kernel : ∀ t : Fin grid0.N, win0_2.index t (0 : Fin 2) = t.val ∧ win0_2.index t (1 : Fin 2) = 0) t
  have hemb : ((cfg0.win 2).blk t).view.emb (ix2 (⟨i0.val % 256, Nat.mod_lt _ (by decide)⟩ : Fin 256) i1) = ix2 i0 i1 := by
    funext a
    apply Fin.ext
    match a with
    | ⟨0, _⟩ => show win0_2.index t 0 * 256 + 1 * (i0.val % 256) = i0.val; rw [hi.1]; omega
    | ⟨1, _⟩ => show win0_2.index t 1 * 4096 + 1 * (i1.val) = i1.val; rw [hi.2]; omega
  rw [hemb] at e
  refine e.trans ?_
  show (out0_2 (iblk m c 0 t) (iblk m c 1 t) : FVec Ideal S256x4096 .bf16) (ix2 (⟨i0.val % 256, Nat.mod_lt _ (by decide)⟩ : Fin 256) i1) = _
  rw [out2_eq, pay1_apply]
  have e0 (k : Fin 4096) := (iblk0_apply m c t (ix2 (⟨i0.val % 256, Nat.mod_lt _ (by decide)⟩ : Fin 256) k) i0 k (by show i0.val = 256 * (t.val) + i0.val % 256; omega) (by show k.val = 0 + k.val; omega)).trans (V_main_v0_apply m c i0 k)
  have e1 (k : Fin 4096) := (iblk1_apply m c t (ix2 (0 : Fin 1) k) (0 : Fin 1) k rfl (by show k.val = 0 + k.val; omega)).trans (V_main_v3_apply m c 0 k)
  simp only [e0, e1]

/-- The result as a function of its index. -/
theorem arr2_eq (c : Dev nD) : ((dats m 0 c).arrAt 2 cfg0.N : S8192x4096.Idx → EReal)
    = fun i => rms (fun k => xOf m c (ix3 (0 : Fin 1) (i 0 : Fin 8192) k)) (fun k => gOf m c (ix2 (0 : Fin 4) k)) (i 1 : Fin 4096) := by
  funext i
  have hi : i = ix2 (i 0 : Fin 8192) (i 1 : Fin 4096) := funext fun a => by match a with | ⟨0, _⟩ => rfl | ⟨1, _⟩ => rfl
  rw [hi]
  exact arr2_apply m c _ _

end

end Cert.PrenormIdeal.Hand

end
-- ==== Proof.CqValue.lean ====
/- The value of `CqIdeal`, the projection to the compressed queries and the norm of it: the blocks a point loads, what it
   stores, and the result array read at an index. -/
module

public import proofs.«01_k».proof.Proof.Gen.CqIdeal.Value
public import Idealize.ShloMosaic.Lib.Tactic.ValueTie

@[expose] public section

noncomputable section

namespace Cert.CqIdeal.Hand

open Cert.CqIdeal Cert.CqIdeal.Gen Cert.CqIdeal.Value Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

/-- A point's store is the payload of the blocks it loads. -/
theorem out3_eq {F : FTy → Type} [FloatOps F] (x0 : Vec F S512x4096 .bf16) (x1 : Vec F S1536x4096 .bf16) (x2 : Vec F S1x1536 .f32) : out0_3 x0 x1 x2 = k0_pay1 x0 x1 x2 := by
  unfold out0_3
  rw [View.canon_unit_zero hz2]
  simp only [View.ld_unit_zero (S := S512x4096) hz2, View.ld_unit_zero (S := S1536x4096) hz2, View.ld_unit_zero (S := S1x1536) hz2]

/-- A row divided by its root mean square and multiplied by a gain, at a column. -/
def rms (x g : Fin 1536 → EReal) (n : Fin 1536) : EReal :=
  x n * Ideal.rsqrt (Ideal.div (∑ k : Fin 1536, x k * x k) (Scalar.ofBits .f32 0x44C00000#32 : Ideal .f32) + (Scalar.ofBits .f32 0x358637BD#32 : Ideal .f32)) * g n

/-- The norm of the product's row, read at an index. -/
theorem pay1_apply (x0 : Vec Ideal S512x4096 .bf16) (x1 : Vec Ideal S1536x4096 .bf16) (x2 : Vec Ideal S1x1536 .f32) (r : Fin 512) (n : Fin 1536) :
    (k0_pay1 x0 x1 x2 : FVec Ideal S512x1536 .bf16) (ix2 r n)
      = rms (fun j => ∑ k : Fin 4096, (x0 (ix2 r k) * x1 (ix2 j k) : EReal)) (fun k => x2 (ix2 (0 : Fin 1) k)) n := by
  unfold k0_pay1 rms
  simp only [pointwise, zero_add]
  rfl

section
variable (m : (ℓ : Loc nD τ sig) → Buf (Elt Ideal) ℓ)

/-- The activations, the combined input weights and the stack of gains that the program is given. -/
abbrev hOf (c : Dev nD) : S8192x4096.Idx → EReal := m ((c : Thread nD τ).loc main_arg0)
abbrev wOf (c : Dev nD) : S4x4096x28736.Idx → EReal := m ((c : Thread nD τ).loc main_arg1)
abbrev gOf (c : Dev nD) : S4x1536.Idx → EReal := m ((c : Thread nD τ).loc main_arg2)

/-- The rows of the activations that a point stages. -/
theorem iblk0_apply (c : Dev nD) (t : Fin cfg0.N) (y : S512x4096.Idx) (i0 : Fin 8192) (i1 : Fin 4096) (h0 : i0.val = 512 * (t.val) + (y 0).val) (h1 : i1.val = 0 + (y 1).val) :
    (iblk m c 0 t : Vec Ideal S512x4096 .bf16) y = hOf m c (ix2 i0 i1) := by
  unfold iblk
  rw [View.read_apply]
  show V m c main_arg0 _ = _
  rw [V_main_arg0]
  congr 1
  have hi : win0_0.index t (0 : Fin 2) = t.val ∧ win0_0.index t (1 : Fin 2) = 0 :=
    (by decide +kernel : ∀ t : Fin grid0.N, win0_0.index t (0 : Fin 2) = t.val ∧ win0_0.index t (1 : Fin 2) = 0) t
  funext a
  apply Fin.ext
  match a with
  | ⟨0, _⟩ => show win0_0.index t 0 * 512 + 1 * (y 0).val = i0.val; rw [hi.1]; omega
  | ⟨1, _⟩ => show win0_0.index t 1 * 4096 + 1 * (y 1).val = i1.val; rw [hi.2]; omega

/-- The weights, transposed. -/
theorem iblk1_apply (c : Dev nD) (t : Fin cfg0.N) (y : S1536x4096.Idx) (i0 : Fin 1536) (i1 : Fin 4096) (h0 : i0.val = 0 + (y 0).val) (h1 : i1.val = 0 + (y 1).val) :
    (iblk m c 1 t : Vec Ideal S1536x4096 .bf16) y = (V m c main_v5 : Vec Ideal S1536x4096 .bf16) (ix2 i0 i1) := by
  unfold iblk
  rw [View.read_apply]
  show V m c main_v5 _ = _
  congr 1
  have hi : win0_1.index t (0 : Fin 2) = 0 ∧ win0_1.index t (1 : Fin 2) = 0 :=
    (by decide +kernel : ∀ t : Fin grid0.N, win0_1.index t (0 : Fin 2) = 0 ∧ win0_1.index t (1 : Fin 2) = 0) t
  funext a
  apply Fin.ext
  match a with
  | ⟨0, _⟩ => show win0_1.index t 0 * 1536 + 1 * (y 0).val = i0.val; rw [hi.1]; omega
  | ⟨1, _⟩ => show win0_1.index t 1 * 4096 + 1 * (y 1).val = i1.val; rw [hi.2]; omega

/-- The gains. -/
theorem iblk2_apply (c : Dev nD) (t : Fin cfg0.N) (y : S1x1536.Idx) (i0 : Fin 1) (i1 : Fin 1536) (h0 : i0.val = 0 + (y 0).val) (h1 : i1.val = 0 + (y 1).val) :
    (iblk m c 2 t : Vec Ideal S1x1536 .f32) y = (V m c main_v8 : Vec Ideal S1x1536 .f32) (ix2 i0 i1) := by
  unfold iblk
  rw [View.read_apply]
  show V m c main_v8 _ = _
  congr 1
  have hi : win0_2.index t (0 : Fin 2) = 0 ∧ win0_2.index t (1 : Fin 2) = 0 :=
    (by decide +kernel : ∀ t : Fin grid0.N, win0_2.index t (0 : Fin 2) = 0 ∧ win0_2.index t (1 : Fin 2) = 0) t
  funext a
  apply Fin.ext
  match a with
  | ⟨0, _⟩ => show win0_2.index t 0 * 1 + 1 * (y 0).val = i0.val; rw [hi.1]; omega
  | ⟨1, _⟩ => show win0_2.index t 1 * 1536 + 1 * (y 1).val = i1.val; rw [hi.2]; omega

/-- The weights that the point is given: columns 6144 to 7680 of the combined weights. -/
theorem V_main_v5_apply (c : Dev nD) (n : Fin 1536) (k : Fin 4096) :
    (V m c main_v5 : Vec Ideal S1536x4096 .bf16) (ix2 n k) = wOf m c (ix3 (0 : Fin 4) k (⟨6144 + n.val, by omega⟩ : Fin 28736)) := by
  show StableHlo.after hostOps0 (fun b => m (c, b)) main_v5 _ = _
  after_results
  simp only [pointwise, zero_add, Fin.isValue, Matrix.cons_val, id_eq]

/-- One layer's gains, sliced out of the stack. -/
theorem V_main_v8_apply (c : Dev nD) (z : Fin 1) (n : Fin 1536) :
    (V m c main_v8 : Vec Ideal S1x1536 .f32) (ix2 z n) = gOf m c (ix2 (0 : Fin 4) n) := by
  show StableHlo.after hostOps0 (fun b => m (c, b)) main_v8 _ = _
  after_results
  simp only [pointwise, zero_add, Fin.isValue, Matrix.cons_val]

/-- The result at a row and a column. -/
theorem arr3_apply (c : Dev nD) (i0 : Fin 8192) (i1 : Fin 1536) :
    ((dats m 0 c).arrAt 3 cfg0.N : S8192x1536.Idx → EReal) (ix2 i0 i1) = rms (fun j => ∑ k : Fin 4096, hOf m c (ix2 i0 k) * wOf m c (ix3 (0 : Fin 4) k (⟨6144 + j.val, by omega⟩ : Fin 28736))) (fun k => gOf m c (ix2 (0 : Fin 4) k)) i1 := by
  have l0 := i0.isLt
  have l1 := i1.isLt
  have hlt : i0.val / 512 < cfg0.N := lt_of_lt_of_eq (show _ < 16 by omega) N_0.symm
  obtain ⟨t, ht⟩ : ∃ t : Fin cfg0.N, t.val = i0.val / 512 := ⟨⟨_, hlt⟩, rfl⟩
  have e := congrFun (blocks3 m c t (flush0_3 t)) (ix2 (⟨i0.val % 512, Nat.mod_lt _ (by decide)⟩ : Fin 512) i1)
  rw [View.read_apply, flushed3] at e
  have hi : win0_3.index t (0 : Fin 2) = t.val ∧ win0_3.index t (1 : Fin 2) = 0 :=
    (by decide +kernel : ∀ t : Fin grid0.N, win0_3.index t (0 : Fin 2) = t.val ∧ win0_3.index t (1 : Fin 2) = 0) t
  have hemb : ((cfg0.win 3).blk t).view.emb (ix2 (⟨i0.val % 512, Nat.mod_lt _ (by decide)⟩ : Fin 512) i1) = ix2 i0 i1 := by
    funext a
    apply Fin.ext
    match a with
    | ⟨0, _⟩ => show win0_3.index t 0 * 512 + 1 * (i0.val % 512) = i0.val; rw [hi.1]; omega
    | ⟨1, _⟩ => show win0_3.index t 1 * 1536 + 1 * (i1.val) = i1.val; rw [hi.2]; omega
  rw [hemb] at e
  refine e.trans ?_
  show (out0_3 (iblk m c 0 t) (iblk m c 1 t) (iblk m c 2 t) : FVec Ideal S512x1536 .bf16) (ix2 (⟨i0.val % 512, Nat.mod_lt _ (by decide)⟩ : Fin 512) i1) = _
  rw [out3_eq, pay1_apply]
  have e0 (k : Fin 4096) := iblk0_apply m c t (ix2 (⟨i0.val % 512, Nat.mod_lt _ (by decide)⟩ : Fin 512) k) i0 k (by show i0.val = 512 * (t.val) + i0.val % 512; omega) (by show k.val = 0 + k.val; omega)
  have e1 (j : Fin 1536) (k : Fin 4096) := (iblk1_apply m c t (ix2 j k) j k (by show j.val = 0 + j.val; omega) (by show k.val = 0 + k.val; omega)).trans (V_main_v5_apply m c j k)
  have e2 (k : Fin 1536) := (iblk2_apply m c t (ix2 (0 : Fin 1) k) (0 : Fin 1) k rfl (by show k.val = 0 + k.val; omega)).trans (V_main_v8_apply m c 0 k)
  simp only [e0, e1, e2]

/-- The result as a function of its index. -/
theorem arr3_eq (c : Dev nD) : ((dats m 0 c).arrAt 3 cfg0.N : S8192x1536.Idx → EReal)
    = fun i => rms (fun j => ∑ k : Fin 4096, hOf m c (ix2 (i 0 : Fin 8192) k) * wOf m c (ix3 (0 : Fin 4) k (⟨6144 + j.val, by omega⟩ : Fin 28736))) (fun k => gOf m c (ix2 (0 : Fin 4) k)) (i 1 : Fin 1536) := by
  funext i
  have hi : i = ix2 (i 0 : Fin 8192) (i 1 : Fin 1536) := funext fun a => by match a with | ⟨0, _⟩ => rfl | ⟨1, _⟩ => rfl
  rw [hi]
  exact arr3_apply m c _ _

end

end Cert.CqIdeal.Hand

end
-- ==== Proof.KvValue.lean ====
/- The value of `KvIdeal`, the keys and the values of all heads: the blocks a point loads, the tiles it stores, and the result
   arrays read at an index. -/
module

public import proofs.«01_k».proof.Proof.Gen.KvIdeal.Value
public import Idealize.ShloMosaic.Lib.Tactic.ValueTie

@[expose] public section

noncomputable section

namespace Cert.KvIdeal.Hand

open Cert.KvIdeal Cert.KvIdeal.Gen Cert.KvIdeal.Value Idealize.ShloMosaic Idealize.ShloMosaic.TcCoe Idealize.SL.Sem

theorem hz2 : (![0, 0] : Fin 2 → Nat) = fun _ => 0 := funext fun a => by fin_cases a <;> rfl

/-- An index of three axes is its coordinates. -/
theorem eq3 {a b d : Nat} (i : (⟨3, ![a, b, d]⟩ : Shape).Idx) : i = ix3 (i 0 : Fin a) (i 1 : Fin b) (i 2 : Fin d) :=
  funext fun x => by match x with | ⟨0, _⟩ => rfl | ⟨1, _⟩ => rfl | ⟨2, _⟩ => rfl

/-- One head's columns of a product, laid out as that head's tile. -/
theorem tile_apply (v : FVec Ideal S1024x1024 .f32) (o : Nat) (hs : S1024x1024.Slices ![0, o] S1024x128) (hb : FTy.bits .bf16 < FTy.bits .f32)
    (hc : S1024x128.ShapeCasts S1x1024x128) (x : S1x1024x128.Idx) (r n : Fin 1024) (hr : r.val = (x 1).val) (hn : n.val = o + (x 2).val) :
    (shapeCast S1x1024x128 (truncf .bf16 (extractStridedSlice S1024x128 ![0, o] v hs) hb) hc : FVec Ideal S1x1024x128 .bf16) x
      = (v (ix2 r n) : EReal) := by
  have hx0 : (x 0).val < 1 := (x 0).isLt
  refine (shapeCast_apply _ _ x (ix2 (x 1 : Fin 1024) (x 2 : Fin 128)) (by
    rw [Shape.rowMajor_val_two, Shape.rowMajor_val_three]
    show (x 1).val * 128 + (x 2).val = ((x 0).val * 1024 + (x 1).val) * 128 + (x 2).val
    omega)).trans ?_
  show extractStridedSlice S1024x128 ![0, o] v hs (ix2 (x 1 : Fin 1024) (x 2 : Fin 128)) = _
  exact extractStridedSlice_apply ![0, o] _ _ _ (ix2 r n) (fun a => match a with
    | ⟨0, _⟩ => by show r.val = 0 + (x 1).val; omega
    | ⟨1, _⟩ => by show n.val = o + (x 2).val; omega)

/-- The rotary columns, laid out as a head's tile. -/
theorem rope_apply (v : Vec Ideal S1024x128 .bf16) (hc : S1024x128.ShapeCasts S1x1024x128) (x : S1x1024x128.Idx) (r : Fin 1024) (n : Fin 128)
    (hr : r.val = (x 1).val) (hn : n.val = (x 2).val) : (shapeCast S1x1024x128 v hc : FVec Ideal S1x1024x128 .bf16) x = (v (ix2 r n) : EReal) := by
  have hx0 : (x 0).val < 1 := (x 0).isLt
  refine shapeCast_apply _ _ x (ix2 r n) (by
    rw [Shape.rowMajor_val_two, Shape.rowMajor_val_three]
    show r.val * 128 + n.val = ((x 0).val * 1024 + (x 1).val) * 128 + (x 2).val
    omega)

/-- A block of keys: each head's columns of the product, and after them the rotary columns. -/
def keyBlock (p : FVec Ideal S1024x1024 .f32) (v : Vec Ideal S1024x128 .bf16) : Vec Ideal S8x1024x256 .bf16 := fun y =>
  if h : (y 2).val < 128 then p (ix2 (y 1 : Fin 1024) (⟨128 * (y 0).val + (y 2).val, by have h0 : (y 0).val < 8 := (y 0).isLt; omega⟩ : Fin 1024))
  else v (ix2 (y 1 : Fin 1024) (⟨(y 2).val - 128, by have h2 : (y 2).val < 256 := (y 2).isLt; omega⟩ : Fin 128))

theorem keyBlock_lt (p : FVec Ideal S1024x1024 .f32) (v : Vec Ideal S1024x128 .bf16) (y : S8x1024x256.Idx) (r n : Fin 1024)
    (h : (y 2).val < 128) (hr : r.val = (y 1).val) (hn : n.val = 128 * (y 0).val + (y 2).val) : keyBlock p v y = p (ix2 r n) := by
  unfold keyBlock
  rw [dif_pos h]
  exact congrArg p (congrArg₂ ix2 (Fin.ext hr.symm) (Fin.ext hn.symm))

theorem keyBlock_ge (p : FVec Ideal S1024x1024 .f32) (v : Vec Ideal S1024x128 .bf16) (y : S8x1024x256.Idx) (r : Fin 1024) (n : Fin 128)
    (hr : r.val = (y 1).val) (hn : (y 2).val = 128 + n.val) : keyBlock p v y = v (ix2 r n) := by
  unfold keyBlock
  rw [dif_neg (by omega)]
  exact congrArg v (congrArg₂ ix2 (Fin.ext hr.symm) (Fin.ext (by show (y 2).val - 128 = n.val; omega)))

/-- A head's tile of the product is its part of the block of keys. -/
theorem tile_key (p : FVec Ideal S1024x1024 .f32) (v : Vec Ideal S1024x128 .bf16) (h : Nat) (hh : h < 8)
    (hs : S1024x1024.Slices ![0, 128 * h] S1024x128) (hb : FTy.bits .bf16 < FTy.bits .f32) (hc : S1024x128.ShapeCasts S1x1024x128)
    (x : S1x1024x128.Idx) (y : S8x1024x256.Idx) (y0 : (y 0).val = h + 1 * (x 0).val) (y1 : (y 1).val = 0 + 1 * (x 1).val) (y2 : (y 2).val = 0 + 1 * (x 2).val) :
    (shapeCast S1x1024x128 (truncf .bf16 (extractStridedSlice S1024x128 ![0, 128 * h] p hs) hb) hc : FVec Ideal S1x1024x128 .bf16) x = keyBlock p v y := by
  have hx0 : (x 0).val < 1 := (x 0).isLt
  have hx1 : (x 1).val < 1024 := (x 1).isLt
  have hx2 : (x 2).val < 128 := (x 2).isLt
  have hn : 128 * h + (x 2).val < 1024 := by omega
  rw [tile_apply p (128 * h) hs hb hc x ⟨(x 1).val, hx1⟩ ⟨128 * h + (x 2).val, hn⟩ rfl rfl]
  exact (keyBlock_lt p v y _ _ (by omega) (by show (x 1).val = _; omega) (by show 128 * h + (x 2).val = _; rw [y0, y2]; omega)).symm

/-- The rotary columns are each head's other part of the block of keys. -/
theorem rope_key (p : FVec Ideal S1024x1024 .f32) (v : Vec Ideal S1024x128 .bf16) (hc : S1024x128.ShapeCasts S1x1024x128)
    (x : S1x1024x128.Idx) (y : S8x1024x256.Idx) (y1 : (y 1).val = 0 + 1 * (x 1).val) (y2 : (y 2).val = 128 + 1 * (x 2).val) :
    (shapeCast S1x1024x128 v hc : FVec Ideal S1x1024x128 .bf16) x = keyBlock p v y := by
  have hx1 : (x 1).val < 1024 := (x 1).isLt
  have hx2 : (x 2).val < 128 := (x 2).isLt
  rw [rope_apply v hc x ⟨(x 1).val, hx1⟩ ⟨(x 2).val, hx2⟩ rfl rfl]
  exact (keyBlock_ge p v y _ _ (by show (x 1).val = _; omega) (by rw [y2]; show _ = 128 + (x 2).val; omega)).symm

/-- A point's store of keys is the block of keys of what it loads. -/
theorem out4_eq (x0 : Vec Ideal S1024x512 .bf16) (x1 x2 : Vec Ideal S512x1024 .bf16) (x3 : Vec Ideal S1024x128 .bf16) :
    out0_4 x0 x1 x2 x3 = keyBlock (k0_pay6 x0 x1) x3 := by
  unfold out0_4 k0_pay27
  simp only [View.ld_unit_zero (S := S1024x512) hz2, View.ld_unit_zero (S := S512x1024) hz2, View.ld_unit_zero (S := S1024x128) hz2]
  funext y
  refine View.canon_apply_of_pieces (keyBlock (k0_pay6 x0 x1) x3) _ ?_ y (cover0_4 _ _ _ _ _ _ _ _ _ _ _ _ _ _ _ _ y)
  intro pc hpc
  rcases List.mem_cons.mp hpc with rfl | hpc
  · exact fun x => rope_key (k0_pay6 x0 x1) x3 _ x _ rfl rfl
  rcases List.mem_cons.mp hpc with rfl | hpc
  · exact fun x => tile_key (k0_pay6 x0 x1) x3 7 (by decide) _ _ _ x _ rfl rfl rfl
  rcases List.mem_cons.mp hpc with rfl | hpc
  · exact fun x => rope_key (k0_pay6 x0 x1) x3 _ x _ rfl rfl
  rcases List.mem_cons.mp hpc with rfl | hpc
  · exact fun x => tile_key (k0_pay6 x0 x1) x3 6 (by decide) _ _ _ x _ rfl rfl rfl
  rcases List.mem_cons.mp hpc with rfl | hpc
  · exact fun x => rope_key (k0_pay6 x0 x1) x3 _ x _ rfl rfl
  rcases List.mem_cons.mp hpc with rfl | hpc
  · exact fun x => tile_key (k0_pay6 x0 x1) x3 5 (by decide) _ _ _ x _ rfl rfl rfl
  rcases List.mem_cons.mp hpc with rfl | hpc
  · exact fun x => rope_key (k0_pay6 x0 x1) x3 _ x _ rfl rfl
  rcases List.mem_cons.mp hpc with rfl | hpc
  · exact fun x => tile_key (k0_pay6 x0 x1) x3 4 (by decide) _ _ _ x _ rfl rfl rfl
  rcases List.mem_cons.mp hpc with rfl | hpc
  · exact fun x => rope_key (k0_pay6 x0 x1) x3 _ x _ rfl rfl
  rcases List.mem_cons.mp hpc with rfl | hpc
  · exact fun x => tile_key (k0_pay6 x0 x1) x3 3 (by decide) _ _ _ x _ rfl rfl rfl
  rcases List.mem_cons.mp hpc with rfl | hpc
  · exact fun x => rope_key (k0_pay6 x0 x1) x3 _ x _ rfl rfl
  rcases List.mem_cons.mp hpc with rfl | hpc
  · exact fun x => tile_key (k0_pay6 x0 x1) x3 2 (by decide) _ _ _ x _ rfl rfl rfl
  rcases List.mem_cons.mp hpc with rfl | hpc
  · exact fun x => rope_key (k0_pay6 x0 x1) x3 _ x _ rfl rfl
  rcases List.mem_cons.mp hpc with rfl | hpc
  · exact fun x => tile_key (k0_pay6 x0 x1) x3 1 (by decide) _ _ _ x _ rfl rfl rfl
  rcases List.mem_cons.mp hpc with rfl | hpc
  · exact fun x => rope_key (k0_pay6 x0 x1) x3 _ x _ rfl rfl
  rcases List.mem_cons.mp hpc with rfl | hpc
  · exact fun x => tile_key (k0_pay6 x0 x1) x3 0 (by decide) _ _ _ x _ rfl rfl rfl
  nomatch hpc

/-- A point's store of values, read at an index. -/
theorem out5_apply (x0 : Vec Ideal S1024x512 .bf16) (x1 x2 : Vec Ideal S512x1024 .bf16) (x3 : Vec Ideal S1024x128 .bf16)
    (y : S8x1024x128.Idx) (r n : Fin 1024) (hr : r.val = (y 1).val) (hn : n.val = (y 0).val * 128 + (y 2).val) :
    out0_5 x0 x1 x2 x3 y = (k0_pay7 x0 x2 (ix2 r n) : EReal) := by
  unfold out0_5 k0_pay28
  simp only [View.ld_unit_zero (S := S1024x512) hz2, View.ld_unit_zero (S := S512x1024) hz2]
  rw [canon5_eq]
  show k0_pay7 x0 x2 _ = _
  exact congrArg (k0_pay7 x0 x2) (funext fun a => Fin.ext (match a with | ⟨0, _⟩ => hr.symm | ⟨1, _⟩ => hn.symm))

/-- The two products, read at an index. -/
theorem pay6_apply (x0 : Vec Ideal S1024x512 .bf16) (x1 : Vec Ideal S512x1024 .bf16) (r n : Fin 1024) :
    (k0_pay6 x0 x1 : FVec Ideal S1024x1024 .f32) (ix2 r n) = (∑ k : Fin 512, x0 (ix2 r k) * x1 (ix2 k n) : EReal) := by
  unfold k0_pay6
  simp only [pointwise, zero_add]

theorem pay7_apply (x0 : Vec Ideal S1024x512 .bf16) (x1 : Vec Ideal S512x1024 .bf16) (r n : Fin 1024) :
    (k0_pay7 x0 x1 : FVec Ideal S1024x1024 .f32) (ix2 r n) = (∑ k : Fin 512, x0 (ix2 r k) * x1 (ix2 k n) : EReal) := by
  unfold k0_pay7
  simp only [pointwise, zero_add]

/-- A head's key at a row and a column: the product with the head's first 128 columns of the weights, then the rotary key. -/
def keyOf (x : S8192x512.Idx → EReal) (w : S4x512x8192.Idx → EReal) (r : S8192x128.Idx → EReal) (h : Fin 32) (s : Fin 8192) (d : Fin 256) : EReal :=
  if hd : d.val < 128 then ∑ k : Fin 512, x (ix2 s k) * w (ix3 (0 : Fin 4) k (⟨h.val * 256 + d.val, by omega⟩ : Fin 8192))
  else r (ix2 s (⟨d.val - 128, by omega⟩ : Fin 128))

/-- A head's value at a row and a column: the product with the head's last 128 columns of the weights. -/
def valueOf (x : S8192x512.Idx → EReal) (w : S4x512x8192.Idx → EReal) (h : Fin 32) (s : Fin 8192) (d : Fin 128) : EReal :=
  ∑ k : Fin 512, x (ix2 s k) * w (ix3 (0 : Fin 4) k (⟨h.val * 256 + (128 + d.val), by omega⟩ : Fin 8192))

section
variable (m : (ℓ : Loc nD τ sig) → Buf (Elt Ideal) ℓ)

/-- The compressed keys and values, the stacked weights and the rotary key that the program is given. -/
abbrev cOf (c : Dev nD) : S8192x512.Idx → EReal := m ((c : Thread nD τ).loc main_arg0)
abbrev wOf (c : Dev nD) : S4x512x8192.Idx → EReal := m ((c : Thread nD τ).loc main_arg1)
abbrev rOf (c : Dev nD) : S8192x128.Idx → EReal := m ((c : Thread nD τ).loc main_arg2)

/-- The weights of the keys that the point is given: of each head's 256 columns the first 128. -/
theorem V_main_v5_apply (c : Dev nD) (k : Fin 512) (n : Fin 4096) (j : Fin 8192) (hj : j.val = 256 * (n.val / 128) + n.val % 128) :
    (V m c main_v5 : Vec Ideal S512x4096 .bf16) (ix2 k n) = wOf m c (ix3 (0 : Fin 4) k j) := by
  show StableHlo.after hostOps0 (fun b => m (c, b)) main_v5 _ = _
  after_results
  simp only [pointwise, zero_add, Fin.isValue, Matrix.cons_val]
  exact congrArg (wOf m c) (congrArg (ix3 (0 : Fin 4) k) (Fin.ext (by show n.val / 128 * 256 + n.val % 128 = j.val; omega)))

/-- The weights of the values: the last 128. -/
theorem V_main_v8_apply (c : Dev nD) (k : Fin 512) (n : Fin 4096) (j : Fin 8192) (hj : j.val = 256 * (n.val / 128) + 128 + n.val % 128) :
    (V m c main_v8 : Vec Ideal S512x4096 .bf16) (ix2 k n) = wOf m c (ix3 (0 : Fin 4) k j) := by
  show StableHlo.after hostOps0 (fun b => m (c, b)) main_v8 _ = _
  after_results
  simp only [pointwise, zero_add, Fin.isValue, Matrix.cons_val]
  exact congrArg (wOf m c) (congrArg (ix3 (0 : Fin 4) k) (Fin.ext (by show n.val / 128 * 256 + (128 + n.val % 128) = j.val; omega)))

/-- The rows of the compressed keys and values that a point stages. -/
theorem iblk0_apply (c : Dev nD) (t : Fin cfg0.N) (y : S1024x512.Idx) (i0 : Fin 8192) (i1 : Fin 512) (h0 : i0.val = 1024 * (t.val / 4) + (y 0).val) (h1 : i1.val = 0 + (y 1).val) :
    (iblk m c 0 t : Vec Ideal S1024x512 .bf16) y = cOf m c (ix2 i0 i1) := by
  unfold iblk
  rw [View.read_apply]
  show V m c main_arg0 _ = _
  rw [V_main_arg0]
  congr 1
  have hi : win0_0.index t (0 : Fin 2) = t.val / 4 ∧ win0_0.index t (1 : Fin 2) = 0 :=
    (by decide +kernel : ∀ t : Fin grid0.N, win0_0.index t (0 : Fin 2) = t.val / 4 ∧ win0_0.index t (1 : Fin 2) = 0) t
  funext a
  apply Fin.ext
  match a with
  | ⟨0, _⟩ => show win0_0.index t 0 * 1024 + 1 * (y 0).val = i0.val; rw [hi.1]; omega
  | ⟨1, _⟩ => show win0_0.index t 1 * 512 + 1 * (y 1).val = i1.val; rw [hi.2]; omega

/-- The columns of the keys' weights. -/
theorem iblk1_apply (c : Dev nD) (t : Fin cfg0.N) (y : S512x1024.Idx) (i0 : Fin 512) (i1 : Fin 4096) (h0 : i0.val = 0 + (y 0).val) (h1 : i1.val = 1024 * (t.val % 4) + (y 1).val) :
    (iblk m c 1 t : Vec Ideal S512x1024 .bf16) y = (V m c main_v5 : Vec Ideal S512x4096 .bf16) (ix2 i0 i1) := by
  unfold iblk
  rw [View.read_apply]
  show V m c main_v5 _ = _
  congr 1
  have hi : win0_1.index t (0 : Fin 2) = 0 ∧ win0_1.index t (1 : Fin 2) = t.val % 4 :=
    (by decide +kernel : ∀ t : Fin grid0.N, win0_1.index t (0 : Fin 2) = 0 ∧ win0_1.index t (1 : Fin 2) = t.val % 4) t
  funext a
  apply Fin.ext
  match a with
  | ⟨0, _⟩ => show win0_1.index t 0 * 512 + 1 * (y 0).val = i0.val; rw [hi.1]; omega
  | ⟨1, _⟩ => show win0_1.index t 1 * 1024 + 1 * (y 1).val = i1.val; rw [hi.2]; omega

/-- The columns of the values' weights. -/
theorem iblk2_apply (c : Dev nD) (t : Fin cfg0.N) (y : S512x1024.Idx) (i0 : Fin 512) (i1 : Fin 4096) (h0 : i0.val = 0 + (y 0).val) (h1 : i1.val = 1024 * (t.val % 4) + (y 1).val) :
    (iblk m c 2 t : Vec Ideal S512x1024 .bf16) y = (V m c main_v8 : Vec Ideal S512x4096 .bf16) (ix2 i0 i1) := by
  unfold iblk
  rw [View.read_apply]
  show V m c main_v8 _ = _
  congr 1
  have hi : win0_2.index t (0 : Fin 2) = 0 ∧ win0_2.index t (1 : Fin 2) = t.val % 4 :=
    (by decide +kernel : ∀ t : Fin grid0.N, win0_2.index t (0 : Fin 2) = 0 ∧ win0_2.index t (1 : Fin 2) = t.val % 4) t
  funext a
  apply Fin.ext
  match a with
  | ⟨0, _⟩ => show win0_2.index t 0 * 512 + 1 * (y 0).val = i0.val; rw [hi.1]; omega
  | ⟨1, _⟩ => show win0_2.index t 1 * 1024 + 1 * (y 1).val = i1.val; rw [hi.2]; omega

/-- The rows of the rotary key. -/
theorem iblk3_apply (c : Dev nD) (t : Fin cfg0.N) (y : S1024x128.Idx) (i0 : Fin 8192) (i1 : Fin 128) (h0 : i0.val = 1024 * (t.val / 4) + (y 0).val) (h1 : i1.val = 0 + (y 1).val) :
    (iblk m c 3 t : Vec Ideal S1024x128 .bf16) y = rOf m c (ix2 i0 i1) := by
  unfold iblk
  rw [View.read_apply]
  show V m c main_arg2 _ = _
  rw [V_main_arg2]
  congr 1
  have hi : win0_3.index t (0 : Fin 2) = t.val / 4 ∧ win0_3.index t (1 : Fin 2) = 0 :=
    (by decide +kernel : ∀ t : Fin grid0.N, win0_3.index t (0 : Fin 2) = t.val / 4 ∧ win0_3.index t (1 : Fin 2) = 0) t
  funext a
  apply Fin.ext
  match a with
  | ⟨0, _⟩ => show win0_3.index t 0 * 1024 + 1 * (y 0).val = i0.val; rw [hi.1]; omega
  | ⟨1, _⟩ => show win0_3.index t 1 * 128 + 1 * (y 1).val = i1.val; rw [hi.2]; omega

/-- The keys at a head, a row and a column. -/
theorem arr4_apply (c : Dev nD) (i0 : Fin 32) (i1 : Fin 8192) (i2 : Fin 256) :
    ((dats m 0 c).arrAt 4 cfg0.N : S32x8192x256.Idx → EReal) (ix3 i0 i1 i2) = keyOf (cOf m c) (wOf m c) (rOf m c) i0 i1 i2 := by
  have l0 := i0.isLt
  have l1 := i1.isLt
  have l2 := i2.isLt
  have hlt : 4 * (i1.val / 1024) + i0.val / 8 < cfg0.N := lt_of_lt_of_eq (show _ < 32 by omega) N_0.symm
  obtain ⟨t, ht⟩ : ∃ t : Fin cfg0.N, t.val = 4 * (i1.val / 1024) + i0.val / 8 := ⟨⟨_, hlt⟩, rfl⟩
  have r0 : i0.val % 8 < 8 := Nat.mod_lt _ (by decide)
  have r1 : i1.val % 1024 < 1024 := Nat.mod_lt _ (by decide)
  have e := congrFun (blocks4 m c t (flush0_4 t)) (ix3 (⟨i0.val % 8, r0⟩ : Fin 8) (⟨i1.val % 1024, r1⟩ : Fin 1024) i2)
  rw [View.read_apply, flushed4] at e
  have hi : win0_4.index t (0 : Fin 3) = t.val % 4 ∧ win0_4.index t (1 : Fin 3) = t.val / 4 ∧ win0_4.index t (2 : Fin 3) = 0 :=
    (by decide +kernel : ∀ t : Fin grid0.N, win0_4.index t (0 : Fin 3) = t.val % 4 ∧ win0_4.index t (1 : Fin 3) = t.val / 4 ∧ win0_4.index t (2 : Fin 3) = 0) t
  have hemb : ((cfg0.win 4).blk t).view.emb (ix3 (⟨i0.val % 8, r0⟩ : Fin 8) (⟨i1.val % 1024, r1⟩ : Fin 1024) i2) = ix3 i0 i1 i2 := by
    funext a
    apply Fin.ext
    match a with
    | ⟨0, _⟩ => show win0_4.index t 0 * 8 + 1 * (i0.val % 8) = i0.val; rw [hi.1]; omega
    | ⟨1, _⟩ => show win0_4.index t 1 * 1024 + 1 * (i1.val % 1024) = i1.val; rw [hi.2.1]; omega
    | ⟨2, _⟩ => show win0_4.index t 2 * 256 + 1 * i2.val = i2.val; rw [hi.2.2]; omega
  rw [hemb] at e
  refine e.trans ?_
  show (out0_4 (iblk m c 0 t) (iblk m c 1 t) (iblk m c 2 t) (iblk m c 3 t) : FVec Ideal S8x1024x256 .bf16) (ix3 (⟨i0.val % 8, r0⟩ : Fin 8) (⟨i1.val % 1024, r1⟩ : Fin 1024) i2) = _
  have e0 (k : Fin 512) := iblk0_apply m c t (ix2 (⟨i1.val % 1024, r1⟩ : Fin 1024) k) i1 k (by show i1.val = 1024 * (t.val / 4) + i1.val % 1024; omega) (by show k.val = 0 + k.val; omega)
  rw [out4_eq]
  unfold keyOf
  by_cases h : i2.val < 128
  · have hn : 128 * (i0.val % 8) + i2.val < 1024 := by omega
    have hN : 1024 * (t.val % 4) + (128 * (i0.val % 8) + i2.val) < 4096 := by omega
    rw [dif_pos h, keyBlock_lt _ _ _ (⟨i1.val % 1024, r1⟩ : Fin 1024) (⟨128 * (i0.val % 8) + i2.val, hn⟩ : Fin 1024) h rfl rfl, pay6_apply]
    have e1 (k : Fin 512) := (iblk1_apply m c t (ix2 k (⟨128 * (i0.val % 8) + i2.val, hn⟩ : Fin 1024)) k ⟨_, hN⟩ (by show k.val = 0 + k.val; omega) rfl).trans
      (V_main_v5_apply m c k ⟨_, hN⟩ (⟨i0.val * 256 + i2.val, by omega⟩ : Fin 8192) (by
        show i0.val * 256 + i2.val = 256 * ((1024 * (t.val % 4) + (128 * (i0.val % 8) + i2.val)) / 128) + (1024 * (t.val % 4) + (128 * (i0.val % 8) + i2.val)) % 128
        omega))
    simp only [e0, e1]
  · rw [dif_neg h, keyBlock_ge _ _ _ (⟨i1.val % 1024, r1⟩ : Fin 1024) (⟨i2.val - 128, by omega⟩ : Fin 128) rfl (by show i2.val = 128 + (i2.val - 128); omega)]
    exact iblk3_apply m c t _ i1 _ (by show i1.val = 1024 * (t.val / 4) + i1.val % 1024; omega) (by show i2.val - 128 = 0 + (i2.val - 128); omega)

/-- The keys as a function of its index. -/
theorem arr4_eq (c : Dev nD) : ((dats m 0 c).arrAt 4 cfg0.N : S32x8192x256.Idx → EReal)
    = fun i => keyOf (cOf m c) (wOf m c) (rOf m c) (i 0 : Fin 32) (i 1 : Fin 8192) (i 2 : Fin 256) := by
  funext i
  rw [eq3 i]
  exact arr4_apply m c _ _ _

/-- The values at a head, a row and a column. -/
theorem arr5_apply (c : Dev nD) (i0 : Fin 32) (i1 : Fin 8192) (i2 : Fin 128) :
    ((dats m 0 c).arrAt 5 cfg0.N : S32x8192x128.Idx → EReal) (ix3 i0 i1 i2) = valueOf (cOf m c) (wOf m c) i0 i1 i2 := by
  have l0 := i0.isLt
  have l1 := i1.isLt
  have l2 := i2.isLt
  have hlt : 4 * (i1.val / 1024) + i0.val / 8 < cfg0.N := lt_of_lt_of_eq (show _ < 32 by omega) N_0.symm
  obtain ⟨t, ht⟩ : ∃ t : Fin cfg0.N, t.val = 4 * (i1.val / 1024) + i0.val / 8 := ⟨⟨_, hlt⟩, rfl⟩
  have r0 : i0.val % 8 < 8 := Nat.mod_lt _ (by decide)
  have r1 : i1.val % 1024 < 1024 := Nat.mod_lt _ (by decide)
  have e := congrFun (blocks5 m c t (flush0_5 t)) (ix3 (⟨i0.val % 8, r0⟩ : Fin 8) (⟨i1.val % 1024, r1⟩ : Fin 1024) i2)
  rw [View.read_apply, flushed5] at e
  have hi : win0_5.index t (0 : Fin 3) = t.val % 4 ∧ win0_5.index t (1 : Fin 3) = t.val / 4 ∧ win0_5.index t (2 : Fin 3) = 0 :=
    (by decide +kernel : ∀ t : Fin grid0.N, win0_5.index t (0 : Fin 3) = t.val % 4 ∧ win0_5.index t (1 : Fin 3) = t.val / 4 ∧ win0_5.index t (2 : Fin 3) = 0) t
  have hemb : ((cfg0.win 5).blk t).view.emb (ix3 (⟨i0.val % 8, r0⟩ : Fin 8) (⟨i1.val % 1024, r1⟩ : Fin 1024) i2) = ix3 i0 i1 i2 := by
    funext a
    apply Fin.ext
    match a with
    | ⟨0, _⟩ => show win0_5.index t 0 * 8 + 1 * (i0.val % 8) = i0.val; rw [hi.1]; omega
    | ⟨1, _⟩ => show win0_5.index t 1 * 1024 + 1 * (i1.val % 1024) = i1.val; rw [hi.2.1]; omega
    | ⟨2, _⟩ => show win0_5.index t 2 * 128 + 1 * i2.val = i2.val; rw [hi.2.2]; omega
  rw [hemb] at e
  refine e.trans ?_
  show (out0_5 (iblk m c 0 t) (iblk m c 1 t) (iblk m c 2 t) (iblk m c 3 t) : FVec Ideal S8x1024x128 .bf16) (ix3 (⟨i0.val % 8, r0⟩ : Fin 8) (⟨i1.val % 1024, r1⟩ : Fin 1024) i2) = _
  have e0 (k : Fin 512) := iblk0_apply m c t (ix2 (⟨i1.val % 1024, r1⟩ : Fin 1024) k) i1 k (by show i1.val = 1024 * (t.val / 4) + i1.val % 1024; omega) (by show k.val = 0 + k.val; omega)
  have hn : (i0.val % 8) * 128 + i2.val < 1024 := by omega
  have hN : 1024 * (t.val % 4) + ((i0.val % 8) * 128 + i2.val) < 4096 := by omega
  unfold valueOf
  refine (out5_apply (iblk m c 0 t) (iblk m c 1 t) (iblk m c 2 t) (iblk m c 3 t) (ix3 (⟨i0.val % 8, r0⟩ : Fin 8) (⟨i1.val % 1024, r1⟩ : Fin 1024) i2)
    (⟨i1.val % 1024, r1⟩ : Fin 1024) (⟨(i0.val % 8) * 128 + i2.val, hn⟩ : Fin 1024) rfl rfl).trans ?_
  rw [pay7_apply]
  have e1 (k : Fin 512) := (iblk2_apply m c t (ix2 k (⟨(i0.val % 8) * 128 + i2.val, hn⟩ : Fin 1024)) k ⟨_, hN⟩ (by show k.val = 0 + k.val; omega) rfl).trans
    (V_main_v8_apply m c k ⟨_, hN⟩ (⟨i0.val * 256 + (128 + i2.val), by omega⟩ : Fin 8192) (by
      show i0.val * 256 + (128 + i2.val) = 256 * ((1024 * (t.val % 4) + ((i0.val % 8) * 128 + i2.val)) / 128) + 128 + (1024 * (t.val % 4) + ((i0.val % 8) * 128 + i2.val)) % 128
      omega))
  simp only [e0, e1]

/-- The values as a function of its index. -/
theorem arr5_eq (c : Dev nD) : ((dats m 0 c).arrAt 5 cfg0.N : S32x8192x128.Idx → EReal)
    = fun i => valueOf (cOf m c) (wOf m c) (i 0 : Fin 32) (i 1 : Fin 8192) (i 2 : Fin 128) := by
  funext i
  rw [eq3 i]
  exact arr5_apply m c _ _ _

end

end Cert.KvIdeal.Hand

end
-- ==== Proof.Rotary.lean ====
/- The rotary positions: a position's angles, and a row of 64 columns turned by them, as the reference states it and as the
   kernels compute it, two rows side by side and the sine's sign in the table. -/
module

public import Idealize.ShloMosaic.Lib.Tactic.ValueTie

@[expose] public section

noncomputable section

namespace Cert.Rotary

open Idealize.ShloMosaic

/-- A position's rotary angle at a column: the position times the power of the column's place in its half. -/
def angle (p : BitVec 32) (j : ℕ) : EReal :=
  FloatOps.sitofp (F := Ideal) .f32 p * Ideal.pow (Ideal.ofBits .f32 0x461C4000#32)
    (Ideal.div (-(Ideal.ofBits .f32 0x40000000#32 * FloatOps.sitofp (F := Ideal) .f32 (BitVec.ofNat 32 (j % 32)))) (Ideal.ofBits .f32 0x42800000#32))

/-- The angle depends on the column's place in its half only. -/
theorem angle_congr (p : BitVec 32) {j j' : ℕ} (h : j % 32 = j' % 32) : angle p j = angle p j' := by
  unfold angle
  rw [h]

/-- A vector of 64 turned by a position's angles: the first half's entry is `x·cos − x'·sin`, the last half's `x'·sin + x·cos`,
    where `x'` is the entry at the same place of the other half. -/
def turned (x : Fin 64 → EReal) (p : BitVec 32) (j : Fin 64) : EReal :=
  if h : j.val < 32 then x j * Ideal.cos (angle p j.val) - x (⟨32 + j.val, by omega⟩ : Fin 64) * Ideal.sin (angle p j.val)
  else x (⟨j.val - 32, by omega⟩ : Fin 64) * Ideal.sin (angle p (j.val - 32)) + x j * Ideal.cos (angle p (j.val - 32))

/-- The angle with the column's place spelt out. -/
theorem angle_lt (p : BitVec 32) {j : ℕ} (h : j < 32) : angle p j = FloatOps.sitofp (F := Ideal) .f32 p * Ideal.pow (Ideal.ofBits .f32 0x461C4000#32)
    (Ideal.div (-(Ideal.ofBits .f32 0x40000000#32 * FloatOps.sitofp (F := Ideal) .f32 (BitVec.ofNat 32 j))) (Ideal.ofBits .f32 0x42800000#32)) := by
  unfold angle
  rw [Nat.mod_eq_of_lt h]

theorem turned_lt (x : Fin 64 → EReal) (p : BitVec 32) (j : Fin 64) (h : j.val < 32) : turned x p j
    = x j * Ideal.cos (FloatOps.sitofp (F := Ideal) .f32 p * Ideal.pow (Ideal.ofBits .f32 0x461C4000#32)
        (Ideal.div (-(Ideal.ofBits .f32 0x40000000#32 * FloatOps.sitofp (F := Ideal) .f32 (BitVec.ofNat 32 j.val))) (Ideal.ofBits .f32 0x42800000#32)))
      - x (⟨32 + j.val, by omega⟩ : Fin 64) * Ideal.sin (FloatOps.sitofp (F := Ideal) .f32 p * Ideal.pow (Ideal.ofBits .f32 0x461C4000#32)
        (Ideal.div (-(Ideal.ofBits .f32 0x40000000#32 * FloatOps.sitofp (F := Ideal) .f32 (BitVec.ofNat 32 j.val))) (Ideal.ofBits .f32 0x42800000#32))) := by
  unfold turned
  rw [dif_pos h, angle_lt p h]

theorem turned_ge (x : Fin 64 → EReal) (p : BitVec 32) (j : Fin 64) (h : 32 ≤ j.val) : turned x p j
    = x (⟨j.val - 32, by omega⟩ : Fin 64) * Ideal.sin (FloatOps.sitofp (F := Ideal) .f32 p * Ideal.pow (Ideal.ofBits .f32 0x461C4000#32)
        (Ideal.div (-(Ideal.ofBits .f32 0x40000000#32 * FloatOps.sitofp (F := Ideal) .f32 (BitVec.ofNat 32 (j.val - 32)))) (Ideal.ofBits .f32 0x42800000#32)))
      + x (⟨32 + (j.val - 32), by omega⟩ : Fin 64) * Ideal.cos (FloatOps.sitofp (F := Ideal) .f32 p * Ideal.pow (Ideal.ofBits .f32 0x461C4000#32)
        (Ideal.div (-(Ideal.ofBits .f32 0x40000000#32 * FloatOps.sitofp (F := Ideal) .f32 (BitVec.ofNat 32 (j.val - 32)))) (Ideal.ofBits .f32 0x42800000#32))) := by
  unfold turned
  rw [dif_neg (by omega), angle_lt p (show j.val - 32 < 32 by omega)]
  exact congrArg (fun i => _ + x i * _) (Fin.ext (by show j.val = 32 + (j.val - 32); omega))

/-- The other half's column, 32 before or after, in a row of 128 columns that is two rows of 64. -/
def partner (n : Fin 128) : Fin 128 := ⟨if n.val % 64 < 32 then (n.val + 32) % 128 else (n.val + 96) % 128, by split <;> omega⟩

/-- The kernel's way of turning, with the sine's sign in the table, is the same. -/
theorem turned_lane (x : Fin 64 → EReal) (p : BitVec 32) (n : Fin 128) (y : Fin 128 → EReal)
    (hy : ∀ i : Fin 128, i.val / 64 = n.val / 64 → y i = x (⟨i.val % 64, Nat.mod_lt _ (by decide)⟩ : Fin 64)) :
    y n * Ideal.cos (angle p n.val) + y (partner n) * (Ideal.sin (angle p n.val) * (if n.val % 64 < 32 then -1 else 1 : EReal))
      = turned x p (⟨n.val % 64, Nat.mod_lt _ (by decide)⟩ : Fin 64) := by
  have hn := n.isLt
  unfold turned
  rw [hy n rfl, hy (partner n) (by
    show (if n.val % 64 < 32 then (n.val + 32) % 128 else (n.val + 96) % 128) / 64 = n.val / 64
    split <;> omega)]
  by_cases h : n.val % 64 < 32
  · rw [dif_pos h, if_pos h, angle_congr p (show n.val % 32 = n.val % 64 % 32 by omega), mul_neg_one, mul_neg, ← sub_eq_add_neg]
    have e : (⟨(partner n).val % 64, Nat.mod_lt _ (by decide)⟩ : Fin 64) = ⟨32 + n.val % 64, by omega⟩ := Fin.ext (by
      show (if n.val % 64 < 32 then (n.val + 32) % 128 else (n.val + 96) % 128) % 64 = 32 + n.val % 64
      rw [if_pos h]; omega)
    rw [e]
  · rw [dif_neg h, if_neg h, angle_congr p (show n.val % 32 = (n.val % 64 - 32) % 32 by omega), mul_one, add_comm]
    have e : (⟨(partner n).val % 64, Nat.mod_lt _ (by decide)⟩ : Fin 64) = ⟨n.val % 64 - 32, by omega⟩ := Fin.ext (by
      show (if n.val % 64 < 32 then (n.val + 32) % 128 else (n.val + 96) % 128) % 64 = n.val % 64 - 32
      rw [if_neg h]; omega)
    rw [e]

/-- Whether a column lies in the first half of its 64, as the kernel asks. -/
abbrev inFirst (b : BitVec 32) : BitVec 1 :=
  IntOp.cmpi .slt (Scalar.select (IntOp.andi (IntOp.xori (IntOp.cmpi .slt (IntOp.remsi .vector b (Scalar.select (Scalar.cmpi .eq 64#32 0#32) 1#32 64#32)) 0#32) (Scalar.cmpi .slt (Scalar.select (Scalar.cmpi .eq 64#32 0#32) 1#32 64#32) 0#32)) (IntOp.cmpi .ne (IntOp.remsi .vector b (Scalar.select (Scalar.cmpi .eq 64#32 0#32) 1#32 64#32)) 0#32)) (IntOp.addi (IntOp.remsi .vector b (Scalar.select (Scalar.cmpi .eq 64#32 0#32) 1#32 64#32)) (Scalar.select (Scalar.cmpi .eq 64#32 0#32) 1#32 64#32)) (IntOp.remsi .vector b (Scalar.select (Scalar.cmpi .eq 64#32 0#32) 1#32 64#32))) 32#32

theorem inFirst_eq : ∀ n : Fin 128, inFirst (BitVec.ofNat 32 n.val) = if n.val % 64 < 32 then 1#1 else 0#1 := by decide +kernel

end Cert.Rotary

end
-- ==== Proof.QTables.lean ====
/- The run of `QIdeal` with its results, and the tables that its first call writes: the cosines and the signed sines of the
   rotary angles, read at an index. -/
module

public import proofs.«01_k».proof.Proof.Gen.QIdeal.Frame
public import proofs.«01_k».proof.Proof.Rotary
public import Idealize.ShloMosaic.Lib.Tactic.ValueTie

@[expose] public section

noncomputable section

namespace Cert.QIdeal.Hand

open Cert.Rotary Cert.QIdeal Cert.QIdeal.Gen Idealize.ShloMosaic Idealize.ShloMosaic.TcCoe Idealize.SL Idealize.SL.Sem
open Idealize.SL.RA Idealize.SL.BI Idealize.SL.BI.BIBase Idealize.SL.BI.Laws Idealize.SL.ProofMode
open Idealize.ShloMosaic.Rounds
open scoped Idealize.SL.BI

section Run
variable {F : FTy → Type} [FloatOps F]
variable (m : (ℓ : Loc nD τ sig) → Buf (Elt F) ℓ) (ρ : Dev nD → PrngReg)

set_option backward.isDefEq.respectTransparency.types false in
/-- Every execution ends with the results as the second call's windows wrote them and with the arguments as given. -/
theorem run : θ_run defs (onTc (τ := τ) (main (F := F))) ⟨m, fun _ => 0, ρ⟩ (fun r => ∀ c : Dev nD,
      r.2.mem ((c.tc : Thread nD τ).loc main_v34) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp)) (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => BI.emp) from by rw [BI.bigSep_emp_const])
      iempintro) (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c => ⟨(h c _ (mem_uc main_v34 (by decide))).trans (W4_arr m ρ c 5),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c)⟩)

end Run

theorem hz2 : (![0, 0] : Fin 2 → Nat) = fun _ => 0 := funext fun a => by fin_cases a <;> rfl

/-- The call that fills the tables stores its payloads whole. -/
theorem out3_eq {F : FTy → Type} [FloatOps F] (x0 : Vec F S512x1 .i32) (x1 x2 : Vec F S1x128 .f32) : out0_3 x0 x1 x2 = k0_pay2 x0 x1 := by
  unfold out0_3
  rw [View.canon_unit_zero hz2]
  simp only [View.ld_unit_zero (S := S512x1) hz2, View.ld_unit_zero (S := S1x128) hz2]

theorem out4_eq {F : FTy → Type} [FloatOps F] (x0 : Vec F S512x1 .i32) (x1 x2 : Vec F S1x128 .f32) : out0_4 x0 x1 x2 = k0_pay3 x0 x1 x2 := by
  unfold out0_4
  rw [View.canon_unit_zero hz2]
  simp only [View.ld_unit_zero (S := S512x1) hz2, View.ld_unit_zero (S := S1x128) hz2]

theorem cos_apply (x0 : Vec Ideal S512x1 .i32) (x1 : Vec Ideal S1x128 .f32) (r : Fin 512) (n : Fin 128) :
    (k0_pay2 x0 x1 : FVec Ideal S512x128 .f32) (ix2 r n) = Ideal.cos (FloatOps.sitofp (F := Ideal) .f32 (x0 (ix2 r (0 : Fin 1)) : BitVec 32) * x1 (ix2 (0 : Fin 1) n) : EReal) := by
  unfold k0_pay2 k0_pay1
  simp only [pointwise]
  rfl

theorem sin_apply (x0 : Vec Ideal S512x1 .i32) (x1 x2 : Vec Ideal S1x128 .f32) (r : Fin 512) (n : Fin 128) :
    (k0_pay3 x0 x1 x2 : FVec Ideal S512x128 .f32) (ix2 r n)
      = Ideal.sin (FloatOps.sitofp (F := Ideal) .f32 (x0 (ix2 r (0 : Fin 1)) : BitVec 32) * x1 (ix2 (0 : Fin 1) n) : EReal) * x2 (ix2 (0 : Fin 1) n) := by
  unfold k0_pay3 k0_pay1
  simp only [pointwise]
  rfl

section Tables
variable (m : (ℓ : Loc nD τ sig) → Buf (Elt Ideal) ℓ) (ρ : Dev nD → PrngReg)

/-- The positions that the program is given. -/
abbrev pOf (c : Dev nD) : S1x8192.Idx → BitVec 32 := m ((c : Thread nD τ).loc main_arg2)

/-- The frequencies, the signs and the positions that the first call is given. -/
theorem freq_apply (c : Dev nD) (n : Fin 128) : (V1 m ρ c main_v14 : Vec Ideal S1x128 .f32) (ix2 (0 : Fin 1) n)
    = Ideal.pow (Ideal.ofBits .f32 0x461C4000#32) (Ideal.div (-(Ideal.ofBits .f32 0x40000000#32 * FloatOps.sitofp (F := Ideal) .f32 (BitVec.ofNat 32 (n.val % 32)))) (Ideal.ofBits .f32 0x42800000#32)) := by
  show StableHlo.after hostOps0 (fun b => m (c, b)) main_v14 _ = _
  after_results
  simp only [pointwise, zero_add, Fin.isValue, Matrix.cons_val, OfNat.ofNat_ne_one, ↓reduceDIte]

theorem sign_apply (c : Dev nD) (n : Fin 128) : (V1 m ρ c main_v22 : Vec Ideal S1x128 .f32) (ix2 (0 : Fin 1) n) = (if n.val % 64 < 32 then -1 else 1 : EReal) := by
  show StableHlo.after hostOps0 (fun b => m (c, b)) main_v22 _ = _
  after_results
  simp only [pointwise, zero_add, Fin.isValue, Matrix.cons_val, OfNat.ofNat_ne_one, ↓reduceDIte]
  rfl

theorem place_apply (c : Dev nD) (s : Fin 8192) : (V1 m ρ c main_v23 : Vec Ideal S8192x1 .i32) (ix2 s (0 : Fin 1)) = pOf m c (ix2 (0 : Fin 1) s) := by
  show StableHlo.after hostOps0 (fun b => m (c, b)) main_v23 _ = _
  after_results
  simp only [pointwise, zero_add, Fin.isValue, Matrix.cons_val, OfNat.ofNat_ne_one, ↓reduceDIte]

/-- What a point of the first call stages of each. -/
theorem places (c : Dev nD) (t : Fin cfg0.N) (r : Fin 512) (s : Fin 8192) (hs : s.val = 512 * t.val + r.val) :
    (iblk0 (V1 m ρ) c 0 t : Vec Ideal S512x1 .i32) (ix2 r (0 : Fin 1)) = pOf m c (ix2 (0 : Fin 1) s) := by
  rw [← place_apply m ρ c s]
  unfold iblk0
  rw [View.read_apply]
  show V1 m ρ c main_v23 _ = _
  congr 1
  have hi : win0_0.index t (0 : Fin 2) = t.val ∧ win0_0.index t (1 : Fin 2) = 0 :=
    (by decide +kernel : ∀ t : Fin grid0.N, win0_0.index t (0 : Fin 2) = t.val ∧ win0_0.index t (1 : Fin 2) = 0) t
  funext a
  apply Fin.ext
  match a with
  | ⟨0, _⟩ => show win0_0.index t 0 * 512 + 1 * r.val = s.val; rw [hi.1]; omega
  | ⟨1, _⟩ => show win0_0.index t 1 * 1 + 1 * 0 = 0; rw [hi.2]

theorem freqs (c : Dev nD) (t : Fin cfg0.N) (n : Fin 128) :
    (iblk0 (V1 m ρ) c 1 t : Vec Ideal S1x128 .f32) (ix2 (0 : Fin 1) n) = (V1 m ρ c main_v14 : Vec Ideal S1x128 .f32) (ix2 (0 : Fin 1) n) := by
  unfold iblk0
  rw [View.read_apply]
  show V1 m ρ c main_v14 _ = _
  congr 1
  have hi : win0_1.index t (0 : Fin 2) = 0 ∧ win0_1.index t (1 : Fin 2) = 0 :=
    (by decide +kernel : ∀ t : Fin grid0.N, win0_1.index t (0 : Fin 2) = 0 ∧ win0_1.index t (1 : Fin 2) = 0) t
  funext a
  apply Fin.ext
  match a with
  | ⟨0, _⟩ => show win0_1.index t 0 * 1 + 1 * 0 = 0; rw [hi.1]
  | ⟨1, _⟩ => show win0_1.index t 1 * 128 + 1 * n.val = n.val; rw [hi.2]; omega

theorem signs (c : Dev nD) (t : Fin cfg0.N) (n : Fin 128) :
    (iblk0 (V1 m ρ) c 2 t : Vec Ideal S1x128 .f32) (ix2 (0 : Fin 1) n) = (V1 m ρ c main_v22 : Vec Ideal S1x128 .f32) (ix2 (0 : Fin 1) n) := by
  unfold iblk0
  rw [View.read_apply]
  show V1 m ρ c main_v22 _ = _
  congr 1
  have hi : win0_2.index t (0 : Fin 2) = 0 ∧ win0_2.index t (1 : Fin 2) = 0 :=
    (by decide +kernel : ∀ t : Fin grid0.N, win0_2.index t (0 : Fin 2) = 0 ∧ win0_2.index t (1 : Fin 2) = 0) t
  funext a
  apply Fin.ext
  match a with
  | ⟨0, _⟩ => show win0_2.index t 0 * 1 + 1 * 0 = 0; rw [hi.1]
  | ⟨1, _⟩ => show win0_2.index t 1 * 128 + 1 * n.val = n.val; rw [hi.2]; omega

theorem injective3 : ∀ t t' : Fin cfg0.N, win0_3.index t = win0_3.index t' → t = t' :=
  (by decide +kernel : ∀ t t' : Fin grid0.N, win0_3.index t = win0_3.index t' → t = t')

/-- The table of cosines that the second call is given, at a position and a column. -/
theorem cosTable_apply (c : Dev nD) (s : Fin 8192) (n : Fin 128) :
    (V3 m ρ c main_v24_0 : Vec Ideal S8192x128 .f32) (ix2 s n) = Ideal.cos (angle (pOf m c (ix2 (0 : Fin 1) s)) n.val) := by
  have ls := s.isLt
  have hlt : s.val / 512 < cfg0.N := lt_of_lt_of_eq (show _ < 16 by omega) N_0.symm
  obtain ⟨t, ht⟩ : ∃ t : Fin cfg0.N, t.val = s.val / 512 := ⟨⟨_, hlt⟩, rfl⟩
  have e := congrFun ((dat0 (V1 m ρ) c).read_blk_arrAt_eq_flushed 3
    (fun t t' _ _ hne => (cfg0.win 3).disjoint_blk fun h => hne (injective3 t t' h)) cfg0.N t t.isLt (flush0_3 t)) (ix2 (⟨s.val % 512, Nat.mod_lt _ (by decide)⟩ : Fin 512) n)
  have hi : win0_3.index t (0 : Fin 2) = t.val ∧ win0_3.index t (1 : Fin 2) = 0 :=
    (by decide +kernel : ∀ t : Fin grid0.N, win0_3.index t (0 : Fin 2) = t.val ∧ win0_3.index t (1 : Fin 2) = 0) t
  have hemb : ((cfg0.win 3).blk t).view.emb (ix2 (⟨s.val % 512, Nat.mod_lt _ (by decide)⟩ : Fin 512) n) = ix2 s n := by
    funext a
    apply Fin.ext
    match a with
    | ⟨0, _⟩ => show win0_3.index t 0 * 512 + 1 * (s.val % 512) = s.val; rw [hi.1]; omega
    | ⟨1, _⟩ => show win0_3.index t 1 * 128 + 1 * n.val = n.val; rw [hi.2]; omega
  rw [View.read_apply, hemb] at e
  refine (congrFun ((W3_of m ρ c main_v24_0 (by decide)).trans (W2_arr m ρ c 3)) (ix2 s n)).trans (e.trans ?_)
  show ((cfg0.win 3).cut (grid0.coords t) ((dat0 (V1 m ρ) c).after 3 t)) _ = _
  rw [after0_3]
  show (out0_3 (iblk0 (V1 m ρ) c 0 t) (iblk0 (V1 m ρ) c 1 t) (iblk0 (V1 m ρ) c 2 t) : FVec Ideal S512x128 .f32) (ix2 (⟨s.val % 512, Nat.mod_lt _ (by decide)⟩ : Fin 512) n) = _
  rw [out3_eq, cos_apply, freqs, freq_apply, places m ρ c t _ s (by show s.val = 512 * t.val + s.val % 512; omega)]
  rfl

theorem injective4 : ∀ t t' : Fin cfg0.N, win0_4.index t = win0_4.index t' → t = t' :=
  (by decide +kernel : ∀ t t' : Fin grid0.N, win0_4.index t = win0_4.index t' → t = t')

/-- The table of signed sines that the second call is given, at a position and a column. -/
theorem sinTable_apply (c : Dev nD) (s : Fin 8192) (n : Fin 128) :
    (V3 m ρ c main_v24_1 : Vec Ideal S8192x128 .f32) (ix2 s n) = Ideal.sin (angle (pOf m c (ix2 (0 : Fin 1) s)) n.val) * (if n.val % 64 < 32 then -1 else 1 : EReal) := by
  have ls := s.isLt
  have hlt : s.val / 512 < cfg0.N := lt_of_lt_of_eq (show _ < 16 by omega) N_0.symm
  obtain ⟨t, ht⟩ : ∃ t : Fin cfg0.N, t.val = s.val / 512 := ⟨⟨_, hlt⟩, rfl⟩
  have e := congrFun ((dat0 (V1 m ρ) c).read_blk_arrAt_eq_flushed 4
    (fun t t' _ _ hne => (cfg0.win 4).disjoint_blk fun h => hne (injective4 t t' h)) cfg0.N t t.isLt (flush0_4 t)) (ix2 (⟨s.val % 512, Nat.mod_lt _ (by decide)⟩ : Fin 512) n)
  have hi : win0_4.index t (0 : Fin 2) = t.val ∧ win0_4.index t (1 : Fin 2) = 0 :=
    (by decide +kernel : ∀ t : Fin grid0.N, win0_4.index t (0 : Fin 2) = t.val ∧ win0_4.index t (1 : Fin 2) = 0) t
  have hemb : ((cfg0.win 4).blk t).view.emb (ix2 (⟨s.val % 512, Nat.mod_lt _ (by decide)⟩ : Fin 512) n) = ix2 s n := by
    funext a
    apply Fin.ext
    match a with
    | ⟨0, _⟩ => show win0_4.index t 0 * 512 + 1 * (s.val % 512) = s.val; rw [hi.1]; omega
    | ⟨1, _⟩ => show win0_4.index t 1 * 128 + 1 * n.val = n.val; rw [hi.2]; omega
  rw [View.read_apply, hemb] at e
  refine (congrFun ((W3_of m ρ c main_v24_1 (by decide)).trans (W2_arr m ρ c 4)) (ix2 s n)).trans (e.trans ?_)
  show ((cfg0.win 4).cut (grid0.coords t) ((dat0 (V1 m ρ) c).after 4 t)) _ = _
  rw [after0_4]
  show (out0_4 (iblk0 (V1 m ρ) c 0 t) (iblk0 (V1 m ρ) c 1 t) (iblk0 (V1 m ρ) c 2 t) : FVec Ideal S512x128 .f32) (ix2 (⟨s.val % 512, Nat.mod_lt _ (by decide)⟩ : Fin 512) n) = _
  rw [out4_eq, sin_apply, freqs, signs, sign_apply, freq_apply, places m ρ c t _ s (by show s.val = 512 * t.val + s.val % 512; omega)]
  rfl

end Tables

end Cert.QIdeal.Hand

end
-- ==== Proof.QValue.lean ====
/- The value of `QIdeal`, the queries of all heads: the blocks that a point of its second call loads, the tiles it stores,
   and the result array read at an index. -/
module

public import proofs.«01_k».proof.Proof.QTables
public import proofs.«01_k».proof.Proof.Gen.QRefIdeal.Run

@[expose] public section

noncomputable section

namespace Cert.QIdeal.Hand

open Cert.Rotary Cert.QIdeal Cert.QIdeal.Gen Idealize.ShloMosaic Idealize.ShloMosaic.TcCoe Idealize.SL.Sem

/-- An index of three axes is its coordinates. -/
theorem eq3 {a b d : Nat} (i : (⟨3, ![a, b, d]⟩ : Shape).Idx) : i = ix3 (i 0 : Fin a) (i 1 : Fin b) (i 2 : Fin d) :=
  funext fun x => by match x with | ⟨0, _⟩ => rfl | ⟨1, _⟩ => rfl | ⟨2, _⟩ => rfl

/-- The scale that the queries carry. -/
abbrev scale : EReal := Ideal.ofBits .f32 0x3DD53B95#32

/-- The two products, read at an index: that of the plain columns scaled, that of the rotary columns not. -/
theorem pay2_apply (x0 : Vec Ideal S1024x1536 .bf16) (x1 : Vec Ideal S1536x1024 .bf16) (r n : Fin 1024) :
    (k1_pay2 x0 x1 : FVec Ideal S1024x1024 .f32) (ix2 r n) = ((∑ k : Fin 1536, x0 (ix2 r k) * x1 (ix2 k n)) * scale : EReal) := by
  unfold k1_pay2
  simp only [pointwise, zero_add]

theorem pay3_apply (x0 : Vec Ideal S1024x1536 .bf16) (x1 : Vec Ideal S1536x512 .bf16) (r : Fin 1024) (n : Fin 512) :
    (k1_pay3 x0 x1 : FVec Ideal S1024x512 .f32) (ix2 r n) = (∑ k : Fin 1536, x0 (ix2 r k) * x1 (ix2 k n) : EReal) := by
  unfold k1_pay3
  simp only [pointwise, zero_add]

theorem pay4_apply (x : Vec Ideal S1024x128 .f32) (r : Fin 1024) (n : Fin 128) : (k1_pay4 x : FVec Ideal S1024x128 .f32) (ix2 r n) = (x (ix2 r n) : EReal) := by
  unfold k1_pay4
  simp only [pointwise]

theorem pay5_apply (x : Vec Ideal S1024x128 .f32) (r : Fin 1024) (n : Fin 128) : (k1_pay5 x : FVec Ideal S1024x128 .f32) (ix2 r n) = (x (ix2 r n) : EReal) := by
  unfold k1_pay5
  simp only [pointwise]

/-- The columns' numbers, and the divisor that the kernel takes them by. -/
abbrev lanes : IVec S1024x128 32 := iota .tc S1024x128 32 [1] iota_S1024x128_d1_w32
abbrev sixtyFour : BitVec 32 := Scalar.select (Scalar.cmpi .eq 64#32 0#32) 1#32 64#32

/-- Two heads' rotary columns turned and scaled, read at an index. -/
theorem pay16_apply (v10 v12 v : FVec Ideal S1024x128 .f32) (r : Fin 1024) (n : Fin 128) :
    k1_pay16 v10 v12 v lanes sixtyFour (ix2 r n)
      = ((v (ix2 r n) * v10 (ix2 r n) + v (ix2 r (partner n)) * v12 (ix2 r n)) * scale : EReal) := by
  unfold k1_pay16
  simp only [pointwise, zero_add, Fin.isValue, Matrix.cons_val, OfNat.ofNat_ne_one, ↓reduceDIte]
  refine congrArg₂ (· * ·) (congrArg₂ (· + ·) rfl (congrArg₂ (· * ·) ?_ rfl)) rfl
  have ln := n.isLt
  show Scalar.select (inFirst (BitVec.ofNat 32 (0 * 128 + n.val))) (v (ix2 r (⟨(n.val + 128 - 96 % 128) % 128, by omega⟩ : Fin 128))) (v (ix2 r (⟨(n.val + 128 - 32 % 128) % 128, by omega⟩ : Fin 128))) = _
  rw [Nat.zero_mul, Nat.zero_add, inFirst_eq]
  unfold partner
  by_cases h : n.val % 64 < 32
  · rw [if_pos h]
    show v _ = _
    exact congrArg v (congrArg (ix2 r) (Fin.ext (by show (n.val + 128 - 96 % 128) % 128 = if n.val % 64 < 32 then (n.val + 32) % 128 else (n.val + 96) % 128; rw [if_pos h]; omega)))
  · rw [if_neg h]
    show v _ = _
    exact congrArg v (congrArg (ix2 r) (Fin.ext (by show (n.val + 128 - 32 % 128) % 128 = if n.val % 64 < 32 then (n.val + 32) % 128 else (n.val + 96) % 128; rw [if_neg h]; omega)))

/-- Whether a column is one of the first 64, and one of the last. -/
theorem slt_eq : ∀ n : Fin 128, IntOp.cmpi .slt (BitVec.ofNat 32 n.val) 64#32 = if n.val < 64 then 1#1 else 0#1 := by decide +kernel
theorem sge_eq : ∀ n : Fin 128, IntOp.cmpi .sge (BitVec.ofNat 32 n.val) 64#32 = if n.val < 64 then 0#1 else 1#1 := by decide +kernel

/-- The rotary columns of a head: those of its 64 that its parity says, and zeros at the others. -/
def rotaryTile (v : FVec Ideal S1024x512 .f32) (v10 v12 : FVec Ideal S1024x128 .f32) (h : Fin 8) (r : Fin 1024) (n : Fin 128) : EReal :=
  if (n.val < 64 ↔ h.val % 2 = 0) then
    (v (ix2 r (⟨128 * (h.val / 2) + n.val, by omega⟩ : Fin 512)) * v10 (ix2 r n) + v (ix2 r (⟨128 * (h.val / 2) + (partner n).val, by have := (partner n).isLt; omega⟩ : Fin 512)) * v12 (ix2 r n)) * scale
  else 0

/-- A block of queries: each head's columns of the scaled product, and after them its rotary columns. -/
def queryBlock (p : FVec Ideal S1024x1024 .f32) (v : FVec Ideal S1024x512 .f32) (v10 v12 : FVec Ideal S1024x128 .f32) : Vec Ideal S8x1024x256 .bf16 := fun y =>
  if h : (y 2).val < 128 then p (ix2 (y 1 : Fin 1024) (⟨128 * (y 0).val + (y 2).val, by have h0 : (y 0).val < 8 := (y 0).isLt; omega⟩ : Fin 1024))
  else rotaryTile v v10 v12 (y 0 : Fin 8) (y 1 : Fin 1024) (⟨(y 2).val - 128, by have h2 : (y 2).val < 256 := (y 2).isLt; omega⟩ : Fin 128)

theorem queryBlock_lt (p : FVec Ideal S1024x1024 .f32) (v : FVec Ideal S1024x512 .f32) (v10 v12 : FVec Ideal S1024x128 .f32) (y : S8x1024x256.Idx) (r n : Fin 1024)
    (h : (y 2).val < 128) (hr : r.val = (y 1).val) (hn : n.val = 128 * (y 0).val + (y 2).val) : queryBlock p v v10 v12 y = p (ix2 r n) := by
  unfold queryBlock
  rw [dif_pos h]
  exact congrArg p (congrArg₂ ix2 (Fin.ext hr.symm) (Fin.ext hn.symm))

theorem queryBlock_ge (p : FVec Ideal S1024x1024 .f32) (v : FVec Ideal S1024x512 .f32) (v10 v12 : FVec Ideal S1024x128 .f32) (y : S8x1024x256.Idx) (h : Fin 8) (r : Fin 1024) (n : Fin 128)
    (hh : h.val = (y 0).val) (hr : r.val = (y 1).val) (hn : (y 2).val = 128 + n.val) : queryBlock p v v10 v12 y = rotaryTile v v10 v12 h r n := by
  unfold queryBlock
  rw [dif_neg (by omega), show h = (y 0 : Fin 8) from Fin.ext hh, show r = (y 1 : Fin 1024) from Fin.ext hr]
  exact congrArg (rotaryTile v v10 v12 _ _) (Fin.ext (by show (y 2).val - 128 = n.val; omega))

/-- One head's columns of the scaled product, laid out as that head's tile, are its part of the block. -/
theorem tile_query (p : FVec Ideal S1024x1024 .f32) (v : FVec Ideal S1024x512 .f32) (v10 v12 : FVec Ideal S1024x128 .f32) (h : Nat) (hh : h < 8)
    (hs : S1024x1024.Slices ![0, 128 * h] S1024x128) (hb : FTy.bits .bf16 < FTy.bits .f32) (hc : S1024x128.ShapeCasts S1x1024x128)
    (x : S1x1024x128.Idx) (y : S8x1024x256.Idx) (y0 : (y 0).val = h + 1 * (x 0).val) (y1 : (y 1).val = 0 + 1 * (x 1).val) (y2 : (y 2).val = 0 + 1 * (x 2).val) :
    (shapeCast S1x1024x128 (truncf .bf16 (extractStridedSlice S1024x128 ![0, 128 * h] p hs) hb) hc : FVec Ideal S1x1024x128 .bf16) x = queryBlock p v v10 v12 y := by
  have hx0 : (x 0).val < 1 := (x 0).isLt
  have hx1 : (x 1).val < 1024 := (x 1).isLt
  have hx2 : (x 2).val < 128 := (x 2).isLt
  have hn : 128 * h + (x 2).val < 1024 := by omega
  refine (shapeCast_apply _ _ x (ix2 (x 1 : Fin 1024) (x 2 : Fin 128)) (by
    rw [Shape.rowMajor_val_two, Shape.rowMajor_val_three]
    show (x 1).val * 128 + (x 2).val = ((x 0).val * 1024 + (x 1).val) * 128 + (x 2).val
    omega)).trans ?_
  show extractStridedSlice S1024x128 ![0, 128 * h] p hs (ix2 (x 1 : Fin 1024) (x 2 : Fin 128)) = _
  refine (extractStridedSlice_apply ![0, 128 * h] _ _ _ (ix2 (⟨(x 1).val, hx1⟩ : Fin 1024) (⟨128 * h + (x 2).val, hn⟩ : Fin 1024)) (fun a => match a with
    | ⟨0, _⟩ => by show (x 1).val = 0 + (x 1).val; omega
    | ⟨1, _⟩ => by show 128 * h + (x 2).val = 128 * h + (x 2).val; rfl)).trans ?_
  exact (queryBlock_lt p v v10 v12 y _ _ (by omega) (by show (x 1).val = _; omega) (by show 128 * h + (x 2).val = _; rw [y0, y2]; omega)).symm

/-- A pair's turned columns, read at an index of the product. -/
theorem pair_apply (v : FVec Ideal S1024x512 .f32) (v10 v12 : FVec Ideal S1024x128 .f32) (g : Nat) (hg : g < 4)
    (hs : S1024x512.Slices ![0, 128 * g] S1024x128) (r : Fin 1024) (n : Fin 128) :
    k1_pay16 v10 v12 (extractStridedSlice S1024x128 ![0, 128 * g] v hs) lanes sixtyFour (ix2 r n)
      = ((v (ix2 r (⟨128 * g + n.val, by omega⟩ : Fin 512)) * v10 (ix2 r n) + v (ix2 r (⟨128 * g + (partner n).val, by have := (partner n).isLt; omega⟩ : Fin 512)) * v12 (ix2 r n)) * scale : EReal) := by
  have e (i : Fin 128) : extractStridedSlice S1024x128 ![0, 128 * g] v hs (ix2 r i) = v (ix2 r (⟨128 * g + i.val, by omega⟩ : Fin 512)) :=
    extractStridedSlice_apply ![0, 128 * g] _ _ _ (ix2 r (⟨128 * g + i.val, by omega⟩ : Fin 512)) (fun a => match a with
      | ⟨0, _⟩ => by show r.val = 0 + r.val; omega
      | ⟨1, _⟩ => by show 128 * g + i.val = 128 * g + i.val; rfl)
  rw [pay16_apply, e, e]

/-- An even head's tile of rotary columns is its part of the block. -/
theorem even_query (p : FVec Ideal S1024x1024 .f32) (v : FVec Ideal S1024x512 .f32) (v10 v12 : FVec Ideal S1024x128 .f32) (g : Nat) (hg : g < 4)
    (hs : S1024x512.Slices ![0, 128 * g] S1024x128) (hb : FTy.bits .bf16 < FTy.bits .f32) (hc : S1024x128.ShapeCasts S1x1024x128)
    (x : S1x1024x128.Idx) (y : S8x1024x256.Idx) (y0 : (y 0).val = 2 * g + 1 * (x 0).val) (y1 : (y 1).val = 0 + 1 * (x 1).val) (y2 : (y 2).val = 128 + 1 * (x 2).val) :
    (shapeCast S1x1024x128 (truncf .bf16 (select (cmpi .slt lanes (broadcast S1024x128 64#32)) (k1_pay16 v10 v12 (extractStridedSlice S1024x128 ![0, 128 * g] v hs) lanes sixtyFour)
      (broadcast S1024x128 (Scalar.ofBits .f32 0x00000000#32 : Ideal .f32))) hb) hc : FVec Ideal S1x1024x128 .bf16) x = queryBlock p v v10 v12 y := by
  have hx0 : (x 0).val < 1 := (x 0).isLt
  have hx1 : (x 1).val < 1024 := (x 1).isLt
  have hx2 : (x 2).val < 128 := (x 2).isLt
  obtain ⟨r, hr⟩ : ∃ r : Fin 1024, r.val = (x 1).val := ⟨⟨_, hx1⟩, rfl⟩
  obtain ⟨n, hn⟩ : ∃ n : Fin 128, n.val = (x 2).val := ⟨⟨_, hx2⟩, rfl⟩
  obtain ⟨h, hh⟩ : ∃ h : Fin 8, h.val = 2 * g := ⟨⟨2 * g, by omega⟩, rfl⟩
  refine (shapeCast_apply _ _ x (ix2 r n) (by
    rw [Shape.rowMajor_val_two, Shape.rowMajor_val_three]
    show r.val * 128 + n.val = ((x 0).val * 1024 + (x 1).val) * 128 + (x 2).val
    omega)).trans ?_
  rw [queryBlock_ge p v v10 v12 y h r n (by omega) (by omega) (by omega)]
  show Scalar.select (IntOp.cmpi .slt (BitVec.ofNat 32 (0 * 128 + n.val)) 64#32) ((k1_pay16 v10 v12 (extractStridedSlice S1024x128 ![0, 128 * g] v hs) lanes sixtyFour) (ix2 r n)) (Ideal.ofBits .f32 0x00000000#32) = _
  rw [Nat.zero_mul, Nat.zero_add, slt_eq, pair_apply v v10 v12 g hg hs r n]
  unfold rotaryTile
  have hg2 : h.val / 2 = g := by omega
  subst hg2
  by_cases hlt : n.val < 64
  · rw [if_pos hlt, if_pos (by omega)]
    rfl
  · rw [if_neg hlt, if_neg (by omega)]
    exact Ideal.ofBits_zero_f32

/-- An odd head's tile of rotary columns is its part of the block. -/
theorem odd_query (p : FVec Ideal S1024x1024 .f32) (v : FVec Ideal S1024x512 .f32) (v10 v12 : FVec Ideal S1024x128 .f32) (g : Nat) (hg : g < 4)
    (hs : S1024x512.Slices ![0, 128 * g] S1024x128) (hb : FTy.bits .bf16 < FTy.bits .f32) (hc : S1024x128.ShapeCasts S1x1024x128)
    (x : S1x1024x128.Idx) (y : S8x1024x256.Idx) (y0 : (y 0).val = 2 * g + 1 + 1 * (x 0).val) (y1 : (y 1).val = 0 + 1 * (x 1).val) (y2 : (y 2).val = 128 + 1 * (x 2).val) :
    (shapeCast S1x1024x128 (truncf .bf16 (select (cmpi .sge lanes (broadcast S1024x128 64#32)) (k1_pay16 v10 v12 (extractStridedSlice S1024x128 ![0, 128 * g] v hs) lanes sixtyFour)
      (broadcast S1024x128 (Scalar.ofBits .f32 0x00000000#32 : Ideal .f32))) hb) hc : FVec Ideal S1x1024x128 .bf16) x = queryBlock p v v10 v12 y := by
  have hx0 : (x 0).val < 1 := (x 0).isLt
  have hx1 : (x 1).val < 1024 := (x 1).isLt
  have hx2 : (x 2).val < 128 := (x 2).isLt
  obtain ⟨r, hr⟩ : ∃ r : Fin 1024, r.val = (x 1).val := ⟨⟨_, hx1⟩, rfl⟩
  obtain ⟨n, hn⟩ : ∃ n : Fin 128, n.val = (x 2).val := ⟨⟨_, hx2⟩, rfl⟩
  obtain ⟨h, hh⟩ : ∃ h : Fin 8, h.val = 2 * g + 1 := ⟨⟨2 * g + 1, by omega⟩, rfl⟩
  refine (shapeCast_apply _ _ x (ix2 r n) (by
    rw [Shape.rowMajor_val_two, Shape.rowMajor_val_three]
    show r.val * 128 + n.val = ((x 0).val * 1024 + (x 1).val) * 128 + (x 2).val
    omega)).trans ?_
  rw [queryBlock_ge p v v10 v12 y h r n (by omega) (by omega) (by omega)]
  show Scalar.select (IntOp.cmpi .sge (BitVec.ofNat 32 (0 * 128 + n.val)) 64#32) ((k1_pay16 v10 v12 (extractStridedSlice S1024x128 ![0, 128 * g] v hs) lanes sixtyFour) (ix2 r n)) (Ideal.ofBits .f32 0x00000000#32) = _
  rw [Nat.zero_mul, Nat.zero_add, sge_eq, pair_apply v v10 v12 g hg hs r n]
  unfold rotaryTile
  have hg2 : h.val / 2 = g := by omega
  subst hg2
  by_cases hlt : n.val < 64
  · rw [if_pos hlt, if_neg (by omega)]
    exact Ideal.ofBits_zero_f32
  · rw [if_neg hlt, if_pos (by omega)]
    rfl

/-- A point's store is the block of queries of what it loads. -/
theorem out5_eq (x0 : Vec Ideal S1024x1536 .bf16) (x1 : Vec Ideal S1536x1024 .bf16) (x2 : Vec Ideal S1536x512 .bf16) (x3 x4 : Vec Ideal S1024x128 .f32) :
    out1_5 x0 x1 x2 x3 x4 = queryBlock (k1_pay2 x0 x1) (k1_pay3 x0 x2) (k1_pay4 x3) (k1_pay5 x4) := by
  unfold out1_5 k1_pay55 k1_pay54 k1_pay53 k1_pay52 k1_pay51 k1_pay50 k1_pay49 k1_pay48 k1_pay47 k1_pay46 k1_pay45 k1_pay44 k1_pay43 k1_pay42 k1_pay41 k1_pay40 k1_pay39
  simp only [View.ld_unit_zero (S := S1024x1536) hz2, View.ld_unit_zero (S := S1536x1024) hz2, View.ld_unit_zero (S := S1536x512) hz2, View.ld_unit_zero (S := S1024x128) hz2]
  funext y
  refine View.canon_apply_of_pieces (queryBlock (k1_pay2 x0 x1) (k1_pay3 x0 x2) (k1_pay4 x3) (k1_pay5 x4)) _ ?_ y (cover1_5 _ _ _ _ _ _ _ _ _ _ _ _ _ _ _ _ y)
  intro pc hpc
  rcases List.mem_cons.mp hpc with rfl | hpc
  · exact fun x => odd_query (k1_pay2 x0 x1) (k1_pay3 x0 x2) (k1_pay4 x3) (k1_pay5 x4) 3 (by decide) slices_S1024x512_o0_384_S1024x128 bitsLt_bf16_f32 shapeCasts_S1024x128_S1x1024x128 x _ rfl rfl rfl
  rcases List.mem_cons.mp hpc with rfl | hpc
  · exact fun x => tile_query (k1_pay2 x0 x1) (k1_pay3 x0 x2) (k1_pay4 x3) (k1_pay5 x4) 7 (by decide) slices_S1024x1024_o0_896_S1024x128 bitsLt_bf16_f32 shapeCasts_S1024x128_S1x1024x128 x _ rfl rfl rfl
  rcases List.mem_cons.mp hpc with rfl | hpc
  · exact fun x => even_query (k1_pay2 x0 x1) (k1_pay3 x0 x2) (k1_pay4 x3) (k1_pay5 x4) 3 (by decide) slices_S1024x512_o0_384_S1024x128 bitsLt_bf16_f32 shapeCasts_S1024x128_S1x1024x128 x _ rfl rfl rfl
  rcases List.mem_cons.mp hpc with rfl | hpc
  · exact fun x => tile_query (k1_pay2 x0 x1) (k1_pay3 x0 x2) (k1_pay4 x3) (k1_pay5 x4) 6 (by decide) slices_S1024x1024_o0_768_S1024x128 bitsLt_bf16_f32 shapeCasts_S1024x128_S1x1024x128 x _ rfl rfl rfl
  rcases List.mem_cons.mp hpc with rfl | hpc
  · exact fun x => odd_query (k1_pay2 x0 x1) (k1_pay3 x0 x2) (k1_pay4 x3) (k1_pay5 x4) 2 (by decide) slices_S1024x512_o0_256_S1024x128 bitsLt_bf16_f32 shapeCasts_S1024x128_S1x1024x128 x _ rfl rfl rfl
  rcases List.mem_cons.mp hpc with rfl | hpc
  · exact fun x => tile_query (k1_pay2 x0 x1) (k1_pay3 x0 x2) (k1_pay4 x3) (k1_pay5 x4) 5 (by decide) slices_S1024x1024_o0_640_S1024x128 bitsLt_bf16_f32 shapeCasts_S1024x128_S1x1024x128 x _ rfl rfl rfl
  rcases List.mem_cons.mp hpc with rfl | hpc
  · exact fun x => even_query (k1_pay2 x0 x1) (k1_pay3 x0 x2) (k1_pay4 x3) (k1_pay5 x4) 2 (by decide) slices_S1024x512_o0_256_S1024x128 bitsLt_bf16_f32 shapeCasts_S1024x128_S1x1024x128 x _ rfl rfl rfl
  rcases List.mem_cons.mp hpc with rfl | hpc
  · exact fun x => tile_query (k1_pay2 x0 x1) (k1_pay3 x0 x2) (k1_pay4 x3) (k1_pay5 x4) 4 (by decide) slices_S1024x1024_o0_512_S1024x128 bitsLt_bf16_f32 shapeCasts_S1024x128_S1x1024x128 x _ rfl rfl rfl
  rcases List.mem_cons.mp hpc with rfl | hpc
  · exact fun x => odd_query (k1_pay2 x0 x1) (k1_pay3 x0 x2) (k1_pay4 x3) (k1_pay5 x4) 1 (by decide) slices_S1024x512_o0_128_S1024x128 bitsLt_bf16_f32 shapeCasts_S1024x128_S1x1024x128 x _ rfl rfl rfl
  rcases List.mem_cons.mp hpc with rfl | hpc
  · exact fun x => tile_query (k1_pay2 x0 x1) (k1_pay3 x0 x2) (k1_pay4 x3) (k1_pay5 x4) 3 (by decide) slices_S1024x1024_o0_384_S1024x128 bitsLt_bf16_f32 shapeCasts_S1024x128_S1x1024x128 x _ rfl rfl rfl
  rcases List.mem_cons.mp hpc with rfl | hpc
  · exact fun x => even_query (k1_pay2 x0 x1) (k1_pay3 x0 x2) (k1_pay4 x3) (k1_pay5 x4) 1 (by decide) slices_S1024x512_o0_128_S1024x128 bitsLt_bf16_f32 shapeCasts_S1024x128_S1x1024x128 x _ rfl rfl rfl
  rcases List.mem_cons.mp hpc with rfl | hpc
  · exact fun x => tile_query (k1_pay2 x0 x1) (k1_pay3 x0 x2) (k1_pay4 x3) (k1_pay5 x4) 2 (by decide) slices_S1024x1024_o0_256_S1024x128 bitsLt_bf16_f32 shapeCasts_S1024x128_S1x1024x128 x _ rfl rfl rfl
  rcases List.mem_cons.mp hpc with rfl | hpc
  · exact fun x => odd_query (k1_pay2 x0 x1) (k1_pay3 x0 x2) (k1_pay4 x3) (k1_pay5 x4) 0 (by decide) slices_S1024x512_o0_0_S1024x128 bitsLt_bf16_f32 shapeCasts_S1024x128_S1x1024x128 x _ rfl rfl rfl
  rcases List.mem_cons.mp hpc with rfl | hpc
  · exact fun x => tile_query (k1_pay2 x0 x1) (k1_pay3 x0 x2) (k1_pay4 x3) (k1_pay5 x4) 1 (by decide) slices_S1024x1024_o0_128_S1024x128 bitsLt_bf16_f32 shapeCasts_S1024x128_S1x1024x128 x _ rfl rfl rfl
  rcases List.mem_cons.mp hpc with rfl | hpc
  · exact fun x => even_query (k1_pay2 x0 x1) (k1_pay3 x0 x2) (k1_pay4 x3) (k1_pay5 x4) 0 (by decide) slices_S1024x512_o0_0_S1024x128 bitsLt_bf16_f32 shapeCasts_S1024x128_S1x1024x128 x _ rfl rfl rfl
  rcases List.mem_cons.mp hpc with rfl | hpc
  · exact fun x => tile_query (k1_pay2 x0 x1) (k1_pay3 x0 x2) (k1_pay4 x3) (k1_pay5 x4) 0 (by decide) slices_S1024x1024_o0_0_S1024x128 bitsLt_bf16_f32 shapeCasts_S1024x128_S1x1024x128 x _ rfl rfl rfl
  nomatch hpc

/-- A head's rotary columns of the product at a row. -/
def rotary (x : S8192x1536.Idx → EReal) (w : S4x1536x6144.Idx → EReal) (h : Fin 32) (s : Fin 8192) (j : Fin 64) : EReal :=
  ∑ k : Fin 1536, x (ix2 s k) * w (ix3 (0 : Fin 4) k (⟨h.val * 192 + (128 + j.val), by omega⟩ : Fin 6144))

/-- A head's query at a row and a column: the product with the head's first 128 columns of the weights, then the product with
    its last 64 turned, in one half of 128 columns by the head's parity and zeros in the other; all scaled. -/
def queryOf (x : S8192x1536.Idx → EReal) (w : S4x1536x6144.Idx → EReal) (p : S1x8192.Idx → BitVec 32) (h : Fin 32) (s : Fin 8192) (d : Fin 256) : EReal :=
  if hd : d.val < 128 then (∑ k : Fin 1536, x (ix2 s k) * w (ix3 (0 : Fin 4) k (⟨h.val * 192 + d.val, by omega⟩ : Fin 6144))) * scale
  else if (d.val - 128 < 64 ↔ h.val % 2 = 0) then turned (rotary x w h s) (p (ix2 (0 : Fin 1) s)) (⟨(d.val - 128) % 64, Nat.mod_lt _ (by decide)⟩ : Fin 64) * scale
  else 0

section
variable (m : (ℓ : Loc nD τ sig) → Buf (Elt Ideal) ℓ) (ρ : Dev nD → PrngReg)

/-- The compressed queries and the stacked weights that the program is given. -/
abbrev xOf (c : Dev nD) : S8192x1536.Idx → EReal := m ((c : Thread nD τ).loc main_arg0)
abbrev wOf (c : Dev nD) : S4x1536x6144.Idx → EReal := m ((c : Thread nD τ).loc main_arg1)

/-- The weights of the plain columns: of each head's 192 columns the first 128. -/
theorem plain_apply (c : Dev nD) (k : Fin 1536) (n : Fin 4096) (j : Fin 6144) (hj : j.val = n.val / 128 * 192 + n.val % 128) :
    (V3 m ρ c main_v30 : Vec Ideal S1536x4096 .bf16) (ix2 k n) = wOf m c (ix3 (0 : Fin 4) k j) := by
  refine Eq.trans ?_ (congrFun (W2_args m ρ c main_arg1 (by decide)) (ix3 (0 : Fin 4) k j))
  show StableHlo.after hostOps1 (W2 m ρ c) main_v30 _ = W2 m ρ c (Proc.devRef .tc main_arg1) _
  generalize W2 m ρ c = V
  after_results
  simp only [pointwise, zero_add, Fin.isValue, Matrix.cons_val, OfNat.ofNat_ne_one, ↓reduceDIte]
  exact congrArg (V (Proc.devRef .tc main_arg1)) (congrArg (ix3 (0 : Fin 4) k) (Fin.ext hj.symm))

/-- The weights of the rotary columns: the last 64. -/
theorem turning_apply (c : Dev nD) (k : Fin 1536) (n : Fin 2048) (j : Fin 6144) (hj : j.val = n.val / 64 * 192 + (128 + n.val % 64)) :
    (V3 m ρ c main_v33 : Vec Ideal S1536x2048 .bf16) (ix2 k n) = wOf m c (ix3 (0 : Fin 4) k j) := by
  refine Eq.trans ?_ (congrFun (W2_args m ρ c main_arg1 (by decide)) (ix3 (0 : Fin 4) k j))
  show StableHlo.after hostOps1 (W2 m ρ c) main_v33 _ = W2 m ρ c (Proc.devRef .tc main_arg1) _
  generalize W2 m ρ c = V
  after_results
  simp only [pointwise, zero_add, Fin.isValue, Matrix.cons_val, OfNat.ofNat_ne_one, ↓reduceDIte]
  exact congrArg (V (Proc.devRef .tc main_arg1)) (congrArg (ix3 (0 : Fin 4) k) (Fin.ext hj.symm))

/-- The rows of the compressed queries that a point stages. -/
theorem block0_apply (c : Dev nD) (t : Fin cfg1.N) (r : Fin 1024) (n : Fin 1536) (s : Fin 8192) (hs : s.val = 1024 * (t.val / 4) + r.val) :
    (iblk1 (V3 m ρ) c 0 t : Vec Ideal S1024x1536 .bf16) (ix2 r n) = xOf m c (ix2 s n) := by
  unfold iblk1
  rw [View.read_apply]
  refine Eq.trans ?_ (congrFun (W3_args m ρ c main_arg0 (by decide)) (ix2 s n))
  show V3 m ρ c main_arg0 _ = V3 m ρ c main_arg0 _
  congr 1
  have hi : win1_0.index t (0 : Fin 2) = t.val / 4 ∧ win1_0.index t (1 : Fin 2) = 0 :=
    (by decide +kernel : ∀ t : Fin grid1.N, win1_0.index t (0 : Fin 2) = t.val / 4 ∧ win1_0.index t (1 : Fin 2) = 0) t
  funext a
  apply Fin.ext
  match a with
  | ⟨0, _⟩ => show win1_0.index t 0 * 1024 + 1 * r.val = s.val; rw [hi.1]; omega
  | ⟨1, _⟩ => show win1_0.index t 1 * 1536 + 1 * n.val = n.val; rw [hi.2]; omega

/-- The columns of the plain weights. -/
theorem block1_apply (c : Dev nD) (t : Fin cfg1.N) (r : Fin 1536) (n : Fin 1024) (s : Fin 4096) (hs : s.val = 1024 * (t.val % 4) + n.val) :
    (iblk1 (V3 m ρ) c 1 t : Vec Ideal S1536x1024 .bf16) (ix2 r n) = (V3 m ρ c main_v30 : Vec Ideal S1536x4096 .bf16) (ix2 r s) := by
  unfold iblk1
  rw [View.read_apply]
  show V3 m ρ c main_v30 _ = V3 m ρ c main_v30 _
  congr 1
  have hi : win1_1.index t (0 : Fin 2) = 0 ∧ win1_1.index t (1 : Fin 2) = t.val % 4 :=
    (by decide +kernel : ∀ t : Fin grid1.N, win1_1.index t (0 : Fin 2) = 0 ∧ win1_1.index t (1 : Fin 2) = t.val % 4) t
  funext a
  apply Fin.ext
  match a with
  | ⟨0, _⟩ => show win1_1.index t 0 * 1536 + 1 * r.val = r.val; rw [hi.1]; omega
  | ⟨1, _⟩ => show win1_1.index t 1 * 1024 + 1 * n.val = s.val; rw [hi.2]; omega

/-- The columns of the rotary weights. -/
theorem block2_apply (c : Dev nD) (t : Fin cfg1.N) (r : Fin 1536) (n : Fin 512) (s : Fin 2048) (hs : s.val = 512 * (t.val % 4) + n.val) :
    (iblk1 (V3 m ρ) c 2 t : Vec Ideal S1536x512 .bf16) (ix2 r n) = (V3 m ρ c main_v33 : Vec Ideal S1536x2048 .bf16) (ix2 r s) := by
  unfold iblk1
  rw [View.read_apply]
  show V3 m ρ c main_v33 _ = V3 m ρ c main_v33 _
  congr 1
  have hi : win1_2.index t (0 : Fin 2) = 0 ∧ win1_2.index t (1 : Fin 2) = t.val % 4 :=
    (by decide +kernel : ∀ t : Fin grid1.N, win1_2.index t (0 : Fin 2) = 0 ∧ win1_2.index t (1 : Fin 2) = t.val % 4) t
  funext a
  apply Fin.ext
  match a with
  | ⟨0, _⟩ => show win1_2.index t 0 * 1536 + 1 * r.val = r.val; rw [hi.1]; omega
  | ⟨1, _⟩ => show win1_2.index t 1 * 512 + 1 * n.val = s.val; rw [hi.2]; omega

/-- The rows of the cosines. -/
theorem block3_apply (c : Dev nD) (t : Fin cfg1.N) (r : Fin 1024) (n : Fin 128) (s : Fin 8192) (hs : s.val = 1024 * (t.val / 4) + r.val) :
    (iblk1 (V3 m ρ) c 3 t : Vec Ideal S1024x128 .f32) (ix2 r n) = (V3 m ρ c main_v24_0 : Vec Ideal S8192x128 .f32) (ix2 s n) := by
  unfold iblk1
  rw [View.read_apply]
  show V3 m ρ c main_v24_0 _ = V3 m ρ c main_v24_0 _
  congr 1
  have hi : win1_3.index t (0 : Fin 2) = t.val / 4 ∧ win1_3.index t (1 : Fin 2) = 0 :=
    (by decide +kernel : ∀ t : Fin grid1.N, win1_3.index t (0 : Fin 2) = t.val / 4 ∧ win1_3.index t (1 : Fin 2) = 0) t
  funext a
  apply Fin.ext
  match a with
  | ⟨0, _⟩ => show win1_3.index t 0 * 1024 + 1 * r.val = s.val; rw [hi.1]; omega
  | ⟨1, _⟩ => show win1_3.index t 1 * 128 + 1 * n.val = n.val; rw [hi.2]; omega

/-- The rows of the signed sines. -/
theorem block4_apply (c : Dev nD) (t : Fin cfg1.N) (r : Fin 1024) (n : Fin 128) (s : Fin 8192) (hs : s.val = 1024 * (t.val / 4) + r.val) :
    (iblk1 (V3 m ρ) c 4 t : Vec Ideal S1024x128 .f32) (ix2 r n) = (V3 m ρ c main_v24_1 : Vec Ideal S8192x128 .f32) (ix2 s n) := by
  unfold iblk1
  rw [View.read_apply]
  show V3 m ρ c main_v24_1 _ = V3 m ρ c main_v24_1 _
  congr 1
  have hi : win1_4.index t (0 : Fin 2) = t.val / 4 ∧ win1_4.index t (1 : Fin 2) = 0 :=
    (by decide +kernel : ∀ t : Fin grid1.N, win1_4.index t (0 : Fin 2) = t.val / 4 ∧ win1_4.index t (1 : Fin 2) = 0) t
  funext a
  apply Fin.ext
  match a with
  | ⟨0, _⟩ => show win1_4.index t 0 * 1024 + 1 * r.val = s.val; rw [hi.1]; omega
  | ⟨1, _⟩ => show win1_4.index t 1 * 128 + 1 * n.val = n.val; rw [hi.2]; omega

theorem apart5 : ∀ t t' : Fin cfg1.N, win1_5.index t = win1_5.index t' → t = t' :=
  (by decide +kernel : ∀ t t' : Fin grid1.N, win1_5.index t = win1_5.index t' → t = t')

/-- The queries at a head, a row and a column. -/
theorem arr5_apply (c : Dev nD) (h : Fin 32) (s : Fin 8192) (d : Fin 256) :
    ((dat1 (V3 m ρ) c).arrAt 5 cfg1.N : S32x8192x256.Idx → EReal) (ix3 h s d) = queryOf (xOf m c) (wOf m c) (pOf m c) h s d := by
  have lh := h.isLt
  have ls := s.isLt
  have ld := d.isLt
  have hlt : 4 * (s.val / 1024) + h.val / 8 < cfg1.N := lt_of_lt_of_eq (show _ < 32 by omega) N_1.symm
  obtain ⟨t, ht⟩ : ∃ t : Fin cfg1.N, t.val = 4 * (s.val / 1024) + h.val / 8 := ⟨⟨_, hlt⟩, rfl⟩
  obtain ⟨r, hr⟩ : ∃ r : Fin 1024, r.val = s.val % 1024 := ⟨⟨_, Nat.mod_lt _ (by decide)⟩, rfl⟩
  obtain ⟨g, hg⟩ : ∃ g : Fin 8, g.val = h.val % 8 := ⟨⟨_, Nat.mod_lt _ (by decide)⟩, rfl⟩
  have lg := g.isLt
  have hs : s.val = 1024 * (t.val / 4) + r.val := by omega
  have e := congrFun ((dat1 (V3 m ρ) c).read_blk_arrAt_eq_flushed 5
    (fun t t' _ _ hne => (cfg1.win 5).disjoint_blk fun h => hne (apart5 t t' h)) cfg1.N t t.isLt (flush1_5 t)) (ix3 g r d)
  have hi : win1_5.index t (0 : Fin 3) = t.val % 4 ∧ win1_5.index t (1 : Fin 3) = t.val / 4 ∧ win1_5.index t (2 : Fin 3) = 0 :=
    (by decide +kernel : ∀ t : Fin grid1.N, win1_5.index t (0 : Fin 3) = t.val % 4 ∧ win1_5.index t (1 : Fin 3) = t.val / 4 ∧ win1_5.index t (2 : Fin 3) = 0) t
  have hemb : ((cfg1.win 5).blk t).view.emb (ix3 g r d) = ix3 h s d := by
    funext a
    apply Fin.ext
    match a with
    | ⟨0, _⟩ => show win1_5.index t 0 * 8 + 1 * g.val = h.val; rw [hi.1]; omega
    | ⟨1, _⟩ => show win1_5.index t 1 * 1024 + 1 * r.val = s.val; rw [hi.2.1]; omega
    | ⟨2, _⟩ => show win1_5.index t 2 * 256 + 1 * d.val = d.val; rw [hi.2.2]; omega
  rw [View.read_apply, hemb] at e
  refine e.trans ?_
  show ((cfg1.win 5).cut (grid1.coords t) ((dat1 (V3 m ρ) c).after 5 t)) _ = _
  rw [after1_5]
  show (out1_5 (iblk1 (V3 m ρ) c 0 t) (iblk1 (V3 m ρ) c 1 t) (iblk1 (V3 m ρ) c 2 t) (iblk1 (V3 m ρ) c 3 t) (iblk1 (V3 m ρ) c 4 t) : FVec Ideal S8x1024x256 .bf16) (ix3 g r d) = _
  have e0 (k : Fin 1536) := block0_apply m ρ c t r k s hs
  rw [out5_eq]
  unfold queryOf
  by_cases hd : d.val < 128
  · have hn : 128 * g.val + d.val < 1024 := by omega
    have hN : 1024 * (t.val % 4) + (128 * g.val + d.val) < 4096 := by omega
    rw [dif_pos hd, queryBlock_lt _ _ _ _ _ r (⟨128 * g.val + d.val, hn⟩ : Fin 1024) hd rfl rfl, pay2_apply]
    have e1 (k : Fin 1536) := (block1_apply m ρ c t k (⟨128 * g.val + d.val, hn⟩ : Fin 1024) ⟨_, hN⟩ rfl).trans
      (plain_apply m ρ c k ⟨_, hN⟩ (⟨h.val * 192 + d.val, by omega⟩ : Fin 6144) (by
        show h.val * 192 + d.val = (1024 * (t.val % 4) + (128 * g.val + d.val)) / 128 * 192 + (1024 * (t.val % 4) + (128 * g.val + d.val)) % 128
        omega))
    simp only [e0, e1]
  · obtain ⟨n, hn⟩ : ∃ n : Fin 128, n.val = d.val - 128 := ⟨⟨d.val - 128, by omega⟩, rfl⟩
    have ln := n.isLt
    rw [dif_neg hd, queryBlock_ge _ _ _ _ _ g r n rfl rfl (by show d.val = 128 + n.val; omega)]
    unfold rotaryTile
    by_cases hp : n.val < 64 ↔ g.val % 2 = 0
    · rw [if_pos hp, if_pos (by rw [← hn]; constructor <;> intro _ <;> omega), pay4_apply, pay5_apply, block3_apply m ρ c t r n s hs, block4_apply m ρ c t r n s hs, cosTable_apply, sinTable_apply]
      refine congrArg (· * scale) ?_
      refine (turned_lane (rotary (xOf m c) (wOf m c) h s) (pOf m c (ix2 (0 : Fin 1) s)) n
        (fun i => k1_pay3 (iblk1 (V3 m ρ) c 0 t) (iblk1 (V3 m ρ) c 2 t) (ix2 r (⟨128 * (g.val / 2) + i.val, by omega⟩ : Fin 512))) fun i hi => ?_).trans
        (congrArg (turned _ _) (Fin.ext (by show n.val % 64 = (d.val - 128) % 64; rw [hn])))
      have li := i.isLt
      have hN : 512 * (t.val % 4) + (128 * (g.val / 2) + i.val) < 2048 := by omega
      have e1 (k : Fin 1536) := (block2_apply m ρ c t k (⟨128 * (g.val / 2) + i.val, by omega⟩ : Fin 512) ⟨_, hN⟩ rfl).trans
        (turning_apply m ρ c k ⟨_, hN⟩ (⟨h.val * 192 + (128 + i.val % 64), by omega⟩ : Fin 6144) (by
          show h.val * 192 + (128 + i.val % 64) = (512 * (t.val % 4) + (128 * (g.val / 2) + i.val)) / 64 * 192 + (128 + (512 * (t.val % 4) + (128 * (g.val / 2) + i.val)) % 64)
          have : i.val / 64 = g.val % 2 := by
            rcases Nat.lt_or_ge n.val 64 with h1 | h1
            · have := hp.mp h1; omega
            · have : ¬ g.val % 2 = 0 := fun h2 => absurd (hp.mpr h2) (by omega)
              omega
          omega))
      refine (pay3_apply _ _ r _).trans ?_
      unfold rotary
      simp only [e0, e1]
    · rw [if_neg hp, if_neg (by rw [← hn, show h.val % 2 = g.val % 2 by omega]; exact hp)]

/-- The queries as a function of its index. -/
theorem arr5_eq (c : Dev nD) : ((dat1 (V3 m ρ) c).arrAt 5 cfg1.N : S32x8192x256.Idx → EReal)
    = fun i => queryOf (xOf m c) (wOf m c) (pOf m c) (i 0 : Fin 32) (i 1 : Fin 8192) (i 2 : Fin 256) := by
  funext i
  rw [eq3 i]
  exact arr5_apply m ρ c _ _ _

end

/-- Whether a head is even, as the reference asks. -/
theorem even_eq : ∀ h : Fin 32, IntOp.cmpi .eq (IntOp.andi (BitVec.ofNat 32 h.val) 1#32) 0#32 = if h.val % 2 = 0 then 1#1 else 0#1 := by decide +kernel

theorem select_even (h : Fin 32) (a b : EReal) : Scalar.select (IntOp.cmpi .eq (IntOp.andi (BitVec.ofNat 32 h.val) 1#32) 0#32) a b = if h.val % 2 = 0 then a else b := by
  rw [even_eq]
  by_cases hp : h.val % 2 = 0
  · rw [if_pos hp, if_pos hp]
    rfl
  · rw [if_neg hp, if_neg hp]
    rfl

/-- The reference's queries, read at an index. -/
theorem query_apply (m : (ℓ : Loc QRefIdeal.nD QRefIdeal.τ QRefIdeal.sig) → Buf (Elt Ideal) ℓ) (c : Dev QRefIdeal.nD) (h : Fin 32) (s : Fin 8192) (d : Fin 256) :
    (QRefIdeal.Value.res_main_v50 m c : Vec Ideal QRefIdeal.S32x8192x256 .bf16) (ix3 h s d)
      = queryOf (m ((c : Thread QRefIdeal.nD QRefIdeal.τ).loc QRefIdeal.main_arg0)) (m ((c : Thread QRefIdeal.nD QRefIdeal.τ).loc QRefIdeal.main_arg1))
          (m ((c : Thread QRefIdeal.nD QRefIdeal.τ).loc QRefIdeal.main_arg2)) h s d := by
  have ld := d.isLt
  unfold QRefIdeal.Value.res_main_v50
  simp only [pointwise, zero_add, Fin.isValue, Matrix.cons_val, OfNat.ofNat_ne_one, ↓reduceDIte, Fin.val_zero, Fin.val_one, Fin.val_two, OfNat.zero_ne_ofNat, OfNat.one_ne_ofNat, zero_ne_one, ↓reduceIte, Fin.eta]
  unfold queryOf
  by_cases hd : d.val < 128
  · refine Eq.trans ?_ (dif_pos hd).symm
    exact congrArg (· * scale) (dif_pos hd)
  · refine Eq.trans ?_ (dif_neg hd).symm
    refine (congrArg (· * scale) (dif_neg hd)).trans ?_
    by_cases h64 : d.val - 128 < 64
    · refine (congrArg (· * scale) (dif_pos h64)).trans ?_
      refine (congrArg (· * scale) (select_even h _ _)).trans ?_
      by_cases hp : h.val % 2 = 0
      · rw [if_pos hp]
        refine Eq.trans (congrArg (· * scale) ?_) (if_pos (by constructor <;> intro _ <;> omega)).symm
        show dite _ _ _ = _
        have e : (⟨(d.val - 128) % 64, Nat.mod_lt _ (by decide)⟩ : Fin 64) = ⟨d.val - 128, h64⟩ := Fin.ext (Nat.mod_eq_of_lt h64)
        refine Eq.trans ?_ (congrArg (turned (rotary _ _ h s) _) e).symm
        by_cases h' : d.val - 128 < 32
        · exact (dif_pos h').trans (turned_lt (rotary _ _ h s) _ (⟨d.val - 128, h64⟩ : Fin 64) h').symm
        · exact (dif_neg h').trans (turned_ge (rotary _ _ h s) _ (⟨d.val - 128, h64⟩ : Fin 64) (Nat.le_of_not_lt h')).symm
      · rw [if_neg hp]
        refine Eq.trans ?_ (if_neg (fun hiff => hp (hiff.mp h64))).symm
        exact zero_mul _
    · refine (congrArg (· * scale) (dif_neg h64)).trans ?_
      refine (congrArg (· * scale) (select_even h _ _)).trans ?_
      by_cases hp : h.val % 2 = 0
      · rw [if_pos hp]
        refine Eq.trans ?_ (if_neg (fun hiff => h64 (hiff.mpr hp))).symm
        exact zero_mul _
      · rw [if_neg hp]
        refine Eq.trans (congrArg (· * scale) ?_) (if_pos (by constructor <;> intro _ <;> omega)).symm
        show dite _ _ _ = _
        have hj : d.val - 128 - 64 < 64 := by omega
        have e : (⟨(d.val - 128) % 64, Nat.mod_lt _ (by decide)⟩ : Fin 64) = ⟨d.val - 128 - 64, hj⟩ := Fin.ext (by show (d.val - 128) % 64 = d.val - 128 - 64; omega)
        refine Eq.trans ?_ (congrArg (turned (rotary _ _ h s) _) e).symm
        by_cases h' : d.val - 128 - 64 < 32
        · exact (dif_pos h').trans (turned_lt (rotary _ _ h s) _ (⟨d.val - 128 - 64, hj⟩ : Fin 64) h').symm
        · exact (dif_neg h').trans (turned_ge (rotary _ _ h s) _ (⟨d.val - 128 - 64, hj⟩ : Fin 64) (Nat.le_of_not_lt h')).symm

end Cert.QIdeal.Hand

end
-- ==== Proof.CkvrTables.lean ====
/- The run of `CkvrIdeal` with its results, and the tables that its first call writes: the cosines and the signed sines of the
   rotary angles, read at an index. -/
module

public import proofs.«01_k».proof.Proof.Gen.CkvrIdeal.Frame
public import proofs.«01_k».proof.Proof.Rotary
public import Idealize.ShloMosaic.Lib.Tactic.ValueTie

@[expose] public section

noncomputable section

namespace Cert.CkvrIdeal.Hand

open Cert.Rotary Cert.CkvrIdeal Cert.CkvrIdeal.Gen Idealize.ShloMosaic Idealize.ShloMosaic.TcCoe Idealize.SL Idealize.SL.Sem
open Idealize.SL.RA Idealize.SL.BI Idealize.SL.BI.BIBase Idealize.SL.BI.Laws Idealize.SL.ProofMode
open Idealize.ShloMosaic.Rounds
open scoped Idealize.SL.BI

section Run
variable {F : FTy → Type} [FloatOps F]
variable (m : (ℓ : Loc nD τ sig) → Buf (Elt F) ℓ) (ρ : Dev nD → PrngReg)

set_option backward.isDefEq.respectTransparency.types false in
/-- Every execution ends with the results as the second call's windows wrote them and with the arguments as given. -/
theorem run : θ_run defs (onTc (τ := τ) (main (F := F))) ⟨m, fun _ => 0, ρ⟩ (fun r => ∀ c : Dev nD,
      r.2.mem ((c.tc : Thread nD τ).loc main_v36_0) = (dat1 (V3 m ρ) c).arrAt 5 cfg1.N
      ∧ r.2.mem ((c.tc : Thread nD τ).loc main_v36_1) = (dat1 (V3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp)) (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => BI.emp) from by rw [BI.bigSep_emp_const])
      iempintro) (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c => ⟨(h c _ (mem_uc main_v36_0 (by decide))).trans (W4_arr m ρ c 5),
      (h c _ (mem_uc main_v36_1 (by decide))).trans (W4_arr m ρ c 6),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c)⟩)

end Run

theorem hz2 : (![0, 0] : Fin 2 → Nat) = fun _ => 0 := funext fun a => by fin_cases a <;> rfl

/-- The call that fills the tables stores its payloads whole. -/
theorem out3_eq {F : FTy → Type} [FloatOps F] (x0 : Vec F S512x1 .i32) (x1 x2 : Vec F S1x128 .f32) : out0_3 x0 x1 x2 = k0_pay2 x0 x1 := by
  unfold out0_3
  rw [View.canon_unit_zero hz2]
  simp only [View.ld_unit_zero (S := S512x1) hz2, View.ld_unit_zero (S := S1x128) hz2]

theorem out4_eq {F : FTy → Type} [FloatOps F] (x0 : Vec F S512x1 .i32) (x1 x2 : Vec F S1x128 .f32) : out0_4 x0 x1 x2 = k0_pay3 x0 x1 x2 := by
  unfold out0_4
  rw [View.canon_unit_zero hz2]
  simp only [View.ld_unit_zero (S := S512x1) hz2, View.ld_unit_zero (S := S1x128) hz2]

theorem cos_apply (x0 : Vec Ideal S512x1 .i32) (x1 : Vec Ideal S1x128 .f32) (r : Fin 512) (n : Fin 128) :
    (k0_pay2 x0 x1 : FVec Ideal S512x128 .f32) (ix2 r n) = Ideal.cos (FloatOps.sitofp (F := Ideal) .f32 (x0 (ix2 r (0 : Fin 1)) : BitVec 32) * x1 (ix2 (0 : Fin 1) n) : EReal) := by
  unfold k0_pay2 k0_pay1
  simp only [pointwise]
  rfl

theorem sin_apply (x0 : Vec Ideal S512x1 .i32) (x1 x2 : Vec Ideal S1x128 .f32) (r : Fin 512) (n : Fin 128) :
    (k0_pay3 x0 x1 x2 : FVec Ideal S512x128 .f32) (ix2 r n)
      = Ideal.sin (FloatOps.sitofp (F := Ideal) .f32 (x0 (ix2 r (0 : Fin 1)) : BitVec 32) * x1 (ix2 (0 : Fin 1) n) : EReal) * x2 (ix2 (0 : Fin 1) n) := by
  unfold k0_pay3 k0_pay1
  simp only [pointwise]
  rfl

section Tables
variable (m : (ℓ : Loc nD τ sig) → Buf (Elt Ideal) ℓ) (ρ : Dev nD → PrngReg)

/-- The positions that the program is given. -/
abbrev pOf (c : Dev nD) : S1x8192.Idx → BitVec 32 := m ((c : Thread nD τ).loc main_arg3)

/-- The frequencies, the signs and the positions that the first call is given. -/
theorem freq_apply (c : Dev nD) (n : Fin 128) : (V1 m ρ c main_v14 : Vec Ideal S1x128 .f32) (ix2 (0 : Fin 1) n)
    = Ideal.pow (Ideal.ofBits .f32 0x461C4000#32) (Ideal.div (-(Ideal.ofBits .f32 0x40000000#32 * FloatOps.sitofp (F := Ideal) .f32 (BitVec.ofNat 32 (n.val % 32)))) (Ideal.ofBits .f32 0x42800000#32)) := by
  show StableHlo.after hostOps0 (fun b => m (c, b)) main_v14 _ = _
  after_results
  simp only [pointwise, zero_add, Fin.isValue, Matrix.cons_val, OfNat.ofNat_ne_one, ↓reduceDIte]

theorem sign_apply (c : Dev nD) (n : Fin 128) : (V1 m ρ c main_v22 : Vec Ideal S1x128 .f32) (ix2 (0 : Fin 1) n) = (if n.val % 64 < 32 then -1 else 1 : EReal) := by
  show StableHlo.after hostOps0 (fun b => m (c, b)) main_v22 _ = _
  after_results
  simp only [pointwise, zero_add, Fin.isValue, Matrix.cons_val, OfNat.ofNat_ne_one, ↓reduceDIte]
  rfl

theorem place_apply (c : Dev nD) (s : Fin 8192) : (V1 m ρ c main_v23 : Vec Ideal S8192x1 .i32) (ix2 s (0 : Fin 1)) = pOf m c (ix2 (0 : Fin 1) s) := by
  show StableHlo.after hostOps0 (fun b => m (c, b)) main_v23 _ = _
  after_results
  simp only [pointwise, zero_add, Fin.isValue, Matrix.cons_val, OfNat.ofNat_ne_one, ↓reduceDIte]

/-- What a point of the first call stages of each. -/
theorem places (c : Dev nD) (t : Fin cfg0.N) (r : Fin 512) (s : Fin 8192) (hs : s.val = 512 * t.val + r.val) :
    (iblk0 (V1 m ρ) c 0 t : Vec Ideal S512x1 .i32) (ix2 r (0 : Fin 1)) = pOf m c (ix2 (0 : Fin 1) s) := by
  rw [← place_apply m ρ c s]
  unfold iblk0
  rw [View.read_apply]
  show V1 m ρ c main_v23 _ = _
  congr 1
  have hi : win0_0.index t (0 : Fin 2) = t.val ∧ win0_0.index t (1 : Fin 2) = 0 :=
    (by decide +kernel : ∀ t : Fin grid0.N, win0_0.index t (0 : Fin 2) = t.val ∧ win0_0.index t (1 : Fin 2) = 0) t
  funext a
  apply Fin.ext
  match a with
  | ⟨0, _⟩ => show win0_0.index t 0 * 512 + 1 * r.val = s.val; rw [hi.1]; omega
  | ⟨1, _⟩ => show win0_0.index t 1 * 1 + 1 * 0 = 0; rw [hi.2]

theorem freqs (c : Dev nD) (t : Fin cfg0.N) (n : Fin 128) :
    (iblk0 (V1 m ρ) c 1 t : Vec Ideal S1x128 .f32) (ix2 (0 : Fin 1) n) = (V1 m ρ c main_v14 : Vec Ideal S1x128 .f32) (ix2 (0 : Fin 1) n) := by
  unfold iblk0
  rw [View.read_apply]
  show V1 m ρ c main_v14 _ = _
  congr 1
  have hi : win0_1.index t (0 : Fin 2) = 0 ∧ win0_1.index t (1 : Fin 2) = 0 :=
    (by decide +kernel : ∀ t : Fin grid0.N, win0_1.index t (0 : Fin 2) = 0 ∧ win0_1.index t (1 : Fin 2) = 0) t
  funext a
  apply Fin.ext
  match a with
  | ⟨0, _⟩ => show win0_1.index t 0 * 1 + 1 * 0 = 0; rw [hi.1]
  | ⟨1, _⟩ => show win0_1.index t 1 * 128 + 1 * n.val = n.val; rw [hi.2]; omega

theorem signs (c : Dev nD) (t : Fin cfg0.N) (n : Fin 128) :
    (iblk0 (V1 m ρ) c 2 t : Vec Ideal S1x128 .f32) (ix2 (0 : Fin 1) n) = (V1 m ρ c main_v22 : Vec Ideal S1x128 .f32) (ix2 (0 : Fin 1) n) := by
  unfold iblk0
  rw [View.read_apply]
  show V1 m ρ c main_v22 _ = _
  congr 1
  have hi : win0_2.index t (0 : Fin 2) = 0 ∧ win0_2.index t (1 : Fin 2) = 0 :=
    (by decide +kernel : ∀ t : Fin grid0.N, win0_2.index t (0 : Fin 2) = 0 ∧ win0_2.index t (1 : Fin 2) = 0) t
  funext a
  apply Fin.ext
  match a with
  | ⟨0, _⟩ => show win0_2.index t 0 * 1 + 1 * 0 = 0; rw [hi.1]
  | ⟨1, _⟩ => show win0_2.index t 1 * 128 + 1 * n.val = n.val; rw [hi.2]; omega

theorem injective3 : ∀ t t' : Fin cfg0.N, win0_3.index t = win0_3.index t' → t = t' :=
  (by decide +kernel : ∀ t t' : Fin grid0.N, win0_3.index t = win0_3.index t' → t = t')

/-- The table of cosines that the second call is given, at a position and a column. -/
theorem cosTable_apply (c : Dev nD) (s : Fin 8192) (n : Fin 128) :
    (V3 m ρ c main_v24_0 : Vec Ideal S8192x128 .f32) (ix2 s n) = Ideal.cos (angle (pOf m c (ix2 (0 : Fin 1) s)) n.val) := by
  have ls := s.isLt
  have hlt : s.val / 512 < cfg0.N := lt_of_lt_of_eq (show _ < 16 by omega) N_0.symm
  obtain ⟨t, ht⟩ : ∃ t : Fin cfg0.N, t.val = s.val / 512 := ⟨⟨_, hlt⟩, rfl⟩
  have e := congrFun ((dat0 (V1 m ρ) c).read_blk_arrAt_eq_flushed 3
    (fun t t' _ _ hne => (cfg0.win 3).disjoint_blk fun h => hne (injective3 t t' h)) cfg0.N t t.isLt (flush0_3 t)) (ix2 (⟨s.val % 512, Nat.mod_lt _ (by decide)⟩ : Fin 512) n)
  have hi : win0_3.index t (0 : Fin 2) = t.val ∧ win0_3.index t (1 : Fin 2) = 0 :=
    (by decide +kernel : ∀ t : Fin grid0.N, win0_3.index t (0 : Fin 2) = t.val ∧ win0_3.index t (1 : Fin 2) = 0) t
  have hemb : ((cfg0.win 3).blk t).view.emb (ix2 (⟨s.val % 512, Nat.mod_lt _ (by decide)⟩ : Fin 512) n) = ix2 s n := by
    funext a
    apply Fin.ext
    match a with
    | ⟨0, _⟩ => show win0_3.index t 0 * 512 + 1 * (s.val % 512) = s.val; rw [hi.1]; omega
    | ⟨1, _⟩ => show win0_3.index t 1 * 128 + 1 * n.val = n.val; rw [hi.2]; omega
  rw [View.read_apply, hemb] at e
  refine (congrFun ((W3_of m ρ c main_v24_0 (by decide)).trans (W2_arr m ρ c 3)) (ix2 s n)).trans (e.trans ?_)
  show ((cfg0.win 3).cut (grid0.coords t) ((dat0 (V1 m ρ) c).after 3 t)) _ = _
  rw [after0_3]
  show (out0_3 (iblk0 (V1 m ρ) c 0 t) (iblk0 (V1 m ρ) c 1 t) (iblk0 (V1 m ρ) c 2 t) : FVec Ideal S512x128 .f32) (ix2 (⟨s.val % 512, Nat.mod_lt _ (by decide)⟩ : Fin 512) n) = _
  rw [out3_eq, cos_apply, freqs, freq_apply, places m ρ c t _ s (by show s.val = 512 * t.val + s.val % 512; omega)]
  rfl

theorem injective4 : ∀ t t' : Fin cfg0.N, win0_4.index t = win0_4.index t' → t = t' :=
  (by decide +kernel : ∀ t t' : Fin grid0.N, win0_4.index t = win0_4.index t' → t = t')

/-- The table of signed sines that the second call is given, at a position and a column. -/
theorem sinTable_apply (c : Dev nD) (s : Fin 8192) (n : Fin 128) :
    (V3 m ρ c main_v24_1 : Vec Ideal S8192x128 .f32) (ix2 s n) = Ideal.sin (angle (pOf m c (ix2 (0 : Fin 1) s)) n.val) * (if n.val % 64 < 32 then -1 else 1 : EReal) := by
  have ls := s.isLt
  have hlt : s.val / 512 < cfg0.N := lt_of_lt_of_eq (show _ < 16 by omega) N_0.symm
  obtain ⟨t, ht⟩ : ∃ t : Fin cfg0.N, t.val = s.val / 512 := ⟨⟨_, hlt⟩, rfl⟩
  have e := congrFun ((dat0 (V1 m ρ) c).read_blk_arrAt_eq_flushed 4
    (fun t t' _ _ hne => (cfg0.win 4).disjoint_blk fun h => hne (injective4 t t' h)) cfg0.N t t.isLt (flush0_4 t)) (ix2 (⟨s.val % 512, Nat.mod_lt _ (by decide)⟩ : Fin 512) n)
  have hi : win0_4.index t (0 : Fin 2) = t.val ∧ win0_4.index t (1 : Fin 2) = 0 :=
    (by decide +kernel : ∀ t : Fin grid0.N, win0_4.index t (0 : Fin 2) = t.val ∧ win0_4.index t (1 : Fin 2) = 0) t
  have hemb : ((cfg0.win 4).blk t).view.emb (ix2 (⟨s.val % 512, Nat.mod_lt _ (by decide)⟩ : Fin 512) n) = ix2 s n := by
    funext a
    apply Fin.ext
    match a with
    | ⟨0, _⟩ => show win0_4.index t 0 * 512 + 1 * (s.val % 512) = s.val; rw [hi.1]; omega
    | ⟨1, _⟩ => show win0_4.index t 1 * 128 + 1 * n.val = n.val; rw [hi.2]; omega
  rw [View.read_apply, hemb] at e
  refine (congrFun ((W3_of m ρ c main_v24_1 (by decide)).trans (W2_arr m ρ c 4)) (ix2 s n)).trans (e.trans ?_)
  show ((cfg0.win 4).cut (grid0.coords t) ((dat0 (V1 m ρ) c).after 4 t)) _ = _
  rw [after0_4]
  show (out0_4 (iblk0 (V1 m ρ) c 0 t) (iblk0 (V1 m ρ) c 1 t) (iblk0 (V1 m ρ) c 2 t) : FVec Ideal S512x128 .f32) (ix2 (⟨s.val % 512, Nat.mod_lt _ (by decide)⟩ : Fin 512) n) = _
  rw [out4_eq, sin_apply, freqs, signs, sign_apply, freq_apply, places m ρ c t _ s (by show s.val = 512 * t.val + s.val % 512; omega)]
  rfl

end Tables

end Cert.CkvrIdeal.Hand

end
-- ==== Proof.CkvrValue.lean ====
/- The value of `CkvrIdeal`, the compression of keys and values with its norm and the rotary key: the blocks that a point of
   its second call loads, what it stores, and the two result arrays read at an index. -/
module

public import proofs.«01_k».proof.Proof.CkvrTables
public import proofs.«01_k».proof.Proof.Gen.CkvrRefIdeal.Run

@[expose] public section

noncomputable section

namespace Cert.CkvrIdeal.Hand

open Cert.Rotary Cert.CkvrIdeal Cert.CkvrIdeal.Gen Idealize.ShloMosaic Idealize.ShloMosaic.TcCoe Idealize.SL.Sem

/-- A row divided by its root mean square and multiplied by a gain, at a column. -/
def rms (x g : Fin 512 → EReal) (n : Fin 512) : EReal :=
  x n * Ideal.rsqrt (Ideal.div (∑ k : Fin 512, x k * x k) (Scalar.ofBits .f32 0x44000000#32 : Ideal .f32) + (Scalar.ofBits .f32 0x358637BD#32 : Ideal .f32)) * g n

/-- A point's stores are the payloads of the blocks it loads. -/
theorem out5_eq {F : FTy → Type} [FloatOps F] (x0 : Vec F S512x4096 .bf16) (x1 : Vec F S640x4096 .bf16) (x2 : Vec F S1x512 .f32) (x3 x4 : Vec F S512x128 .f32) :
    out1_5 x0 x1 x2 x3 x4 = k1_pay3 x0 x1 x2 := by
  unfold out1_5
  rw [View.canon_unit_zero hz2]
  simp only [View.ld_unit_zero (S := S512x4096) hz2, View.ld_unit_zero (S := S640x4096) hz2, View.ld_unit_zero (S := S1x512) hz2]

theorem out6_eq {F : FTy → Type} [FloatOps F] (x0 : Vec F S512x4096 .bf16) (x1 : Vec F S640x4096 .bf16) (x2 : Vec F S1x512 .f32) (x3 x4 : Vec F S512x128 .f32) :
    out1_6 x0 x1 x2 x3 x4 = k1_pay1 (k1_pay4 x0 x1) (k1_pay5 x3) (k1_pay6 x4) (Scalar.select (Scalar.cmpi .eq 64#32 0#32) 1#32 64#32) k1_pay7 k1_pay8 k1_pay9
      (Scalar.cmpi .slt (Scalar.select (Scalar.cmpi .eq 64#32 0#32) 1#32 64#32) 0#32) := by
  unfold out1_6
  rw [View.canon_unit_zero hz2]
  simp only [View.ld_unit_zero (S := S512x4096) hz2, View.ld_unit_zero (S := S640x4096) hz2, View.ld_unit_zero (S := S512x128) hz2]

/-- The norm of the product's first 512 columns, read at an index. -/
theorem pay3_apply (x0 : Vec Ideal S512x4096 .bf16) (x1 : Vec Ideal S640x4096 .bf16) (x2 : Vec Ideal S1x512 .f32) (r : Fin 512) (n : Fin 512) :
    (k1_pay3 x0 x1 x2 : FVec Ideal S512x512 .bf16) (ix2 r n)
      = rms (fun j => ∑ k : Fin 4096, (x0 (ix2 r k) * x1 (ix2 (⟨j.val, by omega⟩ : Fin 640) k) : EReal)) (fun k => x2 (ix2 (0 : Fin 1) k)) n := by
  unfold k1_pay3 k1_pay2 rms
  simp only [pointwise, zero_add, Fin.isValue, Matrix.cons_val, OfNat.ofNat_ne_one, ↓reduceDIte, Fin.eta]

/-- The product's last 128 columns. -/
theorem pay4_apply (x0 : Vec Ideal S512x4096 .bf16) (x1 : Vec Ideal S640x4096 .bf16) (r : Fin 512) (n : Fin 128) :
    (k1_pay4 x0 x1 : FVec Ideal S512x128 .f32) (ix2 r n) = (∑ k : Fin 4096, x0 (ix2 r k) * x1 (ix2 (⟨512 + n.val, by omega⟩ : Fin 640) k) : EReal) := by
  unfold k1_pay4 k1_pay2
  simp only [pointwise, zero_add, Fin.isValue, Matrix.cons_val, Fin.eta]

theorem pay5_apply (x : Vec Ideal S512x128 .f32) (r : Fin 512) (n : Fin 128) : (k1_pay5 x : FVec Ideal S512x128 .f32) (ix2 r n) = (x (ix2 r n) : EReal) := by
  unfold k1_pay5
  simp only [pointwise]

theorem pay6_apply (x : Vec Ideal S512x128 .f32) (r : Fin 512) (n : Fin 128) : (k1_pay6 x : FVec Ideal S512x128 .f32) (ix2 r n) = (x (ix2 r n) : EReal) := by
  unfold k1_pay6
  simp only [pointwise]

/-- The rotary columns, read at an index. -/
theorem pay1_apply (v21 v23 v25 : FVec Ideal S512x128 .f32) (r : Fin 512) (n : Fin 128) :
    k1_pay1 v21 v23 v25 (Scalar.select (Scalar.cmpi .eq 64#32 0#32) 1#32 64#32) k1_pay7 k1_pay8 k1_pay9 (Scalar.cmpi .slt (Scalar.select (Scalar.cmpi .eq 64#32 0#32) 1#32 64#32) 0#32) (ix2 r n)
      = (v21 (ix2 r n) * v23 (ix2 r n) + v21 (ix2 r (partner n)) * v25 (ix2 r n) : EReal) := by
  unfold k1_pay1 k1_pay8 k1_pay9 k1_pay7
  simp only [pointwise, zero_add, Fin.isValue, Matrix.cons_val, OfNat.ofNat_ne_one, ↓reduceDIte]
  refine congrArg₂ (· + ·) rfl (congrArg₂ (· * ·) ?_ rfl)
  have ln := n.isLt
  show Scalar.select (inFirst (BitVec.ofNat 32 (0 * 128 + n.val))) (v21 (ix2 r (⟨(n.val + 128 - 96 % 128) % 128, by omega⟩ : Fin 128))) (v21 (ix2 r (⟨(n.val + 128 - 32 % 128) % 128, by omega⟩ : Fin 128))) = _
  rw [Nat.zero_mul, Nat.zero_add, inFirst_eq]
  unfold partner
  by_cases h : n.val % 64 < 32
  · rw [if_pos h]
    show v21 _ = _
    exact congrArg v21 (congrArg (ix2 r) (Fin.ext (by show (n.val + 128 - 96 % 128) % 128 = if n.val % 64 < 32 then (n.val + 32) % 128 else (n.val + 96) % 128; rw [if_pos h]; omega)))
  · rw [if_neg h]
    show v21 _ = _
    exact congrArg v21 (congrArg (ix2 r) (Fin.ext (by show (n.val + 128 - 32 % 128) % 128 = if n.val % 64 < 32 then (n.val + 32) % 128 else (n.val + 96) % 128; rw [if_neg h]; omega)))

/-- A row of the compressed keys and values: columns 7680 to 8192 of the combined product. -/
def compressed (h : S8192x4096.Idx → EReal) (w : S4x4096x28736.Idx → EReal) (s : Fin 8192) (j : Fin 512) : EReal :=
  ∑ k : Fin 4096, h (ix2 s k) * w (ix3 (0 : Fin 4) k (⟨7680 + j.val, by omega⟩ : Fin 28736))

/-- A row of the rotary key: columns 8192 to 8256. -/
def rotary (h : S8192x4096.Idx → EReal) (w : S4x4096x28736.Idx → EReal) (s : Fin 8192) (j : Fin 64) : EReal :=
  ∑ k : Fin 4096, h (ix2 s k) * w (ix3 (0 : Fin 4) k (⟨8192 + j.val, by omega⟩ : Fin 28736))

section
variable (m : (ℓ : Loc nD τ sig) → Buf (Elt Ideal) ℓ) (ρ : Dev nD → PrngReg)

/-- The activations, the combined input weights and the stack of gains that the program is given. -/
abbrev hOf (c : Dev nD) : S8192x4096.Idx → EReal := m ((c : Thread nD τ).loc main_arg0)
abbrev wOf (c : Dev nD) : S4x4096x28736.Idx → EReal := m ((c : Thread nD τ).loc main_arg1)
abbrev gOf (c : Dev nD) : S4x512.Idx → EReal := m ((c : Thread nD τ).loc main_arg2)

/-- The weights that the second call is given: of the combined weights the columns 7680 to 8256, and 8192 to 8256 again. -/
theorem weights_apply (c : Dev nD) (n : Fin 640) (k : Fin 4096) (j : Fin 28736) (hj : j.val = if n.val < 576 then 7680 + n.val else 8192 + (n.val - 576)) :
    (V3 m ρ c main_v32 : Vec Ideal S640x4096 .bf16) (ix2 n k) = wOf m c (ix3 (0 : Fin 4) k j) := by
  refine Eq.trans ?_ (congrFun (W2_args m ρ c main_arg1 (by decide)) (ix3 (0 : Fin 4) k j))
  show StableHlo.after hostOps1 (W2 m ρ c) main_v32 _ = W2 m ρ c (Proc.devRef .tc main_arg1) _
  generalize W2 m ρ c = V
  after_results
  simp only [pointwise, zero_add, Fin.isValue, Matrix.cons_val, OfNat.ofNat_ne_one, ↓reduceDIte]
  by_cases h : n.val < 576
  · rw [dif_pos h]
    rw [if_pos h] at hj
    exact congrArg (V (Proc.devRef .tc main_arg1)) (congrArg (ix3 (0 : Fin 4) k) (Fin.ext (by show 6144 + (1536 + n.val) = j.val; omega)))
  · rw [dif_neg h]
    rw [if_neg h] at hj
    exact congrArg (V (Proc.devRef .tc main_arg1)) (congrArg (ix3 (0 : Fin 4) k) (Fin.ext (by show 6144 + (2048 + (n.val - 576)) = j.val; omega)))

/-- One layer's gains, sliced out of the stack. -/
theorem gains_apply (c : Dev nD) (k : Fin 512) : (V3 m ρ c main_v35 : Vec Ideal S1x512 .f32) (ix2 (0 : Fin 1) k) = gOf m c (ix2 (0 : Fin 4) k) := by
  refine Eq.trans ?_ (congrFun (W2_args m ρ c main_arg2 (by decide)) (ix2 (0 : Fin 4) k))
  show StableHlo.after hostOps1 (W2 m ρ c) main_v35 _ = _
  after_results
  simp only [pointwise, zero_add, Fin.isValue, Matrix.cons_val, OfNat.ofNat_ne_one, ↓reduceDIte]

/-- The rows of the activations that a point stages. -/
theorem block0_apply (c : Dev nD) (t : Fin cfg1.N) (r : Fin 512) (n : Fin 4096) (s : Fin 8192) (hs : s.val = 512 * t.val + r.val) :
    (iblk1 (V3 m ρ) c 0 t : Vec Ideal S512x4096 .bf16) (ix2 r n) = hOf m c (ix2 s n) := by
  unfold iblk1
  rw [View.read_apply]
  refine Eq.trans ?_ (congrFun (W3_args m ρ c main_arg0 (by decide)) (ix2 s n))
  show V3 m ρ c main_arg0 _ = V3 m ρ c main_arg0 _
  congr 1
  have hi : win1_0.index t (0 : Fin 2) = t.val ∧ win1_0.index t (1 : Fin 2) = 0 :=
    (by decide +kernel : ∀ t : Fin grid1.N, win1_0.index t (0 : Fin 2) = t.val ∧ win1_0.index t (1 : Fin 2) = 0) t
  funext a
  apply Fin.ext
  match a with
  | ⟨0, _⟩ => show win1_0.index t 0 * 512 + 1 * r.val = s.val; rw [hi.1]; omega
  | ⟨1, _⟩ => show win1_0.index t 1 * 4096 + 1 * n.val = n.val; rw [hi.2]; omega

/-- The weights, transposed. -/
theorem block1_apply (c : Dev nD) (t : Fin cfg1.N) (r : Fin 640) (n : Fin 4096) (s : Fin 640) (hs : s.val = r.val) :
    (iblk1 (V3 m ρ) c 1 t : Vec Ideal S640x4096 .bf16) (ix2 r n) = (V3 m ρ c main_v32 : Vec Ideal S640x4096 .bf16) (ix2 s n) := by
  unfold iblk1
  rw [View.read_apply]
  show V3 m ρ c main_v32 _ = V3 m ρ c main_v32 _
  congr 1
  have hi : win1_1.index t (0 : Fin 2) = 0 ∧ win1_1.index t (1 : Fin 2) = 0 :=
    (by decide +kernel : ∀ t : Fin grid1.N, win1_1.index t (0 : Fin 2) = 0 ∧ win1_1.index t (1 : Fin 2) = 0) t
  funext a
  apply Fin.ext
  match a with
  | ⟨0, _⟩ => show win1_1.index t 0 * 640 + 1 * r.val = s.val; rw [hi.1]; omega
  | ⟨1, _⟩ => show win1_1.index t 1 * 4096 + 1 * n.val = n.val; rw [hi.2]; omega

/-- The gains. -/
theorem block2_apply (c : Dev nD) (t : Fin cfg1.N) (r : Fin 1) (n : Fin 512) (s : Fin 1) (hs : s.val = r.val) :
    (iblk1 (V3 m ρ) c 2 t : Vec Ideal S1x512 .f32) (ix2 r n) = (V3 m ρ c main_v35 : Vec Ideal S1x512 .f32) (ix2 s n) := by
  unfold iblk1
  rw [View.read_apply]
  show V3 m ρ c main_v35 _ = V3 m ρ c main_v35 _
  congr 1
  have hi : win1_2.index t (0 : Fin 2) = 0 ∧ win1_2.index t (1 : Fin 2) = 0 :=
    (by decide +kernel : ∀ t : Fin grid1.N, win1_2.index t (0 : Fin 2) = 0 ∧ win1_2.index t (1 : Fin 2) = 0) t
  funext a
  apply Fin.ext
  match a with
  | ⟨0, _⟩ => show win1_2.index t 0 * 1 + 1 * r.val = s.val; rw [hi.1]; omega
  | ⟨1, _⟩ => show win1_2.index t 1 * 512 + 1 * n.val = n.val; rw [hi.2]; omega

/-- The rows of the cosines. -/
theorem block3_apply (c : Dev nD) (t : Fin cfg1.N) (r : Fin 512) (n : Fin 128) (s : Fin 8192) (hs : s.val = 512 * t.val + r.val) :
    (iblk1 (V3 m ρ) c 3 t : Vec Ideal S512x128 .f32) (ix2 r n) = (V3 m ρ c main_v24_0 : Vec Ideal S8192x128 .f32) (ix2 s n) := by
  unfold iblk1
  rw [View.read_apply]
  show V3 m ρ c main_v24_0 _ = V3 m ρ c main_v24_0 _
  congr 1
  have hi : win1_3.index t (0 : Fin 2) = t.val ∧ win1_3.index t (1 : Fin 2) = 0 :=
    (by decide +kernel : ∀ t : Fin grid1.N, win1_3.index t (0 : Fin 2) = t.val ∧ win1_3.index t (1 : Fin 2) = 0) t
  funext a
  apply Fin.ext
  match a with
  | ⟨0, _⟩ => show win1_3.index t 0 * 512 + 1 * r.val = s.val; rw [hi.1]; omega
  | ⟨1, _⟩ => show win1_3.index t 1 * 128 + 1 * n.val = n.val; rw [hi.2]; omega

/-- The rows of the signed sines. -/
theorem block4_apply (c : Dev nD) (t : Fin cfg1.N) (r : Fin 512) (n : Fin 128) (s : Fin 8192) (hs : s.val = 512 * t.val + r.val) :
    (iblk1 (V3 m ρ) c 4 t : Vec Ideal S512x128 .f32) (ix2 r n) = (V3 m ρ c main_v24_1 : Vec Ideal S8192x128 .f32) (ix2 s n) := by
  unfold iblk1
  rw [View.read_apply]
  show V3 m ρ c main_v24_1 _ = V3 m ρ c main_v24_1 _
  congr 1
  have hi : win1_4.index t (0 : Fin 2) = t.val ∧ win1_4.index t (1 : Fin 2) = 0 :=
    (by decide +kernel : ∀ t : Fin grid1.N, win1_4.index t (0 : Fin 2) = t.val ∧ win1_4.index t (1 : Fin 2) = 0) t
  funext a
  apply Fin.ext
  match a with
  | ⟨0, _⟩ => show win1_4.index t 0 * 512 + 1 * r.val = s.val; rw [hi.1]; omega
  | ⟨1, _⟩ => show win1_4.index t 1 * 128 + 1 * n.val = n.val; rw [hi.2]; omega

theorem apart5 : ∀ t t' : Fin cfg1.N, win1_5.index t = win1_5.index t' → t = t' :=
  (by decide +kernel : ∀ t t' : Fin grid1.N, win1_5.index t = win1_5.index t' → t = t')

/-- The norm at a row and a column. -/
theorem arr5_apply (c : Dev nD) (s : Fin 8192) (n : Fin 512) :
    ((dat1 (V3 m ρ) c).arrAt 5 cfg1.N : S8192x512.Idx → EReal) (ix2 s n) = rms (compressed (hOf m c) (wOf m c) s) (fun k => gOf m c (ix2 (0 : Fin 4) k)) n := by
  have ls := s.isLt
  have ln := n.isLt
  have hlt : s.val / 512 < cfg1.N := lt_of_lt_of_eq (show _ < 16 by omega) N_1.symm
  obtain ⟨t, ht⟩ : ∃ t : Fin cfg1.N, t.val = s.val / 512 := ⟨⟨_, hlt⟩, rfl⟩
  obtain ⟨r, hr⟩ : ∃ r : Fin 512, r.val = s.val % 512 := ⟨⟨_, Nat.mod_lt _ (by decide)⟩, rfl⟩
  have hs : s.val = 512 * t.val + r.val := by omega
  have e := congrFun ((dat1 (V3 m ρ) c).read_blk_arrAt_eq_flushed 5
    (fun t t' _ _ hne => (cfg1.win 5).disjoint_blk fun h => hne (apart5 t t' h)) cfg1.N t t.isLt (flush1_5 t)) (ix2 r n)
  have hi : win1_5.index t (0 : Fin 2) = t.val ∧ win1_5.index t (1 : Fin 2) = 0 :=
    (by decide +kernel : ∀ t : Fin grid1.N, win1_5.index t (0 : Fin 2) = t.val ∧ win1_5.index t (1 : Fin 2) = 0) t
  have hemb : ((cfg1.win 5).blk t).view.emb (ix2 r n) = ix2 s n := by
    funext a
    apply Fin.ext
    match a with
    | ⟨0, _⟩ => show win1_5.index t 0 * 512 + 1 * r.val = s.val; rw [hi.1]; omega
    | ⟨1, _⟩ => show win1_5.index t 1 * 512 + 1 * n.val = n.val; rw [hi.2]; omega
  rw [View.read_apply, hemb] at e
  refine e.trans ?_
  show ((cfg1.win 5).cut (grid1.coords t) ((dat1 (V3 m ρ) c).after 5 t)) _ = _
  rw [after1_5]
  show (out1_5 (iblk1 (V3 m ρ) c 0 t) (iblk1 (V3 m ρ) c 1 t) (iblk1 (V3 m ρ) c 2 t) (iblk1 (V3 m ρ) c 3 t) (iblk1 (V3 m ρ) c 4 t) : FVec Ideal S512x512 .bf16) (ix2 r n) = _
  have e0 (k : Fin 4096) := block0_apply m ρ c t r k s hs
  have e1 (j : Fin 512) (k : Fin 4096) := (block1_apply m ρ c t (⟨j.val, by omega⟩ : Fin 640) k _ rfl).trans
    (weights_apply m ρ c _ k (⟨7680 + j.val, by omega⟩ : Fin 28736) (by rw [if_pos (show j.val < 576 by omega)]))
  have e2 (k : Fin 512) := (block2_apply m ρ c t (0 : Fin 1) k (0 : Fin 1) rfl).trans (gains_apply m ρ c k)
  rw [out5_eq, pay3_apply]
  unfold compressed
  simp only [e0, e1, e2]

/-- The same as a function of its index. -/
theorem arr5_eq (c : Dev nD) : ((dat1 (V3 m ρ) c).arrAt 5 cfg1.N : S8192x512.Idx → EReal)
    = fun i => rms (compressed (hOf m c) (wOf m c) (i 0 : Fin 8192)) (fun k => gOf m c (ix2 (0 : Fin 4) k)) (i 1 : Fin 512) := by
  funext i
  have hi : i = ix2 (i 0 : Fin 8192) (i 1 : Fin 512) := funext fun a => by match a with | ⟨0, _⟩ => rfl | ⟨1, _⟩ => rfl
  rw [hi]
  exact arr5_apply m ρ c _ _

theorem apart6 : ∀ t t' : Fin cfg1.N, win1_6.index t = win1_6.index t' → t = t' :=
  (by decide +kernel : ∀ t t' : Fin grid1.N, win1_6.index t = win1_6.index t' → t = t')

/-- The rotary key at a row and a column. -/
theorem arr6_apply (c : Dev nD) (s : Fin 8192) (n : Fin 128) :
    ((dat1 (V3 m ρ) c).arrAt 6 cfg1.N : S8192x128.Idx → EReal) (ix2 s n) = turned (rotary (hOf m c) (wOf m c) s) (pOf m c (ix2 (0 : Fin 1) s)) (⟨n.val % 64, Nat.mod_lt _ (by decide)⟩ : Fin 64) := by
  have ls := s.isLt
  have ln := n.isLt
  have hlt : s.val / 512 < cfg1.N := lt_of_lt_of_eq (show _ < 16 by omega) N_1.symm
  obtain ⟨t, ht⟩ : ∃ t : Fin cfg1.N, t.val = s.val / 512 := ⟨⟨_, hlt⟩, rfl⟩
  obtain ⟨r, hr⟩ : ∃ r : Fin 512, r.val = s.val % 512 := ⟨⟨_, Nat.mod_lt _ (by decide)⟩, rfl⟩
  have hs : s.val = 512 * t.val + r.val := by omega
  have e := congrFun ((dat1 (V3 m ρ) c).read_blk_arrAt_eq_flushed 6
    (fun t t' _ _ hne => (cfg1.win 6).disjoint_blk fun h => hne (apart6 t t' h)) cfg1.N t t.isLt (flush1_6 t)) (ix2 r n)
  have hi : win1_6.index t (0 : Fin 2) = t.val ∧ win1_6.index t (1 : Fin 2) = 0 :=
    (by decide +kernel : ∀ t : Fin grid1.N, win1_6.index t (0 : Fin 2) = t.val ∧ win1_6.index t (1 : Fin 2) = 0) t
  have hemb : ((cfg1.win 6).blk t).view.emb (ix2 r n) = ix2 s n := by
    funext a
    apply Fin.ext
    match a with
    | ⟨0, _⟩ => show win1_6.index t 0 * 512 + 1 * r.val = s.val; rw [hi.1]; omega
    | ⟨1, _⟩ => show win1_6.index t 1 * 128 + 1 * n.val = n.val; rw [hi.2]; omega
  rw [View.read_apply, hemb] at e
  refine e.trans ?_
  show ((cfg1.win 6).cut (grid1.coords t) ((dat1 (V3 m ρ) c).after 6 t)) _ = _
  rw [after1_6]
  show (out1_6 (iblk1 (V3 m ρ) c 0 t) (iblk1 (V3 m ρ) c 1 t) (iblk1 (V3 m ρ) c 2 t) (iblk1 (V3 m ρ) c 3 t) (iblk1 (V3 m ρ) c 4 t) : FVec Ideal S512x128 .bf16) (ix2 r n) = _
  have e0 (k : Fin 4096) := block0_apply m ρ c t r k s hs
  rw [out6_eq, pay1_apply, pay5_apply, pay6_apply, block3_apply m ρ c t r n s hs, block4_apply m ρ c t r n s hs, cosTable_apply, sinTable_apply]
  refine turned_lane (rotary (hOf m c) (wOf m c) s) (pOf m c (ix2 (0 : Fin 1) s)) n (fun i => k1_pay4 (iblk1 (V3 m ρ) c 0 t) (iblk1 (V3 m ρ) c 1 t) (ix2 r i)) fun i _ => ?_
  have li := i.isLt
  have e1 (k : Fin 4096) := (block1_apply m ρ c t (⟨512 + i.val, by omega⟩ : Fin 640) k _ rfl).trans
    (weights_apply m ρ c _ k (⟨8192 + i.val % 64, by omega⟩ : Fin 28736) (by
      show 8192 + i.val % 64 = if 512 + i.val < 576 then 7680 + (512 + i.val) else 8192 + (512 + i.val - 576)
      split <;> omega))
  refine (pay4_apply _ _ r i).trans ?_
  unfold rotary
  simp only [e0, e1]

/-- The same as a function of its index. -/
theorem arr6_eq (c : Dev nD) : ((dat1 (V3 m ρ) c).arrAt 6 cfg1.N : S8192x128.Idx → EReal)
    = fun i => turned (rotary (hOf m c) (wOf m c) (i 0 : Fin 8192)) (pOf m c (ix2 (0 : Fin 1) (i 0 : Fin 8192))) (⟨(i 1 : Fin 128).val % 64, Nat.mod_lt _ (by decide)⟩ : Fin 64) := by
  funext i
  have hi : i = ix2 (i 0 : Fin 8192) (i 1 : Fin 128) := funext fun a => by match a with | ⟨0, _⟩ => rfl | ⟨1, _⟩ => rfl
  rw [hi]
  exact arr6_apply m ρ c _ _

end

/-- The reference's rotary key, read at an index. -/
theorem key_apply (m : (ℓ : Loc CkvrRefIdeal.nD CkvrRefIdeal.τ CkvrRefIdeal.sig) → Buf (Elt Ideal) ℓ) (c : Dev CkvrRefIdeal.nD) (s : Fin 8192) (n : Fin 128) :
    (CkvrRefIdeal.Value.res_main_v50 m c : Vec Ideal CkvrRefIdeal.S8192x128 .bf16) (ix2 s n)
      = turned (rotary (m ((c : Thread CkvrRefIdeal.nD CkvrRefIdeal.τ).loc CkvrRefIdeal.main_arg0)) (m ((c : Thread CkvrRefIdeal.nD CkvrRefIdeal.τ).loc CkvrRefIdeal.main_arg1)) s)
          ((m ((c : Thread CkvrRefIdeal.nD CkvrRefIdeal.τ).loc CkvrRefIdeal.main_arg3) : CkvrRefIdeal.S1x8192.Idx → BitVec 32) (ix2 (0 : Fin 1) s)) (⟨n.val % 64, Nat.mod_lt _ (by decide)⟩ : Fin 64) := by
  have ln := n.isLt
  unfold CkvrRefIdeal.Value.res_main_v50
  simp only [pointwise, zero_add, Fin.isValue, Matrix.cons_val, OfNat.ofNat_ne_one, ↓reduceDIte, Fin.val_zero, Fin.val_one, zero_ne_one, ↓reduceIte, Fin.eta]
  by_cases h : n.val < 64
  · have e : (⟨n.val % 64, Nat.mod_lt _ (by decide)⟩ : Fin 64) = ⟨n.val, h⟩ := Fin.ext (Nat.mod_eq_of_lt h)
    refine Eq.trans ?_ (congrArg (turned (rotary _ _ s) _) e).symm
    refine (dif_pos h).trans ?_
    by_cases h' : n.val < 32
    · exact (dif_pos h').trans (turned_lt (rotary _ _ s) _ (⟨n.val, h⟩ : Fin 64) h').symm
    · exact (dif_neg h').trans (turned_ge (rotary _ _ s) _ (⟨n.val, h⟩ : Fin 64) (Nat.le_of_not_lt h')).symm
  · have h64 : n.val - 64 < 64 := by omega
    have e : (⟨n.val % 64, Nat.mod_lt _ (by decide)⟩ : Fin 64) = ⟨n.val - 64, h64⟩ := Fin.ext (by show n.val % 64 = n.val - 64; omega)
    refine Eq.trans ?_ (congrArg (turned (rotary _ _ s) _) e).symm
    refine (dif_neg h).trans ?_
    by_cases h' : n.val - 64 < 32
    · exact (dif_pos h').trans (turned_lt (rotary _ _ s) _ (⟨n.val - 64, h64⟩ : Fin 64) h').symm
    · exact (dif_neg h').trans (turned_ge (rotary _ _ s) _ (⟨n.val - 64, h64⟩ : Fin 64) (Nat.le_of_not_lt h')).symm

end Cert.CkvrIdeal.Hand

end
-- ==== Proof.ConvOut.lean ====
/- What a point of `ConvIdeal` stores: the causal convolution of its 128 rows over the 31 rows up to each, the norm of it
   over the columns, and the gate. -/
module

public import proofs.«01_k».proof.Proof.Gen.ConvIdeal.Frame
public import Idealize.ShloMosaic.Lib.Pipeline.Value
public import Idealize.ShloMosaic.Lib.WritesUnit
public import Idealize.ShloMosaic.Lib.Tactic.ValueTie

@[expose] public section

set_option maxRecDepth 5000

noncomputable section

namespace Cert.ConvIdeal.Hand

open Cert.ConvIdeal Cert.ConvIdeal.Gen Idealize.ShloMosaic Idealize.ShloMosaic.TcCoe Idealize.SL.Sem

/-- One tap: a row of weights times the rows of a slab from a row on. -/
def tap {F : FTy → Type} [FloatOps F] (w : Vec F S1x128 .f32) (z : Vec F S152x128 .f32) (o : ℕ) (h : S152x128.Slices ![o, 0] S128x128) : FVec F S128x128 .f32 :=
  mulf (broadcastTo S128x128 (shapeCast S1x128 w shapeCasts_S1x128_S1x128) broadcasts_S1x128_S128x128) (extractStridedSlice S128x128 ![o, 0] z h)

/-- The taps of one slab. -/
def taps {F : FTy → Type} [FloatOps F] (w₀ w₁ w₂ w₃ : Vec F S1x128 .f32) (z : Vec F S152x128 .f32) : FVec F S128x128 .f32 :=
  addf (addf (addf (tap w₀ z 24 slices_S152x128_o24_0_S128x128) (tap w₁ z 16 slices_S152x128_o16_0_S128x128)) (tap w₂ z 8 slices_S152x128_o8_0_S128x128))
    (tap w₃ z 0 slices_S152x128_o0_0_S128x128)

/-- The taps of the last slab, one fewer. -/
def tapsLast {F : FTy → Type} [FloatOps F] (w₀ w₁ w₂ : Vec F S1x128 .f32) (z : Vec F S152x128 .f32) : FVec F S128x128 .f32 :=
  addf (addf (tap w₀ z 24 slices_S152x128_o24_0_S128x128) (tap w₁ z 16 slices_S152x128_o16_0_S128x128)) (tap w₂ z 8 slices_S152x128_o8_0_S128x128)

/-- A group of 128 columns of the convolution, from its eight slabs. -/
def group {F : FTy → Type} [FloatOps F] (b : Vec F S1x128 .f32) (w : ℕ → Vec F S1x128 .f32) (z : ℕ → Vec F S152x128 .f32) : FVec F S128x128 .f32 :=
  addf (addf (addf (addf (addf (addf (addf (addf
    (addf (broadcast S128x128 (FloatOps.ofBits .f32 0#32)) (broadcastTo S128x128 (shapeCast S1x128 b shapeCasts_S1x128_S1x128) broadcasts_S1x128_S128x128))
    (taps (w 30) (w 22) (w 14) (w 6) (z 8))) (taps (w 29) (w 21) (w 13) (w 5) (z 7))) (taps (w 28) (w 20) (w 12) (w 4) (z 6)))
    (taps (w 27) (w 19) (w 11) (w 3) (z 5))) (taps (w 26) (w 18) (w 10) (w 2) (z 4))) (taps (w 25) (w 17) (w 9) (w 1) (z 3)))
    (taps (w 24) (w 16) (w 8) (w 0) (z 2))) (tapsLast (w 23) (w 15) (w 7) (z 1))

/-- A tap read at an index. -/
theorem tap_apply (w : Vec Ideal S1x128 .f32) (z : Vec Ideal S152x128 .f32) (o : ℕ) (h : S152x128.Slices ![o, 0] S128x128) (p n : Fin 128) (i : Fin 152) (hi : i.val = o + p.val) :
    (tap w z o h : FVec Ideal S128x128 .f32) (ix2 p n) = (w (ix2 (0 : Fin 1) n) * z (ix2 i n) : EReal) := by
  unfold tap
  simp only [pointwise, zero_add, Fin.isValue, Matrix.cons_val]
  congr 2
  funext a
  apply Fin.ext
  match a with
  | ⟨0, _⟩ => exact hi.symm
  | ⟨1, _⟩ => rfl

/-- The thirty-one terms in the order that the kernel adds them, and in order. -/
theorem sum31 (f : ℕ → EReal) (b : EReal) :
    (0 + b) + (((f 30 + f 22) + f 14) + f 6) + (((f 29 + f 21) + f 13) + f 5) + (((f 28 + f 20) + f 12) + f 4) + (((f 27 + f 19) + f 11) + f 3)
      + (((f 26 + f 18) + f 10) + f 2) + (((f 25 + f 17) + f 9) + f 1) + (((f 24 + f 16) + f 8) + f 0) + ((f 23 + f 15) + f 7)
    = (∑ k ∈ Finset.range 31, f k) + b := by
  simp only [Finset.sum_range_succ, Finset.sum_range_zero]
  abel

/-- A group of columns read at an index, where slab `r` holds the rows from `r` on of a buffer. -/
theorem group_apply (b : Vec Ideal S1x128 .f32) (w : ℕ → Vec Ideal S1x128 .f32) (z : ℕ → Vec Ideal S152x128 .f32) (p n : Fin 128) (B : ℕ → EReal)
    (hz : ∀ (r : ℕ) (i : Fin 152), r ≤ 8 → z r (ix2 i n) = B (r + i.val)) :
    (group b w z : FVec Ideal S128x128 .f32) (ix2 p n) = ((∑ k ∈ Finset.range 31, (w k (ix2 (0 : Fin 1) n) * B (2 + k + p.val) : EReal)) + b (ix2 (0 : Fin 1) n) : EReal) := by
  have key (o : ℕ) (h : S152x128.Slices ![o, 0] S128x128) (r k : ℕ) (ho : o ≤ 24) (hr : r ≤ 8) (e : r + o = 2 + k) :
      (tap (w k) (z r) o h : FVec Ideal S128x128 .f32) (ix2 p n) = (w k (ix2 (0 : Fin 1) n) * B (2 + k + p.val) : EReal) := by
    have l := p.isLt
    rw [tap_apply _ _ o h p n (⟨o + p.val, by omega⟩ : Fin 152) rfl, hz r _ hr]
    congr 2
    show r + (o + p.val) = _
    omega
  rw [← sum31 (fun k => (w k (ix2 (0 : Fin 1) n) * B (2 + k + p.val) : EReal))]
  unfold group taps tapsLast
  simp only [pointwise]
  simp only [key, Nat.reduceLeDiff, Nat.reduceAdd]
  rfl

section
variable {F : FTy → Type} [FloatOps F]
/-- A slab lies in the buffer. -/
theorem inb_z {r o : ℕ} (hr : r ≤ 8) (ho : o + 128 ≤ 2048) : ∀ a, (![r, o] : Fin 2 → ℕ) a + S152x128.size a ≤ S160x2048.size a := fun a => by
  match a with
  | ⟨0, _⟩ => show r + 152 ≤ 160; omega
  | ⟨1, _⟩ => exact ho

/-- The rows of the buffer from row `r` on, at 128 columns. -/
def slab (v : View sig .tc .vmem S160x2048 .f32) (ps : List (View.Piece (Elt F) S160x2048 .f32)) (o : ℕ) (ho : o + 128 ≤ 2048) (r : ℕ) : Vec F S152x128 .f32 :=
  v.readCov ps (Rect.unit (s := S160x2048) ![min r 8, o] S152x128.size (inb_z (min_le_right r 8) ho)).toLoadRect

/-- A row of weights lies in the array. -/
theorem inb_w {k o : ℕ} (hk : k ≤ 31) (ho : o + 128 ≤ 2048) : ∀ a, (![k, o] : Fin 2 → ℕ) a + S1x128.size a ≤ S32x2048.size a := fun a => by
  match a with
  | ⟨0, _⟩ => show k + 1 ≤ 32; omega
  | ⟨1, _⟩ => exact ho

/-- One row of the weights, at 128 columns. -/
def weights (v : View sig .tc .vmem S32x2048 .f32) (x : v.ty.Contents (Elt F)) (o : ℕ) (ho : o + 128 ≤ 2048) (k : ℕ) : Vec F S1x128 .f32 :=
  v.readAt (Elt F) (Rect.unit (s := S32x2048) ![min k 31, o] S1x128.size (inb_w (min_le_right k 31) ho)).toLoadRect x

/-- The columns of the bias lie in the array. -/
theorem inb_b {o : ℕ} (ho : o + 128 ≤ 2048) : ∀ a, (![0, o] : Fin 2 → ℕ) a + S1x128.size a ≤ S1x2048.size a := fun a => by
  match a with
  | ⟨0, _⟩ => exact Nat.le_refl 1
  | ⟨1, _⟩ => exact ho

/-- The bias, at 128 columns. -/
def bias (v : View sig .tc .vmem S1x2048 .f32) (x : v.ty.Contents (Elt F)) (o : ℕ) (ho : o + 128 ≤ 2048) : Vec F S1x128 .f32 :=
  v.readAt (Elt F) (Rect.unit (s := S1x2048) ![0, o] S1x128.size (inb_b ho)).toLoadRect x

variable (c : Dev nD) (i : grid0.Coords) (arg1 : Memref sig .tc .vmem S128x2048 .f32) (harg1 : arg1.IsWhole) (arg2 : Memref sig .tc .vmem S32x2048 .f32) (harg2 : arg2.IsWhole) (arg4 : Memref sig .tc .vmem S32x2048 .f32) (harg4 : arg4.IsWhole) (arg5 : Memref sig .tc .vmem S1x2048 .f32) (harg5 : arg5.IsWhole) (arg9 : Memref sig .tc .vmem S160x2048 .f32)
  (x0 : Vec F S128x2048 .f32) (x1 : Vec F S32x2048 .f32) (x3 : Vec F S32x2048 .f32) (x4 : Vec F S1x2048 .f32)

/-- What the kernel stores for 128 columns, -/
def columns (o : ℕ) (ho : o + 128 ≤ 2048) : FVec F S128x128 .f32 :=
  shapeCast S128x128 (group (bias arg5.view (harg5.unread x4) o ho) (weights arg4.view (harg4.unread x3) o ho) (slab arg9.view (kernelRun0_A.sl.HS0_2 c i arg1 harg1 arg2 harg2 x0 x1) o ho)) shapeCasts_S128x128_S128x128

/-- the stores of all the columns, -/
def pieces : List (View.Piece (Elt F) S128x2048 .f32) :=
  let q (o : ℕ) (ho : o + 128 ≤ 2048) (inb : ∀ a, (![0, o] : Fin 2 → ℕ) a + S128x128.size a ≤ S128x2048.size a) : View.Piece (Elt F) S128x2048 .f32 :=
    ⟨Rect.unit (s := S128x2048) ![0, o] S128x128.size inb, columns c i arg1 harg1 arg2 harg2 arg4 harg4 arg5 harg5 arg9 x0 x1 x3 x4 o ho⟩
  [q 1920 (by decide) inb_S128x2048_S128x128_0_1920, q 1792 (by decide) inb_S128x2048_S128x128_0_1792, q 1664 (by decide) inb_S128x2048_S128x128_0_1664,
   q 1536 (by decide) inb_S128x2048_S128x128_0_1536, q 1408 (by decide) inb_S128x2048_S128x128_0_1408, q 1280 (by decide) inb_S128x2048_S128x128_0_1280,
   q 1152 (by decide) inb_S128x2048_S128x128_0_1152, q 1024 (by decide) inb_S128x2048_S128x128_0_1024, q 896 (by decide) inb_S128x2048_S128x128_0_896,
   q 768 (by decide) inb_S128x2048_S128x128_0_768, q 640 (by decide) inb_S128x2048_S128x128_0_640, q 512 (by decide) inb_S128x2048_S128x128_0_512,
   q 384 (by decide) inb_S128x2048_S128x128_0_384, q 256 (by decide) inb_S128x2048_S128x128_0_256, q 128 (by decide) inb_S128x2048_S128x128_0_128,
   q 0 (by decide) inb_S128x2048_S128x128_0_0]

/-- as the kernel makes them. -/
theorem pieces_eq : kernelRun0_A.sl.HS1_16 c i arg1 harg1 arg2 harg2 arg4 harg4 arg5 harg5 arg9 x0 x1 x3 x4
    = pieces c i arg1 harg1 arg2 harg2 arg4 harg4 arg5 harg5 arg9 x0 x1 x3 x4 := by
  rfl
end

/-! ### The norm and the gate -/

/-- A row less its mean. -/
def centred (x : Fin 2048 → EReal) (n : Fin 2048) : EReal :=
  x n - Ideal.div (∑ k : Fin 2048, x k) (Scalar.ofBits .f32 0x45000000#32 : Ideal .f32)

/-- The norm of a row, with a gain and an offset. -/
def normed (x g b : Fin 2048 → EReal) (n : Fin 2048) : EReal :=
  centred x n * Ideal.rsqrt (Ideal.div (∑ k : Fin 2048, centred x k * centred x k) (Scalar.ofBits .f32 0x45000000#32 : Ideal .f32) + (Scalar.ofBits .f32 0x358637BD#32 : Ideal .f32)) * g n + b n

/-- A number times its logistic function. -/
def swish (x : EReal) : EReal := x * Ideal.div 1 (1 + Ideal.exp (-x))

/-- The stored value, read at an index. -/
theorem stored_apply (x : Vec Ideal S128x2048 .f32) (g b : Vec Ideal S1x2048 .f32) (y : Vec Ideal S128x2048 .bf16) (p : Fin 128) (n : Fin 2048) :
    (k0_pay1 (k0_pay195 x) (k0_pay196 x) k0_pay197 g b y : FVec Ideal S128x2048 .bf16) (ix2 p n)
      = (swish (normed (fun j => x (ix2 p j)) (fun j => g (ix2 (0 : Fin 1) j)) (fun j => b (ix2 (0 : Fin 1) j)) n) * y (ix2 p n) : EReal) := by
  have e (j : Fin 2048) : (k0_pay195 x : FVec Ideal S128x2048 .f32) (ix2 p j) = centred (fun j => x (ix2 p j)) j := by
    unfold k0_pay195 centred
    simp only [pointwise, zero_add, Fin.isValue, Matrix.cons_val, OfNat.ofNat_ne_one, ↓reduceDIte]
  have e' : (k0_pay196 x : FVec Ideal S128x1 .f32) (ix2 p (0 : Fin 1)) = Ideal.div (∑ k : Fin 2048, centred (fun j => x (ix2 p j)) k * centred (fun j => x (ix2 p j)) k) (Scalar.ofBits .f32 0x45000000#32 : Ideal .f32) := by
    unfold k0_pay196
    simp only [pointwise, Fin.isValue]
    simp only [e]
  unfold k0_pay1 k0_pay197 swish normed
  simp only [pointwise, Fin.isValue, Matrix.cons_val, OfNat.ofNat_ne_one, ↓reduceDIte]
  rw [e', e]
  rfl

/-! ### The buffer of rows -/

/-- The buffer of 160 rows: 32 rows before the block, then the block. -/
def bufferRow (i : grid0.Coords) (x0 : Vec Ideal S128x2048 .f32) (x1 : Vec Ideal S32x2048 .f32) (n : Fin 2048) (j : ℕ) : EReal :=
  if h : j < 32 then (if 0 < (i 0).val then x1 (ix2 (⟨j, h⟩ : Fin 32) n) else 0) else if h' : j < 160 then x0 (ix2 (⟨j - 32, by omega⟩ : Fin 128) n) else 0

/-- The rows before the block, zero at the first. -/
theorem pay2_apply (i : grid0.Coords) (x : Vec Ideal S32x2048 .f32) (j : Fin 32) (n : Fin 2048) :
    (k0_pay2 i x : FVec Ideal S32x2048 .f32) (ix2 j n) = (if 0 < (i 0).val then x (ix2 j n) else 0 : EReal) := by
  have h : (Scalar.cmpi .sgt (BitVec.ofNat 32 (i 0).val) 0#32) = if 0 < (i 0).val then 1#1 else 0#1 :=
    (by decide +kernel : ∀ a : Fin 64, (Scalar.cmpi .sgt (BitVec.ofNat 32 a.val) 0#32) = if 0 < a.val then 1#1 else 0#1) (i 0)
  unfold k0_pay2
  dsimp only
  rw [h]
  by_cases hi : 0 < (i 0).val
  · rw [if_pos hi, if_pos hi]
    simp only [pointwise]
  · rw [if_neg hi, if_neg hi]
    simp only [pointwise]

/-- A whole block, loaded. -/
theorem load_whole {κ : Kind} {sp : Space} {a b : ℕ} {e : EltTy} (v : View sig κ sp ⟨2, ![a, b]⟩ e) (f : v.ty.Contents (Elt Ideal))
    (inb : ∀ d, (![0, 0] : Fin 2 → ℕ) d + (![a, b] : Fin 2 → ℕ) d ≤ (![a, b] : Fin 2 → ℕ) d) (p : Fin a) (n : Fin b) :
    v.readAt (Elt Ideal) (Rect.unit (s := ⟨2, ![a, b]⟩) ![0, 0] ![a, b] inb).toLoadRect f (ix2 p n) = v.read (Elt Ideal) f (ix2 p n) := by
  rw [View.readAt_apply]
  congr 1
  funext d
  apply Fin.ext
  match d with
  | ⟨0, _⟩ => show 0 + 1 * p.val = p.val; omega
  | ⟨1, _⟩ => show 0 + 1 * n.val = n.val; omega

/-- The buffer as its two stores leave it. -/
theorem read_rows {κ : Kind} {sp : Space} (v : View sig κ sp S160x2048 .f32) (f : v.ty.Contents (Elt Ideal)) (inb₁ inb₀) (w₁ : (⟨2, ![128, 2048]⟩ : Shape).Idx → EReal) (w₀ : (⟨2, ![32, 2048]⟩ : Shape).Idx → EReal)
    (j : Fin 160) (n : Fin 2048) :
    v.read (Elt Ideal) (v.writes (Elt Ideal) f
      [(⟨Rect.unit (s := S160x2048) ![32, 0] ![128, 2048] inb₁, w₁⟩ : View.Piece (Elt Ideal) S160x2048 .f32), ⟨Rect.unit (s := S160x2048) ![0, 0] ![32, 2048] inb₀, w₀⟩]) (ix2 j n)
      = if h : j.val < 32 then w₀ (ix2 (⟨j.val, h⟩ : Fin 32) n) else w₁ (ix2 (⟨j.val - 32, by omega⟩ : Fin 128) n) := by
  by_cases h : j.val < 32
  · rw [dif_pos h]
    refine (View.read_writes_cons_unit_of_not_mem v f inb₁ w₁ _ (ix2 j n) (off' := ![32, 0]) rfl 0 (.inl h)).trans ?_
    refine View.read_writes_cons_unit_of_mem v f inb₀ w₀ [] (ix2 j n) (ix2 (⟨j.val, h⟩ : Fin 32) n) (off' := ![0, 0]) rfl fun a => ?_
    match a with
    | 0 => exact (Nat.zero_add _).symm
    | 1 => exact (Nat.zero_add _).symm
  · rw [dif_neg h]
    refine View.read_writes_cons_unit_of_mem v f inb₁ w₁ _ (ix2 j n) (ix2 (⟨j.val - 32, by omega⟩ : Fin 128) n) (off' := ![32, 0]) rfl fun a => ?_
    match a with
    | 0 => show j.val = 32 + (j.val - 32); omega
    | 1 => exact (Nat.zero_add _).symm

section Point
variable (c : Dev nD) (i : grid0.Coords) (arg1 : Memref sig .tc .vmem S128x2048 .f32) (harg1 : arg1.IsWhole) (arg2 : Memref sig .tc .vmem S32x2048 .f32) (harg2 : arg2.IsWhole) (arg3 : Memref sig .tc .vmem S128x2048 .bf16) (harg3 : arg3.IsWhole) (arg4 : Memref sig .tc .vmem S32x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S128x2048 .bf16) (harg8 : arg8.IsWhole) (arg9 : Memref sig .tc .vmem S160x2048 .f32) (harg9 : arg9.IsWhole) (arg10 : Memref sig .tc .vmem S128x2048 .f32) (harg10 : arg10.IsWhole)
  (x0 : Vec Ideal S128x2048 .f32) (x1 : Vec Ideal S32x2048 .f32) (x2 : Vec Ideal S128x2048 .bf16) (x3 : Vec Ideal S32x2048 .f32) (x4 x5 x6 : Vec Ideal S1x2048 .f32)

/-- A slab, read at an index. -/
theorem slab_apply (o : ℕ) (ho : o + 128 ≤ 2048) (r : ℕ) (hr : r ≤ 8) (a : Fin 152) (l : Fin 128) (n : Fin 2048) (hn : n.val = o + l.val) :
    (slab arg9.view (kernelRun0_A.sl.HS0_2 (F := Ideal) c i arg1 harg1 arg2 harg2 x0 x1) o ho r : Vec Ideal S152x128 .f32) (ix2 a l) = bufferRow i x0 x1 n (r + a.val) := by
  have la := a.isLt
  unfold slab View.readCov
  rw [View.readAt_apply]
  have hidx : ((Rect.unit (s := S160x2048) ![min r 8, o] S152x128.size (inb_z (min_le_right r 8) ho)).toLoadRect).idx (ix2 a l) = ix2 (⟨r + a.val, by omega⟩ : Fin 160) n := by
    funext d
    apply Fin.ext
    match d with
    | ⟨0, _⟩ => show min r 8 + 1 * a.val = r + a.val; omega
    | ⟨1, _⟩ => show o + 1 * l.val = n.val; omega
  rw [hidx]
  unfold kernelRun0_A.sl.HS0_2
  refine (read_rows arg9.view _ _ _ _ _ _ n).trans ?_
  unfold bufferRow
  by_cases h : r + a.val < 32
  · rw [dif_pos h, dif_pos h]
    refine (pay2_apply i _ _ n).trans ?_
    rw [load_whole arg2.view _ _ _ n, harg2.read_unread]
  · rw [dif_neg h, dif_neg h, dif_pos (by omega)]
    unfold k0_pay3
    simp only [pointwise]
    rw [load_whole arg1.view _ _ _ n, harg1.read_unread]

/-- The convolution at a row and a column of the block. -/
def convRow (p : Fin 128) (n : Fin 2048) : EReal :=
  (∑ k ∈ Finset.range 31, ((if h : k < 32 then x3 (ix2 (⟨k, h⟩ : Fin 32) n) else 0) * bufferRow i x0 x1 n (2 + k + p.val) : EReal)) + x4 (ix2 (0 : Fin 1) n)

/-- A group of columns, read at an index, is the convolution there. -/
theorem columns_apply (o : ℕ) (ho : o + 128 ≤ 2048) (p l : Fin 128) (n : Fin 2048) (hn : n.val = o + l.val) :
    (columns (F := Ideal) c i arg1 harg1 arg2 harg2 arg4 harg4 arg5 harg5 arg9 x0 x1 x3 x4 o ho : FVec Ideal S128x128 .f32) (ix2 p l) = convRow i x0 x1 x3 x4 p n := by
  unfold columns
  simp only [pointwise]
  rw [group_apply _ _ _ p l (bufferRow i x0 x1 n) fun r a hr => slab_apply c i arg1 harg1 arg2 harg2 arg9 x0 x1 o ho r hr a l n hn]
  unfold convRow
  refine congrArg₂ (· + ·) (Finset.sum_congr rfl fun k hk => congrArg (· * _) ?_) ?_
  · have hk' : k < 31 := Finset.mem_range.1 hk
    rw [dif_pos (show k < 32 by omega)]
    unfold weights
    rw [View.readAt_apply, harg4.read_unread]
    congr 1
    funext d
    apply Fin.ext
    match d with
    | ⟨0, _⟩ => show min k 31 + 1 * 0 = k; omega
    | ⟨1, _⟩ => show o + 1 * l.val = n.val; omega
  · unfold bias
    rw [View.readAt_apply, harg5.read_unread]
    congr 1
    funext d
    apply Fin.ext
    match d with
    | ⟨0, _⟩ => rfl
    | ⟨1, _⟩ => show o + 1 * l.val = n.val; omega

/-- The array of the convolution, read back. -/
theorem conv_apply (p : Fin 128) (n : Fin 2048) :
    (kernelRun0_A.sl.v3243 (F := Ideal) c i arg1 harg1 arg2 harg2 arg4 harg4 arg5 harg5 arg9 arg10 x0 x1 x3 x4 : Vec Ideal S128x2048 .f32) (ix2 p n) = convRow i x0 x1 x3 x4 p n := by
  unfold kernelRun0_A.sl.v3243 View.readCov
  refine (load_whole arg10.view _ _ p n).trans ?_
  rw [pieces_eq]
  have hG : ∀ (o : ℕ) (ho : o + 128 ≤ 2048) (inb : ∀ a, (![0, o] : Fin 2 → ℕ) a + S128x128.size a ≤ S128x2048.size a) (x : S128x128.Idx),
      (columns (F := Ideal) c i arg1 harg1 arg2 harg2 arg4 harg4 arg5 harg5 arg9 x0 x1 x3 x4 o ho : FVec Ideal S128x128 .f32) x
        = (fun y : S128x2048.Idx => convRow i x0 x1 x3 x4 (y 0) (y 1)) ((Rect.unit (s := S128x2048) ![0, o] S128x128.size inb).emb x) := by
    intro o ho inb x
    have hx : x = ix2 (x 0 : Fin 128) (x 1 : Fin 128) := funext fun a => by match a with | ⟨0, _⟩ => rfl | ⟨1, _⟩ => rfl
    have h0 : ((Rect.unit (s := S128x2048) ![0, o] S128x128.size inb).emb x) 0 = (x 0 : Fin 128) := Fin.ext (show 0 + 1 * (x 0).val = (x 0).val by omega)
    rw [hx]
    rw [hx] at h0
    refine (columns_apply c i arg1 harg1 arg2 harg2 arg4 harg4 arg5 harg5 arg9 x0 x1 x3 x4 o ho (x 0) (x 1) (((Rect.unit (s := S128x2048) ![0, o] S128x128.size inb).emb (ix2 (x 0 : Fin 128) (x 1 : Fin 128))) 1) (show o + 1 * (x 1).val = o + (x 1).val by omega)).trans ?_
    exact congrArg (convRow i x0 x1 x3 x4 · _) h0.symm
  have hc := View.cover_of_tiledL (pieces (F := Ideal) c i arg1 harg1 arg2 harg2 arg4 harg4 arg5 harg5 arg9 x0 x1 x3 x4) S128x128.size (by sl_kernel_rfl) (ix2 p n)
  refine View.read_writes_apply_of_pieces arg10.view _ (fun y : S128x2048.Idx => convRow i x0 x1 x3 x4 (y 0) (y 1)) _ ?_ (ix2 p n) hc
  intro pc hpc
  unfold pieces at hpc
  simp only [List.mem_cons, List.not_mem_nil, or_false] at hpc
  rcases hpc with rfl | rfl | rfl | rfl | rfl | rfl | rfl | rfl | rfl | rfl | rfl | rfl | rfl | rfl | rfl | rfl
  · exact hG 1920 (by decide) inb_S128x2048_S128x128_0_1920
  · exact hG 1792 (by decide) inb_S128x2048_S128x128_0_1792
  · exact hG 1664 (by decide) inb_S128x2048_S128x128_0_1664
  · exact hG 1536 (by decide) inb_S128x2048_S128x128_0_1536
  · exact hG 1408 (by decide) inb_S128x2048_S128x128_0_1408
  · exact hG 1280 (by decide) inb_S128x2048_S128x128_0_1280
  · exact hG 1152 (by decide) inb_S128x2048_S128x128_0_1152
  · exact hG 1024 (by decide) inb_S128x2048_S128x128_0_1024
  · exact hG 896 (by decide) inb_S128x2048_S128x128_0_896
  · exact hG 768 (by decide) inb_S128x2048_S128x128_0_768
  · exact hG 640 (by decide) inb_S128x2048_S128x128_0_640
  · exact hG 512 (by decide) inb_S128x2048_S128x128_0_512
  · exact hG 384 (by decide) inb_S128x2048_S128x128_0_384
  · exact hG 256 (by decide) inb_S128x2048_S128x128_0_256
  · exact hG 128 (by decide) inb_S128x2048_S128x128_0_128
  · exact hG 0 (by decide) inb_S128x2048_S128x128_0_0

/-- What a point stores, at a row and a column. -/
theorem out_apply (p : Fin 128) (n : Fin 2048) :
    (out0_A_7 (F := Ideal) c i arg1 harg1 arg2 harg2 arg3 harg3 arg4 harg4 arg5 harg5 arg6 harg6 arg7 harg7 arg8 harg8 arg9 harg9 arg10 harg10 x0 x1 x2 x3 x4 x5 x6 : FVec Ideal S128x2048 .bf16) (ix2 p n)
      = (swish (normed (convRow i x0 x1 x3 x4 p) (fun j => x5 (ix2 (0 : Fin 1) j)) (fun j => x6 (ix2 (0 : Fin 1) j)) n) * x2 (ix2 p n) : EReal) := by
  unfold out0_A_7 kernelRun0_A
  dsimp only
  refine (View.read_writes_cons_unit_of_mem VO0_7 _ _ _ [] (ix2 p n) (ix2 p n) (off' := ![0, 0]) rfl fun a => ?_).trans ?_
  · match a with
    | 0 => exact (Nat.zero_add _).symm
    | 1 => exact (Nat.zero_add _).symm
  unfold kernelRun0_A.sl.r_181 kernelRun0_A.sl.r_182
  refine (stored_apply _ _ _ _ p n).trans ?_
  have e5 (j : Fin 2048) := (load_whole arg6.view (harg6.unread x5) inb_S1x2048_S1x2048_0_0 (0 : Fin 1) j).trans (congrFun (harg6.read_unread x5) _)
  have e6 (j : Fin 2048) := (load_whole arg7.view (harg7.unread x6) inb_S1x2048_S1x2048_0_0 (0 : Fin 1) j).trans (congrFun (harg7.read_unread x6) _)
  have e2 := (load_whole arg3.view (harg3.unread x2) inb_S128x2048_S128x2048_0_0 p n).trans (congrFun (harg3.read_unread x2) _)
  have ec := funext fun j => conv_apply c i arg1 harg1 arg2 harg2 arg4 harg4 arg5 harg5 arg9 arg10 x0 x1 x3 x4 p j
  refine congrArg₂ (· * ·) (congrArg swish ?_) e2
  refine (congrArg (fun z => normed z _ _ n) ec).trans ?_
  exact (congrArg (fun z => normed _ z _ n) (funext e5)).trans (congrArg (fun z => normed _ _ z n) (funext e6))

end Point

end Cert.ConvIdeal.Hand

end
-- ==== Proof.ConvValue.lean ====
/- The value of `ConvIdeal`, the causal convolution over 31 rows, the norm of it and its gate: the windows a point stages, the
   result array read at an index, and the run with the result array named. -/
module

public import proofs.«01_k».proof.Proof.ConvOut
public import Idealize.ShloMosaic.Lib.Pipeline.Value
public import Idealize.ShloMosaic.Lib.Tactic.ValueTie

@[expose] public section

set_option maxRecDepth 5000

noncomputable section

namespace Cert.ConvIdeal.Hand

open Cert.ConvIdeal Cert.ConvIdeal.Gen Idealize.ShloMosaic Idealize.ShloMosaic.TcCoe Idealize.SL.Sem
open Idealize.ShloMosaic.Pipeline (Dat)

/-! ### The branch, read at a row and a column -/

/-- Row `i - 30` of the activations, zero before the first. -/
def earlier (y : (⟨2, ![8192, 2048]⟩ : Shape).Idx → EReal) (n : Fin 2048) (i : ℕ) : EReal :=
  if h : 30 ≤ i ∧ i < 8222 then y (ix2 (⟨i - 30, by omega⟩ : Fin 8192) n) else 0

/-- The convolution with one layer's weights and bias. -/
def convAt (y : (⟨2, ![8192, 2048]⟩ : Shape).Idx → EReal) (w : (⟨3, ![4, 31, 2048]⟩ : Shape).Idx → EReal) (b : (⟨2, ![4, 2048]⟩ : Shape).Idx → EReal)
    (s : Fin 8192) (n : Fin 2048) : EReal :=
  (∑ k ∈ Finset.range 31, ((if h : k < 31 then w (ix3 (0 : Fin 4) (⟨k, h⟩ : Fin 31) n) else 0) * earlier y n (s.val + k) : EReal)) + b (ix2 (0 : Fin 4) n)

/-- The norm of the convolution over the columns, times its logistic function and the gate. -/
def branch (y : (⟨2, ![8192, 2048]⟩ : Shape).Idx → EReal) (gate : (⟨2, ![8192, 2048]⟩ : Shape).Idx → EReal) (w : (⟨3, ![4, 31, 2048]⟩ : Shape).Idx → EReal)
    (b g o : (⟨2, ![4, 2048]⟩ : Shape).Idx → EReal) (s : Fin 8192) (n : Fin 2048) : EReal :=
  swish (normed (convAt y w b s) (fun j => g (ix2 (0 : Fin 4) j)) (fun j => o (ix2 (0 : Fin 4) j)) n) * gate (ix2 s n)

section
variable (m : (ℓ : Loc nD τ sig) → Buf (Elt Ideal) ℓ)

/-- The arrays that the program is given: activations, gate, weights, bias, gain and offset. -/
abbrev yOf (c : Dev nD) : S8192x2048.Idx → EReal := m ((c : Thread nD τ).loc main_arg0)
abbrev gateOf (c : Dev nD) : S8192x2048.Idx → EReal := m ((c : Thread nD τ).loc main_arg1)
abbrev wOf (c : Dev nD) : S4x31x2048.Idx → EReal := m ((c : Thread nD τ).loc main_arg2)
abbrev bOf (c : Dev nD) : S4x2048.Idx → EReal := m ((c : Thread nD τ).loc main_arg3)
abbrev gOf (c : Dev nD) : S4x2048.Idx → EReal := m ((c : Thread nD τ).loc main_arg4)
abbrev oOf (c : Dev nD) : S4x2048.Idx → EReal := m ((c : Thread nD τ).loc main_arg5)

/-- The 128 rows of a point. -/
theorem iblk0_apply (c : Dev nD) (t : Fin cfg0.N) (y : S128x2048.Idx) (i0 : Fin 8192) (i1 : Fin 2048) (h0 : i0.val = 128 * (t.val) + (y 0).val) (h1 : i1.val = (y 1).val) :
    (iblk m c 0 t : Vec Ideal S128x2048 .f32) y = (yOf m c : Vec Ideal S8192x2048 .f32) (ix2 i0 i1) := by
  unfold iblk
  rw [View.read_apply]
  show V m c main_arg0 _ = _
  rw [V_main_arg0]
  congr 1
  have hi : win0_0.index t (0 : Fin 2) = t.val ∧ win0_0.index t (1 : Fin 2) = 0 :=
    (by decide +kernel : ∀ t : Fin grid0.N, win0_0.index t (0 : Fin 2) = t.val ∧ win0_0.index t (1 : Fin 2) = 0) t
  funext a
  apply Fin.ext
  match a with
  | ⟨0, _⟩ => show win0_0.index t 0 * 128 + 1 * (y 0).val = i0.val; rw [hi.1]; omega
  | ⟨1, _⟩ => show win0_0.index t 1 * 2048 + 1 * (y 1).val = i1.val; rw [hi.2]; omega

/-- The 32 rows before them. -/
theorem iblk1_apply (c : Dev nD) (t : Fin cfg0.N) (y : S32x2048.Idx) (i0 : Fin 8192) (i1 : Fin 2048) (h0 : i0.val = 32 * (4 * t.val - 1) + (y 0).val) (h1 : i1.val = (y 1).val) :
    (iblk m c 1 t : Vec Ideal S32x2048 .f32) y = (yOf m c : Vec Ideal S8192x2048 .f32) (ix2 i0 i1) := by
  unfold iblk
  rw [View.read_apply]
  show V m c main_arg0 _ = _
  rw [V_main_arg0]
  congr 1
  have hi : win0_1.index t (0 : Fin 2) = 4 * t.val - 1 ∧ win0_1.index t (1 : Fin 2) = 0 :=
    (by decide +kernel : ∀ t : Fin grid0.N, win0_1.index t (0 : Fin 2) = 4 * t.val - 1 ∧ win0_1.index t (1 : Fin 2) = 0) t
  funext a
  apply Fin.ext
  match a with
  | ⟨0, _⟩ => show win0_1.index t 0 * 32 + 1 * (y 0).val = i0.val; rw [hi.1]; omega
  | ⟨1, _⟩ => show win0_1.index t 1 * 2048 + 1 * (y 1).val = i1.val; rw [hi.2]; omega

/-- The gate. -/
theorem iblk2_apply (c : Dev nD) (t : Fin cfg0.N) (y : S128x2048.Idx) (i0 : Fin 8192) (i1 : Fin 2048) (h0 : i0.val = 128 * (t.val) + (y 0).val) (h1 : i1.val = (y 1).val) :
    (iblk m c 2 t : Vec Ideal S128x2048 .bf16) y = (gateOf m c : Vec Ideal S8192x2048 .bf16) (ix2 i0 i1) := by
  unfold iblk
  rw [View.read_apply]
  show V m c main_arg1 _ = _
  rw [V_main_arg1]
  congr 1
  have hi : win0_2.index t (0 : Fin 2) = t.val ∧ win0_2.index t (1 : Fin 2) = 0 :=
    (by decide +kernel : ∀ t : Fin grid0.N, win0_2.index t (0 : Fin 2) = t.val ∧ win0_2.index t (1 : Fin 2) = 0) t
  funext a
  apply Fin.ext
  match a with
  | ⟨0, _⟩ => show win0_2.index t 0 * 128 + 1 * (y 0).val = i0.val; rw [hi.1]; omega
  | ⟨1, _⟩ => show win0_2.index t 1 * 2048 + 1 * (y 1).val = i1.val; rw [hi.2]; omega

/-- The weights, with a row added. -/
theorem iblk3_apply (c : Dev nD) (t : Fin cfg0.N) (y : S32x2048.Idx) (i0 : Fin 32) (i1 : Fin 2048) (h0 : i0.val = 32 * (0) + (y 0).val) (h1 : i1.val = (y 1).val) :
    (iblk m c 3 t : Vec Ideal S32x2048 .f32) y = (V m c main_v8 : Vec Ideal S32x2048 .f32) (ix2 i0 i1) := by
  unfold iblk
  rw [View.read_apply]
  show V m c main_v8 _ = _
  congr 1
  have hi : win0_3.index t (0 : Fin 2) = 0 ∧ win0_3.index t (1 : Fin 2) = 0 :=
    (by decide +kernel : ∀ t : Fin grid0.N, win0_3.index t (0 : Fin 2) = 0 ∧ win0_3.index t (1 : Fin 2) = 0) t
  funext a
  apply Fin.ext
  match a with
  | ⟨0, _⟩ => show win0_3.index t 0 * 32 + 1 * (y 0).val = i0.val; rw [hi.1]; omega
  | ⟨1, _⟩ => show win0_3.index t 1 * 2048 + 1 * (y 1).val = i1.val; rw [hi.2]; omega

/-- The bias. -/
theorem iblk4_apply (c : Dev nD) (t : Fin cfg0.N) (y : S1x2048.Idx) (i0 : Fin 1) (i1 : Fin 2048) (h0 : i0.val = 1 * (0) + (y 0).val) (h1 : i1.val = (y 1).val) :
    (iblk m c 4 t : Vec Ideal S1x2048 .f32) y = (V m c main_v9 : Vec Ideal S1x2048 .f32) (ix2 i0 i1) := by
  unfold iblk
  rw [View.read_apply]
  show V m c main_v9 _ = _
  congr 1
  have hi : win0_4.index t (0 : Fin 2) = 0 ∧ win0_4.index t (1 : Fin 2) = 0 :=
    (by decide +kernel : ∀ t : Fin grid0.N, win0_4.index t (0 : Fin 2) = 0 ∧ win0_4.index t (1 : Fin 2) = 0) t
  funext a
  apply Fin.ext
  match a with
  | ⟨0, _⟩ => show win0_4.index t 0 * 1 + 1 * (y 0).val = i0.val; rw [hi.1]; omega
  | ⟨1, _⟩ => show win0_4.index t 1 * 2048 + 1 * (y 1).val = i1.val; rw [hi.2]; omega

/-- The gain. -/
theorem iblk5_apply (c : Dev nD) (t : Fin cfg0.N) (y : S1x2048.Idx) (i0 : Fin 1) (i1 : Fin 2048) (h0 : i0.val = 1 * (0) + (y 0).val) (h1 : i1.val = (y 1).val) :
    (iblk m c 5 t : Vec Ideal S1x2048 .f32) y = (V m c main_v10 : Vec Ideal S1x2048 .f32) (ix2 i0 i1) := by
  unfold iblk
  rw [View.read_apply]
  show V m c main_v10 _ = _
  congr 1
  have hi : win0_5.index t (0 : Fin 2) = 0 ∧ win0_5.index t (1 : Fin 2) = 0 :=
    (by decide +kernel : ∀ t : Fin grid0.N, win0_5.index t (0 : Fin 2) = 0 ∧ win0_5.index t (1 : Fin 2) = 0) t
  funext a
  apply Fin.ext
  match a with
  | ⟨0, _⟩ => show win0_5.index t 0 * 1 + 1 * (y 0).val = i0.val; rw [hi.1]; omega
  | ⟨1, _⟩ => show win0_5.index t 1 * 2048 + 1 * (y 1).val = i1.val; rw [hi.2]; omega

/-- The offset. -/
theorem iblk6_apply (c : Dev nD) (t : Fin cfg0.N) (y : S1x2048.Idx) (i0 : Fin 1) (i1 : Fin 2048) (h0 : i0.val = 1 * (0) + (y 0).val) (h1 : i1.val = (y 1).val) :
    (iblk m c 6 t : Vec Ideal S1x2048 .f32) y = (V m c main_v11 : Vec Ideal S1x2048 .f32) (ix2 i0 i1) := by
  unfold iblk
  rw [View.read_apply]
  show V m c main_v11 _ = _
  congr 1
  have hi : win0_6.index t (0 : Fin 2) = 0 ∧ win0_6.index t (1 : Fin 2) = 0 :=
    (by decide +kernel : ∀ t : Fin grid0.N, win0_6.index t (0 : Fin 2) = 0 ∧ win0_6.index t (1 : Fin 2) = 0) t
  funext a
  apply Fin.ext
  match a with
  | ⟨0, _⟩ => show win0_6.index t 0 * 1 + 1 * (y 0).val = i0.val; rw [hi.1]; omega
  | ⟨1, _⟩ => show win0_6.index t 1 * 2048 + 1 * (y 1).val = i1.val; rw [hi.2]; omega

/-- The weights as the point is given them: one layer's, sliced out of the stack. -/
theorem V_main_v8_apply (c : Dev nD) (k : Fin 32) (n : Fin 2048) (h : k.val < 31) :
    (V m c main_v8 : Vec Ideal S32x2048 .f32) (ix2 k n) = wOf m c (ix3 (0 : Fin 4) (⟨k.val, h⟩ : Fin 31) n) := by
  show StableHlo.after (List.flatten [hostOps0, hostOps0_1, hostOps0_2]) (fun b => m (c, b)) main_v8 _ = _
  simp only [hostOps0, hostOps0_1, hostOps0_2, List.flatten_cons, List.flatten_nil, List.append_nil, List.cons_append, List.nil_append]
  after_results
  change (pad S32x2048 ![0, 0] ![1, 0] ![0, 0] (_ : Vec Ideal S31x2048 .f32) (_ : Vec Ideal S_ .f32) pads_S31x2048_S32x2048_010_000 h_S_ : Vec Ideal S32x2048 .f32) (ix2 k n) = _
  simp only [pointwise, zero_add, Fin.isValue, Matrix.cons_val]
  refine (dif_pos ⟨⟨Nat.zero_le _, by omega, by omega⟩, Nat.zero_le _, by omega, by omega⟩).trans ?_
  show wOf m c (ix3 (0 : Fin 4) (⟨(k.val - 0) / 1, by omega⟩ : Fin 31) (⟨(n.val - 0) / 1, by omega⟩ : Fin 2048)) = _
  refine congrArg (wOf m c) ?_
  funext a
  apply Fin.ext
  match a with
  | ⟨0, _⟩ => rfl
  | ⟨1, _⟩ => show (k.val - 0) / 1 = k.val; omega
  | ⟨2, _⟩ => show (n.val - 0) / 1 = n.val; omega

/-- The bias, -/
theorem V_main_v9_apply (c : Dev nD) (z : Fin 1) (n : Fin 2048) :
    (V m c main_v9 : Vec Ideal S1x2048 .f32) (ix2 z n) = bOf m c (ix2 (0 : Fin 4) n) := by
  show StableHlo.after (List.flatten [hostOps0, hostOps0_1, hostOps0_2]) (fun b => m (c, b)) main_v9 _ = _
  simp only [hostOps0, hostOps0_1, hostOps0_2, List.flatten_cons, List.flatten_nil, List.append_nil, List.cons_append, List.nil_append]
  after_results
  simp only [pointwise, zero_add, Fin.isValue, Matrix.cons_val]

/-- the gain of the norm, -/
theorem V_main_v10_apply (c : Dev nD) (z : Fin 1) (n : Fin 2048) :
    (V m c main_v10 : Vec Ideal S1x2048 .f32) (ix2 z n) = gOf m c (ix2 (0 : Fin 4) n) := by
  show StableHlo.after (List.flatten [hostOps0, hostOps0_1, hostOps0_2]) (fun b => m (c, b)) main_v10 _ = _
  simp only [hostOps0, hostOps0_1, hostOps0_2, List.flatten_cons, List.flatten_nil, List.append_nil, List.cons_append, List.nil_append]
  after_results
  simp only [pointwise, zero_add, Fin.isValue, Matrix.cons_val]

/-- and its offset, as they are given. -/
theorem V_main_v11_apply (c : Dev nD) (z : Fin 1) (n : Fin 2048) :
    (V m c main_v11 : Vec Ideal S1x2048 .f32) (ix2 z n) = oOf m c (ix2 (0 : Fin 4) n) := by
  show StableHlo.after (List.flatten [hostOps0, hostOps0_1, hostOps0_2]) (fun b => m (c, b)) main_v11 _ = _
  simp only [hostOps0, hostOps0_1, hostOps0_2, List.flatten_cons, List.flatten_nil, List.append_nil, List.cons_append, List.nil_append]
  after_results
  simp only [pointwise, zero_add, Fin.isValue, Matrix.cons_val]

/-- What a point writes back. -/
theorem flushed7 (c : Dev nD) (t : Fin cfg0.N) : (dats m 0 c).flushed 7 t = (cfg0.win 7).cut (grid0.coords t) (outsAt0 m c t) := by
  show (cfg0.win 7).cut (grid0.coords t) ((dats m 0 c).after 7 t) = _
  rw [after0_7]

/-- Two points write different blocks, -/
theorem idx_inj7 : ∀ t t' : Fin cfg0.N, win0_7.index t = win0_7.index t' → t = t' :=
  (by decide +kernel : ∀ t t' : Fin grid0.N, win0_7.index t = win0_7.index t' → t = t')

/-- so their blocks share no index, -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- and a block of the final array is what its point wrote. -/
theorem blocks7 (c : Dev nD) (t : Fin cfg0.N) :
    ((cfg0.win 7).blk t).view.read (Elt Ideal) ((dats m 0 c).arrAt 7 cfg0.N) = (dats m 0 c).flushed 7 t :=
  (dats m 0 c).read_blk_arrAt_eq_flushed 7 disjoint7 cfg0.N t t.isLt (flush0_7 t)

/-- The grid's one coordinate is the point. -/
theorem coords_val (t : Fin cfg0.N) : (grid0.coords t 0).val = t.val :=
  (by decide +kernel : ∀ t : Fin grid0.N, (grid0.coords t 0).val = t.val) t

/-- The buffer of a point holds the activations' rows from 32 before the block on. -/
theorem bufferRow_eq (c : Dev nD) (t : Fin cfg0.N) (n : Fin 2048) (j : ℕ) (hj : 2 ≤ j) (hj' : j < 160) :
    bufferRow (grid0.coords t) (iblk m c 0 t : Vec Ideal S128x2048 .f32) (iblk m c 1 t : Vec Ideal S32x2048 .f32) n j = earlier (yOf m c) n (128 * t.val + j - 2) := by
  have hN : t.val < 64 := lt_of_lt_of_eq t.isLt N_0
  unfold bufferRow earlier
  rw [coords_val]
  by_cases h : j < 32
  · rw [dif_pos h]
    by_cases h0 : 0 < t.val
    · rw [if_pos h0, dif_pos (by omega)]
      exact iblk1_apply m c t (ix2 (⟨j, h⟩ : Fin 32) n) (⟨128 * t.val + j - 2 - 30, by omega⟩ : Fin 8192) n (show 128 * t.val + j - 2 - 30 = 32 * (4 * t.val - 1) + j by omega) rfl
    · rw [if_neg h0, dif_neg (by omega)]
  · rw [dif_neg h, dif_pos hj', dif_pos (by omega)]
    exact iblk0_apply m c t (ix2 (⟨j - 32, by omega⟩ : Fin 128) n) (⟨128 * t.val + j - 2 - 30, by omega⟩ : Fin 8192) n (show 128 * t.val + j - 2 - 30 = 128 * t.val + (j - 32) by omega) rfl

/-- The convolution of a point's rows is the whole array's. -/
theorem convRow_eq (c : Dev nD) (t : Fin cfg0.N) (p : Fin 128) (s : Fin 8192) (hs : s.val = 128 * t.val + p.val) (n : Fin 2048) :
    convRow (grid0.coords t) (iblk m c 0 t : Vec Ideal S128x2048 .f32) (iblk m c 1 t : Vec Ideal S32x2048 .f32) (iblk m c 3 t : Vec Ideal S32x2048 .f32) (iblk m c 4 t : Vec Ideal S1x2048 .f32) p n
      = convAt (yOf m c) (wOf m c) (bOf m c) s n := by
  have lp := p.isLt
  unfold convRow convAt
  refine congrArg₂ (· + ·) (Finset.sum_congr rfl fun k hk => ?_) ?_
  · have hk' : k < 31 := Finset.mem_range.1 hk
    rw [dif_pos (show k < 32 by omega), dif_pos hk', bufferRow_eq m c t n (2 + k + p.val) (by omega) (by omega)]
    refine congrArg₂ (· * ·) ?_ (congrArg (earlier (yOf m c) n) (by omega))
    exact (iblk3_apply m c t (ix2 (⟨k, by omega⟩ : Fin 32) n) (⟨k, by omega⟩ : Fin 32) n (show k = 32 * 0 + k by omega) rfl).trans (V_main_v8_apply m c _ n hk')
  · exact (iblk4_apply m c t (ix2 (0 : Fin 1) n) (0 : Fin 1) n rfl rfl).trans (V_main_v9_apply m c 0 n)

/-- The result at a row and a column. -/
theorem arr7_apply (c : Dev nD) (s : Fin 8192) (n : Fin 2048) :
    ((dats m 0 c).arrAt 7 cfg0.N : S8192x2048.Idx → EReal) (ix2 s n) = branch (yOf m c) (gateOf m c) (wOf m c) (bOf m c) (gOf m c) (oOf m c) s n := by
  have l0 := s.isLt
  have hlt : s.val / 128 < cfg0.N := lt_of_lt_of_eq (show _ < 64 by omega) N_0.symm
  obtain ⟨t, ht⟩ : ∃ t : Fin cfg0.N, t.val = s.val / 128 := ⟨⟨_, hlt⟩, rfl⟩
  have e := congrFun (blocks7 m c t) (ix2 (⟨s.val % 128, Nat.mod_lt _ (by decide)⟩ : Fin 128) n)
  rw [View.read_apply, flushed7] at e
  have hi : win0_7.index t (0 : Fin 2) = t.val ∧ win0_7.index t (1 : Fin 2) = 0 :=
    (by decide +kernel : ∀ t : Fin grid0.N, win0_7.index t (0 : Fin 2) = t.val ∧ win0_7.index t (1 : Fin 2) = 0) t
  have hemb : ((cfg0.win 7).blk t).view.emb (ix2 (⟨s.val % 128, Nat.mod_lt _ (by decide)⟩ : Fin 128) n) = ix2 s n := by
    funext a
    apply Fin.ext
    match a with
    | ⟨0, _⟩ => show win0_7.index t 0 * 128 + 1 * (s.val % 128) = s.val; rw [hi.1]; omega
    | ⟨1, _⟩ => show win0_7.index t 1 * 2048 + 1 * n.val = n.val; rw [hi.2]; omega
  rw [hemb] at e
  refine e.trans ?_
  show (outsAt0 m c t : FVec Ideal S128x2048 .bf16) (ix2 (⟨s.val % 128, Nat.mod_lt _ (by decide)⟩ : Fin 128) n) = _
  unfold outsAt0
  refine (out_apply c _ _ _ _ _ _ _ _ _ _ _ _ _ _ _ _ _ _ _ _ _ _ _ _ _ _ _ _ _ n).trans ?_
  unfold branch
  have e2 := iblk2_apply m c t (ix2 (⟨s.val % 128, Nat.mod_lt _ (by decide)⟩ : Fin 128) n) s n (show s.val = 128 * t.val + s.val % 128 by omega) rfl
  have e5 (j : Fin 2048) := (iblk5_apply m c t (ix2 (0 : Fin 1) j) (0 : Fin 1) j rfl rfl).trans (V_main_v10_apply m c 0 j)
  have e6 (j : Fin 2048) := (iblk6_apply m c t (ix2 (0 : Fin 1) j) (0 : Fin 1) j rfl rfl).trans (V_main_v11_apply m c 0 j)
  have ec := funext fun j => convRow_eq m c t (⟨s.val % 128, Nat.mod_lt _ (by decide)⟩ : Fin 128) s (show s.val = 128 * t.val + s.val % 128 by omega) j
  refine congrArg₂ (· * ·) (congrArg swish ?_) e2
  refine (congrArg (fun z => normed z _ _ n) ec).trans ?_
  exact (congrArg (fun z => normed _ z _ n) (funext e5)).trans (congrArg (fun z => normed _ _ z n) (funext e6))

/-- The result array. -/
theorem arr7_eq (c : Dev nD) :
    ((dats m 0 c).arrAt 7 cfg0.N : S8192x2048.Idx → EReal) = fun i => branch (yOf m c) (gateOf m c) (wOf m c) (bOf m c) (gOf m c) (oOf m c) (i 0) (i 1) := by
  funext i
  rw [eq_ix2 i]
  exact arr7_apply m c (i 0) (i 1)

end

/-- The run with the result array named, and the arguments as given. -/
theorem run_blocks (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c : Thread nD τ).loc main_v12) = (dats m 0 c).arrAt 7 cfg0.N)
      ∧ ∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  θ_run_and ((θ_run defs _ _).mono (fun r h c => (h c).1 7) (run_main m ρ)) (unchanged m ρ)

end Cert.ConvIdeal.Hand

end
-- ==== Proof.ConvRefValue.lean ====
/- The reference of `ConvIdeal` read at an index: the same branch of the arrays it is given. -/
module

public import proofs.«01_k».proof.Proof.ConvValue
public import proofs.«01_k».proof.Proof.Gen.ConvRefIdeal.Run
public import Idealize.ShloMosaic.Lib.Tactic.ValueTie
public import Idealize.ShloMosaic.Lib.KernelVsHost

@[expose] public section

set_option maxRecDepth 8192

noncomputable section

namespace Cert.ConvRefIdeal.Hand

open Idealize.ShloMosaic Idealize.ShloMosaic.TcCoe Idealize.SL.Sem
open Cert.ConvIdeal.Hand Cert.ConvRefIdeal Cert.ConvRefIdeal.Gen Idealize.ShloMosaic.StableHlo

variable (V0 : Valuation τ sig (Elt Ideal))

/-- The arrays that the reference is given. -/
abbrev yRef : S8192x2048.Idx → EReal := V0 (Proc.devRef .tc main_arg0)
abbrev gateRef : S8192x2048.Idx → EReal := V0 (Proc.devRef .tc main_arg1)
abbrev wRef : S4x31x2048.Idx → EReal := V0 (Proc.devRef .tc main_arg2)
abbrev bRef : S4x2048.Idx → EReal := V0 (Proc.devRef .tc main_arg3)
abbrev gRef : S4x2048.Idx → EReal := V0 (Proc.devRef .tc main_arg4)
abbrev oRef : S4x2048.Idx → EReal := V0 (Proc.devRef .tc main_arg5)

/-- The activations with thirty rows of zeros before them. -/
theorem past_apply (i : Fin 8222) (n : Fin 2048) :
    (Value.res_main_v0 V0 : FVec Ideal S8222x2048 .f32) (ix2 i n) = earlier (yRef V0) n i.val := by
  have l := n.isLt
  have li := i.isLt
  unfold Value.res_main_v0
  simp only [pointwise, Fin.isValue, Matrix.cons_val]
  unfold earlier
  by_cases h : 30 ≤ i.val
  · rw [dif_pos fun a => by
      match a with
      | ⟨0, _⟩ => show 30 ≤ i.val ∧ (i.val - 30) % (0 + 1) = 0 ∧ (i.val - 30) / (0 + 1) < 8192; omega
      | ⟨1, _⟩ => show 0 ≤ n.val ∧ (n.val - 0) % (0 + 1) = 0 ∧ (n.val - 0) / (0 + 1) < 2048; omega, dif_pos ⟨h, li⟩]
    refine congrArg (yRef V0) ?_
    funext a
    apply Fin.ext
    match a with
    | ⟨0, _⟩ => show (i.val - 30) / (0 + 1) = i.val - 30; omega
    | ⟨1, _⟩ => show (n.val - 0) / (0 + 1) = n.val; omega
  · rw [dif_neg fun e => h (e ⟨0, Nat.zero_lt_two⟩).1, dif_neg fun e => h e.1]
    show (((0#32 : BitVec 32).toInt : ℝ) : EReal) = 0
    norm_num

/-- The first of the rows that a row of the result takes, -/
theorem past_row (s : Fin 8192) (h : s.val < 8222) (n : Fin 2048) :
    (Value.res_main_v0 V0 : FVec Ideal S8222x2048 .f32) (ix2 (⟨s.val, h⟩ : Fin 8222) n) = earlier (yRef V0) n s.val := past_apply V0 _ n

/-- and the others. -/
theorem past_add (k : ℕ) (s : Fin 8192) (h : k + s.val < 8222) (n : Fin 2048) :
    (Value.res_main_v0 V0 : FVec Ideal S8222x2048 .f32) (ix2 (⟨k + s.val, h⟩ : Fin 8222) n) = earlier (yRef V0) n (s.val + k) :=
  (past_apply V0 _ n).trans (congrArg (earlier (yRef V0) n) (Nat.add_comm _ _))

/-- One tap of the convolution. -/
def tapAt (s : Fin 8192) (n : Fin 2048) (k : ℕ) : EReal :=
  (if h : k < 31 then wRef V0 (ix3 (0 : Fin 4) (⟨k, h⟩ : Fin 31) n) else 0) * earlier (yRef V0) n (s.val + k)

/-- The first taps, -/
theorem conv78_apply (s : Fin 8192) (n : Fin 2048) :
    (Value.res_main_v78 V0 : FVec Ideal S8192x2048 .f32) (ix2 s n) = ∑ k ∈ Finset.range 11, tapAt V0 s n k := by
  unfold Value.res_main_v78
  simp only [pointwise, zero_add, Fin.isValue, Matrix.cons_val, OfNat.ofNat_ne_one, ↓reduceDIte, Fin.eta, past_add, past_row]
  simp only [Finset.sum_range_succ, Finset.sum_range_zero, zero_add]
  rfl

/-- the next, -/
theorem conv155_apply (s : Fin 8192) (n : Fin 2048) :
    (Value.res_main_v155 V0 : FVec Ideal S8192x2048 .f32) (ix2 s n) = ∑ k ∈ Finset.range 22, tapAt V0 s n k := by
  unfold Value.res_main_v155
  simp only [pointwise, zero_add, Fin.isValue, Matrix.cons_val, OfNat.ofNat_ne_one, ↓reduceDIte, Fin.eta, past_add, past_row]
  rw [conv78_apply]
  simp only [Finset.sum_range_succ _ 21, Finset.sum_range_succ _ 20, Finset.sum_range_succ _ 19, Finset.sum_range_succ _ 18, Finset.sum_range_succ _ 17, Finset.sum_range_succ _ 16, Finset.sum_range_succ _ 15, Finset.sum_range_succ _ 14, Finset.sum_range_succ _ 13, Finset.sum_range_succ _ 12, Finset.sum_range_succ _ 11]
  rfl

/-- and all of them, with the bias. -/
theorem conv_apply (s : Fin 8192) (n : Fin 2048) :
    (Value.res_main_v223 V0 : FVec Ideal S8192x2048 .f32) (ix2 s n) = convAt (yRef V0) (wRef V0) (bRef V0) s n := by
  unfold Value.res_main_v223
  simp only [pointwise, zero_add, Fin.isValue, Matrix.cons_val, OfNat.ofNat_ne_one, ↓reduceDIte, Fin.eta, past_add, past_row]
  rw [conv155_apply]
  show _ = (∑ k ∈ Finset.range 31, tapAt V0 s n k) + bRef V0 (ix2 (0 : Fin 4) n)
  simp only [Finset.sum_range_succ _ 30, Finset.sum_range_succ _ 29, Finset.sum_range_succ _ 28, Finset.sum_range_succ _ 27, Finset.sum_range_succ _ 26, Finset.sum_range_succ _ 25, Finset.sum_range_succ _ 24, Finset.sum_range_succ _ 23, Finset.sum_range_succ _ 22]
  rfl

/-- The mean of a row, -/
theorem mean_apply (s : Fin 8192) :
    (Value.res_main_v231 V0 : FVec Ideal S8192x1 .f32) (ix2 s (0 : Fin 1)) = Ideal.div (∑ k : Fin 2048, convAt (yRef V0) (wRef V0) (bRef V0) s k) (Scalar.ofBits .f32 0x45000000#32 : Ideal .f32) := by
  unfold Value.res_main_v231
  simp only [pointwise, zero_add, Fin.isValue, Matrix.cons_val, OfNat.ofNat_ne_one, ↓reduceDIte, conv_apply]

/-- the row less it, -/
theorem centred_apply (s : Fin 8192) (n : Fin 2048) :
    (Value.res_main_v233 V0 : FVec Ideal S8192x2048 .f32) (ix2 s n) = centred (convAt (yRef V0) (wRef V0) (bRef V0) s) n := by
  unfold Value.res_main_v233
  simp only [pointwise, zero_add, Fin.isValue, Matrix.cons_val, OfNat.ofNat_ne_one, ↓reduceDIte, conv_apply, mean_apply]
  rfl

/-- and the norm. -/
theorem normed_apply (s : Fin 8192) (n : Fin 2048) :
    (Value.res_main_v251 V0 : FVec Ideal S8192x2048 .f32) (ix2 s n)
      = normed (convAt (yRef V0) (wRef V0) (bRef V0) s) (fun j => gRef V0 (ix2 (0 : Fin 4) j)) (fun j => oRef V0 (ix2 (0 : Fin 4) j)) n := by
  unfold Value.res_main_v251
  simp only [pointwise, zero_add, Fin.isValue, Matrix.cons_val, OfNat.ofNat_ne_one, ↓reduceDIte, Fin.eta, conv_apply, mean_apply, centred_apply]
  rfl

/-- The result at a row and a column. -/
theorem result_apply (s : Fin 8192) (n : Fin 2048) :
    (truncf .bf16 (mulf (mulf (Value.res_main_v251 V0) (Host.divf (broadcastInDim S8192x2048 ![] bcast_S_S8192x2048 (constant S_ .f32 0x3F800000#32)) (addf (broadcastInDim S8192x2048 ![] bcast_S_S8192x2048 (constant S_ .f32 0x3F800000#32)) (Host.exp (Host.negf (Value.res_main_v251 V0)))))) (extf .f32 (V0 (Proc.devRef .tc main_arg1) : FVec Ideal S8192x2048 .bf16) bitsLt_bf16_f32)) bitsLt_bf16_f32 : FVec Ideal S8192x2048 .bf16) (ix2 s n)
      = branch (yRef V0) (gateRef V0) (wRef V0) (bRef V0) (gRef V0) (oRef V0) s n := by
  simp only [pointwise, zero_add, Fin.isValue, Matrix.cons_val, normed_apply]
  unfold branch swish
  rfl

end Cert.ConvRefIdeal.Hand

end
-- ==== Proof.FlashSoftmax.lean ====
/- The mathematics of a softmax that is computed a block of keys at a time: the state a row carries, what one block makes of
   it, and that the state after all the keys gives the weighted mean that the softmax taken at once gives. -/
module

public import Idealize.ShloMosaic.PureOps.Ideal
public import Idealize.ShloMosaic.PureOps.Ideal.Laws
public import Mathlib.Analysis.SpecialFunctions.Pow.Real

@[expose] public section

noncomputable section

namespace Cert.OnlineSoftmax

open Idealize.ShloMosaic

/-- The greatest of the first `N` scores; of none, `⊥`. -/
def top (S : ℕ → EReal) (N : ℕ) : EReal := (Finset.range N).sup S

/-- What a row carries after the first `N` keys: on every lane the greatest score; over the lanes together, the sum of the
    powers of two of the scores less the greatest; and the same powers' sum weighted by the values. -/
structure Good (S : ℕ → EReal) (V : ℕ → Fin 128 → EReal) (N : ℕ) (m l a : Fin 128 → EReal) : Prop where
  hm : ∀ c, m c = top S N
  hl : ∑ c, l c = ∑ j ∈ Finset.range N, Ideal.exp2 (S j - top S N)
  ha : ∀ d, a d = ∑ j ∈ Finset.range N, Ideal.exp2 (S j - top S N) * V j d

/-- What one block of `128 n` keys makes of a row whose lanes hold the maximum `μ`: `s` are the block's scores, `v` its
    values. -/
structure Upd (n : ℕ) (s : Fin (n * 128) → EReal) (v : Fin (n * 128) → Fin 128 → EReal) (μ : EReal)
    (l a m' l' a' : Fin 128 → EReal) : Prop where
  hm : ∀ c, m' c = max μ (Finset.univ.sup s)
  hl : ∀ c, l' c = Ideal.exp2 (μ - max μ (Finset.univ.sup s)) * l c
    + ∑ g : Fin n, Ideal.exp2 (s (finProdFinEquiv (g, c)) - max μ (Finset.univ.sup s))
  ha : ∀ d, a' d = Ideal.exp2 (μ - max μ (Finset.univ.sup s)) * a d
    + ∑ j, Ideal.exp2 (s j - max μ (Finset.univ.sup s)) * v j d

theorem exp2_nonneg (x : EReal) : 0 ≤ Ideal.exp2 x := by
  induction x using EReal.rec with
  | bot => simp
  | top => simp
  | coe r => rw [Ideal.exp2_coe]; exact_mod_cast Real.rpow_nonneg (by norm_num) r

theorem exp2_ne_top {x : EReal} (h : x ≠ ⊤) : Ideal.exp2 x ≠ ⊤ := by
  induction x using EReal.rec with
  | bot => simp
  | top => exact absurd rfl h
  | coe r => rw [Ideal.exp2_coe]; exact EReal.coe_ne_top _

theorem sub_ne_top {x y : EReal} (hx : x ≠ ⊤) (hy : y ≠ ⊥) : x - y ≠ ⊤ := by
  induction x using EReal.rec with
  | top => exact absurd rfl hx
  | bot => simp
  | coe r =>
    induction y using EReal.rec with
    | bot => exact absurd rfl hy
    | top => simp
    | coe q => exact_mod_cast EReal.coe_ne_top (r - q)

theorem mul_sum {ι : Type*} (t : Finset ι) (x : EReal) (h0 : 0 ≤ x) (h1 : x ≠ ⊤) (f : ι → EReal) :
    x * ∑ i ∈ t, f i = ∑ i ∈ t, x * f i := by
  classical
  induction t using Finset.induction_on with
  | empty => simp
  | insert i t hi ih => rw [Finset.sum_insert hi, Finset.sum_insert hi, EReal.left_distrib_of_nonneg_of_ne_top h0 h1, ih]

/-- Powers of two taken off one maximum and then off a greater one are those taken off the greater one at once. -/
theorem exp2_rebase {x M M' : EReal} (hx : x ≤ M) (h : M ≤ M') (ht : M' ≠ ⊤) (hb : M' ≠ ⊥) :
    Ideal.exp2 (M - M') * Ideal.exp2 (x - M) = Ideal.exp2 (x - M') := by
  lift M' to ℝ using ⟨ht, hb⟩
  induction M using EReal.rec with
  | bot =>
    obtain rfl : x = ⊥ := le_bot_iff.mp hx
    rw [EReal.bot_sub, Ideal.exp2_bot, zero_mul]
  | top => exact absurd (top_le_iff.mp h) (EReal.coe_ne_top _)
  | coe p =>
    induction x using EReal.rec with
    | bot => simp
    | top => exact absurd (top_le_iff.mp hx) (EReal.coe_ne_top _)
    | coe q =>
      rw [← EReal.coe_sub, ← EReal.coe_sub, ← EReal.coe_sub, Ideal.exp2_coe, Ideal.exp2_coe, Ideal.exp2_coe, ← EReal.coe_mul]
      congr 1
      show (2 : ℝ) ^ (p - M') * (2 : ℝ) ^ (q - p) = (2 : ℝ) ^ (q - M')
      rw [← Real.rpow_add (by norm_num)]
      congr 1
      ring

theorem le_top (S : ℕ → EReal) {N j : ℕ} (h : j < N) : S j ≤ top S N := Finset.le_sup (f := S) (Finset.mem_range.mpr h)

theorem top_add (S : ℕ → EReal) (N K : ℕ) : top S (N + K) = max (top S N) (Finset.univ.sup fun j : Fin K => S (N + j.val)) := by
  apply le_antisymm
  · refine Finset.sup_le fun j hj => ?_
    have hj := Finset.mem_range.mp hj
    by_cases h : j < N
    · exact (le_top S h).trans (le_max_left _ _)
    · refine le_trans ?_ (le_max_right _ _)
      have e : S j = S (N + (⟨j - N, by omega⟩ : Fin K).val) := by congr 1; show j = N + (j - N); omega
      rw [e]
      exact Finset.le_sup (f := fun j : Fin K => S (N + j.val)) (Finset.mem_univ (⟨j - N, by omega⟩ : Fin K))
  · refine max_le (Finset.sup_le fun j hj => le_top S (by have := Finset.mem_range.mp hj; omega)) ?_
    exact Finset.sup_le fun j _ => le_top S (by have := j.isLt; omega)

theorem top_ne_top {S : ℕ → EReal} (h : ∀ j, S j ≠ ⊤) (N : ℕ) : top S N ≠ ⊤ := by
  refine ne_of_lt ?_
  exact (Finset.sup_lt_iff (by exact bot_lt_top)).mpr fun j _ => lt_top_iff_ne_top.mpr (h j)

theorem top_ne_bot {S : ℕ → EReal} (h : S 0 ≠ ⊥) {N : ℕ} (hN : 0 < N) : top S N ≠ ⊥ := fun e =>
  h (le_bot_iff.mp ((le_top S hN).trans e.le))

theorem sum_range_add {M : Type*} [AddCommMonoid M] (f : ℕ → M) (N K : ℕ) :
    ∑ j ∈ Finset.range (N + K), f j = ∑ j ∈ Finset.range N, f j + ∑ j : Fin K, f (N + j.val) := by
  rw [Finset.sum_range_add, Finset.sum_range fun j => f (N + j)]

/-- One block of keys carries the state of the first `N` keys to that of the first `N + 128 n`. -/
theorem Good.step {S : ℕ → EReal} {V : ℕ → Fin 128 → EReal} {N n : ℕ} {m l a m' l' a' : Fin 128 → EReal}
    (hn : 0 < n) (ht : ∀ j, S j ≠ ⊤) (hb : S 0 ≠ ⊥) (g : Good S V N m l a)
    {s : Fin (n * 128) → EReal} {v : Fin (n * 128) → Fin 128 → EReal}
    (hs : ∀ j, s j = S (N + j.val)) (hv : ∀ j d, v j d = V (N + j.val) d)
    (u : Upd n s v (top S N) l a m' l' a') : Good S V (N + n * 128) m' l' a' := by
  have hM : max (top S N) (Finset.univ.sup s) = top S (N + n * 128) := by
    rw [top_add]; congr 2; exact funext hs
  have hle : top S N ≤ top S (N + n * 128) := by rw [← hM]; exact le_max_left _ _
  have hT := top_ne_top ht (N + n * 128)
  have hB := top_ne_bot hb (show 0 < N + n * 128 by omega)
  have al0 := exp2_nonneg (top S N - top S (N + n * 128))
  have al1 : Ideal.exp2 (top S N - top S (N + n * 128)) ≠ ⊤ := exp2_ne_top (sub_ne_top (top_ne_top ht N) hB)
  refine ⟨fun c => by rw [u.hm, hM], ?_, fun d => ?_⟩
  · rw [Finset.sum_congr rfl fun c _ => u.hl c, hM, Finset.sum_add_distrib, ← mul_sum _ _ al0 al1, g.hl, mul_sum _ _ al0 al1, sum_range_add]
    congr 1
    · exact Finset.sum_congr rfl fun j hj => exp2_rebase (le_top S (Finset.mem_range.mp hj)) hle hT hB
    · rw [Finset.sum_comm, ← Finset.sum_product', Finset.univ_product_univ,
        ← Equiv.sum_comp (finProdFinEquiv (m := n) (n := 128)) fun j => Ideal.exp2 (S (N + j.val) - top S (N + n * 128))]
      exact Finset.sum_congr rfl fun p _ => by rw [hs]
  · rw [u.ha, hM, g.ha, mul_sum _ _ al0 al1, sum_range_add]
    congr 1
    · refine Finset.sum_congr rfl fun j hj => ?_
      rw [← mul_assoc, exp2_rebase (le_top S (Finset.mem_range.mp hj)) hle hT hB]
    · exact Finset.sum_congr rfl fun j _ => by rw [hs, hv]

/-- Before the first key. -/
theorem Good.init (S : ℕ → EReal) (V : ℕ → Fin 128 → EReal) {m l a : Fin 128 → EReal} (hm : ∀ c, m c = ⊥) (hl : ∀ c, l c = 0)
    (ha : ∀ d, a d = 0) : Good S V 0 m l a :=
  ⟨fun c => by rw [hm]; rfl, by simp [hl], fun d => by simp [ha]⟩

/-- Keys that are masked change nothing: the state of the keys before them is the state of all. -/
theorem Good.masked {S : ℕ → EReal} {V : ℕ → Fin 128 → EReal} {N : ℕ} (K : ℕ) {m l a : Fin 128 → EReal} (g : Good S V N m l a)
    (h : ∀ j, N ≤ j → S j = ⊥) : Good S V (N + K) m l a := by
  have e : top S (N + K) = top S N := by
    rw [top_add]
    refine max_eq_left (Finset.sup_le fun j _ => ?_)
    rw [h _ (by omega)]; exact bot_le
  refine ⟨fun c => by rw [g.hm, e], ?_, fun d => ?_⟩
  · rw [g.hl, sum_range_add, e]
    rw [Finset.sum_eq_zero (s := (Finset.univ : Finset (Fin K))), add_zero]
    intro j _
    rw [h _ (by omega), EReal.bot_sub, Ideal.exp2_bot]
  · rw [g.ha, sum_range_add, e]
    rw [Finset.sum_eq_zero (s := (Finset.univ : Finset (Fin K))), add_zero]
    intro j _
    rw [h _ (by omega), EReal.bot_sub, Ideal.exp2_bot, zero_mul]

/-- The natural exponential of a score counted in units of `log 2` is the power of two of the score. -/
theorem exp_mul_log2 {x M : EReal} (hM : M ≠ ⊤) (hB : M ≠ ⊥) (hx : x ≠ ⊤) :
    Ideal.exp (x * ((Real.log 2 : ℝ) : EReal) - M * ((Real.log 2 : ℝ) : EReal)) = Ideal.exp2 (x - M) := by
  have hl : 0 < Real.log 2 := Real.log_pos (by norm_num)
  lift M to ℝ using ⟨hM, hB⟩
  induction x using EReal.rec with
  | top => exact absurd rfl hx
  | bot => rw [EReal.bot_mul_coe_of_pos hl, EReal.bot_sub, EReal.bot_sub]; rfl
  | coe r =>
    rw [← EReal.coe_mul, ← EReal.coe_mul, ← EReal.coe_sub, ← EReal.coe_sub, Ideal.exp_coe, Ideal.exp2_coe]
    congr 1
    show _ = (2 : ℝ) ^ (r - M)
    rw [Real.rpow_def_of_pos (by norm_num)]
    congr 1
    ring

theorem coe_sum {ι : Type*} (t : Finset ι) (f : ι → ℝ) : ((∑ i ∈ t, f i : ℝ) : EReal) = ∑ i ∈ t, (f i : EReal) := by
  classical
  induction t using Finset.induction_on with
  | empty => simp
  | insert i t hi ih => rw [Finset.sum_insert hi, Finset.sum_insert hi, EReal.coe_add, ih]

theorem sup_mul_log2 {K : ℕ} (f : Fin K → EReal) :
    (Finset.univ.sup fun j => f j * ((Real.log 2 : ℝ) : EReal)) = Finset.univ.sup f * ((Real.log 2 : ℝ) : EReal) := by
  have hl : 0 < Real.log 2 := Real.log_pos (by norm_num)
  have hmono : Monotone fun x : EReal => x * ((Real.log 2 : ℝ) : EReal) := fun x y h =>
    mul_le_mul_of_nonneg_right h (by exact_mod_cast hl.le)
  exact (Finset.apply_sup_eq_sup_comp (fun x : EReal => x * ((Real.log 2 : ℝ) : EReal)) (fun x y => hmono.map_max)
    (EReal.bot_mul_coe_of_pos hl)).symm

/-- The state after all `K` keys, divided by the sum over the lanes, is the mean of the values that the softmax of the scores
    in units of `log 2`, taken at once, gives. -/
theorem Good.mean {S : ℕ → EReal} {V : ℕ → Fin 128 → EReal} {K : ℕ} {m l a : Fin 128 → EReal} (hK : 0 < K)
    (ht : ∀ j, S j ≠ ⊤) (hb : S 0 ≠ ⊥) (g : Good S V K m l a) {x : Fin K → EReal} (d : Fin 128)
    (hx : ∀ j, x j = S j.val * ((Real.log 2 : ℝ) : EReal)) :
    Ideal.div (a d) (∑ c, l c)
      = ∑ j : Fin K, Ideal.div (Ideal.exp (x j - Finset.univ.sup x)) (∑ i : Fin K, Ideal.exp (x i - Finset.univ.sup x)) * V j.val d := by
  have hT := top_ne_top ht K
  have hB := top_ne_bot hb hK
  have hX : Finset.univ.sup x = top S K * ((Real.log 2 : ℝ) : EReal) := by
    rw [show x = fun j => S j.val * ((Real.log 2 : ℝ) : EReal) from funext hx, sup_mul_log2]
    congr 1
    have := top_add S 0 K
    rw [Nat.zero_add] at this
    rw [this]
    simp only [Nat.zero_add]
    exact (max_eq_right bot_le).symm
  have he (j : Fin K) : Ideal.exp (x j - Finset.univ.sup x) = Ideal.exp2 (S j.val - top S K) := by
    rw [hX, hx, exp_mul_log2 hT hB (ht _)]
  simp only [he]
  rw [g.ha, g.hl, Finset.sum_range, Finset.sum_range]
  set w : Fin K → EReal := fun j => Ideal.exp2 (S j.val - top S K) with hw
  have hr (j : Fin K) : ∃ r : ℝ, 0 ≤ r ∧ w j = (r : EReal) := by
    have h0 := exp2_nonneg (S j.val - top S K)
    have h1 : w j ≠ ⊤ := exp2_ne_top (sub_ne_top (ht _) hB)
    have h2 : w j ≠ ⊥ := fun e => by rw [show Ideal.exp2 (S j.val - top S K) = ⊥ from e] at h0; exact absurd h0 (by simp)
    lift w j to ℝ using ⟨h1, h2⟩ with r hr
    refine ⟨r, ?_, rfl⟩
    have : (0 : EReal) ≤ (r : EReal) := by rw [hr]; exact h0
    exact_mod_cast this
  choose r hr0 hr using hr
  have hpos : 0 < ∑ j, r j := by
    have hne : (Finset.range K).Nonempty := ⟨0, Finset.mem_range.mpr hK⟩
    obtain ⟨j, hj, e⟩ := Finset.exists_mem_eq_sup (Finset.range K) hne S
    have hjK := Finset.mem_range.mp hj
    have e' : top S K = S j := e
    have h1 : w ⟨j, hjK⟩ = 1 := by
      show Ideal.exp2 (S j - top S K) = 1
      rw [← e', EReal.sub_self hT hB]
      show ((Real.rpow 2 0 : ℝ) : EReal) = 1
      simp
    have h2 : r ⟨j, hjK⟩ = 1 := by
      have := (hr ⟨j, hjK⟩).symm.trans h1
      exact_mod_cast this
    exact lt_of_lt_of_le (by rw [h2]; norm_num) (Finset.single_le_sum (fun i _ => hr0 i) (Finset.mem_univ (⟨j, hjK⟩ : Fin K)))
  have hsum : ∑ j, w j = ((∑ j, r j : ℝ) : EReal) := by
    rw [Finset.sum_congr rfl fun j _ => hr j, coe_sum]
  show Ideal.div (∑ j, w j * V j.val d) (∑ j, w j) = ∑ j, Ideal.div (w j) (∑ i, w i) * V j.val d
  rw [hsum, Ideal.div_coe hpos.ne', mul_comm, mul_sum _ _ (by exact_mod_cast (by positivity)) (EReal.coe_ne_top _)]
  refine Finset.sum_congr rfl fun j _ => ?_
  rw [Ideal.div_coe hpos.ne', ← mul_assoc, mul_comm ((_ : ℝ) : EReal) (w j)]

end Cert.OnlineSoftmax

end
-- ==== Proof.FlashPayload.lean ====
/- What the block step of `FlashIdeal` stores, at an index: for each of its unrolled copies, that the three arrays it stores
   are the update of a row's state by one block of keys. -/
module

public import proofs.«01_k».proof.Proof.Gen.FlashIdeal.Skeleton
public import proofs.«01_k».proof.Proof.FlashSoftmax
public import Idealize.ShloMosaic.Lib.Tactic.ValueTie

@[expose] public section

noncomputable section

namespace Cert.FlashIdeal.Hand

open Cert.FlashIdeal Cert.FlashIdeal.Gen Idealize.ShloMosaic Idealize.ShloMosaic.TcCoe
open Cert.OnlineSoftmax

theorem negInf : Ideal.ofBits FTy.f32 0xFF800000#32 = ⊥ := by simp [Ideal.ofBits, Ideal.ieee]

/-- A comparison of two small indices picks by their order. -/
theorem select_le {a b : ℕ} (ha : a < 2 ^ 31) (hb : b < 2 ^ 31) (x y : EReal) :
    Scalar.select (IntOp.cmpi CmpIPredicate.sle (BitVec.ofNat 32 a) (BitVec.ofNat 32 b)) x y = if a ≤ b then x else y := by
  have ea : (BitVec.ofNat 32 a).toInt = a := by
    rw [BitVec.toInt_ofNat']; exact Int.bmod_eq_of_le (by omega) (by omega)
  have eb : (BitVec.ofNat 32 b).toInt = b := by
    rw [BitVec.toInt_ofNat']; exact Int.bmod_eq_of_le (by omega) (by omega)
  have h := IntOp.cmpi_sle (x := BitVec.ofNat 32 a) (y := BitVec.ofNat 32 b)
  rw [ea, eb] at h
  show (if IntOp.cmpi CmpIPredicate.sle (BitVec.ofNat 32 a) (BitVec.ofNat 32 b) = 1#1 then x else y) = _
  by_cases hab : a ≤ b
  · rw [if_pos hab, if_pos (h.mpr (by exact_mod_cast hab))]
  · rw [if_neg hab, if_neg (fun e => hab (by exact_mod_cast h.mp e))]

/-- The scores of a row against a block of keys, in a block whose keys all precede the row. -/
def dots {n k : ℕ} (q : (⟨3, ![1, n, 256]⟩ : Shape).Idx → EReal) (x : (⟨3, ![1, k, 256]⟩ : Shape).Idx → EReal) (r : Fin n) (j : Fin k) : EReal :=
  ∑ d : Fin 256, q (ix3 (0 : Fin 1) r d) * x (ix3 (0 : Fin 1) j d)

/-- The scores of a row against a block of keys whose first key is the first row's: later keys are masked. -/
def maskedDots {n k : ℕ} (q : (⟨3, ![1, n, 256]⟩ : Shape).Idx → EReal) (x : (⟨3, ![1, k, 256]⟩ : Shape).Idx → EReal) (r : Fin n) (j : Fin k) : EReal :=
  if j.val ≤ r.val then dots q x r j else ⊥

/-! ### 1024 rows, 1024 keys -/

section full
variable (q : Vec Ideal S1x1024x256 .bf16) (k : Vec Ideal S1x1024x256 .bf16) (v : Vec Ideal S1x1024x128 .bf16) (m l a : Vec Ideal S1x1024x128 .f32)

theorem full_score (r : Fin 1024) (j : Fin 1024) : ((k0_pay73 q k) : FVec Ideal S1024x1024 .f32) (ix2 r j) = dots q k r j := by
  unfold k0_pay73
  simp only [pointwise, zero_add]
  rfl

variable (μ : Fin 1024 → EReal) (hm : ∀ r c, m (ix3 (0 : Fin 1) r c) = μ r)
include hm

theorem full_max (r : Fin 1024) (c : Fin 128) : ((k0_pay75 q k m) : FVec Ideal S1024x128 .f32) (ix2 r c) = max (μ r) (Finset.univ.sup (dots q k r)) := by
  unfold k0_pay75 k0_pay74
  simp only [pointwise, hm, OfNat.ofNat_ne_one, ↓reduceDIte, full_score, negInf]
  rfl

theorem full_alpha (r : Fin 1024) (c : Fin 128) :
    ((k0_pay76 q k m) : FVec Ideal S1024x128 .f32) (ix2 r c) = Ideal.exp2 (μ r - max (μ r) (Finset.univ.sup (dots q k r))) := by
  unfold k0_pay76 k0_pay74
  simp only [pointwise, hm, full_max q k m μ hm]
  rfl

theorem full_p (r : Fin 1024) (j : Fin 1024) :
    ((k0_pay77 q k m) : FVec Ideal S1024x1024 .f32) (ix2 r j) = Ideal.exp2 (dots q k r j - max (μ r) (Finset.univ.sup (dots q k r))) := by
  unfold k0_pay77
  simp only [pointwise, full_score, full_max q k m μ hm, Fin.isValue, Fin.val_zero, Fin.val_one, zero_ne_one, if_false, dite_eq_ite, ite_self]
  rfl

theorem full_upd (r : Fin 1024) :
    Upd 8 (dots q k r : Fin (8 * 128) → EReal) (fun j d => v (ix3 (0 : Fin 1) (j : Fin 1024) d)) (μ r)
      (fun c => l (ix3 (0 : Fin 1) r c)) (fun d => a (ix3 (0 : Fin 1) r d))
      (fun c => ((k0_pay81 (k0_pay75 q k m)) : FVec Ideal S1x1024x128 .f32) (ix3 (0 : Fin 1) r c))
      (fun c => ((k0_pay79 (k0_pay78 q k m l)) : FVec Ideal S1x1024x128 .f32) (ix3 (0 : Fin 1) r c))
      (fun d => ((k0_pay80 (k0_pay72 v) (k0_pay76 q k m) (k0_pay77 q k m) a) : FVec Ideal S1x1024x128 .f32) (ix3 (0 : Fin 1) r d)) := by
  refine ⟨fun c => ?_, fun c => ?_, fun d => ?_⟩
  · unfold k0_pay81
    simp only [pointwise, full_max q k m μ hm]
  · unfold k0_pay79 k0_pay78
    simp only [pointwise, full_alpha q k m μ hm, full_p q k m μ hm, Fin.sum_univ_eight]
    refine congrArg₂ (· + ·) rfl ?_
    iterate 7 (refine congrArg₂ (· + ·) ?_ ?_)
    all_goals
      refine congrArg₂ (fun (r : Fin 1024) (j : Fin 1024) => Ideal.exp2 (dots q k r j - max (μ r) (Finset.univ.sup (dots q k r)))) (Fin.ext ?_) (Fin.ext ?_)
      · exact Nat.zero_add _
      · exact Nat.add_comm _ _
  · unfold k0_pay80 k0_pay72
    simp only [pointwise, zero_add, full_alpha q k m μ hm, full_p q k m μ hm]

end full

/-! ### 1024 rows, 256 keys, on the diagonal -/

section diag0
variable (q : Vec Ideal S1x1024x256 .bf16) (k : Vec Ideal S1x256x256 .bf16) (v : Vec Ideal S1x256x128 .bf16) (m l a : Vec Ideal S1x1024x128 .f32)

theorem diag0_score (r : Fin 1024) (j : Fin 256) : (k0_pay124 (k0_pay122 q k) k0_pay123 : FVec Ideal S1024x256 .f32) (ix2 r j) = maskedDots q k r j := by
  unfold k0_pay124 k0_pay122 k0_pay123
  simp only [pointwise, zero_add]
  refine (congrArg (Scalar.select _ _) negInf).trans ?_
  show Scalar.select (IntOp.cmpi CmpIPredicate.sle (BitVec.ofNat 32 (0 + j.val)) (BitVec.ofNat 32 (0 + r.val))) _ _ = _
  rw [Nat.zero_add, Nat.zero_add, select_le (by omega) (by omega)]
  rfl

variable (μ : Fin 1024 → EReal) (hm : ∀ r c, m (ix3 (0 : Fin 1) r c) = μ r)
include hm

theorem diag0_max (r : Fin 1024) (c : Fin 128) : (k0_pay126 (k0_pay122 q k) k0_pay123 m : FVec Ideal S1024x128 .f32) (ix2 r c) = max (μ r) (Finset.univ.sup (maskedDots q k r)) := by
  unfold k0_pay126 k0_pay125
  simp only [pointwise, hm, OfNat.ofNat_ne_one, ↓reduceDIte, diag0_score, negInf]
  rfl

theorem diag0_alpha (r : Fin 1024) (c : Fin 128) :
    (k0_pay127 (k0_pay122 q k) k0_pay123 m : FVec Ideal S1024x128 .f32) (ix2 r c) = Ideal.exp2 (μ r - max (μ r) (Finset.univ.sup (maskedDots q k r))) := by
  unfold k0_pay127 k0_pay125
  simp only [pointwise, hm, diag0_max q k m μ hm]
  rfl

theorem diag0_p (r : Fin 1024) (j : Fin 256) :
    (k0_pay128 (k0_pay122 q k) k0_pay123 m : FVec Ideal S1024x256 .f32) (ix2 r j) = Ideal.exp2 (maskedDots q k r j - max (μ r) (Finset.univ.sup (maskedDots q k r))) := by
  unfold k0_pay128
  simp only [pointwise, diag0_score, diag0_max q k m μ hm, Fin.isValue, Fin.val_zero, Fin.val_one, zero_ne_one, if_false, dite_eq_ite, ite_self]
  rfl

theorem diag0_upd (r : Fin 1024) :
    Upd 2 (maskedDots q k r : Fin (2 * 128) → EReal) (fun j d => v (ix3 (0 : Fin 1) (j : Fin 256) d)) (μ r)
      (fun c => l (ix3 (0 : Fin 1) r c)) (fun d => a (ix3 (0 : Fin 1) r d))
      (fun c => (k0_pay131 (k0_pay122 q k) k0_pay123 m : FVec Ideal S1x1024x128 .f32) (ix3 (0 : Fin 1) r c))
      (fun c => (k0_pay129 (k0_pay122 q k) k0_pay123 m l : FVec Ideal S1x1024x128 .f32) (ix3 (0 : Fin 1) r c))
      (fun d => (k0_pay130 (k0_pay121 v) (k0_pay122 q k) k0_pay123 m a : FVec Ideal S1x1024x128 .f32) (ix3 (0 : Fin 1) r d)) := by
  refine ⟨fun c => ?_, fun c => ?_, fun d => ?_⟩
  · unfold k0_pay131
    simp only [pointwise, diag0_max q k m μ hm]
  · unfold k0_pay129
    simp only [pointwise, diag0_alpha q k m μ hm, diag0_p q k m μ hm, Fin.sum_univ_two]
    refine congrArg₂ (· + ·) rfl ?_
    iterate 1 (refine congrArg₂ (· + ·) ?_ ?_)
    all_goals
      refine congrArg₂ (fun (r : Fin 1024) (j : Fin 256) => Ideal.exp2 (maskedDots q k r j - max (μ r) (Finset.univ.sup (maskedDots q k r)))) (Fin.ext ?_) (Fin.ext ?_)
      · exact Nat.zero_add _
      · exact Nat.add_comm _ _
  · unfold k0_pay130 k0_pay121
    simp only [pointwise, zero_add, diag0_alpha q k m μ hm, diag0_p q k m μ hm]

end diag0

/-! ### 768 rows, 256 keys, on the diagonal -/

section diag1
variable (q : Vec Ideal S1x768x256 .bf16) (k : Vec Ideal S1x256x256 .bf16) (v : Vec Ideal S1x256x128 .bf16) (m l a : Vec Ideal S1x768x128 .f32)

theorem diag1_score (r : Fin 768) (j : Fin 256) : (k0_pay143 q k : FVec Ideal S768x256 .f32) (ix2 r j) = maskedDots q k r j := by
  unfold k0_pay143
  simp only [pointwise, zero_add]
  refine (congrArg (Scalar.select _ _) negInf).trans ?_
  show Scalar.select (IntOp.cmpi CmpIPredicate.sle (BitVec.ofNat 32 (0 + j.val)) (BitVec.ofNat 32 (0 + r.val))) _ _ = _
  rw [Nat.zero_add, Nat.zero_add, select_le (by omega) (by omega)]
  rfl

variable (μ : Fin 768 → EReal) (hm : ∀ r c, m (ix3 (0 : Fin 1) r c) = μ r)
include hm

theorem diag1_max (r : Fin 768) (c : Fin 128) : (k0_pay145 q k m : FVec Ideal S768x128 .f32) (ix2 r c) = max (μ r) (Finset.univ.sup (maskedDots q k r)) := by
  unfold k0_pay145 k0_pay144
  simp only [pointwise, hm, OfNat.ofNat_ne_one, ↓reduceDIte, diag1_score, negInf]
  rfl

theorem diag1_alpha (r : Fin 768) (c : Fin 128) :
    (k0_pay146 q k m : FVec Ideal S768x128 .f32) (ix2 r c) = Ideal.exp2 (μ r - max (μ r) (Finset.univ.sup (maskedDots q k r))) := by
  unfold k0_pay146 k0_pay144
  simp only [pointwise, hm, diag1_max q k m μ hm]
  rfl

theorem diag1_p (r : Fin 768) (j : Fin 256) :
    (k0_pay147 q k m : FVec Ideal S768x256 .f32) (ix2 r j) = Ideal.exp2 (maskedDots q k r j - max (μ r) (Finset.univ.sup (maskedDots q k r))) := by
  unfold k0_pay147
  simp only [pointwise, diag1_score, diag1_max q k m μ hm, Fin.isValue, Fin.val_zero, Fin.val_one, zero_ne_one, if_false, dite_eq_ite, ite_self]
  rfl

theorem diag1_upd (r : Fin 768) :
    Upd 2 (maskedDots q k r : Fin (2 * 128) → EReal) (fun j d => v (ix3 (0 : Fin 1) (j : Fin 256) d)) (μ r)
      (fun c => l (ix3 (0 : Fin 1) r c)) (fun d => a (ix3 (0 : Fin 1) r d))
      (fun c => (k0_pay152 (k0_pay145 q k m) : FVec Ideal S1x768x128 .f32) (ix3 (0 : Fin 1) r c))
      (fun c => (k0_pay150 (k0_pay146 q k m) (k0_pay148 q k m) (k0_pay149 q k m) l : FVec Ideal S1x768x128 .f32) (ix3 (0 : Fin 1) r c))
      (fun d => (k0_pay151 (k0_pay142 v) (k0_pay146 q k m) (k0_pay147 q k m) a : FVec Ideal S1x768x128 .f32) (ix3 (0 : Fin 1) r d)) := by
  refine ⟨fun c => ?_, fun c => ?_, fun d => ?_⟩
  · unfold k0_pay152
    simp only [pointwise, diag1_max q k m μ hm]
  · unfold k0_pay150 k0_pay148 k0_pay149
    simp only [pointwise, diag1_alpha q k m μ hm, diag1_p q k m μ hm, Fin.sum_univ_two]
    refine congrArg₂ (· + ·) rfl ?_
    iterate 1 (refine congrArg₂ (· + ·) ?_ ?_)
    all_goals
      refine congrArg₂ (fun (r : Fin 768) (j : Fin 256) => Ideal.exp2 (maskedDots q k r j - max (μ r) (Finset.univ.sup (maskedDots q k r)))) (Fin.ext ?_) (Fin.ext ?_)
      · exact Nat.zero_add _
      · exact Nat.add_comm _ _
  · unfold k0_pay151 k0_pay142
    simp only [pointwise, zero_add, diag1_alpha q k m μ hm, diag1_p q k m μ hm]

end diag1

/-! ### 512 rows, 256 keys, on the diagonal -/

section diag2
variable (q : Vec Ideal S1x512x256 .bf16) (k : Vec Ideal S1x256x256 .bf16) (v : Vec Ideal S1x256x128 .bf16) (m l a : Vec Ideal S1x512x128 .f32)

theorem diag2_score (r : Fin 512) (j : Fin 256) : (k0_pay165 q k : FVec Ideal S512x256 .f32) (ix2 r j) = maskedDots q k r j := by
  unfold k0_pay165
  simp only [pointwise, zero_add]
  refine (congrArg (Scalar.select _ _) negInf).trans ?_
  show Scalar.select (IntOp.cmpi CmpIPredicate.sle (BitVec.ofNat 32 (0 + j.val)) (BitVec.ofNat 32 (0 + r.val))) _ _ = _
  rw [Nat.zero_add, Nat.zero_add, select_le (by omega) (by omega)]
  rfl

variable (μ : Fin 512 → EReal) (hm : ∀ r c, m (ix3 (0 : Fin 1) r c) = μ r)
include hm

theorem diag2_max (r : Fin 512) (c : Fin 128) : (k0_pay167 q k m : FVec Ideal S512x128 .f32) (ix2 r c) = max (μ r) (Finset.univ.sup (maskedDots q k r)) := by
  unfold k0_pay167 k0_pay166
  simp only [pointwise, hm, OfNat.ofNat_ne_one, ↓reduceDIte, diag2_score, negInf]
  rfl

theorem diag2_alpha (r : Fin 512) (c : Fin 128) :
    (k0_pay168 q k m : FVec Ideal S512x128 .f32) (ix2 r c) = Ideal.exp2 (μ r - max (μ r) (Finset.univ.sup (maskedDots q k r))) := by
  unfold k0_pay168 k0_pay166
  simp only [pointwise, hm, diag2_max q k m μ hm]
  rfl

theorem diag2_p (r : Fin 512) (j : Fin 256) :
    (k0_pay169 q k m : FVec Ideal S512x256 .f32) (ix2 r j) = Ideal.exp2 (maskedDots q k r j - max (μ r) (Finset.univ.sup (maskedDots q k r))) := by
  unfold k0_pay169
  simp only [pointwise, diag2_score, diag2_max q k m μ hm, Fin.isValue, Fin.val_zero, Fin.val_one, zero_ne_one, if_false, dite_eq_ite, ite_self]
  rfl

theorem diag2_upd (r : Fin 512) :
    Upd 2 (maskedDots q k r : Fin (2 * 128) → EReal) (fun j d => v (ix3 (0 : Fin 1) (j : Fin 256) d)) (μ r)
      (fun c => l (ix3 (0 : Fin 1) r c)) (fun d => a (ix3 (0 : Fin 1) r d))
      (fun c => (k0_pay173 (k0_pay167 q k m) : FVec Ideal S1x512x128 .f32) (ix3 (0 : Fin 1) r c))
      (fun c => (k0_pay170 q k m l : FVec Ideal S1x512x128 .f32) (ix3 (0 : Fin 1) r c))
      (fun d => (k0_pay172 (k0_pay164 v) (k0_pay168 q k m) (k0_pay169 q k m) (k0_pay171 a) : FVec Ideal S1x512x128 .f32) (ix3 (0 : Fin 1) r d)) := by
  refine ⟨fun c => ?_, fun c => ?_, fun d => ?_⟩
  · unfold k0_pay173
    simp only [pointwise, diag2_max q k m μ hm]
  · unfold k0_pay170
    simp only [pointwise, diag2_alpha q k m μ hm, diag2_p q k m μ hm, Fin.sum_univ_two]
    refine congrArg₂ (· + ·) rfl ?_
    iterate 1 (refine congrArg₂ (· + ·) ?_ ?_)
    all_goals
      refine congrArg₂ (fun (r : Fin 512) (j : Fin 256) => Ideal.exp2 (maskedDots q k r j - max (μ r) (Finset.univ.sup (maskedDots q k r)))) (Fin.ext ?_) (Fin.ext ?_)
      · exact Nat.zero_add _
      · exact Nat.add_comm _ _
  · unfold k0_pay172 k0_pay171 k0_pay164
    simp only [pointwise, zero_add, diag2_alpha q k m μ hm, diag2_p q k m μ hm]

end diag2

/-! ### 256 rows, 256 keys, on the diagonal -/

section diag3
variable (q : Vec Ideal S1x256x256 .bf16) (k : Vec Ideal S1x256x256 .bf16) (v : Vec Ideal S1x256x128 .bf16) (m l a : Vec Ideal S1x256x128 .f32)

theorem diag3_score (r : Fin 256) (j : Fin 256) : (k0_pay187 (k0_pay185 q k) k0_pay186 : FVec Ideal S256x256 .f32) (ix2 r j) = maskedDots q k r j := by
  unfold k0_pay187 k0_pay185 k0_pay186
  simp only [pointwise, zero_add]
  refine (congrArg (Scalar.select _ _) negInf).trans ?_
  show Scalar.select (IntOp.cmpi CmpIPredicate.sle (BitVec.ofNat 32 (0 + j.val)) (BitVec.ofNat 32 (0 + r.val))) _ _ = _
  rw [Nat.zero_add, Nat.zero_add, select_le (by omega) (by omega)]
  rfl

variable (μ : Fin 256 → EReal) (hm : ∀ r c, m (ix3 (0 : Fin 1) r c) = μ r)
include hm

theorem diag3_max (r : Fin 256) (c : Fin 128) : (k0_pay189 (k0_pay185 q k) k0_pay186 m : FVec Ideal S256x128 .f32) (ix2 r c) = max (μ r) (Finset.univ.sup (maskedDots q k r)) := by
  unfold k0_pay189 k0_pay188
  simp only [pointwise, hm, OfNat.ofNat_ne_one, ↓reduceDIte, diag3_score, negInf]
  rfl

theorem diag3_alpha (r : Fin 256) (c : Fin 128) :
    (k0_pay190 (k0_pay185 q k) k0_pay186 m : FVec Ideal S256x128 .f32) (ix2 r c) = Ideal.exp2 (μ r - max (μ r) (Finset.univ.sup (maskedDots q k r))) := by
  unfold k0_pay190 k0_pay188
  simp only [pointwise, hm, diag3_max q k m μ hm]
  rfl

theorem diag3_p (r : Fin 256) (j : Fin 256) :
    (k0_pay191 (k0_pay185 q k) k0_pay186 m : FVec Ideal S256x256 .f32) (ix2 r j) = Ideal.exp2 (maskedDots q k r j - max (μ r) (Finset.univ.sup (maskedDots q k r))) := by
  unfold k0_pay191
  simp only [pointwise, diag3_score, diag3_max q k m μ hm, Fin.isValue, Fin.val_zero, Fin.val_one, zero_ne_one, if_false, dite_eq_ite, ite_self]
  rfl

theorem diag3_upd (r : Fin 256) :
    Upd 2 (maskedDots q k r : Fin (2 * 128) → EReal) (fun j d => v (ix3 (0 : Fin 1) (j : Fin 256) d)) (μ r)
      (fun c => l (ix3 (0 : Fin 1) r c)) (fun d => a (ix3 (0 : Fin 1) r d))
      (fun c => (k0_pay194 (k0_pay185 q k) k0_pay186 m : FVec Ideal S1x256x128 .f32) (ix3 (0 : Fin 1) r c))
      (fun c => (k0_pay192 (k0_pay185 q k) k0_pay186 m l : FVec Ideal S1x256x128 .f32) (ix3 (0 : Fin 1) r c))
      (fun d => (k0_pay193 (k0_pay184 v) (k0_pay185 q k) k0_pay186 m a : FVec Ideal S1x256x128 .f32) (ix3 (0 : Fin 1) r d)) := by
  refine ⟨fun c => ?_, fun c => ?_, fun d => ?_⟩
  · unfold k0_pay194
    simp only [pointwise, diag3_max q k m μ hm]
  · unfold k0_pay192
    simp only [pointwise, diag3_alpha q k m μ hm, diag3_p q k m μ hm, Fin.sum_univ_two]
    refine congrArg₂ (· + ·) rfl ?_
    iterate 1 (refine congrArg₂ (· + ·) ?_ ?_)
    all_goals
      refine congrArg₂ (fun (r : Fin 256) (j : Fin 256) => Ideal.exp2 (maskedDots q k r j - max (μ r) (Finset.univ.sup (maskedDots q k r)))) (Fin.ext ?_) (Fin.ext ?_)
      · exact Nat.zero_add _
      · exact Nat.add_comm _ _
  · unfold k0_pay193 k0_pay184
    simp only [pointwise, zero_add, diag3_alpha q k m μ hm, diag3_p q k m μ hm]

end diag3

/-! ### The other copies of the step -/

theorem single1_upd (q : Vec Ideal S1x1024x256 .bf16) (k : Vec Ideal S1x1024x256 .bf16) (v : Vec Ideal S1x1024x128 .bf16) (m l a : Vec Ideal S1x1024x128 .f32)
    (μ : Fin 1024 → EReal) (hm : ∀ r c, m (ix3 (0 : Fin 1) r c) = μ r) (r : Fin 1024) :
    Upd 8 (dots q k r : Fin (8 * 128) → EReal) (fun j d => v (ix3 (0 : Fin 1) (j : Fin 1024) d)) (μ r)
      (fun c => l (ix3 (0 : Fin 1) r c)) (fun d => a (ix3 (0 : Fin 1) r d))
      (fun c => (k0_pay116 (k0_pay85 q k m) : FVec Ideal S1x1024x128 .f32) (ix3 (0 : Fin 1) r c))
      (fun c => (k0_pay114 (k0_pay86 q k m) (k0_pay87 q k m) l : FVec Ideal S1x1024x128 .f32) (ix3 (0 : Fin 1) r c))
      (fun d => (k0_pay115 (k0_pay82 v) (k0_pay86 q k m) (k0_pay87 q k m) a : FVec Ideal S1x1024x128 .f32) (ix3 (0 : Fin 1) r d)) := by
  rw [show k0_pay116 (k0_pay85 q k m) = k0_pay81 (k0_pay75 q k m) from rfl, show k0_pay114 (k0_pay86 q k m) (k0_pay87 q k m) l = k0_pay79 (k0_pay78 q k m l) from rfl, show k0_pay115 (k0_pay82 v) (k0_pay86 q k m) (k0_pay87 q k m) a = k0_pay80 (k0_pay72 v) (k0_pay76 q k m) (k0_pay77 q k m) a from rfl]
  exact full_upd q k v m l a μ hm r

theorem pairA0_upd (q : Vec Ideal S1x1024x256 .bf16) (k : Vec Ideal S1x1024x256 .bf16) (v : Vec Ideal S1x1024x128 .bf16) (m l a : Vec Ideal S1x1024x128 .f32)
    (μ : Fin 1024 → EReal) (hm : ∀ r c, m (ix3 (0 : Fin 1) r c) = μ r) (r : Fin 1024) :
    Upd 8 (dots q k r : Fin (8 * 128) → EReal) (fun j d => v (ix3 (0 : Fin 1) (j : Fin 1024) d)) (μ r)
      (fun c => l (ix3 (0 : Fin 1) r c)) (fun d => a (ix3 (0 : Fin 1) r d))
      (fun c => (k0_pay11 (k0_pay5 q k m) : FVec Ideal S1x1024x128 .f32) (ix3 (0 : Fin 1) r c))
      (fun c => (k0_pay9 (k0_pay8 q k m l) : FVec Ideal S1x1024x128 .f32) (ix3 (0 : Fin 1) r c))
      (fun d => (k0_pay10 (k0_pay2 v) (k0_pay6 q k m) (k0_pay7 q k m) a : FVec Ideal S1x1024x128 .f32) (ix3 (0 : Fin 1) r d)) := by
  rw [show k0_pay11 (k0_pay5 q k m) = k0_pay81 (k0_pay75 q k m) from rfl, show k0_pay9 (k0_pay8 q k m l) = k0_pay79 (k0_pay78 q k m l) from rfl, show k0_pay10 (k0_pay2 v) (k0_pay6 q k m) (k0_pay7 q k m) a = k0_pay80 (k0_pay72 v) (k0_pay76 q k m) (k0_pay77 q k m) a from rfl]
  exact full_upd q k v m l a μ hm r

theorem pairA1_upd (q : Vec Ideal S1x1024x256 .bf16) (k : Vec Ideal S1x1024x256 .bf16) (v : Vec Ideal S1x1024x128 .bf16) (m l a : Vec Ideal S1x1024x128 .f32)
    (μ : Fin 1024 → EReal) (hm : ∀ r c, m (ix3 (0 : Fin 1) r c) = μ r) (r : Fin 1024) :
    Upd 8 (dots q k r : Fin (8 * 128) → EReal) (fun j d => v (ix3 (0 : Fin 1) (j : Fin 1024) d)) (μ r)
      (fun c => l (ix3 (0 : Fin 1) r c)) (fun d => a (ix3 (0 : Fin 1) r d))
      (fun c => (k0_pay20 (k0_pay15 q k m) : FVec Ideal S1x1024x128 .f32) (ix3 (0 : Fin 1) r c))
      (fun c => (k0_pay18 (k0_pay13 q k) (k0_pay15 q k m) (k0_pay16 q k m) l : FVec Ideal S1x1024x128 .f32) (ix3 (0 : Fin 1) r c))
      (fun d => (k0_pay19 (k0_pay12 v) (k0_pay13 q k) (k0_pay15 q k m) (k0_pay16 q k m) a : FVec Ideal S1x1024x128 .f32) (ix3 (0 : Fin 1) r d)) := by
  rw [show k0_pay20 (k0_pay15 q k m) = k0_pay81 (k0_pay75 q k m) from rfl, show k0_pay18 (k0_pay13 q k) (k0_pay15 q k m) (k0_pay16 q k m) l = k0_pay79 (k0_pay78 q k m l) from rfl, show k0_pay19 (k0_pay12 v) (k0_pay13 q k) (k0_pay15 q k m) (k0_pay16 q k m) a = k0_pay80 (k0_pay72 v) (k0_pay76 q k m) (k0_pay77 q k m) a from rfl]
  exact full_upd q k v m l a μ hm r

theorem pairB0_upd (q : Vec Ideal S1x1024x256 .bf16) (k : Vec Ideal S1x1024x256 .bf16) (v : Vec Ideal S1x1024x128 .bf16) (m l a : Vec Ideal S1x1024x128 .f32)
    (μ : Fin 1024 → EReal) (hm : ∀ r c, m (ix3 (0 : Fin 1) r c) = μ r) (r : Fin 1024) :
    Upd 8 (dots q k r : Fin (8 * 128) → EReal) (fun j d => v (ix3 (0 : Fin 1) (j : Fin 1024) d)) (μ r)
      (fun c => l (ix3 (0 : Fin 1) r c)) (fun d => a (ix3 (0 : Fin 1) r d))
      (fun c => (k0_pay30 (k0_pay24 q k m) : FVec Ideal S1x1024x128 .f32) (ix3 (0 : Fin 1) r c))
      (fun c => (k0_pay28 (k0_pay27 q k m l) : FVec Ideal S1x1024x128 .f32) (ix3 (0 : Fin 1) r c))
      (fun d => (k0_pay29 (k0_pay21 v) (k0_pay25 q k m) (k0_pay26 q k m) a : FVec Ideal S1x1024x128 .f32) (ix3 (0 : Fin 1) r d)) := by
  rw [show k0_pay30 (k0_pay24 q k m) = k0_pay81 (k0_pay75 q k m) from rfl, show k0_pay28 (k0_pay27 q k m l) = k0_pay79 (k0_pay78 q k m l) from rfl, show k0_pay29 (k0_pay21 v) (k0_pay25 q k m) (k0_pay26 q k m) a = k0_pay80 (k0_pay72 v) (k0_pay76 q k m) (k0_pay77 q k m) a from rfl]
  exact full_upd q k v m l a μ hm r

theorem pairB1_upd (q : Vec Ideal S1x1024x256 .bf16) (k : Vec Ideal S1x1024x256 .bf16) (v : Vec Ideal S1x1024x128 .bf16) (m l a : Vec Ideal S1x1024x128 .f32)
    (μ : Fin 1024 → EReal) (hm : ∀ r c, m (ix3 (0 : Fin 1) r c) = μ r) (r : Fin 1024) :
    Upd 8 (dots q k r : Fin (8 * 128) → EReal) (fun j d => v (ix3 (0 : Fin 1) (j : Fin 1024) d)) (μ r)
      (fun c => l (ix3 (0 : Fin 1) r c)) (fun d => a (ix3 (0 : Fin 1) r d))
      (fun c => (k0_pay109 (k0_pay34 q k m) : FVec Ideal S1x1024x128 .f32) (ix3 (0 : Fin 1) r c))
      (fun c => (k0_pay107 (k0_pay35 q k m) (k0_pay36 q k m) l : FVec Ideal S1x1024x128 .f32) (ix3 (0 : Fin 1) r c))
      (fun d => (k0_pay108 (k0_pay31 v) (k0_pay35 q k m) (k0_pay36 q k m) a : FVec Ideal S1x1024x128 .f32) (ix3 (0 : Fin 1) r d)) := by
  rw [show k0_pay109 (k0_pay34 q k m) = k0_pay81 (k0_pay75 q k m) from rfl, show k0_pay107 (k0_pay35 q k m) (k0_pay36 q k m) l = k0_pay79 (k0_pay78 q k m l) from rfl, show k0_pay108 (k0_pay31 v) (k0_pay35 q k m) (k0_pay36 q k m) a = k0_pay80 (k0_pay72 v) (k0_pay76 q k m) (k0_pay77 q k m) a from rfl]
  exact full_upd q k v m l a μ hm r

theorem diag0b_upd (q : Vec Ideal S1x1024x256 .bf16) (k : Vec Ideal S1x256x256 .bf16) (v : Vec Ideal S1x256x128 .bf16) (m l a : Vec Ideal S1x1024x128 .f32)
    (μ : Fin 1024 → EReal) (hm : ∀ r c, m (ix3 (0 : Fin 1) r c) = μ r) (r : Fin 1024) :
    Upd 2 (maskedDots q k r : Fin (2 * 128) → EReal) (fun j d => v (ix3 (0 : Fin 1) (j : Fin 256) d)) (μ r)
      (fun c => l (ix3 (0 : Fin 1) r c)) (fun d => a (ix3 (0 : Fin 1) r d))
      (fun c => (k0_pay141 (k0_pay135 q k m) : FVec Ideal S1x1024x128 .f32) (ix3 (0 : Fin 1) r c))
      (fun c => (k0_pay138 q k m l : FVec Ideal S1x1024x128 .f32) (ix3 (0 : Fin 1) r c))
      (fun d => (k0_pay140 (k0_pay132 v) (k0_pay137 q k m) (k0_pay139 q k m a) : FVec Ideal S1x1024x128 .f32) (ix3 (0 : Fin 1) r d)) := by
  rw [show k0_pay141 (k0_pay135 q k m) = k0_pay131 (k0_pay122 q k) k0_pay123 m from rfl, show k0_pay138 q k m l = k0_pay129 (k0_pay122 q k) k0_pay123 m l from rfl, show k0_pay140 (k0_pay132 v) (k0_pay137 q k m) (k0_pay139 q k m a) = k0_pay130 (k0_pay121 v) (k0_pay122 q k) k0_pay123 m a from rfl]
  exact diag0_upd q k v m l a μ hm r

theorem diag1b_upd (q : Vec Ideal S1x768x256 .bf16) (k : Vec Ideal S1x256x256 .bf16) (v : Vec Ideal S1x256x128 .bf16) (m l a : Vec Ideal S1x768x128 .f32)
    (μ : Fin 768 → EReal) (hm : ∀ r c, m (ix3 (0 : Fin 1) r c) = μ r) (r : Fin 768) :
    Upd 2 (maskedDots q k r : Fin (2 * 128) → EReal) (fun j d => v (ix3 (0 : Fin 1) (j : Fin 256) d)) (μ r)
      (fun c => l (ix3 (0 : Fin 1) r c)) (fun d => a (ix3 (0 : Fin 1) r d))
      (fun c => (k0_pay163 (k0_pay154 q k) k0_pay155 (Scalar.ofBits .f32 0xFF800000#32) m : FVec Ideal S1x768x128 .f32) (ix3 (0 : Fin 1) r c))
      (fun c => (k0_pay161 (k0_pay154 q k) k0_pay155 (Scalar.ofBits .f32 0xFF800000#32) m l : FVec Ideal S1x768x128 .f32) (ix3 (0 : Fin 1) r c))
      (fun d => (k0_pay162 (k0_pay153 v) (k0_pay154 q k) k0_pay155 (Scalar.ofBits .f32 0xFF800000#32) m a : FVec Ideal S1x768x128 .f32) (ix3 (0 : Fin 1) r d)) := by
  rw [show k0_pay163 (k0_pay154 q k) k0_pay155 (Scalar.ofBits .f32 0xFF800000#32) m = k0_pay152 (k0_pay145 q k m) from rfl, show k0_pay161 (k0_pay154 q k) k0_pay155 (Scalar.ofBits .f32 0xFF800000#32) m l = k0_pay150 (k0_pay146 q k m) (k0_pay148 q k m) (k0_pay149 q k m) l from rfl, show k0_pay162 (k0_pay153 v) (k0_pay154 q k) k0_pay155 (Scalar.ofBits .f32 0xFF800000#32) m a = k0_pay151 (k0_pay142 v) (k0_pay146 q k m) (k0_pay147 q k m) a from rfl]
  exact diag1_upd q k v m l a μ hm r

theorem diag2b_upd (q : Vec Ideal S1x512x256 .bf16) (k : Vec Ideal S1x256x256 .bf16) (v : Vec Ideal S1x256x128 .bf16) (m l a : Vec Ideal S1x512x128 .f32)
    (μ : Fin 512 → EReal) (hm : ∀ r c, m (ix3 (0 : Fin 1) r c) = μ r) (r : Fin 512) :
    Upd 2 (maskedDots q k r : Fin (2 * 128) → EReal) (fun j d => v (ix3 (0 : Fin 1) (j : Fin 256) d)) (μ r)
      (fun c => l (ix3 (0 : Fin 1) r c)) (fun d => a (ix3 (0 : Fin 1) r d))
      (fun c => (k0_pay183 (k0_pay177 q k m) : FVec Ideal S1x512x128 .f32) (ix3 (0 : Fin 1) r c))
      (fun c => (k0_pay181 (k0_pay178 q k m) (k0_pay180 q k m) l : FVec Ideal S1x512x128 .f32) (ix3 (0 : Fin 1) r c))
      (fun d => (k0_pay182 (k0_pay174 v) (k0_pay178 q k m) (k0_pay179 q k m) a : FVec Ideal S1x512x128 .f32) (ix3 (0 : Fin 1) r d)) := by
  rw [show k0_pay183 (k0_pay177 q k m) = k0_pay173 (k0_pay167 q k m) from rfl, show k0_pay181 (k0_pay178 q k m) (k0_pay180 q k m) l = k0_pay170 q k m l from rfl, show k0_pay182 (k0_pay174 v) (k0_pay178 q k m) (k0_pay179 q k m) a = k0_pay172 (k0_pay164 v) (k0_pay168 q k m) (k0_pay169 q k m) (k0_pay171 a) from rfl]
  exact diag2_upd q k v m l a μ hm r

theorem diag3b_upd (q : Vec Ideal S1x256x256 .bf16) (k : Vec Ideal S1x256x256 .bf16) (v : Vec Ideal S1x256x128 .bf16) (m l a : Vec Ideal S1x256x128 .f32)
    (μ : Fin 256 → EReal) (hm : ∀ r c, m (ix3 (0 : Fin 1) r c) = μ r) (r : Fin 256) :
    Upd 2 (maskedDots q k r : Fin (2 * 128) → EReal) (fun j d => v (ix3 (0 : Fin 1) (j : Fin 256) d)) (μ r)
      (fun c => l (ix3 (0 : Fin 1) r c)) (fun d => a (ix3 (0 : Fin 1) r d))
      (fun c => (k0_pay204 (k0_pay198 q k m) : FVec Ideal S1x256x128 .f32) (ix3 (0 : Fin 1) r c))
      (fun c => (k0_pay201 q k m l : FVec Ideal S1x256x128 .f32) (ix3 (0 : Fin 1) r c))
      (fun d => (k0_pay203 (k0_pay195 v) (k0_pay200 q k m) (k0_pay202 q k m a) : FVec Ideal S1x256x128 .f32) (ix3 (0 : Fin 1) r d)) := by
  rw [show k0_pay204 (k0_pay198 q k m) = k0_pay194 (k0_pay185 q k) k0_pay186 m from rfl, show k0_pay201 q k m l = k0_pay192 (k0_pay185 q k) k0_pay186 m l from rfl, show k0_pay203 (k0_pay195 v) (k0_pay200 q k m) (k0_pay202 q k m a) = k0_pay193 (k0_pay184 v) (k0_pay185 q k) k0_pay186 m a from rfl]
  exact diag3_upd q k v m l a μ hm r

end Cert.FlashIdeal.Hand

end
-- ==== Proof.FlashState.lean ====
/- The state a tile of rows keeps in three arrays of two heads by 1024 rows by 128 lanes — running maximum, running sums of
   the weights, running weighted sums of the values — and what one store of a block of rows of one head does to it. -/
module

public import proofs.«01_k».proof.Proof.FlashPayload
public import Idealize.ShloMosaic.Lib.WritesUnit

@[expose] public section

noncomputable section

namespace Cert.FlashIdeal.Hand

open Cert.FlashIdeal Cert.FlashIdeal.Gen Idealize.ShloMosaic Idealize.ShloMosaic.TcCoe
open Cert.OnlineSoftmax

/-- The shape of the three arrays. -/
abbrev Sc : Shape := ⟨3, ![2, 1024, 128]⟩

/-- Row `r` of the last `R` rows of 1024. -/
abbrev lowRow {r₀ R : ℕ} (hR : r₀ + R = 1024) (r : Fin R) : Fin 1024 := ⟨r₀ + r.val, by omega⟩

/-- Every row of every head has its state right for its first `N` keys. -/
def St (S : Fin 2 → Fin 1024 → ℕ → EReal) (V : Fin 2 → ℕ → Fin 128 → EReal) (N : Fin 2 → Fin 1024 → ℕ) (M L A : Sc.Idx → EReal) : Prop :=
  ∀ h r, Good (S h r) (V h) (N h r) (fun c => M (ix3 h r c)) (fun c => L (ix3 h r c)) (fun d => A (ix3 h r d))

/-- `M'` is `M` with the rows from `r₀` on of head `h₀` replaced by `w`. -/
structure Box {r₀ R : ℕ} (hR : r₀ + R = 1024) (h₀ : Fin 2) (M : Sc.Idx → EReal) (w : (⟨3, ![1, R, 128]⟩ : Shape).Idx → EReal) (M' : Sc.Idx → EReal) : Prop where
  mem : ∀ r c, M' (ix3 h₀ (lowRow hR r) c) = w (ix3 (0 : Fin 1) r c)
  out : ∀ h r c, (h ≠ h₀ ∨ r.val < r₀) → M' (ix3 h r c) = M (ix3 h r c)

theorem St.congr {S V N N' M L A} (g : St S V N M L A) (h : ∀ a r, N' a r = N a r) : St S V N' M L A := fun a r => h a r ▸ g a r

/-- One block of keys taken in by the rows from `r₀` on of head `h₀`. -/
theorem St.step {S V N M L A} (g : St S V N M L A) (ht : ∀ h r j, S h r j ≠ ⊤) (hb : ∀ h r, S h r 0 ≠ ⊥)
    {r₀ R : ℕ} (hR : r₀ + R = 1024) (h₀ : Fin 2) (n K : ℕ) (hn : 0 < n) (hN : ∀ r : Fin R, N h₀ (lowRow hR r) = K)
    (m l a w₇ w₈ w₉ : (⟨3, ![1, R, 128]⟩ : Shape).Idx → EReal)
    (hm : ∀ r c, m (ix3 (0 : Fin 1) r c) = M (ix3 h₀ (lowRow hR r) c))
    (hl : ∀ r c, l (ix3 (0 : Fin 1) r c) = L (ix3 h₀ (lowRow hR r) c))
    (ha : ∀ r c, a (ix3 (0 : Fin 1) r c) = A (ix3 h₀ (lowRow hR r) c))
    (s : Fin R → Fin (n * 128) → EReal) (v : Fin (n * 128) → Fin 128 → EReal)
    (hs : ∀ r j, s r j = S h₀ (lowRow hR r) (K + j.val)) (hv : ∀ j d, v j d = V h₀ (K + j.val) d)
    (u : ∀ μ : Fin R → EReal, (∀ r c, m (ix3 (0 : Fin 1) r c) = μ r) → ∀ r, Upd n (s r) v (μ r)
      (fun c => l (ix3 (0 : Fin 1) r c)) (fun d => a (ix3 (0 : Fin 1) r d))
      (fun c => w₇ (ix3 (0 : Fin 1) r c)) (fun c => w₈ (ix3 (0 : Fin 1) r c)) (fun d => w₉ (ix3 (0 : Fin 1) r d)))
    {M' L' A' : Sc.Idx → EReal} (bM : Box hR h₀ M w₇ M') (bL : Box hR h₀ L w₈ L') (bA : Box hR h₀ A w₉ A') :
    St S V (fun h r => if h = h₀ ∧ r₀ ≤ r.val then K + n * 128 else N h r) M' L' A' := by
  intro h r
  by_cases c : h = h₀ ∧ r₀ ≤ r.val
  · obtain ⟨rfl, hr⟩ := c
    obtain ⟨r, rfl⟩ : ∃ x : Fin R, r = lowRow hR x := ⟨⟨r.val - r₀, by omega⟩, Fin.ext (by show r.val = r₀ + (r.val - r₀); omega)⟩
    have e : (if h = h ∧ r₀ ≤ (lowRow hR r).val then K + n * 128 else N h (lowRow hR r)) = K + n * 128 := if_pos ⟨rfl, hr⟩
    show Good (S h (lowRow hR r)) (V h) (if h = h ∧ r₀ ≤ (lowRow hR r).val then K + n * 128 else N h (lowRow hR r)) _ _ _
    rw [e, funext (bM.mem r), funext (bL.mem r), funext (bA.mem r)]
    have g' := g h (lowRow hR r)
    rw [hN r] at g'
    have u' := u (fun r => top (S h (lowRow hR r)) K) (fun r' c => by
      have := (g h (lowRow hR r')).hm c
      rw [hN r'] at this
      exact (hm r' c).trans this) r
    rw [funext (hl r), funext (ha r)] at u'
    exact g'.step hn (ht _ _) (hb _ _) (hs r) hv u'
  · have hc : h ≠ h₀ ∨ r.val < r₀ := by
      rcases not_and_or.mp c with c | c
      · exact Or.inl c
      · exact Or.inr (by omega)
    show Good (S h r) (V h) (if h = h₀ ∧ r₀ ≤ r.val then K + n * 128 else N h r) _ _ _
    rw [if_neg c, funext (bM.out h r · hc), funext (bL.out h r · hc), funext (bA.out h r · hc)]
    exact g h r

/-- A load of rows of one head reads those rows. -/
theorem readAt_rows {κ : Kind} {sp : Space} {e : EltTy} {H T C R : ℕ} (v : View sig κ sp (⟨3, ![H, T, C]⟩ : Shape) e)
    {off : Fin 3 → ℕ} (inb : ∀ a, off a + (![1, R, C] : Fin 3 → ℕ) a ≤ (⟨3, ![H, T, C]⟩ : Shape).size a) (f : v.ty.Contents (Elt Ideal))
    (h₀ : Fin H) (r₀ : ℕ) (heq : off = ![h₀.val, r₀, 0]) (r : Fin R) (t : Fin T) (ht : t.val = r₀ + r.val) (c : Fin C) :
    v.readAt (Elt Ideal) (Rect.unit (s := ⟨3, ![H, T, C]⟩) off ![1, R, C] inb).toLoadRect f (ix3 (0 : Fin 1) r c)
      = v.read (Elt Ideal) f (ix3 h₀ t c) := by
  subst heq
  rw [View.readAt_apply]
  refine congrArg _ (funext fun a => Fin.ext ?_)
  match a with
  | 0 => show h₀.val + 1 * 0 = h₀.val; omega
  | 1 => show r₀ + 1 * r.val = t.val; omega
  | 2 => show 0 + 1 * c.val = c.val; omega

/-- A store of rows of one head replaces those rows. -/
theorem box_writes {κ : Kind} {sp : Space} (v : View sig κ sp Sc .f32) (f : v.ty.Contents (Elt Ideal)) {r₀ R : ℕ} (hR : r₀ + R = 1024) (h₀ : Fin 2)
    {off : Fin 3 → ℕ} (inb : ∀ a, off a + (![1, R, 128] : Fin 3 → ℕ) a ≤ Sc.size a) (heq : off = ![h₀.val, r₀, 0])
    (w : (Rect.unit (s := Sc) off ![1, R, 128] inb).shape.Idx → Elt Ideal .f32) (L : List (View.Piece (Elt Ideal) Sc .f32)) :
    Box hR h₀ (v.read (Elt Ideal) (v.writes (Elt Ideal) f L)) w
      (v.read (Elt Ideal) (v.writes (Elt Ideal) f ((⟨Rect.unit (s := Sc) off ![1, R, 128] inb, w⟩ : View.Piece (Elt Ideal) Sc .f32) :: L))) := by
  constructor
  · intro r c
    refine View.read_writes_cons_unit_of_mem v f inb w L _ (ix3 (0 : Fin 1) r c) heq fun a => ?_
    match a with
    | 0 => show h₀.val = h₀.val + 0; omega
    | 1 => show r₀ + r.val = r₀ + r.val; rfl
    | 2 => show c.val = 0 + c.val; omega
  · intro h r c hh
    by_cases e : h = h₀
    · have hr : r.val < r₀ := hh.resolve_left (fun n => n e)
      exact View.read_writes_cons_unit_of_not_mem v f inb w L _ heq 1 (Or.inl hr)
    · have : h.val ≠ h₀.val := fun x => e (Fin.ext x)
      refine View.read_writes_cons_unit_of_not_mem v f inb w L _ heq 0 ?_
      show h.val < h₀.val ∨ h₀.val + 1 ≤ h.val
      omega

end Cert.FlashIdeal.Hand
-- ==== Proof.FlashTrips.lean ====
/- The two loops over the blocks of 1024 keys that precede a tile of 1024 rows: a trip takes the state from its first `K`
   keys to `K + 1024` (one block) or to `K + 2048` (two blocks), and so all trips together to the tile's first row. -/
module

public import proofs.«01_k».proof.Proof.Gen.FlashIdeal.Frame
public import proofs.«01_k».proof.Proof.FlashState

@[expose] public section

set_option maxRecDepth 5000

noncomputable section

namespace Cert.FlashIdeal.Hand

open Cert.FlashIdeal Cert.FlashIdeal.Gen Idealize.ShloMosaic Idealize.ShloMosaic.TcCoe
open Cert.OnlineSoftmax

/-! ### Scores and values of a tile -/

/-- The score of row `r` of head `h`, the row at position `q₀ + r`, against key `j`; `⊥` for the keys after the row. -/
def score (x₀ : (⟨3, ![2, 1024, 256]⟩ : Shape).Idx → EReal) (x₁ : (⟨3, ![2, 8192, 256]⟩ : Shape).Idx → EReal) (q₀ : ℕ) (h : Fin 2) (r : Fin 1024) (j : ℕ) : EReal :=
  if c : j ≤ q₀ + r.val ∧ j < 8192 then ∑ d : Fin 256, x₀ (ix3 h r d) * x₁ (ix3 h (⟨j, c.2⟩ : Fin 8192) d) else ⊥

/-- The values at key `j` of head `h`. -/
def value (x₂ : (⟨3, ![2, 8192, 128]⟩ : Shape).Idx → EReal) (h : Fin 2) (j : ℕ) (d : Fin 128) : EReal :=
  if c : j < 8192 then x₂ (ix3 h (⟨j, c⟩ : Fin 8192) d) else 0

theorem value_eq (x₂ : (⟨3, ![2, 8192, 128]⟩ : Shape).Idx → EReal) {n K : ℕ} (h : Fin 2) (hK : K + n ≤ 8192)
    (v : (⟨3, ![1, n, 128]⟩ : Shape).Idx → EReal) (hv : ∀ (j : Fin n) d, v (ix3 (0 : Fin 1) j d) = x₂ (ix3 h (⟨K + j.val, by omega⟩ : Fin 8192) d))
    (j : Fin n) (d : Fin 128) : v (ix3 (0 : Fin 1) j d) = value x₂ h (K + j.val) d := by
  rw [hv, value, dif_pos (show K + j.val < 8192 by omega)]

theorem dots_eq (x₀ : (⟨3, ![2, 1024, 256]⟩ : Shape).Idx → EReal) (x₁ : (⟨3, ![2, 8192, 256]⟩ : Shape).Idx → EReal) {n K q₀ r₀ R : ℕ} (hR : r₀ + R = 1024)
    (h : Fin 2) (hK : K + n ≤ 8192)
    (q : (⟨3, ![1, R, 256]⟩ : Shape).Idx → EReal) (hq : ∀ r d, q (ix3 (0 : Fin 1) r d) = x₀ (ix3 h (lowRow hR r) d))
    (k : (⟨3, ![1, n, 256]⟩ : Shape).Idx → EReal) (hk : ∀ (j : Fin n) d, k (ix3 (0 : Fin 1) j d) = x₁ (ix3 h (⟨K + j.val, by omega⟩ : Fin 8192) d))
    (r : Fin R) (j : Fin n) (hj : K + j.val ≤ q₀ + (r₀ + r.val)) : dots q k r j = score x₀ x₁ q₀ h (lowRow hR r) (K + j.val) := by
  rw [score, dif_pos ⟨hj, show K + j.val < 8192 by omega⟩]
  exact Finset.sum_congr rfl fun d _ => by rw [hq, hk]

theorem maskedDots_eq (x₀ : (⟨3, ![2, 1024, 256]⟩ : Shape).Idx → EReal) (x₁ : (⟨3, ![2, 8192, 256]⟩ : Shape).Idx → EReal) {n q₀ r₀ R : ℕ} (hR : r₀ + R = 1024)
    (h : Fin 2) (hK : q₀ + r₀ + n ≤ 8192)
    (q : (⟨3, ![1, R, 256]⟩ : Shape).Idx → EReal) (hq : ∀ r d, q (ix3 (0 : Fin 1) r d) = x₀ (ix3 h (lowRow hR r) d))
    (k : (⟨3, ![1, n, 256]⟩ : Shape).Idx → EReal) (hk : ∀ (j : Fin n) d, k (ix3 (0 : Fin 1) j d) = x₁ (ix3 h (⟨q₀ + r₀ + j.val, by omega⟩ : Fin 8192) d))
    (r : Fin R) (j : Fin n) : maskedDots q k r j = score x₀ x₁ q₀ h (lowRow hR r) (q₀ + r₀ + j.val) := by
  unfold maskedDots
  by_cases c : j.val ≤ r.val
  · rw [if_pos c]
    exact dots_eq x₀ x₁ hR h hK q hq k hk r j (by omega)
  · rw [if_neg c, score, dif_neg]
    rintro ⟨e, -⟩
    have : (lowRow hR r).val = r₀ + r.val := rfl
    omega

/-! ### Trip counts and key offsets -/

theorem t1_trips : ∀ i : grid0.Coords, (k0_t1_loop i).trips = (i 1).val / 2 := by decide +kernel
theorem t2_trips : ∀ i : grid0.Coords, (k0_t2_loop i).trips = 0 := by decide +kernel
theorem t3_trips : ∀ i : grid0.Coords, (k0_t3_loop i).trips = (i 1).val % 2 := by decide +kernel
theorem t4_trips : ∀ i : grid0.Coords, (k0_t4_loop i).trips = 0 := by decide +kernel

theorem off1_eq : ∀ (i : grid0.Coords) (k : Fin (k0_t1_loop i).trips), k0_off1 i k = ![0, 2048 * k.val, 0] := by decide +kernel
theorem off2_eq : ∀ (i : grid0.Coords) (k : Fin (k0_t1_loop i).trips), k0_off2 i k = ![0, 2048 * k.val, 0] := by decide +kernel
theorem off3_eq : ∀ (i : grid0.Coords) (k : Fin (k0_t1_loop i).trips), k0_off3 i k = ![1, 2048 * k.val, 0] := by decide +kernel
theorem off4_eq : ∀ (i : grid0.Coords) (k : Fin (k0_t1_loop i).trips), k0_off4 i k = ![1, 2048 * k.val, 0] := by decide +kernel
theorem off5_eq : ∀ (i : grid0.Coords) (k : Fin (k0_t1_loop i).trips), k0_off5 i k = ![0, 2048 * k.val + 1024, 0] := by decide +kernel
theorem off6_eq : ∀ (i : grid0.Coords) (k : Fin (k0_t1_loop i).trips), k0_off6 i k = ![0, 2048 * k.val + 1024, 0] := by decide +kernel
theorem off7_eq : ∀ (i : grid0.Coords) (k : Fin (k0_t1_loop i).trips), k0_off7 i k = ![1, 2048 * k.val + 1024, 0] := by decide +kernel
theorem off8_eq : ∀ (i : grid0.Coords) (k : Fin (k0_t1_loop i).trips), k0_off8 i k = ![1, 2048 * k.val + 1024, 0] := by decide +kernel
theorem off17_eq : ∀ (i : grid0.Coords) (k : Fin (k0_t3_loop i).trips), k0_off17 i k = ![0, 2048 * ((i 1).val / 2) + 1024 * k.val, 0] := by decide +kernel
theorem off18_eq : ∀ (i : grid0.Coords) (k : Fin (k0_t3_loop i).trips), k0_off18 i k = ![0, 2048 * ((i 1).val / 2) + 1024 * k.val, 0] := by decide +kernel
theorem off19_eq : ∀ (i : grid0.Coords) (k : Fin (k0_t3_loop i).trips), k0_off19 i k = ![1, 2048 * ((i 1).val / 2) + 1024 * k.val, 0] := by decide +kernel
theorem off20_eq : ∀ (i : grid0.Coords) (k : Fin (k0_t3_loop i).trips), k0_off20 i k = ![1, 2048 * ((i 1).val / 2) + 1024 * k.val, 0] := by decide +kernel

/-! ### A trip -/

/-- The rows of one head, after a store to the other. -/
theorem read_other (v : View sig .tc .vmem Sc .f32) (b : v.ty.Contents (Elt Ideal)) (L : List (View.Piece (Elt Ideal) Sc .f32)) (h₀ h : Fin 2) (hne : h ≠ h₀)
    {off : Fin 3 → ℕ} (inb : ∀ a, off a + (![1, 1024, 128] : Fin 3 → ℕ) a ≤ Sc.size a) (hoff : off = ![h₀.val, 0, 0]) (w) (r : Fin 1024) (c : Fin 128) :
    v.read (Elt Ideal) (v.writes (Elt Ideal) b ((⟨Rect.unit (s := Sc) off ![1, 1024, 128] inb, w⟩ : View.Piece (Elt Ideal) Sc .f32) :: L)) (ix3 h r c)
      = v.read (Elt Ideal) (v.writes (Elt Ideal) b L) (ix3 h r c) :=
  (box_writes v b (show 0 + 1024 = 1024 from rfl) h₀ inb hoff w L).out h r c (Or.inl hne)

/-- The newest stores to the two heads decide what is read, whatever was there before. -/
theorem read_both (v : View sig .tc .vmem Sc .f32) (b b' : v.ty.Contents (Elt Ideal)) (L L' : List (View.Piece (Elt Ideal) Sc .f32))
    {off off' : Fin 3 → ℕ} (inb : ∀ a, off a + (![1, 1024, 128] : Fin 3 → ℕ) a ≤ Sc.size a) (hoff : off = ![1, 0, 0])
    (inb' : ∀ a, off' a + (![1, 1024, 128] : Fin 3 → ℕ) a ≤ Sc.size a) (hoff' : off' = ![0, 0, 0]) (w w') (h : Fin 2) (r : Fin 1024) (c : Fin 128) :
    v.read (Elt Ideal) (v.writes (Elt Ideal) b ((⟨Rect.unit (s := Sc) off ![1, 1024, 128] inb, w⟩ : View.Piece (Elt Ideal) Sc .f32) ::
        (⟨Rect.unit (s := Sc) off' ![1, 1024, 128] inb', w'⟩ : View.Piece (Elt Ideal) Sc .f32) :: L)) (ix3 h r c)
      = v.read (Elt Ideal) (v.writes (Elt Ideal) b' ((⟨Rect.unit (s := Sc) off ![1, 1024, 128] inb, w⟩ : View.Piece (Elt Ideal) Sc .f32) ::
        (⟨Rect.unit (s := Sc) off' ![1, 1024, 128] inb', w'⟩ : View.Piece (Elt Ideal) Sc .f32) :: L')) (ix3 h r c) := by
  have e0 : r = lowRow (show 0 + 1024 = 1024 from rfl) r := (Fin.ext (Nat.zero_add _)).symm
  match h with
  | 0 =>
    rw [read_other v b _ 1 0 (by decide) inb hoff, read_other v b' _ 1 0 (by decide) inb hoff, e0]
    exact ((box_writes v b (show 0 + 1024 = 1024 from rfl) 0 inb' hoff' w' L).mem r c).trans ((box_writes v b' (show 0 + 1024 = 1024 from rfl) 0 inb' hoff' w' L').mem r c).symm
  | 1 =>
    rw [e0]
    exact ((box_writes v b (show 0 + 1024 = 1024 from rfl) 1 inb hoff w _).mem r c).trans ((box_writes v b' (show 0 + 1024 = 1024 from rfl) 1 inb hoff w _).mem r c).symm

section Trip
variable (𝒱 : Variants) (c : Dev nD) (bd : Option 𝒱.V) (i : grid0.Coords) (arg2 : Memref sig .tc .vmem S2x1024x256 .bf16) (harg2 : arg2.IsWhole) (arg3 : Memref sig .tc .vmem S2x8192x256 .bf16) (harg3 : arg3.IsWhole) (arg4 : Memref sig .tc .vmem S2x8192x128 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S2x1024x128 .f32) (harg7 : arg7.IsWhole) (arg8 : Memref sig .tc .vmem S2x1024x128 .f32) (harg8 : arg8.IsWhole) (arg9 : Memref sig .tc .vmem S2x1024x128 .f32) (harg9 : arg9.IsWhole)
variable (w₁ w₂ w₃ w₄ w₅ : BitVec 32) (X₂ : BufTy.Contents (Elt Ideal) arg2.view.ty) (X₃ : BufTy.Contents (Elt Ideal) arg3.view.ty) (X₄ : BufTy.Contents (Elt Ideal) arg4.view.ty)

/-- What the tile's windows hold, as scores. -/
abbrev tileScore : Fin 2 → Fin 1024 → ℕ → EReal := score (arg2.view.read (Elt Ideal) X₂) (arg3.view.read (Elt Ideal) X₃) (1024 * (i 1).val)

/-- What the tile's windows hold, as values. -/
abbrev tileValue : Fin 2 → ℕ → Fin 128 → EReal := value (arg4.view.read (Elt Ideal) X₄)

/-- Rows of a head, read from a window. -/
abbrev rows {κ : Kind} {sp : Space} {e : EltTy} {H T C : ℕ} (v : View sig κ sp (⟨3, ![H, T, C]⟩ : Shape) e) (R : ℕ) (off : Fin 3 → ℕ)
    (inb : ∀ a, off a + (![1, R, C] : Fin 3 → ℕ) a ≤ (⟨3, ![H, T, C]⟩ : Shape).size a) (f : v.ty.Contents (Elt Ideal)) :
    (⟨3, ![1, R, C]⟩ : Shape).Idx → Elt Ideal e :=
  v.readAt (Elt Ideal) (Rect.unit (s := ⟨3, ![H, T, C]⟩) off ![1, R, C] inb).toLoadRect f

variable (ht : ∀ h r j, tileScore i arg2 arg3 X₂ X₃ h r j ≠ ⊤) (hb : ∀ h r, tileScore i arg2 arg3 X₂ X₃ h r 0 ≠ ⊥)
include ht hb

/-- One block of 1024 keys, all before the tile's rows, taken in by one head. -/
theorem full_step {K : ℕ} (hK : K + 1024 ≤ 1024 * (i 1).val) (h₀ : Fin 2) {N : Fin 2 → Fin 1024 → ℕ} (hN : ∀ r, N h₀ r = K)
    {b₇ : arg7.view.ty.Contents (Elt Ideal)} {b₈ : arg8.view.ty.Contents (Elt Ideal)} {b₉ : arg9.view.ty.Contents (Elt Ideal)}
    {L₇ L₈ L₉ : List (View.Piece (Elt Ideal) Sc .f32)}
    (g : St (tileScore i arg2 arg3 X₂ X₃) (tileValue arg4 X₄) N (arg7.view.read (Elt Ideal) (arg7.view.writes (Elt Ideal) b₇ L₇))
      (arg8.view.read (Elt Ideal) (arg8.view.writes (Elt Ideal) b₈ L₈)) (arg9.view.read (Elt Ideal) (arg9.view.writes (Elt Ideal) b₉ L₉)))
    {off : Fin 3 → ℕ} (inb : ∀ a, off a + (![1, 1024, 128] : Fin 3 → ℕ) a ≤ Sc.size a) (hoff : off = ![h₀.val, 0, 0])
    {offq : Fin 3 → ℕ} (inbq : ∀ a, offq a + (![1, 1024, 256] : Fin 3 → ℕ) a ≤ (⟨3, ![2, 1024, 256]⟩ : Shape).size a) (hoffq : offq = ![h₀.val, 0, 0])
    {offk : Fin 3 → ℕ} (inbk : ∀ a, offk a + (![1, 1024, 256] : Fin 3 → ℕ) a ≤ (⟨3, ![2, 8192, 256]⟩ : Shape).size a) (hoffk : offk = ![h₀.val, K, 0])
    {offv : Fin 3 → ℕ} (inbv : ∀ a, offv a + (![1, 1024, 128] : Fin 3 → ℕ) a ≤ (⟨3, ![2, 8192, 128]⟩ : Shape).size a) (hoffv : offv = ![h₀.val, K, 0])
    (m l a w₇ w₈ w₉ : (⟨3, ![1, 1024, 128]⟩ : Shape).Idx → EReal)
    (hm : ∀ r c, m (ix3 (0 : Fin 1) r c) = arg7.view.read (Elt Ideal) (arg7.view.writes (Elt Ideal) b₇ L₇) (ix3 h₀ r c))
    (hl : ∀ r c, l (ix3 (0 : Fin 1) r c) = arg8.view.read (Elt Ideal) (arg8.view.writes (Elt Ideal) b₈ L₈) (ix3 h₀ r c))
    (ha : ∀ r c, a (ix3 (0 : Fin 1) r c) = arg9.view.read (Elt Ideal) (arg9.view.writes (Elt Ideal) b₉ L₉) (ix3 h₀ r c))
    (u : ∀ μ : Fin 1024 → EReal, (∀ r c, m (ix3 (0 : Fin 1) r c) = μ r) → ∀ r,
      Upd 8 (dots (rows arg2.view 1024 offq inbq X₂) (rows arg3.view 1024 offk inbk X₃) r : Fin (8 * 128) → EReal)
        (fun j d => rows arg4.view 1024 offv inbv X₄ (ix3 (0 : Fin 1) (j : Fin 1024) d)) (μ r)
        (fun c => l (ix3 (0 : Fin 1) r c)) (fun d => a (ix3 (0 : Fin 1) r d))
        (fun c => w₇ (ix3 (0 : Fin 1) r c)) (fun c => w₈ (ix3 (0 : Fin 1) r c)) (fun d => w₉ (ix3 (0 : Fin 1) r d))) :
    St (tileScore i arg2 arg3 X₂ X₃) (tileValue arg4 X₄) (fun h r => if h = h₀ then K + 1024 else N h r)
      (arg7.view.read (Elt Ideal) (arg7.view.writes (Elt Ideal) b₇ ((⟨Rect.unit (s := Sc) off ![1, 1024, 128] inb, w₇⟩ : View.Piece (Elt Ideal) Sc .f32) :: L₇)))
      (arg8.view.read (Elt Ideal) (arg8.view.writes (Elt Ideal) b₈ ((⟨Rect.unit (s := Sc) off ![1, 1024, 128] inb, w₈⟩ : View.Piece (Elt Ideal) Sc .f32) :: L₈)))
      (arg9.view.read (Elt Ideal) (arg9.view.writes (Elt Ideal) b₉ ((⟨Rect.unit (s := Sc) off ![1, 1024, 128] inb, w₉⟩ : View.Piece (Elt Ideal) Sc .f32) :: L₉))) := by
  have hi : (i 1).val < 8 := (i 1).isLt
  have e0 : ∀ r : Fin 1024, lowRow (show 0 + 1024 = 1024 from rfl) r = r := fun r => Fin.ext (Nat.zero_add _)
  refine (g.step ht hb (show 0 + 1024 = 1024 from rfl) h₀ 8 K (by decide) (fun r => hN _) m l a w₇ w₈ w₉
    (fun r c => by rw [e0]; exact hm r c) (fun r c => by rw [e0]; exact hl r c) (fun r c => by rw [e0]; exact ha r c) _ _
    (fun r j => dots_eq _ _ (show 0 + 1024 = 1024 from rfl) h₀ (by omega) _
      (fun r d => readAt_rows arg2.view inbq X₂ h₀ 0 hoffq r _ rfl d) _
      (fun j d => readAt_rows arg3.view inbk X₃ h₀ K hoffk j _ rfl d) r j (by have : j.val < 1024 := j.isLt; omega))
    (fun j d => value_eq _ h₀ (by omega) _ (fun j d => readAt_rows arg4.view inbv X₄ h₀ K hoffv j _ rfl d) j d) u
    (box_writes arg7.view b₇ _ h₀ inb hoff w₇ L₇) (box_writes arg8.view b₈ _ h₀ inb hoff w₈ L₈) (box_writes arg9.view b₉ _ h₀ inb hoff w₉ L₉)).congr
    fun h r => ?_
  by_cases e : h = h₀
  · rw [if_pos e, if_pos ⟨e, Nat.zero_le _⟩]
  · rw [if_neg e, if_neg (fun x => e x.1)]

/-- The same step, where what it reads was stored before over other contents `b'`, in so far as the head's rows are the same. -/
theorem full_step_over {K : ℕ} (hK : K + 1024 ≤ 1024 * (i 1).val) (h₀ : Fin 2) {N : Fin 2 → Fin 1024 → ℕ} (hN : ∀ r, N h₀ r = K)
    {b₇ : arg7.view.ty.Contents (Elt Ideal)} {b₈ : arg8.view.ty.Contents (Elt Ideal)} {b₉ : arg9.view.ty.Contents (Elt Ideal)}
    {L₇ L₈ L₉ : List (View.Piece (Elt Ideal) Sc .f32)}
    (g : St (tileScore i arg2 arg3 X₂ X₃) (tileValue arg4 X₄) N (arg7.view.read (Elt Ideal) (arg7.view.writes (Elt Ideal) b₇ L₇))
      (arg8.view.read (Elt Ideal) (arg8.view.writes (Elt Ideal) b₈ L₈)) (arg9.view.read (Elt Ideal) (arg9.view.writes (Elt Ideal) b₉ L₉)))
    {off : Fin 3 → ℕ} (inb : ∀ a, off a + (![1, 1024, 128] : Fin 3 → ℕ) a ≤ Sc.size a) (hoff : off = ![h₀.val, 0, 0])
    {offq : Fin 3 → ℕ} (inbq : ∀ a, offq a + (![1, 1024, 256] : Fin 3 → ℕ) a ≤ (⟨3, ![2, 1024, 256]⟩ : Shape).size a) (hoffq : offq = ![h₀.val, 0, 0])
    {offk : Fin 3 → ℕ} (inbk : ∀ a, offk a + (![1, 1024, 256] : Fin 3 → ℕ) a ≤ (⟨3, ![2, 8192, 256]⟩ : Shape).size a) (hoffk : offk = ![h₀.val, K, 0])
    {offv : Fin 3 → ℕ} (inbv : ∀ a, offv a + (![1, 1024, 128] : Fin 3 → ℕ) a ≤ (⟨3, ![2, 8192, 128]⟩ : Shape).size a) (hoffv : offv = ![h₀.val, K, 0])
    (w₇ w₈ w₉ : (⟨3, ![1, 1024, 128]⟩ : Shape).Idx → EReal)
    (hm : ∀ r c, arg7.view.read (Elt Ideal) (arg7.view.writes (Elt Ideal) arg7.view.junk L₇) (ix3 h₀ r c) = arg7.view.read (Elt Ideal) (arg7.view.writes (Elt Ideal) b₇ L₇) (ix3 h₀ r c))
    (hl : ∀ r c, arg8.view.read (Elt Ideal) (arg8.view.writes (Elt Ideal) arg8.view.junk L₈) (ix3 h₀ r c) = arg8.view.read (Elt Ideal) (arg8.view.writes (Elt Ideal) b₈ L₈) (ix3 h₀ r c))
    (ha : ∀ r c, arg9.view.read (Elt Ideal) (arg9.view.writes (Elt Ideal) arg9.view.junk L₉) (ix3 h₀ r c) = arg9.view.read (Elt Ideal) (arg9.view.writes (Elt Ideal) b₉ L₉) (ix3 h₀ r c))
    (u : ∀ μ : Fin 1024 → EReal, (∀ r c, rows arg7.view 1024 off inb (arg7.view.writes (Elt Ideal) arg7.view.junk L₇) (ix3 (0 : Fin 1) r c) = μ r) → ∀ r,
      Upd 8 (dots (rows arg2.view 1024 offq inbq X₂) (rows arg3.view 1024 offk inbk X₃) r : Fin (8 * 128) → EReal)
        (fun j d => rows arg4.view 1024 offv inbv X₄ (ix3 (0 : Fin 1) (j : Fin 1024) d)) (μ r)
        (fun c => rows arg8.view 1024 off inb (arg8.view.writes (Elt Ideal) arg8.view.junk L₈) (ix3 (0 : Fin 1) r c))
        (fun d => rows arg9.view 1024 off inb (arg9.view.writes (Elt Ideal) arg9.view.junk L₉) (ix3 (0 : Fin 1) r d))
        (fun c => w₇ (ix3 (0 : Fin 1) r c)) (fun c => w₈ (ix3 (0 : Fin 1) r c)) (fun d => w₉ (ix3 (0 : Fin 1) r d))) :
    St (tileScore i arg2 arg3 X₂ X₃) (tileValue arg4 X₄) (fun h r => if h = h₀ then K + 1024 else N h r)
      (arg7.view.read (Elt Ideal) (arg7.view.writes (Elt Ideal) b₇ ((⟨Rect.unit (s := Sc) off ![1, 1024, 128] inb, w₇⟩ : View.Piece (Elt Ideal) Sc .f32) :: L₇)))
      (arg8.view.read (Elt Ideal) (arg8.view.writes (Elt Ideal) b₈ ((⟨Rect.unit (s := Sc) off ![1, 1024, 128] inb, w₈⟩ : View.Piece (Elt Ideal) Sc .f32) :: L₈)))
      (arg9.view.read (Elt Ideal) (arg9.view.writes (Elt Ideal) b₉ ((⟨Rect.unit (s := Sc) off ![1, 1024, 128] inb, w₉⟩ : View.Piece (Elt Ideal) Sc .f32) :: L₉))) :=
  full_step i arg2 arg3 arg4 arg7 arg8 arg9 X₂ X₃ X₄ ht hb hK h₀ hN g inb hoff inbq hoffq inbk hoffk inbv hoffv _ _ _ w₇ w₈ w₉
    (fun r c => (readAt_rows arg7.view inb _ h₀ 0 hoff r r (Nat.zero_add _).symm c).trans (hm r c))
    (fun r c => (readAt_rows arg8.view inb _ h₀ 0 hoff r r (Nat.zero_add _).symm c).trans (hl r c))
    (fun r c => (readAt_rows arg9.view inb _ h₀ 0 hoff r r (Nat.zero_add _).symm c).trans (ha r c)) u

theorem t3_step (w₆ : BitVec 32) (k : Fin (k0_t3_loop i).trips) (K : ℕ) (hK : K = 2048 * ((i 1).val / 2) + 1024 * k.val)
    (f₇ : arg7.view.ty.Contents (Elt Ideal)) (f₈ : arg8.view.ty.Contents (Elt Ideal)) (f₉ : arg9.view.ty.Contents (Elt Ideal))
    (g : St (tileScore i arg2 arg3 X₂ X₃) (tileValue arg4 X₄) (fun _ _ => K) (arg7.view.read (Elt Ideal) f₇) (arg8.view.read (Elt Ideal) f₈) (arg9.view.read (Elt Ideal) f₉)) :
    St (tileScore i arg2 arg3 X₂ X₃) (tileValue arg4 X₄) (fun _ _ => K + 1024)
      (arg7.view.read (Elt Ideal) (arg7.view.writes (Elt Ideal) f₇ (tripL_k0_t3 (F := Ideal) 𝒱 c bd i arg2 harg2 arg3 harg3 arg4 harg4 arg5 harg5 arg6 harg6 arg7 harg7 arg8 harg8 arg9 harg9 w₁ w₂ w₃ w₄ w₅ w₆ X₂ X₃ X₄ k f₇ f₈ f₉).1))
      (arg8.view.read (Elt Ideal) (arg8.view.writes (Elt Ideal) f₈ (tripL_k0_t3 (F := Ideal) 𝒱 c bd i arg2 harg2 arg3 harg3 arg4 harg4 arg5 harg5 arg6 harg6 arg7 harg7 arg8 harg8 arg9 harg9 w₁ w₂ w₃ w₄ w₅ w₆ X₂ X₃ X₄ k f₇ f₈ f₉).2.1))
      (arg9.view.read (Elt Ideal) (arg9.view.writes (Elt Ideal) f₉ (tripL_k0_t3 (F := Ideal) 𝒱 c bd i arg2 harg2 arg3 harg3 arg4 harg4 arg5 harg5 arg6 harg6 arg7 harg7 arg8 harg8 arg9 harg9 w₁ w₂ w₃ w₄ w₅ w₆ X₂ X₃ X₄ k f₇ f₈ f₉).2.2)) := by
  have hk : k.val < (i 1).val % 2 := lt_of_lt_of_eq k.isLt (t3_trips i)
  have hK' : K + 1024 ≤ 1024 * (i 1).val := by omega
  have g₁ := full_step i arg2 arg3 arg4 arg7 arg8 arg9 X₂ X₃ X₄ ht hb hK' 0 (fun _ => rfl) (L₇ := []) (L₈ := []) (L₉ := []) g
    (off := ![0, 0, 0]) (by decide) rfl (offq := ![0, 0, 0]) (by decide) rfl (k0_off17_inb i k) (hK ▸ off17_eq i k) (k0_off18_inb i k) (hK ▸ off18_eq i k)
    (rows arg7.view 1024 ![0, 0, 0] (by decide) f₇) (rows arg8.view 1024 ![0, 0, 0] (by decide) f₈) (rows arg9.view 1024 ![0, 0, 0] (by decide) f₉) _ _ _
    (fun r c => readAt_rows arg7.view _ f₇ 0 0 rfl r r (Nat.zero_add _).symm c) (fun r c => readAt_rows arg8.view _ f₈ 0 0 rfl r r (Nat.zero_add _).symm c)
    (fun r c => readAt_rows arg9.view _ f₉ 0 0 rfl r r (Nat.zero_add _).symm c) (full_upd _ _ _ _ _ _)
  have g₂ := full_step i arg2 arg3 arg4 arg7 arg8 arg9 X₂ X₃ X₄ ht hb hK' 1 (fun _ => rfl) g₁
    (off := ![1, 0, 0]) (by decide) rfl (offq := ![1, 0, 0]) (by decide) rfl (k0_off19_inb i k) (hK ▸ off19_eq i k) (k0_off20_inb i k) (hK ▸ off20_eq i k)
    (rows arg7.view 1024 ![1, 0, 0] (by decide) f₇) (rows arg8.view 1024 ![1, 0, 0] (by decide) f₈) (rows arg9.view 1024 ![1, 0, 0] (by decide) f₉) _ _ _
    (fun r c => (readAt_rows arg7.view _ f₇ 1 0 rfl r r (Nat.zero_add _).symm c).trans (read_other arg7.view f₇ [] 0 1 (by decide) _ rfl _ r c).symm)
    (fun r c => (readAt_rows arg8.view _ f₈ 1 0 rfl r r (Nat.zero_add _).symm c).trans (read_other arg8.view f₈ [] 0 1 (by decide) _ rfl _ r c).symm)
    (fun r c => (readAt_rows arg9.view _ f₉ 1 0 rfl r r (Nat.zero_add _).symm c).trans (read_other arg9.view f₉ [] 0 1 (by decide) _ rfl _ r c).symm)
    (single1_upd _ _ _ _ _ _)
  unfold tripL_k0_t3
  unfold trip_k0_t3
  dsimp only
  refine St.congr g₂ fun h r => ?_
  match h with
  | 0 => rfl
  | 1 => rfl

theorem t1_step (k : Fin (k0_t1_loop i).trips) (K : ℕ) (hK : K = 2048 * k.val)
    (f₇ : arg7.view.ty.Contents (Elt Ideal)) (f₈ : arg8.view.ty.Contents (Elt Ideal)) (f₉ : arg9.view.ty.Contents (Elt Ideal))
    (g : St (tileScore i arg2 arg3 X₂ X₃) (tileValue arg4 X₄) (fun _ _ => K) (arg7.view.read (Elt Ideal) f₇) (arg8.view.read (Elt Ideal) f₈) (arg9.view.read (Elt Ideal) f₉)) :
    St (tileScore i arg2 arg3 X₂ X₃) (tileValue arg4 X₄) (fun _ _ => K + 2048)
      (arg7.view.read (Elt Ideal) (arg7.view.writes (Elt Ideal) f₇ (tripL_k0_t1 (F := Ideal) 𝒱 c bd i arg2 harg2 arg3 harg3 arg4 harg4 arg5 harg5 arg6 harg6 arg7 harg7 arg8 harg8 arg9 harg9 w₁ w₂ w₃ w₄ w₅ X₂ X₃ X₄ k f₇ f₈ f₉).1))
      (arg8.view.read (Elt Ideal) (arg8.view.writes (Elt Ideal) f₈ (tripL_k0_t1 (F := Ideal) 𝒱 c bd i arg2 harg2 arg3 harg3 arg4 harg4 arg5 harg5 arg6 harg6 arg7 harg7 arg8 harg8 arg9 harg9 w₁ w₂ w₃ w₄ w₅ X₂ X₃ X₄ k f₇ f₈ f₉).2.1))
      (arg9.view.read (Elt Ideal) (arg9.view.writes (Elt Ideal) f₉ (tripL_k0_t1 (F := Ideal) 𝒱 c bd i arg2 harg2 arg3 harg3 arg4 harg4 arg5 harg5 arg6 harg6 arg7 harg7 arg8 harg8 arg9 harg9 w₁ w₂ w₃ w₄ w₅ X₂ X₃ X₄ k f₇ f₈ f₉).2.2)) := by
  have hk : k.val < (i 1).val / 2 := lt_of_lt_of_eq k.isLt (t1_trips i)
  have hK' : K + 1024 ≤ 1024 * (i 1).val := by omega
  have hK2 : K + 1024 + 1024 ≤ 1024 * (i 1).val := by omega
  have hKB : K + 1024 = 2048 * k.val + 1024 := by omega
  have g₁ := full_step i arg2 arg3 arg4 arg7 arg8 arg9 X₂ X₃ X₄ ht hb hK' 0 (fun _ => rfl) (L₇ := []) (L₈ := []) (L₉ := []) g
    (off := ![0, 0, 0]) (by decide) rfl (offq := ![0, 0, 0]) (by decide) rfl (k0_off1_inb i k) (hK ▸ off1_eq i k) (k0_off2_inb i k) (hK ▸ off2_eq i k)
    (rows arg7.view 1024 ![0, 0, 0] (by decide) f₇) (rows arg8.view 1024 ![0, 0, 0] (by decide) f₈) (rows arg9.view 1024 ![0, 0, 0] (by decide) f₉) _ _ _
    (fun r c => readAt_rows arg7.view _ f₇ 0 0 rfl r r (Nat.zero_add _).symm c) (fun r c => readAt_rows arg8.view _ f₈ 0 0 rfl r r (Nat.zero_add _).symm c)
    (fun r c => readAt_rows arg9.view _ f₉ 0 0 rfl r r (Nat.zero_add _).symm c) (pairA0_upd _ _ _ _ _ _)
  have g₂ := full_step i arg2 arg3 arg4 arg7 arg8 arg9 X₂ X₃ X₄ ht hb hK' 1 (fun _ => rfl) g₁
    (off := ![1, 0, 0]) (by decide) rfl (offq := ![1, 0, 0]) (by decide) rfl (k0_off3_inb i k) (hK ▸ off3_eq i k) (k0_off4_inb i k) (hK ▸ off4_eq i k)
    (rows arg7.view 1024 ![1, 0, 0] (by decide) f₇) (rows arg8.view 1024 ![1, 0, 0] (by decide) f₈) (rows arg9.view 1024 ![1, 0, 0] (by decide) f₉) _ _ _
    (fun r c => (readAt_rows arg7.view _ f₇ 1 0 rfl r r (Nat.zero_add _).symm c).trans (read_other arg7.view f₇ [] 0 1 (by decide) _ rfl _ r c).symm)
    (fun r c => (readAt_rows arg8.view _ f₈ 1 0 rfl r r (Nat.zero_add _).symm c).trans (read_other arg8.view f₈ [] 0 1 (by decide) _ rfl _ r c).symm)
    (fun r c => (readAt_rows arg9.view _ f₉ 1 0 rfl r r (Nat.zero_add _).symm c).trans (read_other arg9.view f₉ [] 0 1 (by decide) _ rfl _ r c).symm)
    (pairA1_upd _ _ _ _ _ _)
  have g₃ := full_step_over i arg2 arg3 arg4 arg7 arg8 arg9 X₂ X₃ X₄ ht hb hK2 0 (fun _ => rfl) g₂
    (off := ![0, 0, 0]) (by decide) rfl (offq := ![0, 0, 0]) (by decide) rfl (k0_off5_inb i k) (hKB ▸ off5_eq i k) (k0_off6_inb i k) (hKB ▸ off6_eq i k) _ _ _
    (fun r c => read_both arg7.view _ _ [] [] _ rfl _ rfl _ _ 0 r c) (fun r c => read_both arg8.view _ _ [] [] _ rfl _ rfl _ _ 0 r c)
    (fun r c => read_both arg9.view _ _ [] [] _ rfl _ rfl _ _ 0 r c) (pairB0_upd _ _ _ _ _ _)
  have g₄ := full_step_over i arg2 arg3 arg4 arg7 arg8 arg9 X₂ X₃ X₄ ht hb hK2 1 (fun _ => rfl) g₃
    (off := ![1, 0, 0]) (by decide) rfl (offq := ![1, 0, 0]) (by decide) rfl (k0_off7_inb i k) (hKB ▸ off7_eq i k) (k0_off8_inb i k) (hKB ▸ off8_eq i k) _ _ _
    (fun r c => (read_other arg7.view _ _ 0 1 (by decide) _ rfl _ r c).trans ((read_both arg7.view _ _ [] [] _ rfl _ rfl _ _ 1 r c).trans (read_other arg7.view _ _ 0 1 (by decide) _ rfl _ r c).symm))
    (fun r c => (read_other arg8.view _ _ 0 1 (by decide) _ rfl _ r c).trans ((read_both arg8.view _ _ [] [] _ rfl _ rfl _ _ 1 r c).trans (read_other arg8.view _ _ 0 1 (by decide) _ rfl _ r c).symm))
    (fun r c => (read_other arg9.view _ _ 0 1 (by decide) _ rfl _ r c).trans ((read_both arg9.view _ _ [] [] _ rfl _ rfl _ _ 1 r c).trans (read_other arg9.view _ _ 0 1 (by decide) _ rfl _ r c).symm))
    (pairB1_upd _ _ _ _ _ _)
  unfold tripL_k0_t1
  unfold trip_k0_t1
  dsimp only
  refine St.congr g₄ fun h r => ?_
  match h with
  | 0 => rfl
  | 1 => rfl

/-! ### All trips -/

theorem t1_loop {b₇ : arg7.view.ty.Contents (Elt Ideal)} {b₈ : arg8.view.ty.Contents (Elt Ideal)} {b₉ : arg9.view.ty.Contents (Elt Ideal)}
    {L₇ L₈ L₉ : List (View.Piece (Elt Ideal) Sc .f32)}
    (g : St (tileScore i arg2 arg3 X₂ X₃) (tileValue arg4 X₄) (fun _ _ => 0) (arg7.view.read (Elt Ideal) (arg7.view.writes (Elt Ideal) b₇ L₇)) (arg8.view.read (Elt Ideal) (arg8.view.writes (Elt Ideal) b₈ L₈)) (arg9.view.read (Elt Ideal) (arg9.view.writes (Elt Ideal) b₉ L₉))) (n : ℕ) (hn : n ≤ (k0_t1_loop i).trips) :
    St (tileScore i arg2 arg3 X₂ X₃) (tileValue arg4 X₄) (fun _ _ => 2048 * n)
      (arg7.view.read (Elt Ideal) (arg7.view.writes (Elt Ideal) b₇ ((pb_k0_t1 (F := Ideal) 𝒱 c bd i arg2 harg2 arg3 harg3 arg4 harg4 arg5 harg5 arg6 harg6 arg7 harg7 arg8 harg8 arg9 harg9 w₁ w₂ w₃ w₄ w₅ X₂ X₃ X₄ (arg7.view.writes (Elt Ideal) b₇ L₇) (arg8.view.writes (Elt Ideal) b₈ L₈) (arg9.view.writes (Elt Ideal) b₉ L₉) n).1 ++ L₇)))
      (arg8.view.read (Elt Ideal) (arg8.view.writes (Elt Ideal) b₈ ((pb_k0_t1 (F := Ideal) 𝒱 c bd i arg2 harg2 arg3 harg3 arg4 harg4 arg5 harg5 arg6 harg6 arg7 harg7 arg8 harg8 arg9 harg9 w₁ w₂ w₃ w₄ w₅ X₂ X₃ X₄ (arg7.view.writes (Elt Ideal) b₇ L₇) (arg8.view.writes (Elt Ideal) b₈ L₈) (arg9.view.writes (Elt Ideal) b₉ L₉) n).2.1 ++ L₈)))
      (arg9.view.read (Elt Ideal) (arg9.view.writes (Elt Ideal) b₉ ((pb_k0_t1 (F := Ideal) 𝒱 c bd i arg2 harg2 arg3 harg3 arg4 harg4 arg5 harg5 arg6 harg6 arg7 harg7 arg8 harg8 arg9 harg9 w₁ w₂ w₃ w₄ w₅ X₂ X₃ X₄ (arg7.view.writes (Elt Ideal) b₇ L₇) (arg8.view.writes (Elt Ideal) b₈ L₈) (arg9.view.writes (Elt Ideal) b₉ L₉) n).2.2 ++ L₉))) := by
  induction n with
  | zero => exact g
  | succ n ih =>
    have s := ih (by omega)
    rw [View.writes_append, View.writes_append, View.writes_append] at s
    have s' := t1_step 𝒱 c bd i arg2 harg2 arg3 harg3 arg4 harg4 arg5 harg5 arg6 harg6 arg7 harg7 arg8 harg8 arg9 harg9 w₁ w₂ w₃ w₄ w₅ X₂ X₃ X₄ ht hb (⟨n, hn⟩ : Fin (k0_t1_loop i).trips) (2048 * n) rfl _ _ _ s
    rw [show n + 1 = (⟨n, hn⟩ : Fin (k0_t1_loop i).trips).val + 1 from rfl, pb_k0_t1_succ]
    dsimp only
    rw [List.append_assoc, List.append_assoc, List.append_assoc, View.writes_append, View.writes_append, View.writes_append,
      View.writes_append, View.writes_append, View.writes_append]
    exact s'.congr fun _ _ => by omega

theorem t3_loop (w₆ : BitVec 32) {b₇ : arg7.view.ty.Contents (Elt Ideal)} {b₈ : arg8.view.ty.Contents (Elt Ideal)} {b₉ : arg9.view.ty.Contents (Elt Ideal)}
    {L₇ L₈ L₉ : List (View.Piece (Elt Ideal) Sc .f32)}
    (g : St (tileScore i arg2 arg3 X₂ X₃) (tileValue arg4 X₄) (fun _ _ => 2048 * ((i 1).val / 2)) (arg7.view.read (Elt Ideal) (arg7.view.writes (Elt Ideal) b₇ L₇)) (arg8.view.read (Elt Ideal) (arg8.view.writes (Elt Ideal) b₈ L₈)) (arg9.view.read (Elt Ideal) (arg9.view.writes (Elt Ideal) b₉ L₉))) (n : ℕ) (hn : n ≤ (k0_t3_loop i).trips) :
    St (tileScore i arg2 arg3 X₂ X₃) (tileValue arg4 X₄) (fun _ _ => 2048 * ((i 1).val / 2) + 1024 * n)
      (arg7.view.read (Elt Ideal) (arg7.view.writes (Elt Ideal) b₇ ((pb_k0_t3 (F := Ideal) 𝒱 c bd i arg2 harg2 arg3 harg3 arg4 harg4 arg5 harg5 arg6 harg6 arg7 harg7 arg8 harg8 arg9 harg9 w₁ w₂ w₃ w₄ w₅ w₆ X₂ X₃ X₄ (arg7.view.writes (Elt Ideal) b₇ L₇) (arg8.view.writes (Elt Ideal) b₈ L₈) (arg9.view.writes (Elt Ideal) b₉ L₉) n).1 ++ L₇)))
      (arg8.view.read (Elt Ideal) (arg8.view.writes (Elt Ideal) b₈ ((pb_k0_t3 (F := Ideal) 𝒱 c bd i arg2 harg2 arg3 harg3 arg4 harg4 arg5 harg5 arg6 harg6 arg7 harg7 arg8 harg8 arg9 harg9 w₁ w₂ w₃ w₄ w₅ w₆ X₂ X₃ X₄ (arg7.view.writes (Elt Ideal) b₇ L₇) (arg8.view.writes (Elt Ideal) b₈ L₈) (arg9.view.writes (Elt Ideal) b₉ L₉) n).2.1 ++ L₈)))
      (arg9.view.read (Elt Ideal) (arg9.view.writes (Elt Ideal) b₉ ((pb_k0_t3 (F := Ideal) 𝒱 c bd i arg2 harg2 arg3 harg3 arg4 harg4 arg5 harg5 arg6 harg6 arg7 harg7 arg8 harg8 arg9 harg9 w₁ w₂ w₃ w₄ w₅ w₆ X₂ X₃ X₄ (arg7.view.writes (Elt Ideal) b₇ L₇) (arg8.view.writes (Elt Ideal) b₈ L₈) (arg9.view.writes (Elt Ideal) b₉ L₉) n).2.2 ++ L₉))) := by
  induction n with
  | zero => exact g
  | succ n ih =>
    have s := ih (by omega)
    rw [View.writes_append, View.writes_append, View.writes_append] at s
    have s' := t3_step 𝒱 c bd i arg2 harg2 arg3 harg3 arg4 harg4 arg5 harg5 arg6 harg6 arg7 harg7 arg8 harg8 arg9 harg9 w₁ w₂ w₃ w₄ w₅ X₂ X₃ X₄ ht hb w₆ (⟨n, hn⟩ : Fin (k0_t3_loop i).trips) (2048 * ((i 1).val / 2) + 1024 * n) rfl _ _ _ s
    rw [show n + 1 = (⟨n, hn⟩ : Fin (k0_t3_loop i).trips).val + 1 from rfl, pb_k0_t3_succ]
    dsimp only
    rw [List.append_assoc, List.append_assoc, List.append_assoc, View.writes_append, View.writes_append, View.writes_append,
      View.writes_append, View.writes_append, View.writes_append]
    exact s'.congr fun _ _ => by omega

omit ht hb in
theorem t2_loop (w₆ : BitVec 32) {b₇ : arg7.view.ty.Contents (Elt Ideal)} {b₈ : arg8.view.ty.Contents (Elt Ideal)} {b₉ : arg9.view.ty.Contents (Elt Ideal)}
    {L₇ L₈ L₉ : List (View.Piece (Elt Ideal) Sc .f32)}
    {N : Fin 2 → Fin 1024 → ℕ} (g : St (tileScore i arg2 arg3 X₂ X₃) (tileValue arg4 X₄) N (arg7.view.read (Elt Ideal) (arg7.view.writes (Elt Ideal) b₇ L₇)) (arg8.view.read (Elt Ideal) (arg8.view.writes (Elt Ideal) b₈ L₈)) (arg9.view.read (Elt Ideal) (arg9.view.writes (Elt Ideal) b₉ L₉))) (G₇ : arg7.view.ty.Contents (Elt Ideal)) (G₈ : arg8.view.ty.Contents (Elt Ideal)) (G₉ : arg9.view.ty.Contents (Elt Ideal)) :
    St (tileScore i arg2 arg3 X₂ X₃) (tileValue arg4 X₄) N
      (arg7.view.read (Elt Ideal) (arg7.view.writes (Elt Ideal) b₇ ((pb_k0_t2 (F := Ideal) 𝒱 c bd i arg2 harg2 arg3 harg3 arg4 harg4 arg5 harg5 arg6 harg6 arg7 harg7 arg8 harg8 arg9 harg9 w₁ w₂ w₃ w₄ w₅ w₆ X₂ X₃ X₄ G₇ G₈ G₉ (k0_t2_loop i).trips).1 ++ L₇)))
      (arg8.view.read (Elt Ideal) (arg8.view.writes (Elt Ideal) b₈ ((pb_k0_t2 (F := Ideal) 𝒱 c bd i arg2 harg2 arg3 harg3 arg4 harg4 arg5 harg5 arg6 harg6 arg7 harg7 arg8 harg8 arg9 harg9 w₁ w₂ w₃ w₄ w₅ w₆ X₂ X₃ X₄ G₇ G₈ G₉ (k0_t2_loop i).trips).2.1 ++ L₈)))
      (arg9.view.read (Elt Ideal) (arg9.view.writes (Elt Ideal) b₉ ((pb_k0_t2 (F := Ideal) 𝒱 c bd i arg2 harg2 arg3 harg3 arg4 harg4 arg5 harg5 arg6 harg6 arg7 harg7 arg8 harg8 arg9 harg9 w₁ w₂ w₃ w₄ w₅ w₆ X₂ X₃ X₄ G₇ G₈ G₉ (k0_t2_loop i).trips).2.2 ++ L₉))) := by
  rw [t2_trips i]
  exact g

omit ht hb in
theorem t4_loop (w₆ : BitVec 32) {b₇ : arg7.view.ty.Contents (Elt Ideal)} {b₈ : arg8.view.ty.Contents (Elt Ideal)} {b₉ : arg9.view.ty.Contents (Elt Ideal)}
    {L₇ L₈ L₉ : List (View.Piece (Elt Ideal) Sc .f32)}
    {N : Fin 2 → Fin 1024 → ℕ} (g : St (tileScore i arg2 arg3 X₂ X₃) (tileValue arg4 X₄) N (arg7.view.read (Elt Ideal) (arg7.view.writes (Elt Ideal) b₇ L₇)) (arg8.view.read (Elt Ideal) (arg8.view.writes (Elt Ideal) b₈ L₈)) (arg9.view.read (Elt Ideal) (arg9.view.writes (Elt Ideal) b₉ L₉))) (G₇ : arg7.view.ty.Contents (Elt Ideal)) (G₈ : arg8.view.ty.Contents (Elt Ideal)) (G₉ : arg9.view.ty.Contents (Elt Ideal)) :
    St (tileScore i arg2 arg3 X₂ X₃) (tileValue arg4 X₄) N
      (arg7.view.read (Elt Ideal) (arg7.view.writes (Elt Ideal) b₇ ((pb_k0_t4 (F := Ideal) 𝒱 c bd i arg2 harg2 arg3 harg3 arg4 harg4 arg5 harg5 arg6 harg6 arg7 harg7 arg8 harg8 arg9 harg9 w₁ w₂ w₃ w₄ w₅ w₆ X₂ X₃ X₄ G₇ G₈ G₉ (k0_t4_loop i).trips).1 ++ L₇)))
      (arg8.view.read (Elt Ideal) (arg8.view.writes (Elt Ideal) b₈ ((pb_k0_t4 (F := Ideal) 𝒱 c bd i arg2 harg2 arg3 harg3 arg4 harg4 arg5 harg5 arg6 harg6 arg7 harg7 arg8 harg8 arg9 harg9 w₁ w₂ w₃ w₄ w₅ w₆ X₂ X₃ X₄ G₇ G₈ G₉ (k0_t4_loop i).trips).2.1 ++ L₈)))
      (arg9.view.read (Elt Ideal) (arg9.view.writes (Elt Ideal) b₉ ((pb_k0_t4 (F := Ideal) 𝒱 c bd i arg2 harg2 arg3 harg3 arg4 harg4 arg5 harg5 arg6 harg6 arg7 harg7 arg8 harg8 arg9 harg9 w₁ w₂ w₃ w₄ w₅ w₆ X₂ X₃ X₄ G₇ G₈ G₉ (k0_t4_loop i).trips).2.2 ++ L₉))) := by
  rw [t4_trips i]
  exact g

end Trip

end Cert.FlashIdeal.Hand
-- ==== Proof.FlashTile.lean ====
/- A whole tile of `FlashIdeal`: two heads by 1024 rows. The three arrays start empty, the two loops take in the keys before
   the tile, four blocks of 256 keys on the diagonal take in the rest, each for the rows from its first key on, and the quotient
   is stored, gated. -/
module

public import proofs.«01_k».proof.Proof.FlashTrips

@[expose] public section

set_option maxRecDepth 5000

noncomputable section

namespace Cert.FlashIdeal.Hand

open Cert.FlashIdeal Cert.FlashIdeal.Gen Idealize.ShloMosaic Idealize.ShloMosaic.TcCoe
open Cert.OnlineSoftmax

section Tile
variable (c : Dev nD) (i : grid0.Coords) (arg2 : Memref sig .tc .vmem S2x1024x256 .bf16) (harg2 : arg2.IsWhole) (arg3 : Memref sig .tc .vmem S2x8192x256 .bf16) (harg3 : arg3.IsWhole) (arg4 : Memref sig .tc .vmem S2x8192x128 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S2x1024x128 .f32) (harg7 : arg7.IsWhole) (arg8 : Memref sig .tc .vmem S2x1024x128 .f32) (harg8 : arg8.IsWhole) (arg9 : Memref sig .tc .vmem S2x1024x128 .f32) (harg9 : arg9.IsWhole)
  (x0 : Vec Ideal S2x1024x256 .bf16) (x1 : Vec Ideal S2x8192x256 .bf16) (x2 : Vec Ideal S2x8192x128 .bf16)
variable (ht : ∀ h r j, tileScore i arg2 arg3 (harg2.unread x0) (harg3.unread x1) h r j ≠ ⊤)
  (hb : ∀ h r, tileScore i arg2 arg3 (harg2.unread x0) (harg3.unread x1) h r 0 ≠ ⊥)

/-- The state with each row having taken in its first `N` keys, in the arrays as the stores `L₇`, `L₈`, `L₉` leave them. -/
abbrev TileSt (N : Fin 2 → Fin 1024 → ℕ) (L₇ L₈ L₉ : List (View.Piece (Elt Ideal) Sc .f32)) : Prop :=
  St (tileScore i arg2 arg3 (harg2.unread x0) (harg3.unread x1)) (tileValue arg4 (harg4.unread x2)) N
    (arg7.view.read (Elt Ideal) (arg7.view.writes (Elt Ideal) arg7.view.junk L₇))
    (arg8.view.read (Elt Ideal) (arg8.view.writes (Elt Ideal) arg8.view.junk L₈))
    (arg9.view.read (Elt Ideal) (arg9.view.writes (Elt Ideal) arg9.view.junk L₉))

theorem read_fill (v : View sig .tc .vmem Sc .f32) (b : v.ty.Contents (Elt Ideal)) (inb : ∀ a, (![0, 0, 0] : Fin 3 → ℕ) a + (![2, 1024, 128] : Fin 3 → ℕ) a ≤ Sc.size a)
    (w : Sc.Idx → EReal) (h : Fin 2) (r : Fin 1024) (c : Fin 128) :
    v.read (Elt Ideal) (v.writes (Elt Ideal) b [(⟨Rect.unit (s := Sc) ![0, 0, 0] ![2, 1024, 128] inb, w⟩ : View.Piece (Elt Ideal) Sc .f32)]) (ix3 h r c) = w (ix3 h r c) := by
  refine View.read_writes_cons_unit_of_mem v b inb w [] _ (ix3 h r c) rfl fun a => ?_
  match a with
  | 0 => exact (Nat.zero_add _).symm
  | 1 => exact (Nat.zero_add _).symm
  | 2 => exact (Nat.zero_add _).symm

theorem tile_init : TileSt i arg2 harg2 arg3 harg3 arg4 harg4 arg7 arg8 arg9 x0 x1 x2 (fun _ _ => 0)
    (kernelRun0_A.sl.HS0_1 (F := Ideal)) (kernelRun0_A.sl.HS1_1 (F := Ideal)) (kernelRun0_A.sl.HS2_1 (F := Ideal)) := fun h r =>
  Good.init _ _ (fun c => (read_fill arg7.view _ _ _ h r c).trans negInf)
    (fun c => (read_fill arg8.view _ _ _ h r c).trans (by
      unfold k0_pay105
      simp only [pointwise]))
    (fun c => (read_fill arg9.view _ _ _ h r c).trans (by
      unfold k0_pay106
      simp only [pointwise]))

/-- How many keys a row has taken in before step `s` of the eight on the diagonal (step `2 b + h` is block `b`, head `h`). -/
def taken (q₀ s : ℕ) (h : Fin 2) (r : Fin 1024) : ℕ :=
  q₀ + 256 * min (r.val / 256 + 1) ((s + 1 - h.val) / 2)

theorem taken_low (q₀ s b : ℕ) (h : Fin 2) (hs : s = 2 * b + h.val) {r₀ R : ℕ} (hR : r₀ + R = 1024) (hr : r₀ = 256 * b) (r : Fin R) :
    taken q₀ s h (lowRow hR r) = q₀ + r₀ := by
  have : (lowRow hR r).val = r₀ + r.val := rfl
  have := h.isLt
  unfold taken
  omega

theorem taken_succ (q₀ s b : ℕ) (h₀ : Fin 2) (hs : s = 2 * b + h₀.val) {r₀ : ℕ} (hr : r₀ = 256 * b) (h : Fin 2) (r : Fin 1024) :
    taken q₀ (s + 1) h r = if h = h₀ ∧ r₀ ≤ r.val then q₀ + r₀ + 256 else taken q₀ s h r := by
  have := h.isLt
  have := h₀.isLt
  unfold taken
  by_cases e : h = h₀
  · subst e
    split
    · omega
    · omega
  · have : h.val ≠ h₀.val := fun x => e (Fin.ext x)
    rw [if_neg (fun x => e x.1)]
    omega

include ht hb

/-- One block of 256 keys on the diagonal, taken in by one head's rows from the block's first position on. -/
theorem diag_step {r₀ R : ℕ} (hR : r₀ + R = 1024) (hr : r₀ + 256 ≤ 1024) (h₀ : Fin 2) {N : Fin 2 → Fin 1024 → ℕ}
    (hN : ∀ r : Fin R, N h₀ (lowRow hR r) = 1024 * (i 1).val + r₀) {L₇ L₈ L₉ : List (View.Piece (Elt Ideal) Sc .f32)}
    (g : TileSt i arg2 harg2 arg3 harg3 arg4 harg4 arg7 arg8 arg9 x0 x1 x2 N L₇ L₈ L₉)
    {off : Fin 3 → ℕ} (inb : ∀ a, off a + (![1, R, 128] : Fin 3 → ℕ) a ≤ Sc.size a) (hoff : off = ![h₀.val, r₀, 0])
    {offq : Fin 3 → ℕ} (inbq : ∀ a, offq a + (![1, R, 256] : Fin 3 → ℕ) a ≤ (⟨3, ![2, 1024, 256]⟩ : Shape).size a) (hoffq : offq = ![h₀.val, r₀, 0])
    {offk : Fin 3 → ℕ} (inbk : ∀ a, offk a + (![1, 256, 256] : Fin 3 → ℕ) a ≤ (⟨3, ![2, 8192, 256]⟩ : Shape).size a) (hoffk : offk = ![h₀.val, 1024 * (i 1).val + r₀, 0])
    {offv : Fin 3 → ℕ} (inbv : ∀ a, offv a + (![1, 256, 128] : Fin 3 → ℕ) a ≤ (⟨3, ![2, 8192, 128]⟩ : Shape).size a) (hoffv : offv = ![h₀.val, 1024 * (i 1).val + r₀, 0])
    (w₇ w₈ w₉ : (⟨3, ![1, R, 128]⟩ : Shape).Idx → EReal)
    (u : ∀ μ : Fin R → EReal, (∀ r c, rows arg7.view R off inb (arg7.view.writes (Elt Ideal) arg7.view.junk L₇) (ix3 (0 : Fin 1) r c) = μ r) → ∀ r,
      Upd 2 (maskedDots (rows arg2.view R offq inbq (harg2.unread x0)) (rows arg3.view 256 offk inbk (harg3.unread x1)) r : Fin (2 * 128) → EReal)
        (fun j d => rows arg4.view 256 offv inbv (harg4.unread x2) (ix3 (0 : Fin 1) (j : Fin 256) d)) (μ r)
        (fun c => rows arg8.view R off inb (arg8.view.writes (Elt Ideal) arg8.view.junk L₈) (ix3 (0 : Fin 1) r c))
        (fun d => rows arg9.view R off inb (arg9.view.writes (Elt Ideal) arg9.view.junk L₉) (ix3 (0 : Fin 1) r d))
        (fun c => w₇ (ix3 (0 : Fin 1) r c)) (fun c => w₈ (ix3 (0 : Fin 1) r c)) (fun d => w₉ (ix3 (0 : Fin 1) r d))) :
    TileSt i arg2 harg2 arg3 harg3 arg4 harg4 arg7 arg8 arg9 x0 x1 x2
      (fun h r => if h = h₀ ∧ r₀ ≤ r.val then 1024 * (i 1).val + r₀ + 256 else N h r)
      ((⟨Rect.unit (s := Sc) off ![1, R, 128] inb, w₇⟩ : View.Piece (Elt Ideal) Sc .f32) :: L₇)
      ((⟨Rect.unit (s := Sc) off ![1, R, 128] inb, w₈⟩ : View.Piece (Elt Ideal) Sc .f32) :: L₈)
      ((⟨Rect.unit (s := Sc) off ![1, R, 128] inb, w₉⟩ : View.Piece (Elt Ideal) Sc .f32) :: L₉) := by
  have hi : (i 1).val < 8 := (i 1).isLt
  exact g.step ht hb hR h₀ 2 (1024 * (i 1).val + r₀) (by decide) hN _ _ _ w₇ w₈ w₉
    (fun r c => readAt_rows arg7.view inb _ h₀ r₀ hoff r _ rfl c) (fun r c => readAt_rows arg8.view inb _ h₀ r₀ hoff r _ rfl c)
    (fun r c => readAt_rows arg9.view inb _ h₀ r₀ hoff r _ rfl c) _ _
    (fun r j => maskedDots_eq _ _ hR h₀ (by omega) _
      (fun r d => readAt_rows arg2.view inbq _ h₀ r₀ hoffq r _ rfl d) _
      (fun j d => readAt_rows arg3.view inbk _ h₀ _ hoffk j _ rfl d) r j)
    (fun j d => value_eq _ h₀ (by omega) _ (fun j d => readAt_rows arg4.view inbv _ h₀ _ hoffv j _ rfl d) j d) u
    (box_writes arg7.view _ hR h₀ inb hoff w₇ L₇) (box_writes arg8.view _ hR h₀ inb hoff w₈ L₈) (box_writes arg9.view _ hR h₀ inb hoff w₉ L₉)

theorem tile_1 : TileSt i arg2 harg2 arg3 harg3 arg4 harg4 arg7 arg8 arg9 x0 x1 x2 (taken (1024 * (i 1).val) 1)
    (kernelRun0_A.sl.HS0_1_1 (F := Ideal) c i arg2 harg2 arg3 harg3 arg4 harg4 arg5 harg5 arg6 harg6 arg7 harg7 arg8 harg8 arg9 harg9 x0 x1 x2)
    (kernelRun0_A.sl.HS1_1_1 (F := Ideal) c i arg2 harg2 arg3 harg3 arg4 harg4 arg5 harg5 arg6 harg6 arg7 harg7 arg8 harg8 arg9 harg9 x0 x1 x2)
    (kernelRun0_A.sl.HS2_1_1 (F := Ideal) c i arg2 harg2 arg3 harg3 arg4 harg4 arg5 harg5 arg6 harg6 arg7 harg7 arg8 harg8 arg9 harg9 x0 x1 x2) :=
  St.congr (diag_step i arg2 harg2 arg3 harg3 arg4 harg4 arg7 arg8 arg9 x0 x1 x2 ht hb (show 0 + 1024 = 1024 from rfl) (by decide) 0 (taken_low _ 0 0 0 rfl _ rfl)
    (St.congr (N' := taken (1024 * (i 1).val) 0) (t4_loop Variants.none c none i arg2 harg2 arg3 harg3 arg4 harg4 arg5 harg5 arg6 harg6 arg7 harg7 arg8 harg8 arg9 harg9 (BitVec.ofNat 32 (i 1).val) (kernelRun0_A.sl.v12 i) (0#32) (kernelRun0_A.sl.v30 i) (1#32)
    (harg2.unread x0) (harg3.unread x1) (harg4.unread x2) (kernelRun0_A.sl.v50 i)
    (t3_loop Variants.none c none i arg2 harg2 arg3 harg3 arg4 harg4 arg5 harg5 arg6 harg6 arg7 harg7 arg8 harg8 arg9 harg9 (BitVec.ofNat 32 (i 1).val) (kernelRun0_A.sl.v12 i) (0#32) (kernelRun0_A.sl.v30 i) (1#32)
      (harg2.unread x0) (harg3.unread x1) (harg4.unread x2) ht hb (kernelRun0_A.sl.v45 i)
      (t2_loop Variants.none c none i arg2 harg2 arg3 harg3 arg4 harg4 arg5 harg5 arg6 harg6 arg7 harg7 arg8 harg8 arg9 harg9 (BitVec.ofNat 32 (i 1).val) (kernelRun0_A.sl.v12 i) (0#32) (kernelRun0_A.sl.v30 i) (1#32)
        (harg2.unread x0) (harg3.unread x1) (harg4.unread x2) (kernelRun0_A.sl.v34 i)
        (St.congr (N' := fun _ _ => 2048 * ((i 1).val / 2)) (t1_loop Variants.none c none i arg2 harg2 arg3 harg3 arg4 harg4 arg5 harg5 arg6 harg6 arg7 harg7 arg8 harg8 arg9 harg9 (BitVec.ofNat 32 (i 1).val) (kernelRun0_A.sl.v12 i) (0#32) (kernelRun0_A.sl.v30 i) (1#32)
          (harg2.unread x0) (harg3.unread x1) (harg4.unread x2) ht hb
          (tile_init i arg2 harg2 arg3 harg3 arg4 harg4 arg7 arg8 arg9 x0 x1 x2) _ le_rfl) fun _ _ => by rw [t1_trips i])
        _ _ _) _ le_rfl)
    _ _ _) (fun h r => by
      have e := t3_trips i
      have := h.isLt
      show taken _ 0 h r = 2048 * ((i 1).val / 2) + 1024 * (k0_t3_loop i).trips
      rw [e]
      unfold taken
      omega)) (off := ![0, 0, 0]) (by decide) rfl (offq := ![0, 0, 0]) (by decide) rfl
    (k0_off25_inb i 0) (k0_off25_eq i 0) (k0_off26_inb i 0) (k0_off26_eq i 0) _ _ _ (diag0_upd _ _ _ _ _ _))
    fun h r => taken_succ _ 0 0 0 rfl rfl h r

theorem tile_2 : TileSt i arg2 harg2 arg3 harg3 arg4 harg4 arg7 arg8 arg9 x0 x1 x2 (taken (1024 * (i 1).val) 2)
    (kernelRun0_A.sl.HS0_2 (F := Ideal) c i arg2 harg2 arg3 harg3 arg4 harg4 arg5 harg5 arg6 harg6 arg7 harg7 arg8 harg8 arg9 harg9 x0 x1 x2)
    (kernelRun0_A.sl.HS1_2 (F := Ideal) c i arg2 harg2 arg3 harg3 arg4 harg4 arg5 harg5 arg6 harg6 arg7 harg7 arg8 harg8 arg9 harg9 x0 x1 x2)
    (kernelRun0_A.sl.HS2_2 (F := Ideal) c i arg2 harg2 arg3 harg3 arg4 harg4 arg5 harg5 arg6 harg6 arg7 harg7 arg8 harg8 arg9 harg9 x0 x1 x2) :=
  (diag_step i arg2 harg2 arg3 harg3 arg4 harg4 arg7 arg8 arg9 x0 x1 x2 ht hb (show 0 + 1024 = 1024 from rfl) (by decide) 1 (taken_low _ 1 0 1 rfl _ rfl)
    (tile_1 c i arg2 harg2 arg3 harg3 arg4 harg4 arg5 harg5 arg6 harg6 arg7 harg7 arg8 harg8 arg9 harg9 x0 x1 x2 ht hb) (off := ![1, 0, 0]) (by decide) rfl (offq := ![1, 0, 0]) (by decide) rfl
    (k0_off27_inb i 0) (k0_off27_eq i 0) (k0_off28_inb i 0) (k0_off28_eq i 0) _ _ _ (diag0b_upd _ _ _ _ _ _)).congr
    fun h r => taken_succ _ 1 0 1 rfl rfl h r

theorem tile_3 : TileSt i arg2 harg2 arg3 harg3 arg4 harg4 arg7 arg8 arg9 x0 x1 x2 (taken (1024 * (i 1).val) 3)
    (kernelRun0_A.sl.HS0_3 (F := Ideal) c i arg2 harg2 arg3 harg3 arg4 harg4 arg5 harg5 arg6 harg6 arg7 harg7 arg8 harg8 arg9 harg9 x0 x1 x2)
    (kernelRun0_A.sl.HS1_3 (F := Ideal) c i arg2 harg2 arg3 harg3 arg4 harg4 arg5 harg5 arg6 harg6 arg7 harg7 arg8 harg8 arg9 harg9 x0 x1 x2)
    (kernelRun0_A.sl.HS2_3 (F := Ideal) c i arg2 harg2 arg3 harg3 arg4 harg4 arg5 harg5 arg6 harg6 arg7 harg7 arg8 harg8 arg9 harg9 x0 x1 x2) :=
  (diag_step i arg2 harg2 arg3 harg3 arg4 harg4 arg7 arg8 arg9 x0 x1 x2 ht hb (show 256 + 768 = 1024 from rfl) (by decide) 0 (taken_low _ 2 1 0 rfl _ rfl)
    (tile_2 c i arg2 harg2 arg3 harg3 arg4 harg4 arg5 harg5 arg6 harg6 arg7 harg7 arg8 harg8 arg9 harg9 x0 x1 x2 ht hb) (off := ![0, 256, 0]) (by decide) rfl (offq := ![0, 256, 0]) (by decide) rfl
    (k0_off25_inb i 1) (k0_off25_eq i 1) (k0_off26_inb i 1) (k0_off26_eq i 1) _ _ _ (diag1_upd _ _ _ _ _ _)).congr
    fun h r => taken_succ _ 2 1 0 rfl rfl h r

theorem tile_4 : TileSt i arg2 harg2 arg3 harg3 arg4 harg4 arg7 arg8 arg9 x0 x1 x2 (taken (1024 * (i 1).val) 4)
    (kernelRun0_A.sl.HS0_4 (F := Ideal) c i arg2 harg2 arg3 harg3 arg4 harg4 arg5 harg5 arg6 harg6 arg7 harg7 arg8 harg8 arg9 harg9 x0 x1 x2)
    (kernelRun0_A.sl.HS1_4 (F := Ideal) c i arg2 harg2 arg3 harg3 arg4 harg4 arg5 harg5 arg6 harg6 arg7 harg7 arg8 harg8 arg9 harg9 x0 x1 x2)
    (kernelRun0_A.sl.HS2_4 (F := Ideal) c i arg2 harg2 arg3 harg3 arg4 harg4 arg5 harg5 arg6 harg6 arg7 harg7 arg8 harg8 arg9 harg9 x0 x1 x2) :=
  (diag_step i arg2 harg2 arg3 harg3 arg4 harg4 arg7 arg8 arg9 x0 x1 x2 ht hb (show 256 + 768 = 1024 from rfl) (by decide) 1 (taken_low _ 3 1 1 rfl _ rfl)
    (tile_3 c i arg2 harg2 arg3 harg3 arg4 harg4 arg5 harg5 arg6 harg6 arg7 harg7 arg8 harg8 arg9 harg9 x0 x1 x2 ht hb) (off := ![1, 256, 0]) (by decide) rfl (offq := ![1, 256, 0]) (by decide) rfl
    (k0_off27_inb i 1) (k0_off27_eq i 1) (k0_off28_inb i 1) (k0_off28_eq i 1) _ _ _ (diag1b_upd _ _ _ _ _ _)).congr
    fun h r => taken_succ _ 3 1 1 rfl rfl h r

theorem tile_5 : TileSt i arg2 harg2 arg3 harg3 arg4 harg4 arg7 arg8 arg9 x0 x1 x2 (taken (1024 * (i 1).val) 5)
    (kernelRun0_A.sl.HS0_5 (F := Ideal) c i arg2 harg2 arg3 harg3 arg4 harg4 arg5 harg5 arg6 harg6 arg7 harg7 arg8 harg8 arg9 harg9 x0 x1 x2)
    (kernelRun0_A.sl.HS1_5 (F := Ideal) c i arg2 harg2 arg3 harg3 arg4 harg4 arg5 harg5 arg6 harg6 arg7 harg7 arg8 harg8 arg9 harg9 x0 x1 x2)
    (kernelRun0_A.sl.HS2_5 (F := Ideal) c i arg2 harg2 arg3 harg3 arg4 harg4 arg5 harg5 arg6 harg6 arg7 harg7 arg8 harg8 arg9 harg9 x0 x1 x2) :=
  (diag_step i arg2 harg2 arg3 harg3 arg4 harg4 arg7 arg8 arg9 x0 x1 x2 ht hb (show 512 + 512 = 1024 from rfl) (by decide) 0 (taken_low _ 4 2 0 rfl _ rfl)
    (tile_4 c i arg2 harg2 arg3 harg3 arg4 harg4 arg5 harg5 arg6 harg6 arg7 harg7 arg8 harg8 arg9 harg9 x0 x1 x2 ht hb) (off := ![0, 512, 0]) (by decide) rfl (offq := ![0, 512, 0]) (by decide) rfl
    (k0_off25_inb i 2) (k0_off25_eq i 2) (k0_off26_inb i 2) (k0_off26_eq i 2) _ _ _ (diag2_upd _ _ _ _ _ _)).congr
    fun h r => taken_succ _ 4 2 0 rfl rfl h r

theorem tile_6 : TileSt i arg2 harg2 arg3 harg3 arg4 harg4 arg7 arg8 arg9 x0 x1 x2 (taken (1024 * (i 1).val) 6)
    (kernelRun0_A.sl.HS0_6 (F := Ideal) c i arg2 harg2 arg3 harg3 arg4 harg4 arg5 harg5 arg6 harg6 arg7 harg7 arg8 harg8 arg9 harg9 x0 x1 x2)
    (kernelRun0_A.sl.HS1_6 (F := Ideal) c i arg2 harg2 arg3 harg3 arg4 harg4 arg5 harg5 arg6 harg6 arg7 harg7 arg8 harg8 arg9 harg9 x0 x1 x2)
    (kernelRun0_A.sl.HS2_6 (F := Ideal) c i arg2 harg2 arg3 harg3 arg4 harg4 arg5 harg5 arg6 harg6 arg7 harg7 arg8 harg8 arg9 harg9 x0 x1 x2) :=
  (diag_step i arg2 harg2 arg3 harg3 arg4 harg4 arg7 arg8 arg9 x0 x1 x2 ht hb (show 512 + 512 = 1024 from rfl) (by decide) 1 (taken_low _ 5 2 1 rfl _ rfl)
    (tile_5 c i arg2 harg2 arg3 harg3 arg4 harg4 arg5 harg5 arg6 harg6 arg7 harg7 arg8 harg8 arg9 harg9 x0 x1 x2 ht hb) (off := ![1, 512, 0]) (by decide) rfl (offq := ![1, 512, 0]) (by decide) rfl
    (k0_off27_inb i 2) (k0_off27_eq i 2) (k0_off28_inb i 2) (k0_off28_eq i 2) _ _ _ (diag2b_upd _ _ _ _ _ _)).congr
    fun h r => taken_succ _ 5 2 1 rfl rfl h r

theorem tile_7 : TileSt i arg2 harg2 arg3 harg3 arg4 harg4 arg7 arg8 arg9 x0 x1 x2 (taken (1024 * (i 1).val) 7)
    (kernelRun0_A.sl.HS0_7 (F := Ideal) c i arg2 harg2 arg3 harg3 arg4 harg4 arg5 harg5 arg6 harg6 arg7 harg7 arg8 harg8 arg9 harg9 x0 x1 x2)
    (kernelRun0_A.sl.HS1_7 (F := Ideal) c i arg2 harg2 arg3 harg3 arg4 harg4 arg5 harg5 arg6 harg6 arg7 harg7 arg8 harg8 arg9 harg9 x0 x1 x2)
    (kernelRun0_A.sl.HS2_7 (F := Ideal) c i arg2 harg2 arg3 harg3 arg4 harg4 arg5 harg5 arg6 harg6 arg7 harg7 arg8 harg8 arg9 harg9 x0 x1 x2) :=
  (diag_step i arg2 harg2 arg3 harg3 arg4 harg4 arg7 arg8 arg9 x0 x1 x2 ht hb (show 768 + 256 = 1024 from rfl) (by decide) 0 (taken_low _ 6 3 0 rfl _ rfl)
    (tile_6 c i arg2 harg2 arg3 harg3 arg4 harg4 arg5 harg5 arg6 harg6 arg7 harg7 arg8 harg8 arg9 harg9 x0 x1 x2 ht hb) (off := ![0, 768, 0]) (by decide) rfl (offq := ![0, 768, 0]) (by decide) rfl
    (k0_off25_inb i 3) (k0_off25_eq i 3) (k0_off26_inb i 3) (k0_off26_eq i 3) _ _ _ (diag3_upd _ _ _ _ _ _)).congr
    fun h r => taken_succ _ 6 3 0 rfl rfl h r

theorem tile_8 : ∃ L₇, TileSt i arg2 harg2 arg3 harg3 arg4 harg4 arg7 arg8 arg9 x0 x1 x2 (taken (1024 * (i 1).val) 8) L₇
    (kernelRun0_A.sl.HS1_8 (F := Ideal) c i arg2 harg2 arg3 harg3 arg4 harg4 arg5 harg5 arg6 harg6 arg7 harg7 arg8 harg8 arg9 harg9 x0 x1 x2)
    (kernelRun0_A.sl.HS2_8 (F := Ideal) c i arg2 harg2 arg3 harg3 arg4 harg4 arg5 harg5 arg6 harg6 arg7 harg7 arg8 harg8 arg9 harg9 x0 x1 x2) :=
  ⟨_, (diag_step i arg2 harg2 arg3 harg3 arg4 harg4 arg7 arg8 arg9 x0 x1 x2 ht hb (show 768 + 256 = 1024 from rfl) (by decide) 1 (taken_low _ 7 3 1 rfl _ rfl)
    (tile_7 c i arg2 harg2 arg3 harg3 arg4 harg4 arg5 harg5 arg6 harg6 arg7 harg7 arg8 harg8 arg9 harg9 x0 x1 x2 ht hb) (off := ![1, 768, 0]) (by decide) rfl (offq := ![1, 768, 0]) (by decide) rfl
    (k0_off27_inb i 3) (k0_off27_eq i 3) (k0_off28_inb i 3) (k0_off28_eq i 3) _ _ _ (diag3b_upd _ _ _ _ _ _)).congr
    fun h r => taken_succ _ 7 3 1 rfl rfl h r⟩

end Tile

end Cert.FlashIdeal.Hand
-- ==== Proof.FlashOut.lean ====
/- What a tile of `FlashIdeal` stores: for each of its two heads and 1024 rows, the mean of the values weighted by the softmax
   of the row's scores, multiplied by the gate. -/
module

public import proofs.«01_k».proof.Proof.FlashTile

@[expose] public section

set_option maxRecDepth 5000

noncomputable section

namespace Cert.FlashIdeal.Hand

open Cert.FlashIdeal Cert.FlashIdeal.Gen Idealize.ShloMosaic Idealize.ShloMosaic.TcCoe
open Cert.OnlineSoftmax

/-- The mean of the values over 8192 keys, weighted by the softmax of the scores times the logarithm of two. -/
def weighted (S : ℕ → EReal) (V : ℕ → Fin 128 → EReal) (d : Fin 128) : EReal :=
  ∑ j : Fin 8192, Ideal.div (Ideal.exp (S j.val * ((Real.log 2 : ℝ) : EReal) - Finset.univ.sup fun i : Fin 8192 => S i.val * ((Real.log 2 : ℝ) : EReal)))
    (∑ k : Fin 8192, Ideal.exp (S k.val * ((Real.log 2 : ℝ) : EReal) - Finset.univ.sup fun i : Fin 8192 => S i.val * ((Real.log 2 : ℝ) : EReal))) * V j.val d

theorem pay205_apply (a l : Vec Ideal S1x1024x128 .f32) (g : Vec Ideal S1024x128 .bf16) (r : Fin 1024) (d : Fin 128) :
    (k0_pay205 a l g : FVec Ideal S1024x128 .bf16) (ix2 r d) = Ideal.div (a (ix3 (0 : Fin 1) r d)) (∑ c : Fin 128, (l (ix3 (0 : Fin 1) r c) : EReal)) * g (ix2 r d) := by
  unfold k0_pay205
  simp only [pointwise]
  rfl

theorem pay206_apply (a l : Vec Ideal S1x1024x128 .f32) (r : Fin 1024) (d : Fin 128) :
    (k0_pay206 a l : FVec Ideal S1024x128 .f32) (ix2 r d) = Ideal.div (a (ix3 (0 : Fin 1) r d)) (∑ c : Fin 128, (l (ix3 (0 : Fin 1) r c) : EReal)) := by
  unfold k0_pay206
  simp only [pointwise]
  rfl

theorem pay1_apply (x : FVec Ideal S1024x128 .f32) (g : Vec Ideal S1024x128 .bf16) (r : Fin 1024) (d : Fin 128) :
    (k0_pay1 x g : FVec Ideal S1024x128 .bf16) (ix2 r d) = (x (ix2 r d) : EReal) * g (ix2 r d) := by
  unfold k0_pay1
  simp only [pointwise]

theorem readAt_half (v : View sig .tc .vmem S1024x256 .bf16) (b : v.ty.Contents (Elt Ideal)) (h : Fin 2) {off : Fin 2 → ℕ}
    (inb : ∀ a, off a + S1024x128.size a ≤ S1024x256.size a) (hoff : off = ![0, 128 * h.val]) (r : Fin 1024) (d : Fin 128) :
    v.readAt (Elt Ideal) (Rect.unit (s := S1024x256) off S1024x128.size inb).toLoadRect b (ix2 r d)
      = v.read (Elt Ideal) b (ix2 r (⟨128 * h.val + d.val, by omega⟩ : Fin 256)) := by
  subst hoff
  rw [View.readAt_apply]
  congr 1
  funext a
  apply Fin.ext
  match a with
  | ⟨0, _⟩ => show 0 + 1 * r.val = r.val; omega
  | ⟨1, _⟩ => show 128 * h.val + 1 * d.val = 128 * h.val + d.val; omega

/-- The output block as its two halves' stores leave it. -/
theorem read_halves {κ : Kind} {sp : Space} (v : View sig κ sp S1024x256 .bf16) (f : v.ty.Contents (Elt Ideal)) (inb₁ inb₀) (w₁ w₀ : (⟨2, ![1024, 128]⟩ : Shape).Idx → EReal) (r : Fin 1024) (d : Fin 128) :
    (v.read (Elt Ideal) (v.writes (Elt Ideal) f
      [(⟨Rect.unit (s := S1024x256) ![0, 128] ![1024, 128] inb₁, w₁⟩ : View.Piece (Elt Ideal) S1024x256 .bf16), ⟨Rect.unit (s := S1024x256) ![0, 0] ![1024, 128] inb₀, w₀⟩])
        (ix2 r (⟨d.val, by omega⟩ : Fin 256)) = w₀ (ix2 r d))
    ∧ (v.read (Elt Ideal) (v.writes (Elt Ideal) f
      [(⟨Rect.unit (s := S1024x256) ![0, 128] ![1024, 128] inb₁, w₁⟩ : View.Piece (Elt Ideal) S1024x256 .bf16), ⟨Rect.unit (s := S1024x256) ![0, 0] ![1024, 128] inb₀, w₀⟩])
        (ix2 r (⟨128 + d.val, by omega⟩ : Fin 256)) = w₁ (ix2 r d)) := by
  constructor
  · refine (View.read_writes_cons_unit_of_not_mem v f inb₁ w₁ _ (ix2 r (⟨d.val, by omega⟩ : Fin 256)) (off' := ![0, 128]) rfl 1 (.inl (show d.val < 128 from d.isLt))).trans ?_
    refine View.read_writes_cons_unit_of_mem v f inb₀ w₀ [] (ix2 r (⟨d.val, by omega⟩ : Fin 256)) (ix2 r d) (off' := ![0, 0]) rfl fun a => ?_
    match a with
    | 0 => exact (Nat.zero_add _).symm
    | 1 => exact (Nat.zero_add _).symm
  · refine View.read_writes_cons_unit_of_mem v f inb₁ w₁ _ (ix2 r (⟨128 + d.val, by omega⟩ : Fin 256)) (ix2 r d) (off' := ![0, 128]) rfl fun a => ?_
    match a with
    | 0 => exact (Nat.zero_add _).symm
    | 1 => rfl

theorem readAt_head {κ : Kind} {sp : Space} (v : View sig κ sp Sc .f32) (f : v.ty.Contents (Elt Ideal)) (r : Fin 1024) (d : Fin 128) :
    (∀ inb, v.readAt (Elt Ideal) (Rect.unit (s := Sc) ![0, 0, 0] ![1, 1024, 128] inb).toLoadRect f (ix3 (0 : Fin 1) r d) = v.read (Elt Ideal) f (ix3 (0 : Fin 2) r d))
    ∧ ∀ inb, v.readAt (Elt Ideal) (Rect.unit (s := Sc) ![1, 0, 0] ![1, 1024, 128] inb).toLoadRect f (ix3 (0 : Fin 1) r d) = v.read (Elt Ideal) f (ix3 (1 : Fin 2) r d) :=
  ⟨fun inb => readAt_rows v inb f (0 : Fin 2) 0 rfl r r (Nat.zero_add _).symm d, fun inb => readAt_rows v inb f (1 : Fin 2) 0 rfl r r (Nat.zero_add _).symm d⟩

section Tile
variable (c : Dev nD) (i : grid0.Coords) (arg2 : Memref sig .tc .vmem S2x1024x256 .bf16) (harg2 : arg2.IsWhole) (arg3 : Memref sig .tc .vmem S2x8192x256 .bf16) (harg3 : arg3.IsWhole) (arg4 : Memref sig .tc .vmem S2x8192x128 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S2x1024x128 .f32) (harg7 : arg7.IsWhole) (arg8 : Memref sig .tc .vmem S2x1024x128 .f32) (harg8 : arg8.IsWhole) (arg9 : Memref sig .tc .vmem S2x1024x128 .f32) (harg9 : arg9.IsWhole)
  (x0 : Vec Ideal S2x1024x256 .bf16) (x1 : Vec Ideal S2x8192x256 .bf16) (x2 : Vec Ideal S2x8192x128 .bf16) (x3 : Vec Ideal S1024x256 .bf16)
  (ht : ∀ h r j, score x0 x1 (1024 * (i 1).val) h r j ≠ ⊤) (hb : ∀ h r, score x0 x1 (1024 * (i 1).val) h r 0 ≠ ⊥)

include ht hb in
/-- The weighted sums' array over the sums' array, at the end of a tile. -/
theorem tile_mean (h : Fin 2) (r : Fin 1024) (d : Fin 128) :
    Ideal.div (arg9.view.read (Elt Ideal) (arg9.view.writes (Elt Ideal) arg9.view.junk (kernelRun0_A.sl.HS2_8 (F := Ideal) c i arg2 harg2 arg3 harg3 arg4 harg4 arg5 harg5 arg6 harg6 arg7 harg7 arg8 harg8 arg9 harg9 x0 x1 x2)) (ix3 h r d))
      (∑ j : Fin 128, (arg8.view.read (Elt Ideal) (arg8.view.writes (Elt Ideal) arg8.view.junk (kernelRun0_A.sl.HS1_8 (F := Ideal) c i arg2 harg2 arg3 harg3 arg4 harg4 arg5 harg5 arg6 harg6 arg7 harg7 arg8 harg8 arg9 harg9 x0 x1 x2)) (ix3 h r j) : EReal))
      = weighted (score x0 x1 (1024 * (i 1).val) h r) (value x2 h) d := by
  have es : tileScore i arg2 arg3 (harg2.unread x0) (harg3.unread x1) = score x0 x1 (1024 * (i 1).val) := by
    unfold tileScore
    rw [harg2.read_unread, harg3.read_unread]
  have ev : tileValue arg4 (harg4.unread x2) = value x2 := by
    unfold tileValue
    rw [harg4.read_unread]
  obtain ⟨L, g⟩ := tile_8 c i arg2 harg2 arg3 harg3 arg4 harg4 arg5 harg5 arg6 harg6 arg7 harg7 arg8 harg8 arg9 harg9 x0 x1 x2 (fun h r j => by rw [es]; exact ht h r j) (fun h r => by rw [es]; exact hb h r)
  have hi : (i 1).val < 8 := (i 1).isLt
  have hT : 1024 * (i 1).val + r.val < taken (1024 * (i 1).val) 8 h r ∧ taken (1024 * (i 1).val) 8 h r ≤ 8192 := by
    have := h.isLt
    have := r.isLt
    unfold taken
    omega
  unfold TileSt at g
  rw [es, ev] at g
  have e := (g h r).masked (8192 - taken (1024 * (i 1).val) 8 h r) (fun j hj => by
    rw [score, dif_neg]
    rintro ⟨e, -⟩
    omega)
  rw [Nat.add_sub_cancel' hT.2] at e
  exact e.mean (by decide) (ht h r) (hb h r) d fun _ => rfl

include ht hb in
theorem half0 (g : Vec Ideal S1024x128 .bf16) (r : Fin 1024) (d : Fin 128) :
    (k0_pay205 (kernelRun0_A.sl.v433 (F := Ideal) c i arg2 harg2 arg3 harg3 arg4 harg4 arg5 harg5 arg6 harg6 arg7 harg7 arg8 harg8 arg9 harg9 x0 x1 x2) (kernelRun0_A.sl.v435 (F := Ideal) c i arg2 harg2 arg3 harg3 arg4 harg4 arg5 harg5 arg6 harg6 arg7 harg7 arg8 harg8 arg9 harg9 x0 x1 x2) g : FVec Ideal S1024x128 .bf16) (ix2 r d)
      = weighted (score x0 x1 (1024 * (i 1).val) 0 r) (value x2 0) d * g (ix2 r d) := by
  rw [pay205_apply, ← tile_mean c i arg2 harg2 arg3 harg3 arg4 harg4 arg5 harg5 arg6 harg6 arg7 harg7 arg8 harg8 arg9 harg9 x0 x1 x2 ht hb 0 r d]
  unfold kernelRun0_A.sl.v433 kernelRun0_A.sl.v435 View.readCov
  exact congrArg (· * _) (congrArg₂ Ideal.div ((readAt_head arg9.view _ r d).1 _) (Finset.sum_congr rfl fun j _ => (readAt_head arg8.view _ r j).1 _))

include ht hb in
theorem half1 (g : Vec Ideal S1024x128 .bf16) (r : Fin 1024) (d : Fin 128) :
    (k0_pay1 (kernelRun0_A.sl.r_30 (F := Ideal) c i arg2 harg2 arg3 harg3 arg4 harg4 arg5 harg5 arg6 harg6 arg7 harg7 arg8 harg8 arg9 harg9 x0 x1 x2) g : FVec Ideal S1024x128 .bf16) (ix2 r d)
      = weighted (score x0 x1 (1024 * (i 1).val) 1 r) (value x2 1) d * g (ix2 r d) := by
  rw [pay1_apply, ← tile_mean c i arg2 harg2 arg3 harg3 arg4 harg4 arg5 harg5 arg6 harg6 arg7 harg7 arg8 harg8 arg9 harg9 x0 x1 x2 ht hb 1 r d]
  unfold kernelRun0_A.sl.r_30
  rw [pay206_apply]
  unfold kernelRun0_A.sl.v446 kernelRun0_A.sl.v448 View.readCov
  exact congrArg (· * _) (congrArg₂ Ideal.div ((readAt_head arg9.view _ r d).2 _) (Finset.sum_congr rfl fun j _ => (readAt_head arg8.view _ r j).2 _))

include ht hb in
/-- The block that a tile stores, at row `r` and column `d` of head `h`. -/
theorem out_apply (h : Fin 2) (r : Fin 1024) (d : Fin 128) (e : Fin 256) (he : e.val = 128 * h.val + d.val) :
    (out0_A_4 c i arg2 harg2 arg3 harg3 arg4 harg4 arg5 harg5 arg6 harg6 arg7 harg7 arg8 harg8 arg9 harg9 x0 x1 x2 x3 : FVec Ideal S1024x256 .bf16) (ix2 r e)
      = weighted (score x0 x1 (1024 * (i 1).val) h r) (value x2 h) d * x3 (ix2 r e) := by
  unfold out0_A_4 kernelRun0_A
  dsimp only
  match h, he with
  | 0, he =>
    obtain rfl : e = (⟨d.val, Nat.lt_of_lt_of_le d.isLt (by decide)⟩ : Fin 256) := Fin.ext (he.trans (Nat.zero_add _))
    rw [(read_halves _ _ _ _ _ _ r d).1, half0 c i arg2 harg2 arg3 harg3 arg4 harg4 arg5 harg5 arg6 harg6 arg7 harg7 arg8 harg8 arg9 harg9 x0 x1 x2 ht hb]
    refine congrArg _ ((readAt_half arg5.view (harg5.unread x3) 0 _ rfl r d).trans ?_)
    rw [harg5.read_unread]
    exact congrArg x3 (congrArg (ix2 r) (Fin.ext (Nat.zero_add _)))
  | 1, he =>
    obtain rfl : e = (⟨128 + d.val, Nat.add_lt_add_left d.isLt 128⟩ : Fin 256) := Fin.ext he
    rw [(read_halves _ _ _ _ _ _ r d).2, half1 c i arg2 harg2 arg3 harg3 arg4 harg4 arg5 harg5 arg6 harg6 arg7 harg7 arg8 harg8 arg9 harg9 x0 x1 x2 ht hb]
    refine congrArg _ ((readAt_half arg5.view (harg5.unread x3) 1 _ rfl r d).trans ?_)
    rw [harg5.read_unread]
    rfl

end Tile

end Cert.FlashIdeal.Hand

end
-- ==== Proof.FlashValue.lean ====
/- The value of `FlashIdeal`, causal attention over the blocks of keys: the windows a point stages, the result array read at
   an index, and the run with the result array named. -/
module

public import proofs.«01_k».proof.Proof.FlashOut
public import Idealize.ShloMosaic.Lib.Pipeline.Value
public import Idealize.ShloMosaic.Lib.Tactic.ValueTie

@[expose] public section

set_option maxRecDepth 5000

noncomputable section

namespace Cert.FlashIdeal.Hand

open Cert.FlashIdeal Cert.FlashIdeal.Gen Idealize.ShloMosaic Idealize.ShloMosaic.TcCoe Idealize.SL.Sem
open Idealize.ShloMosaic.Pipeline (Dat)
open Cert.OnlineSoftmax

/-! ### Causal attention, read at a position and a column -/

/-- The score of position `p` against key `j` in head `h`; `⊥` for the keys after the position. -/
def rowScore (q k : (⟨3, ![32, 8192, 256]⟩ : Shape).Idx → EReal) (h : Fin 32) (p : Fin 8192) (j : ℕ) : EReal :=
  if c : j ≤ p.val ∧ j < 8192 then ∑ d : Fin 256, q (ix3 h p d) * k (ix3 h (⟨j, c.2⟩ : Fin 8192) d) else ⊥

/-- The values at key `j` of head `h`. -/
def rowValue (v : (⟨3, ![32, 8192, 128]⟩ : Shape).Idx → EReal) (h : Fin 32) (j : ℕ) (d : Fin 128) : EReal :=
  if c : j < 8192 then v (ix3 h (⟨j, c⟩ : Fin 8192) d) else 0

/-- The head that a column belongs to, and the column's place in it. -/
abbrev headOf (e : Fin 4096) : Fin 32 := ⟨e.val / 128, by omega⟩
abbrev placeOf (e : Fin 4096) : Fin 128 := ⟨e.val % 128, Nat.mod_lt _ (by decide)⟩

/-- The weighted mean of the values, gated. -/
def attended (q k : (⟨3, ![32, 8192, 256]⟩ : Shape).Idx → EReal) (v : (⟨3, ![32, 8192, 128]⟩ : Shape).Idx → EReal)
    (g : (⟨2, ![8192, 4096]⟩ : Shape).Idx → EReal) (p : Fin 8192) (e : Fin 4096) : EReal :=
  weighted (rowScore q k (headOf e) p) (rowValue v (headOf e)) (placeOf e) * g (ix2 p e)

/-- Every entry is a real number. -/
def Finite {s : Shape} (x : s.Idx → EReal) : Prop := ∀ i, ∃ r : ℝ, x i = r

theorem score_real {q k : (⟨3, ![32, 8192, 256]⟩ : Shape).Idx → EReal} (hq : Finite q) (hk : Finite k) (h : Fin 32) (p j : Fin 8192) :
    ∃ r : ℝ, (∑ d : Fin 256, q (ix3 h p d) * k (ix3 h j d)) = r := by
  choose a ha using hq
  choose b hb using hk
  refine ⟨∑ d : Fin 256, a (ix3 h p d) * b (ix3 h j d), ?_⟩
  rw [coe_sum]
  exact Finset.sum_congr rfl fun d _ => by rw [ha, hb, EReal.coe_mul]

theorem rowScore_ne_top {q k : (⟨3, ![32, 8192, 256]⟩ : Shape).Idx → EReal} (hq : Finite q) (hk : Finite k) (h : Fin 32) (p : Fin 8192) (j : ℕ) :
    rowScore q k h p j ≠ ⊤ := by
  unfold rowScore
  split
  · obtain ⟨r, e⟩ := score_real hq hk h p (⟨j, by omega⟩ : Fin 8192)
    rw [e]; exact EReal.coe_ne_top r
  · exact bot_ne_top

theorem rowScore_ne_bot {q k : (⟨3, ![32, 8192, 256]⟩ : Shape).Idx → EReal} (hq : Finite q) (hk : Finite k) (h : Fin 32) (p : Fin 8192) :
    rowScore q k h p 0 ≠ ⊥ := by
  unfold rowScore
  rw [dif_pos ⟨Nat.zero_le _, by decide⟩]
  obtain ⟨r, e⟩ := score_real hq hk h p (⟨0, by decide⟩ : Fin 8192)
  rw [e]; exact EReal.coe_ne_bot r

section
variable (m : (ℓ : Loc nD τ sig) → Buf (Elt Ideal) ℓ)

/-- The queries, keys, values and gates that the program is given. -/
abbrev arg0Of (c : Dev nD) : S32x8192x256.Idx → EReal := m ((c : Thread nD τ).loc main_arg0)
abbrev arg1Of (c : Dev nD) : S32x8192x256.Idx → EReal := m ((c : Thread nD τ).loc main_arg1)
abbrev arg2Of (c : Dev nD) : S32x8192x128.Idx → EReal := m ((c : Thread nD τ).loc main_arg2)
abbrev arg3Of (c : Dev nD) : S8192x4096.Idx → EReal := m ((c : Thread nD τ).loc main_arg3)

/-- The queries of a point: two heads, 1024 positions. -/
theorem iblk0_apply (c : Dev nD) (t : Fin cfg0.N) (y : S2x1024x256.Idx) (i0 : Fin 32) (i1 : Fin 8192) (i2 : Fin 256) (h0 : i0.val = 2 * (t.val / 8) + (y 0).val) (h1 : i1.val = 1024 * (t.val % 8) + (y 1).val) (h2 : i2.val = 0 + (y 2).val) :
    (iblk m c 0 t : Vec Ideal S2x1024x256 .bf16) y = arg0Of m c (ix3 i0 i1 i2) := by
  unfold iblk
  rw [View.read_apply]
  show V m c main_arg0 _ = _
  rw [V_main_arg0]
  congr 1
  have hi : win0_0.index t (0 : Fin 3) = t.val / 8 ∧ win0_0.index t (1 : Fin 3) = t.val % 8 ∧ win0_0.index t (2 : Fin 3) = 0 :=
    (by decide +kernel : ∀ t : Fin grid0.N, win0_0.index t (0 : Fin 3) = t.val / 8 ∧ win0_0.index t (1 : Fin 3) = t.val % 8 ∧ win0_0.index t (2 : Fin 3) = 0) t
  funext a
  apply Fin.ext
  match a with
  | ⟨0, _⟩ => show win0_0.index t 0 * 2 + 1 * (y 0).val = i0.val; rw [hi.1]; omega
  | ⟨1, _⟩ => show win0_0.index t 1 * 1024 + 1 * (y 1).val = i1.val; rw [hi.2.1]; omega
  | ⟨2, _⟩ => show win0_0.index t 2 * 256 + 1 * (y 2).val = i2.val; rw [hi.2.2]; omega

/-- The keys of a point: two heads, every position. -/
theorem iblk1_apply (c : Dev nD) (t : Fin cfg0.N) (y : S2x8192x256.Idx) (i0 : Fin 32) (i1 : Fin 8192) (i2 : Fin 256) (h0 : i0.val = 2 * (t.val / 8) + (y 0).val) (h1 : i1.val = 0 + (y 1).val) (h2 : i2.val = 0 + (y 2).val) :
    (iblk m c 1 t : Vec Ideal S2x8192x256 .bf16) y = arg1Of m c (ix3 i0 i1 i2) := by
  unfold iblk
  rw [View.read_apply]
  show V m c main_arg1 _ = _
  rw [V_main_arg1]
  congr 1
  have hi : win0_1.index t (0 : Fin 3) = t.val / 8 ∧ win0_1.index t (1 : Fin 3) = 0 ∧ win0_1.index t (2 : Fin 3) = 0 :=
    (by decide +kernel : ∀ t : Fin grid0.N, win0_1.index t (0 : Fin 3) = t.val / 8 ∧ win0_1.index t (1 : Fin 3) = 0 ∧ win0_1.index t (2 : Fin 3) = 0) t
  funext a
  apply Fin.ext
  match a with
  | ⟨0, _⟩ => show win0_1.index t 0 * 2 + 1 * (y 0).val = i0.val; rw [hi.1]; omega
  | ⟨1, _⟩ => show win0_1.index t 1 * 8192 + 1 * (y 1).val = i1.val; rw [hi.2.1]; omega
  | ⟨2, _⟩ => show win0_1.index t 2 * 256 + 1 * (y 2).val = i2.val; rw [hi.2.2]; omega

/-- The values of a point: two heads, every position. -/
theorem iblk2_apply (c : Dev nD) (t : Fin cfg0.N) (y : S2x8192x128.Idx) (i0 : Fin 32) (i1 : Fin 8192) (i2 : Fin 128) (h0 : i0.val = 2 * (t.val / 8) + (y 0).val) (h1 : i1.val = 0 + (y 1).val) (h2 : i2.val = 0 + (y 2).val) :
    (iblk m c 2 t : Vec Ideal S2x8192x128 .bf16) y = arg2Of m c (ix3 i0 i1 i2) := by
  unfold iblk
  rw [View.read_apply]
  show V m c main_arg2 _ = _
  rw [V_main_arg2]
  congr 1
  have hi : win0_2.index t (0 : Fin 3) = t.val / 8 ∧ win0_2.index t (1 : Fin 3) = 0 ∧ win0_2.index t (2 : Fin 3) = 0 :=
    (by decide +kernel : ∀ t : Fin grid0.N, win0_2.index t (0 : Fin 3) = t.val / 8 ∧ win0_2.index t (1 : Fin 3) = 0 ∧ win0_2.index t (2 : Fin 3) = 0) t
  funext a
  apply Fin.ext
  match a with
  | ⟨0, _⟩ => show win0_2.index t 0 * 2 + 1 * (y 0).val = i0.val; rw [hi.1]; omega
  | ⟨1, _⟩ => show win0_2.index t 1 * 8192 + 1 * (y 1).val = i1.val; rw [hi.2.1]; omega
  | ⟨2, _⟩ => show win0_2.index t 2 * 128 + 1 * (y 2).val = i2.val; rw [hi.2.2]; omega

/-- The gates of a point. -/
theorem iblk3_apply (c : Dev nD) (t : Fin cfg0.N) (y : S1024x256.Idx) (i0 : Fin 8192) (i1 : Fin 4096) (h0 : i0.val = 1024 * (t.val % 8) + (y 0).val) (h1 : i1.val = 256 * (t.val / 8) + (y 1).val) :
    (iblk m c 3 t : Vec Ideal S1024x256 .bf16) y = arg3Of m c (ix2 i0 i1) := by
  unfold iblk
  rw [View.read_apply]
  show V m c main_arg3 _ = _
  rw [V_main_arg3]
  congr 1
  have hi : win0_3.index t (0 : Fin 2) = t.val % 8 ∧ win0_3.index t (1 : Fin 2) = t.val / 8 :=
    (by decide +kernel : ∀ t : Fin grid0.N, win0_3.index t (0 : Fin 2) = t.val % 8 ∧ win0_3.index t (1 : Fin 2) = t.val / 8) t
  funext a
  apply Fin.ext
  match a with
  | ⟨0, _⟩ => show win0_3.index t 0 * 1024 + 1 * (y 0).val = i0.val; rw [hi.1]; omega
  | ⟨1, _⟩ => show win0_3.index t 1 * 256 + 1 * (y 1).val = i1.val; rw [hi.2]; omega

/-- What a point writes back. -/
theorem flushed4 (c : Dev nD) (t : Fin cfg0.N) : (dats m 0 c).flushed 4 t = (cfg0.win 4).cut (grid0.coords t) (outsAt0 m c t) := by
  show (cfg0.win 4).cut (grid0.coords t) ((dats m 0 c).after 4 t) = _
  rw [after0_4]

/-- Two points write different blocks, -/
theorem idx_inj4 : ∀ t t' : Fin cfg0.N, win0_4.index t = win0_4.index t' → t = t' :=
  (by decide +kernel : ∀ t t' : Fin grid0.N, win0_4.index t = win0_4.index t' → t = t')

/-- so their blocks share no index, -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- and a block of the final array is what its point wrote. -/
theorem blocks4 (c : Dev nD) (t : Fin cfg0.N) :
    ((cfg0.win 4).blk t).view.read (Elt Ideal) ((dats m 0 c).arrAt 4 cfg0.N) = (dats m 0 c).flushed 4 t :=
  (dats m 0 c).read_blk_arrAt_eq_flushed 4 disjoint4 cfg0.N t t.isLt (flush0_4 t)

/-- The scores of a point, of its two heads and 1024 rows, are the whole arrays' scores. -/
theorem score_eq (c : Dev nD) (t : Fin cfg0.N) (h : Fin 2) (r : Fin 1024) (H : Fin 32) (p : Fin 8192) (hH : H.val = 2 * (t.val / 8) + h.val)
    (hp : p.val = 1024 * (t.val % 8) + r.val) :
    score (iblk m c 0 t : Vec Ideal S2x1024x256 .bf16) (iblk m c 1 t : Vec Ideal S2x8192x256 .bf16) (1024 * (t.val % 8)) h r
      = rowScore (arg0Of m c) (arg1Of m c) H p := by
  funext j
  unfold score rowScore
  by_cases b : j ≤ p.val ∧ j < 8192
  · rw [dif_pos (show j ≤ 1024 * (t.val % 8) + r.val ∧ j < 8192 by omega), dif_pos b]
    refine Finset.sum_congr rfl fun d _ => ?_
    rw [iblk0_apply m c t (ix3 h r d) H p d hH hp (Nat.zero_add _).symm,
      iblk1_apply m c t (ix3 h (⟨j, b.2⟩ : Fin 8192) d) H (⟨j, b.2⟩ : Fin 8192) d hH (Nat.zero_add _).symm (Nat.zero_add _).symm]
  · rw [dif_neg (show ¬ (j ≤ 1024 * (t.val % 8) + r.val ∧ j < 8192) by omega), dif_neg b]

theorem values_eq (c : Dev nD) (t : Fin cfg0.N) (h : Fin 2) (H : Fin 32) (hH : H.val = 2 * (t.val / 8) + h.val) :
    value (iblk m c 2 t : Vec Ideal S2x8192x128 .bf16) h = rowValue (arg2Of m c) H := by
  funext j d
  unfold value rowValue
  split
  · exact iblk2_apply m c t (ix3 h (⟨j, by omega⟩ : Fin 8192) d) H (⟨j, by omega⟩ : Fin 8192) d hH (Nat.zero_add _).symm (Nat.zero_add _).symm
  · rfl

variable (c : Dev nD) (hq : Finite (arg0Of m c)) (hk : Finite (arg1Of m c))

include hq hk in
/-- What a point stores, at a row and a column of its block. -/
theorem outs_apply (t : Fin cfg0.N) (h : Fin 2) (r : Fin 1024) (d : Fin 128) (e : Fin 256) (he : e.val = 128 * h.val + d.val)
    (H : Fin 32) (p : Fin 8192) (E : Fin 4096) (hH : H.val = 2 * (t.val / 8) + h.val) (hp : p.val = 1024 * (t.val % 8) + r.val)
    (hE : E.val = 256 * (t.val / 8) + e.val) :
    (outsAt0 m c t : Vec Ideal S1024x256 .bf16) (ix2 r e)
      = weighted (rowScore (arg0Of m c) (arg1Of m c) H p) (rowValue (arg2Of m c) H) d * arg3Of m c (ix2 p E) := by
  have ht : t.val < 128 := lt_of_lt_of_eq t.isLt N_0
  have hc : (grid0.coords t 1).val = t.val % 8 := (by decide +kernel : ∀ t : Fin grid0.N, (grid0.coords t 1).val = t.val % 8) t
  have es (h' : Fin 2) (r' : Fin 1024) := score_eq m c t h' r' (⟨2 * (t.val / 8) + h'.val, by omega⟩ : Fin 32) (⟨1024 * (t.val % 8) + r'.val, by omega⟩ : Fin 8192) rfl rfl
  unfold outsAt0
  rw [out_apply (h := h) (d := d) (he := he), hc, score_eq m c t h r H p hH hp, values_eq m c t h H hH,
    iblk3_apply m c t (ix2 r e) p E hp hE]
  · intro h' r' j
    rw [hc, es h' r']
    exact rowScore_ne_top hq hk _ _ j
  · intro h' r'
    rw [hc, es h' r']
    exact rowScore_ne_bot hq hk _ _

include hq hk in
/-- The result at a row and a column. -/
theorem arr4_apply (p : Fin 8192) (e : Fin 4096) :
    ((dats m 0 c).arrAt 4 cfg0.N : S8192x4096.Idx → EReal) (ix2 p e) = attended (arg0Of m c) (arg1Of m c) (arg2Of m c) (arg3Of m c) p e := by
  have l0 := p.isLt
  have l1 := e.isLt
  have hlt : 8 * (e.val / 256) + p.val / 1024 < cfg0.N := lt_of_lt_of_eq (show _ < 128 by omega) N_0.symm
  obtain ⟨t, ht⟩ : ∃ t : Fin cfg0.N, t.val = 8 * (e.val / 256) + p.val / 1024 := ⟨⟨_, hlt⟩, rfl⟩
  have e' := congrFun (blocks4 m c t) (ix2 (⟨p.val % 1024, Nat.mod_lt _ (by decide)⟩ : Fin 1024) (⟨e.val % 256, Nat.mod_lt _ (by decide)⟩ : Fin 256))
  rw [View.read_apply, flushed4] at e'
  have hi : win0_4.index t (0 : Fin 2) = t.val % 8 ∧ win0_4.index t (1 : Fin 2) = t.val / 8 :=
    (by decide +kernel : ∀ t : Fin grid0.N, win0_4.index t (0 : Fin 2) = t.val % 8 ∧ win0_4.index t (1 : Fin 2) = t.val / 8) t
  have hemb : ((cfg0.win 4).blk t).view.emb (ix2 (⟨p.val % 1024, Nat.mod_lt _ (by decide)⟩ : Fin 1024) (⟨e.val % 256, Nat.mod_lt _ (by decide)⟩ : Fin 256)) = ix2 p e := by
    funext a
    apply Fin.ext
    match a with
    | ⟨0, _⟩ => show win0_4.index t 0 * 1024 + 1 * (p.val % 1024) = p.val; rw [hi.1]; omega
    | ⟨1, _⟩ => show win0_4.index t 1 * 256 + 1 * (e.val % 256) = e.val; rw [hi.2]; omega
  rw [hemb] at e'
  refine e'.trans ?_
  exact outs_apply m c hq hk t (⟨e.val % 256 / 128, by omega⟩ : Fin 2) (⟨p.val % 1024, Nat.mod_lt _ (by decide)⟩ : Fin 1024) (placeOf e)
    (⟨e.val % 256, Nat.mod_lt _ (by decide)⟩ : Fin 256) (show e.val % 256 = 128 * (e.val % 256 / 128) + e.val % 128 by omega) (headOf e) p e
    (show e.val / 128 = 2 * (t.val / 8) + e.val % 256 / 128 by omega) (show p.val = 1024 * (t.val % 8) + p.val % 1024 by omega)
    (show e.val = 256 * (t.val / 8) + e.val % 256 by omega)

end

/-- The run with the result array named, and the arguments as given. -/
theorem run_blocks (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 4,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.FlashIdeal.Hand

end
-- ==== Proof.FlashRefValue.lean ====
/- The reference of the attention call: its run as the list of its host operations, each stage of it read at an index, and
   that its result is causal attention as the kernel's value module spells it. -/
module

public import proofs.«01_k».proof.Proof.Gen.FlashRefIdeal
public import proofs.«01_k».proof.Proof.FlashValue
public import Idealize.ShloMosaic.Lib.StableHlo.Run
public import Idealize.ShloMosaic.Lib.Tactic.ValueTie
public import Idealize.ShloMosaic.Lib.KernelVsHost

@[expose] public section

set_option maxRecDepth 5000

noncomputable section

namespace Cert.FlashRefIdeal.Hand

open Cert.FlashRefIdeal Cert.FlashRefIdeal.Gen Idealize.ShloMosaic Idealize.ShloMosaic.TcCoe Idealize.SL.Sem Idealize.ShloMosaic.StableHlo
open Cert.FlashIdeal.Hand (rowScore rowValue headOf placeOf attended weighted negInf select_le)

section Stages

/-- The products of queries and keys, scaled by the logarithm of two, with `-∞` for the keys after the position. -/
def logits (q k : FVec Ideal S32x8192x256 .bf16) : FVec Ideal S32x8192x8192 .f32 :=
  select (broadcastInDim S32x8192x8192 ![1, 2] bcast_S8192x8192_S32x8192x8192_1_2
      (cmpi .sle (broadcastInDim S8192x8192 ![0, 1] bcast_S1x8192_S8192x8192_0_1 (broadcastInDim S1x8192 ![1] bcast_S8192_S1x8192_1 (iotaInDim S8192 32 0)))
        (broadcastInDim S8192x8192 ![0, 1] bcast_S8192x1_S8192x8192_0_1 (broadcastInDim S8192x1 ![0] bcast_S8192_S8192x1_0 (iotaInDim S8192 32 0)))))
    (mulf (Host.dotGeneral dot_S32x8192x256_S32x8192x256_S32x8192x8192_2_2_1_1_0_0 none q k)
      (broadcastInDim S32x8192x8192 ![] bcast_S_S32x8192x8192 (Host.log (constant (F := Ideal) S_ .f32 0x40000000#32))))
    (broadcastInDim S32x8192x8192 ![] bcast_S_S32x8192x8192 (constant (F := Ideal) S_ .f32 0xFF800000#32))

/-- The exponentials of scores less their row's maximum. -/
def powers (s : FVec Ideal S32x8192x8192 .f32) : FVec Ideal S32x8192x8192 .f32 :=
  Host.exp (subf s (broadcastInDim S32x8192x8192 ![0, 1, 2] bcast_S32x8192x1_S32x8192x8192_0_1_2 (broadcastInDim S32x8192x1 ![0, 1] bcast_S32x8192_S32x8192x1_0_1
    (maximumf (broadcastInDim S32x8192 ![] bcast_S_S32x8192 (constant (F := Ideal) S_ .f32 0xFF800000#32))
      (Host.reduce FloatOps.maximumf s (constant (F := Ideal) S_ .f32 0xFF800000#32) reducesTo_S32x8192x8192_S32x8192_d2 h_S_)))))

/-- The powers over their row's sum. -/
def weights (p : FVec Ideal S32x8192x8192 .f32) : FVec Ideal S32x8192x8192 .bf16 :=
  truncf .bf16 (Host.divf p (broadcastInDim S32x8192x8192 ![0, 1, 2] bcast_S32x8192x1_S32x8192x8192_0_1_2 (broadcastInDim S32x8192x1 ![0, 1] bcast_S32x8192_S32x8192x1_0_1
    (Host.reduceAdd p (constant (F := Ideal) S_ .f32 0x00000000#32) reducesTo_S32x8192x8192_S32x8192_d2 h_S_)))) bitsLt_bf16_f32

/-- The weighted values, the heads side by side, times the gates. -/
def mixed (w : FVec Ideal S32x8192x8192 .bf16) (v : FVec Ideal S32x8192x128 .bf16) (g : FVec Ideal S8192x4096 .bf16) : FVec Ideal S8192x4096 .bf16 :=
  mulf (truncf .bf16 (shapeCast S8192x4096 (transpose S8192x32x128 [2, 0, 1]
    (Host.dotGeneral dot_S32x8192x128_S32x8192x8192_S32x128x8192_1_2_2_1_0_0 none v w : FVec Ideal S32x128x8192 .f32) transposes_S32x128x8192_S8192x32x128_2_0_1)
      shapeCasts_S8192x32x128_S8192x4096) bitsLt_bf16_f32) g

theorem two : Ideal.ofBits FTy.f32 0x40000000#32 = ((2 : ℝ) : EReal) := by
  simp [Ideal.ofBits, Ideal.ieee]
  rw [← EReal.coe_mul]
  norm_num

theorem logits_apply (q k : FVec Ideal S32x8192x256 .bf16) (h : Fin 32) (p j : Fin 8192) :
    logits q k (ix3 h p j) = rowScore q k h p j.val * ((Real.log 2 : ℝ) : EReal) := by
  have e : logits q k (ix3 h p j) = if j.val ≤ p.val then (∑ d : Fin 256, (q (ix3 h p d) * k (ix3 h j d) : EReal)) * Ideal.log (Ideal.ofBits FTy.f32 0x40000000#32) else Ideal.ofBits FTy.f32 0xFF800000#32 := by
    unfold logits
    simp only [pointwise, zero_add, Fin.isValue, Matrix.cons_val, OfNat.ofNat_ne_one, ↓reduceDIte]
    rw [← select_le (by have := j.isLt; omega) (by have := p.isLt; omega)]
  rw [e, two, negInf]
  unfold rowScore
  by_cases c : j.val ≤ p.val
  · rw [if_pos c, dif_pos ⟨c, j.isLt⟩, Ideal.log_coe, if_neg (by norm_num)]
  · rw [if_neg c, dif_neg (fun x => c x.1)]
    exact (EReal.bot_mul_coe_of_pos (Real.log_pos (by norm_num))).symm

theorem reduces_max : S32x8192x8192.Reduces [2] S32x8192 := by decide

theorem fold_max {ι : Type} (t : Finset ι) (f : ι → EReal) : t.fold max ⊥ f = t.sup f := rfl

/-- A row's maximum over the host is the maximum with which kernels reduce a row. -/
theorem hostMax_eq (s : FVec Ideal S32x8192x8192 .f32) :
    Host.reduce FloatOps.maximumf s (constant (F := Ideal) S_ .f32 0xFF800000#32) reducesTo_S32x8192x8192_S32x8192_d2 h_S_ = multiReduction .maximumf [2] S32x8192 s 0xFF800000#32 reduces_max (.inl rfl) rfl :=
  hostReduce_maximumf_eq_multiReduction s 0xFF800000#32 reducesTo_S32x8192x8192_S32x8192_d2 h_S_ reduces_max (.inl rfl) rfl

theorem rowMax_apply (s : FVec Ideal S32x8192x8192 .f32) (h : Fin 32) (p : Fin 8192) :
    (multiReduction .maximumf [2] S32x8192 s 0xFF800000#32 reduces_max (.inl rfl) rfl : FVec Ideal S32x8192 .f32) (ix2 h p) = Finset.univ.sup fun i : Fin 8192 => (s (ix3 h p i) : EReal) := by
  simp only [pointwise, zero_add, Fin.isValue, Matrix.cons_val, OfNat.ofNat_ne_one, ↓reduceDIte]
  rw [negInf, fold_max]

/-- The powers, whatever is taken off the scores of a row. -/
theorem exp_less_apply (s : FVec Ideal S32x8192x8192 .f32) (M : FVec Ideal S32x8192 .f32) (h : Fin 32) (p j : Fin 8192) :
    (Host.exp (subf s (broadcastInDim S32x8192x8192 ![0, 1, 2] bcast_S32x8192x1_S32x8192x8192_0_1_2 (broadcastInDim S32x8192x1 ![0, 1] bcast_S32x8192_S32x8192x1_0_1
      (maximumf (broadcastInDim S32x8192 ![] bcast_S_S32x8192 (constant (F := Ideal) S_ .f32 0xFF800000#32)) M)))) : FVec Ideal S32x8192x8192 .f32) (ix3 h p j)
      = Ideal.exp ((s (ix3 h p j) : EReal) - M (ix2 h p)) := by
  simp only [pointwise, zero_add, Fin.isValue, Matrix.cons_val, OfNat.ofNat_ne_one, ↓reduceDIte]
  rw [negInf, max_eq_right bot_le]

theorem powers_apply (s : FVec Ideal S32x8192x8192 .f32) (h : Fin 32) (p j : Fin 8192) :
    powers s (ix3 h p j) = Ideal.exp ((s (ix3 h p j) : EReal) - Finset.univ.sup fun i : Fin 8192 => (s (ix3 h p i) : EReal)) := by
  unfold powers
  rw [exp_less_apply, hostMax_eq, rowMax_apply]

theorem weights_apply (p : FVec Ideal S32x8192x8192 .f32) (h : Fin 32) (r j : Fin 8192) :
    weights p (ix3 h r j) = Ideal.div (p (ix3 h r j)) (∑ i : Fin 8192, (p (ix3 h r i) : EReal)) := by
  unfold weights
  simp only [pointwise, zero_add, Fin.isValue, Matrix.cons_val, OfNat.ofNat_ne_one, ↓reduceDIte]

theorem mixed_apply (w : FVec Ideal S32x8192x8192 .bf16) (v : FVec Ideal S32x8192x128 .bf16) (g : FVec Ideal S8192x4096 .bf16) (p : Fin 8192) (e : Fin 4096) :
    mixed w v g (ix2 p e) = (∑ j : Fin 8192, (v (ix3 (headOf e) j (placeOf e)) * w (ix3 (headOf e) p j) : EReal)) * g (ix2 p e) := by
  unfold mixed
  simp only [pointwise, zero_add, Fin.isValue, Matrix.cons_val, OfNat.ofNat_ne_one, ↓reduceDIte]

/-- The reference's result is causal attention. -/
theorem result_apply (q k : FVec Ideal S32x8192x256 .bf16) (v : FVec Ideal S32x8192x128 .bf16) (g : FVec Ideal S8192x4096 .bf16) (p : Fin 8192) (e : Fin 4096) :
    mixed (weights (powers (logits q k))) v g (ix2 p e) = attended q k v g p e := by
  have hv (j : Fin 8192) : rowValue v (headOf e) j.val (placeOf e) = v (ix3 (headOf e) j (placeOf e)) := by
    unfold rowValue
    rw [dif_pos j.isLt]
  rw [mixed_apply, attended, weighted]
  simp only [weights_apply, powers_apply, logits_apply, hv, mul_comm (v _)]

end Stages

/-- The reference's operations, in order. -/
abbrev ops {F : FTy → Type} [FloatOps F] : List (HloOp τ sig (Elt F)) :=
  [ binary main_arg0 main_arg1 main_v0 ((fun l r => Host.dotGeneral dot_S32x8192x256_S32x8192x256_S32x8192x8192_2_2_1_1_0_0 none l r) : (⟨S32x8192x256, .bf16⟩ : BufTy).Contents (Elt F) → (⟨S32x8192x256, .bf16⟩ : BufTy).Contents (Elt F) → (⟨S32x8192x8192, .f32⟩ : BufTy).Contents (Elt F)),
    nullary main_cst (constant S_ .f32 0x40000000#32),
    unary main_cst main_v1 (Host.log : (⟨S_, .f32⟩ : BufTy).Contents (Elt F) → (⟨S_, .f32⟩ : BufTy).Contents (Elt F)),
    unary main_v1 main_v2 (broadcastInDim S32x8192x8192 ![] bcast_S_S32x8192x8192 : (⟨S_, .f32⟩ : BufTy).Contents (Elt F) → (⟨S32x8192x8192, .f32⟩ : BufTy).Contents (Elt F)),
    binary main_v0 main_v2 main_v3 (mulf : (⟨S32x8192x8192, .f32⟩ : BufTy).Contents (Elt F) → (⟨S32x8192x8192, .f32⟩ : BufTy).Contents (Elt F) → (⟨S32x8192x8192, .f32⟩ : BufTy).Contents (Elt F)),
    nullary main_v4 (iotaInDim S8192 32 0),
    unary main_v4 main_v5 (broadcastInDim S1x8192 ![1] bcast_S8192_S1x8192_1 : (⟨S8192, .i32⟩ : BufTy).Contents (Elt F) → (⟨S1x8192, .i32⟩ : BufTy).Contents (Elt F)),
    unary main_v4 main_v6 (broadcastInDim S8192x1 ![0] bcast_S8192_S8192x1_0 : (⟨S8192, .i32⟩ : BufTy).Contents (Elt F) → (⟨S8192x1, .i32⟩ : BufTy).Contents (Elt F)),
    unary main_v5 main_v7 (broadcastInDim S8192x8192 ![0, 1] bcast_S1x8192_S8192x8192_0_1 : (⟨S1x8192, .i32⟩ : BufTy).Contents (Elt F) → (⟨S8192x8192, .i32⟩ : BufTy).Contents (Elt F)),
    unary main_v6 main_v8 (broadcastInDim S8192x8192 ![0, 1] bcast_S8192x1_S8192x8192_0_1 : (⟨S8192x1, .i32⟩ : BufTy).Contents (Elt F) → (⟨S8192x8192, .i32⟩ : BufTy).Contents (Elt F)),
    binary main_v7 main_v8 main_v9 (cmpi .sle : (⟨S8192x8192, .i32⟩ : BufTy).Contents (Elt F) → (⟨S8192x8192, .i32⟩ : BufTy).Contents (Elt F) → (⟨S8192x8192, .i1⟩ : BufTy).Contents (Elt F)),
    unary main_v9 main_v10 (broadcastInDim S32x8192x8192 ![1, 2] bcast_S8192x8192_S32x8192x8192_1_2 : (⟨S8192x8192, .i1⟩ : BufTy).Contents (Elt F) → (⟨S32x8192x8192, .i1⟩ : BufTy).Contents (Elt F)),
    nullary main_cst_0 (constant S_ .f32 0xFF800000#32),
    unary main_cst_0 main_v11 (broadcastInDim S32x8192x8192 ![] bcast_S_S32x8192x8192 : (⟨S_, .f32⟩ : BufTy).Contents (Elt F) → (⟨S32x8192x8192, .f32⟩ : BufTy).Contents (Elt F)),
    ternary main_v10 main_v3 main_v11 main_v12 (select : (⟨S32x8192x8192, .i1⟩ : BufTy).Contents (Elt F) → (⟨S32x8192x8192, .f32⟩ : BufTy).Contents (Elt F) → (⟨S32x8192x8192, .f32⟩ : BufTy).Contents (Elt F) → (⟨S32x8192x8192, .f32⟩ : BufTy).Contents (Elt F)),
    nullary main_cst_1 (constant S_ .f32 0xFF800000#32),
    binary main_v12 main_cst_1 main_v13 ((fun x v => Host.reduce FloatOps.maximumf x v reducesTo_S32x8192x8192_S32x8192_d2 h_S_) : (⟨S32x8192x8192, .f32⟩ : BufTy).Contents (Elt F) → (⟨S_, .f32⟩ : BufTy).Contents (Elt F) → (⟨S32x8192, .f32⟩ : BufTy).Contents (Elt F)),
    nullary main_cst_2 (constant S_ .f32 0xFF800000#32),
    unary main_cst_2 main_v14 (broadcastInDim S32x8192 ![] bcast_S_S32x8192 : (⟨S_, .f32⟩ : BufTy).Contents (Elt F) → (⟨S32x8192, .f32⟩ : BufTy).Contents (Elt F)),
    binary main_v14 main_v13 main_v15 (maximumf : (⟨S32x8192, .f32⟩ : BufTy).Contents (Elt F) → (⟨S32x8192, .f32⟩ : BufTy).Contents (Elt F) → (⟨S32x8192, .f32⟩ : BufTy).Contents (Elt F)),
    unary main_v15 main_v16 (broadcastInDim S32x8192x1 ![0, 1] bcast_S32x8192_S32x8192x1_0_1 : (⟨S32x8192, .f32⟩ : BufTy).Contents (Elt F) → (⟨S32x8192x1, .f32⟩ : BufTy).Contents (Elt F)),
    unary main_v16 main_v17 (broadcastInDim S32x8192x8192 ![0, 1, 2] bcast_S32x8192x1_S32x8192x8192_0_1_2 : (⟨S32x8192x1, .f32⟩ : BufTy).Contents (Elt F) → (⟨S32x8192x8192, .f32⟩ : BufTy).Contents (Elt F)),
    binary main_v12 main_v17 main_v18 (subf : (⟨S32x8192x8192, .f32⟩ : BufTy).Contents (Elt F) → (⟨S32x8192x8192, .f32⟩ : BufTy).Contents (Elt F) → (⟨S32x8192x8192, .f32⟩ : BufTy).Contents (Elt F)),
    unary main_v18 main_v19 (Host.exp : (⟨S32x8192x8192, .f32⟩ : BufTy).Contents (Elt F) → (⟨S32x8192x8192, .f32⟩ : BufTy).Contents (Elt F)),
    nullary main_cst_3 (constant S_ .f32 0x00000000#32),
    binary main_v19 main_cst_3 main_v20 ((fun x v => Host.reduceAdd x v reducesTo_S32x8192x8192_S32x8192_d2 h_S_) : (⟨S32x8192x8192, .f32⟩ : BufTy).Contents (Elt F) → (⟨S_, .f32⟩ : BufTy).Contents (Elt F) → (⟨S32x8192, .f32⟩ : BufTy).Contents (Elt F)),
    unary main_v20 main_v21 (broadcastInDim S32x8192x1 ![0, 1] bcast_S32x8192_S32x8192x1_0_1 : (⟨S32x8192, .f32⟩ : BufTy).Contents (Elt F) → (⟨S32x8192x1, .f32⟩ : BufTy).Contents (Elt F)),
    unary main_v21 main_v22 (broadcastInDim S32x8192x8192 ![0, 1, 2] bcast_S32x8192x1_S32x8192x8192_0_1_2 : (⟨S32x8192x1, .f32⟩ : BufTy).Contents (Elt F) → (⟨S32x8192x8192, .f32⟩ : BufTy).Contents (Elt F)),
    binary main_v19 main_v22 main_v23 (Host.divf : (⟨S32x8192x8192, .f32⟩ : BufTy).Contents (Elt F) → (⟨S32x8192x8192, .f32⟩ : BufTy).Contents (Elt F) → (⟨S32x8192x8192, .f32⟩ : BufTy).Contents (Elt F)),
    unary main_v23 main_v24 ((truncf .bf16 · bitsLt_bf16_f32) : (⟨S32x8192x8192, .f32⟩ : BufTy).Contents (Elt F) → (⟨S32x8192x8192, .bf16⟩ : BufTy).Contents (Elt F)),
    binary main_arg2 main_v24 main_v25 ((fun l r => Host.dotGeneral dot_S32x8192x128_S32x8192x8192_S32x128x8192_1_2_2_1_0_0 none l r) : (⟨S32x8192x128, .bf16⟩ : BufTy).Contents (Elt F) → (⟨S32x8192x8192, .bf16⟩ : BufTy).Contents (Elt F) → (⟨S32x128x8192, .f32⟩ : BufTy).Contents (Elt F)),
    unary main_v25 main_v26 ((transpose S8192x32x128 [2, 0, 1] · transposes_S32x128x8192_S8192x32x128_2_0_1) : (⟨S32x128x8192, .f32⟩ : BufTy).Contents (Elt F) → (⟨S8192x32x128, .f32⟩ : BufTy).Contents (Elt F)),
    reshape main_v26 main_v27 (rfl : (.f32 : EltTy) = .f32) shapeCasts_S8192x32x128_S8192x4096,
    unary main_v27 main_v28 ((truncf .bf16 · bitsLt_bf16_f32) : (⟨S8192x4096, .f32⟩ : BufTy).Contents (Elt F) → (⟨S8192x4096, .bf16⟩ : BufTy).Contents (Elt F)),
    binary main_v28 main_arg3 main_v29 (mulf : (⟨S8192x4096, .bf16⟩ : BufTy).Contents (Elt F) → (⟨S8192x4096, .bf16⟩ : BufTy).Contents (Elt F) → (⟨S8192x4096, .bf16⟩ : BufTy).Contents (Elt F)) ]

theorem main_eq {F : FTy → Type} [FloatOps F] (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub {F : FTy → Type} [FloatOps F] : (ops : List (HloOp τ sig (Elt F))).Forall fun op => op.bufs ⊆ tcRefs τ sig :=
  ⟨binary_bufs_sub .., nullary_bufs_sub .., unary_bufs_sub .., unary_bufs_sub .., binary_bufs_sub .., nullary_bufs_sub .., unary_bufs_sub .., unary_bufs_sub .., unary_bufs_sub .., unary_bufs_sub .., binary_bufs_sub .., unary_bufs_sub .., nullary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., unary_bufs_sub .., reshape_bufs_sub .., unary_bufs_sub .., binary_bufs_sub ..⟩

set_option maxHeartbeats 2000000 in
/-- Every execution ends with the result at the stages' composition and the arguments as given. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29) = mixed (weights (powers (logits (m ((c.tc : Thread nD τ).loc main_arg0)) (m ((c.tc : Thread nD τ).loc main_arg1)))))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v29).trans (by after_results_simp; rfl),
      (h c main_arg0).trans (by after_results_simp),
      (h c main_arg1).trans (by after_results_simp),
      (h c main_arg2).trans (by after_results_simp),
      (h c main_arg3).trans (by after_results_simp)⟩)
    (run_seq scopedRefs_eq scopedSems_eq defs main (fun _ => ops) main_eq (fun _ => ops_sub) m ρ)

end Cert.FlashRefIdeal.Hand

end
-- ==== Proof.FlashFinite.lean ====
/- What the attention claim's precondition says over the extended reals: every query and every key is a real number. -/
module

public import proofs.«01_k».proof.Defs
public import proofs.«01_k».proof.Proof.Gen.Pre_finite_query_and_key
public import proofs.«01_k».proof.Proof.FlashValue
public import Idealize.ShloMosaic.Lib.ReduceAll
public import Idealize.ShloMosaic.Lib.Tactic.ValueTie

@[expose] public section

noncomputable section

namespace Cert.FlashIdeal.Hand

open Idealize.ShloMosaic Idealize.SL.Sem Cert.Pre_finite_query_and_key Cert.Pre_finite_query_and_key.Gen

/-- A number whose absolute value is below the infinite word is real. -/
theorem real_of_abs_lt (a : EReal) (h : max a (-a) < ⊤) : ∃ r : ℝ, a = r := by
  induction a with
  | bot => simp at h
  | top => simp at h
  | coe r => exact ⟨r, rfl⟩

theorem infinite_word : Ideal.ofBits FTy.bf16 0x7F80#16 = (⊤ : EReal) := by
  simp [Ideal.ofBits, Ideal.ieee]

/-- An array whose comparisons with infinity are all true has real entries. -/
theorem finite_of_all (x : FVec Ideal S32x8192x256 .bf16) (j : S_.Idx)
    (h : Host.reduce IntOp.andi (cmpf .olt (Host.absf x) (broadcastInDim S32x8192x256 ![] bcast_S_S32x8192x256 (constant (F := Ideal) S_ .bf16 0x7F80#16)))
      (constantI S_ 1 1#1) reducesTo_S32x8192x256_S_d0_1_2 h_S_ j = 1#1) : Finite (s := S32x8192x256) x := by
  intro i
  have : Subsingleton S_.Idx := ⟨fun a b => funext fun d => d.elim0⟩
  have e := Host.reduce_andi_all _ _ _ _ j h i
  simp only [pointwise, Fin.isValue, Matrix.cons_val, infinite_word] at e
  have l : FloatOps.absf (x i) < (⊤ : EReal) := by
    by_contra n
    rw [decide_eq_false n] at e
    exact absurd e (by decide)
  exact real_of_abs_lt _ l

/-- A conjunction of two bits is one only of ones. -/
theorem and_ones (a b : BitVec 1) (h : IntOp.andi a b = 1#1) : a = 1#1 ∧ b = 1#1 := by
  revert a b
  decide

theorem finite_of_pre (m : (ℓ : Loc nD τ sig) → Buf (Elt Ideal) ℓ) (h : Cert.Pre_FlashIdeal_finite_query_and_key m) (c : Dev nD) :
    Finite (arg0Of m c) ∧ Finite (arg1Of m c) := by
  have j : S_.Idx := fun d => d.elim0
  have e := and_ones _ _ (congrFun (h c) j)
  exact ⟨finite_of_all _ j e.1, finite_of_all _ j e.2⟩

end Cert.FlashIdeal.Hand

end
-- ==== Proof.lean ====
/- The proof of the claims: each kernel's frame is its generated one, each reference's frame is its run weakened, and each
   value claim puts the kernel's result, read at an index in the kernel's own value module, beside the reference's run, read
   at the same index. -/
module

public import proofs.«01_k».proof.Defs
public import proofs.«01_k».proof.Proof.Gen.Glu.Frame
public import proofs.«01_k».proof.Proof.Gen.GluIdeal.Value
public import proofs.«01_k».proof.Proof.GluValue
public import proofs.«01_k».proof.Proof.Gen.GluRefIdeal.Run
public import proofs.«01_k».proof.Proof.Gen.Ulru.Frame
public import proofs.«01_k».proof.Proof.Gen.UlruIdeal.Value
public import proofs.«01_k».proof.Proof.UlruValue
public import proofs.«01_k».proof.Proof.Gen.UlruRefIdeal.Run
public import proofs.«01_k».proof.Proof.Gen.Gconv.Frame
public import proofs.«01_k».proof.Proof.Gen.GconvIdeal.Value
public import proofs.«01_k».proof.Proof.GconvValue
public import proofs.«01_k».proof.Proof.Gen.GconvRefIdeal.Run
public import proofs.«01_k».proof.Proof.Gen.Gmla.Frame
public import proofs.«01_k».proof.Proof.Gen.GmlaIdeal.Value
public import proofs.«01_k».proof.Proof.GmlaValue
public import proofs.«01_k».proof.Proof.Gen.GmlaRefIdeal.Run
public import proofs.«01_k».proof.Proof.Gen.Glru.Frame
public import proofs.«01_k».proof.Proof.Gen.GlruIdeal.Value
public import proofs.«01_k».proof.Proof.GlruValue
public import proofs.«01_k».proof.Proof.Gen.GlruRefIdeal.Run
public import proofs.«01_k».proof.Proof.Gen.Gm.Frame
public import proofs.«01_k».proof.Proof.Gen.GmIdeal.Value
public import proofs.«01_k».proof.Proof.GmValue
public import proofs.«01_k».proof.Proof.Gen.GmRefIdeal.Run
public import proofs.«01_k».proof.Proof.Gen.Merge.Frame
public import proofs.«01_k».proof.Proof.Gen.MergeIdeal.Value
public import proofs.«01_k».proof.Proof.MergeValue
public import proofs.«01_k».proof.Proof.Gen.MergeRefIdeal.Run
public import proofs.«01_k».proof.Proof.Gen.Out.Frame
public import proofs.«01_k».proof.Proof.Gen.OutIdeal.Value
public import proofs.«01_k».proof.Proof.OutValue
public import proofs.«01_k».proof.Proof.Gen.OutRefIdeal.Run
public import proofs.«01_k».proof.Proof.Gen.Post.Frame
public import proofs.«01_k».proof.Proof.Gen.PostIdeal.Value
public import proofs.«01_k».proof.Proof.PostValue
public import proofs.«01_k».proof.Proof.Gen.PostRefIdeal.Run
public import proofs.«01_k».proof.Proof.Gen.Last.Frame
public import proofs.«01_k».proof.Proof.Gen.LastIdeal.Value
public import proofs.«01_k».proof.Proof.LastValue
public import proofs.«01_k».proof.Proof.Gen.LastRefIdeal.Run
public import proofs.«01_k».proof.Proof.Gen.Prenorm.Frame
public import proofs.«01_k».proof.Proof.Gen.PrenormIdeal.Value
public import proofs.«01_k».proof.Proof.PrenormValue
public import proofs.«01_k».proof.Proof.Gen.PrenormRefIdeal.Run
public import proofs.«01_k».proof.Proof.Gen.Cq.Frame
public import proofs.«01_k».proof.Proof.Gen.CqIdeal.Value
public import proofs.«01_k».proof.Proof.CqValue
public import proofs.«01_k».proof.Proof.Gen.CqRefIdeal.Run
public import proofs.«01_k».proof.Proof.Gen.Kv.Frame
public import proofs.«01_k».proof.Proof.Gen.KvIdeal.Value
public import proofs.«01_k».proof.Proof.KvValue
public import proofs.«01_k».proof.Proof.Gen.KvRefIdeal.Run
public import proofs.«01_k».proof.Proof.Gen.Q.Frame
public import proofs.«01_k».proof.Proof.Gen.QIdeal.Frame
public import proofs.«01_k».proof.Proof.QValue
public import proofs.«01_k».proof.Proof.Gen.QRefIdeal.Run
public import proofs.«01_k».proof.Proof.Gen.Ckvr.Frame
public import proofs.«01_k».proof.Proof.Gen.CkvrIdeal.Frame
public import proofs.«01_k».proof.Proof.CkvrValue
public import proofs.«01_k».proof.Proof.Gen.CkvrRefIdeal.Run
public import proofs.«01_k».proof.Proof.Gen.Conv.Frame
public import proofs.«01_k».proof.Proof.Gen.ConvIdeal.Frame
public import proofs.«01_k».proof.Proof.ConvRefValue
public import proofs.«01_k».proof.Proof.Gen.ConvRefIdeal.Run
public import proofs.«01_k».proof.Proof.Gen.Flash.Frame
public import proofs.«01_k».proof.Proof.Gen.Pre_finite_query_and_key
public import proofs.«01_k».proof.Proof.FlashValue
public import proofs.«01_k».proof.Proof.FlashRefValue
public import proofs.«01_k».proof.Proof.FlashFinite
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem quiescent_GluRefIdeal : quiescent_GluRefIdeal := fun m ρ _ =>
  (θ_run Cert.GluRefIdeal.defs _ _).mono (fun r h => ⟨fun c => (h c).2, sem_eq_zero_of_no_sems (by decide) r.2⟩)
    (Cert.GluRefIdeal.Value.run (F := Ideal) m ρ)

theorem quiescent_UlruRefIdeal : quiescent_UlruRefIdeal := fun m ρ _ =>
  (θ_run Cert.UlruRefIdeal.defs _ _).mono (fun r h => ⟨fun c => (h c).2, sem_eq_zero_of_no_sems (by decide) r.2⟩)
    (Cert.UlruRefIdeal.Value.run (F := Ideal) m ρ)

theorem quiescent_GconvRefIdeal : quiescent_GconvRefIdeal := fun m ρ _ =>
  (θ_run Cert.GconvRefIdeal.defs _ _).mono (fun r h => ⟨fun c => (h c).2, sem_eq_zero_of_no_sems (by decide) r.2⟩)
    (Cert.GconvRefIdeal.Value.run (F := Ideal) m ρ)

theorem quiescent_GmlaRefIdeal : quiescent_GmlaRefIdeal := fun m ρ _ =>
  (θ_run Cert.GmlaRefIdeal.defs _ _).mono (fun r h => ⟨fun c => (h c).2, sem_eq_zero_of_no_sems (by decide) r.2⟩)
    (Cert.GmlaRefIdeal.Value.run (F := Ideal) m ρ)

theorem quiescent_GlruRefIdeal : quiescent_GlruRefIdeal := fun m ρ _ =>
  (θ_run Cert.GlruRefIdeal.defs _ _).mono (fun r h => ⟨fun c => (h c).2, sem_eq_zero_of_no_sems (by decide) r.2⟩)
    (Cert.GlruRefIdeal.Value.run (F := Ideal) m ρ)

theorem quiescent_GmRefIdeal : quiescent_GmRefIdeal := fun m ρ _ =>
  (θ_run Cert.GmRefIdeal.defs _ _).mono (fun r h => ⟨fun c => (h c).2, sem_eq_zero_of_no_sems (by decide) r.2⟩)
    (Cert.GmRefIdeal.Value.run (F := Ideal) m ρ)

theorem quiescent_MergeRefIdeal : quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

theorem quiescent_OutRefIdeal : quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

theorem quiescent_PostRefIdeal : quiescent_PostRefIdeal := fun m ρ _ =>
  (θ_run Cert.PostRefIdeal.defs _ _).mono (fun r h => ⟨fun c => (h c).2.2, sem_eq_zero_of_no_sems (by decide) r.2⟩)
    (Cert.PostRefIdeal.Value.run (F := Ideal) m ρ)

theorem quiescent_LastRefIdeal : quiescent_LastRefIdeal := fun m ρ _ =>
  (θ_run Cert.LastRefIdeal.defs _ _).mono (fun r h => ⟨fun c => (h c).2, sem_eq_zero_of_no_sems (by decide) r.2⟩)
    (Cert.LastRefIdeal.Value.run (F := Ideal) m ρ)

theorem quiescent_PrenormRefIdeal : quiescent_PrenormRefIdeal := fun m ρ _ =>
  (θ_run Cert.PrenormRefIdeal.defs _ _).mono (fun r h => ⟨fun c => (h c).2, sem_eq_zero_of_no_sems (by decide) r.2⟩)
    (Cert.PrenormRefIdeal.Value.run (F := Ideal) m ρ)

theorem quiescent_CqRefIdeal : quiescent_CqRefIdeal := fun m ρ _ =>
  (θ_run Cert.CqRefIdeal.defs _ _).mono (fun r h => ⟨fun c => (h c).2, sem_eq_zero_of_no_sems (by decide) r.2⟩)
    (Cert.CqRefIdeal.Value.run (F := Ideal) m ρ)

theorem quiescent_KvRefIdeal : quiescent_KvRefIdeal := fun m ρ _ =>
  (θ_run Cert.KvRefIdeal.defs _ _).mono (fun r h => ⟨fun c => (h c).2.2, sem_eq_zero_of_no_sems (by decide) r.2⟩)
    (Cert.KvRefIdeal.Value.run (F := Ideal) m ρ)

theorem quiescent_QRefIdeal : quiescent_QRefIdeal := fun m ρ _ =>
  (θ_run Cert.QRefIdeal.defs _ _).mono (fun r h => ⟨fun c => (h c).2, sem_eq_zero_of_no_sems (by decide) r.2⟩)
    (Cert.QRefIdeal.Value.run (F := Ideal) m ρ)

theorem quiescent_CkvrRefIdeal : quiescent_CkvrRefIdeal := fun m ρ _ =>
  (θ_run Cert.CkvrRefIdeal.defs _ _).mono (fun r h => ⟨fun c => (h c).2.2, sem_eq_zero_of_no_sems (by decide) r.2⟩)
    (Cert.CkvrRefIdeal.Value.run (F := Ideal) m ρ)

theorem quiescent_ConvRefIdeal : quiescent_ConvRefIdeal := fun m ρ _ =>
  (θ_run Cert.ConvRefIdeal.defs _ _).mono (fun r h => ⟨fun c => (h c).2, sem_eq_zero_of_no_sems (by decide) r.2⟩)
    (Cert.ConvRefIdeal.Value.run (F := Ideal) m ρ)

theorem quiescent_FlashRefIdeal : quiescent_FlashRefIdeal := fun m ρ _ =>
  (θ_run Cert.FlashRefIdeal.defs _ _).mono (fun r h => ⟨fun c => (h c).2, sem_eq_zero_of_no_sems (by decide) r.2⟩)
    (Cert.FlashRefIdeal.Hand.run m ρ)

theorem algebraic_GluIdeal_GluRefIdeal : algebraic_GluIdeal_GluRefIdeal := by
  intro m ρ m' ρ' _ hagree
  refine ⟨_, Cert.GluIdeal.Value.run (F := Ideal) m ρ, ?_⟩
  refine (θ_run Cert.GluRefIdeal.defs _ _).mono (fun _ h c => ⟨?_, (h c).2⟩) (Cert.GluRefIdeal.Value.run (F := Ideal) m' ρ')
  rw [(h c).1]
  simp only [hagree c]
  rw [show Cert.GluIdeal.Value.G3 m c = _ from Cert.GluIdeal.Hand.G3_eq m c]
  funext i
  simp only [pointwise, zero_add, Fin.isValue, Matrix.cons_val]

theorem algebraic_UlruIdeal_UlruRefIdeal : algebraic_UlruIdeal_UlruRefIdeal := by
  intro m ρ m' ρ' _ hagree
  refine ⟨_, Cert.UlruIdeal.Value.run (F := Ideal) m ρ, ?_⟩
  refine (θ_run Cert.UlruRefIdeal.defs _ _).mono (fun _ h c => ⟨?_, (h c).2⟩) (Cert.UlruRefIdeal.Value.run (F := Ideal) m' ρ')
  rw [(h c).1]
  simp only [hagree c]
  rw [show Cert.UlruIdeal.Value.G2 m c = _ from Cert.UlruIdeal.Hand.G2_eq m c]
  funext i
  simp only [pointwise, zero_add, Fin.isValue, Matrix.cons_val]
  rfl

theorem algebraic_GconvIdeal_GconvRefIdeal : algebraic_GconvIdeal_GconvRefIdeal := by
  intro m ρ m' ρ' _ hagree
  refine ⟨_, Cert.GconvIdeal.Value.run (F := Ideal) m ρ, ?_⟩
  refine (θ_run Cert.GconvRefIdeal.defs _ _).mono (fun _ h c => ⟨?_, (h c).2⟩) (Cert.GconvRefIdeal.Value.run (F := Ideal) m' ρ')
  rw [(h c).1]
  simp only [hagree c]
  rw [show Cert.GconvIdeal.Value.G2 m c = _ from Cert.GconvIdeal.Hand.G2_eq m c]
  funext i
  simp only [pointwise, zero_add, Fin.isValue, Matrix.cons_val]
  rfl

theorem algebraic_GmlaIdeal_GmlaRefIdeal : algebraic_GmlaIdeal_GmlaRefIdeal := by
  intro m ρ m' ρ' _ hagree
  refine ⟨_, Cert.GmlaIdeal.Value.run (F := Ideal) m ρ, ?_⟩
  refine (θ_run Cert.GmlaRefIdeal.defs _ _).mono (fun _ h c => ⟨?_, (h c).2⟩) (Cert.GmlaRefIdeal.Value.run (F := Ideal) m' ρ')
  rw [(h c).1]
  simp only [hagree c]
  rw [show Cert.GmlaIdeal.Value.G2 m c = _ from Cert.GmlaIdeal.Hand.G2_eq m c]
  funext i
  simp only [pointwise, zero_add, Fin.isValue, Matrix.cons_val]
  rfl

theorem algebraic_GlruIdeal_GlruRefIdeal : algebraic_GlruIdeal_GlruRefIdeal := by
  intro m ρ m' ρ' _ hagree
  refine ⟨_, Cert.GlruIdeal.Value.run (F := Ideal) m ρ, ?_⟩
  refine (θ_run Cert.GlruRefIdeal.defs _ _).mono (fun _ h c => ⟨?_, (h c).2⟩) (Cert.GlruRefIdeal.Value.run (F := Ideal) m' ρ')
  rw [(h c).1]
  simp only [hagree c]
  rw [show Cert.GlruIdeal.Value.G2 m c = _ from Cert.GlruIdeal.Hand.G2_eq m c]
  funext i
  simp only [pointwise, zero_add, Fin.isValue, Matrix.cons_val]
  rfl

theorem algebraic_GmIdeal_GmRefIdeal : algebraic_GmIdeal_GmRefIdeal := by
  intro m ρ m' ρ' _ hagree
  refine ⟨_, Cert.GmIdeal.Value.run (F := Ideal) m ρ, ?_⟩
  refine (θ_run Cert.GmRefIdeal.defs _ _).mono (fun _ h c => ⟨?_, (h c).2⟩) (Cert.GmRefIdeal.Value.run (F := Ideal) m' ρ')
  rw [(h c).1]
  simp only [hagree c]
  rw [show Cert.GmIdeal.Value.G2 m c = _ from Cert.GmIdeal.Hand.G2_eq m c]
  funext i
  simp only [pointwise, zero_add, Fin.isValue, Matrix.cons_val]
  rfl

theorem algebraic_MergeIdeal_MergeRefIdeal : algebraic_MergeIdeal_MergeRefIdeal := by
  intro m ρ m' ρ' _ hagree
  refine ⟨_, Cert.MergeIdeal.Value.run_blocks (F := Ideal) m ρ, ?_⟩
  refine (θ_run Cert.MergeRefIdeal.defs _ _).mono (fun _ h c => ⟨?_, (h c).2⟩) (Cert.MergeRefIdeal.Value.run (F := Ideal) m' ρ')
  rw [(h c).1]
  simp only [hagree c]
  refine Eq.trans ?_ (Cert.MergeIdeal.Hand.arr9_eq m c).symm
  funext i
  simp only [pointwise, zero_add, Fin.isValue, Matrix.cons_val, Nat.reduceMul]

theorem algebraic_OutIdeal_OutRefIdeal : algebraic_OutIdeal_OutRefIdeal := by
  intro m ρ m' ρ' _ hagree
  refine ⟨_, Cert.OutIdeal.Value.run (F := Ideal) m ρ, ?_⟩
  refine (θ_run Cert.OutRefIdeal.defs _ _).mono (fun _ h c => ⟨?_, (h c).2⟩) (Cert.OutRefIdeal.Value.run (F := Ideal) m' ρ')
  rw [(h c).1]
  simp only [hagree c]
  rw [show Cert.OutIdeal.Value.G2 m c = _ from Cert.OutIdeal.Hand.G2_eq m c]
  funext i
  simp only [pointwise, zero_add, Fin.isValue, Matrix.cons_val]

theorem algebraic_PostIdeal_PostRefIdeal : algebraic_PostIdeal_PostRefIdeal := by
  intro m ρ m' ρ' _ hagree
  refine ⟨_, _, Cert.PostIdeal.Value.run_blocks (F := Ideal) m ρ, ?_⟩
  refine (θ_run Cert.PostRefIdeal.defs _ _).mono (fun _ h c => ⟨?_, ?_, (h c).2.2⟩) (Cert.PostRefIdeal.Value.run (F := Ideal) m' ρ')
  · rw [(h c).1]
    simp only [hagree c]
    refine Eq.trans ?_ (Cert.PostIdeal.Hand.arr4_eq m c).symm
    funext i
    obtain ⟨a, b, rfl⟩ : ∃ a b, i = ix2 a b := ⟨i 0, i 1, eq_ix2 i⟩
    simp only [pointwise, zero_add, Fin.isValue, Matrix.cons_val, OfNat.ofNat_ne_one, ↓reduceDIte]
    rfl
  · rw [(h c).2.1]
    simp only [hagree c]
    refine Eq.trans ?_ (Cert.PostIdeal.Hand.arr5_eq m c).symm
    funext i
    obtain ⟨a, b, rfl⟩ : ∃ a b, i = ix2 a b := ⟨i 0, i 1, eq_ix2 i⟩
    simp only [pointwise, zero_add, Fin.isValue, Matrix.cons_val, OfNat.ofNat_ne_one, ↓reduceDIte]
    rfl

theorem algebraic_LastIdeal_LastRefIdeal : algebraic_LastIdeal_LastRefIdeal := by
  intro m ρ m' ρ' _ hagree
  refine ⟨_, (θ_run Cert.LastIdeal.defs _ _).mono (fun _ h c => ⟨(h c).1, (h c).2.2⟩) (Cert.LastIdeal.Value.run_blocks (F := Ideal) m ρ), ?_⟩
  refine (θ_run Cert.LastRefIdeal.defs _ _).mono (fun _ h c => ⟨?_, (h c).2⟩) (Cert.LastRefIdeal.Value.run (F := Ideal) m' ρ')
  rw [(h c).1]
  simp only [hagree c]
  refine Eq.trans ?_ (Cert.LastIdeal.Hand.arr4_eq m c).symm
  funext i
  obtain ⟨a, b, rfl⟩ : ∃ a b, i = ix2 a b := ⟨i 0, i 1, eq_ix2 i⟩
  simp only [pointwise, zero_add, Fin.isValue, Matrix.cons_val, OfNat.ofNat_ne_one, ↓reduceDIte]
  rfl

theorem algebraic_PrenormIdeal_PrenormRefIdeal : algebraic_PrenormIdeal_PrenormRefIdeal := by
  intro m ρ m' ρ' _ hagree
  refine ⟨_, Cert.PrenormIdeal.Value.run_blocks (F := Ideal) m ρ, ?_⟩
  refine (θ_run Cert.PrenormRefIdeal.defs _ _).mono (fun _ h c => ⟨?_, (h c).2⟩) (Cert.PrenormRefIdeal.Value.run (F := Ideal) m' ρ')
  rw [(h c).1]
  simp only [hagree c]
  refine Eq.trans ?_ (Cert.PrenormIdeal.Hand.arr2_eq m c).symm
  funext i
  simp only [pointwise, zero_add, Fin.isValue, Matrix.cons_val, OfNat.ofNat_ne_one, ↓reduceDIte]
  rfl

theorem algebraic_CqIdeal_CqRefIdeal : algebraic_CqIdeal_CqRefIdeal := by
  intro m ρ m' ρ' _ hagree
  refine ⟨_, Cert.CqIdeal.Value.run_blocks (F := Ideal) m ρ, ?_⟩
  refine (θ_run Cert.CqRefIdeal.defs _ _).mono (fun _ h c => ⟨?_, (h c).2⟩) (Cert.CqRefIdeal.Value.run (F := Ideal) m' ρ')
  rw [(h c).1]
  simp only [hagree c]
  refine Eq.trans ?_ (Cert.CqIdeal.Hand.arr3_eq m c).symm
  funext i
  simp only [pointwise, zero_add, Fin.isValue, Matrix.cons_val, OfNat.ofNat_ne_one, ↓reduceDIte]
  rfl

theorem algebraic_KvIdeal_KvRefIdeal : algebraic_KvIdeal_KvRefIdeal := by
  intro m ρ m' ρ' _ hagree
  refine ⟨_, _, Cert.KvIdeal.Value.run_blocks (F := Ideal) m ρ, ?_⟩
  refine (θ_run Cert.KvRefIdeal.defs _ _).mono (fun _ h c => ⟨?_, ?_, (h c).2.2⟩) (Cert.KvRefIdeal.Value.run (F := Ideal) m' ρ')
  · rw [(h c).1]
    refine Eq.trans ?_ (Cert.KvIdeal.Hand.arr4_eq m c).symm
    funext i
    obtain ⟨a, b, d, rfl⟩ : ∃ a b d, i = ix3 a b d := ⟨i 0, i 1, i 2, Cert.KvIdeal.Hand.eq3 i⟩
    simp only [pointwise, zero_add, Fin.isValue, Matrix.cons_val]
    simp only [hagree c]
    rfl
  · rw [(h c).2.1]
    refine Eq.trans ?_ (Cert.KvIdeal.Hand.arr5_eq m c).symm
    funext i
    obtain ⟨a, b, d, rfl⟩ : ∃ a b d, i = ix3 a b d := ⟨i 0, i 1, i 2, Cert.KvIdeal.Hand.eq3 i⟩
    simp only [pointwise, zero_add, Fin.isValue, Matrix.cons_val]
    simp only [hagree c]
    rfl

theorem algebraic_QIdeal_QRefIdeal : algebraic_QIdeal_QRefIdeal := by
  intro m ρ m' ρ' _ hagree
  refine ⟨_, Cert.QIdeal.Hand.run (F := Ideal) m ρ, ?_⟩
  refine (θ_run Cert.QRefIdeal.defs _ _).mono (fun _ h c => ⟨?_, (h c).2⟩) (Cert.QRefIdeal.Value.run (F := Ideal) m' ρ')
  rw [(h c).1]
  refine Eq.trans ?_ (Cert.QIdeal.Hand.arr5_eq m ρ c).symm
  funext i
  obtain ⟨a, b, d, rfl⟩ : ∃ a b d, i = ix3 a b d := ⟨i 0, i 1, i 2, Cert.QIdeal.Hand.eq3 i⟩
  refine (Cert.QIdeal.Hand.query_apply m' c a b d).trans ?_
  simp only [hagree c]
  rfl

theorem algebraic_CkvrIdeal_CkvrRefIdeal : algebraic_CkvrIdeal_CkvrRefIdeal := by
  intro m ρ m' ρ' _ hagree
  refine ⟨_, _, Cert.CkvrIdeal.Hand.run (F := Ideal) m ρ, ?_⟩
  refine (θ_run Cert.CkvrRefIdeal.defs _ _).mono (fun _ h c => ⟨?_, ?_, (h c).2.2⟩) (Cert.CkvrRefIdeal.Value.run (F := Ideal) m' ρ')
  · rw [(h c).1]
    refine Eq.trans ?_ (Cert.CkvrIdeal.Hand.arr5_eq m ρ c).symm
    funext i
    obtain ⟨a, b, rfl⟩ : ∃ a b, i = ix2 a b := ⟨i 0, i 1, eq_ix2 i⟩
    simp only [pointwise, zero_add, Fin.isValue, Matrix.cons_val, OfNat.ofNat_ne_one, ↓reduceDIte]
    simp only [hagree c]
    rfl
  · rw [(h c).2.1]
    refine Eq.trans ?_ (Cert.CkvrIdeal.Hand.arr6_eq m ρ c).symm
    funext i
    obtain ⟨a, b, rfl⟩ : ∃ a b, i = ix2 a b := ⟨i 0, i 1, eq_ix2 i⟩
    refine (Cert.CkvrIdeal.Hand.key_apply m' c a b).trans ?_
    simp only [hagree c]
    rfl

theorem algebraic_ConvIdeal_ConvRefIdeal : algebraic_ConvIdeal_ConvRefIdeal := by
  intro m ρ m' ρ' _ hagree
  refine ⟨_, (θ_run Cert.ConvIdeal.defs _ _).mono (fun _ h c => ⟨h.1 c, h.2 c⟩) (Cert.ConvIdeal.Hand.run_blocks m ρ), ?_⟩
  refine (θ_run Cert.ConvRefIdeal.defs _ _).mono (fun _ h c => ⟨?_, (h c).2⟩) (Cert.ConvRefIdeal.Value.run (F := Ideal) m' ρ')
  rw [(h c).1]
  refine Eq.trans ?_ (Cert.ConvIdeal.Hand.arr7_eq m c).symm
  funext i
  obtain ⟨a, b, rfl⟩ : ∃ a b, i = ix2 a b := ⟨i 0, i 1, eq_ix2 i⟩
  refine (Cert.ConvRefIdeal.Hand.result_apply _ a b).trans ?_
  obtain ⟨h0, h1, h2, h3, h4, h5⟩ := hagree c
  exact congrFun (congrFun (congr (congr (congr (congr (congr (congrArg Cert.ConvIdeal.Hand.branch h0) h1) h2) h3) h4) h5) a) b

theorem algebraic_FlashIdeal_FlashRefIdeal : algebraic_FlashIdeal_FlashRefIdeal_pre_finite_query_and_key := by
  intro m ρ m' ρ' hpre hagree
  refine ⟨_, Cert.FlashIdeal.Hand.run_blocks m ρ, ?_⟩
  refine (θ_run Cert.FlashRefIdeal.defs _ _).mono (fun _ h c => ⟨?_, (h c).2⟩) (Cert.FlashRefIdeal.Hand.run m' ρ')
  rw [(h c).1, (hagree c).1, (hagree c).2.1, (hagree c).2.2.1, (hagree c).2.2.2]
  funext i
  obtain ⟨p, e, rfl⟩ : ∃ p e, i = ix2 p e := ⟨i 0, i 1, eq_ix2 i⟩
  have hf := Cert.FlashIdeal.Hand.finite_of_pre m hpre c
  exact (Cert.FlashRefIdeal.Hand.result_apply _ _ _ _ p e).trans (Cert.FlashIdeal.Hand.arr4_apply m c hf.1 hf.2 p e).symm

theorem claim : Cert.Claim := ⟨Cert.Glu.Gen.facts, Cert.GluIdeal.Gen.facts, Cert.GluRefIdeal.Gen.facts, Cert.Ulru.Gen.facts, Cert.UlruIdeal.Gen.facts, Cert.UlruRefIdeal.Gen.facts, Cert.Gconv.Gen.facts, Cert.GconvIdeal.Gen.facts, Cert.GconvRefIdeal.Gen.facts, Cert.Gmla.Gen.facts, Cert.GmlaIdeal.Gen.facts, Cert.GmlaRefIdeal.Gen.facts, Cert.Glru.Gen.facts, Cert.GlruIdeal.Gen.facts, Cert.GlruRefIdeal.Gen.facts, Cert.Gm.Gen.facts, Cert.GmIdeal.Gen.facts, Cert.GmRefIdeal.Gen.facts, Cert.Merge.Gen.facts, Cert.MergeIdeal.Gen.facts, Cert.MergeRefIdeal.Gen.facts, Cert.Out.Gen.facts, Cert.OutIdeal.Gen.facts, Cert.OutRefIdeal.Gen.facts, Cert.Post.Gen.facts, Cert.PostIdeal.Gen.facts, Cert.PostRefIdeal.Gen.facts, Cert.Last.Gen.facts, Cert.LastIdeal.Gen.facts, Cert.LastRefIdeal.Gen.facts, Cert.Prenorm.Gen.facts, Cert.PrenormIdeal.Gen.facts, Cert.PrenormRefIdeal.Gen.facts, Cert.Cq.Gen.facts, Cert.CqIdeal.Gen.facts, Cert.CqRefIdeal.Gen.facts, Cert.Kv.Gen.facts, Cert.KvIdeal.Gen.facts, Cert.KvRefIdeal.Gen.facts, Cert.Q.Gen.facts, Cert.QIdeal.Gen.facts, Cert.QRefIdeal.Gen.facts, Cert.Ckvr.Gen.facts, Cert.CkvrIdeal.Gen.facts, Cert.CkvrRefIdeal.Gen.facts, Cert.Conv.Gen.facts, Cert.ConvIdeal.Gen.facts, Cert.ConvRefIdeal.Gen.facts, Cert.Flash.Gen.facts, Cert.FlashIdeal.Gen.facts, Cert.FlashRefIdeal.Gen.facts, Cert.Pre_finite_query_and_key.Gen.facts,
  fun m ρ _ => Cert.Glu.Gen.frame m ρ, fun m ρ _ => Cert.GluIdeal.Gen.frame m ρ, quiescent_GluRefIdeal,
  fun m ρ _ => Cert.Ulru.Gen.frame m ρ, fun m ρ _ => Cert.UlruIdeal.Gen.frame m ρ, quiescent_UlruRefIdeal,
  fun m ρ _ => Cert.Gconv.Gen.frame m ρ, fun m ρ _ => Cert.GconvIdeal.Gen.frame m ρ, quiescent_GconvRefIdeal,
  fun m ρ _ => Cert.Gmla.Gen.frame m ρ, fun m ρ _ => Cert.GmlaIdeal.Gen.frame m ρ, quiescent_GmlaRefIdeal,
  fun m ρ _ => Cert.Glru.Gen.frame m ρ, fun m ρ _ => Cert.GlruIdeal.Gen.frame m ρ, quiescent_GlruRefIdeal,
  fun m ρ _ => Cert.Gm.Gen.frame m ρ, fun m ρ _ => Cert.GmIdeal.Gen.frame m ρ, quiescent_GmRefIdeal,
  fun m ρ _ => Cert.Merge.Gen.frame m ρ, fun m ρ _ => Cert.MergeIdeal.Gen.frame m ρ, quiescent_MergeRefIdeal,
  fun m ρ _ => Cert.Out.Gen.frame m ρ, fun m ρ _ => Cert.OutIdeal.Gen.frame m ρ, quiescent_OutRefIdeal,
  fun m ρ _ => Cert.Post.Gen.frame m ρ, fun m ρ _ => Cert.PostIdeal.Gen.frame m ρ, quiescent_PostRefIdeal,
  fun m ρ _ => Cert.Last.Gen.frame m ρ, fun m ρ _ => Cert.LastIdeal.Gen.frame m ρ, quiescent_LastRefIdeal,
  fun m ρ _ => Cert.Prenorm.Gen.frame m ρ, fun m ρ _ => Cert.PrenormIdeal.Gen.frame m ρ, quiescent_PrenormRefIdeal,
  fun m ρ _ => Cert.Cq.Gen.frame m ρ, fun m ρ _ => Cert.CqIdeal.Gen.frame m ρ, quiescent_CqRefIdeal,
  fun m ρ _ => Cert.Kv.Gen.frame m ρ, fun m ρ _ => Cert.KvIdeal.Gen.frame m ρ, quiescent_KvRefIdeal,
  fun m ρ _ => Cert.Q.Gen.frame m ρ, fun m ρ _ => Cert.QIdeal.Gen.frame m ρ, quiescent_QRefIdeal,
  fun m ρ _ => Cert.Ckvr.Gen.frame m ρ, fun m ρ _ => Cert.CkvrIdeal.Gen.frame m ρ, quiescent_CkvrRefIdeal,
  fun m ρ _ => Cert.Conv.Gen.frame m ρ, fun m ρ _ => Cert.ConvIdeal.Gen.frame m ρ, quiescent_ConvRefIdeal,
  fun m ρ _ => Cert.Flash.Gen.frame m ρ, fun m ρ _ => Cert.FlashIdeal.Gen.frame m ρ, fun m ρ _ => Cert.FlashIdeal.Gen.frame m ρ, quiescent_FlashRefIdeal, fun m ρ _ => quiescent_FlashRefIdeal m ρ trivial,
  (trivial : preserves_Glu_GluIdeal), algebraic_GluIdeal_GluRefIdeal,
  (trivial : preserves_Ulru_UlruIdeal), algebraic_UlruIdeal_UlruRefIdeal,
  (trivial : preserves_Gconv_GconvIdeal), algebraic_GconvIdeal_GconvRefIdeal,
  (trivial : preserves_Gmla_GmlaIdeal), algebraic_GmlaIdeal_GmlaRefIdeal,
  (trivial : preserves_Glru_GlruIdeal), algebraic_GlruIdeal_GlruRefIdeal,
  (trivial : preserves_Gm_GmIdeal), algebraic_GmIdeal_GmRefIdeal,
  (trivial : preserves_Merge_MergeIdeal), algebraic_MergeIdeal_MergeRefIdeal,
  (trivial : preserves_Out_OutIdeal), algebraic_OutIdeal_OutRefIdeal,
  (trivial : preserves_Post_PostIdeal), algebraic_PostIdeal_PostRefIdeal,
  (trivial : preserves_Last_LastIdeal), algebraic_LastIdeal_LastRefIdeal,
  (trivial : preserves_Prenorm_PrenormIdeal), algebraic_PrenormIdeal_PrenormRefIdeal,
  (trivial : preserves_Cq_CqIdeal), algebraic_CqIdeal_CqRefIdeal,
  (trivial : preserves_Kv_KvIdeal), algebraic_KvIdeal_KvRefIdeal,
  (trivial : preserves_Q_QIdeal), algebraic_QIdeal_QRefIdeal,
  (trivial : preserves_Ckvr_CkvrIdeal), algebraic_CkvrIdeal_CkvrRefIdeal,
  (trivial : preserves_Conv_ConvIdeal), algebraic_ConvIdeal_ConvRefIdeal,
  (trivial : preserves_Flash_FlashIdeal), algebraic_FlashIdeal_FlashRefIdeal⟩

end Cert.Proof

end
